-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Kernel19Ideal_finite19 [hPre_finite19 : Cert.Pre_finite19.Facts] (m : (ℓ : Loc Cert.Kernel19Ideal.nD Cert.Kernel19Ideal.τ Cert.Kernel19Ideal.sig) → Buf (Elt Ideal) ℓ) : Prop :=
  ∀ c : Dev Cert.Kernel19Ideal.nD,
    (Cert.Pre_finite19.fn (F := Ideal) (m ((c.tc : Thread Cert.Kernel19Ideal.nD Cert.Kernel19Ideal.τ).loc Cert.Kernel19Ideal.main_arg0))) = (fun _ => 1#1)

def Pre_Reference19Ideal (m : (ℓ : Loc Cert.Reference19Ideal.nD Cert.Reference19Ideal.τ Cert.Reference19Ideal.sig) → Buf (Elt Ideal) ℓ) : Prop :=
  True

def Pre_Reference19Ideal_finite19 [hPre_finite19 : Cert.Pre_finite19.Facts] (m : (ℓ : Loc Cert.Reference19Ideal.nD Cert.Reference19Ideal.τ Cert.Reference19Ideal.sig) → Buf (Elt Ideal) ℓ) : Prop :=
  ∀ c : Dev Cert.Reference19Ideal.nD,
    (Cert.Pre_finite19.fn (F := Ideal) (m ((c.tc : Thread Cert.Reference19Ideal.nD Cert.Reference19Ideal.τ).loc Cert.Reference19Ideal.main_arg0))) = (fun _ => 1#1)

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Reference38Ideal (m : (ℓ : Loc Cert.Reference38Ideal.nD Cert.Reference38Ideal.τ Cert.Reference38Ideal.sig) → Buf (Elt Ideal) ℓ) : Prop :=
  True

def Pre_Kernel39 (m : (ℓ : Loc Cert.Kernel39.nD Cert.Kernel39.τ Cert.Kernel39.sig) → Buf (Elt Bits) ℓ) : Prop :=
  True

def Pre_Kernel39Ideal (m : (ℓ : Loc Cert.Kernel39Ideal.nD Cert.Kernel39Ideal.τ Cert.Kernel39Ideal.sig) → Buf (Elt Ideal) ℓ) : Prop :=
  True

def Pre_Reference39Ideal (m : (ℓ : Loc Cert.Reference39Ideal.nD Cert.Reference39Ideal.τ Cert.Reference39Ideal.sig) → Buf (Elt Ideal) ℓ) : Prop :=
  True

def Pre_Kernel40 (m : (ℓ : Loc Cert.Kernel40.nD Cert.Kernel40.τ Cert.Kernel40.sig) → Buf (Elt Bits) ℓ) : Prop :=
  True

def Pre_Kernel40Ideal (m : (ℓ : Loc Cert.Kernel40Ideal.nD Cert.Kernel40Ideal.τ Cert.Kernel40Ideal.sig) → Buf (Elt Ideal) ℓ) : Prop :=
  True

def Pre_Reference40Ideal (m : (ℓ : Loc Cert.Reference40Ideal.nD Cert.Reference40Ideal.τ Cert.Reference40Ideal.sig) → Buf (Elt Ideal) ℓ) : Prop :=
  True

def Pre_Kernel41 (m : (ℓ : Loc Cert.Kernel41.nD Cert.Kernel41.τ Cert.Kernel41.sig) → Buf (Elt Bits) ℓ) : Prop :=
  True

def Pre_Kernel41Ideal (m : (ℓ : Loc Cert.Kernel41Ideal.nD Cert.Kernel41Ideal.τ Cert.Kernel41Ideal.sig) → Buf (Elt Ideal) ℓ) : Prop :=
  True

def Pre_Reference41Ideal (m : (ℓ : Loc Cert.Reference41Ideal.nD Cert.Reference41Ideal.τ Cert.Reference41Ideal.sig) → Buf (Elt Ideal) ℓ) : Prop :=
  True

def Pre_Kernel42 (m : (ℓ : Loc Cert.Kernel42.nD Cert.Kernel42.τ Cert.Kernel42.sig) → Buf (Elt Bits) ℓ) : Prop :=
  True

def Pre_Kernel42Ideal (m : (ℓ : Loc Cert.Kernel42Ideal.nD Cert.Kernel42Ideal.τ Cert.Kernel42Ideal.sig) → Buf (Elt Ideal) ℓ) : Prop :=
  True

def Pre_Reference42Ideal (m : (ℓ : Loc Cert.Reference42Ideal.nD Cert.Reference42Ideal.τ Cert.Reference42Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0))
      ∧ r.2.sem = fun _ => 0)

def quiescent_Kernel19Ideal_pre_finite19 [hKernel19Ideal : Cert.Kernel19Ideal.Facts] [hPre_finite19 : Cert.Pre_finite19.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal_finite19 m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0))
      ∧ r.2.sem = fun _ => 0)

def quiescent_Reference19Ideal_pre_finite19 [hReference19Ideal : Cert.Reference19Ideal.Facts] [hPre_finite19 : Cert.Pre_finite19.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal_finite19 m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3)
      ∧ r.2.mem ((c.tc : Thread Cert.Kernel25.nD Cert.Kernel25.τ).loc Cert.Kernel25.main_arg4) = m ((c.tc : Thread Cert.Kernel25.nD Cert.Kernel25.τ).loc Cert.Kernel25.main_arg4)
      ∧ r.2.mem ((c.tc : Thread Cert.Kernel25.nD Cert.Kernel25.τ).loc Cert.Kernel25.main_arg5) = m ((c.tc : Thread Cert.Kernel25.nD Cert.Kernel25.τ).loc Cert.Kernel25.main_arg5)
      ∧ r.2.mem ((c.tc : Thread Cert.Kernel25.nD Cert.Kernel25.τ).loc Cert.Kernel25.main_arg6) = m ((c.tc : Thread Cert.Kernel25.nD Cert.Kernel25.τ).loc Cert.Kernel25.main_arg6))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
      ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
      ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5)
      ∧ r.2.mem ((c.tc : Thread Cert.Kernel25Ideal.nD Cert.Kernel25Ideal.τ).loc Cert.Kernel25Ideal.main_arg6) = m ((c.tc : Thread Cert.Kernel25Ideal.nD Cert.Kernel25Ideal.τ).loc Cert.Kernel25Ideal.main_arg6))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4)
      ∧ r.2.mem ((c.tc : Thread Cert.Reference25Ideal.nD Cert.Reference25Ideal.τ).loc Cert.Reference25Ideal.main_arg5) = m ((c.tc : Thread Cert.Reference25Ideal.nD Cert.Reference25Ideal.τ).loc Cert.Reference25Ideal.main_arg5)
      ∧ r.2.mem ((c.tc : Thread Cert.Reference25Ideal.nD Cert.Reference25Ideal.τ).loc Cert.Reference25Ideal.main_arg6) = m ((c.tc : Thread Cert.Reference25Ideal.nD Cert.Reference25Ideal.τ).loc Cert.Reference25Ideal.main_arg6))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2)
      ∧ r.2.mem ((c.tc : Thread Cert.Kernel33.nD Cert.Kernel33.τ).loc Cert.Kernel33.main_arg3) = m ((c.tc : Thread Cert.Kernel33.nD Cert.Kernel33.τ).loc Cert.Kernel33.main_arg3))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2)
      ∧ r.2.mem ((c.tc : Thread Cert.Kernel34.nD Cert.Kernel34.τ).loc Cert.Kernel34.main_arg3) = m ((c.tc : Thread Cert.Kernel34.nD Cert.Kernel34.τ).loc Cert.Kernel34.main_arg3))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
      ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2)
      ∧ r.2.mem ((c.tc : Thread Cert.Reference34Ideal.nD Cert.Reference34Ideal.τ).loc Cert.Reference34Ideal.main_arg3) = m ((c.tc : Thread Cert.Reference34Ideal.nD Cert.Reference34Ideal.τ).loc Cert.Reference34Ideal.main_arg3))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1)
      ∧ r.2.mem ((c.tc : Thread Cert.Kernel35.nD Cert.Kernel35.τ).loc Cert.Kernel35.main_arg2) = m ((c.tc : Thread Cert.Kernel35.nD Cert.Kernel35.τ).loc Cert.Kernel35.main_arg2)
      ∧ r.2.mem ((c.tc : Thread Cert.Kernel35.nD Cert.Kernel35.τ).loc Cert.Kernel35.main_arg3) = m ((c.tc : Thread Cert.Kernel35.nD Cert.Kernel35.τ).loc Cert.Kernel35.main_arg3))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
      ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2)
      ∧ r.2.mem ((c.tc : Thread Cert.Reference35Ideal.nD Cert.Reference35Ideal.τ).loc Cert.Reference35Ideal.main_arg3) = m ((c.tc : Thread Cert.Reference35Ideal.nD Cert.Reference35Ideal.τ).loc Cert.Reference35Ideal.main_arg3))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1)
      ∧ r.2.mem ((c.tc : Thread Cert.Kernel36.nD Cert.Kernel36.τ).loc Cert.Kernel36.main_arg2) = m ((c.tc : Thread Cert.Kernel36.nD Cert.Kernel36.τ).loc Cert.Kernel36.main_arg2)
      ∧ r.2.mem ((c.tc : Thread Cert.Kernel36.nD Cert.Kernel36.τ).loc Cert.Kernel36.main_arg3) = m ((c.tc : Thread Cert.Kernel36.nD Cert.Kernel36.τ).loc Cert.Kernel36.main_arg3))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
      ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
      ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1)
      ∧ r.2.mem ((c.tc : Thread Cert.Reference36Ideal.nD Cert.Reference36Ideal.τ).loc Cert.Reference36Ideal.main_arg2) = m ((c.tc : Thread Cert.Reference36Ideal.nD Cert.Reference36Ideal.τ).loc Cert.Reference36Ideal.main_arg2)
      ∧ r.2.mem ((c.tc : Thread Cert.Reference36Ideal.nD Cert.Reference36Ideal.τ).loc Cert.Reference36Ideal.main_arg3) = m ((c.tc : Thread Cert.Reference36Ideal.nD Cert.Reference36Ideal.τ).loc Cert.Reference36Ideal.main_arg3))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1)
      ∧ r.2.mem ((c.tc : Thread Cert.Kernel37.nD Cert.Kernel37.τ).loc Cert.Kernel37.main_arg2) = m ((c.tc : Thread Cert.Kernel37.nD Cert.Kernel37.τ).loc Cert.Kernel37.main_arg2)
      ∧ r.2.mem ((c.tc : Thread Cert.Kernel37.nD Cert.Kernel37.τ).loc Cert.Kernel37.main_arg3) = m ((c.tc : Thread Cert.Kernel37.nD Cert.Kernel37.τ).loc Cert.Kernel37.main_arg3)
      ∧ r.2.mem ((c.tc : Thread Cert.Kernel37.nD Cert.Kernel37.τ).loc Cert.Kernel37.main_arg4) = m ((c.tc : Thread Cert.Kernel37.nD Cert.Kernel37.τ).loc Cert.Kernel37.main_arg4))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
      ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
      ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3)
      ∧ r.2.mem ((c.tc : Thread Cert.Kernel37Ideal.nD Cert.Kernel37Ideal.τ).loc Cert.Kernel37Ideal.main_arg4) = m ((c.tc : Thread Cert.Kernel37Ideal.nD Cert.Kernel37Ideal.τ).loc Cert.Kernel37Ideal.main_arg4))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1)
      ∧ r.2.mem ((c.tc : Thread Cert.Reference37Ideal.nD Cert.Reference37Ideal.τ).loc Cert.Reference37Ideal.main_arg2) = m ((c.tc : Thread Cert.Reference37Ideal.nD Cert.Reference37Ideal.τ).loc Cert.Reference37Ideal.main_arg2)
      ∧ r.2.mem ((c.tc : Thread Cert.Reference37Ideal.nD Cert.Reference37Ideal.τ).loc Cert.Reference37Ideal.main_arg3) = m ((c.tc : Thread Cert.Reference37Ideal.nD Cert.Reference37Ideal.τ).loc Cert.Reference37Ideal.main_arg3)
      ∧ r.2.mem ((c.tc : Thread Cert.Reference37Ideal.nD Cert.Reference37Ideal.τ).loc Cert.Reference37Ideal.main_arg4) = m ((c.tc : Thread Cert.Reference37Ideal.nD Cert.Reference37Ideal.τ).loc Cert.Reference37Ideal.main_arg4))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0)
      ∧ r.2.mem ((c.tc : Thread Cert.Kernel38.nD Cert.Kernel38.τ).loc Cert.Kernel38.main_arg1) = m ((c.tc : Thread Cert.Kernel38.nD Cert.Kernel38.τ).loc Cert.Kernel38.main_arg1)
      ∧ r.2.mem ((c.tc : Thread Cert.Kernel38.nD Cert.Kernel38.τ).loc Cert.Kernel38.main_arg2) = m ((c.tc : Thread Cert.Kernel38.nD Cert.Kernel38.τ).loc Cert.Kernel38.main_arg2)
      ∧ r.2.mem ((c.tc : Thread Cert.Kernel38.nD Cert.Kernel38.τ).loc Cert.Kernel38.main_arg3) = m ((c.tc : Thread Cert.Kernel38.nD Cert.Kernel38.τ).loc Cert.Kernel38.main_arg3)
      ∧ r.2.mem ((c.tc : Thread Cert.Kernel38.nD Cert.Kernel38.τ).loc Cert.Kernel38.main_arg4) = m ((c.tc : Thread Cert.Kernel38.nD Cert.Kernel38.τ).loc Cert.Kernel38.main_arg4))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
      ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
      ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3)
      ∧ r.2.mem ((c.tc : Thread Cert.Kernel38Ideal.nD Cert.Kernel38Ideal.τ).loc Cert.Kernel38Ideal.main_arg4) = m ((c.tc : Thread Cert.Kernel38Ideal.nD Cert.Kernel38Ideal.τ).loc Cert.Kernel38Ideal.main_arg4))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1)
      ∧ r.2.mem ((c.tc : Thread Cert.Reference38Ideal.nD Cert.Reference38Ideal.τ).loc Cert.Reference38Ideal.main_arg2) = m ((c.tc : Thread Cert.Reference38Ideal.nD Cert.Reference38Ideal.τ).loc Cert.Reference38Ideal.main_arg2)
      ∧ r.2.mem ((c.tc : Thread Cert.Reference38Ideal.nD Cert.Reference38Ideal.τ).loc Cert.Reference38Ideal.main_arg3) = m ((c.tc : Thread Cert.Reference38Ideal.nD Cert.Reference38Ideal.τ).loc Cert.Reference38Ideal.main_arg3)
      ∧ r.2.mem ((c.tc : Thread Cert.Reference38Ideal.nD Cert.Reference38Ideal.τ).loc Cert.Reference38Ideal.main_arg4) = m ((c.tc : Thread Cert.Reference38Ideal.nD Cert.Reference38Ideal.τ).loc Cert.Reference38Ideal.main_arg4))
      ∧ r.2.sem = fun _ => 0)

def quiescent_Kernel39 [hKernel39 : Cert.Kernel39.Facts] : Prop :=
  ∀ (m : (ℓ : Loc Cert.Kernel39.nD Cert.Kernel39.τ Cert.Kernel39.sig) → Buf (Elt Bits) ℓ) (g : Dev Cert.Kernel39.nD → PrngReg), Pre_Kernel39 m →
    θ_run (Cert.Kernel39.defs (F := Bits)) (onTc (τ := Cert.Kernel39.τ) (Cert.Kernel39.main (F := Bits))) ⟨m, fun _ => 0, g⟩ (fun r => (∀ c : Dev Cert.Kernel39.nD,
      r.2.mem ((c.tc : Thread Cert.Kernel39.nD Cert.Kernel39.τ).loc Cert.Kernel39.main_arg0) = m ((c.tc : Thread Cert.Kernel39.nD Cert.Kernel39.τ).loc Cert.Kernel39.main_arg0))
      ∧ r.2.sem = fun _ => 0)

def quiescent_Kernel39Ideal [hKernel39Ideal : Cert.Kernel39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg), Pre_Kernel39Ideal m →
    θ_run (Cert.Kernel39Ideal.defs (F := Ideal)) (onTc (τ := Cert.Kernel39Ideal.τ) (Cert.Kernel39Ideal.main (F := Ideal))) ⟨m, fun _ => 0, g⟩ (fun r => (∀ c : Dev Cert.Kernel39Ideal.nD,
      r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0))
      ∧ r.2.sem = fun _ => 0)

def quiescent_Reference39Ideal [hReference39Ideal : Cert.Reference39Ideal.Facts] : Prop :=
  ∀ (m : (ℓ : Loc Cert.Reference39Ideal.nD Cert.Reference39Ideal.τ Cert.Reference39Ideal.sig) → Buf (Elt Ideal) ℓ) (g : Dev Cert.Reference39Ideal.nD → PrngReg), Pre_Reference39Ideal m →
    θ_run (Cert.Reference39Ideal.defs (F := Ideal)) (onTc (τ := Cert.Reference39Ideal.τ) (Cert.Reference39Ideal.main (F := Ideal))) ⟨m, fun _ => 0, g⟩ (fun r => (∀ c : Dev Cert.Reference39Ideal.nD,
      r.2.mem ((c.tc : Thread Cert.Reference39Ideal.nD Cert.Reference39Ideal.τ).loc Cert.Reference39Ideal.main_arg0) = m ((c.tc : Thread Cert.Reference39Ideal.nD Cert.Reference39Ideal.τ).loc Cert.Reference39Ideal.main_arg0))
      ∧ r.2.sem = fun _ => 0)

def quiescent_Kernel40 [hKernel40 : Cert.Kernel40.Facts] : Prop :=
  ∀ (m : (ℓ : Loc Cert.Kernel40.nD Cert.Kernel40.τ Cert.Kernel40.sig) → Buf (Elt Bits) ℓ) (g : Dev Cert.Kernel40.nD → PrngReg), Pre_Kernel40 m →
    θ_run (Cert.Kernel40.defs (F := Bits)) (onTc (τ := Cert.Kernel40.τ) (Cert.Kernel40.main (F := Bits))) ⟨m, fun _ => 0, g⟩ (fun r => (∀ c : Dev Cert.Kernel40.nD,
      r.2.mem ((c.tc : Thread Cert.Kernel40.nD Cert.Kernel40.τ).loc Cert.Kernel40.main_arg0) = m ((c.tc : Thread Cert.Kernel40.nD Cert.Kernel40.τ).loc Cert.Kernel40.main_arg0))
      ∧ r.2.sem = fun _ => 0)

def quiescent_Kernel40Ideal [hKernel40Ideal : Cert.Kernel40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg), Pre_Kernel40Ideal m →
    θ_run (Cert.Kernel40Ideal.defs (F := Ideal)) (onTc (τ := Cert.Kernel40Ideal.τ) (Cert.Kernel40Ideal.main (F := Ideal))) ⟨m, fun _ => 0, g⟩ (fun r => (∀ c : Dev Cert.Kernel40Ideal.nD,
      r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0))
      ∧ r.2.sem = fun _ => 0)

def quiescent_Reference40Ideal [hReference40Ideal : Cert.Reference40Ideal.Facts] : Prop :=
  ∀ (m : (ℓ : Loc Cert.Reference40Ideal.nD Cert.Reference40Ideal.τ Cert.Reference40Ideal.sig) → Buf (Elt Ideal) ℓ) (g : Dev Cert.Reference40Ideal.nD → PrngReg), Pre_Reference40Ideal m →
    θ_run (Cert.Reference40Ideal.defs (F := Ideal)) (onTc (τ := Cert.Reference40Ideal.τ) (Cert.Reference40Ideal.main (F := Ideal))) ⟨m, fun _ => 0, g⟩ (fun r => (∀ c : Dev Cert.Reference40Ideal.nD,
      r.2.mem ((c.tc : Thread Cert.Reference40Ideal.nD Cert.Reference40Ideal.τ).loc Cert.Reference40Ideal.main_arg0) = m ((c.tc : Thread Cert.Reference40Ideal.nD Cert.Reference40Ideal.τ).loc Cert.Reference40Ideal.main_arg0))
      ∧ r.2.sem = fun _ => 0)

def quiescent_Kernel41 [hKernel41 : Cert.Kernel41.Facts] : Prop :=
  ∀ (m : (ℓ : Loc Cert.Kernel41.nD Cert.Kernel41.τ Cert.Kernel41.sig) → Buf (Elt Bits) ℓ) (g : Dev Cert.Kernel41.nD → PrngReg), Pre_Kernel41 m →
    θ_run (Cert.Kernel41.defs (F := Bits)) (onTc (τ := Cert.Kernel41.τ) (Cert.Kernel41.main (F := Bits))) ⟨m, fun _ => 0, g⟩ (fun r => (∀ c : Dev Cert.Kernel41.nD,
      r.2.mem ((c.tc : Thread Cert.Kernel41.nD Cert.Kernel41.τ).loc Cert.Kernel41.main_arg0) = m ((c.tc : Thread Cert.Kernel41.nD Cert.Kernel41.τ).loc Cert.Kernel41.main_arg0))
      ∧ r.2.sem = fun _ => 0)

def quiescent_Kernel41Ideal [hKernel41Ideal : Cert.Kernel41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg), Pre_Kernel41Ideal m →
    θ_run (Cert.Kernel41Ideal.defs (F := Ideal)) (onTc (τ := Cert.Kernel41Ideal.τ) (Cert.Kernel41Ideal.main (F := Ideal))) ⟨m, fun _ => 0, g⟩ (fun r => (∀ c : Dev Cert.Kernel41Ideal.nD,
      r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0))
      ∧ r.2.sem = fun _ => 0)

def quiescent_Reference41Ideal [hReference41Ideal : Cert.Reference41Ideal.Facts] : Prop :=
  ∀ (m : (ℓ : Loc Cert.Reference41Ideal.nD Cert.Reference41Ideal.τ Cert.Reference41Ideal.sig) → Buf (Elt Ideal) ℓ) (g : Dev Cert.Reference41Ideal.nD → PrngReg), Pre_Reference41Ideal m →
    θ_run (Cert.Reference41Ideal.defs (F := Ideal)) (onTc (τ := Cert.Reference41Ideal.τ) (Cert.Reference41Ideal.main (F := Ideal))) ⟨m, fun _ => 0, g⟩ (fun r => (∀ c : Dev Cert.Reference41Ideal.nD,
      r.2.mem ((c.tc : Thread Cert.Reference41Ideal.nD Cert.Reference41Ideal.τ).loc Cert.Reference41Ideal.main_arg0) = m ((c.tc : Thread Cert.Reference41Ideal.nD Cert.Reference41Ideal.τ).loc Cert.Reference41Ideal.main_arg0))
      ∧ r.2.sem = fun _ => 0)

def quiescent_Kernel42 [hKernel42 : Cert.Kernel42.Facts] : Prop :=
  ∀ (m : (ℓ : Loc Cert.Kernel42.nD Cert.Kernel42.τ Cert.Kernel42.sig) → Buf (Elt Bits) ℓ) (g : Dev Cert.Kernel42.nD → PrngReg), Pre_Kernel42 m →
    θ_run (Cert.Kernel42.defs (F := Bits)) (onTc (τ := Cert.Kernel42.τ) (Cert.Kernel42.main (F := Bits))) ⟨m, fun _ => 0, g⟩ (fun r => (∀ c : Dev Cert.Kernel42.nD,
      r.2.mem ((c.tc : Thread Cert.Kernel42.nD Cert.Kernel42.τ).loc Cert.Kernel42.main_arg0) = m ((c.tc : Thread Cert.Kernel42.nD Cert.Kernel42.τ).loc Cert.Kernel42.main_arg0))
      ∧ r.2.sem = fun _ => 0)

def quiescent_Kernel42Ideal [hKernel42Ideal : Cert.Kernel42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg), Pre_Kernel42Ideal m →
    θ_run (Cert.Kernel42Ideal.defs (F := Ideal)) (onTc (τ := Cert.Kernel42Ideal.τ) (Cert.Kernel42Ideal.main (F := Ideal))) ⟨m, fun _ => 0, g⟩ (fun r => (∀ c : Dev Cert.Kernel42Ideal.nD,
      r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0))
      ∧ r.2.sem = fun _ => 0)

def quiescent_Reference42Ideal [hReference42Ideal : Cert.Reference42Ideal.Facts] : Prop :=
  ∀ (m : (ℓ : Loc Cert.Reference42Ideal.nD Cert.Reference42Ideal.τ Cert.Reference42Ideal.sig) → Buf (Elt Ideal) ℓ) (g : Dev Cert.Reference42Ideal.nD → PrngReg), Pre_Reference42Ideal m →
    θ_run (Cert.Reference42Ideal.defs (F := Ideal)) (onTc (τ := Cert.Reference42Ideal.τ) (Cert.Reference42Ideal.main (F := Ideal))) ⟨m, fun _ => 0, g⟩ (fun r => (∀ c : Dev Cert.Reference42Ideal.nD,
      r.2.mem ((c.tc : Thread Cert.Reference42Ideal.nD Cert.Reference42Ideal.τ).loc Cert.Reference42Ideal.main_arg0) = m ((c.tc : Thread Cert.Reference42Ideal.nD Cert.Reference42Ideal.τ).loc Cert.Reference42Ideal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v25_0)) (v1 : (c : Dev Cert.KernelIdeal.nD) → Buf (Elt Ideal) ((c.tc : Thread Cert.KernelIdeal.nD Cert.KernelIdeal.τ).loc Cert.KernelIdeal.main_v25_1)) (v2 : (c : Dev Cert.KernelIdeal.nD) → Buf (Elt Ideal) ((c.tc : Thread Cert.KernelIdeal.nD Cert.KernelIdeal.τ).loc Cert.KernelIdeal.main_v25_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25_0) = v0 c
          ∧ r.2.mem ((c.tc : Thread Cert.KernelIdeal.nD Cert.KernelIdeal.τ).loc Cert.KernelIdeal.main_v25_1) = v1 c
          ∧ r.2.mem ((c.tc : Thread Cert.KernelIdeal.nD Cert.KernelIdeal.τ).loc Cert.KernelIdeal.main_v25_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_v59) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v11) = v0 c
          ∧ r.2.mem ((c.tc : Thread Cert.Reference2Ideal.nD Cert.Reference2Ideal.τ).loc Cert.Reference2Ideal.main_v12) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v9) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v7) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v7) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_v9) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_v6) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v5) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v5) = v0 c
          ∧ r.2.mem ((c.tc : Thread Cert.Reference15Ideal.nD Cert.Reference15Ideal.τ).loc Cert.Reference15Ideal.main_v6) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v12) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v10) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)) →
    ∃ (v0 : (c : Dev Cert.Kernel18Ideal.nD) → Buf (Elt Ideal) ((c.tc : Thread Cert.Kernel18Ideal.nD Cert.Kernel18Ideal.τ).loc Cert.Kernel18Ideal.main_v1_0)) (v1 : (c : Dev Cert.Kernel18Ideal.nD) → Buf (Elt Ideal) ((c.tc : Thread Cert.Kernel18Ideal.nD Cert.Kernel18Ideal.τ).loc Cert.Kernel18Ideal.main_v1_1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v1_0) = v0 c
          ∧ r.2.mem ((c.tc : Thread Cert.Kernel18Ideal.nD Cert.Kernel18Ideal.τ).loc Cert.Kernel18Ideal.main_v1_1) = v1 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v10) = v0 c
          ∧ r.2.mem ((c.tc : Thread Cert.Reference18Ideal.nD Cert.Reference18Ideal.τ).loc Cert.Reference18Ideal.main_v11) = v1 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4))

def preserves_Kernel19_Kernel19Ideal : Prop :=
  True

def algebraic_Kernel19Ideal_Reference19Ideal_pre_finite19 [hKernel19Ideal : Cert.Kernel19Ideal.Facts] [hReference19Ideal : Cert.Reference19Ideal.Facts] [hPre_finite19 : Cert.Pre_finite19.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal_finite19 m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v46) = v0 c
          ∧ r.2.mem ((c.tc : Thread Cert.Reference19Ideal.nD Cert.Reference19Ideal.τ).loc Cert.Reference19Ideal.main_v50) = v1 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v71) = v0 c
          ∧ r.2.mem ((c.tc : Thread Cert.Reference20Ideal.nD Cert.Reference20Ideal.τ).loc Cert.Reference20Ideal.main_v72) = v1 c
          ∧ r.2.mem ((c.tc : Thread Cert.Reference20Ideal.nD Cert.Reference20Ideal.τ).loc Cert.Reference20Ideal.main_v73) = v2 c
          ∧ r.2.mem ((c.tc : Thread Cert.Reference20Ideal.nD Cert.Reference20Ideal.τ).loc Cert.Reference20Ideal.main_v74) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v22) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v9) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v4) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v18) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)
      ∧ m' ((c.tc : Thread Cert.Reference25Ideal.nD Cert.Reference25Ideal.τ).loc Cert.Reference25Ideal.main_arg4) = m ((c.tc : Thread Cert.Kernel25Ideal.nD Cert.Kernel25Ideal.τ).loc Cert.Kernel25Ideal.main_arg4)
      ∧ m' ((c.tc : Thread Cert.Reference25Ideal.nD Cert.Reference25Ideal.τ).loc Cert.Reference25Ideal.main_arg5) = m ((c.tc : Thread Cert.Kernel25Ideal.nD Cert.Kernel25Ideal.τ).loc Cert.Kernel25Ideal.main_arg5)
      ∧ m' ((c.tc : Thread Cert.Reference25Ideal.nD Cert.Reference25Ideal.τ).loc Cert.Reference25Ideal.main_arg6) = m ((c.tc : Thread Cert.Kernel25Ideal.nD Cert.Kernel25Ideal.τ).loc Cert.Kernel25Ideal.main_arg6)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
          ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
          ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5)
          ∧ r.2.mem ((c.tc : Thread Cert.Kernel25Ideal.nD Cert.Kernel25Ideal.τ).loc Cert.Kernel25Ideal.main_arg6) = m ((c.tc : Thread Cert.Kernel25Ideal.nD Cert.Kernel25Ideal.τ).loc Cert.Kernel25Ideal.main_arg6))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v49) = v0 c
          ∧ r.2.mem ((c.tc : Thread Cert.Reference25Ideal.nD Cert.Reference25Ideal.τ).loc Cert.Reference25Ideal.main_v58) = v1 c
          ∧ r.2.mem ((c.tc : Thread Cert.Reference25Ideal.nD Cert.Reference25Ideal.τ).loc Cert.Reference25Ideal.main_v60) = v2 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3)
          ∧ r.2.mem ((c.tc : Thread Cert.Reference25Ideal.nD Cert.Reference25Ideal.τ).loc Cert.Reference25Ideal.main_arg4) = m' ((c.tc : Thread Cert.Reference25Ideal.nD Cert.Reference25Ideal.τ).loc Cert.Reference25Ideal.main_arg4)
          ∧ r.2.mem ((c.tc : Thread Cert.Reference25Ideal.nD Cert.Reference25Ideal.τ).loc Cert.Reference25Ideal.main_arg5) = m' ((c.tc : Thread Cert.Reference25Ideal.nD Cert.Reference25Ideal.τ).loc Cert.Reference25Ideal.main_arg5)
          ∧ r.2.mem ((c.tc : Thread Cert.Reference25Ideal.nD Cert.Reference25Ideal.τ).loc Cert.Reference25Ideal.main_arg6) = m' ((c.tc : Thread Cert.Reference25Ideal.nD Cert.Reference25Ideal.τ).loc Cert.Reference25Ideal.main_arg6))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v23) = v0 c
          ∧ r.2.mem ((c.tc : Thread Cert.Reference26Ideal.nD Cert.Reference26Ideal.τ).loc Cert.Reference26Ideal.main_v4) = v1 c
          ∧ r.2.mem ((c.tc : Thread Cert.Reference26Ideal.nD Cert.Reference26Ideal.τ).loc Cert.Reference26Ideal.main_v10) = v2 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v23) = v0 c
          ∧ r.2.mem ((c.tc : Thread Cert.Reference27Ideal.nD Cert.Reference27Ideal.τ).loc Cert.Reference27Ideal.main_v4) = v1 c
          ∧ r.2.mem ((c.tc : Thread Cert.Reference27Ideal.nD Cert.Reference27Ideal.τ).loc Cert.Reference27Ideal.main_v10) = v2 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v23) = v0 c
          ∧ r.2.mem ((c.tc : Thread Cert.Reference28Ideal.nD Cert.Reference28Ideal.τ).loc Cert.Reference28Ideal.main_v4) = v1 c
          ∧ r.2.mem ((c.tc : Thread Cert.Reference28Ideal.nD Cert.Reference28Ideal.τ).loc Cert.Reference28Ideal.main_v10) = v2 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v23) = v0 c
          ∧ r.2.mem ((c.tc : Thread Cert.Reference29Ideal.nD Cert.Reference29Ideal.τ).loc Cert.Reference29Ideal.main_v4) = v1 c
          ∧ r.2.mem ((c.tc : Thread Cert.Reference29Ideal.nD Cert.Reference29Ideal.τ).loc Cert.Reference29Ideal.main_v10) = v2 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)) (v2 : (c : Dev Cert.Kernel30Ideal.nD) → Buf (Elt Ideal) ((c.tc : Thread Cert.Kernel30Ideal.nD Cert.Kernel30Ideal.τ).loc Cert.Kernel30Ideal.main_v0_2)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_v0_2) = v2 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v23) = v0 c
          ∧ r.2.mem ((c.tc : Thread Cert.Reference30Ideal.nD Cert.Reference30Ideal.τ).loc Cert.Reference30Ideal.main_v4) = v1 c
          ∧ r.2.mem ((c.tc : Thread Cert.Reference30Ideal.nD Cert.Reference30Ideal.τ).loc Cert.Reference30Ideal.main_v10) = v2 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)) →
    ∃ (v0 : (c : Dev Cert.Kernel31Ideal.nD) → Buf (Elt Ideal) ((c.tc : Thread Cert.Kernel31Ideal.nD Cert.Kernel31Ideal.τ).loc Cert.Kernel31Ideal.main_v0_0)) (v1 : (c : Dev Cert.Kernel31Ideal.nD) → Buf (Elt Ideal) ((c.tc : Thread Cert.Kernel31Ideal.nD Cert.Kernel31Ideal.τ).loc Cert.Kernel31Ideal.main_v0_1)) (v2 : (c : Dev Cert.Kernel31Ideal.nD) → Buf (Elt Ideal) ((c.tc : Thread Cert.Kernel31Ideal.nD Cert.Kernel31Ideal.τ).loc Cert.Kernel31Ideal.main_v0_2)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0_0) = v0 c
          ∧ r.2.mem ((c.tc : Thread Cert.Kernel31Ideal.nD Cert.Kernel31Ideal.τ).loc Cert.Kernel31Ideal.main_v0_1) = v1 c
          ∧ r.2.mem ((c.tc : Thread Cert.Kernel31Ideal.nD Cert.Kernel31Ideal.τ).loc Cert.Kernel31Ideal.main_v0_2) = v2 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v23) = v0 c
          ∧ r.2.mem ((c.tc : Thread Cert.Reference31Ideal.nD Cert.Reference31Ideal.τ).loc Cert.Reference31Ideal.main_v4) = v1 c
          ∧ r.2.mem ((c.tc : Thread Cert.Reference31Ideal.nD Cert.Reference31Ideal.τ).loc Cert.Reference31Ideal.main_v10) = v2 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)) →
    ∃ (v0 : (c : Dev Cert.Kernel32Ideal.nD) → Buf (Elt Ideal) ((c.tc : Thread Cert.Kernel32Ideal.nD Cert.Kernel32Ideal.τ).loc Cert.Kernel32Ideal.main_v0_0)) (v1 : (c : Dev Cert.Kernel32Ideal.nD) → Buf (Elt Ideal) ((c.tc : Thread Cert.Kernel32Ideal.nD Cert.Kernel32Ideal.τ).loc Cert.Kernel32Ideal.main_v0_1)) (v2 : (c : Dev Cert.Kernel32Ideal.nD) → Buf (Elt Ideal) ((c.tc : Thread Cert.Kernel32Ideal.nD Cert.Kernel32Ideal.τ).loc Cert.Kernel32Ideal.main_v0_2)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0_0) = v0 c
          ∧ r.2.mem ((c.tc : Thread Cert.Kernel32Ideal.nD Cert.Kernel32Ideal.τ).loc Cert.Kernel32Ideal.main_v0_1) = v1 c
          ∧ r.2.mem ((c.tc : Thread Cert.Kernel32Ideal.nD Cert.Kernel32Ideal.τ).loc Cert.Kernel32Ideal.main_v0_2) = v2 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v23) = v0 c
          ∧ r.2.mem ((c.tc : Thread Cert.Reference32Ideal.nD Cert.Reference32Ideal.τ).loc Cert.Reference32Ideal.main_v4) = v1 c
          ∧ r.2.mem ((c.tc : Thread Cert.Reference32Ideal.nD Cert.Reference32Ideal.τ).loc Cert.Reference32Ideal.main_v10) = v2 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)
      ∧ m' ((c.tc : Thread Cert.Reference33Ideal.nD Cert.Reference33Ideal.τ).loc Cert.Reference33Ideal.main_arg3) = m ((c.tc : Thread Cert.Kernel33Ideal.nD Cert.Kernel33Ideal.τ).loc Cert.Kernel33Ideal.main_arg3)) →
    ∃ (v0 : (c : Dev Cert.Kernel33Ideal.nD) → Buf (Elt Ideal) ((c.tc : Thread Cert.Kernel33Ideal.nD Cert.Kernel33Ideal.τ).loc Cert.Kernel33Ideal.main_v0_0)) (v1 : (c : Dev Cert.Kernel33Ideal.nD) → Buf (Elt Ideal) ((c.tc : Thread Cert.Kernel33Ideal.nD Cert.Kernel33Ideal.τ).loc Cert.Kernel33Ideal.main_v0_1)) (v2 : (c : Dev Cert.Kernel33Ideal.nD) → Buf (Elt Ideal) ((c.tc : Thread Cert.Kernel33Ideal.nD Cert.Kernel33Ideal.τ).loc Cert.Kernel33Ideal.main_v0_2)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0_0) = v0 c
          ∧ r.2.mem ((c.tc : Thread Cert.Kernel33Ideal.nD Cert.Kernel33Ideal.τ).loc Cert.Kernel33Ideal.main_v0_1) = v1 c
          ∧ r.2.mem ((c.tc : Thread Cert.Kernel33Ideal.nD Cert.Kernel33Ideal.τ).loc Cert.Kernel33Ideal.main_v0_2) = v2 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
          ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v23) = v0 c
          ∧ r.2.mem ((c.tc : Thread Cert.Reference33Ideal.nD Cert.Reference33Ideal.τ).loc Cert.Reference33Ideal.main_v4) = v1 c
          ∧ r.2.mem ((c.tc : Thread Cert.Reference33Ideal.nD Cert.Reference33Ideal.τ).loc Cert.Reference33Ideal.main_v10) = v2 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2)
          ∧ r.2.mem ((c.tc : Thread Cert.Reference33Ideal.nD Cert.Reference33Ideal.τ).loc Cert.Reference33Ideal.main_arg3) = m' ((c.tc : Thread Cert.Reference33Ideal.nD Cert.Reference33Ideal.τ).loc Cert.Reference33Ideal.main_arg3))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)
      ∧ m' ((c.tc : Thread Cert.Reference34Ideal.nD Cert.Reference34Ideal.τ).loc Cert.Reference34Ideal.main_arg3) = m ((c.tc : Thread Cert.Kernel34Ideal.nD Cert.Kernel34Ideal.τ).loc Cert.Kernel34Ideal.main_arg3)) →
    ∃ (v0 : (c : Dev Cert.Kernel34Ideal.nD) → Buf (Elt Ideal) ((c.tc : Thread Cert.Kernel34Ideal.nD Cert.Kernel34Ideal.τ).loc Cert.Kernel34Ideal.main_v0_0)) (v1 : (c : Dev Cert.Kernel34Ideal.nD) → Buf (Elt Ideal) ((c.tc : Thread Cert.Kernel34Ideal.nD Cert.Kernel34Ideal.τ).loc Cert.Kernel34Ideal.main_v0_1)) (v2 : (c : Dev Cert.Kernel34Ideal.nD) → Buf (Elt Ideal) ((c.tc : Thread Cert.Kernel34Ideal.nD Cert.Kernel34Ideal.τ).loc Cert.Kernel34Ideal.main_v0_2)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0_0) = v0 c
          ∧ r.2.mem ((c.tc : Thread Cert.Kernel34Ideal.nD Cert.Kernel34Ideal.τ).loc Cert.Kernel34Ideal.main_v0_1) = v1 c
          ∧ r.2.mem ((c.tc : Thread Cert.Kernel34Ideal.nD Cert.Kernel34Ideal.τ).loc Cert.Kernel34Ideal.main_v0_2) = v2 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
          ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v23) = v0 c
          ∧ r.2.mem ((c.tc : Thread Cert.Reference34Ideal.nD Cert.Reference34Ideal.τ).loc Cert.Reference34Ideal.main_v4) = v1 c
          ∧ r.2.mem ((c.tc : Thread Cert.Reference34Ideal.nD Cert.Reference34Ideal.τ).loc Cert.Reference34Ideal.main_v10) = v2 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2)
          ∧ r.2.mem ((c.tc : Thread Cert.Reference34Ideal.nD Cert.Reference34Ideal.τ).loc Cert.Reference34Ideal.main_arg3) = m' ((c.tc : Thread Cert.Reference34Ideal.nD Cert.Reference34Ideal.τ).loc Cert.Reference34Ideal.main_arg3))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)
      ∧ m' ((c.tc : Thread Cert.Reference35Ideal.nD Cert.Reference35Ideal.τ).loc Cert.Reference35Ideal.main_arg2) = m ((c.tc : Thread Cert.Kernel35Ideal.nD Cert.Kernel35Ideal.τ).loc Cert.Kernel35Ideal.main_arg2)
      ∧ m' ((c.tc : Thread Cert.Reference35Ideal.nD Cert.Reference35Ideal.τ).loc Cert.Reference35Ideal.main_arg3) = m ((c.tc : Thread Cert.Kernel35Ideal.nD Cert.Kernel35Ideal.τ).loc Cert.Kernel35Ideal.main_arg3)) →
    ∃ (v0 : (c : Dev Cert.Kernel35Ideal.nD) → Buf (Elt Ideal) ((c.tc : Thread Cert.Kernel35Ideal.nD Cert.Kernel35Ideal.τ).loc Cert.Kernel35Ideal.main_v0_0)) (v1 : (c : Dev Cert.Kernel35Ideal.nD) → Buf (Elt Ideal) ((c.tc : Thread Cert.Kernel35Ideal.nD Cert.Kernel35Ideal.τ).loc Cert.Kernel35Ideal.main_v0_1)) (v2 : (c : Dev Cert.Kernel35Ideal.nD) → Buf (Elt Ideal) ((c.tc : Thread Cert.Kernel35Ideal.nD Cert.Kernel35Ideal.τ).loc Cert.Kernel35Ideal.main_v0_2)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0_0) = v0 c
          ∧ r.2.mem ((c.tc : Thread Cert.Kernel35Ideal.nD Cert.Kernel35Ideal.τ).loc Cert.Kernel35Ideal.main_v0_1) = v1 c
          ∧ r.2.mem ((c.tc : Thread Cert.Kernel35Ideal.nD Cert.Kernel35Ideal.τ).loc Cert.Kernel35Ideal.main_v0_2) = v2 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
          ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
          ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v23) = v0 c
          ∧ r.2.mem ((c.tc : Thread Cert.Reference35Ideal.nD Cert.Reference35Ideal.τ).loc Cert.Reference35Ideal.main_v4) = v1 c
          ∧ r.2.mem ((c.tc : Thread Cert.Reference35Ideal.nD Cert.Reference35Ideal.τ).loc Cert.Reference35Ideal.main_v10) = v2 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1)
          ∧ r.2.mem ((c.tc : Thread Cert.Reference35Ideal.nD Cert.Reference35Ideal.τ).loc Cert.Reference35Ideal.main_arg2) = m' ((c.tc : Thread Cert.Reference35Ideal.nD Cert.Reference35Ideal.τ).loc Cert.Reference35Ideal.main_arg2)
          ∧ r.2.mem ((c.tc : Thread Cert.Reference35Ideal.nD Cert.Reference35Ideal.τ).loc Cert.Reference35Ideal.main_arg3) = m' ((c.tc : Thread Cert.Reference35Ideal.nD Cert.Reference35Ideal.τ).loc Cert.Reference35Ideal.main_arg3))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)
      ∧ m' ((c.tc : Thread Cert.Reference36Ideal.nD Cert.Reference36Ideal.τ).loc Cert.Reference36Ideal.main_arg2) = m ((c.tc : Thread Cert.Kernel36Ideal.nD Cert.Kernel36Ideal.τ).loc Cert.Kernel36Ideal.main_arg2)
      ∧ m' ((c.tc : Thread Cert.Reference36Ideal.nD Cert.Reference36Ideal.τ).loc Cert.Reference36Ideal.main_arg3) = m ((c.tc : Thread Cert.Kernel36Ideal.nD Cert.Kernel36Ideal.τ).loc Cert.Kernel36Ideal.main_arg3)) →
    ∃ (v0 : (c : Dev Cert.Kernel36Ideal.nD) → Buf (Elt Ideal) ((c.tc : Thread Cert.Kernel36Ideal.nD Cert.Kernel36Ideal.τ).loc Cert.Kernel36Ideal.main_v0_0)) (v1 : (c : Dev Cert.Kernel36Ideal.nD) → Buf (Elt Ideal) ((c.tc : Thread Cert.Kernel36Ideal.nD Cert.Kernel36Ideal.τ).loc Cert.Kernel36Ideal.main_v0_1)) (v2 : (c : Dev Cert.Kernel36Ideal.nD) → Buf (Elt Ideal) ((c.tc : Thread Cert.Kernel36Ideal.nD Cert.Kernel36Ideal.τ).loc Cert.Kernel36Ideal.main_v0_2)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v0_0) = v0 c
          ∧ r.2.mem ((c.tc : Thread Cert.Kernel36Ideal.nD Cert.Kernel36Ideal.τ).loc Cert.Kernel36Ideal.main_v0_1) = v1 c
          ∧ r.2.mem ((c.tc : Thread Cert.Kernel36Ideal.nD Cert.Kernel36Ideal.τ).loc Cert.Kernel36Ideal.main_v0_2) = v2 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
          ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
          ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v23) = v0 c
          ∧ r.2.mem ((c.tc : Thread Cert.Reference36Ideal.nD Cert.Reference36Ideal.τ).loc Cert.Reference36Ideal.main_v4) = v1 c
          ∧ r.2.mem ((c.tc : Thread Cert.Reference36Ideal.nD Cert.Reference36Ideal.τ).loc Cert.Reference36Ideal.main_v10) = v2 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1)
          ∧ r.2.mem ((c.tc : Thread Cert.Reference36Ideal.nD Cert.Reference36Ideal.τ).loc Cert.Reference36Ideal.main_arg2) = m' ((c.tc : Thread Cert.Reference36Ideal.nD Cert.Reference36Ideal.τ).loc Cert.Reference36Ideal.main_arg2)
          ∧ r.2.mem ((c.tc : Thread Cert.Reference36Ideal.nD Cert.Reference36Ideal.τ).loc Cert.Reference36Ideal.main_arg3) = m' ((c.tc : Thread Cert.Reference36Ideal.nD Cert.Reference36Ideal.τ).loc Cert.Reference36Ideal.main_arg3))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)
      ∧ m' ((c.tc : Thread Cert.Reference37Ideal.nD Cert.Reference37Ideal.τ).loc Cert.Reference37Ideal.main_arg2) = m ((c.tc : Thread Cert.Kernel37Ideal.nD Cert.Kernel37Ideal.τ).loc Cert.Kernel37Ideal.main_arg2)
      ∧ m' ((c.tc : Thread Cert.Reference37Ideal.nD Cert.Reference37Ideal.τ).loc Cert.Reference37Ideal.main_arg3) = m ((c.tc : Thread Cert.Kernel37Ideal.nD Cert.Kernel37Ideal.τ).loc Cert.Kernel37Ideal.main_arg3)
      ∧ m' ((c.tc : Thread Cert.Reference37Ideal.nD Cert.Reference37Ideal.τ).loc Cert.Reference37Ideal.main_arg4) = m ((c.tc : Thread Cert.Kernel37Ideal.nD Cert.Kernel37Ideal.τ).loc Cert.Kernel37Ideal.main_arg4)) →
    ∃ (v0 : (c : Dev Cert.Kernel37Ideal.nD) → Buf (Elt Ideal) ((c.tc : Thread Cert.Kernel37Ideal.nD Cert.Kernel37Ideal.τ).loc Cert.Kernel37Ideal.main_v0_0)) (v1 : (c : Dev Cert.Kernel37Ideal.nD) → Buf (Elt Ideal) ((c.tc : Thread Cert.Kernel37Ideal.nD Cert.Kernel37Ideal.τ).loc Cert.Kernel37Ideal.main_v0_1)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v0_0) = v0 c
          ∧ r.2.mem ((c.tc : Thread Cert.Kernel37Ideal.nD Cert.Kernel37Ideal.τ).loc Cert.Kernel37Ideal.main_v0_1) = v1 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
          ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
          ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3)
          ∧ r.2.mem ((c.tc : Thread Cert.Kernel37Ideal.nD Cert.Kernel37Ideal.τ).loc Cert.Kernel37Ideal.main_arg4) = m ((c.tc : Thread Cert.Kernel37Ideal.nD Cert.Kernel37Ideal.τ).loc Cert.Kernel37Ideal.main_arg4))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v49) = v0 c
          ∧ r.2.mem ((c.tc : Thread Cert.Reference37Ideal.nD Cert.Reference37Ideal.τ).loc Cert.Reference37Ideal.main_v51) = v1 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1)
          ∧ r.2.mem ((c.tc : Thread Cert.Reference37Ideal.nD Cert.Reference37Ideal.τ).loc Cert.Reference37Ideal.main_arg2) = m' ((c.tc : Thread Cert.Reference37Ideal.nD Cert.Reference37Ideal.τ).loc Cert.Reference37Ideal.main_arg2)
          ∧ r.2.mem ((c.tc : Thread Cert.Reference37Ideal.nD Cert.Reference37Ideal.τ).loc Cert.Reference37Ideal.main_arg3) = m' ((c.tc : Thread Cert.Reference37Ideal.nD Cert.Reference37Ideal.τ).loc Cert.Reference37Ideal.main_arg3)
          ∧ r.2.mem ((c.tc : Thread Cert.Reference37Ideal.nD Cert.Reference37Ideal.τ).loc Cert.Reference37Ideal.main_arg4) = m' ((c.tc : Thread Cert.Reference37Ideal.nD Cert.Reference37Ideal.τ).loc Cert.Reference37Ideal.main_arg4))

def preserves_Kernel38_Kernel38Ideal : Prop :=
  True

def algebraic_Kernel38Ideal_Reference38Ideal [hKernel38Ideal : Cert.Kernel38Ideal.Facts] [hReference38Ideal : Cert.Reference38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)
      ∧ m' ((c.tc : Thread Cert.Reference38Ideal.nD Cert.Reference38Ideal.τ).loc Cert.Reference38Ideal.main_arg1) = m ((c.tc : Thread Cert.Kernel38Ideal.nD Cert.Kernel38Ideal.τ).loc Cert.Kernel38Ideal.main_arg1)
      ∧ m' ((c.tc : Thread Cert.Reference38Ideal.nD Cert.Reference38Ideal.τ).loc Cert.Reference38Ideal.main_arg2) = m ((c.tc : Thread Cert.Kernel38Ideal.nD Cert.Kernel38Ideal.τ).loc Cert.Kernel38Ideal.main_arg2)
      ∧ m' ((c.tc : Thread Cert.Reference38Ideal.nD Cert.Reference38Ideal.τ).loc Cert.Reference38Ideal.main_arg3) = m ((c.tc : Thread Cert.Kernel38Ideal.nD Cert.Kernel38Ideal.τ).loc Cert.Kernel38Ideal.main_arg3)
      ∧ m' ((c.tc : Thread Cert.Reference38Ideal.nD Cert.Reference38Ideal.τ).loc Cert.Reference38Ideal.main_arg4) = m ((c.tc : Thread Cert.Kernel38Ideal.nD Cert.Kernel38Ideal.τ).loc Cert.Kernel38Ideal.main_arg4)) →
    ∃ (v0 : (c : Dev Cert.Kernel38Ideal.nD) → Buf (Elt Ideal) ((c.tc : Thread Cert.Kernel38Ideal.nD Cert.Kernel38Ideal.τ).loc Cert.Kernel38Ideal.main_v0_0)) (v1 : (c : Dev Cert.Kernel38Ideal.nD) → Buf (Elt Ideal) ((c.tc : Thread Cert.Kernel38Ideal.nD Cert.Kernel38Ideal.τ).loc Cert.Kernel38Ideal.main_v0_1)) (v2 : (c : Dev Cert.Kernel38Ideal.nD) → Buf (Elt Ideal) ((c.tc : Thread Cert.Kernel38Ideal.nD Cert.Kernel38Ideal.τ).loc Cert.Kernel38Ideal.main_v0_2)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v0_0) = v0 c
          ∧ r.2.mem ((c.tc : Thread Cert.Kernel38Ideal.nD Cert.Kernel38Ideal.τ).loc Cert.Kernel38Ideal.main_v0_1) = v1 c
          ∧ r.2.mem ((c.tc : Thread Cert.Kernel38Ideal.nD Cert.Kernel38Ideal.τ).loc Cert.Kernel38Ideal.main_v0_2) = v2 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
          ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
          ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
          ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3)
          ∧ r.2.mem ((c.tc : Thread Cert.Kernel38Ideal.nD Cert.Kernel38Ideal.τ).loc Cert.Kernel38Ideal.main_arg4) = m ((c.tc : Thread Cert.Kernel38Ideal.nD Cert.Kernel38Ideal.τ).loc Cert.Kernel38Ideal.main_arg4))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v51) = v0 c
          ∧ r.2.mem ((c.tc : Thread Cert.Reference38Ideal.nD Cert.Reference38Ideal.τ).loc Cert.Reference38Ideal.main_v60) = v1 c
          ∧ r.2.mem ((c.tc : Thread Cert.Reference38Ideal.nD Cert.Reference38Ideal.τ).loc Cert.Reference38Ideal.main_v62) = v2 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0)
          ∧ r.2.mem ((c.tc : Thread Cert.Reference38Ideal.nD Cert.Reference38Ideal.τ).loc Cert.Reference38Ideal.main_arg1) = m' ((c.tc : Thread Cert.Reference38Ideal.nD Cert.Reference38Ideal.τ).loc Cert.Reference38Ideal.main_arg1)
          ∧ r.2.mem ((c.tc : Thread Cert.Reference38Ideal.nD Cert.Reference38Ideal.τ).loc Cert.Reference38Ideal.main_arg2) = m' ((c.tc : Thread Cert.Reference38Ideal.nD Cert.Reference38Ideal.τ).loc Cert.Reference38Ideal.main_arg2)
          ∧ r.2.mem ((c.tc : Thread Cert.Reference38Ideal.nD Cert.Reference38Ideal.τ).loc Cert.Reference38Ideal.main_arg3) = m' ((c.tc : Thread Cert.Reference38Ideal.nD Cert.Reference38Ideal.τ).loc Cert.Reference38Ideal.main_arg3)
          ∧ r.2.mem ((c.tc : Thread Cert.Reference38Ideal.nD Cert.Reference38Ideal.τ).loc Cert.Reference38Ideal.main_arg4) = m' ((c.tc : Thread Cert.Reference38Ideal.nD Cert.Reference38Ideal.τ).loc Cert.Reference38Ideal.main_arg4))

def preserves_Kernel39_Kernel39Ideal : Prop :=
  True

def algebraic_Kernel39Ideal_Reference39Ideal [hKernel39Ideal : Cert.Kernel39Ideal.Facts] [hReference39Ideal : Cert.Reference39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg)
    (m' : (ℓ : Loc Cert.Reference39Ideal.nD Cert.Reference39Ideal.τ Cert.Reference39Ideal.sig) → Buf (Elt Ideal) ℓ) (g' : Dev Cert.Reference39Ideal.nD → PrngReg), Pre_Kernel39Ideal m →
    (∀ c : Dev Cert.Kernel39Ideal.nD,
      m' ((c.tc : Thread Cert.Reference39Ideal.nD Cert.Reference39Ideal.τ).loc Cert.Reference39Ideal.main_arg0) = m ((c.tc : Thread Cert.Kernel39Ideal.nD Cert.Kernel39Ideal.τ).loc Cert.Kernel39Ideal.main_arg0)) →
    ∃ (v0 : (c : Dev Cert.Kernel39Ideal.nD) → Buf (Elt Ideal) ((c.tc : Thread Cert.Kernel39Ideal.nD Cert.Kernel39Ideal.τ).loc Cert.Kernel39Ideal.main_v0)),
      θ_run (Cert.Kernel39Ideal.defs (F := Ideal)) (onTc (τ := Cert.Kernel39Ideal.τ) (Cert.Kernel39Ideal.main (F := Ideal))) ⟨m, fun _ => 0, g⟩ (fun r => ∀ c : Dev Cert.Kernel39Ideal.nD,
          r.2.mem ((c.tc : Thread Cert.Kernel39Ideal.nD Cert.Kernel39Ideal.τ).loc Cert.Kernel39Ideal.main_v0) = v0 c
          ∧ r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0))
      ∧ θ_run (Cert.Reference39Ideal.defs (F := Ideal)) (onTc (τ := Cert.Reference39Ideal.τ) (Cert.Reference39Ideal.main (F := Ideal))) ⟨m', fun _ => 0, g'⟩ (fun r => ∀ c : Dev Cert.Reference39Ideal.nD,
          r.2.mem ((c.tc : Thread Cert.Reference39Ideal.nD Cert.Reference39Ideal.τ).loc Cert.Reference39Ideal.main_v0) = v0 c
          ∧ r.2.mem ((c.tc : Thread Cert.Reference39Ideal.nD Cert.Reference39Ideal.τ).loc Cert.Reference39Ideal.main_arg0) = m' ((c.tc : Thread Cert.Reference39Ideal.nD Cert.Reference39Ideal.τ).loc Cert.Reference39Ideal.main_arg0))

def preserves_Kernel40_Kernel40Ideal : Prop :=
  True

def algebraic_Kernel40Ideal_Reference40Ideal [hKernel40Ideal : Cert.Kernel40Ideal.Facts] [hReference40Ideal : Cert.Reference40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg)
    (m' : (ℓ : Loc Cert.Reference40Ideal.nD Cert.Reference40Ideal.τ Cert.Reference40Ideal.sig) → Buf (Elt Ideal) ℓ) (g' : Dev Cert.Reference40Ideal.nD → PrngReg), Pre_Kernel40Ideal m →
    (∀ c : Dev Cert.Kernel40Ideal.nD,
      m' ((c.tc : Thread Cert.Reference40Ideal.nD Cert.Reference40Ideal.τ).loc Cert.Reference40Ideal.main_arg0) = m ((c.tc : Thread Cert.Kernel40Ideal.nD Cert.Kernel40Ideal.τ).loc Cert.Kernel40Ideal.main_arg0)) →
    ∃ (v0 : (c : Dev Cert.Kernel40Ideal.nD) → Buf (Elt Ideal) ((c.tc : Thread Cert.Kernel40Ideal.nD Cert.Kernel40Ideal.τ).loc Cert.Kernel40Ideal.main_v0)),
      θ_run (Cert.Kernel40Ideal.defs (F := Ideal)) (onTc (τ := Cert.Kernel40Ideal.τ) (Cert.Kernel40Ideal.main (F := Ideal))) ⟨m, fun _ => 0, g⟩ (fun r => ∀ c : Dev Cert.Kernel40Ideal.nD,
          r.2.mem ((c.tc : Thread Cert.Kernel40Ideal.nD Cert.Kernel40Ideal.τ).loc Cert.Kernel40Ideal.main_v0) = v0 c
          ∧ r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0))
      ∧ θ_run (Cert.Reference40Ideal.defs (F := Ideal)) (onTc (τ := Cert.Reference40Ideal.τ) (Cert.Reference40Ideal.main (F := Ideal))) ⟨m', fun _ => 0, g'⟩ (fun r => ∀ c : Dev Cert.Reference40Ideal.nD,
          r.2.mem ((c.tc : Thread Cert.Reference40Ideal.nD Cert.Reference40Ideal.τ).loc Cert.Reference40Ideal.main_v1) = v0 c
          ∧ r.2.mem ((c.tc : Thread Cert.Reference40Ideal.nD Cert.Reference40Ideal.τ).loc Cert.Reference40Ideal.main_arg0) = m' ((c.tc : Thread Cert.Reference40Ideal.nD Cert.Reference40Ideal.τ).loc Cert.Reference40Ideal.main_arg0))

def preserves_Kernel41_Kernel41Ideal : Prop :=
  True

def algebraic_Kernel41Ideal_Reference41Ideal [hKernel41Ideal : Cert.Kernel41Ideal.Facts] [hReference41Ideal : Cert.Reference41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg)
    (m' : (ℓ : Loc Cert.Reference41Ideal.nD Cert.Reference41Ideal.τ Cert.Reference41Ideal.sig) → Buf (Elt Ideal) ℓ) (g' : Dev Cert.Reference41Ideal.nD → PrngReg), Pre_Kernel41Ideal m →
    (∀ c : Dev Cert.Kernel41Ideal.nD,
      m' ((c.tc : Thread Cert.Reference41Ideal.nD Cert.Reference41Ideal.τ).loc Cert.Reference41Ideal.main_arg0) = m ((c.tc : Thread Cert.Kernel41Ideal.nD Cert.Kernel41Ideal.τ).loc Cert.Kernel41Ideal.main_arg0)) →
    ∃ (v0 : (c : Dev Cert.Kernel41Ideal.nD) → Buf (Elt Ideal) ((c.tc : Thread Cert.Kernel41Ideal.nD Cert.Kernel41Ideal.τ).loc Cert.Kernel41Ideal.main_v0)),
      θ_run (Cert.Kernel41Ideal.defs (F := Ideal)) (onTc (τ := Cert.Kernel41Ideal.τ) (Cert.Kernel41Ideal.main (F := Ideal))) ⟨m, fun _ => 0, g⟩ (fun r => ∀ c : Dev Cert.Kernel41Ideal.nD,
          r.2.mem ((c.tc : Thread Cert.Kernel41Ideal.nD Cert.Kernel41Ideal.τ).loc Cert.Kernel41Ideal.main_v0) = v0 c
          ∧ r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0))
      ∧ θ_run (Cert.Reference41Ideal.defs (F := Ideal)) (onTc (τ := Cert.Reference41Ideal.τ) (Cert.Reference41Ideal.main (F := Ideal))) ⟨m', fun _ => 0, g'⟩ (fun r => ∀ c : Dev Cert.Reference41Ideal.nD,
          r.2.mem ((c.tc : Thread Cert.Reference41Ideal.nD Cert.Reference41Ideal.τ).loc Cert.Reference41Ideal.main_v0) = v0 c
          ∧ r.2.mem ((c.tc : Thread Cert.Reference41Ideal.nD Cert.Reference41Ideal.τ).loc Cert.Reference41Ideal.main_arg0) = m' ((c.tc : Thread Cert.Reference41Ideal.nD Cert.Reference41Ideal.τ).loc Cert.Reference41Ideal.main_arg0))

def preserves_Kernel42_Kernel42Ideal : Prop :=
  True

def algebraic_Kernel42Ideal_Reference42Ideal [hKernel42Ideal : Cert.Kernel42Ideal.Facts] [hReference42Ideal : Cert.Reference42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg)
    (m' : (ℓ : Loc Cert.Reference42Ideal.nD Cert.Reference42Ideal.τ Cert.Reference42Ideal.sig) → Buf (Elt Ideal) ℓ) (g' : Dev Cert.Reference42Ideal.nD → PrngReg), Pre_Kernel42Ideal m →
    (∀ c : Dev Cert.Kernel42Ideal.nD,
      m' ((c.tc : Thread Cert.Reference42Ideal.nD Cert.Reference42Ideal.τ).loc Cert.Reference42Ideal.main_arg0) = m ((c.tc : Thread Cert.Kernel42Ideal.nD Cert.Kernel42Ideal.τ).loc Cert.Kernel42Ideal.main_arg0)) →
    ∃ (v0 : (c : Dev Cert.Kernel42Ideal.nD) → Buf (Elt Ideal) ((c.tc : Thread Cert.Kernel42Ideal.nD Cert.Kernel42Ideal.τ).loc Cert.Kernel42Ideal.main_v0)),
      θ_run (Cert.Kernel42Ideal.defs (F := Ideal)) (onTc (τ := Cert.Kernel42Ideal.τ) (Cert.Kernel42Ideal.main (F := Ideal))) ⟨m, fun _ => 0, g⟩ (fun r => ∀ c : Dev Cert.Kernel42Ideal.nD,
          r.2.mem ((c.tc : Thread Cert.Kernel42Ideal.nD Cert.Kernel42Ideal.τ).loc Cert.Kernel42Ideal.main_v0) = v0 c
          ∧ r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0))
      ∧ θ_run (Cert.Reference42Ideal.defs (F := Ideal)) (onTc (τ := Cert.Reference42Ideal.τ) (Cert.Reference42Ideal.main (F := Ideal))) ⟨m', fun _ => 0, g'⟩ (fun r => ∀ c : Dev Cert.Reference42Ideal.nD,
          r.2.mem ((c.tc : Thread Cert.Reference42Ideal.nD Cert.Reference42Ideal.τ).loc Cert.Reference42Ideal.main_v50) = v0 c
          ∧ r.2.mem ((c.tc : Thread Cert.Reference42Ideal.nD Cert.Reference42Ideal.τ).loc Cert.Reference42Ideal.main_arg0) = m' ((c.tc : Thread Cert.Reference42Ideal.nD Cert.Reference42Ideal.τ).loc Cert.Reference42Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hKernel39 : Cert.Kernel39.Facts) (hKernel39Ideal : Cert.Kernel39Ideal.Facts) (hReference39Ideal : Cert.Reference39Ideal.Facts) (hKernel40 : Cert.Kernel40.Facts) (hKernel40Ideal : Cert.Kernel40Ideal.Facts) (hReference40Ideal : Cert.Reference40Ideal.Facts) (hKernel41 : Cert.Kernel41.Facts) (hKernel41Ideal : Cert.Kernel41Ideal.Facts) (hReference41Ideal : Cert.Reference41Ideal.Facts) (hKernel42 : Cert.Kernel42.Facts) (hKernel42Ideal : Cert.Kernel42Ideal.Facts) (hReference42Ideal : Cert.Reference42Ideal.Facts) (hPre_finite : Cert.Pre_finite.Facts) (hPre_finite2 : Cert.Pre_finite2.Facts) (hPre_finite19 : Cert.Pre_finite19.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Kernel19Ideal_pre_finite19 (hKernel19Ideal := hKernel19Ideal) (hPre_finite19 := hPre_finite19)
    ∧ quiescent_Reference19Ideal (hReference19Ideal := hReference19Ideal)
    ∧ quiescent_Reference19Ideal_pre_finite19 (hReference19Ideal := hReference19Ideal) (hPre_finite19 := hPre_finite19)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ quiescent_Kernel38 (hKernel38 := hKernel38)
    ∧ quiescent_Kernel38Ideal (hKernel38Ideal := hKernel38Ideal)
    ∧ quiescent_Reference38Ideal (hReference38Ideal := hReference38Ideal)
    ∧ quiescent_Kernel39 (hKernel39 := hKernel39)
    ∧ quiescent_Kernel39Ideal (hKernel39Ideal := hKernel39Ideal)
    ∧ quiescent_Reference39Ideal (hReference39Ideal := hReference39Ideal)
    ∧ quiescent_Kernel40 (hKernel40 := hKernel40)
    ∧ quiescent_Kernel40Ideal (hKernel40Ideal := hKernel40Ideal)
    ∧ quiescent_Reference40Ideal (hReference40Ideal := hReference40Ideal)
    ∧ quiescent_Kernel41 (hKernel41 := hKernel41)
    ∧ quiescent_Kernel41Ideal (hKernel41Ideal := hKernel41Ideal)
    ∧ quiescent_Reference41Ideal (hReference41Ideal := hReference41Ideal)
    ∧ quiescent_Kernel42 (hKernel42 := hKernel42)
    ∧ quiescent_Kernel42Ideal (hKernel42Ideal := hKernel42Ideal)
    ∧ quiescent_Reference42Ideal (hReference42Ideal := hReference42Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal_pre_finite19 (hKernel19Ideal := hKernel19Ideal) (hReference19Ideal := hReference19Ideal) (hPre_finite19 := hPre_finite19)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
    ∧ preserves_Kernel38_Kernel38Ideal
    ∧ algebraic_Kernel38Ideal_Reference38Ideal (hKernel38Ideal := hKernel38Ideal) (hReference38Ideal := hReference38Ideal)
    ∧ preserves_Kernel39_Kernel39Ideal
    ∧ algebraic_Kernel39Ideal_Reference39Ideal (hKernel39Ideal := hKernel39Ideal) (hReference39Ideal := hReference39Ideal)
    ∧ preserves_Kernel40_Kernel40Ideal
    ∧ algebraic_Kernel40Ideal_Reference40Ideal (hKernel40Ideal := hKernel40Ideal) (hReference40Ideal := hReference40Ideal)
    ∧ preserves_Kernel41_Kernel41Ideal
    ∧ algebraic_Kernel41Ideal_Reference41Ideal (hKernel41Ideal := hKernel41Ideal) (hReference41Ideal := hReference41Ideal)
    ∧ preserves_Kernel42_Kernel42Ideal
    ∧ algebraic_Kernel42Ideal_Reference42Ideal (hKernel42Ideal := hKernel42Ideal) (hReference42Ideal := hReference42Ideal)
-- ==== Pre_finite.lean ====
abbrev S8192x6144 : Shape := ⟨2, ![8192, 6144]⟩
abbrev S8192x2048 : Shape := ⟨2, ![8192, 2048]⟩
abbrev S_ : Shape := ⟨0, ![]⟩

class Facts : Prop where
  bcast_S_S8192x6144 : S_.BroadcastsInDim S8192x6144 (![] : Fin 0 → Fin S8192x6144.rank)
  reducesTo_S8192x6144_S_d0_1 : S8192x6144.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_

variable [Facts]

def fn {F : FTy → Type} [FloatOps F] (main_arg0 : FVec F S8192x6144 .bf16) (main_arg1 : FVec F S8192x2048 .bf16) : IVec S_ 1 :=
  let main_v0 : FVec F S8192x6144 .bf16 := Host.absf main_arg0
  let main_cst : FVec F S_ .bf16 := constant S_ .bf16 0x7F80#16
  let main_v1 : FVec F S8192x6144 .bf16 := broadcastInDim S8192x6144 ![] bcast_S_S8192x6144 main_cst
  let main_v2 : IVec S8192x6144 1 := cmpf .olt main_v0 main_v1
  let main_c : IVec S_ 1 := constantI S_ 1 1#1
  let main_v3 : IVec S_ 1 := (fun x v => Host.reduce IntOp.andi x v reducesTo_S8192x6144_S_d0_1 h_S_) main_v2 main_c
  let main_v4 : FVec F S8192x2048 .bf16 := Host.absf main_arg1
  let main_cst_0 : FVec F S_ .bf16 := constant S_ .bf16 0x7F80#16
  let main_v5 : FVec F S8192x2048 .bf16 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  main_v8
-- ==== Pre_finite19.lean ====
abbrev S8192x6144 : Shape := ⟨2, ![8192, 6144]⟩
abbrev S_ : Shape := ⟨0, ![]⟩

class Facts : Prop where
  bcast_S_S8192x6144 : S_.BroadcastsInDim S8192x6144 (![] : Fin 0 → Fin S8192x6144.rank)
  reducesTo_S8192x6144_S_d0_1 : S8192x6144.ReducesTo [0, 1] S_
  h_S_ : 0 < S_.numel

variable [Facts]

def fn {F : FTy → Type} [FloatOps F] (main_arg0 : FVec F S8192x6144 .bf16) : IVec S_ 1 :=
  let main_v0 : FVec F S8192x6144 .bf16 := Host.absf main_arg0
  let main_cst : FVec F S_ .bf16 := constant S_ .bf16 0x7F80#16
  let main_v1 : FVec F S8192x6144 .bf16 := broadcastInDim S8192x6144 ![] bcast_S_S8192x6144 main_cst
  let main_v2 : IVec S8192x6144 1 := cmpf .olt main_v0 main_v1
  let main_c : IVec S_ 1 := constantI S_ 1 1#1
  let main_v3 : IVec S_ 1 := (fun x v => Host.reduce IntOp.andi x v reducesTo_S8192x6144_S_d0_1 h_S_) main_v2 main_c
  main_v3
-- ==== Pre_finite2.lean ====
abbrev S8192x2048 : Shape := ⟨2, ![8192, 2048]⟩
abbrev S5632x2048 : Shape := ⟨2, ![5632, 2048]⟩
abbrev S8192x5632 : Shape := ⟨2, ![8192, 5632]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S5632x2048 : S_.BroadcastsInDim S5632x2048 (![] : Fin 0 → Fin S5632x2048.rank)
  reducesTo_S5632x2048_S_d0_1 : S5632x2048.ReducesTo [0, 1] S_
  bcast_S_S8192x5632 : S_.BroadcastsInDim S8192x5632 (![] : Fin 0 → Fin S8192x5632.rank)
  reducesTo_S8192x5632_S_d0_1 : S8192x5632.ReducesTo [0, 1] S_

variable [Facts]

def fn {F : FTy → Type} [FloatOps F] (main_arg0 : FVec F S8192x2048 .bf16) (main_arg1 : FVec F S5632x2048 .bf16) (main_arg2 : FVec F S8192x5632 .bf16) (main_arg3 : FVec F S8192x5632 .bf16) : IVec S_ 1 :=
  let main_v0 : FVec F S8192x2048 .bf16 := Host.absf main_arg0
  let main_cst : FVec F S_ .bf16 := constant S_ .bf16 0x7F80#16
  let main_v1 : FVec F S8192x2048 .bf16 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S5632x2048 .bf16 := Host.absf main_arg1
  let main_cst_0 : FVec F S_ .bf16 := constant S_ .bf16 0x7F80#16
  let main_v5 : FVec F S5632x2048 .bf16 := broadcastInDim S5632x2048 ![] bcast_S_S5632x2048 main_cst_0
  let main_v6 : IVec S5632x2048 1 := cmpf .olt main_v4 main_v5
  let main_c_1 : IVec S_ 1 := constantI S_ 1 1#1
  let main_v7 : IVec S_ 1 := (fun x v => Host.reduce IntOp.andi x v reducesTo_S5632x2048_S_d0_1 h_S_) main_v6 main_c_1
  let main_v8 : IVec S_ 1 := andi main_v3 main_v7
  let main_v9 : FVec F S8192x5632 .bf16 := Host.absf main_arg3
  let main_cst_2 : FVec F S_ .bf16 := constant S_ .bf16 0x7F80#16
  let main_v10 : FVec F S8192x5632 .bf16 := broadcastInDim S8192x5632 ![] bcast_S_S8192x5632 main_cst_2
  let main_v11 : IVec S8192x5632 1 := cmpf .olt main_v9 main_v10
  let main_c_3 : IVec S_ 1 := constantI S_ 1 1#1
  let main_v12 : IVec S_ 1 := (fun x v => Host.reduce IntOp.andi x v reducesTo_S8192x5632_S_d0_1 h_S_) main_v11 main_c_3
  let main_v13 : IVec S_ 1 := andi main_v8 main_v12
  main_v13
-- ==== Kernel.lean ====
abbrev S8192x6144 : Shape := ⟨2, ![8192, 6144]⟩
abbrev S8192x2048 : Shape := ⟨2, ![8192, 2048]⟩
abbrev S8192x16x128 : Shape := ⟨3, ![8192, 16, 128]⟩
abbrev S16x8192x128 : Shape := ⟨3, ![16, 8192, 128]⟩
abbrev S16x8192x8192 : Shape := ⟨3, ![16, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S16x8192 : Shape := ⟨2, ![16, 8192]⟩
abbrev S8192x16 : Shape := ⟨2, ![8192, 16]⟩
abbrev S8192x16x1 : Shape := ⟨3, ![8192, 16, 1]⟩
abbrev S1024x128 : Shape := ⟨2, ![1024, 128]⟩
abbrev S8192x128 : Shape := ⟨2, ![8192, 128]⟩
abbrev S32x128x256 : Shape := ⟨3, ![32, 128, 256]⟩
abbrev S128x1024 : Shape := ⟨2, ![128, 1024]⟩
abbrev S1024x1 : Shape := ⟨2, ![1024, 1]⟩
abbrev S256x256 : Shape := ⟨2, ![256, 256]⟩
abbrev S256x128 : Shape := ⟨2, ![256, 128]⟩
abbrev S1024x256 : Shape := ⟨2, ![1024, 256]⟩
abbrev S1024 : Shape := ⟨1, ![1024]⟩
abbrev S1x128x256 : Shape := ⟨3, ![1, 128, 256]⟩
abbrev S128x256 : Shape := ⟨2, ![128, 256]⟩

abbrev nBuf : Space → Nat
  | .hbm => 51
  | .vmem => 18
  | .smem => 0
  | _ => 0

abbrev bufTy : (tb : Table) → Fin (tcTables nBuf tb) → BufTy
  | .hbm, ⟨0, _⟩ => ⟨S8192x6144, .bf16⟩
  | .hbm, ⟨1, _⟩ => ⟨S8192x2048, .bf16⟩
  | .hbm, ⟨2, _⟩ => ⟨S8192x2048, .bf16⟩
  | .hbm, ⟨3, _⟩ => ⟨S8192x2048, .f32⟩
  | .hbm, ⟨4, _⟩ => ⟨S8192x16x128, .f32⟩
  | .hbm, ⟨5, _⟩ => ⟨S16x8192x128, .f32⟩
  | .hbm, ⟨6, _⟩ => ⟨S8192x2048, .bf16⟩
  | .hbm, ⟨7, _⟩ => ⟨S8192x2048, .f32⟩
  | .hbm, ⟨8, _⟩ => ⟨S8192x16x128, .f32⟩
  | .hbm, ⟨9, _⟩ => ⟨S16x8192x128, .f32⟩
  | .hbm, ⟨10, _⟩ => ⟨S16x8192x8192, .f32⟩
  | .hbm, ⟨11, _⟩ => ⟨S_, .f32⟩
  | .hbm, ⟨12, _⟩ => ⟨S16x8192x8192, .f32⟩
  | .hbm, ⟨13, _⟩ => ⟨S16x8192x8192, .f32⟩
  | .hbm, ⟨14, _⟩ => ⟨S8192, .i32⟩
  | .hbm, ⟨15, _⟩ => ⟨S1x8192, .i32⟩
  | .hbm, ⟨16, _⟩ => ⟨S8192x1, .i32⟩
  | .hbm, ⟨17, _⟩ => ⟨S8192x8192, .i32⟩
  | .hbm, ⟨18, _⟩ => ⟨S8192x8192, .i32⟩
  | .hbm, ⟨19, _⟩ => ⟨S8192x8192, .i1⟩
  | .hbm, ⟨20, _⟩ => ⟨S16x8192x8192, .f32⟩
  | .hbm, ⟨21, _⟩ => ⟨S16x8192x8192, .f32⟩
  | .hbm, ⟨22, _⟩ => ⟨S_, .f32⟩
  | .hbm, ⟨23, _⟩ => ⟨S16x8192x8192, .f32⟩
  | .hbm, ⟨24, _⟩ => ⟨S16x8192x8192, .f32⟩
  | .hbm, ⟨25, _⟩ => ⟨S16x8192x8192, .f32⟩
  | .hbm, ⟨26, _⟩ => ⟨S16x8192x8192, .f32⟩
  | .hbm, ⟨27, _⟩ => ⟨S16x8192x8192, .i1⟩
  | .hbm, ⟨28, _⟩ => ⟨S16x8192x8192, .f32⟩
  | .hbm, ⟨29, _⟩ => ⟨S16x8192x8192, .f32⟩
  | .hbm, ⟨30, _⟩ => ⟨S16x8192x8192, .f32⟩
  | .hbm, ⟨31, _⟩ => ⟨S16x8192x8192, .f32⟩
  | .hbm, ⟨32, _⟩ => ⟨S16x8192x8192, .f32⟩
  | .hbm, ⟨33, _⟩ => ⟨S16x8192x8192, .f32⟩
  | .hbm, ⟨34, _⟩ => ⟨S16x8192x8192, .f32⟩
  | .hbm, ⟨35, _⟩ => ⟨S16x8192x8192, .f32⟩
  | .hbm, ⟨36, _⟩ => ⟨S16x8192x8192, .f32⟩
  | .hbm, ⟨37, _⟩ => ⟨S_, .f32⟩
  | .hbm, ⟨38, _⟩ => ⟨S_, .f32⟩
  | .hbm, ⟨39, _⟩ => ⟨S16x8192x8192, .i1⟩
  | .hbm, ⟨40, _⟩ => ⟨S16x8192x8192, .f32⟩
  | .hbm, ⟨41, _⟩ => ⟨S16x8192x8192, .f32⟩
  | .hbm, ⟨42, _⟩ => ⟨S_, .f32⟩
  | .hbm, ⟨43, _⟩ => ⟨S16x8192, .f32⟩
  | .hbm, ⟨44, _⟩ => ⟨S8192x16, .f32⟩
  | .hbm, ⟨45, _⟩ => ⟨S8192x16x1, .f32⟩
  | .hbm, ⟨46, _⟩ => ⟨S8192x16x128, .f32⟩
  | .hbm, ⟨47, _⟩ => ⟨S8192x2048, .f32⟩
  | .hbm, ⟨48, _⟩ => ⟨S8192x2048, .bf16⟩
  | .hbm, ⟨49, _⟩ => ⟨S8192x2048, .bf16⟩
  | .hbm, ⟨50, _⟩ => ⟨S8192x2048, .bf16⟩
  | .local _ .vmem, ⟨0, _⟩ => ⟨S1024x128, .bf16⟩
  | .local _ .vmem, ⟨1, _⟩ => ⟨S1024x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S1024x128, .f32⟩
  | .local _ .vmem, ⟨7, _⟩ => ⟨S1024x128, .f32⟩
  | .local _ .vmem, ⟨8, _⟩ => ⟨S1024x128, .bf16⟩
  | .local _ .vmem, ⟨9, _⟩ => ⟨S1024x128, .bf16⟩
  | .local _ .vmem, ⟨10, _⟩ => ⟨S1024x128, .bf16⟩
  | .local _ .vmem, ⟨11, _⟩ => ⟨S1024x128, .bf16⟩
  | .local _ .vmem, ⟨12, _⟩ => ⟨S8192x128, .bf16⟩
  | .local _ .vmem, ⟨13, _⟩ => ⟨S8192x128, .bf16⟩
  | .local _ .vmem, ⟨14, _⟩ => ⟨S8192x128, .bf16⟩
  | .local _ .vmem, ⟨15, _⟩ => ⟨S8192x128, .bf16⟩
  | .local _ .vmem, ⟨16, _⟩ => ⟨S32x128x256, .f32⟩
  | .local _ .vmem, ⟨17, _⟩ => ⟨S32x128x256, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v18 : Ref sig .tc := ⟨.hbm, 36, rfl⟩
abbrev main_cst_0 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v19 : Ref sig .tc := ⟨.hbm, 41, rfl⟩
abbrev main_cst_1 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25_0 : Ref sig .tc := ⟨.hbm, 48, rfl⟩
abbrev main_v25_1 : Ref sig .tc := ⟨.hbm, 49, rfl⟩
abbrev main_v25_2 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 8], ![false, false]⟩

@[reducible] def k0_t1_loop (i : grid0.Coords) : Scf.Loop 32 :=
  let c0_i32_11 : BitVec 32 := 0#32
  let arg1 : BitVec 32 := BitVec.ofNat 32 (i 1).val
  let c1_i32 : BitVec 32 := 1#32
  let v28 : BitVec 32 := Scalar.muli arg1 c1_i32
  let v30 : BitVec 32 := Scalar.subi v28 c0_i32_11
  let c1_i32_12 : BitVec 32 := 1#32
  let v32 : BitVec 32 := Scalar.divsi v30 c1_i32_12
  let v33 : BitVec 32 := Scalar.muli v32 c1_i32_12
  let v34 : BitVec 32 := Scalar.addi c0_i32_11 v33
  let c1_i32_13 : BitVec 32 := 1#32
  ⟨c0_i32_11, v34, c1_i32_13⟩
def k0_mult1 (i : grid0.Coords) (k0_t1 : Fin (k0_t1_loop i).trips) : BitVec 32 :=
  let c4_i32_132 : BitVec 32 := 4#32
  let c0_i32_11 : BitVec 32 := 0#32
  let c1_i32_13 : BitVec 32 := 1#32
  let arg12 : BitVec 32 := Scf.iv c0_i32_11 c1_i32_13 k0_t1
  let v353 : BitVec 32 := Scalar.muli c4_i32_132 arg12
  let c0_i32_133 : BitVec 32 := 0#32
  let v354 : BitVec 32 := Scalar.addi v353 c0_i32_133
  let c256_i32_134 : BitVec 32 := 256#32
  let v355 : BitVec 32 := Scalar.muli v354 c256_i32_134
  v355
def k0_off1 (i : grid0.Coords) (k0_t1 : Fin (k0_t1_loop i).trips) (c0_i32_133 : BitVec 32) : Fin 2 → Nat :=
  let c4_i32_132 : BitVec 32 := 4#32
  let c0_i32_11 : BitVec 32 := 0#32
  let c1_i32_13 : BitVec 32 := 1#32
  let arg12 : BitVec 32 := Scf.iv c0_i32_11 c1_i32_13 k0_t1
  let v353 : BitVec 32 := Scalar.muli c4_i32_132 arg12
  let v354 : BitVec 32 := Scalar.addi v353 c0_i32_133
  let c256_i32_134 : BitVec 32 := 256#32
  let v355 : BitVec 32 := Scalar.muli v354 c256_i32_134
  let v356 : BitVec 32 := v355
  let v357 : Index := Scalar.indexCast v356
  let c0_135 : Index := 0#32
  ![v357.toNat, 0]
def k0_off2 (i : grid0.Coords) (k0_t1 : Fin (k0_t1_loop i).trips) (c0_i32_133 : BitVec 32) : Fin 3 → Nat :=
  let c4_i32_132 : BitVec 32 := 4#32
  let c0_i32_11 : BitVec 32 := 0#32
  let c1_i32_13 : BitVec 32 := 1#32
  let arg12 : BitVec 32 := Scf.iv c0_i32_11 c1_i32_13 k0_t1
  let v353 : BitVec 32 := Scalar.muli c4_i32_132 arg12
  let v354 : BitVec 32 := Scalar.addi v353 c0_i32_133
  let v396 : Index := Scalar.indexCast v354
  let c0_146 : Index := 0#32
  let c0_147 : Index := 0#32
  ![v396.toNat, 0, 0]
def k0_mult2 (i : grid0.Coords) (k0_t1 : Fin (k0_t1_loop i).trips) : BitVec 32 :=
  let c4_i32_158 : BitVec 32 := 4#32
  let c0_i32_11 : BitVec 32 := 0#32
  let c1_i32_13 : BitVec 32 := 1#32
  let arg12 : BitVec 32 := Scf.iv c0_i32_11 c1_i32_13 k0_t1
  let v420 : BitVec 32 := Scalar.muli c4_i32_158 arg12
  let c1_i32_159 : BitVec 32 := 1#32
  let v421 : BitVec 32 := Scalar.addi v420 c1_i32_159
  let c256_i32_160 : BitVec 32 := 256#32
  let v422 : BitVec 32 := Scalar.muli v421 c256_i32_160
  v422
def k0_mult3 (i : grid0.Coords) (k0_t1 : Fin (k0_t1_loop i).trips) : BitVec 32 :=
  let c4_i32_184 : BitVec 32 := 4#32
  let c0_i32_11 : BitVec 32 := 0#32
  let c1_i32_13 : BitVec 32 := 1#32
  let arg12 : BitVec 32 := Scf.iv c0_i32_11 c1_i32_13 k0_t1
  let v487 : BitVec 32 := Scalar.muli c4_i32_184 arg12
  let c2_i32_185 : BitVec 32 := 2#32
  let v488 : BitVec 32 := Scalar.addi v487 c2_i32_185
  let c256_i32_186 : BitVec 32 := 256#32
  let v489 : BitVec 32 := Scalar.muli v488 c256_i32_186
  v489
def k0_mult4 (i : grid0.Coords) (k0_t1 : Fin (k0_t1_loop i).trips) : BitVec 32 :=
  let c4_i32_210 : BitVec 32 := 4#32
  let c0_i32_11 : BitVec 32 := 0#32
  let c1_i32_13 : BitVec 32 := 1#32
  let arg12 : BitVec 32 := Scf.iv c0_i32_11 c1_i32_13 k0_t1
  let v554 : BitVec 32 := Scalar.muli c4_i32_210 arg12
  let c3_i32_211 : BitVec 32 := 3#32
  let v555 : BitVec 32 := Scalar.addi v554 c3_i32_211
  let c256_i32_212 : BitVec 32 := 256#32
  let v556 : BitVec 32 := Scalar.muli v555 c256_i32_212
  v556
@[reducible] def k0_t2_loop (i : grid0.Coords) : Scf.Loop 32 :=
  let c0_i32_11 : BitVec 32 := 0#32
  let arg1 : BitVec 32 := BitVec.ofNat 32 (i 1).val
  let c1_i32 : BitVec 32 := 1#32
  let v28 : BitVec 32 := Scalar.muli arg1 c1_i32
  let v30 : BitVec 32 := Scalar.subi v28 c0_i32_11
  let c1_i32_12 : BitVec 32 := 1#32
  let v32 : BitVec 32 := Scalar.divsi v30 c1_i32_12
  let v33 : BitVec 32 := Scalar.muli v32 c1_i32_12
  let v34 : BitVec 32 := Scalar.addi c0_i32_11 v33
  let v31 : BitVec 32 := Scalar.addi c0_i32_11 v30
  let c1_i32_14 : BitVec 32 := 1#32
  ⟨v34, v31, c1_i32_14⟩
def k0_mult5 (i : grid0.Coords) (k0_t2 : Fin (k0_t2_loop i).trips) : BitVec 32 :=
  let c4_i32_132 : BitVec 32 := 4#32
  let c0_i32_11 : BitVec 32 := 0#32
  let arg1 : BitVec 32 := BitVec.ofNat 32 (i 1).val
  let c1_i32 : BitVec 32 := 1#32
  let v28 : BitVec 32 := Scalar.muli arg1 c1_i32
  let v30 : BitVec 32 := Scalar.subi v28 c0_i32_11
  let c1_i32_12 : BitVec 32 := 1#32
  let v32 : BitVec 32 := Scalar.divsi v30 c1_i32_12
  let v33 : BitVec 32 := Scalar.muli v32 c1_i32_12
  let v34 : BitVec 32 := Scalar.addi c0_i32_11 v33
  let c1_i32_14 : BitVec 32 := 1#32
  let arg12 : BitVec 32 := Scf.iv v34 c1_i32_14 k0_t2
  let v353 : BitVec 32 := Scalar.muli c4_i32_132 arg12
  let c0_i32_133 : BitVec 32 := 0#32
  let v354 : BitVec 32 := Scalar.addi v353 c0_i32_133
  let c256_i32_134 : BitVec 32 := 256#32
  let v355 : BitVec 32 := Scalar.muli v354 c256_i32_134
  v355
def k0_off3 (i : grid0.Coords) (k0_t2 : Fin (k0_t2_loop i).trips) (c0_i32_133 : BitVec 32) : Fin 2 → Nat :=
  let c4_i32_132 : BitVec 32 := 4#32
  let c0_i32_11 : BitVec 32 := 0#32
  let arg1 : BitVec 32 := BitVec.ofNat 32 (i 1).val
  let c1_i32 : BitVec 32 := 1#32
  let v28 : BitVec 32 := Scalar.muli arg1 c1_i32
  let v30 : BitVec 32 := Scalar.subi v28 c0_i32_11
  let c1_i32_12 : BitVec 32 := 1#32
  let v32 : BitVec 32 := Scalar.divsi v30 c1_i32_12
  let v33 : BitVec 32 := Scalar.muli v32 c1_i32_12
  let v34 : BitVec 32 := Scalar.addi c0_i32_11 v33
  let c1_i32_14 : BitVec 32 := 1#32
  let arg12 : BitVec 32 := Scf.iv v34 c1_i32_14 k0_t2
  let v353 : BitVec 32 := Scalar.muli c4_i32_132 arg12
  let v354 : BitVec 32 := Scalar.addi v353 c0_i32_133
  let c256_i32_134 : BitVec 32 := 256#32
  let v355 : BitVec 32 := Scalar.muli v354 c256_i32_134
  let v356 : BitVec 32 := v355
  let v357 : Index := Scalar.indexCast v356
  let c0_135 : Index := 0#32
  ![v357.toNat, 0]
def k0_off4 (i : grid0.Coords) (k0_t2 : Fin (k0_t2_loop i).trips) (c0_i32_133 : BitVec 32) : Fin 3 → Nat :=
  let c4_i32_132 : BitVec 32 := 4#32
  let c0_i32_11 : BitVec 32 := 0#32
  let arg1 : BitVec 32 := BitVec.ofNat 32 (i 1).val
  let c1_i32 : BitVec 32 := 1#32
  let v28 : BitVec 32 := Scalar.muli arg1 c1_i32
  let v30 : BitVec 32 := Scalar.subi v28 c0_i32_11
  let c1_i32_12 : BitVec 32 := 1#32
  let v32 : BitVec 32 := Scalar.divsi v30 c1_i32_12
  let v33 : BitVec 32 := Scalar.muli v32 c1_i32_12
  let v34 : BitVec 32 := Scalar.addi c0_i32_11 v33
  let c1_i32_14 : BitVec 32 := 1#32
  let arg12 : BitVec 32 := Scf.iv v34 c1_i32_14 k0_t2
  let v353 : BitVec 32 := Scalar.muli c4_i32_132 arg12
  let v354 : BitVec 32 := Scalar.addi v353 c0_i32_133
  let v396 : Index := Scalar.indexCast v354
  let c0_146 : Index := 0#32
  let c0_147 : Index := 0#32
  ![v396.toNat, 0, 0]
def k0_mult6 (i : grid0.Coords) (k0_t2 : Fin (k0_t2_loop i).trips) : BitVec 32 :=
  let c4_i32_158 : BitVec 32 := 4#32
  let c0_i32_11 : BitVec 32 := 0#32
  let arg1 : BitVec 32 := BitVec.ofNat 32 (i 1).val
  let c1_i32 : BitVec 32 := 1#32
  let v28 : BitVec 32 := Scalar.muli arg1 c1_i32
  let v30 : BitVec 32 := Scalar.subi v28 c0_i32_11
  let c1_i32_12 : BitVec 32 := 1#32
  let v32 : BitVec 32 := Scalar.divsi v30 c1_i32_12
  let v33 : BitVec 32 := Scalar.muli v32 c1_i32_12
  let v34 : BitVec 32 := Scalar.addi c0_i32_11 v33
  let c1_i32_14 : BitVec 32 := 1#32
  let arg12 : BitVec 32 := Scf.iv v34 c1_i32_14 k0_t2
  let v420 : BitVec 32 := Scalar.muli c4_i32_158 arg12
  let c1_i32_159 : BitVec 32 := 1#32
  let v421 : BitVec 32 := Scalar.addi v420 c1_i32_159
  let c256_i32_160 : BitVec 32 := 256#32
  let v422 : BitVec 32 := Scalar.muli v421 c256_i32_160
  v422
def k0_mult7 (i : grid0.Coords) (k0_t2 : Fin (k0_t2_loop i).trips) : BitVec 32 :=
  let c4_i32_184 : BitVec 32 := 4#32
  let c0_i32_11 : BitVec 32 := 0#32
  let arg1 : BitVec 32 := BitVec.ofNat 32 (i 1).val
  let c1_i32 : BitVec 32 := 1#32
  let v28 : BitVec 32 := Scalar.muli arg1 c1_i32
  let v30 : BitVec 32 := Scalar.subi v28 c0_i32_11
  let c1_i32_12 : BitVec 32 := 1#32
  let v32 : BitVec 32 := Scalar.divsi v30 c1_i32_12
  let v33 : BitVec 32 := Scalar.muli v32 c1_i32_12
  let v34 : BitVec 32 := Scalar.addi c0_i32_11 v33
  let c1_i32_14 : BitVec 32 := 1#32
  let arg12 : BitVec 32 := Scf.iv v34 c1_i32_14 k0_t2
  let v487 : BitVec 32 := Scalar.muli c4_i32_184 arg12
  let c2_i32_185 : BitVec 32 := 2#32
  let v488 : BitVec 32 := Scalar.addi v487 c2_i32_185
  let c256_i32_186 : BitVec 32 := 256#32
  let v489 : BitVec 32 := Scalar.muli v488 c256_i32_186
  v489
def k0_mult8 (i : grid0.Coords) (k0_t2 : Fin (k0_t2_loop i).trips) : BitVec 32 :=
  let c4_i32_210 : BitVec 32 := 4#32
  let c0_i32_11 : BitVec 32 := 0#32
  let arg1 : BitVec 32 := BitVec.ofNat 32 (i 1).val
  let c1_i32 : BitVec 32 := 1#32
  let v28 : BitVec 32 := Scalar.muli arg1 c1_i32
  let v30 : BitVec 32 := Scalar.subi v28 c0_i32_11
  let c1_i32_12 : BitVec 32 := 1#32
  let v32 : BitVec 32 := Scalar.divsi v30 c1_i32_12
  let v33 : BitVec 32 := Scalar.muli v32 c1_i32_12
  let v34 : BitVec 32 := Scalar.addi c0_i32_11 v33
  let c1_i32_14 : BitVec 32 := 1#32
  let arg12 : BitVec 32 := Scf.iv v34 c1_i32_14 k0_t2
  let v554 : BitVec 32 := Scalar.muli c4_i32_210 arg12
  let c3_i32_211 : BitVec 32 := 3#32
  let v555 : BitVec 32 := Scalar.addi v554 c3_i32_211
  let c256_i32_212 : BitVec 32 := 256#32
  let v556 : BitVec 32 := Scalar.muli v555 c256_i32_212
  v556
def k0_mult9 (i : grid0.Coords) : BitVec 32 :=
  let arg1 : BitVec 32 := BitVec.ofNat 32 (i 1).val
  let c4_i32 : BitVec 32 := 4#32
  let v37 : BitVec 32 := Scalar.muli arg1 c4_i32
  let c0_i32_15 : BitVec 32 := 0#32
  let v38 : BitVec 32 := Scalar.addi v37 c0_i32_15
  let c256_i32 : BitVec 32 := 256#32
  let v44 : BitVec 32 := Scalar.muli v38 c256_i32
  v44
def k0_off5 (i : grid0.Coords) (c0_i32_15 : BitVec 32) : Fin 2 → Nat :=
  let arg1 : BitVec 32 := BitVec.ofNat 32 (i 1).val
  let c4_i32 : BitVec 32 := 4#32
  let v37 : BitVec 32 := Scalar.muli arg1 c4_i32
  let v38 : BitVec 32 := Scalar.addi v37 c0_i32_15
  let c256_i32 : BitVec 32 := 256#32
  let v44 : BitVec 32 := Scalar.muli v38 c256_i32
  let v45 : BitVec 32 := v44
  let v46 : Index := Scalar.indexCast v45
  let c0_17 : Index := 0#32
  ![v46.toNat, 0]
def k0_off6 (i : grid0.Coords) (c0_i32_15 : BitVec 32) : Fin 3 → Nat :=
  let arg1 : BitVec 32 := BitVec.ofNat 32 (i 1).val
  let c4_i32 : BitVec 32 := 4#32
  let v37 : BitVec 32 := Scalar.muli arg1 c4_i32
  let v38 : BitVec 32 := Scalar.addi v37 c0_i32_15
  let v91 : Index := Scalar.indexCast v38
  let c0_31 : Index := 0#32
  let c0_32 : Index := 0#32
  ![v91.toNat, 0, 0]
def k0_mult10 (i : grid0.Coords) : BitVec 32 :=
  let arg1 : BitVec 32 := BitVec.ofNat 32 (i 1).val
  let c4_i32_43 : BitVec 32 := 4#32
  let v115 : BitVec 32 := Scalar.muli arg1 c4_i32_43
  let c1_i32_44 : BitVec 32 := 1#32
  let v116 : BitVec 32 := Scalar.addi v115 c1_i32_44
  let c256_i32_46 : BitVec 32 := 256#32
  let v122 : BitVec 32 := Scalar.muli v116 c256_i32_46
  v122
def k0_mult11 (i : grid0.Coords) : BitVec 32 :=
  let arg1 : BitVec 32 := BitVec.ofNat 32 (i 1).val
  let c4_i32_73 : BitVec 32 := 4#32
  let v193 : BitVec 32 := Scalar.muli arg1 c4_i32_73
  let c2_i32 : BitVec 32 := 2#32
  let v194 : BitVec 32 := Scalar.addi v193 c2_i32
  let c256_i32_74 : BitVec 32 := 256#32
  let v200 : BitVec 32 := Scalar.muli v194 c256_i32_74
  v200
def k0_mult12 (i : grid0.Coords) : BitVec 32 :=
  let arg1 : BitVec 32 := BitVec.ofNat 32 (i 1).val
  let c4_i32_101 : BitVec 32 := 4#32
  let v271 : BitVec 32 := Scalar.muli arg1 c4_i32_101
  let c3_i32 : BitVec 32 := 3#32
  let v272 : BitVec 32 := Scalar.addi v271 c3_i32
  let c256_i32_102 : BitVec 32 := 256#32
  let v278 : BitVec 32 := Scalar.muli v272 c256_i32_102
  v278
def k0_cond2 (i : grid0.Coords) : BitVec 1 :=
  let arg1 : BitVec 32 := BitVec.ofNat 32 (i 1).val
  let c7_i32 : BitVec 32 := 7#32
  let v350 : BitVec 1 := Scalar.cmpi .eq arg1 c7_i32
  let v351 : BitVec 32 := Scalar.extui v350
  let c0_i32_131 : BitVec 32 := 0#32
  let v352 : BitVec 1 := Scalar.cmpi .ne v351 c0_i32_131
  v352

@[reducible] def k0_t3_loop : Scf.Loop 32 :=
  let c0_i32_132 : BitVec 32 := 0#32
  let c32_i32 : BitVec 32 := 32#32
  let v353 : BitVec 32 := Scalar.addi c0_i32_132 c32_i32
  let c1_i32_133 : BitVec 32 := 1#32
  ⟨c0_i32_132, v353, c1_i32_133⟩
def k0_mult13 (k0_t3 : Fin k0_t3_loop.trips) : BitVec 32 :=
  let c0_i32_132 : BitVec 32 := 0#32
  let c1_i32_133 : BitVec 32 := 1#32
  let arg12 : BitVec 32 := Scf.iv c0_i32_132 c1_i32_133 k0_t3
  let c256_i32_135 : BitVec 32 := 256#32
  let v354 : BitVec 32 := Scalar.muli arg12 c256_i32_135
  v354
def k0_off7 (k0_t3 : Fin k0_t3_loop.trips) : Fin 3 → Nat :=
  let c0_i32_132 : BitVec 32 := 0#32
  let c1_i32_133 : BitVec 32 := 1#32
  let arg12 : BitVec 32 := Scf.iv c0_i32_132 c1_i32_133 k0_t3
  let v356 : Index := Scalar.indexCast arg12
  let c0_136 : Index := 0#32
  let c0_137 : Index := 0#32
  ![v356.toNat, 0, 0]
def k0_off8 (k0_t3 : Fin k0_t3_loop.trips) : Fin 2 → Nat :=
  let c0_i32_132 : BitVec 32 := 0#32
  let c1_i32_133 : BitVec 32 := 1#32
  let arg12 : BitVec 32 := Scf.iv c0_i32_132 c1_i32_133 k0_t3
  let c256_i32_135 : BitVec 32 := 256#32
  let v354 : BitVec 32 := Scalar.muli arg12 c256_i32_135
  let v355 : BitVec 32 := v354
  let v363 : Index := Scalar.indexCast v355
  let c0_139 : Index := 0#32
  ![v363.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8192x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8192x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S8192x6144 : Shape := ⟨2, ![8192, 6144]⟩
abbrev S8192x2048 : Shape := ⟨2, ![8192, 2048]⟩
abbrev S8192x16x128 : Shape := ⟨3, ![8192, 16, 128]⟩
abbrev S16x8192x128 : Shape := ⟨3, ![16, 8192, 128]⟩
abbrev S8192 : Shape := ⟨1, ![8192]⟩
abbrev S16x8192x8192 : Shape := ⟨3, ![16, 8192, 8192]⟩
abbrev S_ : Shape := ⟨0, ![]⟩
abbrev S1x8192 : Shape := ⟨2, ![1, 8192]⟩
abbrev S8192x1 : Shape := ⟨2, ![8192, 1]⟩
abbrev S8192x8192 : Shape := ⟨2, ![8192, 8192]⟩
abbrev S16x128x8192 : Shape := ⟨3, ![16, 128, 8192]⟩

abbrev nBuf : Space → Nat
  | .hbm => 182
  | .vmem => 0
  | .smem => 0
  | _ => 0

abbrev hbmTy0_0 (i : Nat) : BufTy := match i % 128 with
  | 0 => ⟨S8192x6144, .bf16⟩
  | 1 => ⟨S8192x2048, .bf16⟩
  | 2 => ⟨S8192x2048, .bf16⟩
  | 3 => ⟨S8192x2048, .f32⟩
  | 4 => ⟨S8192x16x128, .f32⟩
  | 5 => ⟨S16x8192x128, .f32⟩
  | 6 => ⟨S8192x2048, .bf16⟩
  | 7 => ⟨S8192x2048, .f32⟩
  | 8 => ⟨S8192x16x128, .f32⟩
  | 9 => ⟨S16x8192x128, .f32⟩
  | 10 => ⟨S8192x2048, .bf16⟩
  | 11 => ⟨S8192x2048, .f32⟩
  | 12 => ⟨S8192x16x128, .f32⟩
  | 13 => ⟨S16x8192x128, .f32⟩
  | 14 => ⟨S8192, .i32⟩
  | 15 => ⟨S16x8192x8192, .f32⟩
  | 16 => ⟨S_, .f32⟩
  | 17 => ⟨S16x8192x8192, .f32⟩
  | 18 => ⟨S16x8192x8192, .f32⟩
  | 19 => ⟨S1x8192, .i32⟩
  | 20 => ⟨S8192x1, .i32⟩
  | 21 => ⟨S8192x8192, .i32⟩
  | 22 => ⟨S8192x8192, .i32⟩
  | 23 => ⟨S8192x8192, .i1⟩
  | 24 => ⟨S16x8192x8192, .f32⟩
  | 25 => ⟨S_, .f32⟩
  | 26 => ⟨S16x8192x8192, .f32⟩
  | 27 => ⟨S16x8192x8192, .f32⟩
  | 28 => ⟨S16x8192x8192, .f32⟩
  | 29 => ⟨S16x8192x8192, .f32⟩
  | 30 => ⟨S16x8192x8192, .i1⟩
  | 31 => ⟨S16x8192x8192, .f32⟩
  | 32 => ⟨S16x8192x8192, .f32⟩
  | 33 => ⟨S16x8192x8192, .f32⟩
  | 34 => ⟨S16x8192x8192, .f32⟩
  | 35 => ⟨S16x8192x8192, .f32⟩
  | 36 => ⟨S16x8192x8192, .f32⟩
  | 37 => ⟨S16x8192x8192, .f32⟩
  | 38 => ⟨S16x8192x8192, .f32⟩
  | 39 => ⟨S_, .f32⟩
  | 40 => ⟨S16x8192x8192, .f32⟩
  | 41 => ⟨S16x8192x8192, .i1⟩
  | 42 => ⟨S_, .f32⟩
  | 43 => ⟨S16x8192x8192, .f32⟩
  | 44 => ⟨S16x8192x8192, .f32⟩
  | 45 => ⟨S_, .f32⟩
  | 46 => ⟨S16x8192x8192, .f32⟩
  | 47 => ⟨S16x8192x8192, .i1⟩
  | 48 => ⟨S_, .f32⟩
  | 49 => ⟨S16x8192x8192, .f32⟩
  | 50 => ⟨S16x8192x8192, .f32⟩
  | 51 => ⟨S16x8192x8192, .f32⟩
  | 52 => ⟨S16x8192x8192, .f32⟩
  | 53 => ⟨S_, .f32⟩
  | 54 => ⟨S_, .f32⟩
  | 55 => ⟨S_, .i1⟩
  | 56 => ⟨S_, .f32⟩
  | 57 => ⟨S_, .f32⟩
  | 58 => ⟨S_, .f32⟩
  | 59 => ⟨S_, .f32⟩
  | 60 => ⟨S16x8192x8192, .f32⟩
  | 61 => ⟨S16x8192x8192, .i1⟩
  | 62 => ⟨S_, .f32⟩
  | 63 => ⟨S16x8192x8192, .f32⟩
  | 64 => ⟨S16x8192x8192, .f32⟩
  | 65 => ⟨S16x8192x8192, .f32⟩
  | 66 => ⟨S16x8192x8192, .f32⟩
  | 67 => ⟨S16x8192x8192, .f32⟩
  | 68 => ⟨S_, .f32⟩
  | 69 => ⟨S16x8192x8192, .f32⟩
  | 70 => ⟨S16x8192x8192, .f32⟩
  | 71 => ⟨S16x8192x8192, .f32⟩
  | 72 => ⟨S16x8192x8192, .f32⟩
  | 73 => ⟨S16x8192x8192, .f32⟩
  | 74 => ⟨S_, .f32⟩
  | 75 => ⟨S16x8192x8192, .f32⟩
  | 76 => ⟨S16x8192x8192, .f32⟩
  | 77 => ⟨S16x8192x8192, .f32⟩
  | 78 => ⟨S16x8192x8192, .f32⟩
  | 79 => ⟨S16x8192x8192, .i1⟩
  | 80 => ⟨S16x8192x8192, .f32⟩
  | 81 => ⟨S16x8192x8192, .f32⟩
  | 82 => ⟨S16x8192x8192, .f32⟩
  | 83 => ⟨S16x8192x8192, .f32⟩
  | 84 => ⟨S16x8192x8192, .f32⟩
  | 85 => ⟨S16x8192x8192, .f32⟩
  | 86 => ⟨S16x8192x8192, .f32⟩
  | 87 => ⟨S16x8192x8192, .f32⟩
  | 88 => ⟨S_, .f32⟩
  | 89 => ⟨S16x8192x8192, .f32⟩
  | 90 => ⟨S16x8192x8192, .i1⟩
  | 91 => ⟨S_, .f32⟩
  | 92 => ⟨S16x8192x8192, .f32⟩
  | 93 => ⟨S16x8192x8192, .f32⟩
  | 94 => ⟨S_, .f32⟩
  | 95 => ⟨S16x8192x8192, .f32⟩
  | 96 => ⟨S16x8192x8192, .i1⟩
  | 97 => ⟨S_, .f32⟩
  | 98 => ⟨S16x8192x8192, .f32⟩
  | 99 => ⟨S16x8192x8192, .f32⟩
  | 100 => ⟨S16x8192x8192, .f32⟩
  | 101 => ⟨S16x8192x8192, .f32⟩
  | 102 => ⟨S_, .f32⟩
  | 103 => ⟨S_, .f32⟩
  | 104 => ⟨S_, .i1⟩
  | 105 => ⟨S_, .f32⟩
  | 106 => ⟨S_, .f32⟩
  | 107 => ⟨S_, .f32⟩
  | 108 => ⟨S_, .f32⟩
  | 109 => ⟨S16x8192x8192, .f32⟩
  | 110 => ⟨S16x8192x8192, .i1⟩
  | 111 => ⟨S_, .f32⟩
  | 112 => ⟨S16x8192x8192, .f32⟩
  | 113 => ⟨S16x8192x8192, .f32⟩
  | 114 => ⟨S16x8192x8192, .f32⟩
  | 115 => ⟨S16x8192x8192, .f32⟩
  | 116 => ⟨S16x8192x8192, .f32⟩
  | 117 => ⟨S_, .f32⟩
  | 118 => ⟨S16x8192x8192, .f32⟩
  | 119 => ⟨S16x8192x8192, .f32⟩
  | 120 => ⟨S16x8192x8192, .f32⟩
  | 121 => ⟨S_, .f32⟩
  | 122 => ⟨S_, .f32⟩
  | 123 => ⟨S16x8192x8192, .i1⟩
  | 124 => ⟨S16x8192x8192, .f32⟩
  | 125 => ⟨S16x8192x8192, .f32⟩
  | 126 => ⟨S_, .f32⟩
  | 127 => ⟨S16x8192x8192, .f32⟩
  | _ => ⟨S8192x6144, .bf16⟩

abbrev hbmTy0_1 (i : Nat) : BufTy := match i % 128 with
  | 0 => ⟨S_, .f32⟩
  | 1 => ⟨S_, .f32⟩
  | 2 => ⟨S16x8192x8192, .f32⟩
  | 3 => ⟨S16x8192x8192, .f32⟩
  | 4 => ⟨S16x8192x8192, .f32⟩
  | 5 => ⟨S16x8192x8192, .f32⟩
  | 6 => ⟨S_, .f32⟩
  | 7 => ⟨S_, .f32⟩
  | 8 => ⟨S16x8192x8192, .i1⟩
  | 9 => ⟨S16x8192x8192, .f32⟩
  | 10 => ⟨S16x8192x8192, .f32⟩
  | 11 => ⟨S_, .f32⟩
  | 12 => ⟨S16x8192x8192, .f32⟩
  | 13 => ⟨S16x8192x128, .f32⟩
  | 14 => ⟨S8192x2048, .f32⟩
  | 15 => ⟨S8192x16x128, .f32⟩
  | 16 => ⟨S16x8192x128, .f32⟩
  | 17 => ⟨S16x128x8192, .f32⟩
  | 18 => ⟨S16x8192x128, .f32⟩
  | 19 => ⟨S16x8192x8192, .f32⟩
  | 20 => ⟨S_, .f32⟩
  | 21 => ⟨S16x8192x8192, .f32⟩
  | 22 => ⟨S16x8192x8192, .f32⟩
  | 23 => ⟨S16x8192x8192, .f32⟩
  | 24 => ⟨S16x8192x8192, .f32⟩
  | 25 => ⟨S_, .f32⟩
  | 26 => ⟨S_, .f32⟩
  | 27 => ⟨S16x8192x8192, .f32⟩
  | 28 => ⟨S16x8192x8192, .f32⟩
  | 29 => ⟨S_, .f32⟩
  | 30 => ⟨S16x8192x8192, .f32⟩
  | 31 => ⟨S16x8192x8192, .f32⟩
  | 32 => ⟨S16x8192x8192, .f32⟩
  | 33 => ⟨S16x8192x8192, .f32⟩
  | 34 => ⟨S16x8192x8192, .f32⟩
  | 35 => ⟨S16x8192x8192, .f32⟩
  | 36 => ⟨S16x8192x8192, .f32⟩
  | 37 => ⟨S16x8192x8192, .f32⟩
  | 38 => ⟨S16x8192x8192, .f32⟩
  | 39 => ⟨S16x8192x8192, .f32⟩
  | 40 => ⟨S_, .f32⟩
  | 41 => ⟨S16x8192x8192, .f32⟩
  | 42 => ⟨S16x8192x8192, .f32⟩
  | 43 => ⟨S16x8192x128, .f32⟩
  | 44 => ⟨S16x8192x128, .f32⟩
  | 45 => ⟨S8192x16x128, .f32⟩
  | 46 => ⟨S8192x2048, .f32⟩
  | 47 => ⟨S8192x2048, .bf16⟩
  | 48 => ⟨S8192x16x128, .f32⟩
  | 49 => ⟨S8192x2048, .f32⟩
  | 50 => ⟨S8192x2048, .bf16⟩
  | 51 => ⟨S8192x16x128, .f32⟩
  | 52 => ⟨S8192x2048, .f32⟩
  | 53 => ⟨S8192x2048, .bf16⟩
  | _ => ⟨S8192x6144, .bf16⟩

abbrev hbmTy (i : Nat) : BufTy := match i / 128 with
  | 0 => hbmTy0_0 i
  | 1 => hbmTy0_1 i
  | _ => ⟨S8192x6144, .bf16⟩

abbrev bufTy : (tb : Table) → Fin (tcTables nBuf tb) → BufTy
  | .hbm, ⟨i, _⟩ => hbmTy i
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_cst : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_call0_v0 : Ref sig .tc := ⟨.hbm, 24, rfl⟩
abbrev main_call0_call0_cst : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_v9 : Ref sig .tc := ⟨.hbm, 35, rfl⟩
abbrev main_call0_call0_v10 : Ref sig .tc := ⟨.hbm, 36, rfl⟩
abbrev main_call0_call0_v11 : Ref sig .tc := ⟨.hbm, 37, rfl⟩
abbrev main_call0_v1_0 : Ref sig .tc := ⟨.hbm, 38, rfl⟩
abbrev main_call0_call0_cst_0 : Ref sig .tc := ⟨.hbm, 39, rfl⟩
abbrev main_call0_call0_v13 : Ref sig .tc := ⟨.hbm, 40, rfl⟩
abbrev main_call0_call0_v14 : Ref sig .tc := ⟨.hbm, 41, rfl⟩
abbrev main_call0_call0_cst_1 : Ref sig .tc := ⟨.hbm, 42, rfl⟩
abbrev main_call0_call0_v15 : Ref sig .tc := ⟨.hbm, 43, rfl⟩
abbrev main_call0_call0_v16 : Ref sig .tc := ⟨.hbm, 44, rfl⟩
abbrev main_call0_call0_cst_2 : Ref sig .tc := ⟨.hbm, 45, rfl⟩
abbrev main_call0_call0_v17 : Ref sig .tc := ⟨.hbm, 46, rfl⟩
abbrev main_call0_call0_v18 : Ref sig .tc := ⟨.hbm, 47, rfl⟩
abbrev main_call0_call0_cst_3 : Ref sig .tc := ⟨.hbm, 48, rfl⟩
abbrev main_call0_call0_v19 : Ref sig .tc := ⟨.hbm, 49, rfl⟩
abbrev main_call0_call0_v20 : Ref sig .tc := ⟨.hbm, 50, rfl⟩
abbrev main_call0_call0_v21 : Ref sig .tc := ⟨.hbm, 51, rfl⟩
abbrev main_v21_1 : Ref sig .tc := ⟨.hbm, 52, rfl⟩
abbrev main_call0_call0_cst_4 : Ref sig .tc := ⟨.hbm, 53, rfl⟩
abbrev main_call0_call0_cst_5 : Ref sig .tc := ⟨.hbm, 54, rfl⟩
abbrev main_call0_call0_v23 : Ref sig .tc := ⟨.hbm, 55, rfl⟩
abbrev main_call0_call0_cst_6 : Ref sig .tc := ⟨.hbm, 56, rfl⟩
abbrev main_call0_call0_cst_7 : Ref sig .tc := ⟨.hbm, 57, rfl⟩
abbrev main_call0_call0_v24 : Ref sig .tc := ⟨.hbm, 58, rfl⟩
abbrev main_call0_call0_cst_8 : Ref sig .tc := ⟨.hbm, 59, rfl⟩
abbrev main_call0_call0_v25 : Ref sig .tc := ⟨.hbm, 60, rfl⟩
abbrev main_call0_call0_v26 : Ref sig .tc := ⟨.hbm, 61, rfl⟩
abbrev main_call0_call0_cst_9 : Ref sig .tc := ⟨.hbm, 62, rfl⟩
abbrev main_call0_call0_v27 : Ref sig .tc := ⟨.hbm, 63, rfl⟩
abbrev main_call0_call0_v28 : Ref sig .tc := ⟨.hbm, 64, rfl⟩
abbrev main_call0_call0_v29 : Ref sig .tc := ⟨.hbm, 65, rfl⟩
abbrev main_call0_call0_v30 : Ref sig .tc := ⟨.hbm, 66, rfl⟩
abbrev main_call0_call0_v31 : Ref sig .tc := ⟨.hbm, 67, rfl⟩
abbrev main_call0_call0_cst_10 : Ref sig .tc := ⟨.hbm, 68, rfl⟩
abbrev main_call0_call0_v32 : Ref sig .tc := ⟨.hbm, 69, rfl⟩
abbrev main_v21_2 : Ref sig .tc := ⟨.hbm, 70, rfl⟩
abbrev main_v21_0 : Ref sig .tc := ⟨.hbm, 71, rfl⟩
abbrev main_v22 : Ref sig .tc := ⟨.hbm, 72, rfl⟩
abbrev main_call1_v0 : Ref sig .tc := ⟨.hbm, 73, rfl⟩
abbrev main_call1_call0_cst : Ref sig .tc := ⟨.hbm, 74, rfl⟩
abbrev main_call1_call0_v0 : Ref sig .tc := ⟨.hbm, 75, rfl⟩
abbrev main_call1_call0_v1 : Ref sig .tc := ⟨.hbm, 76, rfl⟩
abbrev main_call1_call0_v2 : Ref sig .tc := ⟨.hbm, 77, rfl⟩
abbrev main_call1_call0_v3 : Ref sig .tc := ⟨.hbm, 78, rfl⟩
abbrev main_call1_call0_v4 : Ref sig .tc := ⟨.hbm, 79, rfl⟩
abbrev main_call1_call0_v5 : Ref sig .tc := ⟨.hbm, 80, rfl⟩
abbrev main_call1_call0_v6 : Ref sig .tc := ⟨.hbm, 81, rfl⟩
abbrev main_call1_call0_v7 : Ref sig .tc := ⟨.hbm, 82, rfl⟩
abbrev main_call1_call0_v8 : Ref sig .tc := ⟨.hbm, 83, rfl⟩
abbrev main_call1_call0_v9 : Ref sig .tc := ⟨.hbm, 84, rfl⟩
abbrev main_call1_call0_v10 : Ref sig .tc := ⟨.hbm, 85, rfl⟩
abbrev main_call1_call0_v11 : Ref sig .tc := ⟨.hbm, 86, rfl⟩
abbrev main_call1_v1_0 : Ref sig .tc := ⟨.hbm, 87, rfl⟩
abbrev main_call1_call0_cst_0 : Ref sig .tc := ⟨.hbm, 88, rfl⟩
abbrev main_call1_call0_v13 : Ref sig .tc := ⟨.hbm, 89, rfl⟩
abbrev main_call1_call0_v14 : Ref sig .tc := ⟨.hbm, 90, rfl⟩
abbrev main_call1_call0_cst_1 : Ref sig .tc := ⟨.hbm, 91, rfl⟩
abbrev main_call1_call0_v15 : Ref sig .tc := ⟨.hbm, 92, rfl⟩
abbrev main_call1_call0_v16 : Ref sig .tc := ⟨.hbm, 93, rfl⟩
abbrev main_call1_call0_cst_2 : Ref sig .tc := ⟨.hbm, 94, rfl⟩
abbrev main_call1_call0_v17 : Ref sig .tc := ⟨.hbm, 95, rfl⟩
abbrev main_call1_call0_v18 : Ref sig .tc := ⟨.hbm, 96, rfl⟩
abbrev main_call1_call0_cst_3 : Ref sig .tc := ⟨.hbm, 97, rfl⟩
abbrev main_call1_call0_v19 : Ref sig .tc := ⟨.hbm, 98, rfl⟩
abbrev main_call1_call0_v20 : Ref sig .tc := ⟨.hbm, 99, rfl⟩
abbrev main_call1_call0_v21 : Ref sig .tc := ⟨.hbm, 100, rfl⟩
abbrev main_v23_1 : Ref sig .tc := ⟨.hbm, 101, rfl⟩
abbrev main_call1_call0_cst_4 : Ref sig .tc := ⟨.hbm, 102, rfl⟩
abbrev main_call1_call0_cst_5 : Ref sig .tc := ⟨.hbm, 103, rfl⟩
abbrev main_call1_call0_v23 : Ref sig .tc := ⟨.hbm, 104, rfl⟩
abbrev main_call1_call0_cst_6 : Ref sig .tc := ⟨.hbm, 105, rfl⟩
abbrev main_call1_call0_cst_7 : Ref sig .tc := ⟨.hbm, 106, rfl⟩
abbrev main_call1_call0_v24 : Ref sig .tc := ⟨.hbm, 107, rfl⟩
abbrev main_call1_call0_cst_8 : Ref sig .tc := ⟨.hbm, 108, rfl⟩
abbrev main_call1_call0_v25 : Ref sig .tc := ⟨.hbm, 109, rfl⟩
abbrev main_call1_call0_v26 : Ref sig .tc := ⟨.hbm, 110, rfl⟩
abbrev main_call1_call0_cst_9 : Ref sig .tc := ⟨.hbm, 111, rfl⟩
abbrev main_call1_call0_v27 : Ref sig .tc := ⟨.hbm, 112, rfl⟩
abbrev main_call1_call0_v28 : Ref sig .tc := ⟨.hbm, 113, rfl⟩
abbrev main_call1_call0_v29 : Ref sig .tc := ⟨.hbm, 114, rfl⟩
abbrev main_call1_call0_v30 : Ref sig .tc := ⟨.hbm, 115, rfl⟩
abbrev main_call1_call0_v31 : Ref sig .tc := ⟨.hbm, 116, rfl⟩
abbrev main_call1_call0_cst_10 : Ref sig .tc := ⟨.hbm, 117, rfl⟩
abbrev main_call1_call0_v32 : Ref sig .tc := ⟨.hbm, 118, rfl⟩
abbrev main_v23_2 : Ref sig .tc := ⟨.hbm, 119, rfl⟩
abbrev main_v23_0 : Ref sig .tc := ⟨.hbm, 120, rfl⟩
abbrev main_cst_0 : Ref sig .tc := ⟨.hbm, 121, rfl⟩
abbrev main_call2_v0 : Ref sig .tc := ⟨.hbm, 122, rfl⟩
abbrev main_v24_1 : Ref sig .tc := ⟨.hbm, 123, rfl⟩
abbrev main_call2_v2 : Ref sig .tc := ⟨.hbm, 124, rfl⟩
abbrev main_v24_0 : Ref sig .tc := ⟨.hbm, 125, rfl⟩
abbrev main_call2_cst : Ref sig .tc := ⟨.hbm, 126, rfl⟩
abbrev main_v24_2 : Ref sig .tc := ⟨.hbm, 127, rfl⟩
abbrev main_call3_cst : Ref sig .tc := ⟨.hbm, 128, rfl⟩
abbrev main_call3_v0 : Ref sig .tc := ⟨.hbm, 129, rfl⟩
abbrev main_v25 : Ref sig .tc := ⟨.hbm, 130, rfl⟩
abbrev main_v26 : Ref sig .tc := ⟨.hbm, 131, rfl⟩
abbrev main_v27 : Ref sig .tc := ⟨.hbm, 132, rfl⟩
abbrev main_v28 : Ref sig .tc := ⟨.hbm, 133, rfl⟩
abbrev main_cst_1 : Ref sig .tc := ⟨.hbm, 134, rfl⟩
abbrev main_call4_v0 : Ref sig .tc := ⟨.hbm, 135, rfl⟩
abbrev main_v29_1 : Ref sig .tc := ⟨.hbm, 136, rfl⟩
abbrev main_call4_v2 : Ref sig .tc := ⟨.hbm, 137, rfl⟩
abbrev main_v29_0 : Ref sig .tc := ⟨.hbm, 138, rfl⟩
abbrev main_call4_cst : Ref sig .tc := ⟨.hbm, 139, rfl⟩
abbrev main_v29_2 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev main_v34 : Ref sig .tc := ⟨.hbm, 145, rfl⟩
abbrev main_v35 : Ref sig .tc := ⟨.hbm, 146, rfl⟩
abbrev main_v36 : Ref sig .tc := ⟨.hbm, 147, rfl⟩
abbrev main_call5_cst : Ref sig .tc := ⟨.hbm, 148, rfl⟩
abbrev main_call5_v0 : Ref sig .tc := ⟨.hbm, 149, rfl⟩
abbrev main_v37 : Ref sig .tc := ⟨.hbm, 150, rfl⟩
abbrev main_v38 : Ref sig .tc := ⟨.hbm, 151, rfl⟩
abbrev main_v39 : Ref sig .tc := ⟨.hbm, 152, rfl⟩
abbrev main_call6_cst : Ref sig .tc := ⟨.hbm, 153, rfl⟩
abbrev main_call6_v0 : Ref sig .tc := ⟨.hbm, 154, rfl⟩
abbrev main_v40 : Ref sig .tc := ⟨.hbm, 155, rfl⟩
abbrev main_v41 : Ref sig .tc := ⟨.hbm, 156, rfl⟩
abbrev main_call7_cst : Ref sig .tc := ⟨.hbm, 157, rfl⟩
abbrev main_call7_v0 : Ref sig .tc := ⟨.hbm, 158, rfl⟩
abbrev main_v42 : Ref sig .tc := ⟨.hbm, 159, rfl⟩
abbrev main_call8_v0 : Ref sig .tc := ⟨.hbm, 160, rfl⟩
abbrev main_call8_v1 : Ref sig .tc := ⟨.hbm, 161, rfl⟩
abbrev main_v43 : Ref sig .tc := ⟨.hbm, 162, rfl⟩
abbrev main_v44 : Ref sig .tc := ⟨.hbm, 163, rfl⟩
abbrev main_call9_v0 : Ref sig .tc := ⟨.hbm, 164, rfl⟩
abbrev main_call9_v1 : Ref sig .tc := ⟨.hbm, 165, rfl⟩
abbrev main_v45 : Ref sig .tc := ⟨.hbm, 166, rfl⟩
abbrev main_v46 : Ref sig .tc := ⟨.hbm, 167, rfl⟩
abbrev main_cst_2 : Ref sig .tc := ⟨.hbm, 168, rfl⟩
abbrev main_v47 : Ref sig .tc := ⟨.hbm, 169, rfl⟩
abbrev main_v48 : Ref sig .tc := ⟨.hbm, 170, rfl⟩
abbrev main_v49 : Ref sig .tc := ⟨.hbm, 171, rfl⟩
abbrev main_v50 : Ref sig .tc := ⟨.hbm, 172, rfl⟩
abbrev main_v51 : Ref sig .tc := ⟨.hbm, 173, rfl⟩
abbrev main_v52 : Ref sig .tc := ⟨.hbm, 174, rfl⟩
abbrev main_v53 : Ref sig .tc := ⟨.hbm, 175, rfl⟩
abbrev main_v54 : Ref sig .tc := ⟨.hbm, 176, rfl⟩
abbrev main_v55 : Ref sig .tc := ⟨.hbm, 177, rfl⟩
abbrev main_v56 : Ref sig .tc := ⟨.hbm, 178, rfl⟩
abbrev main_v57 : Ref sig .tc := ⟨.hbm, 179, rfl⟩
abbrev main_v58 : Ref sig .tc := ⟨.hbm, 180, rfl⟩
abbrev main_v59 : Ref sig .tc := ⟨.hbm, 181, rfl⟩

abbrev nD : Nat := 1
abbrev τ : Topo := Topo.v7x

variable {F : FTy → Type} [FloatOps F]
-- ==== Kernel2.lean ====
abbrev S8192x2048 : Shape := ⟨2, ![8192, 2048]⟩
abbrev S5632x2048 : Shape := ⟨2, ![5632, 2048]⟩
abbrev S8192x5632 : Shape := ⟨2, ![8192, 5632]⟩
abbrev S1024x2048 : Shape := ⟨2, ![1024, 2048]⟩
abbrev S512x2048 : Shape := ⟨2, ![512, 2048]⟩
abbrev S1024x512 : Shape := ⟨2, ![1024, 512]⟩
abbrev S256x2048 : Shape := ⟨2, ![256, 2048]⟩
abbrev S256x512 : Shape := ⟨2, ![256, 512]⟩

abbrev nBuf : Space → Nat
  | .hbm => 6
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S8192x5632, .bf16⟩
  | .hbm, ⟨3, _⟩ => ⟨S8192x5632, .bf16⟩
  | .hbm, ⟨4, _⟩ => ⟨S8192x5632, .bf16⟩
  | .hbm, ⟨5, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![11, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S8192x2048 : Shape := ⟨2, ![8192, 2048]⟩
abbrev S5632x2048 : Shape := ⟨2, ![5632, 2048]⟩
abbrev S8192x5632 : Shape := ⟨2, ![8192, 5632]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S8192x5632, .bf16⟩
  | .hbm, ⟨3, _⟩ => ⟨S8192x5632, .bf16⟩
  | .hbm, ⟨4, _⟩ => ⟨S5632x2048, .f32⟩
  | .hbm, ⟨5, _⟩ => ⟨S8192x5632, .f32⟩
  | .hbm, ⟨6, _⟩ => ⟨S8192x5632, .f32⟩
  | .hbm, ⟨7, _⟩ => ⟨S8192x5632, .f32⟩
  | .hbm, ⟨8, _⟩ => ⟨S8192x5632, .f32⟩
  | .hbm, ⟨9, _⟩ => ⟨S_, .f32⟩
  | .hbm, ⟨10, _⟩ => ⟨S8192x5632, .f32⟩
  | .hbm, ⟨11, _⟩ => ⟨S8192x5632, .f32⟩
  | .hbm, ⟨12, _⟩ => ⟨S_, .f32⟩
  | .hbm, ⟨13, _⟩ => ⟨S8192x5632, .f32⟩
  | .hbm, ⟨14, _⟩ => ⟨S8192x5632, .f32⟩
  | .hbm, ⟨15, _⟩ => ⟨S_, .f32⟩
  | .hbm, ⟨16, _⟩ => ⟨S8192x5632, .f32⟩
  | .hbm, ⟨17, _⟩ => ⟨S8192x5632, .f32⟩
  | .hbm, ⟨18, _⟩ => ⟨S8192x5632, .f32⟩
  | .hbm, ⟨19, _⟩ => ⟨S8192x5632, .f32⟩
  | .hbm, ⟨20, _⟩ => ⟨S8192x5632, .f32⟩
  | .hbm, ⟨21, _⟩ => ⟨S8192x2048, .f32⟩
  | .hbm, ⟨22, _⟩ => ⟨S8192x2048, .f32⟩
  | .hbm, ⟨23, _⟩ => ⟨S8192x5632, .f32⟩
  | .hbm, ⟨24, _⟩ => ⟨S8192x5632, .f32⟩
  | .hbm, ⟨25, _⟩ => ⟨S8192x5632, .f32⟩
  | .hbm, ⟨26, _⟩ => ⟨S8192x5632, .f32⟩
  | .hbm, ⟨27, _⟩ => ⟨S8192x5632, .f32⟩
  | .hbm, ⟨28, _⟩ => ⟨S8192x5632, .f32⟩
  | .hbm, ⟨29, _⟩ => ⟨S8192x5632, .f32⟩
  | .hbm, ⟨30, _⟩ => ⟨S8192x5632, .bf16⟩
  | .hbm, ⟨31, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]
-- ==== Kernel3.lean ====
abbrev S8192x5632 : Shape := ⟨2, ![8192, 5632]⟩
abbrev S8192x2048 : Shape := ⟨2, ![8192, 2048]⟩
abbrev S5632x2048 : Shape := ⟨2, ![5632, 2048]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S5632x2048, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x5632 : Shape := ⟨2, ![8192, 5632]⟩
abbrev S8192x2048 : Shape := ⟨2, ![8192, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 9
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S_, .f32⟩
  | .hbm, ⟨3, _⟩ => ⟨S5632x2048, .f32⟩
  | .hbm, ⟨4, _⟩ => ⟨S8192x5632, .f32⟩
  | .hbm, ⟨5, _⟩ => ⟨S8192x2048, .f32⟩
  | .hbm, ⟨6, _⟩ => ⟨S8192x2048, .f32⟩
  | .hbm, ⟨7, _⟩ => ⟨S2048x5632, .f32⟩
  | .hbm, ⟨8, _⟩ => ⟨S5632x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S8192x2048 : Shape := ⟨2, ![8192, 2048]⟩
abbrev S8192x5632 : Shape := ⟨2, ![8192, 5632]⟩
abbrev S4x2048x1408 : Shape := ⟨3, ![4, 2048, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S8192x5632, .bf16⟩
  | .hbm, ⟨2, _⟩ => ⟨S4x2048x1408, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .f32⟩
  | .local _ .vmem, ⟨5, _⟩ => ⟨S1x1024x1408, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x2048 : Shape := ⟨2, ![8192, 2048]⟩
abbrev S8192x5632 : Shape := ⟨2, ![8192, 5632]⟩
abbrev S_ : Shape := ⟨0, ![]⟩
abbrev S2048x5632 : Shape := ⟨2, ![2048, 5632]⟩
abbrev S5632x2048 : Shape := ⟨2, ![5632, 2048]⟩
abbrev S2048x4x1408 : Shape := ⟨3, ![2048, 4, 1408]⟩
abbrev S4x2048x1408 : Shape := ⟨3, ![4, 2048, 1408]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x5632, .bf16⟩
  | .hbm, ⟨2, _⟩ => ⟨S_, .f32⟩
  | .hbm, ⟨3, _⟩ => ⟨S2048x5632, .f32⟩
  | .hbm, ⟨4, _⟩ => ⟨S8192x2048, .f32⟩
  | .hbm, ⟨5, _⟩ => ⟨S8192x5632, .f32⟩
  | .hbm, ⟨6, _⟩ => ⟨S8192x5632, .f32⟩
  | .hbm, ⟨7, _⟩ => ⟨S5632x2048, .f32⟩
  | .hbm, ⟨8, _⟩ => ⟨S2048x5632, .f32⟩
  | .hbm, ⟨9, _⟩ => ⟨S2048x4x1408, .f32⟩
  | .hbm, ⟨10, _⟩ => ⟨S4x2048x1408, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel5.lean ====
abbrev S8192x5632 : Shape := ⟨2, ![8192, 5632]⟩
abbrev S4x2048x1408 : Shape := ⟨3, ![4, 2048, 1408]⟩
abbrev S8192x2048 : Shape := ⟨2, ![8192, 2048]⟩
abbrev S1024x1408 : Shape := ⟨2, ![1024, 1408]⟩
abbrev S1x2048x1408 : Shape := ⟨3, ![1, 2048, 1408]⟩
abbrev S1024x2048 : Shape := ⟨2, ![1024, 2048]⟩
abbrev S2048x1408 : Shape := ⟨2, ![2048, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S4x2048x1408, .bf16⟩
  | .hbm, ⟨2, _⟩ => ⟨S8192x2048, .bf16⟩
  | .local _ .vmem, ⟨0, _⟩ => ⟨S1024x1408, .bf16⟩
  | .local _ .vmem, ⟨1, _⟩ => ⟨S1024x1408, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32 : BitVec 32 := 3#32
  let v10 : BitVec 1 := Scalar.cmpi .eq arg1 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference5Ideal.lean ====
abbrev S8192x5632 : Shape := ⟨2, ![8192, 5632]⟩
abbrev S4x2048x1408 : Shape := ⟨3, ![4, 2048, 1408]⟩
abbrev S_ : Shape := ⟨0, ![]⟩
abbrev S8192x2048 : Shape := ⟨2, ![8192, 2048]⟩
abbrev S2048x4x1408 : Shape := ⟨3, ![2048, 4, 1408]⟩
abbrev S2048x5632 : Shape := ⟨2, ![2048, 5632]⟩

abbrev nBuf : Space → Nat
  | .hbm => 11
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S4x2048x1408, .bf16⟩
  | .hbm, ⟨2, _⟩ => ⟨S_, .f32⟩
  | .hbm, ⟨3, _⟩ => ⟨S8192x2048, .f32⟩
  | .hbm, ⟨4, _⟩ => ⟨S4x2048x1408, .f32⟩
  | .hbm, ⟨5, _⟩ => ⟨S2048x4x1408, .f32⟩
  | .hbm, ⟨6, _⟩ => ⟨S2048x5632, .f32⟩
  | .hbm, ⟨7, _⟩ => ⟨S8192x5632, .f32⟩
  | .hbm, ⟨8, _⟩ => ⟨S8192x5632, .f32⟩
  | .hbm, ⟨9, _⟩ => ⟨S8192x2048, .f32⟩
  | .hbm, ⟨10, _⟩ => ⟨S8192x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel6.lean ====
abbrev S8192x5632 : Shape := ⟨2, ![8192, 5632]⟩
abbrev S4x2048x1408 : Shape := ⟨3, ![4, 2048, 1408]⟩
abbrev S8192x2048 : Shape := ⟨2, ![8192, 2048]⟩
abbrev S512x1408 : Shape := ⟨2, ![512, 1408]⟩
abbrev S1x2048x1408 : Shape := ⟨3, ![1, 2048, 1408]⟩
abbrev S512x2048 : Shape := ⟨2, ![512, 2048]⟩
abbrev S2048x1408 : Shape := ⟨2, ![2048, 1408]⟩

abbrev nBuf : Space → Nat
  | .hbm => 4
  | .vmem => 9
  | .smem => 0
  | _ => 0

abbrev bufTy : (tb : Table) → Fin (tcTables nBuf tb) → BufTy
  | .hbm, ⟨0, _⟩ => ⟨S8192x5632, .bf16⟩
  | .hbm, ⟨1, _⟩ => ⟨S4x2048x1408, .bf16⟩
  | .hbm, ⟨2, _⟩ => ⟨S8192x2048, .bf16⟩
  | .hbm, ⟨3, _⟩ => ⟨S8192x2048, .bf16⟩
  | .local _ .vmem, ⟨0, _⟩ => ⟨S512x1408, .bf16⟩
  | .local _ .vmem, ⟨1, _⟩ => ⟨S512x1408, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def k0_cond3 (i : grid0.Coords) : BitVec 1 :=
  let arg1 : BitVec 32 := BitVec.ofNat 32 (i 1).val
  let c3_i32 : BitVec 32 := 3#32
  let v10 : BitVec 1 := Scalar.cmpi .eq arg1 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference6Ideal.lean ====
abbrev S8192x5632 : Shape := ⟨2, ![8192, 5632]⟩
abbrev S4x2048x1408 : Shape := ⟨3, ![4, 2048, 1408]⟩
abbrev S8192x2048 : Shape := ⟨2, ![8192, 2048]⟩
abbrev S_ : Shape := ⟨0, ![]⟩
abbrev S2048x4x1408 : Shape := ⟨3, ![2048, 4, 1408]⟩
abbrev S2048x5632 : Shape := ⟨2, ![2048, 5632]⟩

abbrev nBuf : Space → Nat
  | .hbm => 14
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S4x2048x1408, .bf16⟩
  | .hbm, ⟨2, _⟩ => ⟨S8192x2048, .bf16⟩
  | .hbm, ⟨3, _⟩ => ⟨S_, .f32⟩
  | .hbm, ⟨4, _⟩ => ⟨S8192x2048, .f32⟩
  | .hbm, ⟨5, _⟩ => ⟨S8192x2048, .f32⟩
  | .hbm, ⟨6, _⟩ => ⟨S4x2048x1408, .f32⟩
  | .hbm, ⟨7, _⟩ => ⟨S2048x4x1408, .f32⟩
  | .hbm, ⟨8, _⟩ => ⟨S2048x5632, .f32⟩
  | .hbm, ⟨9, _⟩ => ⟨S8192x5632, .f32⟩
  | .hbm, ⟨10, _⟩ => ⟨S8192x5632, .f32⟩
  | .hbm, ⟨11, _⟩ => ⟨S8192x2048, .f32⟩
  | .hbm, ⟨12, _⟩ => ⟨S8192x2048, .f32⟩
  | .hbm, ⟨13, _⟩ => ⟨S8192x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel7.lean ====
abbrev S8192x2048 : Shape := ⟨2, ![8192, 2048]⟩
abbrev S2048x2048 : Shape := ⟨2, ![2048, 2048]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .bf16⟩
  | .local _ .vmem, ⟨5, _⟩ => ⟨S1024x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S_, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S8192x2048 : Shape := ⟨2, ![8192, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S2048x2048, .f32⟩
  | .hbm, ⟨8, _⟩ => ⟨S2048x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel9.lean ====
abbrev S8192x2048 : Shape := ⟨2, ![8192, 2048]⟩
abbrev S8192x6144 : Shape := ⟨2, ![8192, 6144]⟩
abbrev S4x2048x1536 : Shape := ⟨3, ![4, 2048, 1536]⟩
abbrev S2048x1024 : Shape := ⟨2, ![2048, 1024]⟩
abbrev S2048x1536 : Shape := ⟨2, ![2048, 1536]⟩
abbrev S1x1024x1536 : Shape := ⟨3, ![1, 1024, 1536]⟩
abbrev S1024x1536 : Shape := ⟨2, ![1024, 1536]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S8192x6144, .bf16⟩
  | .hbm, ⟨2, _⟩ => ⟨S4x2048x1536, .f32⟩
  | .local _ .vmem, ⟨0, _⟩ => ⟨S2048x1024, .bf16⟩
  | .local _ .vmem, ⟨1, _⟩ => ⟨S2048x1024, .bf16⟩
  | .local _ .vmem, ⟨2, _⟩ => ⟨S2048x1536, .bf16⟩
  | .local _ .vmem, ⟨3, _⟩ => ⟨S2048x1536, .bf16⟩
  | .local _ .vmem, ⟨4, _⟩ => ⟨S1x1024x1536, .f32⟩
  | .local _ .vmem, ⟨5, _⟩ => ⟨S1x1024x1536, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x2048 : Shape := ⟨2, ![8192, 2048]⟩
abbrev S8192x6144 : Shape := ⟨2, ![8192, 6144]⟩
abbrev S_ : Shape := ⟨0, ![]⟩
abbrev S2048x6144 : Shape := ⟨2, ![2048, 6144]⟩
abbrev S6144x2048 : Shape := ⟨2, ![6144, 2048]⟩
abbrev S2048x4x1536 : Shape := ⟨3, ![2048, 4, 1536]⟩
abbrev S4x2048x1536 : Shape := ⟨3, ![4, 2048, 1536]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x6144, .bf16⟩
  | .hbm, ⟨2, _⟩ => ⟨S_, .f32⟩
  | .hbm, ⟨3, _⟩ => ⟨S2048x6144, .f32⟩
  | .hbm, ⟨4, _⟩ => ⟨S8192x2048, .f32⟩
  | .hbm, ⟨5, _⟩ => ⟨S8192x6144, .f32⟩
  | .hbm, ⟨6, _⟩ => ⟨S8192x6144, .f32⟩
  | .hbm, ⟨7, _⟩ => ⟨S6144x2048, .f32⟩
  | .hbm, ⟨8, _⟩ => ⟨S2048x6144, .f32⟩
  | .hbm, ⟨9, _⟩ => ⟨S2048x4x1536, .f32⟩
  | .hbm, ⟨10, _⟩ => ⟨S4x2048x1536, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel10.lean ====
abbrev S8192x6144 : Shape := ⟨2, ![8192, 6144]⟩
abbrev S4x2048x1536 : Shape := ⟨3, ![4, 2048, 1536]⟩
abbrev S8192x2048 : Shape := ⟨2, ![8192, 2048]⟩
abbrev S1024x1536 : Shape := ⟨2, ![1024, 1536]⟩
abbrev S1x2048x1536 : Shape := ⟨3, ![1, 2048, 1536]⟩
abbrev S1024x2048 : Shape := ⟨2, ![1024, 2048]⟩
abbrev S2048x1536 : Shape := ⟨2, ![2048, 1536]⟩

abbrev nBuf : Space → Nat
  | .hbm => 3
  | .vmem => 7
  | .smem => 0
  | _ => 0

abbrev bufTy : (tb : Table) → Fin (tcTables nBuf tb) → BufTy
  | .hbm, ⟨0, _⟩ => ⟨S8192x6144, .bf16⟩
  | .hbm, ⟨1, _⟩ => ⟨S4x2048x1536, .bf16⟩
  | .hbm, ⟨2, _⟩ => ⟨S8192x2048, .bf16⟩
  | .local _ .vmem, ⟨0, _⟩ => ⟨S1024x1536, .bf16⟩
  | .local _ .vmem, ⟨1, _⟩ => ⟨S1024x1536, .bf16⟩
  | .local _ .vmem, ⟨2, _⟩ => ⟨S1x2048x1536, .bf16⟩
  | .local _ .vmem, ⟨3, _⟩ => ⟨S1x2048x1536, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32 : BitVec 32 := 3#32
  let v10 : BitVec 1 := Scalar.cmpi .eq arg1 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference10Ideal.lean ====
abbrev S8192x6144 : Shape := ⟨2, ![8192, 6144]⟩
abbrev S4x2048x1536 : Shape := ⟨3, ![4, 2048, 1536]⟩
abbrev S_ : Shape := ⟨0, ![]⟩
abbrev S8192x2048 : Shape := ⟨2, ![8192, 2048]⟩
abbrev S2048x4x1536 : Shape := ⟨3, ![2048, 4, 1536]⟩
abbrev S2048x6144 : Shape := ⟨2, ![2048, 6144]⟩

abbrev nBuf : Space → Nat
  | .hbm => 11
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S4x2048x1536, .bf16⟩
  | .hbm, ⟨2, _⟩ => ⟨S_, .f32⟩
  | .hbm, ⟨3, _⟩ => ⟨S8192x2048, .f32⟩
  | .hbm, ⟨4, _⟩ => ⟨S4x2048x1536, .f32⟩
  | .hbm, ⟨5, _⟩ => ⟨S2048x4x1536, .f32⟩
  | .hbm, ⟨6, _⟩ => ⟨S2048x6144, .f32⟩
  | .hbm, ⟨7, _⟩ => ⟨S8192x6144, .f32⟩
  | .hbm, ⟨8, _⟩ => ⟨S8192x6144, .f32⟩
  | .hbm, ⟨9, _⟩ => ⟨S8192x2048, .f32⟩
  | .hbm, ⟨10, _⟩ => ⟨S8192x2048, .bf16⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel11.lean ====
abbrev S8192x2048 : Shape := ⟨2, ![8192, 2048]⟩
abbrev S4x2048x1408 : Shape := ⟨3, ![4, 2048, 1408]⟩
abbrev S8192x5632 : Shape := ⟨2, ![8192, 5632]⟩
abbrev S1024x2048 : Shape := ⟨2, ![1024, 2048]⟩
abbrev S1x2048x1408 : Shape := ⟨3, ![1, 2048, 1408]⟩
abbrev S1024x1408 : Shape := ⟨2, ![1024, 1408]⟩
abbrev S2048x1408 : Shape := ⟨2, ![2048, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S4x2048x1408, .bf16⟩
  | .hbm, ⟨2, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x1408, .bf16⟩
  | .local _ .vmem, ⟨5, _⟩ => ⟨S1024x1408, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference11Ideal.lean ====
abbrev S8192x2048 : Shape := ⟨2, ![8192, 2048]⟩
abbrev S4x2048x1408 : Shape := ⟨3, ![4, 2048, 1408]⟩
abbrev S2048x4x1408 : Shape := ⟨3, ![2048, 4, 1408]⟩
abbrev S2048x5632 : Shape := ⟨2, ![2048, 5632]⟩
abbrev S8192x5632 : Shape := ⟨2, ![8192, 5632]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x1408, .bf16⟩
  | .hbm, ⟨2, _⟩ => ⟨S8192x2048, .f32⟩
  | .hbm, ⟨3, _⟩ => ⟨S4x2048x1408, .f32⟩
  | .hbm, ⟨4, _⟩ => ⟨S2048x4x1408, .f32⟩
  | .hbm, ⟨5, _⟩ => ⟨S2048x5632, .f32⟩
  | .hbm, ⟨6, _⟩ => ⟨S8192x5632, .f32⟩
  | .hbm, ⟨7, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel12.lean ====
abbrev S8192x2048 : Shape := ⟨2, ![8192, 2048]⟩
abbrev S4x2048x1408 : Shape := ⟨3, ![4, 2048, 1408]⟩
abbrev S8192x5632 : Shape := ⟨2, ![8192, 5632]⟩
abbrev S512x2048 : Shape := ⟨2, ![512, 2048]⟩
abbrev S1x2048x1408 : Shape := ⟨3, ![1, 2048, 1408]⟩
abbrev S512x1408 : Shape := ⟨2, ![512, 1408]⟩
abbrev S256x2048 : Shape := ⟨2, ![256, 2048]⟩
abbrev S2048x1408 : Shape := ⟨2, ![2048, 1408]⟩
abbrev S256x1408 : Shape := ⟨2, ![256, 1408]⟩

abbrev nBuf : Space → Nat
  | .hbm => 5
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S4x2048x1408, .bf16⟩
  | .hbm, ⟨2, _⟩ => ⟨S8192x5632, .bf16⟩
  | .hbm, ⟨3, _⟩ => ⟨S8192x5632, .bf16⟩
  | .hbm, ⟨4, _⟩ => ⟨S8192x5632, .bf16⟩
  | .local _ .vmem, ⟨0, _⟩ => ⟨S512x2048, .bf16⟩
  | .local _ .vmem, ⟨1, _⟩ => ⟨S512x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference12Ideal.lean ====
abbrev S8192x2048 : Shape := ⟨2, ![8192, 2048]⟩
abbrev S4x2048x1408 : Shape := ⟨3, ![4, 2048, 1408]⟩
abbrev S8192x5632 : Shape := ⟨2, ![8192, 5632]⟩
abbrev S2048x4x1408 : Shape := ⟨3, ![2048, 4, 1408]⟩
abbrev S2048x5632 : Shape := ⟨2, ![2048, 5632]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x1408, .bf16⟩
  | .hbm, ⟨2, _⟩ => ⟨S8192x5632, .bf16⟩
  | .hbm, ⟨3, _⟩ => ⟨S8192x2048, .f32⟩
  | .hbm, ⟨4, _⟩ => ⟨S4x2048x1408, .f32⟩
  | .hbm, ⟨5, _⟩ => ⟨S2048x4x1408, .f32⟩
  | .hbm, ⟨6, _⟩ => ⟨S2048x5632, .f32⟩
  | .hbm, ⟨7, _⟩ => ⟨S8192x5632, .f32⟩
  | .hbm, ⟨8, _⟩ => ⟨S8192x5632, .bf16⟩
  | .hbm, ⟨9, _⟩ => ⟨S8192x5632, .f32⟩
  | .hbm, ⟨10, _⟩ => ⟨S8192x5632, .f32⟩
  | .hbm, ⟨11, _⟩ => ⟨S8192x5632, .f32⟩
  | .hbm, ⟨12, _⟩ => ⟨S_, .f32⟩
  | .hbm, ⟨13, _⟩ => ⟨S8192x5632, .f32⟩
  | .hbm, ⟨14, _⟩ => ⟨S8192x5632, .f32⟩
  | .hbm, ⟨15, _⟩ => ⟨S_, .f32⟩
  | .hbm, ⟨16, _⟩ => ⟨S8192x5632, .f32⟩
  | .hbm, ⟨17, _⟩ => ⟨S8192x5632, .f32⟩
  | .hbm, ⟨18, _⟩ => ⟨S8192x5632, .f32⟩
  | .hbm, ⟨19, _⟩ => ⟨S8192x5632, .f32⟩
  | .hbm, ⟨20, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Kernel13.lean ====
abbrev S8192x5632 : Shape := ⟨2, ![8192, 5632]⟩
abbrev S5632x2048 : Shape := ⟨2, ![5632, 2048]⟩
abbrev S8192x2048 : Shape := ⟨2, ![8192, 2048]⟩
abbrev S1x2048 : Shape := ⟨2, ![1, 2048]⟩
abbrev S512x5632 : Shape := ⟨2, ![512, 5632]⟩
abbrev S5632x512 : Shape := ⟨2, ![5632, 512]⟩
abbrev S512x512 : Shape := ⟨2, ![512, 512]⟩
abbrev S1x512 : Shape := ⟨2, ![1, 512]⟩

abbrev nBuf : Space → Nat
  | .hbm => 6
  | .vmem => 12
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S8192x2048, .bf16⟩
  | .local _ .vmem, ⟨0, _⟩ => ⟨S512x5632, .bf16⟩
  | .local _ .vmem, ⟨1, _⟩ => ⟨S512x5632, .bf16⟩
  | .local _ .vmem, ⟨2, _⟩ => ⟨S5632x512, .bf16⟩
  | .local _ .vmem, ⟨3, _⟩ => ⟨S5632x512, .bf16⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S1x512, .f32⟩
  | .local _ .vmem, ⟨8, _⟩ => ⟨S512x512, .f32⟩
  | .local _ .vmem, ⟨9, _⟩ => ⟨S512x512, .f32⟩
  | .local _ .vmem, ⟨10, _⟩ => ⟨S512x512, .bf16⟩
  | .local _ .vmem, ⟨11, _⟩ => ⟨S512x512, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference13Ideal.lean ====
abbrev S8192x5632 : Shape := ⟨2, ![8192, 5632]⟩
abbrev S5632x2048 : Shape := ⟨2, ![5632, 2048]⟩
abbrev S8192x2048 : Shape := ⟨2, ![8192, 2048]⟩
abbrev S1x2048 : Shape := ⟨2, ![1, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S1x2048, .f32⟩
  | .hbm, ⟨4, _⟩ => ⟨S8192x5632, .f32⟩
  | .hbm, ⟨5, _⟩ => ⟨S5632x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel14.lean ====
abbrev S8192x2048 : Shape := ⟨2, ![8192, 2048]⟩
abbrev S4x2048x1536 : Shape := ⟨3, ![4, 2048, 1536]⟩
abbrev S8192x6144 : Shape := ⟨2, ![8192, 6144]⟩
abbrev S1024x2048 : Shape := ⟨2, ![1024, 2048]⟩
abbrev S1x2048x1536 : Shape := ⟨3, ![1, 2048, 1536]⟩
abbrev S1024x1536 : Shape := ⟨2, ![1024, 1536]⟩
abbrev S2048x1536 : Shape := ⟨2, ![2048, 1536]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S4x2048x1536, .bf16⟩
  | .hbm, ⟨2, _⟩ => ⟨S8192x6144, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1536, .bf16⟩
  | .local _ .vmem, ⟨3, _⟩ => ⟨S1x2048x1536, .bf16⟩
  | .local _ .vmem, ⟨4, _⟩ => ⟨S1024x1536, .bf16⟩
  | .local _ .vmem, ⟨5, _⟩ => ⟨S1024x1536, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference14Ideal.lean ====
abbrev S8192x2048 : Shape := ⟨2, ![8192, 2048]⟩
abbrev S4x2048x1536 : Shape := ⟨3, ![4, 2048, 1536]⟩
abbrev S2048x4x1536 : Shape := ⟨3, ![2048, 4, 1536]⟩
abbrev S2048x6144 : Shape := ⟨2, ![2048, 6144]⟩
abbrev S8192x6144 : Shape := ⟨2, ![8192, 6144]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x1536, .bf16⟩
  | .hbm, ⟨2, _⟩ => ⟨S8192x2048, .f32⟩
  | .hbm, ⟨3, _⟩ => ⟨S4x2048x1536, .f32⟩
  | .hbm, ⟨4, _⟩ => ⟨S2048x4x1536, .f32⟩
  | .hbm, ⟨5, _⟩ => ⟨S2048x6144, .f32⟩
  | .hbm, ⟨6, _⟩ => ⟨S8192x6144, .f32⟩
  | .hbm, ⟨7, _⟩ => ⟨S8192x6144, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel15.lean ====
abbrev S8192x2048 : Shape := ⟨2, ![8192, 2048]⟩
abbrev S2048x2048 : Shape := ⟨2, ![2048, 2048]⟩
abbrev S1x2048 : Shape := ⟨2, ![1, 2048]⟩
abbrev S512x2048 : Shape := ⟨2, ![512, 2048]⟩
abbrev S2048x512 : Shape := ⟨2, ![2048, 512]⟩
abbrev S512x512 : Shape := ⟨2, ![512, 512]⟩
abbrev S1x512 : Shape := ⟨2, ![1, 512]⟩

abbrev nBuf : Space → Nat
  | .hbm => 6
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S2048x512, .bf16⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S1x512, .f32⟩
  | .local _ .vmem, ⟨8, _⟩ => ⟨S512x512, .f32⟩
  | .local _ .vmem, ⟨9, _⟩ => ⟨S512x512, .f32⟩
  | .local _ .vmem, ⟨10, _⟩ => ⟨S512x512, .bf16⟩
  | .local _ .vmem, ⟨11, _⟩ => ⟨S512x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference15Ideal.lean ====
abbrev S8192x2048 : Shape := ⟨2, ![8192, 2048]⟩
abbrev S2048x2048 : Shape := ⟨2, ![2048, 2048]⟩
abbrev S1x2048 : Shape := ⟨2, ![1, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S2048x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel16.lean ====
abbrev S8192x2048 : Shape := ⟨2, ![8192, 2048]⟩
abbrev S4x512x512 : Shape := ⟨3, ![4, 512, 512]⟩
abbrev S1024x512 : Shape := ⟨2, ![1024, 512]⟩
abbrev S1x512x512 : Shape := ⟨3, ![1, 512, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S4x512x512, .bf16⟩
  | .hbm, ⟨2, _⟩ => ⟨S8192x2048, .bf16⟩
  | .local _ .vmem, ⟨0, _⟩ => ⟨S1024x512, .bf16⟩
  | .local _ .vmem, ⟨1, _⟩ => ⟨S1024x512, .bf16⟩
  | .local _ .vmem, ⟨2, _⟩ => ⟨S1x512x512, .bf16⟩
  | .local _ .vmem, ⟨3, _⟩ => ⟨S1x512x512, .bf16⟩
  | .local _ .vmem, ⟨4, _⟩ => ⟨S1024x512, .bf16⟩
  | .local _ .vmem, ⟨5, _⟩ => ⟨S1024x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference16Ideal.lean ====
abbrev S8192x2048 : Shape := ⟨2, ![8192, 2048]⟩
abbrev S4x512x512 : Shape := ⟨3, ![4, 512, 512]⟩
abbrev S_ : Shape := ⟨0, ![]⟩
abbrev S8192x4x512 : Shape := ⟨3, ![8192, 4, 512]⟩
abbrev S4x512x8192 : Shape := ⟨3, ![4, 512, 8192]⟩
abbrev S4x8192x512 : Shape := ⟨3, ![4, 8192, 512]⟩

abbrev nBuf : Space → Nat
  | .hbm => 16
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x512x512, .bf16⟩
  | .hbm, ⟨2, _⟩ => ⟨S_, .f32⟩
  | .hbm, ⟨3, _⟩ => ⟨S8192x2048, .f32⟩
  | .hbm, ⟨4, _⟩ => ⟨S4x512x512, .f32⟩
  | .hbm, ⟨5, _⟩ => ⟨S8192x4x512, .f32⟩
  | .hbm, ⟨6, _⟩ => ⟨S4x512x8192, .f32⟩
  | .hbm, ⟨7, _⟩ => ⟨S8192x4x512, .f32⟩
  | .hbm, ⟨8, _⟩ => ⟨S8192x2048, .f32⟩
  | .hbm, ⟨9, _⟩ => ⟨S8192x2048, .f32⟩
  | .hbm, ⟨10, _⟩ => ⟨S8192x4x512, .f32⟩
  | .hbm, ⟨11, _⟩ => ⟨S4x512x8192, .f32⟩
  | .hbm, ⟨12, _⟩ => ⟨S4x8192x512, .f32⟩
  | .hbm, ⟨13, _⟩ => ⟨S8192x4x512, .f32⟩
  | .hbm, ⟨14, _⟩ => ⟨S8192x2048, .f32⟩
  | .hbm, ⟨15, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Kernel17.lean ====
abbrev S8192x2048 : Shape := ⟨2, ![8192, 2048]⟩
abbrev S4x512x512 : Shape := ⟨3, ![4, 512, 512]⟩
abbrev S2048x512 : Shape := ⟨2, ![2048, 512]⟩
abbrev S1x512x512 : Shape := ⟨3, ![1, 512, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S4x512x512, .f32⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S1x512x512, .f32⟩
  | .local _ .vmem, ⟨5, _⟩ => ⟨S1x512x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference17Ideal.lean ====
abbrev S8192x2048 : Shape := ⟨2, ![8192, 2048]⟩
abbrev S_ : Shape := ⟨0, ![]⟩
abbrev S4x512x512 : Shape := ⟨3, ![4, 512, 512]⟩
abbrev S8192x4x512 : Shape := ⟨3, ![8192, 4, 512]⟩
abbrev S4x512x8192 : Shape := ⟨3, ![4, 512, 8192]⟩

abbrev nBuf : Space → Nat
  | .hbm => 14
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S_, .f32⟩
  | .hbm, ⟨3, _⟩ => ⟨S4x512x512, .f32⟩
  | .hbm, ⟨4, _⟩ => ⟨S8192x2048, .f32⟩
  | .hbm, ⟨5, _⟩ => ⟨S8192x4x512, .f32⟩
  | .hbm, ⟨6, _⟩ => ⟨S4x512x8192, .f32⟩
  | .hbm, ⟨7, _⟩ => ⟨S8192x4x512, .f32⟩
  | .hbm, ⟨8, _⟩ => ⟨S8192x2048, .f32⟩
  | .hbm, ⟨9, _⟩ => ⟨S8192x2048, .f32⟩
  | .hbm, ⟨10, _⟩ => ⟨S8192x4x512, .f32⟩
  | .hbm, ⟨11, _⟩ => ⟨S4x512x8192, .f32⟩
  | .hbm, ⟨12, _⟩ => ⟨S4x512x512, .f32⟩
  | .hbm, ⟨13, _⟩ => ⟨S4x512x512, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel18.lean ====
abbrev S8192x2048 : Shape := ⟨2, ![8192, 2048]⟩
abbrev S4x512x512 : Shape := ⟨3, ![4, 512, 512]⟩
abbrev S1x2048 : Shape := ⟨2, ![1, 2048]⟩
abbrev S512x512 : Shape := ⟨2, ![512, 512]⟩
abbrev S1x512x512 : Shape := ⟨3, ![1, 512, 512]⟩
abbrev S1x512 : Shape := ⟨2, ![1, 512]⟩

abbrev nBuf : Space → Nat
  | .hbm => 8
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S4x512x512, .bf16⟩
  | .hbm, ⟨2, _⟩ => ⟨S8192x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S8192x2048, .f32⟩
  | .hbm, ⟨7, _⟩ => ⟨S8192x2048, .bf16⟩
  | .local _ .vmem, ⟨0, _⟩ => ⟨S512x512, .bf16⟩
  | .local _ .vmem, ⟨1, _⟩ => ⟨S512x512, .bf16⟩
  | .local _ .vmem, ⟨2, _⟩ => ⟨S1x512x512, .bf16⟩
  | .local _ .vmem, ⟨3, _⟩ => ⟨S1x512x512, .bf16⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S1x512, .f32⟩
  | .local _ .vmem, ⟨8, _⟩ => ⟨S512x512, .f32⟩
  | .local _ .vmem, ⟨9, _⟩ => ⟨S512x512, .f32⟩
  | .local _ .vmem, ⟨10, _⟩ => ⟨S512x512, .bf16⟩
  | .local _ .vmem, ⟨11, _⟩ => ⟨S512x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference18Ideal.lean ====
abbrev S8192x2048 : Shape := ⟨2, ![8192, 2048]⟩
abbrev S4x512x512 : Shape := ⟨3, ![4, 512, 512]⟩
abbrev S1x2048 : Shape := ⟨2, ![1, 2048]⟩
abbrev S8192x4x512 : Shape := ⟨3, ![8192, 4, 512]⟩
abbrev S4x512x8192 : Shape := ⟨3, ![4, 512, 8192]⟩

abbrev nBuf : Space → Nat
  | .hbm => 17
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x512x512, .bf16⟩
  | .hbm, ⟨2, _⟩ => ⟨S8192x2048, .f32⟩
  | .hbm, ⟨3, _⟩ => ⟨S1x2048, .f32⟩
  | .hbm, ⟨4, _⟩ => ⟨S1x2048, .f32⟩
  | .hbm, ⟨5, _⟩ => ⟨S8192x2048, .f32⟩
  | .hbm, ⟨6, _⟩ => ⟨S4x512x512, .f32⟩
  | .hbm, ⟨7, _⟩ => ⟨S8192x4x512, .f32⟩
  | .hbm, ⟨8, _⟩ => ⟨S4x512x8192, .f32⟩
  | .hbm, ⟨9, _⟩ => ⟨S8192x4x512, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Kernel19.lean ====
abbrev S8192x6144 : Shape := ⟨2, ![8192, 6144]⟩
abbrev S8192x2048 : Shape := ⟨2, ![8192, 2048]⟩
abbrev S1024x128 : Shape := ⟨2, ![1024, 128]⟩
abbrev S8192x128 : Shape := ⟨2, ![8192, 128]⟩
abbrev S256x256 : Shape := ⟨2, ![256, 256]⟩
abbrev S1024x1 : Shape := ⟨2, ![1024, 1]⟩
abbrev S1024x256 : Shape := ⟨2, ![1024, 256]⟩
abbrev S256x128 : Shape := ⟨2, ![256, 128]⟩
abbrev S1024 : Shape := ⟨1, ![1024]⟩

abbrev nBuf : Space → Nat
  | .hbm => 3
  | .vmem => 10
  | .smem => 0
  | _ => 0

abbrev bufTy : (tb : Table) → Fin (tcTables nBuf tb) → BufTy
  | .hbm, ⟨0, _⟩ => ⟨S8192x6144, .bf16⟩
  | .hbm, ⟨1, _⟩ => ⟨S8192x2048, .bf16⟩
  | .hbm, ⟨2, _⟩ => ⟨S8192x2048, .f32⟩
  | .local _ .vmem, ⟨0, _⟩ => ⟨S1024x128, .bf16⟩
  | .local _ .vmem, ⟨1, _⟩ => ⟨S1024x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S1024x128, .bf16⟩
  | .local _ .vmem, ⟨7, _⟩ => ⟨S1024x128, .bf16⟩
  | .local _ .vmem, ⟨8, _⟩ => ⟨S1024x128, .f32⟩
  | .local _ .vmem, ⟨9, _⟩ => ⟨S1024x128, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

def k0_mult1 (i : grid0.Coords) : BitVec 32 :=
  let arg1 : BitVec 32 := BitVec.ofNat 32 (i 1).val
  let c4_i32 : BitVec 32 := 4#32
  let v10 : BitVec 32 := Scalar.muli arg1 c4_i32
  let c3_i32 : BitVec 32 := 3#32
  let v11 : BitVec 32 := Scalar.addi v10 c3_i32
  let c256_i32 : BitVec 32 := 256#32
  let v17 : BitVec 32 := Scalar.muli v11 c256_i32
  v17
def k0_off1 (i : grid0.Coords) (c3_i32 : BitVec 32) : Fin 2 → Nat :=
  let arg1 : BitVec 32 := BitVec.ofNat 32 (i 1).val
  let c4_i32 : BitVec 32 := 4#32
  let v10 : BitVec 32 := Scalar.muli arg1 c4_i32
  let v11 : BitVec 32 := Scalar.addi v10 c3_i32
  let c256_i32 : BitVec 32 := 256#32
  let v17 : BitVec 32 := Scalar.muli v11 c256_i32
  let v18 : BitVec 32 := v17
  let v19 : Index := Scalar.indexCast v18
  let c0_4 : Index := 0#32
  ![v19.toNat, 0]
def k0_mult2 (i : grid0.Coords) : BitVec 32 :=
  let arg1 : BitVec 32 := BitVec.ofNat 32 (i 1).val
  let c4_i32_16 : BitVec 32 := 4#32
  let v53 : BitVec 32 := Scalar.muli arg1 c4_i32_16
  let c2_i32 : BitVec 32 := 2#32
  let v54 : BitVec 32 := Scalar.addi v53 c2_i32
  let c256_i32_17 : BitVec 32 := 256#32
  let v60 : BitVec 32 := Scalar.muli v54 c256_i32_17
  v60
def k0_mult3 (i : grid0.Coords) : BitVec 32 :=
  let arg1 : BitVec 32 := BitVec.ofNat 32 (i 1).val
  let c4_i32_30 : BitVec 32 := 4#32
  let v96 : BitVec 32 := Scalar.muli arg1 c4_i32_30
  let c1_i32 : BitVec 32 := 1#32
  let v97 : BitVec 32 := Scalar.addi v96 c1_i32
  let c256_i32_32 : BitVec 32 := 256#32
  let v103 : BitVec 32 := Scalar.muli v97 c256_i32_32
  v103
def k0_mult4 (i : grid0.Coords) : BitVec 32 :=
  let arg1 : BitVec 32 := BitVec.ofNat 32 (i 1).val
  let c4_i32_45 : BitVec 32 := 4#32
  let v139 : BitVec 32 := Scalar.muli arg1 c4_i32_45
  let c0_i32 : BitVec 32 := 0#32
  let v140 : BitVec 32 := Scalar.addi v139 c0_i32
  let c256_i32_47 : BitVec 32 := 256#32
  let v146 : BitVec 32 := Scalar.muli v140 c256_i32_47
  v146
@[reducible] def k0_t1_loop (i : grid0.Coords) : Scf.Loop 32 :=
  let c0_i32_61 : BitVec 32 := 0#32
  let arg1 : BitVec 32 := BitVec.ofNat 32 (i 1).val
  let c1_i32_60 : BitVec 32 := 1#32
  let v182 : BitVec 32 := Scalar.muli arg1 c1_i32_60
  let v183 : BitVec 32 := Scalar.subi v182 c0_i32_61
  let c1_i32_62 : BitVec 32 := 1#32
  let v185 : BitVec 32 := Scalar.divsi v183 c1_i32_62
  let v186 : BitVec 32 := Scalar.muli v185 c1_i32_62
  let v187 : BitVec 32 := Scalar.addi c0_i32_61 v186
  let c1_i32_63 : BitVec 32 := 1#32
  ⟨c0_i32_61, v187, c1_i32_63⟩
def k0_mult5 (i : grid0.Coords) (k0_t1 : Fin (k0_t1_loop i).trips) : BitVec 32 :=
  let arg1 : BitVec 32 := BitVec.ofNat 32 (i 1).val
  let c4_i32_69 : BitVec 32 := 4#32
  let v195 : BitVec 32 := Scalar.muli arg1 c4_i32_69
  let c1_i32_70 : BitVec 32 := 1#32
  let v196 : BitVec 32 := Scalar.subi v195 c1_i32_70
  let c4_i32_71 : BitVec 32 := 4#32
  let c0_i32_61 : BitVec 32 := 0#32
  let c1_i32_63 : BitVec 32 := 1#32
  let arg7 : BitVec 32 := Scf.iv c0_i32_61 c1_i32_63 k0_t1
  let v197 : BitVec 32 := Scalar.muli c4_i32_71 arg7
  let v198 : BitVec 32 := Scalar.subi v196 v197
  let c0_i32_72 : BitVec 32 := 0#32
  let v199 : BitVec 32 := Scalar.subi v198 c0_i32_72
  let c256_i32_73 : BitVec 32 := 256#32
  let v200 : BitVec 32 := Scalar.muli v199 c256_i32_73
  v200
def k0_off2 (i : grid0.Coords) (k0_t1 : Fin (k0_t1_loop i).trips) (c0_i32_72 : BitVec 32) : Fin 2 → Nat :=
  let arg1 : BitVec 32 := BitVec.ofNat 32 (i 1).val
  let c4_i32_69 : BitVec 32 := 4#32
  let v195 : BitVec 32 := Scalar.muli arg1 c4_i32_69
  let c1_i32_70 : BitVec 32 := 1#32
  let v196 : BitVec 32 := Scalar.subi v195 c1_i32_70
  let c4_i32_71 : BitVec 32 := 4#32
  let c0_i32_61 : BitVec 32 := 0#32
  let c1_i32_63 : BitVec 32 := 1#32
  let arg7 : BitVec 32 := Scf.iv c0_i32_61 c1_i32_63 k0_t1
  let v197 : BitVec 32 := Scalar.muli c4_i32_71 arg7
  let v198 : BitVec 32 := Scalar.subi v196 v197
  let v199 : BitVec 32 := Scalar.subi v198 c0_i32_72
  let c256_i32_73 : BitVec 32 := 256#32
  let v200 : BitVec 32 := Scalar.muli v199 c256_i32_73
  let v201 : BitVec 32 := v200
  let v202 : Index := Scalar.indexCast v201
  let c0_74 : Index := 0#32
  ![v202.toNat, 0]
def k0_mult6 (i : grid0.Coords) (k0_t1 : Fin (k0_t1_loop i).trips) : BitVec 32 :=
  let arg1 : BitVec 32 := BitVec.ofNat 32 (i 1).val
  let c4_i32_84 : BitVec 32 := 4#32
  let v232 : BitVec 32 := Scalar.muli arg1 c4_i32_84
  let c1_i32_85 : BitVec 32 := 1#32
  let v233 : BitVec 32 := Scalar.subi v232 c1_i32_85
  let c4_i32_86 : BitVec 32 := 4#32
  let c0_i32_61 : BitVec 32 := 0#32
  let c1_i32_63 : BitVec 32 := 1#32
  let arg7 : BitVec 32 := Scf.iv c0_i32_61 c1_i32_63 k0_t1
  let v234 : BitVec 32 := Scalar.muli c4_i32_86 arg7
  let v235 : BitVec 32 := Scalar.subi v233 v234
  let c1_i32_87 : BitVec 32 := 1#32
  let v236 : BitVec 32 := Scalar.subi v235 c1_i32_87
  let c256_i32_88 : BitVec 32 := 256#32
  let v237 : BitVec 32 := Scalar.muli v236 c256_i32_88
  v237
def k0_mult7 (i : grid0.Coords) (k0_t1 : Fin (k0_t1_loop i).trips) : BitVec 32 :=
  let arg1 : BitVec 32 := BitVec.ofNat 32 (i 1).val
  let c4_i32_99 : BitVec 32 := 4#32
  let v269 : BitVec 32 := Scalar.muli arg1 c4_i32_99
  let c1_i32_100 : BitVec 32 := 1#32
  let v270 : BitVec 32 := Scalar.subi v269 c1_i32_100
  let c4_i32_101 : BitVec 32 := 4#32
  let c0_i32_61 : BitVec 32 := 0#32
  let c1_i32_63 : BitVec 32 := 1#32
  let arg7 : BitVec 32 := Scf.iv c0_i32_61 c1_i32_63 k0_t1
  let v271 : BitVec 32 := Scalar.muli c4_i32_101 arg7
  let v272 : BitVec 32 := Scalar.subi v270 v271
  let c2_i32_102 : BitVec 32 := 2#32
  let v273 : BitVec 32 := Scalar.subi v272 c2_i32_102
  let c256_i32_103 : BitVec 32 := 256#32
  let v274 : BitVec 32 := Scalar.muli v273 c256_i32_103
  v274
def k0_mult8 (i : grid0.Coords) (k0_t1 : Fin (k0_t1_loop i).trips) : BitVec 32 :=
  let arg1 : BitVec 32 := BitVec.ofNat 32 (i 1).val
  let c4_i32_114 : BitVec 32 := 4#32
  let v306 : BitVec 32 := Scalar.muli arg1 c4_i32_114
  let c1_i32_115 : BitVec 32 := 1#32
  let v307 : BitVec 32 := Scalar.subi v306 c1_i32_115
  let c4_i32_116 : BitVec 32 := 4#32
  let c0_i32_61 : BitVec 32 := 0#32
  let c1_i32_63 : BitVec 32 := 1#32
  let arg7 : BitVec 32 := Scf.iv c0_i32_61 c1_i32_63 k0_t1
  let v308 : BitVec 32 := Scalar.muli c4_i32_116 arg7
  let v309 : BitVec 32 := Scalar.subi v307 v308
  let c3_i32_117 : BitVec 32 := 3#32
  let v310 : BitVec 32 := Scalar.subi v309 c3_i32_117
  let c256_i32_118 : BitVec 32 := 256#32
  let v311 : BitVec 32 := Scalar.muli v310 c256_i32_118
  v311
@[reducible] def k0_t2_loop (i : grid0.Coords) : Scf.Loop 32 :=
  let c0_i32_61 : BitVec 32 := 0#32
  let arg1 : BitVec 32 := BitVec.ofNat 32 (i 1).val
  let c1_i32_60 : BitVec 32 := 1#32
  let v182 : BitVec 32 := Scalar.muli arg1 c1_i32_60
  let v183 : BitVec 32 := Scalar.subi v182 c0_i32_61
  let c1_i32_62 : BitVec 32 := 1#32
  let v185 : BitVec 32 := Scalar.divsi v183 c1_i32_62
  let v186 : BitVec 32 := Scalar.muli v185 c1_i32_62
  let v187 : BitVec 32 := Scalar.addi c0_i32_61 v186
  let v184 : BitVec 32 := Scalar.addi c0_i32_61 v183
  let c1_i32_64 : BitVec 32 := 1#32
  ⟨v187, v184, c1_i32_64⟩
def k0_mult9 (i : grid0.Coords) (k0_t2 : Fin (k0_t2_loop i).trips) : BitVec 32 :=
  let arg1 : BitVec 32 := BitVec.ofNat 32 (i 1).val
  let c4_i32_69 : BitVec 32 := 4#32
  let v195 : BitVec 32 := Scalar.muli arg1 c4_i32_69
  let c1_i32_70 : BitVec 32 := 1#32
  let v196 : BitVec 32 := Scalar.subi v195 c1_i32_70
  let c4_i32_71 : BitVec 32 := 4#32
  let c0_i32_61 : BitVec 32 := 0#32
  let c1_i32_60 : BitVec 32 := 1#32
  let v182 : BitVec 32 := Scalar.muli arg1 c1_i32_60
  let v183 : BitVec 32 := Scalar.subi v182 c0_i32_61
  let c1_i32_62 : BitVec 32 := 1#32
  let v185 : BitVec 32 := Scalar.divsi v183 c1_i32_62
  let v186 : BitVec 32 := Scalar.muli v185 c1_i32_62
  let v187 : BitVec 32 := Scalar.addi c0_i32_61 v186
  let c1_i32_64 : BitVec 32 := 1#32
  let arg7 : BitVec 32 := Scf.iv v187 c1_i32_64 k0_t2
  let v197 : BitVec 32 := Scalar.muli c4_i32_71 arg7
  let v198 : BitVec 32 := Scalar.subi v196 v197
  let c0_i32_72 : BitVec 32 := 0#32
  let v199 : BitVec 32 := Scalar.subi v198 c0_i32_72
  let c256_i32_73 : BitVec 32 := 256#32
  let v200 : BitVec 32 := Scalar.muli v199 c256_i32_73
  v200
def k0_off3 (i : grid0.Coords) (k0_t2 : Fin (k0_t2_loop i).trips) (c0_i32_72 : BitVec 32) : Fin 2 → Nat :=
  let arg1 : BitVec 32 := BitVec.ofNat 32 (i 1).val
  let c4_i32_69 : BitVec 32 := 4#32
  let v195 : BitVec 32 := Scalar.muli arg1 c4_i32_69
  let c1_i32_70 : BitVec 32 := 1#32
  let v196 : BitVec 32 := Scalar.subi v195 c1_i32_70
  let c4_i32_71 : BitVec 32 := 4#32
  let c0_i32_61 : BitVec 32 := 0#32
  let c1_i32_60 : BitVec 32 := 1#32
  let v182 : BitVec 32 := Scalar.muli arg1 c1_i32_60
  let v183 : BitVec 32 := Scalar.subi v182 c0_i32_61
  let c1_i32_62 : BitVec 32 := 1#32
  let v185 : BitVec 32 := Scalar.divsi v183 c1_i32_62
  let v186 : BitVec 32 := Scalar.muli v185 c1_i32_62
  let v187 : BitVec 32 := Scalar.addi c0_i32_61 v186
  let c1_i32_64 : BitVec 32 := 1#32
  let arg7 : BitVec 32 := Scf.iv v187 c1_i32_64 k0_t2
  let v197 : BitVec 32 := Scalar.muli c4_i32_71 arg7
  let v198 : BitVec 32 := Scalar.subi v196 v197
  let v199 : BitVec 32 := Scalar.subi v198 c0_i32_72
  let c256_i32_73 : BitVec 32 := 256#32
  let v200 : BitVec 32 := Scalar.muli v199 c256_i32_73
  let v201 : BitVec 32 := v200
  let v202 : Index := Scalar.indexCast v201
  let c0_74 : Index := 0#32
  ![v202.toNat, 0]
def k0_mult10 (i : grid0.Coords) (k0_t2 : Fin (k0_t2_loop i).trips) : BitVec 32 :=
  let arg1 : BitVec 32 := BitVec.ofNat 32 (i 1).val
  let c4_i32_84 : BitVec 32 := 4#32
  let v232 : BitVec 32 := Scalar.muli arg1 c4_i32_84
  let c1_i32_85 : BitVec 32 := 1#32
  let v233 : BitVec 32 := Scalar.subi v232 c1_i32_85
  let c4_i32_86 : BitVec 32 := 4#32
  let c0_i32_61 : BitVec 32 := 0#32
  let c1_i32_60 : BitVec 32 := 1#32
  let v182 : BitVec 32 := Scalar.muli arg1 c1_i32_60
  let v183 : BitVec 32 := Scalar.subi v182 c0_i32_61
  let c1_i32_62 : BitVec 32 := 1#32
  let v185 : BitVec 32 := Scalar.divsi v183 c1_i32_62
  let v186 : BitVec 32 := Scalar.muli v185 c1_i32_62
  let v187 : BitVec 32 := Scalar.addi c0_i32_61 v186
  let c1_i32_64 : BitVec 32 := 1#32
  let arg7 : BitVec 32 := Scf.iv v187 c1_i32_64 k0_t2
  let v234 : BitVec 32 := Scalar.muli c4_i32_86 arg7
  let v235 : BitVec 32 := Scalar.subi v233 v234
  let c1_i32_87 : BitVec 32 := 1#32
  let v236 : BitVec 32 := Scalar.subi v235 c1_i32_87
  let c256_i32_88 : BitVec 32 := 256#32
  let v237 : BitVec 32 := Scalar.muli v236 c256_i32_88
  v237
def k0_mult11 (i : grid0.Coords) (k0_t2 : Fin (k0_t2_loop i).trips) : BitVec 32 :=
  let arg1 : BitVec 32 := BitVec.ofNat 32 (i 1).val
  let c4_i32_99 : BitVec 32 := 4#32
  let v269 : BitVec 32 := Scalar.muli arg1 c4_i32_99
  let c1_i32_100 : BitVec 32 := 1#32
  let v270 : BitVec 32 := Scalar.subi v269 c1_i32_100
  let c4_i32_101 : BitVec 32 := 4#32
  let c0_i32_61 : BitVec 32 := 0#32
  let c1_i32_60 : BitVec 32 := 1#32
  let v182 : BitVec 32 := Scalar.muli arg1 c1_i32_60
  let v183 : BitVec 32 := Scalar.subi v182 c0_i32_61
  let c1_i32_62 : BitVec 32 := 1#32
  let v185 : BitVec 32 := Scalar.divsi v183 c1_i32_62
  let v186 : BitVec 32 := Scalar.muli v185 c1_i32_62
  let v187 : BitVec 32 := Scalar.addi c0_i32_61 v186
  let c1_i32_64 : BitVec 32 := 1#32
  let arg7 : BitVec 32 := Scf.iv v187 c1_i32_64 k0_t2
  let v271 : BitVec 32 := Scalar.muli c4_i32_101 arg7
  let v272 : BitVec 32 := Scalar.subi v270 v271
  let c2_i32_102 : BitVec 32 := 2#32
  let v273 : BitVec 32 := Scalar.subi v272 c2_i32_102
  let c256_i32_103 : BitVec 32 := 256#32
  let v274 : BitVec 32 := Scalar.muli v273 c256_i32_103
  v274
def k0_mult12 (i : grid0.Coords) (k0_t2 : Fin (k0_t2_loop i).trips) : BitVec 32 :=
  let arg1 : BitVec 32 := BitVec.ofNat 32 (i 1).val
  let c4_i32_114 : BitVec 32 := 4#32
  let v306 : BitVec 32 := Scalar.muli arg1 c4_i32_114
  let c1_i32_115 : BitVec 32 := 1#32
  let v307 : BitVec 32 := Scalar.subi v306 c1_i32_115
  let c4_i32_116 : BitVec 32 := 4#32
  let c0_i32_61 : BitVec 32 := 0#32
  let c1_i32_60 : BitVec 32 := 1#32
  let v182 : BitVec 32 := Scalar.muli arg1 c1_i32_60
  let v183 : BitVec 32 := Scalar.subi v182 c0_i32_61
  let c1_i32_62 : BitVec 32 := 1#32
  let v185 : BitVec 32 := Scalar.divsi v183 c1_i32_62
  let v186 : BitVec 32 := Scalar.muli v185 c1_i32_62
  let v187 : BitVec 32 := Scalar.addi c0_i32_61 v186
  let c1_i32_64 : BitVec 32 := 1#32
  let arg7 : BitVec 32 := Scf.iv v187 c1_i32_64 k0_t2
  let v308 : BitVec 32 := Scalar.muli c4_i32_116 arg7
  let v309 : BitVec 32 := Scalar.subi v307 v308
  let c3_i32_117 : BitVec 32 := 3#32
  let v310 : BitVec 32 := Scalar.subi v309 c3_i32_117
  let c256_i32_118 : BitVec 32 := 256#32
  let v311 : BitVec 32 := Scalar.muli v310 c256_i32_118
  v311
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference19Ideal.lean ====
abbrev S8192x6144 : Shape := ⟨2, ![8192, 6144]⟩
abbrev S8192x2048 : Shape := ⟨2, ![8192, 2048]⟩
abbrev S8192x16x128 : Shape := ⟨3, ![8192, 16, 128]⟩
abbrev S16x8192x128 : Shape := ⟨3, ![16, 8192, 128]⟩
abbrev S8192 : Shape := ⟨1, ![8192]⟩
abbrev S16x8192x8192 : Shape := ⟨3, ![16, 8192, 8192]⟩
abbrev S_ : Shape := ⟨0, ![]⟩
abbrev S1x8192 : Shape := ⟨2, ![1, 8192]⟩
abbrev S8192x1 : Shape := ⟨2, ![8192, 1]⟩
abbrev S8192x8192 : Shape := ⟨2, ![8192, 8192]⟩
abbrev S16x8192 : Shape := ⟨2, ![16, 8192]⟩
abbrev S8192x16 : Shape := ⟨2, ![8192, 16]⟩
abbrev S8192x16x1 : Shape := ⟨3, ![8192, 16, 1]⟩

abbrev nBuf : Space → Nat
  | .hbm => 114
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S8192x2048, .bf16⟩
  | .hbm, ⟨2, _⟩ => ⟨S8192x2048, .f32⟩
  | .hbm, ⟨3, _⟩ => ⟨S8192x16x128, .f32⟩
  | .hbm, ⟨4, _⟩ => ⟨S16x8192x128, .f32⟩
  | .hbm, ⟨5, _⟩ => ⟨S8192x2048, .bf16⟩
  | .hbm, ⟨6, _⟩ => ⟨S8192x2048, .f32⟩
  | .hbm, ⟨7, _⟩ => ⟨S8192x16x128, .f32⟩
  | .hbm, ⟨8, _⟩ => ⟨S16x8192x128, .f32⟩
  | .hbm, ⟨9, _⟩ => ⟨S8192x2048, .bf16⟩
  | .hbm, ⟨10, _⟩ => ⟨S8192x2048, .f32⟩
  | .hbm, ⟨11, _⟩ => ⟨S8192x16x128, .f32⟩
  | .hbm, ⟨12, _⟩ => ⟨S16x8192x128, .f32⟩
  | .hbm, ⟨13, _⟩ => ⟨S8192, .i32⟩
  | .hbm, ⟨14, _⟩ => ⟨S16x8192x8192, .f32⟩
  | .hbm, ⟨15, _⟩ => ⟨S_, .f32⟩
  | .hbm, ⟨16, _⟩ => ⟨S16x8192x8192, .f32⟩
  | .hbm, ⟨17, _⟩ => ⟨S16x8192x8192, .f32⟩
  | .hbm, ⟨18, _⟩ => ⟨S1x8192, .i32⟩
  | .hbm, ⟨19, _⟩ => ⟨S8192x1, .i32⟩
  | .hbm, ⟨20, _⟩ => ⟨S8192x8192, .i32⟩
  | .hbm, ⟨21, _⟩ => ⟨S8192x8192, .i32⟩
  | .hbm, ⟨22, _⟩ => ⟨S8192x8192, .i1⟩
  | .hbm, ⟨23, _⟩ => ⟨S16x8192x8192, .f32⟩
  | .hbm, ⟨24, _⟩ => ⟨S16x8192x8192, .f32⟩
  | .hbm, ⟨25, _⟩ => ⟨S_, .f32⟩
  | .hbm, ⟨26, _⟩ => ⟨S16x8192x8192, .f32⟩
  | .hbm, ⟨27, _⟩ => ⟨S16x8192x8192, .f32⟩
  | .hbm, ⟨28, _⟩ => ⟨S16x8192x8192, .f32⟩
  | .hbm, ⟨29, _⟩ => ⟨S16x8192x8192, .f32⟩
  | .hbm, ⟨30, _⟩ => ⟨S16x8192x8192, .i1⟩
  | .hbm, ⟨31, _⟩ => ⟨S16x8192x8192, .f32⟩
  | .hbm, ⟨32, _⟩ => ⟨S16x8192x8192, .f32⟩
  | .hbm, ⟨33, _⟩ => ⟨S16x8192x8192, .f32⟩
  | .hbm, ⟨34, _⟩ => ⟨S16x8192x8192, .f32⟩
  | .hbm, ⟨35, _⟩ => ⟨S16x8192x8192, .f32⟩
  | .hbm, ⟨36, _⟩ => ⟨S16x8192x8192, .f32⟩
  | .hbm, ⟨37, _⟩ => ⟨S16x8192x8192, .f32⟩
  | .hbm, ⟨38, _⟩ => ⟨S16x8192x8192, .f32⟩
  | .hbm, ⟨39, _⟩ => ⟨S16x8192x8192, .f32⟩
  | .hbm, ⟨40, _⟩ => ⟨S_, .f32⟩
  | .hbm, ⟨41, _⟩ => ⟨S_, .f32⟩
  | .hbm, ⟨42, _⟩ => ⟨S16x8192x8192, .i1⟩
  | .hbm, ⟨43, _⟩ => ⟨S16x8192x8192, .f32⟩
  | .hbm, ⟨44, _⟩ => ⟨S16x8192x8192, .f32⟩
  | .hbm, ⟨45, _⟩ => ⟨S_, .f32⟩
  | .hbm, ⟨46, _⟩ => ⟨S16x8192, .f32⟩
  | .hbm, ⟨47, _⟩ => ⟨S8192, .i32⟩
  | .hbm, ⟨48, _⟩ => ⟨S16x8192x8192, .f32⟩
  | .hbm, ⟨49, _⟩ => ⟨S_, .f32⟩
  | .hbm, ⟨50, _⟩ => ⟨S16x8192x8192, .f32⟩
  | .hbm, ⟨51, _⟩ => ⟨S16x8192x8192, .f32⟩
  | .hbm, ⟨52, _⟩ => ⟨S1x8192, .i32⟩
  | .hbm, ⟨53, _⟩ => ⟨S8192x1, .i32⟩
  | .hbm, ⟨54, _⟩ => ⟨S8192x8192, .i32⟩
  | .hbm, ⟨55, _⟩ => ⟨S8192x8192, .i32⟩
  | .hbm, ⟨56, _⟩ => ⟨S8192x8192, .i1⟩
  | .hbm, ⟨57, _⟩ => ⟨S16x8192x8192, .f32⟩
  | .hbm, ⟨58, _⟩ => ⟨S_, .f32⟩
  | .hbm, ⟨59, _⟩ => ⟨S16x8192x8192, .f32⟩
  | .hbm, ⟨60, _⟩ => ⟨S16x8192x8192, .f32⟩
  | .hbm, ⟨61, _⟩ => ⟨S16x8192x8192, .f32⟩
  | .hbm, ⟨62, _⟩ => ⟨S16x8192x8192, .f32⟩
  | .hbm, ⟨63, _⟩ => ⟨S16x8192x8192, .i1⟩
  | .hbm, ⟨64, _⟩ => ⟨S16x8192x8192, .f32⟩
  | .hbm, ⟨65, _⟩ => ⟨S16x8192x8192, .f32⟩
  | .hbm, ⟨66, _⟩ => ⟨S16x8192x8192, .f32⟩
  | .hbm, ⟨67, _⟩ => ⟨S16x8192x8192, .f32⟩
  | .hbm, ⟨68, _⟩ => ⟨S16x8192x8192, .f32⟩
  | .hbm, ⟨69, _⟩ => ⟨S16x8192x8192, .f32⟩
  | .hbm, ⟨70, _⟩ => ⟨S16x8192x8192, .f32⟩
  | .hbm, ⟨71, _⟩ => ⟨S16x8192x8192, .f32⟩
  | .hbm, ⟨72, _⟩ => ⟨S16x8192x8192, .f32⟩
  | .hbm, ⟨73, _⟩ => ⟨S16x8192x8192, .f32⟩
  | .hbm, ⟨74, _⟩ => ⟨S16x8192x8192, .f32⟩
  | .hbm, ⟨75, _⟩ => ⟨S_, .f32⟩
  | .hbm, ⟨76, _⟩ => ⟨S16x8192x8192, .f32⟩
  | .hbm, ⟨77, _⟩ => ⟨S16x8192x8192, .f32⟩
  | .hbm, ⟨78, _⟩ => ⟨S16x8192x8192, .f32⟩
  | .hbm, ⟨79, _⟩ => ⟨S16x8192x8192, .f32⟩
  | .hbm, ⟨80, _⟩ => ⟨S16x8192x8192, .i1⟩
  | .hbm, ⟨81, _⟩ => ⟨S16x8192x8192, .f32⟩
  | .hbm, ⟨82, _⟩ => ⟨S16x8192x8192, .f32⟩
  | .hbm, ⟨83, _⟩ => ⟨S16x8192x8192, .f32⟩
  | .hbm, ⟨84, _⟩ => ⟨S16x8192x8192, .f32⟩
  | .hbm, ⟨85, _⟩ => ⟨S16x8192x8192, .f32⟩
  | .hbm, ⟨86, _⟩ => ⟨S16x8192x8192, .f32⟩
  | .hbm, ⟨87, _⟩ => ⟨S16x8192x8192, .f32⟩
  | .hbm, ⟨88, _⟩ => ⟨S16x8192x8192, .f32⟩
  | .hbm, ⟨89, _⟩ => ⟨S16x8192x8192, .f32⟩
  | .hbm, ⟨90, _⟩ => ⟨S_, .f32⟩
  | .hbm, ⟨91, _⟩ => ⟨S_, .f32⟩
  | .hbm, ⟨92, _⟩ => ⟨S16x8192x8192, .i1⟩
  | .hbm, ⟨93, _⟩ => ⟨S16x8192x8192, .f32⟩
  | .hbm, ⟨94, _⟩ => ⟨S16x8192x8192, .f32⟩
  | .hbm, ⟨95, _⟩ => ⟨S_, .f32⟩
  | .hbm, ⟨96, _⟩ => ⟨S_, .f32⟩
  | .hbm, ⟨97, _⟩ => ⟨S16x8192x8192, .f32⟩
  | .hbm, ⟨98, _⟩ => ⟨S16x8192x8192, .f32⟩
  | .hbm, ⟨99, _⟩ => ⟨S16x8192x8192, .f32⟩
  | .hbm, ⟨100, _⟩ => ⟨S16x8192x8192, .f32⟩
  | .hbm, ⟨101, _⟩ => ⟨S_, .f32⟩
  | .hbm, ⟨102, _⟩ => ⟨S_, .f32⟩
  | .hbm, ⟨103, _⟩ => ⟨S16x8192x8192, .i1⟩
  | .hbm, ⟨104, _⟩ => ⟨S16x8192x8192, .f32⟩
  | .hbm, ⟨105, _⟩ => ⟨S16x8192x8192, .f32⟩
  | .hbm, ⟨106, _⟩ => ⟨S16x8192x128, .f32⟩
  | .hbm, ⟨107, _⟩ => ⟨S8192x16x128, .f32⟩
  | .hbm, ⟨108, _⟩ => ⟨S8192x2048, .f32⟩
  | .hbm, ⟨109, _⟩ => ⟨S8192x2048, .bf16⟩
  | .hbm, ⟨110, _⟩ => ⟨S8192x16, .f32⟩
  | .hbm, ⟨111, _⟩ => ⟨S8192x16x1, .f32⟩
  | .hbm, ⟨112, _⟩ => ⟨S8192x16x128, .f32⟩
  | .hbm, ⟨113, _⟩ => ⟨S8192x2048, .f32⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_cst : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_call0_v0 : Ref sig .tc := ⟨.hbm, 24, rfl⟩
abbrev main_call0_call0_cst : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_v9 : Ref sig .tc := ⟨.hbm, 35, rfl⟩
abbrev main_call0_call0_v10 : Ref sig .tc := ⟨.hbm, 36, rfl⟩
abbrev main_call0_call0_v11 : Ref sig .tc := ⟨.hbm, 37, rfl⟩
abbrev main_call0_v1 : Ref sig .tc := ⟨.hbm, 38, rfl⟩
abbrev main_v22 : Ref sig .tc := ⟨.hbm, 39, rfl⟩
abbrev main_cst_0 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v23 : Ref sig .tc := ⟨.hbm, 44, rfl⟩
abbrev main_cst_1 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_2 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_call2_v0 : Ref sig .tc := ⟨.hbm, 57, rfl⟩
abbrev main_call2_call0_cst : Ref sig .tc := ⟨.hbm, 58, rfl⟩
abbrev main_call2_call0_v0 : Ref sig .tc := ⟨.hbm, 59, rfl⟩
abbrev main_call2_call0_v1 : Ref sig .tc := ⟨.hbm, 60, rfl⟩
abbrev main_call2_call0_v2 : Ref sig .tc := ⟨.hbm, 61, rfl⟩
abbrev main_call2_call0_v3 : Ref sig .tc := ⟨.hbm, 62, rfl⟩
abbrev main_call2_call0_v4 : Ref sig .tc := ⟨.hbm, 63, rfl⟩
abbrev main_call2_call0_v5 : Ref sig .tc := ⟨.hbm, 64, rfl⟩
abbrev main_call2_call0_v6 : Ref sig .tc := ⟨.hbm, 65, rfl⟩
abbrev main_call2_call0_v7 : Ref sig .tc := ⟨.hbm, 66, rfl⟩
abbrev main_call2_call0_v8 : Ref sig .tc := ⟨.hbm, 67, rfl⟩
abbrev main_call2_call0_v9 : Ref sig .tc := ⟨.hbm, 68, rfl⟩
abbrev main_call2_call0_v10 : Ref sig .tc := ⟨.hbm, 69, rfl⟩
abbrev main_call2_call0_v11 : Ref sig .tc := ⟨.hbm, 70, rfl⟩
abbrev main_call2_v1 : Ref sig .tc := ⟨.hbm, 71, rfl⟩
abbrev main_v34 : Ref sig .tc := ⟨.hbm, 72, rfl⟩
abbrev main_v35 : Ref sig .tc := ⟨.hbm, 73, rfl⟩
abbrev main_call3_v0 : Ref sig .tc := ⟨.hbm, 74, rfl⟩
abbrev main_call3_call0_cst : Ref sig .tc := ⟨.hbm, 75, rfl⟩
abbrev main_call3_call0_v0 : Ref sig .tc := ⟨.hbm, 76, rfl⟩
abbrev main_call3_call0_v1 : Ref sig .tc := ⟨.hbm, 77, rfl⟩
abbrev main_call3_call0_v2 : Ref sig .tc := ⟨.hbm, 78, rfl⟩
abbrev main_call3_call0_v3 : Ref sig .tc := ⟨.hbm, 79, rfl⟩
abbrev main_call3_call0_v4 : Ref sig .tc := ⟨.hbm, 80, rfl⟩
abbrev main_call3_call0_v5 : Ref sig .tc := ⟨.hbm, 81, rfl⟩
abbrev main_call3_call0_v6 : Ref sig .tc := ⟨.hbm, 82, rfl⟩
abbrev main_call3_call0_v7 : Ref sig .tc := ⟨.hbm, 83, rfl⟩
abbrev main_call3_call0_v8 : Ref sig .tc := ⟨.hbm, 84, rfl⟩
abbrev main_call3_call0_v9 : Ref sig .tc := ⟨.hbm, 85, rfl⟩
abbrev main_call3_call0_v10 : Ref sig .tc := ⟨.hbm, 86, rfl⟩
abbrev main_call3_call0_v11 : Ref sig .tc := ⟨.hbm, 87, rfl⟩
abbrev main_call3_v1 : Ref sig .tc := ⟨.hbm, 88, rfl⟩
abbrev main_v36 : Ref sig .tc := ⟨.hbm, 89, rfl⟩
abbrev main_cst_3 : Ref sig .tc := ⟨.hbm, 90, rfl⟩
abbrev main_call4_v0 : Ref sig .tc := ⟨.hbm, 91, rfl⟩
abbrev main_call4_v1 : Ref sig .tc := ⟨.hbm, 92, rfl⟩
abbrev main_call4_v2 : Ref sig .tc := ⟨.hbm, 93, rfl⟩
abbrev main_v37 : Ref sig .tc := ⟨.hbm, 94, rfl⟩
abbrev main_call5_cst : Ref sig .tc := ⟨.hbm, 95, rfl⟩
abbrev main_call5_v0 : Ref sig .tc := ⟨.hbm, 96, rfl⟩
abbrev main_v38 : Ref sig .tc := ⟨.hbm, 97, rfl⟩
abbrev main_v39 : Ref sig .tc := ⟨.hbm, 98, rfl⟩
abbrev main_v40 : Ref sig .tc := ⟨.hbm, 99, rfl⟩
abbrev main_v41 : Ref sig .tc := ⟨.hbm, 100, rfl⟩
abbrev main_cst_4 : Ref sig .tc := ⟨.hbm, 101, rfl⟩
abbrev main_call6_v0 : Ref sig .tc := ⟨.hbm, 102, rfl⟩
abbrev main_call6_v1 : Ref sig .tc := ⟨.hbm, 103, rfl⟩
abbrev main_call6_v2 : Ref sig .tc := ⟨.hbm, 104, rfl⟩
abbrev main_v42 : Ref sig .tc := ⟨.hbm, 105, rfl⟩
abbrev main_v43 : Ref sig .tc := ⟨.hbm, 106, rfl⟩
abbrev main_v44 : Ref sig .tc := ⟨.hbm, 107, rfl⟩
abbrev main_v45 : Ref sig .tc := ⟨.hbm, 108, rfl⟩
abbrev main_v46 : Ref sig .tc := ⟨.hbm, 109, rfl⟩
abbrev main_v47 : Ref sig .tc := ⟨.hbm, 110, rfl⟩
abbrev main_v48 : Ref sig .tc := ⟨.hbm, 111, rfl⟩
abbrev main_v49 : Ref sig .tc := ⟨.hbm, 112, rfl⟩
abbrev main_v50 : Ref sig .tc := ⟨.hbm, 113, rfl⟩

abbrev nD : Nat := 1
abbrev τ : Topo := Topo.v7x

variable {F : FTy → Type} [FloatOps F]
-- ==== Kernel20.lean ====
abbrev S8192x6144 : Shape := ⟨2, ![8192, 6144]⟩
abbrev S8192x2048 : Shape := ⟨2, ![8192, 2048]⟩
abbrev S3x2048 : Shape := ⟨2, ![3, 2048]⟩
abbrev S32x8x2048 : Shape := ⟨3, ![32, 8, 2048]⟩
abbrev S256x512 : Shape := ⟨2, ![256, 512]⟩
abbrev S16x512 : Shape := ⟨2, ![16, 512]⟩
abbrev S3x512 : Shape := ⟨2, ![3, 512]⟩
abbrev S1x8x512 : Shape := ⟨3, ![1, 8, 512]⟩
abbrev S272x512 : Shape := ⟨2, ![272, 512]⟩
abbrev S1x512 : Shape := ⟨2, ![1, 512]⟩
abbrev S8x512 : Shape := ⟨2, ![8, 512]⟩
abbrev S512 : Shape := ⟨1, ![512]⟩
abbrev S1x1x512 : Shape := ⟨3, ![1, 1, 512]⟩

abbrev nBuf : Space → Nat
  | .hbm => 7
  | .vmem => 26
  | .smem => 0
  | _ => 0

abbrev bufTy : (tb : Table) → Fin (tcTables nBuf tb) → BufTy
  | .hbm, ⟨0, _⟩ => ⟨S8192x6144, .bf16⟩
  | .hbm, ⟨1, _⟩ => ⟨S8192x2048, .bf16⟩
  | .hbm, ⟨2, _⟩ => ⟨S3x2048, .f32⟩
  | .hbm, ⟨3, _⟩ => ⟨S8192x2048, .bf16⟩
  | .hbm, ⟨4, _⟩ => ⟨S8192x2048, .bf16⟩
  | .hbm, ⟨5, _⟩ => ⟨S8192x2048, .bf16⟩
  | .hbm, ⟨6, _⟩ => ⟨S32x8x2048, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S16x512, .bf16⟩
  | .local _ .vmem, ⟨7, _⟩ => ⟨S16x512, .bf16⟩
  | .local _ .vmem, ⟨8, _⟩ => ⟨S16x512, .bf16⟩
  | .local _ .vmem, ⟨9, _⟩ => ⟨S16x512, .bf16⟩
  | .local _ .vmem, ⟨10, _⟩ => ⟨S16x512, .bf16⟩
  | .local _ .vmem, ⟨11, _⟩ => ⟨S16x512, .bf16⟩
  | .local _ .vmem, ⟨12, _⟩ => ⟨S256x512, .bf16⟩
  | .local _ .vmem, ⟨13, _⟩ => ⟨S256x512, .bf16⟩
  | .local _ .vmem, ⟨14, _⟩ => ⟨S16x512, .bf16⟩
  | .local _ .vmem, ⟨15, _⟩ => ⟨S16x512, .bf16⟩
  | .local _ .vmem, ⟨16, _⟩ => ⟨S3x512, .f32⟩
  | .local _ .vmem, ⟨17, _⟩ => ⟨S3x512, .f32⟩
  | .local _ .vmem, ⟨18, _⟩ => ⟨S256x512, .bf16⟩
  | .local _ .vmem, ⟨19, _⟩ => ⟨S256x512, .bf16⟩
  | .local _ .vmem, ⟨20, _⟩ => ⟨S256x512, .bf16⟩
  | .local _ .vmem, ⟨21, _⟩ => ⟨S256x512, .bf16⟩
  | .local _ .vmem, ⟨22, _⟩ => ⟨S256x512, .bf16⟩
  | .local _ .vmem, ⟨23, _⟩ => ⟨S256x512, .bf16⟩
  | .local _ .vmem, ⟨24, _⟩ => ⟨S1x8x512, .f32⟩
  | .local _ .vmem, ⟨25, _⟩ => ⟨S1x8x512, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let v3 : BitVec 32 := Scalar.addi c4_i32 arg1
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c8_i32 : BitVec 32 := 8#32
  let v3 : BitVec 32 := Scalar.addi c8_i32 arg1
  let c0_i32_0 : BitVec 32 := 0#32
  ![v2.toNat, v3.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let v3 : BitVec 32 := Scalar.addi c0_i32 arg1
  let c0_i32_0 : BitVec 32 := 0#32
  ![v2.toNat, v3.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let v3 : BitVec 32 := Scalar.addi c0_i32 arg1
  let c0_i32_0 : BitVec 32 := 0#32
  ![v2.toNat, v3.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S16x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S3x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x8x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference20Ideal.lean ====
abbrev S8192x6144 : Shape := ⟨2, ![8192, 6144]⟩
abbrev S8192x2048 : Shape := ⟨2, ![8192, 2048]⟩
abbrev S3x2048 : Shape := ⟨2, ![3, 2048]⟩
abbrev S32x3x2048 : Shape := ⟨3, ![32, 3, 2048]⟩
abbrev S_ : Shape := ⟨0, ![]⟩
abbrev S2x2048 : Shape := ⟨2, ![2, 2048]⟩
abbrev S8194x2048 : Shape := ⟨2, ![8194, 2048]⟩
abbrev S32x1x2048 : Shape := ⟨3, ![32, 1, 2048]⟩
abbrev S32x2048 : Shape := ⟨2, ![32, 2048]⟩
abbrev S32x256x2048 : Shape := ⟨3, ![32, 256, 2048]⟩
abbrev S32x8x2048 : Shape := ⟨3, ![32, 8, 2048]⟩

abbrev nBuf : Space → Nat
  | .hbm => 94
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S8192x2048, .bf16⟩
  | .hbm, ⟨2, _⟩ => ⟨S3x2048, .f32⟩
  | .hbm, ⟨3, _⟩ => ⟨S8192x6144, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S32x3x2048, .f32⟩
  | .hbm, ⟨8, _⟩ => ⟨S_, .f32⟩
  | .hbm, ⟨9, _⟩ => ⟨S2x2048, .f32⟩
  | .hbm, ⟨10, _⟩ => ⟨S8192x2048, .f32⟩
  | .hbm, ⟨11, _⟩ => ⟨S8194x2048, .f32⟩
  | .hbm, ⟨12, _⟩ => ⟨S_, .f32⟩
  | .hbm, ⟨13, _⟩ => ⟨S2x2048, .f32⟩
  | .hbm, ⟨14, _⟩ => ⟨S32x1x2048, .f32⟩
  | .hbm, ⟨15, _⟩ => ⟨S32x2048, .f32⟩
  | .hbm, ⟨16, _⟩ => ⟨S32x1x2048, .f32⟩
  | .hbm, ⟨17, _⟩ => ⟨S32x256x2048, .f32⟩
  | .hbm, ⟨18, _⟩ => ⟨S8192x2048, .f32⟩
  | .hbm, ⟨19, _⟩ => ⟨S32x1x2048, .f32⟩
  | .hbm, ⟨20, _⟩ => ⟨S32x2048, .f32⟩
  | .hbm, ⟨21, _⟩ => ⟨S32x1x2048, .f32⟩
  | .hbm, ⟨22, _⟩ => ⟨S32x256x2048, .f32⟩
  | .hbm, ⟨23, _⟩ => ⟨S8192x2048, .f32⟩
  | .hbm, ⟨24, _⟩ => ⟨S32x1x2048, .f32⟩
  | .hbm, ⟨25, _⟩ => ⟨S32x2048, .f32⟩
  | .hbm, ⟨26, _⟩ => ⟨S32x1x2048, .f32⟩
  | .hbm, ⟨27, _⟩ => ⟨S32x256x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S_, .f32⟩
  | .hbm, ⟨44, _⟩ => ⟨S8194x2048, .f32⟩
  | .hbm, ⟨45, _⟩ => ⟨S8192x2048, .f32⟩
  | .hbm, ⟨46, _⟩ => ⟨S8192x2048, .f32⟩
  | .hbm, ⟨47, _⟩ => ⟨S_, .f32⟩
  | .hbm, ⟨48, _⟩ => ⟨S8194x2048, .f32⟩
  | .hbm, ⟨49, _⟩ => ⟨S8194x2048, .f32⟩
  | .hbm, ⟨50, _⟩ => ⟨S8192x2048, .f32⟩
  | .hbm, ⟨51, _⟩ => ⟨S8192x2048, .f32⟩
  | .hbm, ⟨52, _⟩ => ⟨S_, .f32⟩
  | .hbm, ⟨53, _⟩ => ⟨S8194x2048, .f32⟩
  | .hbm, ⟨54, _⟩ => ⟨S8194x2048, .f32⟩
  | .hbm, ⟨55, _⟩ => ⟨S32x256x2048, .f32⟩
  | .hbm, ⟨56, _⟩ => ⟨S_, .f32⟩
  | .hbm, ⟨57, _⟩ => ⟨S32x2048, .f32⟩
  | .hbm, ⟨58, _⟩ => ⟨S32x1x2048, .f32⟩
  | .hbm, ⟨59, _⟩ => ⟨S_, .f32⟩
  | .hbm, ⟨60, _⟩ => ⟨S32x2048, .f32⟩
  | .hbm, ⟨61, _⟩ => ⟨S32x1x2048, .f32⟩
  | .hbm, ⟨62, _⟩ => ⟨S_, .f32⟩
  | .hbm, ⟨63, _⟩ => ⟨S32x3x2048, .f32⟩
  | .hbm, ⟨64, _⟩ => ⟨S32x256x2048, .f32⟩
  | .hbm, ⟨65, _⟩ => ⟨S_, .f32⟩
  | .hbm, ⟨66, _⟩ => ⟨S32x2048, .f32⟩
  | .hbm, ⟨67, _⟩ => ⟨S32x1x2048, .f32⟩
  | .hbm, ⟨68, _⟩ => ⟨S_, .f32⟩
  | .hbm, ⟨69, _⟩ => ⟨S32x2048, .f32⟩
  | .hbm, ⟨70, _⟩ => ⟨S32x1x2048, .f32⟩
  | .hbm, ⟨71, _⟩ => ⟨S_, .f32⟩
  | .hbm, ⟨72, _⟩ => ⟨S32x3x2048, .f32⟩
  | .hbm, ⟨73, _⟩ => ⟨S32x3x2048, .f32⟩
  | .hbm, ⟨74, _⟩ => ⟨S32x256x2048, .f32⟩
  | .hbm, ⟨75, _⟩ => ⟨S_, .f32⟩
  | .hbm, ⟨76, _⟩ => ⟨S32x2048, .f32⟩
  | .hbm, ⟨77, _⟩ => ⟨S32x1x2048, .f32⟩
  | .hbm, ⟨78, _⟩ => ⟨S_, .f32⟩
  | .hbm, ⟨79, _⟩ => ⟨S32x2048, .f32⟩
  | .hbm, ⟨80, _⟩ => ⟨S32x1x2048, .f32⟩
  | .hbm, ⟨81, _⟩ => ⟨S_, .f32⟩
  | .hbm, ⟨82, _⟩ => ⟨S32x3x2048, .f32⟩
  | .hbm, ⟨83, _⟩ => ⟨S32x3x2048, .f32⟩
  | .hbm, ⟨84, _⟩ => ⟨S2x2048, .f32⟩
  | .hbm, ⟨85, _⟩ => ⟨S8192x2048, .f32⟩
  | .hbm, ⟨86, _⟩ => ⟨S8192x2048, .f32⟩
  | .hbm, ⟨87, _⟩ => ⟨S8192x2048, .f32⟩
  | .hbm, ⟨88, _⟩ => ⟨S8192x2048, .bf16⟩
  | .hbm, ⟨89, _⟩ => ⟨S8192x2048, .bf16⟩
  | .hbm, ⟨90, _⟩ => ⟨S8192x2048, .bf16⟩
  | .hbm, ⟨91, _⟩ => ⟨S_, .i32⟩
  | .hbm, ⟨92, _⟩ => ⟨S_, .f32⟩
  | .hbm, ⟨93, _⟩ => ⟨S32x8x2048, .f32⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_cst_1 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_cst_2 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_cst_3 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_cst_4 : Ref sig .tc := ⟨.hbm, 56, rfl⟩
abbrev main_v48 : Ref sig .tc := ⟨.hbm, 57, rfl⟩
abbrev main_v49 : Ref sig .tc := ⟨.hbm, 58, rfl⟩
abbrev main_cst_5 : Ref sig .tc := ⟨.hbm, 59, rfl⟩
abbrev main_v50 : Ref sig .tc := ⟨.hbm, 60, rfl⟩
abbrev main_v51 : Ref sig .tc := ⟨.hbm, 61, rfl⟩
abbrev main_cst_6 : Ref sig .tc := ⟨.hbm, 62, rfl⟩
abbrev main_v52 : Ref sig .tc := ⟨.hbm, 63, rfl⟩
abbrev main_v53 : Ref sig .tc := ⟨.hbm, 64, rfl⟩
abbrev main_cst_7 : Ref sig .tc := ⟨.hbm, 65, rfl⟩
abbrev main_v54 : Ref sig .tc := ⟨.hbm, 66, rfl⟩
abbrev main_v55 : Ref sig .tc := ⟨.hbm, 67, rfl⟩
abbrev main_cst_8 : Ref sig .tc := ⟨.hbm, 68, rfl⟩
abbrev main_v56 : Ref sig .tc := ⟨.hbm, 69, rfl⟩
abbrev main_v57 : Ref sig .tc := ⟨.hbm, 70, rfl⟩
abbrev main_cst_9 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_cst_10 : Ref sig .tc := ⟨.hbm, 75, rfl⟩
abbrev main_v61 : Ref sig .tc := ⟨.hbm, 76, rfl⟩
abbrev main_v62 : Ref sig .tc := ⟨.hbm, 77, rfl⟩
abbrev main_cst_11 : Ref sig .tc := ⟨.hbm, 78, rfl⟩
abbrev main_v63 : Ref sig .tc := ⟨.hbm, 79, rfl⟩
abbrev main_v64 : Ref sig .tc := ⟨.hbm, 80, rfl⟩
abbrev main_cst_12 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_c : Ref sig .tc := ⟨.hbm, 91, rfl⟩
abbrev main_call0_v0 : Ref sig .tc := ⟨.hbm, 92, rfl⟩
abbrev main_v74 : Ref sig .tc := ⟨.hbm, 93, rfl⟩

abbrev nD : Nat := 1
abbrev τ : Topo := Topo.v7x

variable {F : FTy → Type} [FloatOps F]
-- ==== Kernel21.lean ====
abbrev S8192x6144 : Shape := ⟨2, ![8192, 6144]⟩
abbrev S3x2048 : Shape := ⟨2, ![3, 2048]⟩
abbrev S8192x2048 : Shape := ⟨2, ![8192, 2048]⟩
abbrev S256x512 : Shape := ⟨2, ![256, 512]⟩
abbrev S16x512 : Shape := ⟨2, ![16, 512]⟩
abbrev S3x512 : Shape := ⟨2, ![3, 512]⟩
abbrev S272x512 : Shape := ⟨2, ![272, 512]⟩
abbrev S1x512 : Shape := ⟨2, ![1, 512]⟩

abbrev nBuf : Space → Nat
  | .hbm => 3
  | .vmem => 14
  | .smem => 0
  | _ => 0

abbrev bufTy : (tb : Table) → Fin (tcTables nBuf tb) → BufTy
  | .hbm, ⟨0, _⟩ => ⟨S8192x6144, .bf16⟩
  | .hbm, ⟨1, _⟩ => ⟨S3x2048, .f32⟩
  | .hbm, ⟨2, _⟩ => ⟨S8192x2048, .bf16⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S16x512, .bf16⟩
  | .local _ .vmem, ⟨7, _⟩ => ⟨S16x512, .bf16⟩
  | .local _ .vmem, ⟨8, _⟩ => ⟨S16x512, .bf16⟩
  | .local _ .vmem, ⟨9, _⟩ => ⟨S16x512, .bf16⟩
  | .local _ .vmem, ⟨10, _⟩ => ⟨S3x512, .f32⟩
  | .local _ .vmem, ⟨11, _⟩ => ⟨S3x512, .f32⟩
  | .local _ .vmem, ⟨12, _⟩ => ⟨S256x512, .bf16⟩
  | .local _ .vmem, ⟨13, _⟩ => ⟨S256x512, .bf16⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let v3 : BitVec 32 := Scalar.addi c4_i32 arg1
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c8_i32 : BitVec 32 := 8#32
  let v3 : BitVec 32 := Scalar.addi c8_i32 arg1
  let c0_i32_0 : BitVec 32 := 0#32
  ![v2.toNat, v3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference21Ideal.lean ====
abbrev S8192x6144 : Shape := ⟨2, ![8192, 6144]⟩
abbrev S3x2048 : Shape := ⟨2, ![3, 2048]⟩
abbrev S8192x2048 : Shape := ⟨2, ![8192, 2048]⟩
abbrev S_ : Shape := ⟨0, ![]⟩
abbrev S2x2048 : Shape := ⟨2, ![2, 2048]⟩
abbrev S8194x2048 : Shape := ⟨2, ![8194, 2048]⟩
abbrev S1x2048 : Shape := ⟨2, ![1, 2048]⟩

abbrev nBuf : Space → Nat
  | .hbm => 26
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S3x2048, .f32⟩
  | .hbm, ⟨2, _⟩ => ⟨S8192x6144, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S_, .f32⟩
  | .hbm, ⟨7, _⟩ => ⟨S2x2048, .f32⟩
  | .hbm, ⟨8, _⟩ => ⟨S8192x2048, .f32⟩
  | .hbm, ⟨9, _⟩ => ⟨S8194x2048, .f32⟩
  | .hbm, ⟨10, _⟩ => ⟨S1x2048, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S1x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .bf16⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩

abbrev nD : Nat := 1
abbrev τ : Topo := Topo.v7x

variable {F : FTy → Type} [FloatOps F]
-- ==== Kernel22.lean ====
abbrev S2048x8 : Shape := ⟨2, ![2048, 8]⟩
abbrev S4x8x3072 : Shape := ⟨3, ![4, 8, 3072]⟩
abbrev S4x2048x3072 : Shape := ⟨3, ![4, 2048, 3072]⟩
abbrev S512x8 : Shape := ⟨2, ![512, 8]⟩
abbrev S1x8x512 : Shape := ⟨3, ![1, 8, 512]⟩
abbrev S1x512x512 : Shape := ⟨3, ![1, 512, 512]⟩
abbrev S8x512 : Shape := ⟨2, ![8, 512]⟩
abbrev S512x1 : Shape := ⟨2, ![512, 1]⟩
abbrev S1x512 : Shape := ⟨2, ![1, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x8, .f32⟩
  | .hbm, ⟨1, _⟩ => ⟨S4x8x3072, .f32⟩
  | .hbm, ⟨2, _⟩ => ⟨S4x2048x3072, .f32⟩
  | .local _ .vmem, ⟨0, _⟩ => ⟨S512x8, .f32⟩
  | .local _ .vmem, ⟨1, _⟩ => ⟨S512x8, .f32⟩
  | .local _ .vmem, ⟨2, _⟩ => ⟨S1x8x512, .f32⟩
  | .local _ .vmem, ⟨3, _⟩ => ⟨S1x8x512, .f32⟩
  | .local _ .vmem, ⟨4, _⟩ => ⟨S1x512x512, .f32⟩
  | .local _ .vmem, ⟨5, _⟩ => ⟨S1x512x512, .f32⟩
  | _, _ => ⟨S2048x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 6], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S512x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== Reference22Ideal.lean ====
abbrev S2048x8 : Shape := ⟨2, ![2048, 8]⟩
abbrev S4x8x3072 : Shape := ⟨3, ![4, 8, 3072]⟩
abbrev S_ : Shape := ⟨0, ![]⟩
abbrev S4x2048x3072 : Shape := ⟨3, ![4, 2048, 3072]⟩
abbrev S8x2048 : Shape := ⟨2, ![8, 2048]⟩
abbrev S4x3072x8 : Shape := ⟨3, ![4, 3072, 8]⟩
abbrev S4x3072x2048 : Shape := ⟨3, ![4, 3072, 2048]⟩

abbrev nBuf : Space → Nat
  | .hbm => 22
  | .vmem => 0
  | .smem => 0
  | _ => 0

abbrev bufTy : (tb : Table) → Fin (tcTables nBuf tb) → BufTy
  | .hbm, ⟨0, _⟩ => ⟨S2048x8, .f32⟩
  | .hbm, ⟨1, _⟩ => ⟨S4x8x3072, .f32⟩
  | .hbm, ⟨2, _⟩ => ⟨S_, .f32⟩
  | .hbm, ⟨3, _⟩ => ⟨S4x2048x3072, .f32⟩
  | .hbm, ⟨4, _⟩ => ⟨S8x2048, .f32⟩
  | .hbm, ⟨5, _⟩ => ⟨S8x2048, .f32⟩
  | .hbm, ⟨6, _⟩ => ⟨S8x2048, .f32⟩
  | .hbm, ⟨7, _⟩ => ⟨S_, .f32⟩
  | .hbm, ⟨8, _⟩ => ⟨S8x2048, .f32⟩
  | .hbm, ⟨9, _⟩ => ⟨S8x2048, .f32⟩
  | .hbm, ⟨10, _⟩ => ⟨S_, .f32⟩
  | .hbm, ⟨11, _⟩ => ⟨S8x2048, .f32⟩
  | .hbm, ⟨12, _⟩ => ⟨S8x2048, .f32⟩
  | .hbm, ⟨13, _⟩ => ⟨S8x2048, .f32⟩
  | .hbm, ⟨14, _⟩ => ⟨S4x3072x8, .f32⟩
  | .hbm, ⟨15, _⟩ => ⟨S4x8x3072, .f32⟩
  | .hbm, ⟨16, _⟩ => ⟨S_, .f32⟩
  | .hbm, ⟨17, _⟩ => ⟨S4x8x3072, .f32⟩
  | .hbm, ⟨18, _⟩ => ⟨S4x8x3072, .f32⟩
  | .hbm, ⟨19, _⟩ => ⟨S4x3072x8, .f32⟩
  | .hbm, ⟨20, _⟩ => ⟨S4x3072x2048, .f32⟩
  | .hbm, ⟨21, _⟩ => ⟨S4x2048x3072, .f32⟩
  | _, _ => ⟨S2048x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩

abbrev nD : Nat := 1
abbrev τ : Topo := Topo.v7x

variable {F : FTy → Type} [FloatOps F]
-- ==== Kernel23.lean ====
abbrev S16x2048 : Shape := ⟨2, ![16, 2048]⟩
abbrev S4x2048x3072 : Shape := ⟨3, ![4, 2048, 3072]⟩
abbrev S4x1x3072 : Shape := ⟨3, ![4, 1, 3072]⟩
abbrev S4x16x3072 : Shape := ⟨3, ![4, 16, 3072]⟩
abbrev S1x2048x512 : Shape := ⟨3, ![1, 2048, 512]⟩
abbrev S1x1x512 : Shape := ⟨3, ![1, 1, 512]⟩
abbrev S1x16x512 : Shape := ⟨3, ![1, 16, 512]⟩
abbrev S2048x512 : Shape := ⟨2, ![2048, 512]⟩
abbrev S16x512 : Shape := ⟨2, ![16, 512]⟩
abbrev S1x512 : Shape := ⟨2, ![1, 512]⟩

abbrev nBuf : Space → Nat
  | .hbm => 4
  | .vmem => 7
  | .smem => 0
  | _ => 0

abbrev bufTy : (tb : Table) → Fin (tcTables nBuf tb) → BufTy
  | .hbm, ⟨0, _⟩ => ⟨S16x2048, .f32⟩
  | .hbm, ⟨1, _⟩ => ⟨S4x2048x3072, .f32⟩
  | .hbm, ⟨2, _⟩ => ⟨S4x1x3072, .f32⟩
  | .hbm, ⟨3, _⟩ => ⟨S4x16x3072, .f32⟩
  | .local _ .vmem, ⟨0, _⟩ => ⟨S16x2048, .f32⟩
  | .local _ .vmem, ⟨1, _⟩ => ⟨S1x2048x512, .f32⟩
  | .local _ .vmem, ⟨2, _⟩ => ⟨S1x2048x512, .f32⟩
  | .local _ .vmem, ⟨3, _⟩ => ⟨S1x1x512, .f32⟩
  | .local _ .vmem, ⟨4, _⟩ => ⟨S1x1x512, .f32⟩
  | .local _ .vmem, ⟨5, _⟩ => ⟨S1x16x512, .f32⟩
  | .local _ .vmem, ⟨6, _⟩ => ⟨S1x16x512, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference23Ideal.lean ====
abbrev S16x2048 : Shape := ⟨2, ![16, 2048]⟩
abbrev S4x2048x3072 : Shape := ⟨3, ![4, 2048, 3072]⟩
abbrev S4x1x3072 : Shape := ⟨3, ![4, 1, 3072]⟩
abbrev S_ : Shape := ⟨0, ![]⟩
abbrev S4x3072x16 : Shape := ⟨3, ![4, 3072, 16]⟩
abbrev S4x16x3072 : Shape := ⟨3, ![4, 16, 3072]⟩

abbrev nBuf : Space → Nat
  | .hbm => 16
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S4x2048x3072, .f32⟩
  | .hbm, ⟨2, _⟩ => ⟨S4x1x3072, .f32⟩
  | .hbm, ⟨3, _⟩ => ⟨S16x2048, .f32⟩
  | .hbm, ⟨4, _⟩ => ⟨S16x2048, .f32⟩
  | .hbm, ⟨5, _⟩ => ⟨S_, .f32⟩
  | .hbm, ⟨6, _⟩ => ⟨S16x2048, .f32⟩
  | .hbm, ⟨7, _⟩ => ⟨S16x2048, .f32⟩
  | .hbm, ⟨8, _⟩ => ⟨S_, .f32⟩
  | .hbm, ⟨9, _⟩ => ⟨S16x2048, .f32⟩
  | .hbm, ⟨10, _⟩ => ⟨S16x2048, .f32⟩
  | .hbm, ⟨11, _⟩ => ⟨S16x2048, .f32⟩
  | .hbm, ⟨12, _⟩ => ⟨S4x3072x16, .f32⟩
  | .hbm, ⟨13, _⟩ => ⟨S4x16x3072, .f32⟩
  | .hbm, ⟨14, _⟩ => ⟨S4x16x3072, .f32⟩
  | .hbm, ⟨15, _⟩ => ⟨S4x16x3072, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Kernel24.lean ====
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S512x2048, .bf16⟩
  | .local _ .vmem, ⟨6, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference24Ideal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 27
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Kernel25.lean ====
abbrev S8192x2048 : Shape := ⟨2, ![8192, 2048]⟩
abbrev S1x2048 : Shape := ⟨2, ![1, 2048]⟩
abbrev S8x2048 : Shape := ⟨2, ![8, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 10
  | .vmem => 16
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S8192x2048, .bf16⟩
  | .hbm, ⟨4, _⟩ => ⟨S8192x2048, .f32⟩
  | .hbm, ⟨5, _⟩ => ⟨S8192x2048, .bf16⟩
  | .hbm, ⟨6, _⟩ => ⟨S1x2048, .f32⟩
  | .hbm, ⟨7, _⟩ => ⟨S8192x2048, .f32⟩
  | .hbm, ⟨8, _⟩ => ⟨S8192x2048, .bf16⟩
  | .hbm, ⟨9, _⟩ => ⟨S8x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S256x2048, .bf16⟩
  | .local _ .vmem, ⟨5, _⟩ => ⟨S256x2048, .bf16⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | .local _ .vmem, ⟨10, _⟩ => ⟨S1x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .bf16⟩
  | .local _ .vmem, ⟨14, _⟩ => ⟨S256x2048, .bf16⟩
  | .local _ .vmem, ⟨15, _⟩ => ⟨S8x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference25Ideal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩
abbrev S4x2048 : Shape := ⟨2, ![4, 2048]⟩
abbrev S8x2048 : Shape := ⟨2, ![8, 2048]⟩

abbrev nBuf : Space → Nat
  | .hbm => 82
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S8192x2048, .bf16⟩
  | .hbm, ⟨4, _⟩ => ⟨S8192x2048, .f32⟩
  | .hbm, ⟨5, _⟩ => ⟨S8192x2048, .bf16⟩
  | .hbm, ⟨6, _⟩ => ⟨S1x2048, .f32⟩
  | .hbm, ⟨7, _⟩ => ⟨S_, .f32⟩
  | .hbm, ⟨8, _⟩ => ⟨S1x2048, .f32⟩
  | .hbm, ⟨9, _⟩ => ⟨S8192x2048, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S1x2048, .f32⟩
  | .hbm, ⟨30, _⟩ => ⟨S1x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S_, .f32⟩
  | .hbm, ⟨37, _⟩ => ⟨S2048, .f32⟩
  | .hbm, ⟨38, _⟩ => ⟨S1x2048, .f32⟩
  | .hbm, ⟨39, _⟩ => ⟨S8192x2048, .f32⟩
  | .hbm, ⟨40, _⟩ => ⟨S_, .f32⟩
  | .hbm, ⟨41, _⟩ => ⟨S2048, .f32⟩
  | .hbm, ⟨42, _⟩ => ⟨S1x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S_, .f32⟩
  | .hbm, ⟨47, _⟩ => ⟨S2048, .f32⟩
  | .hbm, ⟨48, _⟩ => ⟨S1x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S_, .f32⟩
  | .hbm, ⟨53, _⟩ => ⟨S8192, .f32⟩
  | .hbm, ⟨54, _⟩ => ⟨S8192x1, .f32⟩
  | .hbm, ⟨55, _⟩ => ⟨S8192x2048, .f32⟩
  | .hbm, ⟨56, _⟩ => ⟨S8192x2048, .f32⟩
  | .hbm, ⟨57, _⟩ => ⟨S8192x1, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S_, .f32⟩
  | .hbm, ⟨62, _⟩ => ⟨S8192, .f32⟩
  | .hbm, ⟨63, _⟩ => ⟨S8192x2048, .f32⟩
  | .hbm, ⟨64, _⟩ => ⟨S8192x2048, .f32⟩
  | .hbm, ⟨65, _⟩ => ⟨S8192x2048, .f32⟩
  | .hbm, ⟨66, _⟩ => ⟨S8192x2048, .f32⟩
  | .hbm, ⟨67, _⟩ => ⟨S8192x2048, .f32⟩
  | .hbm, ⟨68, _⟩ => ⟨S8192x2048, .f32⟩
  | .hbm, ⟨69, _⟩ => ⟨S8192x2048, .f32⟩
  | .hbm, ⟨70, _⟩ => ⟨S8192x2048, .f32⟩
  | .hbm, ⟨71, _⟩ => ⟨S8192x2048, .f32⟩
  | .hbm, ⟨72, _⟩ => ⟨S8192x2048, .f32⟩
  | .hbm, ⟨73, _⟩ => ⟨S8192x2048, .f32⟩
  | .hbm, ⟨74, _⟩ => ⟨S8192x2048, .f32⟩
  | .hbm, ⟨75, _⟩ => ⟨S_, .f32⟩
  | .hbm, ⟨76, _⟩ => ⟨S2048, .f32⟩
  | .hbm, ⟨77, _⟩ => ⟨S1x2048, .f32⟩
  | .hbm, ⟨78, _⟩ => ⟨S8192x2048, .bf16⟩
  | .hbm, ⟨79, _⟩ => ⟨S_, .f32⟩
  | .hbm, ⟨80, _⟩ => ⟨S4x2048, .f32⟩
  | .hbm, ⟨81, _⟩ => ⟨S8x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_9 : Ref sig .tc := ⟨.hbm, 58, rfl⟩
abbrev main_v41 : Ref sig .tc := ⟨.hbm, 59, rfl⟩
abbrev main_v42 : Ref sig .tc := ⟨.hbm, 60, rfl⟩
abbrev main_cst_10 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_11 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_12 : Ref sig .tc := ⟨.hbm, 79, rfl⟩
abbrev main_v59 : Ref sig .tc := ⟨.hbm, 80, rfl⟩
abbrev main_v60 : Ref sig .tc := ⟨.hbm, 81, rfl⟩

abbrev nD : Nat := 1
abbrev τ : Topo := Topo.v7x

variable {F : FTy → Type} [FloatOps F]
-- ==== Kernel26.lean ====
abbrev S8192x3072 : Shape := ⟨2, ![8192, 3072]⟩
abbrev S64x3072 : Shape := ⟨2, ![64, 3072]⟩

abbrev nBuf : Space → Nat
  | .hbm => 7
  | .vmem => 14
  | .smem => 0
  | _ => 0

abbrev bufTy : (tb : Table) → Fin (tcTables nBuf tb) → BufTy
  | .hbm, ⟨0, _⟩ => ⟨S8192x3072, .f32⟩
  | .hbm, ⟨1, _⟩ => ⟨S8192x3072, .f32⟩
  | .hbm, ⟨2, _⟩ => ⟨S8192x3072, .f32⟩
  | .hbm, ⟨3, _⟩ => ⟨S8192x3072, .f32⟩
  | .hbm, ⟨4, _⟩ => ⟨S8192x3072, .f32⟩
  | .hbm, ⟨5, _⟩ => ⟨S8192x3072, .f32⟩
  | .hbm, ⟨6, _⟩ => ⟨S8192x3072, .f32⟩
  | .local _ .vmem, ⟨0, _⟩ => ⟨S64x3072, .f32⟩
  | .local _ .vmem, ⟨1, _⟩ => ⟨S64x3072, .f32⟩
  | .local _ .vmem, ⟨2, _⟩ => ⟨S64x3072, .f32⟩
  | .local _ .vmem, ⟨3, _⟩ => ⟨S64x3072, .f32⟩
  | .local _ .vmem, ⟨4, _⟩ => ⟨S64x3072, .f32⟩
  | .local _ .vmem, ⟨5, _⟩ => ⟨S64x3072, .f32⟩
  | .local _ .vmem, ⟨6, _⟩ => ⟨S64x3072, .f32⟩
  | .local _ .vmem, ⟨7, _⟩ => ⟨S64x3072, .f32⟩
  | .local _ .vmem, ⟨8, _⟩ => ⟨S64x3072, .f32⟩
  | .local _ .vmem, ⟨9, _⟩ => ⟨S64x3072, .f32⟩
  | .local _ .vmem, ⟨10, _⟩ => ⟨S64x3072, .f32⟩
  | .local _ .vmem, ⟨11, _⟩ => ⟨S64x3072, .f32⟩
  | .local _ .vmem, ⟨12, _⟩ => ⟨S64x3072, .f32⟩
  | .local _ .vmem, ⟨13, _⟩ => ⟨S64x3072, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel26Ideal.lean ====
abbrev S8192x3072 : Shape := ⟨2, ![8192, 3072]⟩
abbrev S64x3072 : Shape := ⟨2, ![64, 3072]⟩

abbrev nBuf : Space → Nat
  | .hbm => 7
  | .vmem => 14
  | .smem => 0
  | _ => 0

abbrev bufTy : (tb : Table) → Fin (tcTables nBuf tb) → BufTy
  | .hbm, ⟨0, _⟩ => ⟨S8192x3072, .f32⟩
  | .hbm, ⟨1, _⟩ => ⟨S8192x3072, .f32⟩
  | .hbm, ⟨2, _⟩ => ⟨S8192x3072, .f32⟩
  | .hbm, ⟨3, _⟩ => ⟨S8192x3072, .f32⟩
  | .hbm, ⟨4, _⟩ => ⟨S8192x3072, .f32⟩
  | .hbm, ⟨5, _⟩ => ⟨S8192x3072, .f32⟩
  | .hbm, ⟨6, _⟩ => ⟨S8192x3072, .f32⟩
  | .local _ .vmem, ⟨0, _⟩ => ⟨S64x3072, .f32⟩
  | .local _ .vmem, ⟨1, _⟩ => ⟨S64x3072, .f32⟩
  | .local _ .vmem, ⟨2, _⟩ => ⟨S64x3072, .f32⟩
  | .local _ .vmem, ⟨3, _⟩ => ⟨S64x3072, .f32⟩
  | .local _ .vmem, ⟨4, _⟩ => ⟨S64x3072, .f32⟩
  | .local _ .vmem, ⟨5, _⟩ => ⟨S64x3072, .f32⟩
  | .local _ .vmem, ⟨6, _⟩ => ⟨S64x3072, .f32⟩
  | .local _ .vmem, ⟨7, _⟩ => ⟨S64x3072, .f32⟩
  | .local _ .vmem, ⟨8, _⟩ => ⟨S64x3072, .f32⟩
  | .local _ .vmem, ⟨9, _⟩ => ⟨S64x3072, .f32⟩
  | .local _ .vmem, ⟨10, _⟩ => ⟨S64x3072, .f32⟩
  | .local _ .vmem, ⟨11, _⟩ => ⟨S64x3072, .f32⟩
  | .local _ .vmem, ⟨12, _⟩ => ⟨S64x3072, .f32⟩
  | .local _ .vmem, ⟨13, _⟩ => ⟨S64x3072, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference26Ideal.lean ====
abbrev S8192x3072 : Shape := ⟨2, ![8192, 3072]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S8192x3072, .f32⟩
  | .hbm, ⟨2, _⟩ => ⟨S8192x3072, .f32⟩
  | .hbm, ⟨3, _⟩ => ⟨S8192x3072, .f32⟩
  | .hbm, ⟨4, _⟩ => ⟨S_, .f32⟩
  | .hbm, ⟨5, _⟩ => ⟨S8192x3072, .f32⟩
  | .hbm, ⟨6, _⟩ => ⟨S8192x3072, .f32⟩
  | .hbm, ⟨7, _⟩ => ⟨S_, .f32⟩
  | .hbm, ⟨8, _⟩ => ⟨S8192x3072, .f32⟩
  | .hbm, ⟨9, _⟩ => ⟨S8192x3072, .f32⟩
  | .hbm, ⟨10, _⟩ => ⟨S8192x3072, .f32⟩
  | .hbm, ⟨11, _⟩ => ⟨S_, .f32⟩
  | .hbm, ⟨12, _⟩ => ⟨S8192x3072, .f32⟩
  | .hbm, ⟨13, _⟩ => ⟨S8192x3072, .f32⟩
  | .hbm, ⟨14, _⟩ => ⟨S8192x3072, .f32⟩
  | .hbm, ⟨15, _⟩ => ⟨S_, .f32⟩
  | .hbm, ⟨16, _⟩ => ⟨S8192x3072, .f32⟩
  | .hbm, ⟨17, _⟩ => ⟨S8192x3072, .f32⟩
  | .hbm, ⟨18, _⟩ => ⟨S8192x3072, .f32⟩
  | .hbm, ⟨19, _⟩ => ⟨S_, .f32⟩
  | .hbm, ⟨20, _⟩ => ⟨S8192x3072, .f32⟩
  | .hbm, ⟨21, _⟩ => ⟨S8192x3072, .f32⟩
  | .hbm, ⟨22, _⟩ => ⟨S_, .f32⟩
  | .hbm, ⟨23, _⟩ => ⟨S8192x3072, .f32⟩
  | .hbm, ⟨24, _⟩ => ⟨S8192x3072, .f32⟩
  | .hbm, ⟨25, _⟩ => ⟨S8192x3072, .f32⟩
  | .hbm, ⟨26, _⟩ => ⟨S_, .f32⟩
  | .hbm, ⟨27, _⟩ => ⟨S8192x3072, .f32⟩
  | .hbm, ⟨28, _⟩ => ⟨S8192x3072, .f32⟩
  | .hbm, ⟨29, _⟩ => ⟨S8192x3072, .f32⟩
  | .hbm, ⟨30, _⟩ => ⟨S_, .f32⟩
  | .hbm, ⟨31, _⟩ => ⟨S8192x3072, .f32⟩
  | .hbm, ⟨32, _⟩ => ⟨S8192x3072, .f32⟩
  | .hbm, ⟨33, _⟩ => ⟨S8192x3072, .f32⟩
  | .hbm, ⟨34, _⟩ => ⟨S_, .f32⟩
  | .hbm, ⟨35, _⟩ => ⟨S8192x3072, .f32⟩
  | .hbm, ⟨36, _⟩ => ⟨S8192x3072, .f32⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel27.lean ====
abbrev S8192x1408 : Shape := ⟨2, ![8192, 1408]⟩
abbrev S128x1408 : Shape := ⟨2, ![128, 1408]⟩

abbrev nBuf : Space → Nat
  | .hbm => 7
  | .vmem => 14
  | .smem => 0
  | _ => 0

abbrev bufTy : (tb : Table) → Fin (tcTables nBuf tb) → BufTy
  | .hbm, ⟨0, _⟩ => ⟨S8192x1408, .f32⟩
  | .hbm, ⟨1, _⟩ => ⟨S8192x1408, .f32⟩
  | .hbm, ⟨2, _⟩ => ⟨S8192x1408, .f32⟩
  | .hbm, ⟨3, _⟩ => ⟨S8192x1408, .f32⟩
  | .hbm, ⟨4, _⟩ => ⟨S8192x1408, .f32⟩
  | .hbm, ⟨5, _⟩ => ⟨S8192x1408, .f32⟩
  | .hbm, ⟨6, _⟩ => ⟨S8192x1408, .f32⟩
  | .local _ .vmem, ⟨0, _⟩ => ⟨S128x1408, .f32⟩
  | .local _ .vmem, ⟨1, _⟩ => ⟨S128x1408, .f32⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | _, _ => ⟨S8192x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel27Ideal.lean ====
abbrev S8192x1408 : Shape := ⟨2, ![8192, 1408]⟩
abbrev S128x1408 : Shape := ⟨2, ![128, 1408]⟩

abbrev nBuf : Space → Nat
  | .hbm => 7
  | .vmem => 14
  | .smem => 0
  | _ => 0

abbrev bufTy : (tb : Table) → Fin (tcTables nBuf tb) → BufTy
  | .hbm, ⟨0, _⟩ => ⟨S8192x1408, .f32⟩
  | .hbm, ⟨1, _⟩ => ⟨S8192x1408, .f32⟩
  | .hbm, ⟨2, _⟩ => ⟨S8192x1408, .f32⟩
  | .hbm, ⟨3, _⟩ => ⟨S8192x1408, .f32⟩
  | .hbm, ⟨4, _⟩ => ⟨S8192x1408, .f32⟩
  | .hbm, ⟨5, _⟩ => ⟨S8192x1408, .f32⟩
  | .hbm, ⟨6, _⟩ => ⟨S8192x1408, .f32⟩
  | .local _ .vmem, ⟨0, _⟩ => ⟨S128x1408, .f32⟩
  | .local _ .vmem, ⟨1, _⟩ => ⟨S128x1408, .f32⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | _, _ => ⟨S8192x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference27Ideal.lean ====
abbrev S8192x1408 : Shape := ⟨2, ![8192, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8192x1408, .f32⟩
  | .hbm, ⟨1, _⟩ => ⟨S8192x1408, .f32⟩
  | .hbm, ⟨2, _⟩ => ⟨S8192x1408, .f32⟩
  | .hbm, ⟨3, _⟩ => ⟨S8192x1408, .f32⟩
  | .hbm, ⟨4, _⟩ => ⟨S_, .f32⟩
  | .hbm, ⟨5, _⟩ => ⟨S8192x1408, .f32⟩
  | .hbm, ⟨6, _⟩ => ⟨S8192x1408, .f32⟩
  | .hbm, ⟨7, _⟩ => ⟨S_, .f32⟩
  | .hbm, ⟨8, _⟩ => ⟨S8192x1408, .f32⟩
  | .hbm, ⟨9, _⟩ => ⟨S8192x1408, .f32⟩
  | .hbm, ⟨10, _⟩ => ⟨S8192x1408, .f32⟩
  | .hbm, ⟨11, _⟩ => ⟨S_, .f32⟩
  | .hbm, ⟨12, _⟩ => ⟨S8192x1408, .f32⟩
  | .hbm, ⟨13, _⟩ => ⟨S8192x1408, .f32⟩
  | .hbm, ⟨14, _⟩ => ⟨S8192x1408, .f32⟩
  | .hbm, ⟨15, _⟩ => ⟨S_, .f32⟩
  | .hbm, ⟨16, _⟩ => ⟨S8192x1408, .f32⟩
  | .hbm, ⟨17, _⟩ => ⟨S8192x1408, .f32⟩
  | .hbm, ⟨18, _⟩ => ⟨S8192x1408, .f32⟩
  | .hbm, ⟨19, _⟩ => ⟨S_, .f32⟩
  | .hbm, ⟨20, _⟩ => ⟨S8192x1408, .f32⟩
  | .hbm, ⟨21, _⟩ => ⟨S8192x1408, .f32⟩
  | .hbm, ⟨22, _⟩ => ⟨S_, .f32⟩
  | .hbm, ⟨23, _⟩ => ⟨S8192x1408, .f32⟩
  | .hbm, ⟨24, _⟩ => ⟨S8192x1408, .f32⟩
  | .hbm, ⟨25, _⟩ => ⟨S8192x1408, .f32⟩
  | .hbm, ⟨26, _⟩ => ⟨S_, .f32⟩
  | .hbm, ⟨27, _⟩ => ⟨S8192x1408, .f32⟩
  | .hbm, ⟨28, _⟩ => ⟨S8192x1408, .f32⟩
  | .hbm, ⟨29, _⟩ => ⟨S8192x1408, .f32⟩
  | .hbm, ⟨30, _⟩ => ⟨S_, .f32⟩
  | .hbm, ⟨31, _⟩ => ⟨S8192x1408, .f32⟩
  | .hbm, ⟨32, _⟩ => ⟨S8192x1408, .f32⟩
  | .hbm, ⟨33, _⟩ => ⟨S8192x1408, .f32⟩
  | .hbm, ⟨34, _⟩ => ⟨S_, .f32⟩
  | .hbm, ⟨35, _⟩ => ⟨S8192x1408, .f32⟩
  | .hbm, ⟨36, _⟩ => ⟨S8192x1408, .f32⟩
  | _, _ => ⟨S8192x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel28.lean ====
abbrev S5632x2048 : Shape := ⟨2, ![5632, 2048]⟩
abbrev S128x2048 : Shape := ⟨2, ![128, 2048]⟩

abbrev nBuf : Space → Nat
  | .hbm => 7
  | .vmem => 14
  | .smem => 0
  | _ => 0

abbrev bufTy : (tb : Table) → Fin (tcTables nBuf tb) → BufTy
  | .hbm, ⟨0, _⟩ => ⟨S5632x2048, .f32⟩
  | .hbm, ⟨1, _⟩ => ⟨S5632x2048, .f32⟩
  | .hbm, ⟨2, _⟩ => ⟨S5632x2048, .f32⟩
  | .hbm, ⟨3, _⟩ => ⟨S5632x2048, .f32⟩
  | .hbm, ⟨4, _⟩ => ⟨S5632x2048, .f32⟩
  | .hbm, ⟨5, _⟩ => ⟨S5632x2048, .f32⟩
  | .hbm, ⟨6, _⟩ => ⟨S5632x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S5632x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![44], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel28Ideal.lean ====
abbrev S5632x2048 : Shape := ⟨2, ![5632, 2048]⟩
abbrev S128x2048 : Shape := ⟨2, ![128, 2048]⟩

abbrev nBuf : Space → Nat
  | .hbm => 7
  | .vmem => 14
  | .smem => 0
  | _ => 0

abbrev bufTy : (tb : Table) → Fin (tcTables nBuf tb) → BufTy
  | .hbm, ⟨0, _⟩ => ⟨S5632x2048, .f32⟩
  | .hbm, ⟨1, _⟩ => ⟨S5632x2048, .f32⟩
  | .hbm, ⟨2, _⟩ => ⟨S5632x2048, .f32⟩
  | .hbm, ⟨3, _⟩ => ⟨S5632x2048, .f32⟩
  | .hbm, ⟨4, _⟩ => ⟨S5632x2048, .f32⟩
  | .hbm, ⟨5, _⟩ => ⟨S5632x2048, .f32⟩
  | .hbm, ⟨6, _⟩ => ⟨S5632x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S5632x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![44], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference28Ideal.lean ====
abbrev S5632x2048 : Shape := ⟨2, ![5632, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S5632x2048, .f32⟩
  | .hbm, ⟨1, _⟩ => ⟨S5632x2048, .f32⟩
  | .hbm, ⟨2, _⟩ => ⟨S5632x2048, .f32⟩
  | .hbm, ⟨3, _⟩ => ⟨S5632x2048, .f32⟩
  | .hbm, ⟨4, _⟩ => ⟨S_, .f32⟩
  | .hbm, ⟨5, _⟩ => ⟨S5632x2048, .f32⟩
  | .hbm, ⟨6, _⟩ => ⟨S5632x2048, .f32⟩
  | .hbm, ⟨7, _⟩ => ⟨S_, .f32⟩
  | .hbm, ⟨8, _⟩ => ⟨S5632x2048, .f32⟩
  | .hbm, ⟨9, _⟩ => ⟨S5632x2048, .f32⟩
  | .hbm, ⟨10, _⟩ => ⟨S5632x2048, .f32⟩
  | .hbm, ⟨11, _⟩ => ⟨S_, .f32⟩
  | .hbm, ⟨12, _⟩ => ⟨S5632x2048, .f32⟩
  | .hbm, ⟨13, _⟩ => ⟨S5632x2048, .f32⟩
  | .hbm, ⟨14, _⟩ => ⟨S5632x2048, .f32⟩
  | .hbm, ⟨15, _⟩ => ⟨S_, .f32⟩
  | .hbm, ⟨16, _⟩ => ⟨S5632x2048, .f32⟩
  | .hbm, ⟨17, _⟩ => ⟨S5632x2048, .f32⟩
  | .hbm, ⟨18, _⟩ => ⟨S5632x2048, .f32⟩
  | .hbm, ⟨19, _⟩ => ⟨S_, .f32⟩
  | .hbm, ⟨20, _⟩ => ⟨S5632x2048, .f32⟩
  | .hbm, ⟨21, _⟩ => ⟨S5632x2048, .f32⟩
  | .hbm, ⟨22, _⟩ => ⟨S_, .f32⟩
  | .hbm, ⟨23, _⟩ => ⟨S5632x2048, .f32⟩
  | .hbm, ⟨24, _⟩ => ⟨S5632x2048, .f32⟩
  | .hbm, ⟨25, _⟩ => ⟨S5632x2048, .f32⟩
  | .hbm, ⟨26, _⟩ => ⟨S_, .f32⟩
  | .hbm, ⟨27, _⟩ => ⟨S5632x2048, .f32⟩
  | .hbm, ⟨28, _⟩ => ⟨S5632x2048, .f32⟩
  | .hbm, ⟨29, _⟩ => ⟨S5632x2048, .f32⟩
  | .hbm, ⟨30, _⟩ => ⟨S_, .f32⟩
  | .hbm, ⟨31, _⟩ => ⟨S5632x2048, .f32⟩
  | .hbm, ⟨32, _⟩ => ⟨S5632x2048, .f32⟩
  | .hbm, ⟨33, _⟩ => ⟨S5632x2048, .f32⟩
  | .hbm, ⟨34, _⟩ => ⟨S_, .f32⟩
  | .hbm, ⟨35, _⟩ => ⟨S5632x2048, .f32⟩
  | .hbm, ⟨36, _⟩ => ⟨S5632x2048, .f32⟩
  | _, _ => ⟨S5632x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel29.lean ====
abbrev S2048x1536 : Shape := ⟨2, ![2048, 1536]⟩
abbrev S128x1536 : Shape := ⟨2, ![128, 1536]⟩

abbrev nBuf : Space → Nat
  | .hbm => 7
  | .vmem => 14
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S2048x1536, .f32⟩
  | .hbm, ⟨5, _⟩ => ⟨S2048x1536, .f32⟩
  | .hbm, ⟨6, _⟩ => ⟨S2048x1536, .f32⟩
  | .local _ .vmem, ⟨0, _⟩ => ⟨S128x1536, .f32⟩
  | .local _ .vmem, ⟨1, _⟩ => ⟨S128x1536, .f32⟩
  | .local _ .vmem, ⟨2, _⟩ => ⟨S128x1536, .f32⟩
  | .local _ .vmem, ⟨3, _⟩ => ⟨S128x1536, .f32⟩
  | .local _ .vmem, ⟨4, _⟩ => ⟨S128x1536, .f32⟩
  | .local _ .vmem, ⟨5, _⟩ => ⟨S128x1536, .f32⟩
  | .local _ .vmem, ⟨6, _⟩ => ⟨S128x1536, .f32⟩
  | .local _ .vmem, ⟨7, _⟩ => ⟨S128x1536, .f32⟩
  | .local _ .vmem, ⟨8, _⟩ => ⟨S128x1536, .f32⟩
  | .local _ .vmem, ⟨9, _⟩ => ⟨S128x1536, .f32⟩
  | .local _ .vmem, ⟨10, _⟩ => ⟨S128x1536, .f32⟩
  | .local _ .vmem, ⟨11, _⟩ => ⟨S128x1536, .f32⟩
  | .local _ .vmem, ⟨12, _⟩ => ⟨S128x1536, .f32⟩
  | .local _ .vmem, ⟨13, _⟩ => ⟨S128x1536, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel29Ideal.lean ====
abbrev S2048x1536 : Shape := ⟨2, ![2048, 1536]⟩
abbrev S128x1536 : Shape := ⟨2, ![128, 1536]⟩

abbrev nBuf : Space → Nat
  | .hbm => 7
  | .vmem => 14
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S2048x1536, .f32⟩
  | .hbm, ⟨5, _⟩ => ⟨S2048x1536, .f32⟩
  | .hbm, ⟨6, _⟩ => ⟨S2048x1536, .f32⟩
  | .local _ .vmem, ⟨0, _⟩ => ⟨S128x1536, .f32⟩
  | .local _ .vmem, ⟨1, _⟩ => ⟨S128x1536, .f32⟩
  | .local _ .vmem, ⟨2, _⟩ => ⟨S128x1536, .f32⟩
  | .local _ .vmem, ⟨3, _⟩ => ⟨S128x1536, .f32⟩
  | .local _ .vmem, ⟨4, _⟩ => ⟨S128x1536, .f32⟩
  | .local _ .vmem, ⟨5, _⟩ => ⟨S128x1536, .f32⟩
  | .local _ .vmem, ⟨6, _⟩ => ⟨S128x1536, .f32⟩
  | .local _ .vmem, ⟨7, _⟩ => ⟨S128x1536, .f32⟩
  | .local _ .vmem, ⟨8, _⟩ => ⟨S128x1536, .f32⟩
  | .local _ .vmem, ⟨9, _⟩ => ⟨S128x1536, .f32⟩
  | .local _ .vmem, ⟨10, _⟩ => ⟨S128x1536, .f32⟩
  | .local _ .vmem, ⟨11, _⟩ => ⟨S128x1536, .f32⟩
  | .local _ .vmem, ⟨12, _⟩ => ⟨S128x1536, .f32⟩
  | .local _ .vmem, ⟨13, _⟩ => ⟨S128x1536, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference29Ideal.lean ====
abbrev S2048x1536 : Shape := ⟨2, ![2048, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S_, .f32⟩
  | .hbm, ⟨5, _⟩ => ⟨S2048x1536, .f32⟩
  | .hbm, ⟨6, _⟩ => ⟨S2048x1536, .f32⟩
  | .hbm, ⟨7, _⟩ => ⟨S_, .f32⟩
  | .hbm, ⟨8, _⟩ => ⟨S2048x1536, .f32⟩
  | .hbm, ⟨9, _⟩ => ⟨S2048x1536, .f32⟩
  | .hbm, ⟨10, _⟩ => ⟨S2048x1536, .f32⟩
  | .hbm, ⟨11, _⟩ => ⟨S_, .f32⟩
  | .hbm, ⟨12, _⟩ => ⟨S2048x1536, .f32⟩
  | .hbm, ⟨13, _⟩ => ⟨S2048x1536, .f32⟩
  | .hbm, ⟨14, _⟩ => ⟨S2048x1536, .f32⟩
  | .hbm, ⟨15, _⟩ => ⟨S_, .f32⟩
  | .hbm, ⟨16, _⟩ => ⟨S2048x1536, .f32⟩
  | .hbm, ⟨17, _⟩ => ⟨S2048x1536, .f32⟩
  | .hbm, ⟨18, _⟩ => ⟨S2048x1536, .f32⟩
  | .hbm, ⟨19, _⟩ => ⟨S_, .f32⟩
  | .hbm, ⟨20, _⟩ => ⟨S2048x1536, .f32⟩
  | .hbm, ⟨21, _⟩ => ⟨S2048x1536, .f32⟩
  | .hbm, ⟨22, _⟩ => ⟨S_, .f32⟩
  | .hbm, ⟨23, _⟩ => ⟨S2048x1536, .f32⟩
  | .hbm, ⟨24, _⟩ => ⟨S2048x1536, .f32⟩
  | .hbm, ⟨25, _⟩ => ⟨S2048x1536, .f32⟩
  | .hbm, ⟨26, _⟩ => ⟨S_, .f32⟩
  | .hbm, ⟨27, _⟩ => ⟨S2048x1536, .f32⟩
  | .hbm, ⟨28, _⟩ => ⟨S2048x1536, .f32⟩
  | .hbm, ⟨29, _⟩ => ⟨S2048x1536, .f32⟩
  | .hbm, ⟨30, _⟩ => ⟨S_, .f32⟩
  | .hbm, ⟨31, _⟩ => ⟨S2048x1536, .f32⟩
  | .hbm, ⟨32, _⟩ => ⟨S2048x1536, .f32⟩
  | .hbm, ⟨33, _⟩ => ⟨S2048x1536, .f32⟩
  | .hbm, ⟨34, _⟩ => ⟨S_, .f32⟩
  | .hbm, ⟨35, _⟩ => ⟨S2048x1536, .f32⟩
  | .hbm, ⟨36, _⟩ => ⟨S2048x1536, .f32⟩
  | _, _ => ⟨S2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel30.lean ====
abbrev S512x2048 : Shape := ⟨2, ![512, 2048]⟩
abbrev S128x2048 : Shape := ⟨2, ![128, 2048]⟩

abbrev nBuf : Space → Nat
  | .hbm => 7
  | .vmem => 14
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel30Ideal.lean ====
abbrev S512x2048 : Shape := ⟨2, ![512, 2048]⟩
abbrev S128x2048 : Shape := ⟨2, ![128, 2048]⟩

abbrev nBuf : Space → Nat
  | .hbm => 7
  | .vmem => 14
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference30Ideal.lean ====
abbrev S512x2048 : Shape := ⟨2, ![512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S_, .f32⟩
  | .hbm, ⟨5, _⟩ => ⟨S512x2048, .f32⟩
  | .hbm, ⟨6, _⟩ => ⟨S512x2048, .f32⟩
  | .hbm, ⟨7, _⟩ => ⟨S_, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S_, .f32⟩
  | .hbm, ⟨12, _⟩ => ⟨S512x2048, .f32⟩
  | .hbm, ⟨13, _⟩ => ⟨S512x2048, .f32⟩
  | .hbm, ⟨14, _⟩ => ⟨S512x2048, .f32⟩
  | .hbm, ⟨15, _⟩ => ⟨S_, .f32⟩
  | .hbm, ⟨16, _⟩ => ⟨S512x2048, .f32⟩
  | .hbm, ⟨17, _⟩ => ⟨S512x2048, .f32⟩
  | .hbm, ⟨18, _⟩ => ⟨S512x2048, .f32⟩
  | .hbm, ⟨19, _⟩ => ⟨S_, .f32⟩
  | .hbm, ⟨20, _⟩ => ⟨S512x2048, .f32⟩
  | .hbm, ⟨21, _⟩ => ⟨S512x2048, .f32⟩
  | .hbm, ⟨22, _⟩ => ⟨S_, .f32⟩
  | .hbm, ⟨23, _⟩ => ⟨S512x2048, .f32⟩
  | .hbm, ⟨24, _⟩ => ⟨S512x2048, .f32⟩
  | .hbm, ⟨25, _⟩ => ⟨S512x2048, .f32⟩
  | .hbm, ⟨26, _⟩ => ⟨S_, .f32⟩
  | .hbm, ⟨27, _⟩ => ⟨S512x2048, .f32⟩
  | .hbm, ⟨28, _⟩ => ⟨S512x2048, .f32⟩
  | .hbm, ⟨29, _⟩ => ⟨S512x2048, .f32⟩
  | .hbm, ⟨30, _⟩ => ⟨S_, .f32⟩
  | .hbm, ⟨31, _⟩ => ⟨S512x2048, .f32⟩
  | .hbm, ⟨32, _⟩ => ⟨S512x2048, .f32⟩
  | .hbm, ⟨33, _⟩ => ⟨S512x2048, .f32⟩
  | .hbm, ⟨34, _⟩ => ⟨S_, .f32⟩
  | .hbm, ⟨35, _⟩ => ⟨S512x2048, .f32⟩
  | .hbm, ⟨36, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel31.lean ====
abbrev S1024x512 : Shape := ⟨2, ![1024, 512]⟩
abbrev S512x512 : Shape := ⟨2, ![512, 512]⟩

abbrev nBuf : Space → Nat
  | .hbm => 7
  | .vmem => 14
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel31Ideal.lean ====
abbrev S1024x512 : Shape := ⟨2, ![1024, 512]⟩
abbrev S512x512 : Shape := ⟨2, ![512, 512]⟩

abbrev nBuf : Space → Nat
  | .hbm => 7
  | .vmem => 14
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference31Ideal.lean ====
abbrev S1024x512 : Shape := ⟨2, ![1024, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S_, .f32⟩
  | .hbm, ⟨5, _⟩ => ⟨S1024x512, .f32⟩
  | .hbm, ⟨6, _⟩ => ⟨S1024x512, .f32⟩
  | .hbm, ⟨7, _⟩ => ⟨S_, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S_, .f32⟩
  | .hbm, ⟨12, _⟩ => ⟨S1024x512, .f32⟩
  | .hbm, ⟨13, _⟩ => ⟨S1024x512, .f32⟩
  | .hbm, ⟨14, _⟩ => ⟨S1024x512, .f32⟩
  | .hbm, ⟨15, _⟩ => ⟨S_, .f32⟩
  | .hbm, ⟨16, _⟩ => ⟨S1024x512, .f32⟩
  | .hbm, ⟨17, _⟩ => ⟨S1024x512, .f32⟩
  | .hbm, ⟨18, _⟩ => ⟨S1024x512, .f32⟩
  | .hbm, ⟨19, _⟩ => ⟨S_, .f32⟩
  | .hbm, ⟨20, _⟩ => ⟨S1024x512, .f32⟩
  | .hbm, ⟨21, _⟩ => ⟨S1024x512, .f32⟩
  | .hbm, ⟨22, _⟩ => ⟨S_, .f32⟩
  | .hbm, ⟨23, _⟩ => ⟨S1024x512, .f32⟩
  | .hbm, ⟨24, _⟩ => ⟨S1024x512, .f32⟩
  | .hbm, ⟨25, _⟩ => ⟨S1024x512, .f32⟩
  | .hbm, ⟨26, _⟩ => ⟨S_, .f32⟩
  | .hbm, ⟨27, _⟩ => ⟨S1024x512, .f32⟩
  | .hbm, ⟨28, _⟩ => ⟨S1024x512, .f32⟩
  | .hbm, ⟨29, _⟩ => ⟨S1024x512, .f32⟩
  | .hbm, ⟨30, _⟩ => ⟨S_, .f32⟩
  | .hbm, ⟨31, _⟩ => ⟨S1024x512, .f32⟩
  | .hbm, ⟨32, _⟩ => ⟨S1024x512, .f32⟩
  | .hbm, ⟨33, _⟩ => ⟨S1024x512, .f32⟩
  | .hbm, ⟨34, _⟩ => ⟨S_, .f32⟩
  | .hbm, ⟨35, _⟩ => ⟨S1024x512, .f32⟩
  | .hbm, ⟨36, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel32.lean ====
abbrev S4x2048 : Shape := ⟨2, ![4, 2048]⟩

abbrev nBuf : Space → Nat
  | .hbm => 7
  | .vmem => 7
  | .smem => 0
  | _ => 0

abbrev bufTy : (tb : Table) → Fin (tcTables nBuf tb) → BufTy
  | .hbm, ⟨0, _⟩ => ⟨S4x2048, .f32⟩
  | .hbm, ⟨1, _⟩ => ⟨S4x2048, .f32⟩
  | .hbm, ⟨2, _⟩ => ⟨S4x2048, .f32⟩
  | .hbm, ⟨3, _⟩ => ⟨S4x2048, .f32⟩
  | .hbm, ⟨4, _⟩ => ⟨S4x2048, .f32⟩
  | .hbm, ⟨5, _⟩ => ⟨S4x2048, .f32⟩
  | .hbm, ⟨6, _⟩ => ⟨S4x2048, .f32⟩
  | .local _ .vmem, ⟨0, _⟩ => ⟨S4x2048, .f32⟩
  | .local _ .vmem, ⟨1, _⟩ => ⟨S4x2048, .f32⟩
  | .local _ .vmem, ⟨2, _⟩ => ⟨S4x2048, .f32⟩
  | .local _ .vmem, ⟨3, _⟩ => ⟨S4x2048, .f32⟩
  | .local _ .vmem, ⟨4, _⟩ => ⟨S4x2048, .f32⟩
  | .local _ .vmem, ⟨5, _⟩ => ⟨S4x2048, .f32⟩
  | .local _ .vmem, ⟨6, _⟩ => ⟨S4x2048, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel32Ideal.lean ====
abbrev S4x2048 : Shape := ⟨2, ![4, 2048]⟩

abbrev nBuf : Space → Nat
  | .hbm => 7
  | .vmem => 7
  | .smem => 0
  | _ => 0

abbrev bufTy : (tb : Table) → Fin (tcTables nBuf tb) → BufTy
  | .hbm, ⟨0, _⟩ => ⟨S4x2048, .f32⟩
  | .hbm, ⟨1, _⟩ => ⟨S4x2048, .f32⟩
  | .hbm, ⟨2, _⟩ => ⟨S4x2048, .f32⟩
  | .hbm, ⟨3, _⟩ => ⟨S4x2048, .f32⟩
  | .hbm, ⟨4, _⟩ => ⟨S4x2048, .f32⟩
  | .hbm, ⟨5, _⟩ => ⟨S4x2048, .f32⟩
  | .hbm, ⟨6, _⟩ => ⟨S4x2048, .f32⟩
  | .local _ .vmem, ⟨0, _⟩ => ⟨S4x2048, .f32⟩
  | .local _ .vmem, ⟨1, _⟩ => ⟨S4x2048, .f32⟩
  | .local _ .vmem, ⟨2, _⟩ => ⟨S4x2048, .f32⟩
  | .local _ .vmem, ⟨3, _⟩ => ⟨S4x2048, .f32⟩
  | .local _ .vmem, ⟨4, _⟩ => ⟨S4x2048, .f32⟩
  | .local _ .vmem, ⟨5, _⟩ => ⟨S4x2048, .f32⟩
  | .local _ .vmem, ⟨6, _⟩ => ⟨S4x2048, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference32Ideal.lean ====
abbrev S4x2048 : Shape := ⟨2, ![4, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S4x2048, .f32⟩
  | .hbm, ⟨2, _⟩ => ⟨S4x2048, .f32⟩
  | .hbm, ⟨3, _⟩ => ⟨S4x2048, .f32⟩
  | .hbm, ⟨4, _⟩ => ⟨S_, .f32⟩
  | .hbm, ⟨5, _⟩ => ⟨S4x2048, .f32⟩
  | .hbm, ⟨6, _⟩ => ⟨S4x2048, .f32⟩
  | .hbm, ⟨7, _⟩ => ⟨S_, .f32⟩
  | .hbm, ⟨8, _⟩ => ⟨S4x2048, .f32⟩
  | .hbm, ⟨9, _⟩ => ⟨S4x2048, .f32⟩
  | .hbm, ⟨10, _⟩ => ⟨S4x2048, .f32⟩
  | .hbm, ⟨11, _⟩ => ⟨S_, .f32⟩
  | .hbm, ⟨12, _⟩ => ⟨S4x2048, .f32⟩
  | .hbm, ⟨13, _⟩ => ⟨S4x2048, .f32⟩
  | .hbm, ⟨14, _⟩ => ⟨S4x2048, .f32⟩
  | .hbm, ⟨15, _⟩ => ⟨S_, .f32⟩
  | .hbm, ⟨16, _⟩ => ⟨S4x2048, .f32⟩
  | .hbm, ⟨17, _⟩ => ⟨S4x2048, .f32⟩
  | .hbm, ⟨18, _⟩ => ⟨S4x2048, .f32⟩
  | .hbm, ⟨19, _⟩ => ⟨S_, .f32⟩
  | .hbm, ⟨20, _⟩ => ⟨S4x2048, .f32⟩
  | .hbm, ⟨21, _⟩ => ⟨S4x2048, .f32⟩
  | .hbm, ⟨22, _⟩ => ⟨S_, .f32⟩
  | .hbm, ⟨23, _⟩ => ⟨S4x2048, .f32⟩
  | .hbm, ⟨24, _⟩ => ⟨S4x2048, .f32⟩
  | .hbm, ⟨25, _⟩ => ⟨S4x2048, .f32⟩
  | .hbm, ⟨26, _⟩ => ⟨S_, .f32⟩
  | .hbm, ⟨27, _⟩ => ⟨S4x2048, .f32⟩
  | .hbm, ⟨28, _⟩ => ⟨S4x2048, .f32⟩
  | .hbm, ⟨29, _⟩ => ⟨S4x2048, .f32⟩
  | .hbm, ⟨30, _⟩ => ⟨S_, .f32⟩
  | .hbm, ⟨31, _⟩ => ⟨S4x2048, .f32⟩
  | .hbm, ⟨32, _⟩ => ⟨S4x2048, .f32⟩
  | .hbm, ⟨33, _⟩ => ⟨S4x2048, .f32⟩
  | .hbm, ⟨34, _⟩ => ⟨S_, .f32⟩
  | .hbm, ⟨35, _⟩ => ⟨S4x2048, .f32⟩
  | .hbm, ⟨36, _⟩ => ⟨S4x2048, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel33.lean ====
abbrev S4x12288 : Shape := ⟨2, ![4, 12288]⟩

abbrev nBuf : Space → Nat
  | .hbm => 7
  | .vmem => 7
  | .smem => 0
  | _ => 0

abbrev bufTy : (tb : Table) → Fin (tcTables nBuf tb) → BufTy
  | .hbm, ⟨0, _⟩ => ⟨S4x12288, .f32⟩
  | .hbm, ⟨1, _⟩ => ⟨S4x12288, .f32⟩
  | .hbm, ⟨2, _⟩ => ⟨S4x12288, .f32⟩
  | .hbm, ⟨3, _⟩ => ⟨S4x12288, .f32⟩
  | .hbm, ⟨4, _⟩ => ⟨S4x12288, .f32⟩
  | .hbm, ⟨5, _⟩ => ⟨S4x12288, .f32⟩
  | .hbm, ⟨6, _⟩ => ⟨S4x12288, .f32⟩
  | .local _ .vmem, ⟨0, _⟩ => ⟨S4x12288, .f32⟩
  | .local _ .vmem, ⟨1, _⟩ => ⟨S4x12288, .f32⟩
  | .local _ .vmem, ⟨2, _⟩ => ⟨S4x12288, .f32⟩
  | .local _ .vmem, ⟨3, _⟩ => ⟨S4x12288, .f32⟩
  | .local _ .vmem, ⟨4, _⟩ => ⟨S4x12288, .f32⟩
  | .local _ .vmem, ⟨5, _⟩ => ⟨S4x12288, .f32⟩
  | .local _ .vmem, ⟨6, _⟩ => ⟨S4x12288, .f32⟩
  | _, _ => ⟨S4x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x12288 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x12288 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x12288 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x12288 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x12288 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x12288 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x12288 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel33Ideal.lean ====
abbrev S4x12288 : Shape := ⟨2, ![4, 12288]⟩

abbrev nBuf : Space → Nat
  | .hbm => 7
  | .vmem => 7
  | .smem => 0
  | _ => 0

abbrev bufTy : (tb : Table) → Fin (tcTables nBuf tb) → BufTy
  | .hbm, ⟨0, _⟩ => ⟨S4x12288, .f32⟩
  | .hbm, ⟨1, _⟩ => ⟨S4x12288, .f32⟩
  | .hbm, ⟨2, _⟩ => ⟨S4x12288, .f32⟩
  | .hbm, ⟨3, _⟩ => ⟨S4x12288, .f32⟩
  | .hbm, ⟨4, _⟩ => ⟨S4x12288, .f32⟩
  | .hbm, ⟨5, _⟩ => ⟨S4x12288, .f32⟩
  | .hbm, ⟨6, _⟩ => ⟨S4x12288, .f32⟩
  | .local _ .vmem, ⟨0, _⟩ => ⟨S4x12288, .f32⟩
  | .local _ .vmem, ⟨1, _⟩ => ⟨S4x12288, .f32⟩
  | .local _ .vmem, ⟨2, _⟩ => ⟨S4x12288, .f32⟩
  | .local _ .vmem, ⟨3, _⟩ => ⟨S4x12288, .f32⟩
  | .local _ .vmem, ⟨4, _⟩ => ⟨S4x12288, .f32⟩
  | .local _ .vmem, ⟨5, _⟩ => ⟨S4x12288, .f32⟩
  | .local _ .vmem, ⟨6, _⟩ => ⟨S4x12288, .f32⟩
  | _, _ => ⟨S4x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x12288 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x12288 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x12288 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x12288 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x12288 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x12288 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x12288 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference33Ideal.lean ====
abbrev S4x12288 : Shape := ⟨2, ![4, 12288]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x12288, .f32⟩
  | .hbm, ⟨1, _⟩ => ⟨S4x12288, .f32⟩
  | .hbm, ⟨2, _⟩ => ⟨S4x12288, .f32⟩
  | .hbm, ⟨3, _⟩ => ⟨S4x12288, .f32⟩
  | .hbm, ⟨4, _⟩ => ⟨S_, .f32⟩
  | .hbm, ⟨5, _⟩ => ⟨S4x12288, .f32⟩
  | .hbm, ⟨6, _⟩ => ⟨S4x12288, .f32⟩
  | .hbm, ⟨7, _⟩ => ⟨S_, .f32⟩
  | .hbm, ⟨8, _⟩ => ⟨S4x12288, .f32⟩
  | .hbm, ⟨9, _⟩ => ⟨S4x12288, .f32⟩
  | .hbm, ⟨10, _⟩ => ⟨S4x12288, .f32⟩
  | .hbm, ⟨11, _⟩ => ⟨S_, .f32⟩
  | .hbm, ⟨12, _⟩ => ⟨S4x12288, .f32⟩
  | .hbm, ⟨13, _⟩ => ⟨S4x12288, .f32⟩
  | .hbm, ⟨14, _⟩ => ⟨S4x12288, .f32⟩
  | .hbm, ⟨15, _⟩ => ⟨S_, .f32⟩
  | .hbm, ⟨16, _⟩ => ⟨S4x12288, .f32⟩
  | .hbm, ⟨17, _⟩ => ⟨S4x12288, .f32⟩
  | .hbm, ⟨18, _⟩ => ⟨S4x12288, .f32⟩
  | .hbm, ⟨19, _⟩ => ⟨S_, .f32⟩
  | .hbm, ⟨20, _⟩ => ⟨S4x12288, .f32⟩
  | .hbm, ⟨21, _⟩ => ⟨S4x12288, .f32⟩
  | .hbm, ⟨22, _⟩ => ⟨S_, .f32⟩
  | .hbm, ⟨23, _⟩ => ⟨S4x12288, .f32⟩
  | .hbm, ⟨24, _⟩ => ⟨S4x12288, .f32⟩
  | .hbm, ⟨25, _⟩ => ⟨S4x12288, .f32⟩
  | .hbm, ⟨26, _⟩ => ⟨S_, .f32⟩
  | .hbm, ⟨27, _⟩ => ⟨S4x12288, .f32⟩
  | .hbm, ⟨28, _⟩ => ⟨S4x12288, .f32⟩
  | .hbm, ⟨29, _⟩ => ⟨S4x12288, .f32⟩
  | .hbm, ⟨30, _⟩ => ⟨S_, .f32⟩
  | .hbm, ⟨31, _⟩ => ⟨S4x12288, .f32⟩
  | .hbm, ⟨32, _⟩ => ⟨S4x12288, .f32⟩
  | .hbm, ⟨33, _⟩ => ⟨S4x12288, .f32⟩
  | .hbm, ⟨34, _⟩ => ⟨S_, .f32⟩
  | .hbm, ⟨35, _⟩ => ⟨S4x12288, .f32⟩
  | .hbm, ⟨36, _⟩ => ⟨S4x12288, .f32⟩
  | _, _ => ⟨S4x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel34.lean ====
abbrev S2x512 : Shape := ⟨2, ![2, 512]⟩

abbrev nBuf : Space → Nat
  | .hbm => 7
  | .vmem => 7
  | .smem => 0
  | _ => 0

abbrev bufTy : (tb : Table) → Fin (tcTables nBuf tb) → BufTy
  | .hbm, ⟨0, _⟩ => ⟨S2x512, .f32⟩
  | .hbm, ⟨1, _⟩ => ⟨S2x512, .f32⟩
  | .hbm, ⟨2, _⟩ => ⟨S2x512, .f32⟩
  | .hbm, ⟨3, _⟩ => ⟨S2x512, .f32⟩
  | .hbm, ⟨4, _⟩ => ⟨S2x512, .f32⟩
  | .hbm, ⟨5, _⟩ => ⟨S2x512, .f32⟩
  | .hbm, ⟨6, _⟩ => ⟨S2x512, .f32⟩
  | .local _ .vmem, ⟨0, _⟩ => ⟨S2x512, .f32⟩
  | .local _ .vmem, ⟨1, _⟩ => ⟨S2x512, .f32⟩
  | .local _ .vmem, ⟨2, _⟩ => ⟨S2x512, .f32⟩
  | .local _ .vmem, ⟨3, _⟩ => ⟨S2x512, .f32⟩
  | .local _ .vmem, ⟨4, _⟩ => ⟨S2x512, .f32⟩
  | .local _ .vmem, ⟨5, _⟩ => ⟨S2x512, .f32⟩
  | .local _ .vmem, ⟨6, _⟩ => ⟨S2x512, .f32⟩
  | _, _ => ⟨S2x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel34Ideal.lean ====
abbrev S2x512 : Shape := ⟨2, ![2, 512]⟩

abbrev nBuf : Space → Nat
  | .hbm => 7
  | .vmem => 7
  | .smem => 0
  | _ => 0

abbrev bufTy : (tb : Table) → Fin (tcTables nBuf tb) → BufTy
  | .hbm, ⟨0, _⟩ => ⟨S2x512, .f32⟩
  | .hbm, ⟨1, _⟩ => ⟨S2x512, .f32⟩
  | .hbm, ⟨2, _⟩ => ⟨S2x512, .f32⟩
  | .hbm, ⟨3, _⟩ => ⟨S2x512, .f32⟩
  | .hbm, ⟨4, _⟩ => ⟨S2x512, .f32⟩
  | .hbm, ⟨5, _⟩ => ⟨S2x512, .f32⟩
  | .hbm, ⟨6, _⟩ => ⟨S2x512, .f32⟩
  | .local _ .vmem, ⟨0, _⟩ => ⟨S2x512, .f32⟩
  | .local _ .vmem, ⟨1, _⟩ => ⟨S2x512, .f32⟩
  | .local _ .vmem, ⟨2, _⟩ => ⟨S2x512, .f32⟩
  | .local _ .vmem, ⟨3, _⟩ => ⟨S2x512, .f32⟩
  | .local _ .vmem, ⟨4, _⟩ => ⟨S2x512, .f32⟩
  | .local _ .vmem, ⟨5, _⟩ => ⟨S2x512, .f32⟩
  | .local _ .vmem, ⟨6, _⟩ => ⟨S2x512, .f32⟩
  | _, _ => ⟨S2x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference34Ideal.lean ====
abbrev S2x512 : Shape := ⟨2, ![2, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x512, .f32⟩
  | .hbm, ⟨1, _⟩ => ⟨S2x512, .f32⟩
  | .hbm, ⟨2, _⟩ => ⟨S2x512, .f32⟩
  | .hbm, ⟨3, _⟩ => ⟨S2x512, .f32⟩
  | .hbm, ⟨4, _⟩ => ⟨S_, .f32⟩
  | .hbm, ⟨5, _⟩ => ⟨S2x512, .f32⟩
  | .hbm, ⟨6, _⟩ => ⟨S2x512, .f32⟩
  | .hbm, ⟨7, _⟩ => ⟨S_, .f32⟩
  | .hbm, ⟨8, _⟩ => ⟨S2x512, .f32⟩
  | .hbm, ⟨9, _⟩ => ⟨S2x512, .f32⟩
  | .hbm, ⟨10, _⟩ => ⟨S2x512, .f32⟩
  | .hbm, ⟨11, _⟩ => ⟨S_, .f32⟩
  | .hbm, ⟨12, _⟩ => ⟨S2x512, .f32⟩
  | .hbm, ⟨13, _⟩ => ⟨S2x512, .f32⟩
  | .hbm, ⟨14, _⟩ => ⟨S2x512, .f32⟩
  | .hbm, ⟨15, _⟩ => ⟨S_, .f32⟩
  | .hbm, ⟨16, _⟩ => ⟨S2x512, .f32⟩
  | .hbm, ⟨17, _⟩ => ⟨S2x512, .f32⟩
  | .hbm, ⟨18, _⟩ => ⟨S2x512, .f32⟩
  | .hbm, ⟨19, _⟩ => ⟨S_, .f32⟩
  | .hbm, ⟨20, _⟩ => ⟨S2x512, .f32⟩
  | .hbm, ⟨21, _⟩ => ⟨S2x512, .f32⟩
  | .hbm, ⟨22, _⟩ => ⟨S_, .f32⟩
  | .hbm, ⟨23, _⟩ => ⟨S2x512, .f32⟩
  | .hbm, ⟨24, _⟩ => ⟨S2x512, .f32⟩
  | .hbm, ⟨25, _⟩ => ⟨S2x512, .f32⟩
  | .hbm, ⟨26, _⟩ => ⟨S_, .f32⟩
  | .hbm, ⟨27, _⟩ => ⟨S2x512, .f32⟩
  | .hbm, ⟨28, _⟩ => ⟨S2x512, .f32⟩
  | .hbm, ⟨29, _⟩ => ⟨S2x512, .f32⟩
  | .hbm, ⟨30, _⟩ => ⟨S_, .f32⟩
  | .hbm, ⟨31, _⟩ => ⟨S2x512, .f32⟩
  | .hbm, ⟨32, _⟩ => ⟨S2x512, .f32⟩
  | .hbm, ⟨33, _⟩ => ⟨S2x512, .f32⟩
  | .hbm, ⟨34, _⟩ => ⟨S_, .f32⟩
  | .hbm, ⟨35, _⟩ => ⟨S2x512, .f32⟩
  | .hbm, ⟨36, _⟩ => ⟨S2x512, .f32⟩
  | _, _ => ⟨S2x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel35.lean ====
abbrev S3x512 : Shape := ⟨2, ![3, 512]⟩

abbrev nBuf : Space → Nat
  | .hbm => 7
  | .vmem => 7
  | .smem => 0
  | _ => 0

abbrev bufTy : (tb : Table) → Fin (tcTables nBuf tb) → BufTy
  | .hbm, ⟨0, _⟩ => ⟨S3x512, .f32⟩
  | .hbm, ⟨1, _⟩ => ⟨S3x512, .f32⟩
  | .hbm, ⟨2, _⟩ => ⟨S3x512, .f32⟩
  | .hbm, ⟨3, _⟩ => ⟨S3x512, .f32⟩
  | .hbm, ⟨4, _⟩ => ⟨S3x512, .f32⟩
  | .hbm, ⟨5, _⟩ => ⟨S3x512, .f32⟩
  | .hbm, ⟨6, _⟩ => ⟨S3x512, .f32⟩
  | .local _ .vmem, ⟨0, _⟩ => ⟨S3x512, .f32⟩
  | .local _ .vmem, ⟨1, _⟩ => ⟨S3x512, .f32⟩
  | .local _ .vmem, ⟨2, _⟩ => ⟨S3x512, .f32⟩
  | .local _ .vmem, ⟨3, _⟩ => ⟨S3x512, .f32⟩
  | .local _ .vmem, ⟨4, _⟩ => ⟨S3x512, .f32⟩
  | .local _ .vmem, ⟨5, _⟩ => ⟨S3x512, .f32⟩
  | .local _ .vmem, ⟨6, _⟩ => ⟨S3x512, .f32⟩
  | _, _ => ⟨S3x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S3x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel35Ideal.lean ====
abbrev S3x512 : Shape := ⟨2, ![3, 512]⟩

abbrev nBuf : Space → Nat
  | .hbm => 7
  | .vmem => 7
  | .smem => 0
  | _ => 0

abbrev bufTy : (tb : Table) → Fin (tcTables nBuf tb) → BufTy
  | .hbm, ⟨0, _⟩ => ⟨S3x512, .f32⟩
  | .hbm, ⟨1, _⟩ => ⟨S3x512, .f32⟩
  | .hbm, ⟨2, _⟩ => ⟨S3x512, .f32⟩
  | .hbm, ⟨3, _⟩ => ⟨S3x512, .f32⟩
  | .hbm, ⟨4, _⟩ => ⟨S3x512, .f32⟩
  | .hbm, ⟨5, _⟩ => ⟨S3x512, .f32⟩
  | .hbm, ⟨6, _⟩ => ⟨S3x512, .f32⟩
  | .local _ .vmem, ⟨0, _⟩ => ⟨S3x512, .f32⟩
  | .local _ .vmem, ⟨1, _⟩ => ⟨S3x512, .f32⟩
  | .local _ .vmem, ⟨2, _⟩ => ⟨S3x512, .f32⟩
  | .local _ .vmem, ⟨3, _⟩ => ⟨S3x512, .f32⟩
  | .local _ .vmem, ⟨4, _⟩ => ⟨S3x512, .f32⟩
  | .local _ .vmem, ⟨5, _⟩ => ⟨S3x512, .f32⟩
  | .local _ .vmem, ⟨6, _⟩ => ⟨S3x512, .f32⟩
  | _, _ => ⟨S3x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S3x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference35Ideal.lean ====
abbrev S3x512 : Shape := ⟨2, ![3, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S3x512, .f32⟩
  | .hbm, ⟨1, _⟩ => ⟨S3x512, .f32⟩
  | .hbm, ⟨2, _⟩ => ⟨S3x512, .f32⟩
  | .hbm, ⟨3, _⟩ => ⟨S3x512, .f32⟩
  | .hbm, ⟨4, _⟩ => ⟨S_, .f32⟩
  | .hbm, ⟨5, _⟩ => ⟨S3x512, .f32⟩
  | .hbm, ⟨6, _⟩ => ⟨S3x512, .f32⟩
  | .hbm, ⟨7, _⟩ => ⟨S_, .f32⟩
  | .hbm, ⟨8, _⟩ => ⟨S3x512, .f32⟩
  | .hbm, ⟨9, _⟩ => ⟨S3x512, .f32⟩
  | .hbm, ⟨10, _⟩ => ⟨S3x512, .f32⟩
  | .hbm, ⟨11, _⟩ => ⟨S_, .f32⟩
  | .hbm, ⟨12, _⟩ => ⟨S3x512, .f32⟩
  | .hbm, ⟨13, _⟩ => ⟨S3x512, .f32⟩
  | .hbm, ⟨14, _⟩ => ⟨S3x512, .f32⟩
  | .hbm, ⟨15, _⟩ => ⟨S_, .f32⟩
  | .hbm, ⟨16, _⟩ => ⟨S3x512, .f32⟩
  | .hbm, ⟨17, _⟩ => ⟨S3x512, .f32⟩
  | .hbm, ⟨18, _⟩ => ⟨S3x512, .f32⟩
  | .hbm, ⟨19, _⟩ => ⟨S_, .f32⟩
  | .hbm, ⟨20, _⟩ => ⟨S3x512, .f32⟩
  | .hbm, ⟨21, _⟩ => ⟨S3x512, .f32⟩
  | .hbm, ⟨22, _⟩ => ⟨S_, .f32⟩
  | .hbm, ⟨23, _⟩ => ⟨S3x512, .f32⟩
  | .hbm, ⟨24, _⟩ => ⟨S3x512, .f32⟩
  | .hbm, ⟨25, _⟩ => ⟨S3x512, .f32⟩
  | .hbm, ⟨26, _⟩ => ⟨S_, .f32⟩
  | .hbm, ⟨27, _⟩ => ⟨S3x512, .f32⟩
  | .hbm, ⟨28, _⟩ => ⟨S3x512, .f32⟩
  | .hbm, ⟨29, _⟩ => ⟨S3x512, .f32⟩
  | .hbm, ⟨30, _⟩ => ⟨S_, .f32⟩
  | .hbm, ⟨31, _⟩ => ⟨S3x512, .f32⟩
  | .hbm, ⟨32, _⟩ => ⟨S3x512, .f32⟩
  | .hbm, ⟨33, _⟩ => ⟨S3x512, .f32⟩
  | .hbm, ⟨34, _⟩ => ⟨S_, .f32⟩
  | .hbm, ⟨35, _⟩ => ⟨S3x512, .f32⟩
  | .hbm, ⟨36, _⟩ => ⟨S3x512, .f32⟩
  | _, _ => ⟨S3x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel36.lean ====
abbrev S1x2048 : Shape := ⟨2, ![1, 2048]⟩

abbrev nBuf : Space → Nat
  | .hbm => 7
  | .vmem => 7
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference36Ideal.lean ====
abbrev S1x2048 : Shape := ⟨2, ![1, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S_, .f32⟩
  | .hbm, ⟨5, _⟩ => ⟨S1x2048, .f32⟩
  | .hbm, ⟨6, _⟩ => ⟨S1x2048, .f32⟩
  | .hbm, ⟨7, _⟩ => ⟨S_, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S_, .f32⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S_, .f32⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S_, .f32⟩
  | .hbm, ⟨23, _⟩ => ⟨S1x2048, .f32⟩
  | .hbm, ⟨24, _⟩ => ⟨S1x2048, .f32⟩
  | .hbm, ⟨25, _⟩ => ⟨S1x2048, .f32⟩
  | .hbm, ⟨26, _⟩ => ⟨S_, .f32⟩
  | .hbm, ⟨27, _⟩ => ⟨S1x2048, .f32⟩
  | .hbm, ⟨28, _⟩ => ⟨S1x2048, .f32⟩
  | .hbm, ⟨29, _⟩ => ⟨S1x2048, .f32⟩
  | .hbm, ⟨30, _⟩ => ⟨S_, .f32⟩
  | .hbm, ⟨31, _⟩ => ⟨S1x2048, .f32⟩
  | .hbm, ⟨32, _⟩ => ⟨S1x2048, .f32⟩
  | .hbm, ⟨33, _⟩ => ⟨S1x2048, .f32⟩
  | .hbm, ⟨34, _⟩ => ⟨S_, .f32⟩
  | .hbm, ⟨35, _⟩ => ⟨S1x2048, .f32⟩
  | .hbm, ⟨36, _⟩ => ⟨S1x2048, .f32⟩
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel37.lean ====
abbrev S8192x2048 : Shape := ⟨2, ![8192, 2048]⟩
abbrev S1x2048 : Shape := ⟨2, ![1, 2048]⟩
abbrev S8x2048 : Shape := ⟨2, ![8, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 7
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S8192x2048, .bf16⟩
  | .hbm, ⟨4, _⟩ => ⟨S8192x2048, .f32⟩
  | .hbm, ⟨5, _⟩ => ⟨S8192x2048, .f32⟩
  | .hbm, ⟨6, _⟩ => ⟨S8x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S256x2048, .bf16⟩
  | .local _ .vmem, ⟨5, _⟩ => ⟨S256x2048, .bf16⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S8x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference37Ideal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩
abbrev S5x2048 : Shape := ⟨2, ![5, 2048]⟩
abbrev S8x2048 : Shape := ⟨2, ![8, 2048]⟩

abbrev nBuf : Space → Nat
  | .hbm => 70
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S8192x2048, .bf16⟩
  | .hbm, ⟨4, _⟩ => ⟨S8192x2048, .f32⟩
  | .hbm, ⟨5, _⟩ => ⟨S_, .f32⟩
  | .hbm, ⟨6, _⟩ => ⟨S1x2048, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S1x2048, .f32⟩
  | .hbm, ⟨28, _⟩ => ⟨S1x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S_, .f32⟩
  | .hbm, ⟨35, _⟩ => ⟨S2048, .f32⟩
  | .hbm, ⟨36, _⟩ => ⟨S1x2048, .f32⟩
  | .hbm, ⟨37, _⟩ => ⟨S8192x2048, .f32⟩
  | .hbm, ⟨38, _⟩ => ⟨S_, .f32⟩
  | .hbm, ⟨39, _⟩ => ⟨S2048, .f32⟩
  | .hbm, ⟨40, _⟩ => ⟨S1x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S_, .f32⟩
  | .hbm, ⟨45, _⟩ => ⟨S2048, .f32⟩
  | .hbm, ⟨46, _⟩ => ⟨S1x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S_, .f32⟩
  | .hbm, ⟨51, _⟩ => ⟨S8192, .f32⟩
  | .hbm, ⟨52, _⟩ => ⟨S8192x1, .f32⟩
  | .hbm, ⟨53, _⟩ => ⟨S8192x2048, .f32⟩
  | .hbm, ⟨54, _⟩ => ⟨S8192x2048, .f32⟩
  | .hbm, ⟨55, _⟩ => ⟨S8192x1, .f32⟩
  | .hbm, ⟨56, _⟩ => ⟨S_, .f32⟩
  | .hbm, ⟨57, _⟩ => ⟨S8192x1, .f32⟩
  | .hbm, ⟨58, _⟩ => ⟨S8192x1, .f32⟩
  | .hbm, ⟨59, _⟩ => ⟨S_, .f32⟩
  | .hbm, ⟨60, _⟩ => ⟨S8192, .f32⟩
  | .hbm, ⟨61, _⟩ => ⟨S8192x2048, .f32⟩
  | .hbm, ⟨62, _⟩ => ⟨S8192x2048, .f32⟩
  | .hbm, ⟨63, _⟩ => ⟨S8192x2048, .f32⟩
  | .hbm, ⟨64, _⟩ => ⟨S8192x2048, .f32⟩
  | .hbm, ⟨65, _⟩ => ⟨S8192x2048, .f32⟩
  | .hbm, ⟨66, _⟩ => ⟨S8192x2048, .f32⟩
  | .hbm, ⟨67, _⟩ => ⟨S_, .f32⟩
  | .hbm, ⟨68, _⟩ => ⟨S5x2048, .f32⟩
  | .hbm, ⟨69, _⟩ => ⟨S8x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_9 : Ref sig .tc := ⟨.hbm, 56, rfl⟩
abbrev main_v41 : Ref sig .tc := ⟨.hbm, 57, rfl⟩
abbrev main_v42 : Ref sig .tc := ⟨.hbm, 58, rfl⟩
abbrev main_cst_10 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_11 : Ref sig .tc := ⟨.hbm, 67, rfl⟩
abbrev main_v50 : Ref sig .tc := ⟨.hbm, 68, rfl⟩
abbrev main_v51 : Ref sig .tc := ⟨.hbm, 69, rfl⟩

abbrev nD : Nat := 1
abbrev τ : Topo := Topo.v7x

variable {F : FTy → Type} [FloatOps F]
-- ==== Kernel38.lean ====
abbrev S8192x2048 : Shape := ⟨2, ![8192, 2048]⟩
abbrev S1x2048 : Shape := ⟨2, ![1, 2048]⟩
abbrev S8x2048 : Shape := ⟨2, ![8, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 8
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .bf16⟩
  | .hbm, ⟨4, _⟩ => ⟨S1x2048, .f32⟩
  | .hbm, ⟨5, _⟩ => ⟨S8192x2048, .f32⟩
  | .hbm, ⟨6, _⟩ => ⟨S8192x2048, .bf16⟩
  | .hbm, ⟨7, _⟩ => ⟨S8x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .bf16⟩
  | .local _ .vmem, ⟨6, _⟩ => ⟨S256x2048, .bf16⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | .local _ .vmem, ⟨12, _⟩ => ⟨S8x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference38Ideal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩
abbrev S5x2048 : Shape := ⟨2, ![5, 2048]⟩
abbrev S8x2048 : Shape := ⟨2, ![8, 2048]⟩

abbrev nBuf : Space → Nat
  | .hbm => 86
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .bf16⟩
  | .hbm, ⟨4, _⟩ => ⟨S1x2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S2048, .f32⟩
  | .hbm, ⟨34, _⟩ => ⟨S1x2048, .f32⟩
  | .hbm, ⟨35, _⟩ => ⟨S_, .f32⟩
  | .hbm, ⟨36, _⟩ => ⟨S1x2048, .f32⟩
  | .hbm, ⟨37, _⟩ => ⟨S1x2048, .f32⟩
  | .hbm, ⟨38, _⟩ => ⟨S_, .f32⟩
  | .hbm, ⟨39, _⟩ => ⟨S1x2048, .f32⟩
  | .hbm, ⟨40, _⟩ => ⟨S_, .f32⟩
  | .hbm, ⟨41, _⟩ => ⟨S1x2048, .f32⟩
  | .hbm, ⟨42, _⟩ => ⟨S1x2048, .f32⟩
  | .hbm, ⟨43, _⟩ => ⟨S_, .f32⟩
  | .hbm, ⟨44, _⟩ => ⟨S2048, .f32⟩
  | .hbm, ⟨45, _⟩ => ⟨S8192x2048, .f32⟩
  | .hbm, ⟨46, _⟩ => ⟨S_, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S_, .f32⟩
  | .hbm, ⟨52, _⟩ => ⟨S2048, .f32⟩
  | .hbm, ⟨53, _⟩ => ⟨S1x2048, .f32⟩
  | .hbm, ⟨54, _⟩ => ⟨S8192x2048, .f32⟩
  | .hbm, ⟨55, _⟩ => ⟨S8192x2048, .f32⟩
  | .hbm, ⟨56, _⟩ => ⟨S8192x2048, .f32⟩
  | .hbm, ⟨57, _⟩ => ⟨S_, .f32⟩
  | .hbm, ⟨58, _⟩ => ⟨S8192, .f32⟩
  | .hbm, ⟨59, _⟩ => ⟨S8192x1, .f32⟩
  | .hbm, ⟨60, _⟩ => ⟨S8192x2048, .f32⟩
  | .hbm, ⟨61, _⟩ => ⟨S8192x2048, .f32⟩
  | .hbm, ⟨62, _⟩ => ⟨S8192x1, .f32⟩
  | .hbm, ⟨63, _⟩ => ⟨S_, .f32⟩
  | .hbm, ⟨64, _⟩ => ⟨S8192x1, .f32⟩
  | .hbm, ⟨65, _⟩ => ⟨S8192x1, .f32⟩
  | .hbm, ⟨66, _⟩ => ⟨S_, .f32⟩
  | .hbm, ⟨67, _⟩ => ⟨S8192, .f32⟩
  | .hbm, ⟨68, _⟩ => ⟨S8192x2048, .f32⟩
  | .hbm, ⟨69, _⟩ => ⟨S8192x2048, .f32⟩
  | .hbm, ⟨70, _⟩ => ⟨S8192x2048, .f32⟩
  | .hbm, ⟨71, _⟩ => ⟨S8192x2048, .f32⟩
  | .hbm, ⟨72, _⟩ => ⟨S8192x2048, .f32⟩
  | .hbm, ⟨73, _⟩ => ⟨S8192x2048, .f32⟩
  | .hbm, ⟨74, _⟩ => ⟨S8192x2048, .f32⟩
  | .hbm, ⟨75, _⟩ => ⟨S8192x2048, .f32⟩
  | .hbm, ⟨76, _⟩ => ⟨S8192x2048, .f32⟩
  | .hbm, ⟨77, _⟩ => ⟨S8192x2048, .f32⟩
  | .hbm, ⟨78, _⟩ => ⟨S8192x2048, .f32⟩
  | .hbm, ⟨79, _⟩ => ⟨S_, .f32⟩
  | .hbm, ⟨80, _⟩ => ⟨S2048, .f32⟩
  | .hbm, ⟨81, _⟩ => ⟨S1x2048, .f32⟩
  | .hbm, ⟨82, _⟩ => ⟨S8192x2048, .bf16⟩
  | .hbm, ⟨83, _⟩ => ⟨S_, .f32⟩
  | .hbm, ⟨84, _⟩ => ⟨S5x2048, .f32⟩
  | .hbm, ⟨85, _⟩ => ⟨S8x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_cst_9 : Ref sig .tc := ⟨.hbm, 43, rfl⟩
abbrev main_v28 : Ref sig .tc := ⟨.hbm, 44, rfl⟩
abbrev main_v29 : Ref sig .tc := ⟨.hbm, 45, rfl⟩
abbrev main_cst_10 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_11 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_12 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_13 : Ref sig .tc := ⟨.hbm, 63, rfl⟩
abbrev main_v44 : Ref sig .tc := ⟨.hbm, 64, rfl⟩
abbrev main_v45 : Ref sig .tc := ⟨.hbm, 65, rfl⟩
abbrev main_cst_14 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_15 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_16 : Ref sig .tc := ⟨.hbm, 83, rfl⟩
abbrev main_v61 : Ref sig .tc := ⟨.hbm, 84, rfl⟩
abbrev main_v62 : Ref sig .tc := ⟨.hbm, 85, rfl⟩

abbrev nD : Nat := 1
abbrev τ : Topo := Topo.v7x

variable {F : FTy → Type} [FloatOps F]
-- ==== Kernel39.lean ====
abbrev S8x40x2048 : Shape := ⟨3, ![8, 40, 2048]⟩
abbrev S40x2048 : Shape := ⟨2, ![40, 2048]⟩
abbrev S1x40x2048 : Shape := ⟨3, ![1, 40, 2048]⟩

abbrev nBuf : Space → Nat
  | .hbm => 2
  | .vmem => 2
  | .smem => 0
  | _ => 0

abbrev bufTy : (tb : Table) → Fin (tcTables nBuf tb) → BufTy
  | .hbm, ⟨0, _⟩ => ⟨S8x40x2048, .f32⟩
  | .hbm, ⟨1, _⟩ => ⟨S40x2048, .f32⟩
  | .local _ .vmem, ⟨0, _⟩ => ⟨S8x40x2048, .f32⟩
  | .local _ .vmem, ⟨1, _⟩ => ⟨S40x2048, .f32⟩
  | _, _ => ⟨S8x40x2048, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x40x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S40x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference39Ideal.lean ====
abbrev S8x40x2048 : Shape := ⟨3, ![8, 40, 2048]⟩
abbrev S_ : Shape := ⟨0, ![]⟩
abbrev S40x2048 : Shape := ⟨2, ![40, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8x40x2048, .f32⟩
  | .hbm, ⟨1, _⟩ => ⟨S_, .f32⟩
  | .hbm, ⟨2, _⟩ => ⟨S40x2048, .f32⟩
  | _, _ => ⟨S8x40x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel40.lean ====
abbrev S1x2048 : Shape := ⟨2, ![1, 2048]⟩
abbrev S1x1 : Shape := ⟨2, ![1, 1]⟩
abbrev S1 : Shape := ⟨1, ![1]⟩

abbrev nBuf : Space → Nat
  | .hbm => 2
  | .vmem => 2
  | .smem => 0
  | _ => 0

abbrev bufTy : (tb : Table) → Fin (tcTables nBuf tb) → BufTy
  | .hbm, ⟨0, _⟩ => ⟨S1x2048, .f32⟩
  | .hbm, ⟨1, _⟩ => ⟨S1x1, .f32⟩
  | .local _ .vmem, ⟨0, _⟩ => ⟨S1x2048, .f32⟩
  | .local _ .vmem, ⟨1, _⟩ => ⟨S1x1, .f32⟩
  | _, _ => ⟨S1x2048, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference40Ideal.lean ====
abbrev S1x2048 : Shape := ⟨2, ![1, 2048]⟩
abbrev S_ : Shape := ⟨0, ![]⟩
abbrev S1x1 : Shape := ⟨2, ![1, 1]⟩

abbrev nBuf : Space → Nat
  | .hbm => 4
  | .vmem => 0
  | .smem => 0
  | _ => 0

abbrev bufTy : (tb : Table) → Fin (tcTables nBuf tb) → BufTy
  | .hbm, ⟨0, _⟩ => ⟨S1x2048, .f32⟩
  | .hbm, ⟨1, _⟩ => ⟨S_, .f32⟩
  | .hbm, ⟨2, _⟩ => ⟨S_, .f32⟩
  | .hbm, ⟨3, _⟩ => ⟨S1x1, .f32⟩
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel41.lean ====
abbrev S32x8x2048 : Shape := ⟨3, ![32, 8, 2048]⟩
abbrev S8x2048 : Shape := ⟨2, ![8, 2048]⟩
abbrev S1x8x2048 : Shape := ⟨3, ![1, 8, 2048]⟩

abbrev nBuf : Space → Nat
  | .hbm => 2
  | .vmem => 3
  | .smem => 0
  | _ => 0

abbrev bufTy : (tb : Table) → Fin (tcTables nBuf tb) → BufTy
  | .hbm, ⟨0, _⟩ => ⟨S32x8x2048, .f32⟩
  | .hbm, ⟨1, _⟩ => ⟨S8x2048, .f32⟩
  | .local _ .vmem, ⟨0, _⟩ => ⟨S1x8x2048, .f32⟩
  | .local _ .vmem, ⟨1, _⟩ => ⟨S1x8x2048, .f32⟩
  | .local _ .vmem, ⟨2, _⟩ => ⟨S8x2048, .f32⟩
  | _, _ => ⟨S32x8x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x8x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== Reference41Ideal.lean ====
abbrev S32x8x2048 : Shape := ⟨3, ![32, 8, 2048]⟩
abbrev S_ : Shape := ⟨0, ![]⟩
abbrev S8x2048 : Shape := ⟨2, ![8, 2048]⟩

abbrev nBuf : Space → Nat
  | .hbm => 3
  | .vmem => 0
  | .smem => 0
  | _ => 0

abbrev bufTy : (tb : Table) → Fin (tcTables nBuf tb) → BufTy
  | .hbm, ⟨0, _⟩ => ⟨S32x8x2048, .f32⟩
  | .hbm, ⟨1, _⟩ => ⟨S_, .f32⟩
  | .hbm, ⟨2, _⟩ => ⟨S8x2048, .f32⟩
  | _, _ => ⟨S32x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel42.lean ====
abbrev S8192x2048 : Shape := ⟨2, ![8192, 2048]⟩
abbrev S256x2048 : Shape := ⟨2, ![256, 2048]⟩
abbrev S16x2048 : Shape := ⟨2, ![16, 2048]⟩
abbrev S272x2048 : Shape := ⟨2, ![272, 2048]⟩
abbrev S272x1 : Shape := ⟨2, ![272, 1]⟩
abbrev S272x512 : Shape := ⟨2, ![272, 512]⟩
abbrev S256x512 : Shape := ⟨2, ![256, 512]⟩

abbrev nBuf : Space → Nat
  | .hbm => 2
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .local _ .vmem, ⟨0, _⟩ => ⟨S256x2048, .bf16⟩
  | .local _ .vmem, ⟨1, _⟩ => ⟨S256x2048, .bf16⟩
  | .local _ .vmem, ⟨2, _⟩ => ⟨S16x2048, .bf16⟩
  | .local _ .vmem, ⟨3, _⟩ => ⟨S16x2048, .bf16⟩
  | .local _ .vmem, ⟨4, _⟩ => ⟨S256x2048, .bf16⟩
  | .local _ .vmem, ⟨5, _⟩ => ⟨S256x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference42Ideal.lean ====
abbrev S8192x2048 : Shape := ⟨2, ![8192, 2048]⟩
abbrev S_ : Shape := ⟨0, ![]⟩
abbrev S4 : Shape := ⟨1, ![4]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S4x1x1 : Shape := ⟨3, ![4, 1, 1]⟩
abbrev S1x8192x8192 : Shape := ⟨3, ![1, 8192, 8192]⟩
abbrev S4x8192x8192 : Shape := ⟨3, ![4, 8192, 8192]⟩
abbrev S1x4 : Shape := ⟨2, ![1, 4]⟩
abbrev S8192x4 : Shape := ⟨2, ![8192, 4]⟩
abbrev S8192x4x512 : Shape := ⟨3, ![8192, 4, 512]⟩
abbrev S4x512x8192 : Shape := ⟨3, ![4, 512, 8192]⟩
abbrev S8192x4x1 : Shape := ⟨3, ![8192, 4, 1]⟩

abbrev nBuf : Space → Nat
  | .hbm => 59
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S_, .f32⟩
  | .hbm, ⟨2, _⟩ => ⟨S8192x2048, .f32⟩
  | .hbm, ⟨3, _⟩ => ⟨S4, .i32⟩
  | .hbm, ⟨4, _⟩ => ⟨S_, .i32⟩
  | .hbm, ⟨5, _⟩ => ⟨S4, .i32⟩
  | .hbm, ⟨6, _⟩ => ⟨S4, .i32⟩
  | .hbm, ⟨7, _⟩ => ⟨S8192, .i32⟩
  | .hbm, ⟨8, _⟩ => ⟨S8192x1, .i32⟩
  | .hbm, ⟨9, _⟩ => ⟨S8192, .i32⟩
  | .hbm, ⟨10, _⟩ => ⟨S1x8192, .i32⟩
  | .hbm, ⟨11, _⟩ => ⟨S8192x8192, .i32⟩
  | .hbm, ⟨12, _⟩ => ⟨S8192x8192, .i32⟩
  | .hbm, ⟨13, _⟩ => ⟨S8192x8192, .i1⟩
  | .hbm, ⟨14, _⟩ => ⟨S8192x8192, .i32⟩
  | .hbm, ⟨15, _⟩ => ⟨S8192x8192, .i32⟩
  | .hbm, ⟨16, _⟩ => ⟨S8192x8192, .i32⟩
  | .hbm, ⟨17, _⟩ => ⟨S4x1x1, .i32⟩
  | .hbm, ⟨18, _⟩ => ⟨S1x8192x8192, .i32⟩
  | .hbm, ⟨19, _⟩ => ⟨S4x8192x8192, .i32⟩
  | .hbm, ⟨20, _⟩ => ⟨S4x8192x8192, .i32⟩
  | .hbm, ⟨21, _⟩ => ⟨S4x8192x8192, .i1⟩
  | .hbm, ⟨22, _⟩ => ⟨S1x8192x8192, .i1⟩
  | .hbm, ⟨23, _⟩ => ⟨S4x8192x8192, .i1⟩
  | .hbm, ⟨24, _⟩ => ⟨S4x8192x8192, .i1⟩
  | .hbm, ⟨25, _⟩ => ⟨S_, .f32⟩
  | .hbm, ⟨26, _⟩ => ⟨S_, .f32⟩
  | .hbm, ⟨27, _⟩ => ⟨S4x8192x8192, .f32⟩
  | .hbm, ⟨28, _⟩ => ⟨S4x8192x8192, .f32⟩
  | .hbm, ⟨29, _⟩ => ⟨S4x8192x8192, .f32⟩
  | .hbm, ⟨30, _⟩ => ⟨S8192, .i32⟩
  | .hbm, ⟨31, _⟩ => ⟨S_, .i32⟩
  | .hbm, ⟨32, _⟩ => ⟨S8192, .i32⟩
  | .hbm, ⟨33, _⟩ => ⟨S8192, .i32⟩
  | .hbm, ⟨34, _⟩ => ⟨S8192x1, .i32⟩
  | .hbm, ⟨35, _⟩ => ⟨S1x4, .i32⟩
  | .hbm, ⟨36, _⟩ => ⟨S8192x4, .i32⟩
  | .hbm, ⟨37, _⟩ => ⟨S8192x4, .i32⟩
  | .hbm, ⟨38, _⟩ => ⟨S8192x4, .i32⟩
  | .hbm, ⟨39, _⟩ => ⟨S8192x4, .f32⟩
  | .hbm, ⟨40, _⟩ => ⟨S8192x4x512, .f32⟩
  | .hbm, ⟨41, _⟩ => ⟨S4x512x8192, .f32⟩
  | .hbm, ⟨42, _⟩ => ⟨S8192x4x512, .f32⟩
  | .hbm, ⟨43, _⟩ => ⟨S8192x4x1, .f32⟩
  | .hbm, ⟨44, _⟩ => ⟨S8192x4x512, .f32⟩
  | .hbm, ⟨45, _⟩ => ⟨S8192x4x512, .f32⟩
  | .hbm, ⟨46, _⟩ => ⟨S8192x4x512, .f32⟩
  | .hbm, ⟨47, _⟩ => ⟨S8192x2048, .f32⟩
  | .hbm, ⟨48, _⟩ => ⟨S8192x2048, .f32⟩
  | .hbm, ⟨49, _⟩ => ⟨S8192x4x512, .f32⟩
  | .hbm, ⟨50, _⟩ => ⟨S8192x4x512, .f32⟩
  | .hbm, ⟨51, _⟩ => ⟨S8192x4x512, .f32⟩
  | .hbm, ⟨52, _⟩ => ⟨S8192x4x512, .f32⟩
  | .hbm, ⟨53, _⟩ => ⟨S4x512x8192, .f32⟩
  | .hbm, ⟨54, _⟩ => ⟨S4x512x8192, .f32⟩
  | .hbm, ⟨55, _⟩ => ⟨S8192x4x512, .f32⟩
  | .hbm, ⟨56, _⟩ => ⟨S8192x4x512, .f32⟩
  | .hbm, ⟨57, _⟩ => ⟨S8192x2048, .f32⟩
  | .hbm, ⟨58, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_cst_0 : Ref sig .tc := ⟨.hbm, 25, rfl⟩
abbrev main_cst_1 : Ref sig .tc := ⟨.hbm, 26, rfl⟩
abbrev main_call0_v0 : Ref sig .tc := ⟨.hbm, 27, rfl⟩
abbrev main_call0_v1 : Ref sig .tc := ⟨.hbm, 28, rfl⟩
abbrev main_v22 : Ref sig .tc := ⟨.hbm, 29, rfl⟩
abbrev main_v23 : Ref sig .tc := ⟨.hbm, 30, rfl⟩
abbrev main_c_2 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩

abbrev nD : Nat := 1
abbrev τ : Topo := Topo.v7x

variable {F : FTy → Type} [FloatOps F]
-- ==== Proof.Block.lean ====
/- One key block of the backward pass of the stick-breaking attention, as pure operations on vectors: from a tile of
   queries, a tile of output cotangents, the rows' totals of log(1 - beta), one tile of keys and one of values, the row
   sums carried so far give the new ones, and the block's contributions to the gradients of q, k and v. Over any float
   values. -/
module

public import proofs.«01_k».proof.Proof.Gen.KernelIdeal.Skeleton
public import Idealize.ShloMosaic.Lib.VecWindow

@[expose] public section

noncomputable section

namespace Cert.KernelIdeal.Attn

open Idealize.ShloMosaic Idealize.SL.Sem Cert.KernelIdeal.Gen

variable {F : FTy → Type} [FloatOps F]

/-- A map of score tiles: the identity left of the diagonal, the causal mask on it. -/
abbrev Sel (F : FTy → Type) : Type := FVec F S1024x256 .f32 → FVec F S1024x256 .f32

/-- Zero where the mask is off. -/
def masked (c : IVec S1024x256 1) : Sel F := fun x => select c x (broadcast S1024x256 (Scalar.ofBits .f32 0x00000000#32))

/-- The causal mask of the diagonal's block number `b`: key `256 b + s` strictly before query `t`. -/
def causal (b : BitVec 32) : IVec S1024x256 1 :=
  cmpi .slt (addi (broadcast S1024x256 b) (iota .tc S1024x256 32 [1] iota_S1024x256_d1_w32)) (iota .tc S1024x256 32 [0] iota_S1024x256_d0_w32)

section block

variable (sel : Sel F) (q d : Vec F S1024x128 .bf16) (lt : Vec F S1024x1 .f32) (k v : Vec F S256x128 .bf16)
  (c1 ce : FVec F S1024x1 .f32)

/-- The scores of the tile. -/
def score : FVec F S1024x256 .f32 := k0_pay5 q k
/-- The logarithm of the sigmoid of the scores. -/
def logBeta : FVec F S1024x256 .f32 := k0_pay6 q k
/-- The logarithm of one minus that sigmoid, where it counts. -/
def logRest : FVec F S1024x256 .f32 := sel (subf (logBeta q k) (score q k))
/-- The row sums of `logRest` up to and with this block. -/
def restSum : FVec F S1024x1 .f32 :=
  addf c1 (shapeCast S1024x1 (multiReduction .add [1] S1024 (logRest sel q k) 0x00000000#32 reduces_S1024x256_S1024 (.inl rfl) rfl) shapeCasts_S1024_S1024x1)
/-- The attention weights. -/
def weight : FVec F S1024x256 .f32 :=
  sel (exp (addf (logBeta q k) (addf
    (matmul dot_S1024x256_S256x256_S1024x256_1_0_0_1_n_n none (truncf .bf16 (logRest sel q k) bitsLt_bf16_f32) (k0_pay102 (F := F)) (constant S1024x256 .f32 0x00000000#32))
    (broadcastTo S1024x256 (subf (k0_pay101 lt) (restSum sel q k c1)) broadcasts_S1024x1_S1024x256))))
/-- The weights times their cotangents. -/
def weighted : FVec F S1024x256 .f32 :=
  mulf (weight sel q lt k c1) (matmul dot_S1024x128_S256x128_S1024x256_1_1_0_0_n_n none d v (constant S1024x256 .f32 0x00000000#32))
/-- The row sums of `weighted` up to and with this block. -/
def weightedSum : FVec F S1024x1 .f32 :=
  addf ce (shapeCast S1024x1 (multiReduction .add [1] S1024 (weighted sel q d lt k v c1) 0x00000000#32 reduces_S1024x256_S1024 (.inl rfl) rfl) shapeCasts_S1024_S1024x1)
/-- The cotangent of the scores. -/
def dScore : FVec F S1024x256 .bf16 :=
  truncf .bf16 (sel (subf (weighted sel q d lt k v c1) (mulf (exp (logBeta q k)) (addf (weighted sel q d lt k v c1) (addf
    (matmul dot_S1024x256_S256x256_S1024x256_1_0_0_1_n_n none (truncf .bf16 (weighted sel q d lt k v c1) bitsLt_bf16_f32) (k0_pay103 (F := F)) (constant S1024x256 .f32 0x00000000#32))
    (broadcastTo S1024x256 ce broadcasts_S1024x1_S1024x256)))))) bitsLt_bf16_f32
/-- The block's part of the gradient of the keys, transposed. -/
def dKeys : FVec F S128x256 .f32 :=
  matmul dot_S128x1024_S1024x256_S128x256_1_0_0_1_n_n none (k0_pay99 q) (dScore sel q d lt k v c1 ce) (constant S128x256 .f32 0x00000000#32)
/-- The block's part of the gradient of the values, transposed. -/
def dValues : FVec F S128x256 .f32 :=
  matmul dot_S128x1024_S1024x256_S128x256_1_0_0_1_n_n none (k0_pay100 d) (truncf .bf16 (weight sel q lt k c1) bitsLt_bf16_f32) (constant S128x256 .f32 0x00000000#32)
/-- The gradient of the queries up to and with this block. -/
def dQueries (dq : FVec F S1024x128 .f32) : FVec F S1024x128 .f32 :=
  addf dq (matmul dot_S1024x256_S256x128_S1024x128_1_0_0_1_n_n none (dScore sel q d lt k v c1 ce) k (constant S1024x128 .f32 0x00000000#32))

end block

/-- A slab of an accumulator with a contribution added. -/
def accum (x : Vec F S1x128x256 .f32) (y : FVec F S128x256 .f32) : FVec F S1x128x256 .f32 :=
  shapeCast S1x128x256 (addf (shapeCast S128x256 x shapeCasts_S1x128x256_S128x256) y) shapeCasts_S128x256_S1x128x256

/-- The rows `256 b … 256 b + 255` of an array of keys or values. -/
def rows (x : S8192x128.Idx → Elt F .bf16) (b : ℕ) : Vec F S256x128 .bf16 :=
  fun y => x (fun a => ⟨(![256 * b, 0] a + (y a).val) % S8192x128.size a, Nat.mod_lt _ (by revert a; decide)⟩)

/-- The slab of number `b` of an accumulator. -/
def slab (x : S32x128x256.Idx → Elt F .f32) (b : ℕ) : Vec F S1x128x256 .f32 :=
  fun y => x (fun a => ⟨(![b, 0, 0] a + (y a).val) % S32x128x256.size a, Nat.mod_lt _ (by revert a; decide)⟩)

/-- The accumulator with its slab of number `b` replaced. -/
def setSlab (x : S32x128x256.Idx → Elt F .f32) (b : ℕ) (w : Vec F S1x128x256 .f32) : S32x128x256.Idx → Elt F .f32 :=
  VecWindow.put x ![b, 0, 0] S1x128x256.size w

/-- What a run over the key blocks carries: the two row sums, the gradient of the queries, and the two accumulators. -/
structure Carry (F : FTy → Type) [FloatOps F] where
  rest : FVec F S1024x1 .f32
  wsum : FVec F S1024x1 .f32
  dq : FVec F S1024x128 .f32
  dkt : S32x128x256.Idx → Elt F .f32
  dvt : S32x128x256.Idx → Elt F .f32

/-- The arguments of one grid point: its tile of queries, of output cotangents, of row totals, and the head's keys and values. -/
structure Point (F : FTy → Type) [FloatOps F] where
  q : Vec F S1024x128 .bf16
  d : Vec F S1024x128 .bf16
  lt : Vec F S1024x1 .f32
  k : S8192x128.Idx → Elt F .bf16
  v : S8192x128.Idx → Elt F .bf16

/-- One block. -/
def step (p : Point F) (sel : Sel F) (b : ℕ) (s : Carry F) : Carry F where
  rest := restSum sel p.q (rows p.k b) s.rest
  wsum := weightedSum sel p.q p.d p.lt (rows p.k b) (rows p.v b) s.rest s.wsum
  dq := dQueries sel p.q p.d p.lt (rows p.k b) (rows p.v b) s.rest s.wsum s.dq
  dkt := setSlab s.dkt b (accum (slab s.dkt b) (dKeys sel p.q p.d p.lt (rows p.k b) (rows p.v b) s.rest s.wsum))
  dvt := setSlab s.dvt b (accum (slab s.dvt b) (dValues sel p.q p.d p.lt (rows p.k b) s.rest))

/-- The blocks `0 … n - 1`, none of them masked. -/
def free (p : Point F) (s : Carry F) : ℕ → Carry F
  | 0 => s
  | n + 1 => step p (fun x => x) n (free p s n)

/-- The four blocks of the diagonal, from block number `b` on. -/
def diag (p : Point F) (b : ℕ) (s : Carry F) : Carry F :=
  step p (masked (causal 768#32)) (b + 3) (step p (masked (causal 512#32)) (b + 2)
    (step p (masked (causal 256#32)) (b + 1) (step p (masked (causal 0#32)) (b + 0) s)))

/-- What a point carries at the start, over accumulators `x` and `y`. -/
def start (x y : S32x128x256.Idx → Elt F .f32) : Carry F := ⟨k0_pay106, k0_pay106, k0_pay107, x, y⟩

/-- All the blocks of the point whose query tile has number `i`. -/
def runPoint (p : Point F) (i : ℕ) (x y : S32x128x256.Idx → Elt F .f32) : Carry F :=
  diag p (4 * i) (free p (start x y) (4 * i))

/-- The rows of the gradient of the queries a point stores. -/
def dqOut (s : Carry F) : FVec F S1024x128 .bf16 :=
  truncf .bf16 (mulf s.dq (broadcast S1024x128 (Scalar.ofBits .f32 0x3DB504F3#32))) bitsLt_bf16_f32

theorem window_rows (x : S8192x128.Idx → Elt F .bf16) (b : ℕ) (inb : ∀ a, (![256 * b, 0] : Fin 2 → ℕ) a + S256x128.size a ≤ S8192x128.size a) :
    VecWindow.window x ![256 * b, 0] S256x128.size inb = rows x b := by
  funext y
  refine congrArg x (funext fun a => Fin.ext ?_)
  show (![256 * b, 0] : Fin 2 → ℕ) a + 1 * (y a).val = _
  have h := inb a
  have hy : (y a).val < S256x128.size a := (y a).isLt
  show _ = ((![256 * b, 0] : Fin 2 → ℕ) a + (y a).val) % S8192x128.size a
  rw [Nat.mod_eq_of_lt (by omega), Nat.one_mul]

theorem window_slab (x : S32x128x256.Idx → Elt F .f32) (b : ℕ) (inb : ∀ a, (![b, 0, 0] : Fin 3 → ℕ) a + S1x128x256.size a ≤ S32x128x256.size a) :
    VecWindow.window x ![b, 0, 0] S1x128x256.size inb = slab x b := by
  funext y
  refine congrArg x (funext fun a => Fin.ext ?_)
  show (![b, 0, 0] : Fin 3 → ℕ) a + 1 * (y a).val = _
  have h := inb a
  have hy : (y a).val < S1x128x256.size a := (y a).isLt
  show _ = ((![b, 0, 0] : Fin 3 → ℕ) a + (y a).val) % S32x128x256.size a
  rw [Nat.mod_eq_of_lt (by omega), Nat.one_mul]

/-- A load of the tile of rows of number `b`. -/
theorem ld_rows (w : View sig .tc .vmem S8192x128 .bf16) (f : w.ty.Contents (Elt F)) {off : Fin 2 → ℕ} (b : ℕ)
    (inb : ∀ a, off a + S256x128.size a ≤ S8192x128.size a) (h : off = ![256 * b, 0]) :
    w.readAt (Elt F) (Rect.unit (s := S8192x128) off S256x128.size inb).toLoadRect f = rows (w.read (Elt F) f) b := by
  subst h
  exact (View.readAt_unit w f inb rfl inb).trans (window_rows _ b inb)

/-- A load of the slab of number `b`. -/
theorem ld_slab (w : View sig .tc .vmem S32x128x256 .f32) (f : w.ty.Contents (Elt F)) {off : Fin 3 → ℕ} (b : ℕ)
    (inb : ∀ a, off a + S1x128x256.size a ≤ S32x128x256.size a) (h : off = ![b, 0, 0]) :
    w.readAt (Elt F) (Rect.unit (s := S32x128x256) off S1x128x256.size inb).toLoadRect f = slab (w.read (Elt F) f) b := by
  subst h
  exact (View.readAt_unit w f inb rfl inb).trans (window_slab _ b inb)

/-- A store of the slab of number `b`. -/
theorem st_slab (w : View sig .tc .vmem S32x128x256 .f32) (f : w.ty.Contents (Elt F)) {off : Fin 3 → ℕ} (b : ℕ)
    (inb : ∀ a, off a + S1x128x256.size a ≤ S32x128x256.size a) (h : off = ![b, 0, 0]) (y : Vec F S1x128x256 .f32) (L : List (View.Piece (Elt F) S32x128x256 .f32)) :
    w.read (Elt F) (w.writes (Elt F) f (⟨Rect.unit (s := S32x128x256) off S1x128x256.size inb, y⟩ :: L)) = setSlab (w.read (Elt F) (w.writes (Elt F) f L)) b y :=
  View.read_writes_cons_put w f inb y L h

/-- A slab other than the one replaced is what it was. -/
theorem slab_setSlab_ne (x : S32x128x256.Idx → Elt F .f32) {b b' : ℕ} (w : Vec F S1x128x256 .f32) (hb : b' < 32) (h : b' ≠ b) :
    slab (setSlab x b w) b' = slab x b' := by
  funext y
  show VecWindow.put x ![b, 0, 0] S1x128x256.size w _ = _
  unfold VecWindow.put
  rw [dif_neg]
  · rfl
  · intro hall
    have h0 := hall 0
    have hy : (y 0).val < 1 := (y 0).isLt
    have e : ((b' + (y 0).val) % 32) = b' := by rw [Nat.mod_eq_of_lt] <;> omega
    have h1 : b ≤ (b' + (y 0).val) % 32 ∧ (b' + (y 0).val) % 32 < b + 1 := h0
    omega

/-- The slab replaced is the new one. -/
theorem slab_setSlab_same (x : S32x128x256.Idx → Elt F .f32) {b : ℕ} (w : Vec F S1x128x256 .f32) (hb : b < 32) : slab (setSlab x b w) b = w := by
  have inb : ∀ a, (![b, 0, 0] : Fin 3 → ℕ) a + S1x128x256.size a ≤ S32x128x256.size a := by
    intro a; fin_cases a
    · show b + 1 ≤ 32; omega
    · show 0 + 128 ≤ 128; omega
    · show 0 + 256 ≤ 256; omega
  rw [← window_slab _ b inb]
  exact VecWindow.window_put_same x ![b, 0, 0] S1x128x256.size inb w

/-- A row's place within its tile of 256 rows. -/
def inTile (y : S8192x128.Idx) : S256x128.Idx := fun a => ⟨(y a).val % S256x128.size a, Nat.mod_lt _ (by revert a; decide)⟩

/-- The gradient of the keys as stored, from the accumulator. -/
def dkOut (x : S32x128x256.Idx → Elt F .f32) : S8192x128.Idx → Elt F .bf16 := fun y => k0_pay3 (slab x ((y 0).val / 256)) (inTile y)

/-- The gradient of the values as stored, from the accumulator. -/
def dvOut (x : S32x128x256.Idx → Elt F .f32) : S8192x128.Idx → Elt F .bf16 := fun y => k0_pay4 (slab x ((y 0).val / 256)) (inTile y)

/-- A store of the tile of rows of number `b`, read at a row of a tile up to that one. -/
theorem st_rows_apply (w : View sig .tc .vmem S8192x128 .bf16) (f : w.ty.Contents (Elt F)) {off : Fin 2 → ℕ} (b : ℕ)
    (inb : ∀ a, off a + S256x128.size a ≤ S8192x128.size a) (h : off = ![256 * b, 0]) (g : ℕ → Vec F S256x128 .bf16)
    (hf : ∀ y : S8192x128.Idx, (y 0).val < 256 * b → w.read (Elt F) f y = g ((y 0).val / 256) (inTile y))
    (y : S8192x128.Idx) (hy : (y 0).val < 256 * (b + 1)) :
    w.read (Elt F) (w.writes (Elt F) f [⟨Rect.unit (s := S8192x128) off S256x128.size inb, g b⟩]) y = g ((y 0).val / 256) (inTile y) := by
  rw [View.read_writes_cons_put w f inb (g b) [] h, View.writes_nil]
  unfold VecWindow.put
  by_cases hb : (y 0).val < 256 * b
  · rw [dif_neg, hf y hb]
    intro hall
    have h0 : 256 * b ≤ (y 0).val := (hall 0).1
    omega
  · have hc : ∀ a, (![256 * b, 0] : Fin 2 → ℕ) a ≤ (y a).val ∧ (y a).val < (![256 * b, 0] : Fin 2 → ℕ) a + S256x128.size a := by
      intro a
      match a with
      | 0 => exact ⟨(by show 256 * b ≤ (y 0).val; omega), (by show (y 0).val < 256 * b + 256; omega)⟩
      | 1 => exact ⟨Nat.zero_le _, by show (y 1).val < 0 + 128; have h1 : (y 1).val < 128 := (y 1).isLt; omega⟩
    rw [dif_pos hc]
    have e : (y 0).val / 256 = b := by omega
    rw [e]
    refine congrArg (g b) (funext fun a => Fin.ext ?_)
    match a with
    | 0 => show (y 0).val - 256 * b = (y 0).val % 256; omega
    | 1 => show (y 1).val - 0 = (y 1).val % 128; have h1 : (y 1).val < 128 := (y 1).isLt; omega

end Cert.KernelIdeal.Attn

end
-- ==== Proof.Trip.lean ====
module

public import proofs.«01_k».proof.Proof.Block
public import proofs.«01_k».proof.Proof.Gen.KernelIdeal.Loops
public import Idealize.ShloMosaic.Lib.Tactic.Stretches

@[expose] public section

set_option maxRecDepth 16384
set_option maxHeartbeats 4000000

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

/-- The rows a trip's block number `r` loads. -/
theorem off1_lit (i : grid0.Coords) (k : Fin (k0_t1_loop i).trips) (r : Fin 4) :
    k0_off1 i k (BitVec.ofNat 32 r.val) = ![256 * (4 * k.val + r.val), 0] := by
  rw [k0_off1_eq]; congr 1; omega

/-- The rows the diagonal's block number `r` loads. -/
theorem off5_lit (i : grid0.Coords) (r : Fin 4) : k0_off5 i (BitVec.ofNat 32 r.val) = ![256 * (4 * (i 1).val + r.val), 0] := by
  rw [k0_off5_eq]; congr 1; omega

local notation "𝕄" => MT nD τ sig Unit (Elt F) ℕ (UR sig nD τ) ℕ

theorem trip1 (𝒱 : Variants) (c : Dev nD) (bd : Option 𝒱.V) (E : Set ℕ) (i : grid0.Coords)
    (arg2 : Memref sig .tc .vmem S1024x128 .bf16) (harg2 : arg2.IsWhole) (arg3 : Memref sig .tc .vmem S8192x128 .bf16) (harg3 : arg3.IsWhole)
    (arg4 : Memref sig .tc .vmem S8192x128 .bf16) (harg4 : arg4.IsWhole) (arg5 : Memref sig .tc .vmem S1024x128 .f32) (harg5 : arg5.IsWhole)
    (arg6 : Memref sig .tc .vmem S1024x128 .bf16) (harg6 : arg6.IsWhole) (arg7 : Memref sig .tc .vmem S1024x128 .bf16) (harg7 : arg7.IsWhole)
    (arg8 : Memref sig .tc .vmem S8192x128 .bf16) (harg8 : arg8.IsWhole) (arg9 : Memref sig .tc .vmem S8192x128 .bf16) (harg9 : arg9.IsWhole)
    (arg10 : Memref sig .tc .vmem S32x128x256 .f32) (harg10 : arg10.IsWhole) (arg11 : Memref sig .tc .vmem S32x128x256 .f32) (harg11 : arg11.IsWhole)
    (v0 v1 : Vec F S1024x128 .bf16) (v8 : Vec F S1024x1 .f32)
    (f3 : BufTy.Contents (Elt F) arg3.view.ty) (f4 : BufTy.Contents (Elt F) arg4.view.ty)
    (k : Fin (k0_t1_loop i).trips) (acc : FVec F S1024x1 .f32 × FVec F S1024x1 .f32 × FVec F S1024x128 .f32)
    (f10 : BufTy.Contents (Elt F) arg10.view.ty) (f11 : BufTy.Contents (Elt F) arg11.view.ty) (s s' : Carry F)
    (hacc : acc = (s.rest, s.wsum, s.dq)) (h10 : arg10.view.read (Elt F) f10 = s.dkt) (h11 : arg11.view.read (Elt F) f11 = s.dvt)
    (hs' : s' = step ⟨v0, v1, v8, arg3.view.read (Elt F) f3, arg4.view.read (Elt F) f4⟩ (fun x => x) (4 * k.val + 3)
      (step ⟨v0, v1, v8, arg3.view.read (Elt F) f3, arg4.view.read (Elt F) f4⟩ (fun x => x) (4 * k.val + 2)
      (step ⟨v0, v1, v8, arg3.view.read (Elt F) f3, arg4.view.read (Elt F) f4⟩ (fun x => x) (4 * k.val + 1)
      (step ⟨v0, v1, v8, arg3.view.read (Elt F) f3, arg4.view.read (Elt F) f4⟩ (fun x => x) (4 * k.val + 0) s)))) :
    iprop((arg3.view.loc (c : Thread nD τ) ↦[arg3.view.set]{fullShare} f3) ∗ (arg4.view.loc (c : Thread nD τ) ↦[arg4.view.set]{fullShare} f4)
      ∗ (arg10.view.loc (c : Thread nD τ) ↦[arg10.view.set]{fullShare} f10) ∗ (arg11.view.loc (c : Thread nD τ) ↦[arg11.view.set]{fullShare} f11))
    ⊢ (wp frame (wpE (defs₀ (F := F)) 𝒱 (c : Thread nD τ) bd) E
        (k0_t1_body (F := F) i arg2 harg2 arg3 harg3 arg4 harg4 arg5 harg5 arg6 harg6 arg7 harg7 arg8 harg8 arg9 harg9 arg10 harg10 arg11 harg11 v0 v1 v8 k acc)
        (fun yld => iprop((arg3.view.loc (c : Thread nD τ) ↦[arg3.view.set]{fullShare} f3) ∗ (arg4.view.loc (c : Thread nD τ) ↦[arg4.view.set]{fullShare} f4)
      ∗ (∃ f, (arg10.view.loc (c : Thread nD τ) ↦[arg10.view.set]{fullShare} f) ∗ ⌜arg10.view.read (Elt F) f = s'.dkt⌝)
      ∗ (∃ f, (arg11.view.loc (c : Thread nD τ) ↦[arg11.view.set]{fullShare} f) ∗ ⌜arg11.view.read (Elt F) f = s'.dvt⌝)
      ∗ ⌜yld = (s'.rest, s'.wsum, s'.dq)⌝)) : sProp 𝕄) := by
  unfold k0_t1_body
  iintro ⟨H3, H4, H10, H11⟩
  sl_exec
  sl_step
  subst hacc hs'
  have hk : k.val < 7 := Nat.lt_of_lt_of_le k.isLt (k0_t1_abs i).2.1
  have a0 : k0_off1 i k 0#32 = ![256 * (4 * k.val + 0), 0] := off1_lit i k 0
  have a1 : k0_off1 i k 1#32 = ![256 * (4 * k.val + 1), 0] := off1_lit i k 1
  have a2 : k0_off1 i k 2#32 = ![256 * (4 * k.val + 2), 0] := off1_lit i k 2
  have a3 : k0_off1 i k 3#32 = ![256 * (4 * k.val + 3), 0] := off1_lit i k 3
  have b0 : k0_off2 i k 0#32 = ![4 * k.val + 0, 0, 0] := k0_off2_eq i k 0
  have b1 : k0_off2 i k 1#32 = ![4 * k.val + 1, 0, 0] := k0_off2_eq i k 1
  have b2 : k0_off2 i k 2#32 = ![4 * k.val + 2, 0, 0] := k0_off2_eq i k 2
  have b3 : k0_off2 i k 3#32 = ![4 * k.val + 3, 0, 0] := k0_off2_eq i k 3
  have h1 : 4 * k.val + 1 < 32 := by omega
  have h2 : 4 * k.val + 2 < 32 := by omega
  have h3 : 4 * k.val + 3 < 32 := by omega
  have n10 : 4 * k.val + 1 ≠ 4 * k.val + 0 := by omega
  have n20 : 4 * k.val + 2 ≠ 4 * k.val + 0 := by omega
  have n21 : 4 * k.val + 2 ≠ 4 * k.val + 1 := by omega
  have n30 : 4 * k.val + 3 ≠ 4 * k.val + 0 := by omega
  have n31 : 4 * k.val + 3 ≠ 4 * k.val + 1 := by omega
  have n32 : 4 * k.val + 3 ≠ 4 * k.val + 2 := by omega
  isplitl [H3]; · iexact H3
  isplitl [H4]; · iexact H4
  isplitl [H10]
  · iexists _; isplitl [H10]; · iexact H10
    ipureintro
    sl_open_run
    rw [st_slab _ _ _ _ b3, st_slab _ _ _ _ b2, st_slab _ _ _ _ b1, st_slab _ _ _ _ b0, View.writes_nil]
    simp only [ld_rows _ _ _ _ a0, ld_rows _ _ _ _ a1, ld_rows _ _ _ _ a2, ld_rows _ _ _ _ a3,
      ld_slab _ _ _ _ b0, ld_slab _ _ _ _ b1, ld_slab _ _ _ _ b2, ld_slab _ _ _ _ b3, h10]
    simp only [step]
    rw [slab_setSlab_ne _ _ h3 n32, slab_setSlab_ne _ _ h3 n31, slab_setSlab_ne _ _ h3 n30, slab_setSlab_ne _ _ h2 n21, slab_setSlab_ne _ _ h2 n20,
      slab_setSlab_ne _ _ h1 n10]
    rfl
  isplitl [H11]
  · iexists _; isplitl [H11]; · iexact H11
    ipureintro
    sl_open_run
    rw [st_slab _ _ _ _ b3, st_slab _ _ _ _ b2, st_slab _ _ _ _ b1, st_slab _ _ _ _ b0, View.writes_nil]
    simp only [ld_rows _ _ _ _ a0, ld_rows _ _ _ _ a1, ld_rows _ _ _ _ a2, ld_rows _ _ _ _ a3,
      ld_slab _ _ _ _ b0, ld_slab _ _ _ _ b1, ld_slab _ _ _ _ b2, ld_slab _ _ _ _ b3, h11]
    simp only [step]
    rw [slab_setSlab_ne _ _ h3 n32, slab_setSlab_ne _ _ h3 n31, slab_setSlab_ne _ _ h3 n30, slab_setSlab_ne _ _ h2 n21, slab_setSlab_ne _ _ h2 n20,
      slab_setSlab_ne _ _ h1 n10]
    rfl
  ipureintro
  sl_open_run
  simp only [ld_rows _ _ _ _ a0, ld_rows _ _ _ _ a1, ld_rows _ _ _ _ a2, ld_rows _ _ _ _ a3]
  rfl

/-- Four blocks at a time. -/
theorem free_four (p : Point F) (s : Carry F) (k : ℕ) :
    free p s (4 * (k + 1)) = step p (fun x => x) (4 * k + 3) (step p (fun x => x) (4 * k + 2) (step p (fun x => x) (4 * k + 1) (step p (fun x => x) (4 * k + 0) (free p s (4 * k))))) := rfl

/-- The loop over the blocks left of the diagonal: what it carries is what the blocks so far leave. -/
@[sl_loop] def loop1 (𝒱 : Variants) (c : Dev nD) (bd : Option 𝒱.V) (E : Set ℕ) (i : grid0.Coords)
    (arg2 : Memref sig .tc .vmem S1024x128 .bf16) (harg2 : arg2.IsWhole) (arg3 : Memref sig .tc .vmem S8192x128 .bf16) (harg3 : arg3.IsWhole)
    (arg4 : Memref sig .tc .vmem S8192x128 .bf16) (harg4 : arg4.IsWhole) (arg5 : Memref sig .tc .vmem S1024x128 .f32) (harg5 : arg5.IsWhole)
    (arg6 : Memref sig .tc .vmem S1024x128 .bf16) (harg6 : arg6.IsWhole) (arg7 : Memref sig .tc .vmem S1024x128 .bf16) (harg7 : arg7.IsWhole)
    (arg8 : Memref sig .tc .vmem S8192x128 .bf16) (harg8 : arg8.IsWhole) (arg9 : Memref sig .tc .vmem S8192x128 .bf16) (harg9 : arg9.IsWhole)
    (arg10 : Memref sig .tc .vmem S32x128x256 .f32) (harg10 : arg10.IsWhole) (arg11 : Memref sig .tc .vmem S32x128x256 .f32) (harg11 : arg11.IsWhole)
    (v0 v1 : Vec F S1024x128 .bf16) (v8 : Vec F S1024x1 .f32)
    (f3 : BufTy.Contents (Elt F) arg3.view.ty) (f4 : BufTy.Contents (Elt F) arg4.view.ty)
    (G10 : BufTy.Contents (Elt F) arg10.view.ty) (G11 : BufTy.Contents (Elt F) arg11.view.ty)
    (init : FVec F S1024x1 .f32 × FVec F S1024x1 .f32 × FVec F S1024x128 .f32) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 v0 v1 v8 init where
  inv k acc := iprop((arg3.view.loc (c : Thread nD τ) ↦[arg3.view.set]{fullShare} f3) ∗ (arg4.view.loc (c : Thread nD τ) ↦[arg4.view.set]{fullShare} f4)
      ∗ (∃ f, (arg10.view.loc (c : Thread nD τ) ↦[arg10.view.set]{fullShare} f) ∗ ⌜arg10.view.read (Elt F) f = (free ⟨v0, v1, v8, arg3.view.read (Elt F) f3, arg4.view.read (Elt F) f4⟩ ⟨init.1, init.2.1, init.2.2, arg10.view.read (Elt F) G10, arg11.view.read (Elt F) G11⟩ (4 * k)).dkt⌝)
      ∗ (∃ f, (arg11.view.loc (c : Thread nD τ) ↦[arg11.view.set]{fullShare} f) ∗ ⌜arg11.view.read (Elt F) f = (free ⟨v0, v1, v8, arg3.view.read (Elt F) f3, arg4.view.read (Elt F) f4⟩ ⟨init.1, init.2.1, init.2.2, arg10.view.read (Elt F) G10, arg11.view.read (Elt F) G11⟩ (4 * k)).dvt⌝)
      ∗ ⌜acc = ((free ⟨v0, v1, v8, arg3.view.read (Elt F) f3, arg4.view.read (Elt F) f4⟩ ⟨init.1, init.2.1, init.2.2, arg10.view.read (Elt F) G10, arg11.view.read (Elt F) G11⟩ (4 * k)).rest,
          (free ⟨v0, v1, v8, arg3.view.read (Elt F) f3, arg4.view.read (Elt F) f4⟩ ⟨init.1, init.2.1, init.2.2, arg10.view.read (Elt F) G10, arg11.view.read (Elt F) G11⟩ (4 * k)).wsum,
          (free ⟨v0, v1, v8, arg3.view.read (Elt F) f3, arg4.view.read (Elt F) f4⟩ ⟨init.1, init.2.1, init.2.2, arg10.view.read (Elt F) G10, arg11.view.read (Elt F) G11⟩ (4 * k)).dq)⌝)
  step k acc := by
    iintro ⟨H3, H4, ⟨%f10, H10, %h10⟩, ⟨%f11, H11, %h11⟩, %hacc⟩
    iapply (trip1 𝒱 c bd E i arg2 harg2 arg3 harg3 arg4 harg4 arg5 harg5 arg6 harg6 arg7 harg7 arg8 harg8 arg9 harg9 arg10 harg10 arg11 harg11 v0 v1 v8 f3 f4 k acc f10 f11 _ _ hacc h10 h11 (free_four _ _ k.val))
    isplitl [H3]; · iexact H3
    isplitl [H4]; · iexact H4
    isplitl [H10]; · iexact H10
    iexact H11

/-- The remainder loop runs no trip. -/
theorem trips2 (i : grid0.Coords) : (k0_t2_loop i).trips = 0 := Nat.le_zero.1 (k0_t2_abs i).2.1

/-- The remainder loop gives what it is given. -/
@[sl_loop] def loop2 (𝒱 : Variants) (c : Dev nD) (bd : Option 𝒱.V) (E : Set ℕ) (i : grid0.Coords)
    (arg2 : Memref sig .tc .vmem S1024x128 .bf16) (harg2 : arg2.IsWhole) (arg3 : Memref sig .tc .vmem S8192x128 .bf16) (harg3 : arg3.IsWhole)
    (arg4 : Memref sig .tc .vmem S8192x128 .bf16) (harg4 : arg4.IsWhole) (arg5 : Memref sig .tc .vmem S1024x128 .f32) (harg5 : arg5.IsWhole)
    (arg6 : Memref sig .tc .vmem S1024x128 .bf16) (harg6 : arg6.IsWhole) (arg7 : Memref sig .tc .vmem S1024x128 .bf16) (harg7 : arg7.IsWhole)
    (arg8 : Memref sig .tc .vmem S8192x128 .bf16) (harg8 : arg8.IsWhole) (arg9 : Memref sig .tc .vmem S8192x128 .bf16) (harg9 : arg9.IsWhole)
    (arg10 : Memref sig .tc .vmem S32x128x256 .f32) (harg10 : arg10.IsWhole) (arg11 : Memref sig .tc .vmem S32x128x256 .f32) (harg11 : arg11.IsWhole)
    (v0 v1 : Vec F S1024x128 .bf16) (v8 : Vec F S1024x1 .f32) (v34 : BitVec 32)
    (init : FVec F S1024x1 .f32 × FVec F S1024x1 .f32 × FVec F S1024x128 .f32) :
    LoopInvTy_k0_t2 (F := F) Unit ℕ (UR sig nD τ) ℕ 𝒱 c bd E i arg2 harg2 arg3 harg3 arg4 harg4 arg5 harg5 arg6 harg6 arg7 harg7 arg8 harg8 arg9 harg9 arg10 harg10 arg11 harg11 v0 v1 v8 v34 init where
  inv k acc := iprop(⌜acc = init⌝)
  step k acc := absurd k.isLt (Nat.not_lt.2 ((le_of_eq (trips2 i)).trans (Nat.zero_le _)))

/-- One trip of the flush: the rows of tile `k` of the gradients of the keys and values are stored from the accumulators' slabs. -/
theorem trip3 (𝒱 : Variants) (c : Dev nD) (bd : Option 𝒱.V) (E : Set ℕ) (i : grid0.Coords)
    (arg2 : Memref sig .tc .vmem S1024x128 .bf16) (harg2 : arg2.IsWhole) (arg3 : Memref sig .tc .vmem S8192x128 .bf16) (harg3 : arg3.IsWhole)
    (arg4 : Memref sig .tc .vmem S8192x128 .bf16) (harg4 : arg4.IsWhole) (arg5 : Memref sig .tc .vmem S1024x128 .f32) (harg5 : arg5.IsWhole)
    (arg6 : Memref sig .tc .vmem S1024x128 .bf16) (harg6 : arg6.IsWhole) (arg7 : Memref sig .tc .vmem S1024x128 .bf16) (harg7 : arg7.IsWhole)
    (arg8 : Memref sig .tc .vmem S8192x128 .bf16) (harg8 : arg8.IsWhole) (arg9 : Memref sig .tc .vmem S8192x128 .bf16) (harg9 : arg9.IsWhole)
    (arg10 : Memref sig .tc .vmem S32x128x256 .f32) (harg10 : arg10.IsWhole) (arg11 : Memref sig .tc .vmem S32x128x256 .f32) (harg11 : arg11.IsWhole)
    (k0_h2 : k0_cond2 i = 1#1) (f10 : BufTy.Contents (Elt F) arg10.view.ty) (f11 : BufTy.Contents (Elt F) arg11.view.ty)
    (k : Fin k0_t3_loop.trips) (u : PUnit)
    (f8 : BufTy.Contents (Elt F) arg8.view.ty) (f9 : BufTy.Contents (Elt F) arg9.view.ty)
    (h8 : ∀ y : S8192x128.Idx, (y 0).val < 256 * k.val → arg8.view.read (Elt F) f8 y = dkOut (arg10.view.read (Elt F) f10) y)
    (h9 : ∀ y : S8192x128.Idx, (y 0).val < 256 * k.val → arg9.view.read (Elt F) f9 y = dvOut (arg11.view.read (Elt F) f11) y) :
    iprop((arg10.view.loc (c : Thread nD τ) ↦[arg10.view.set]{fullShare} f10) ∗ (arg11.view.loc (c : Thread nD τ) ↦[arg11.view.set]{fullShare} f11)
      ∗ (arg8.view.loc (c : Thread nD τ) ↦[arg8.view.set]{fullShare} f8) ∗ (arg9.view.loc (c : Thread nD τ) ↦[arg9.view.set]{fullShare} f9))
    ⊢ (wp frame (wpE (defs₀ (F := F)) 𝒱 (c : Thread nD τ) bd) E
        (k0_t3_body (F := F) i arg2 harg2 arg3 harg3 arg4 harg4 arg5 harg5 arg6 harg6 arg7 harg7 arg8 harg8 arg9 harg9 arg10 harg10 arg11 harg11 k0_h2 k u)
        (fun _ => iprop((arg10.view.loc (c : Thread nD τ) ↦[arg10.view.set]{fullShare} f10) ∗ (arg11.view.loc (c : Thread nD τ) ↦[arg11.view.set]{fullShare} f11)
      ∗ (∃ f, (arg8.view.loc (c : Thread nD τ) ↦[arg8.view.set]{fullShare} f) ∗ ⌜∀ y : S8192x128.Idx, (y 0).val < 256 * (k.val + 1) → arg8.view.read (Elt F) f y = dkOut (arg10.view.read (Elt F) f10) y⌝)
      ∗ (∃ f, (arg9.view.loc (c : Thread nD τ) ↦[arg9.view.set]{fullShare} f) ∗ ⌜∀ y : S8192x128.Idx, (y 0).val < 256 * (k.val + 1) → arg9.view.read (Elt F) f y = dvOut (arg11.view.read (Elt F) f11) y⌝))) : sProp 𝕄) := by
  have hk : k.val < 32 := Nat.lt_of_lt_of_le k.isLt k0_t3_abs.2.1
  unfold k0_t3_body
  iintro ⟨H10, H11, H8, H9⟩
  sl_exec
  sl_step
  isplitl [H10]; · iexact H10
  isplitl [H11]; · iexact H11
  isplitl [H8]
  · iexists _; isplitl [H8]; · iexact H8
    ipureintro
    sl_open_run
    rw [ld_slab _ _ _ _ (k0_off7_eq k)]
    exact st_rows_apply arg8.view f8 k.val _ (k0_off8_eq k) (fun b => k0_pay3 (slab (arg10.view.read (Elt F) f10) b)) h8
  · iexists _; isplitl [H9]; · iexact H9
    ipureintro
    sl_open_run
    rw [ld_slab _ _ _ _ (k0_off7_eq k)]
    exact st_rows_apply arg9.view f9 k.val _ (k0_off8_eq k) (fun b => k0_pay4 (slab (arg11.view.read (Elt F) f11) b)) h9

/-- The flush: after it the gradients of the keys and values hold what the accumulators give. -/
@[sl_loop] def loop3 (𝒱 : Variants) (c : Dev nD) (bd : Option 𝒱.V) (E : Set ℕ) (i : grid0.Coords)
    (arg2 : Memref sig .tc .vmem S1024x128 .bf16) (harg2 : arg2.IsWhole) (arg3 : Memref sig .tc .vmem S8192x128 .bf16) (harg3 : arg3.IsWhole)
    (arg4 : Memref sig .tc .vmem S8192x128 .bf16) (harg4 : arg4.IsWhole) (arg5 : Memref sig .tc .vmem S1024x128 .f32) (harg5 : arg5.IsWhole)
    (arg6 : Memref sig .tc .vmem S1024x128 .bf16) (harg6 : arg6.IsWhole) (arg7 : Memref sig .tc .vmem S1024x128 .bf16) (harg7 : arg7.IsWhole)
    (arg8 : Memref sig .tc .vmem S8192x128 .bf16) (harg8 : arg8.IsWhole) (arg9 : Memref sig .tc .vmem S8192x128 .bf16) (harg9 : arg9.IsWhole)
    (arg10 : Memref sig .tc .vmem S32x128x256 .f32) (harg10 : arg10.IsWhole) (arg11 : Memref sig .tc .vmem S32x128x256 .f32) (harg11 : arg11.IsWhole)
    (k0_h2 : k0_cond2 i = 1#1) (f10 : BufTy.Contents (Elt F) arg10.view.ty) (f11 : BufTy.Contents (Elt F) arg11.view.ty) :
    LoopInvTy_k0_t3 (F := F) Unit ℕ (UR sig nD τ) ℕ 𝒱 c bd E i arg2 harg2 arg3 harg3 arg4 harg4 arg5 harg5 arg6 harg6 arg7 harg7 arg8 harg8 arg9 harg9 arg10 harg10 arg11 harg11 k0_h2 where
  inv k _ := iprop((arg10.view.loc (c : Thread nD τ) ↦[arg10.view.set]{fullShare} f10) ∗ (arg11.view.loc (c : Thread nD τ) ↦[arg11.view.set]{fullShare} f11)
      ∗ (∃ f, (arg8.view.loc (c : Thread nD τ) ↦[arg8.view.set]{fullShare} f) ∗ ⌜∀ y : S8192x128.Idx, (y 0).val < 256 * k → arg8.view.read (Elt F) f y = dkOut (arg10.view.read (Elt F) f10) y⌝)
      ∗ (∃ f, (arg9.view.loc (c : Thread nD τ) ↦[arg9.view.set]{fullShare} f) ∗ ⌜∀ y : S8192x128.Idx, (y 0).val < 256 * k → arg9.view.read (Elt F) f y = dvOut (arg11.view.read (Elt F) f11) y⌝))
  step k acc := by
    iintro ⟨H10, H11, ⟨%f8, H8, %h8⟩, ⟨%f9, H9, %h9⟩⟩
    iapply (trip3 𝒱 c bd E i arg2 harg2 arg3 harg3 arg4 harg4 arg5 harg5 arg6 harg6 arg7 harg7 arg8 harg8 arg9 harg9 arg10 harg10 arg11 harg11 k0_h2 f10 f11 k acc f8 f9 h8 h9)
    isplitl [H10]; · iexact H10
    isplitl [H11]; · iexact H11
    isplitl [H8]; · iexact H8
    iexact H9

/-- The column of the row totals the kernel reads: the first column of its tile. -/
def ltCol (x : S1024x128.Idx → Elt F .f32) : Vec F S1024x1 .f32 := fun y => x (fun a => ⟨(y a).val, Nat.lt_of_lt_of_le (y a).isLt (by revert a; decide)⟩)

/-- A load of the first column of a tile. -/
theorem ld_col (w : View sig .tc .vmem S1024x128 .f32) (f : w.ty.Contents (Elt F)) :
    w.readAt (Elt F) (Rect.unit (s := S1024x128) ![0, 0] S1024x1.size inb_S1024x128_S1024x1_0_0).toLoadRect f = ltCol (w.read (Elt F) f) := by
  rw [View.readAt_unit w f _ rfl inb_S1024x128_S1024x1_0_0]
  funext y
  refine congrArg (w.read (Elt F) f) (funext fun a => Fin.ext ?_)
  match a with
  | 0 => show 0 + 1 * (y 0).val = (y 0).val; omega
  | 1 => show 0 + 1 * (y 1).val = (y 1).val; omega

/-- A load of a whole tile. -/
theorem ld_whole (w : View sig .tc .vmem S1024x128 .bf16) (f : w.ty.Contents (Elt F)) :
    w.readAt (Elt F) (Rect.unit (s := S1024x128) ![0, 0] S1024x128.size inb_S1024x128_S1024x128_0_0).toLoadRect f = w.read (Elt F) f :=
  View.readAt_full w f _

/-- The trips of the loop left of the diagonal. -/
theorem trips1 (i : grid0.Coords) : Scf.trips (k0_t1_loop i).lb (k0_t1_loop i).ub (k0_t1_loop i).st = (i 1).val := by
  have h : ∀ n : Fin 8, Scf.trips (0#32) (Scalar.addi 0#32 (Scalar.muli (Scalar.divsi (Scalar.subi (Scalar.muli (BitVec.ofNat 32 n.val) 1#32) 0#32) 1#32) 1#32)) 1#32 = n.val := by decide +kernel
  exact h (i 1)
-- ==== Proof.Body.lean ====
module

public import proofs.«01_k».proof.Proof.Trip
public import Idealize.ShloMosaic.Lib.Tactic.Stretches

@[expose] public section

set_option maxRecDepth 16384
set_option maxHeartbeats 4000000

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

/-- The first point of a head: the accumulators start at zero. -/
theorem body_first (𝒱 : Variants) (c : Dev nD) (bd : Option 𝒱.V) (E : Set ℕ) (i : grid0.Coords)
    (arg2 : Memref sig .tc .vmem S1024x128 .bf16) (harg2 : arg2.IsWhole) (arg3 : Memref sig .tc .vmem S8192x128 .bf16) (harg3 : arg3.IsWhole)
    (arg4 : Memref sig .tc .vmem S8192x128 .bf16) (harg4 : arg4.IsWhole) (arg5 : Memref sig .tc .vmem S1024x128 .f32) (harg5 : arg5.IsWhole)
    (arg6 : Memref sig .tc .vmem S1024x128 .bf16) (harg6 : arg6.IsWhole) (arg7 : Memref sig .tc .vmem S1024x128 .bf16) (harg7 : arg7.IsWhole)
    (arg8 : Memref sig .tc .vmem S8192x128 .bf16) (harg8 : arg8.IsWhole) (arg9 : Memref sig .tc .vmem S8192x128 .bf16) (harg9 : arg9.IsWhole)
    (arg10 : Memref sig .tc .vmem S32x128x256 .f32) (harg10 : arg10.IsWhole) (arg11 : Memref sig .tc .vmem S32x128x256 .f32) (harg11 : arg11.IsWhole)
    (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty)
    (f7 : BufTy.Contents (Elt F) arg7.view.ty)
    (f8 : BufTy.Contents (Elt F) arg8.view.ty) (f9 : BufTy.Contents (Elt F) arg9.view.ty)
    (f10 : BufTy.Contents (Elt F) arg10.view.ty) (f11 : BufTy.Contents (Elt F) arg11.view.ty)
    (k0_h1 : Scalar.cmpi .ne (Scalar.extui (Scalar.cmpi .eq (BitVec.ofNat 32 (i 1).val) 0#32) : BitVec 32) 0#32 = 1#1)
    (k0_h2 : ¬ k0_cond2 i = 1#1) (s : Carry F)
    (hs : s = runPoint ⟨arg2.view.read (Elt F) f2, arg6.view.read (Elt F) f6, ltCol (arg5.view.read (Elt F) f5), arg3.view.read (Elt F) f3, arg4.view.read (Elt F) f4⟩ (i 1).val
      k0_pay104 k0_pay105) :
    iprop((arg2.view.loc (c : Thread nD τ) ↦[arg2.view.set]{fullShare} f2) ∗ (arg3.view.loc (c : Thread nD τ) ↦[arg3.view.set]{fullShare} f3)
      ∗ (arg4.view.loc (c : Thread nD τ) ↦[arg4.view.set]{fullShare} f4) ∗ (arg5.view.loc (c : Thread nD τ) ↦[arg5.view.set]{fullShare} f5)
      ∗ (arg6.view.loc (c : Thread nD τ) ↦[arg6.view.set]{fullShare} f6) ∗ (arg7.view.loc (c : Thread nD τ) ↦[arg7.view.set]{fullShare} f7)
      ∗ (arg8.view.loc (c : Thread nD τ) ↦[arg8.view.set]{fullShare} f8) ∗ (arg9.view.loc (c : Thread nD τ) ↦[arg9.view.set]{fullShare} f9)
      ∗ (arg10.view.loc (c : Thread nD τ) ↦[arg10.view.set]{fullShare} f10) ∗ (arg11.view.loc (c : Thread nD τ) ↦[arg11.view.set]{fullShare} f11))
    ⊢ (wp frame (wpE (defs₀ (F := F)) 𝒱 (c : Thread nD τ) bd) E
        (cc0_sb_attn_bwd2 (F := F) i arg2 harg2 arg3 harg3 arg4 harg4 arg5 harg5 arg6 harg6 arg7 harg7 arg8 harg8 arg9 harg9 arg10 harg10 arg11 harg11)
        (fun _ => iprop((arg2.view.loc (c : Thread nD τ) ↦[arg2.view.set]{fullShare} f2) ∗ (arg3.view.loc (c : Thread nD τ) ↦[arg3.view.set]{fullShare} f3)
      ∗ (arg4.view.loc (c : Thread nD τ) ↦[arg4.view.set]{fullShare} f4) ∗ (arg5.view.loc (c : Thread nD τ) ↦[arg5.view.set]{fullShare} f5)
      ∗ (arg6.view.loc (c : Thread nD τ) ↦[arg6.view.set]{fullShare} f6)
      ∗ (∃ f, (arg7.view.loc (c : Thread nD τ) ↦[arg7.view.set]{fullShare} f) ∗ ⌜arg7.view.read (Elt F) f = dqOut s⌝)
      ∗ (arg8.view.loc (c : Thread nD τ) ↦[arg8.view.set]{fullShare} f8)
      ∗ (arg9.view.loc (c : Thread nD τ) ↦[arg9.view.set]{fullShare} f9)
      ∗ (∃ f, (arg10.view.loc (c : Thread nD τ) ↦[arg10.view.set]{fullShare} f) ∗ ⌜arg10.view.read (Elt F) f = s.dkt⌝)
      ∗ (∃ f, (arg11.view.loc (c : Thread nD τ) ↦[arg11.view.set]{fullShare} f) ∗ ⌜arg11.view.read (Elt F) f = s.dvt⌝))) : sProp 𝕄) := by
  rw [cc0_sb_attn_bwd2_eq_skeleton]
  unfold cc0_sb_attn_bwd2_skel
  iintro ⟨H2, H3, H4, H5, H6, H7, H8, H9, H10, H11⟩
  sl_exec
  sl_step
  subst hs
  have z10 : arg10.view.read (Elt F) (arg10.view.writes (Elt F) arg10.view.junk body_first.sl.H10_1) = k0_pay104 := View.read_writes_full _ _ _ _ _
  have z11 : arg11.view.read (Elt F) (arg11.view.writes (Elt F) arg11.view.junk body_first.sl.H11_1) = k0_pay105 := View.read_writes_full _ _ _ _ _
  have a0 : k0_off5 i 0#32 = ![256 * (4 * (i 1).val + 0), 0] := off5_lit i 0
  have a1 : k0_off5 i 1#32 = ![256 * (4 * (i 1).val + 1), 0] := off5_lit i 1
  have a2 : k0_off5 i 2#32 = ![256 * (4 * (i 1).val + 2), 0] := off5_lit i 2
  have a3 : k0_off5 i 3#32 = ![256 * (4 * (i 1).val + 3), 0] := off5_lit i 3
  have b0 : k0_off6 i 0#32 = ![4 * (i 1).val + 0, 0, 0] := k0_off6_eq i 0
  have b1 : k0_off6 i 1#32 = ![4 * (i 1).val + 1, 0, 0] := k0_off6_eq i 1
  have b2 : k0_off6 i 2#32 = ![4 * (i 1).val + 2, 0, 0] := k0_off6_eq i 2
  have b3 : k0_off6 i 3#32 = ![4 * (i 1).val + 3, 0, 0] := k0_off6_eq i 3
  have h1 : 4 * (i 1).val + 1 < 32 := by have : (i 1).val < 8 := (i 1).isLt; omega
  have h2 : 4 * (i 1).val + 2 < 32 := by omega
  have h3 : 4 * (i 1).val + 3 < 32 := by omega
  have n10 : 4 * (i 1).val + 1 ≠ 4 * (i 1).val + 0 := by omega
  have n20 : 4 * (i 1).val + 2 ≠ 4 * (i 1).val + 0 := by omega
  have n21 : 4 * (i 1).val + 2 ≠ 4 * (i 1).val + 1 := by omega
  have n30 : 4 * (i 1).val + 3 ≠ 4 * (i 1).val + 0 := by omega
  have n31 : 4 * (i 1).val + 3 ≠ 4 * (i 1).val + 1 := by omega
  have n32 : 4 * (i 1).val + 3 ≠ 4 * (i 1).val + 2 := by omega
  have tr : Scf.trips (0#32) (Scalar.addi 0#32 (Scalar.muli (Scalar.divsi (Scalar.subi (Scalar.muli (BitVec.ofNat 32 (i 1).val) 1#32) 0#32) 1#32) 1#32)) 1#32 = (i 1).val := trips1 i
  isplitl [H2]; · iexact H2
  isplitl [H3]; · iexact H3
  isplitl [H4]; · iexact H4
  isplitl [H5]; · iexact H5
  isplitl [H6]; · iexact H6
  isplitl [H7]
  · iexists _; isplitl [H7]; · iexact H7
    ipureintro
    sl_open_run
    rw [View.read_writes_full]
    simp only [ld_rows _ _ _ _ a0, ld_rows _ _ _ _ a1, ld_rows _ _ _ _ a2, ld_rows _ _ _ _ a3, ↓ld_whole, ↓ld_col, ↓View.read_writes_full, z10, z11, tr, trips1]
    rfl
  isplitl [H8]; · iexact H8
  isplitl [H9]; · iexact H9
  isplitl [H10]
  · iexists _; isplitl [H10]; · iexact H10
    ipureintro
    sl_open_run
    rw [st_slab _ _ _ _ b3, st_slab _ _ _ _ b2, st_slab _ _ _ _ b1, st_slab _ _ _ _ b0, View.writes_nil]
    simp only [ld_rows _ _ _ _ a0, ld_rows _ _ _ _ a1, ld_rows _ _ _ _ a2, ld_rows _ _ _ _ a3,
      ld_slab _ _ _ _ b0, ld_slab _ _ _ _ b1, ld_slab _ _ _ _ b2, ld_slab _ _ _ _ b3, ↓ld_whole, ↓ld_col, hL3, ↓View.read_writes_full, z10, z11]
    simp only [tr, trips1, runPoint, diag, step]
    rw [slab_setSlab_ne _ _ h3 n32, slab_setSlab_ne _ _ h3 n31, slab_setSlab_ne _ _ h3 n30, slab_setSlab_ne _ _ h2 n21, slab_setSlab_ne _ _ h2 n20,
      slab_setSlab_ne _ _ h1 n10]
    rfl
  · iexists _; isplitl [H11]; · iexact H11
    ipureintro
    sl_open_run
    rw [st_slab _ _ _ _ b3, st_slab _ _ _ _ b2, st_slab _ _ _ _ b1, st_slab _ _ _ _ b0, View.writes_nil]
    simp only [ld_rows _ _ _ _ a0, ld_rows _ _ _ _ a1, ld_rows _ _ _ _ a2, ld_rows _ _ _ _ a3,
      ld_slab _ _ _ _ b0, ld_slab _ _ _ _ b1, ld_slab _ _ _ _ b2, ld_slab _ _ _ _ b3, ↓ld_whole, ↓ld_col, hL5, ↓View.read_writes_full, z10, z11]
    simp only [tr, trips1, runPoint, diag, step]
    rw [slab_setSlab_ne _ _ h3 n32, slab_setSlab_ne _ _ h3 n31, slab_setSlab_ne _ _ h3 n30, slab_setSlab_ne _ _ h2 n21, slab_setSlab_ne _ _ h2 n20,
      slab_setSlab_ne _ _ h1 n10]
    rfl

/-- A point between: the accumulators go on, and the gradients of the keys and values stay. -/
theorem body_mid (𝒱 : Variants) (c : Dev nD) (bd : Option 𝒱.V) (E : Set ℕ) (i : grid0.Coords)
    (arg2 : Memref sig .tc .vmem S1024x128 .bf16) (harg2 : arg2.IsWhole) (arg3 : Memref sig .tc .vmem S8192x128 .bf16) (harg3 : arg3.IsWhole)
    (arg4 : Memref sig .tc .vmem S8192x128 .bf16) (harg4 : arg4.IsWhole) (arg5 : Memref sig .tc .vmem S1024x128 .f32) (harg5 : arg5.IsWhole)
    (arg6 : Memref sig .tc .vmem S1024x128 .bf16) (harg6 : arg6.IsWhole) (arg7 : Memref sig .tc .vmem S1024x128 .bf16) (harg7 : arg7.IsWhole)
    (arg8 : Memref sig .tc .vmem S8192x128 .bf16) (harg8 : arg8.IsWhole) (arg9 : Memref sig .tc .vmem S8192x128 .bf16) (harg9 : arg9.IsWhole)
    (arg10 : Memref sig .tc .vmem S32x128x256 .f32) (harg10 : arg10.IsWhole) (arg11 : Memref sig .tc .vmem S32x128x256 .f32) (harg11 : arg11.IsWhole)
    (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty)
    (f7 : BufTy.Contents (Elt F) arg7.view.ty)
    (f8 : BufTy.Contents (Elt F) arg8.view.ty) (f9 : BufTy.Contents (Elt F) arg9.view.ty)
    (f10 : BufTy.Contents (Elt F) arg10.view.ty) (f11 : BufTy.Contents (Elt F) arg11.view.ty)
    (k0_h1 : ¬ Scalar.cmpi .ne (Scalar.extui (Scalar.cmpi .eq (BitVec.ofNat 32 (i 1).val) 0#32) : BitVec 32) 0#32 = 1#1)
    (k0_h2 : ¬ k0_cond2 i = 1#1) (s : Carry F)
    (hs : s = runPoint ⟨arg2.view.read (Elt F) f2, arg6.view.read (Elt F) f6, ltCol (arg5.view.read (Elt F) f5), arg3.view.read (Elt F) f3, arg4.view.read (Elt F) f4⟩ (i 1).val
      (arg10.view.read (Elt F) f10) (arg11.view.read (Elt F) f11)) :
    iprop((arg2.view.loc (c : Thread nD τ) ↦[arg2.view.set]{fullShare} f2) ∗ (arg3.view.loc (c : Thread nD τ) ↦[arg3.view.set]{fullShare} f3)
      ∗ (arg4.view.loc (c : Thread nD τ) ↦[arg4.view.set]{fullShare} f4) ∗ (arg5.view.loc (c : Thread nD τ) ↦[arg5.view.set]{fullShare} f5)
      ∗ (arg6.view.loc (c : Thread nD τ) ↦[arg6.view.set]{fullShare} f6) ∗ (arg7.view.loc (c : Thread nD τ) ↦[arg7.view.set]{fullShare} f7)
      ∗ (arg8.view.loc (c : Thread nD τ) ↦[arg8.view.set]{fullShare} f8) ∗ (arg9.view.loc (c : Thread nD τ) ↦[arg9.view.set]{fullShare} f9)
      ∗ (arg10.view.loc (c : Thread nD τ) ↦[arg10.view.set]{fullShare} f10) ∗ (arg11.view.loc (c : Thread nD τ) ↦[arg11.view.set]{fullShare} f11))
    ⊢ (wp frame (wpE (defs₀ (F := F)) 𝒱 (c : Thread nD τ) bd) E
        (cc0_sb_attn_bwd2 (F := F) i arg2 harg2 arg3 harg3 arg4 harg4 arg5 harg5 arg6 harg6 arg7 harg7 arg8 harg8 arg9 harg9 arg10 harg10 arg11 harg11)
        (fun _ => iprop((arg2.view.loc (c : Thread nD τ) ↦[arg2.view.set]{fullShare} f2) ∗ (arg3.view.loc (c : Thread nD τ) ↦[arg3.view.set]{fullShare} f3)
      ∗ (arg4.view.loc (c : Thread nD τ) ↦[arg4.view.set]{fullShare} f4) ∗ (arg5.view.loc (c : Thread nD τ) ↦[arg5.view.set]{fullShare} f5)
      ∗ (arg6.view.loc (c : Thread nD τ) ↦[arg6.view.set]{fullShare} f6)
      ∗ (∃ f, (arg7.view.loc (c : Thread nD τ) ↦[arg7.view.set]{fullShare} f) ∗ ⌜arg7.view.read (Elt F) f = dqOut s⌝)
      ∗ (arg8.view.loc (c : Thread nD τ) ↦[arg8.view.set]{fullShare} f8)
      ∗ (arg9.view.loc (c : Thread nD τ) ↦[arg9.view.set]{fullShare} f9)
      ∗ (∃ f, (arg10.view.loc (c : Thread nD τ) ↦[arg10.view.set]{fullShare} f) ∗ ⌜arg10.view.read (Elt F) f = s.dkt⌝)
      ∗ (∃ f, (arg11.view.loc (c : Thread nD τ) ↦[arg11.view.set]{fullShare} f) ∗ ⌜arg11.view.read (Elt F) f = s.dvt⌝))) : sProp 𝕄) := by
  rw [cc0_sb_attn_bwd2_eq_skeleton]
  unfold cc0_sb_attn_bwd2_skel
  iintro ⟨H2, H3, H4, H5, H6, H7, H8, H9, H10, H11⟩
  sl_exec
  sl_step
  subst hs
  have a0 : k0_off5 i 0#32 = ![256 * (4 * (i 1).val + 0), 0] := off5_lit i 0
  have a1 : k0_off5 i 1#32 = ![256 * (4 * (i 1).val + 1), 0] := off5_lit i 1
  have a2 : k0_off5 i 2#32 = ![256 * (4 * (i 1).val + 2), 0] := off5_lit i 2
  have a3 : k0_off5 i 3#32 = ![256 * (4 * (i 1).val + 3), 0] := off5_lit i 3
  have b0 : k0_off6 i 0#32 = ![4 * (i 1).val + 0, 0, 0] := k0_off6_eq i 0
  have b1 : k0_off6 i 1#32 = ![4 * (i 1).val + 1, 0, 0] := k0_off6_eq i 1
  have b2 : k0_off6 i 2#32 = ![4 * (i 1).val + 2, 0, 0] := k0_off6_eq i 2
  have b3 : k0_off6 i 3#32 = ![4 * (i 1).val + 3, 0, 0] := k0_off6_eq i 3
  have h1 : 4 * (i 1).val + 1 < 32 := by have : (i 1).val < 8 := (i 1).isLt; omega
  have h2 : 4 * (i 1).val + 2 < 32 := by omega
  have h3 : 4 * (i 1).val + 3 < 32 := by omega
  have n10 : 4 * (i 1).val + 1 ≠ 4 * (i 1).val + 0 := by omega
  have n20 : 4 * (i 1).val + 2 ≠ 4 * (i 1).val + 0 := by omega
  have n21 : 4 * (i 1).val + 2 ≠ 4 * (i 1).val + 1 := by omega
  have n30 : 4 * (i 1).val + 3 ≠ 4 * (i 1).val + 0 := by omega
  have n31 : 4 * (i 1).val + 3 ≠ 4 * (i 1).val + 1 := by omega
  have n32 : 4 * (i 1).val + 3 ≠ 4 * (i 1).val + 2 := by omega
  have tr : Scf.trips (0#32) (Scalar.addi 0#32 (Scalar.muli (Scalar.divsi (Scalar.subi (Scalar.muli (BitVec.ofNat 32 (i 1).val) 1#32) 0#32) 1#32) 1#32)) 1#32 = (i 1).val := trips1 i
  isplitl [H2]; · iexact H2
  isplitl [H3]; · iexact H3
  isplitl [H4]; · iexact H4
  isplitl [H5]; · iexact H5
  isplitl [H6]; · iexact H6
  isplitl [H7]
  · iexists _; isplitl [H7]; · iexact H7
    ipureintro
    sl_open_run
    rw [View.read_writes_full]
    simp only [ld_rows _ _ _ _ a0, ld_rows _ _ _ _ a1, ld_rows _ _ _ _ a2, ld_rows _ _ _ _ a3, ↓ld_whole, ↓ld_col, tr, trips1]
    rfl
  isplitl [H8]; · iexact H8
  isplitl [H9]; · iexact H9
  isplitl [H10]
  · iexists _; isplitl [H10]; · iexact H10
    ipureintro
    sl_open_run
    rw [st_slab _ _ _ _ b3, st_slab _ _ _ _ b2, st_slab _ _ _ _ b1, st_slab _ _ _ _ b0, View.writes_nil]
    simp only [ld_rows _ _ _ _ a0, ld_rows _ _ _ _ a1, ld_rows _ _ _ _ a2, ld_rows _ _ _ _ a3,
      ld_slab _ _ _ _ b0, ld_slab _ _ _ _ b1, ld_slab _ _ _ _ b2, ld_slab _ _ _ _ b3, ↓ld_whole, ↓ld_col, hL3]
    simp only [tr, trips1, runPoint, diag, step]
    rw [slab_setSlab_ne _ _ h3 n32, slab_setSlab_ne _ _ h3 n31, slab_setSlab_ne _ _ h3 n30, slab_setSlab_ne _ _ h2 n21, slab_setSlab_ne _ _ h2 n20,
      slab_setSlab_ne _ _ h1 n10]
    rfl
  · iexists _; isplitl [H11]; · iexact H11
    ipureintro
    sl_open_run
    rw [st_slab _ _ _ _ b3, st_slab _ _ _ _ b2, st_slab _ _ _ _ b1, st_slab _ _ _ _ b0, View.writes_nil]
    simp only [ld_rows _ _ _ _ a0, ld_rows _ _ _ _ a1, ld_rows _ _ _ _ a2, ld_rows _ _ _ _ a3,
      ld_slab _ _ _ _ b0, ld_slab _ _ _ _ b1, ld_slab _ _ _ _ b2, ld_slab _ _ _ _ b3, ↓ld_whole, ↓ld_col, hL5]
    simp only [tr, trips1, runPoint, diag, step]
    rw [slab_setSlab_ne _ _ h3 n32, slab_setSlab_ne _ _ h3 n31, slab_setSlab_ne _ _ h3 n30, slab_setSlab_ne _ _ h2 n21, slab_setSlab_ne _ _ h2 n20,
      slab_setSlab_ne _ _ h1 n10]
    rfl

/-- The last point of a head: the gradients of the keys and values are written out. -/
theorem body_last (𝒱 : Variants) (c : Dev nD) (bd : Option 𝒱.V) (E : Set ℕ) (i : grid0.Coords)
    (arg2 : Memref sig .tc .vmem S1024x128 .bf16) (harg2 : arg2.IsWhole) (arg3 : Memref sig .tc .vmem S8192x128 .bf16) (harg3 : arg3.IsWhole)
    (arg4 : Memref sig .tc .vmem S8192x128 .bf16) (harg4 : arg4.IsWhole) (arg5 : Memref sig .tc .vmem S1024x128 .f32) (harg5 : arg5.IsWhole)
    (arg6 : Memref sig .tc .vmem S1024x128 .bf16) (harg6 : arg6.IsWhole) (arg7 : Memref sig .tc .vmem S1024x128 .bf16) (harg7 : arg7.IsWhole)
    (arg8 : Memref sig .tc .vmem S8192x128 .bf16) (harg8 : arg8.IsWhole) (arg9 : Memref sig .tc .vmem S8192x128 .bf16) (harg9 : arg9.IsWhole)
    (arg10 : Memref sig .tc .vmem S32x128x256 .f32) (harg10 : arg10.IsWhole) (arg11 : Memref sig .tc .vmem S32x128x256 .f32) (harg11 : arg11.IsWhole)
    (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty)
    (f7 : BufTy.Contents (Elt F) arg7.view.ty)
    (f8 : BufTy.Contents (Elt F) arg8.view.ty) (f9 : BufTy.Contents (Elt F) arg9.view.ty)
    (f10 : BufTy.Contents (Elt F) arg10.view.ty) (f11 : BufTy.Contents (Elt F) arg11.view.ty)
    (k0_h1 : ¬ Scalar.cmpi .ne (Scalar.extui (Scalar.cmpi .eq (BitVec.ofNat 32 (i 1).val) 0#32) : BitVec 32) 0#32 = 1#1)
    (k0_h2 : k0_cond2 i = 1#1) (s : Carry F)
    (hs : s = runPoint ⟨arg2.view.read (Elt F) f2, arg6.view.read (Elt F) f6, ltCol (arg5.view.read (Elt F) f5), arg3.view.read (Elt F) f3, arg4.view.read (Elt F) f4⟩ (i 1).val
      (arg10.view.read (Elt F) f10) (arg11.view.read (Elt F) f11)) :
    iprop((arg2.view.loc (c : Thread nD τ) ↦[arg2.view.set]{fullShare} f2) ∗ (arg3.view.loc (c : Thread nD τ) ↦[arg3.view.set]{fullShare} f3)
      ∗ (arg4.view.loc (c : Thread nD τ) ↦[arg4.view.set]{fullShare} f4) ∗ (arg5.view.loc (c : Thread nD τ) ↦[arg5.view.set]{fullShare} f5)
      ∗ (arg6.view.loc (c : Thread nD τ) ↦[arg6.view.set]{fullShare} f6) ∗ (arg7.view.loc (c : Thread nD τ) ↦[arg7.view.set]{fullShare} f7)
      ∗ (arg8.view.loc (c : Thread nD τ) ↦[arg8.view.set]{fullShare} f8) ∗ (arg9.view.loc (c : Thread nD τ) ↦[arg9.view.set]{fullShare} f9)
      ∗ (arg10.view.loc (c : Thread nD τ) ↦[arg10.view.set]{fullShare} f10) ∗ (arg11.view.loc (c : Thread nD τ) ↦[arg11.view.set]{fullShare} f11))
    ⊢ (wp frame (wpE (defs₀ (F := F)) 𝒱 (c : Thread nD τ) bd) E
        (cc0_sb_attn_bwd2 (F := F) i arg2 harg2 arg3 harg3 arg4 harg4 arg5 harg5 arg6 harg6 arg7 harg7 arg8 harg8 arg9 harg9 arg10 harg10 arg11 harg11)
        (fun _ => iprop((arg2.view.loc (c : Thread nD τ) ↦[arg2.view.set]{fullShare} f2) ∗ (arg3.view.loc (c : Thread nD τ) ↦[arg3.view.set]{fullShare} f3)
      ∗ (arg4.view.loc (c : Thread nD τ) ↦[arg4.view.set]{fullShare} f4) ∗ (arg5.view.loc (c : Thread nD τ) ↦[arg5.view.set]{fullShare} f5)
      ∗ (arg6.view.loc (c : Thread nD τ) ↦[arg6.view.set]{fullShare} f6)
      ∗ (∃ f, (arg7.view.loc (c : Thread nD τ) ↦[arg7.view.set]{fullShare} f) ∗ ⌜arg7.view.read (Elt F) f = dqOut s⌝)
      ∗ (∃ f, (arg8.view.loc (c : Thread nD τ) ↦[arg8.view.set]{fullShare} f) ∗ ⌜arg8.view.read (Elt F) f = dkOut s.dkt⌝)
      ∗ (∃ f, (arg9.view.loc (c : Thread nD τ) ↦[arg9.view.set]{fullShare} f) ∗ ⌜arg9.view.read (Elt F) f = dvOut s.dvt⌝)
      ∗ (∃ f, (arg10.view.loc (c : Thread nD τ) ↦[arg10.view.set]{fullShare} f) ∗ ⌜arg10.view.read (Elt F) f = s.dkt⌝)
      ∗ (∃ f, (arg11.view.loc (c : Thread nD τ) ↦[arg11.view.set]{fullShare} f) ∗ ⌜arg11.view.read (Elt F) f = s.dvt⌝))) : sProp 𝕄) := by
  rw [cc0_sb_attn_bwd2_eq_skeleton]
  unfold cc0_sb_attn_bwd2_skel
  iintro ⟨H2, H3, H4, H5, H6, H7, H8, H9, H10, H11⟩
  sl_exec
  sl_step
  subst hs
  have a0 : k0_off5 i 0#32 = ![256 * (4 * (i 1).val + 0), 0] := off5_lit i 0
  have a1 : k0_off5 i 1#32 = ![256 * (4 * (i 1).val + 1), 0] := off5_lit i 1
  have a2 : k0_off5 i 2#32 = ![256 * (4 * (i 1).val + 2), 0] := off5_lit i 2
  have a3 : k0_off5 i 3#32 = ![256 * (4 * (i 1).val + 3), 0] := off5_lit i 3
  have b0 : k0_off6 i 0#32 = ![4 * (i 1).val + 0, 0, 0] := k0_off6_eq i 0
  have b1 : k0_off6 i 1#32 = ![4 * (i 1).val + 1, 0, 0] := k0_off6_eq i 1
  have b2 : k0_off6 i 2#32 = ![4 * (i 1).val + 2, 0, 0] := k0_off6_eq i 2
  have b3 : k0_off6 i 3#32 = ![4 * (i 1).val + 3, 0, 0] := k0_off6_eq i 3
  have h1 : 4 * (i 1).val + 1 < 32 := by have : (i 1).val < 8 := (i 1).isLt; omega
  have h2 : 4 * (i 1).val + 2 < 32 := by omega
  have h3 : 4 * (i 1).val + 3 < 32 := by omega
  have n10 : 4 * (i 1).val + 1 ≠ 4 * (i 1).val + 0 := by omega
  have n20 : 4 * (i 1).val + 2 ≠ 4 * (i 1).val + 0 := by omega
  have n21 : 4 * (i 1).val + 2 ≠ 4 * (i 1).val + 1 := by omega
  have n30 : 4 * (i 1).val + 3 ≠ 4 * (i 1).val + 0 := by omega
  have n31 : 4 * (i 1).val + 3 ≠ 4 * (i 1).val + 1 := by omega
  have n32 : 4 * (i 1).val + 3 ≠ 4 * (i 1).val + 2 := by omega
  have tr : Scf.trips (0#32) (Scalar.addi 0#32 (Scalar.muli (Scalar.divsi (Scalar.subi (Scalar.muli (BitVec.ofNat 32 (i 1).val) 1#32) 0#32) 1#32) 1#32)) 1#32 = (i 1).val := trips1 i
  isplitl [H2]; · iexact H2
  isplitl [H3]; · iexact H3
  isplitl [H4]; · iexact H4
  isplitl [H5]; · iexact H5
  isplitl [H6]; · iexact H6
  isplitl [H7]
  · iexists _; isplitl [H7]; · iexact H7
    ipureintro
    sl_open_run
    rw [View.read_writes_full]
    simp only [ld_rows _ _ _ _ a0, ld_rows _ _ _ _ a1, ld_rows _ _ _ _ a2, ld_rows _ _ _ _ a3, ↓ld_whole, ↓ld_col, tr, trips1]
    rfl
  isplitl [H8]
  · iexists _; isplitl [H8]; · iexact H8
    ipureintro
    refine (funext fun y => hL11 y (y 0).isLt).trans (congrArg dkOut ?_)
    sl_open_run
    rw [st_slab _ _ _ _ b3, st_slab _ _ _ _ b2, st_slab _ _ _ _ b1, st_slab _ _ _ _ b0, View.writes_nil]
    simp only [ld_rows _ _ _ _ a0, ld_rows _ _ _ _ a1, ld_rows _ _ _ _ a2, ld_rows _ _ _ _ a3,
      ld_slab _ _ _ _ b0, ld_slab _ _ _ _ b1, ld_slab _ _ _ _ b2, ld_slab _ _ _ _ b3, ↓ld_whole, ↓ld_col, hL3]
    simp only [tr, trips1, runPoint, diag, step]
    rw [slab_setSlab_ne _ _ h3 n32, slab_setSlab_ne _ _ h3 n31, slab_setSlab_ne _ _ h3 n30, slab_setSlab_ne _ _ h2 n21, slab_setSlab_ne _ _ h2 n20,
      slab_setSlab_ne _ _ h1 n10]
    rfl
  isplitl [H9]
  · iexists _; isplitl [H9]; · iexact H9
    ipureintro
    refine (funext fun y => hL13 y (y 0).isLt).trans (congrArg dvOut ?_)
    sl_open_run
    rw [st_slab _ _ _ _ b3, st_slab _ _ _ _ b2, st_slab _ _ _ _ b1, st_slab _ _ _ _ b0, View.writes_nil]
    simp only [ld_rows _ _ _ _ a0, ld_rows _ _ _ _ a1, ld_rows _ _ _ _ a2, ld_rows _ _ _ _ a3,
      ld_slab _ _ _ _ b0, ld_slab _ _ _ _ b1, ld_slab _ _ _ _ b2, ld_slab _ _ _ _ b3, ↓ld_whole, ↓ld_col, hL5]
    simp only [tr, trips1, runPoint, diag, step]
    rw [slab_setSlab_ne _ _ h3 n32, slab_setSlab_ne _ _ h3 n31, slab_setSlab_ne _ _ h3 n30, slab_setSlab_ne _ _ h2 n21, slab_setSlab_ne _ _ h2 n20,
      slab_setSlab_ne _ _ h1 n10]
    rfl
  isplitl [H10]
  · iexists _; isplitl [H10]; · iexact H10
    ipureintro
    sl_open_run
    rw [st_slab _ _ _ _ b3, st_slab _ _ _ _ b2, st_slab _ _ _ _ b1, st_slab _ _ _ _ b0, View.writes_nil]
    simp only [ld_rows _ _ _ _ a0, ld_rows _ _ _ _ a1, ld_rows _ _ _ _ a2, ld_rows _ _ _ _ a3,
      ld_slab _ _ _ _ b0, ld_slab _ _ _ _ b1, ld_slab _ _ _ _ b2, ld_slab _ _ _ _ b3, ↓ld_whole, ↓ld_col, hL3]
    simp only [tr, trips1, runPoint, diag, step]
    rw [slab_setSlab_ne _ _ h3 n32, slab_setSlab_ne _ _ h3 n31, slab_setSlab_ne _ _ h3 n30, slab_setSlab_ne _ _ h2 n21, slab_setSlab_ne _ _ h2 n20,
      slab_setSlab_ne _ _ h1 n10]
    rfl
  · iexists _; isplitl [H11]; · iexact H11
    ipureintro
    sl_open_run
    rw [st_slab _ _ _ _ b3, st_slab _ _ _ _ b2, st_slab _ _ _ _ b1, st_slab _ _ _ _ b0, View.writes_nil]
    simp only [ld_rows _ _ _ _ a0, ld_rows _ _ _ _ a1, ld_rows _ _ _ _ a2, ld_rows _ _ _ _ a3,
      ld_slab _ _ _ _ b0, ld_slab _ _ _ _ b1, ld_slab _ _ _ _ b2, ld_slab _ _ _ _ b3, ↓ld_whole, ↓ld_col, hL5]
    simp only [tr, trips1, runPoint, diag, step]
    rw [slab_setSlab_ne _ _ h3 n32, slab_setSlab_ne _ _ h3 n31, slab_setSlab_ne _ _ h3 n30, slab_setSlab_ne _ _ h2 n21, slab_setSlab_ne _ _ h2 n20,
      slab_setSlab_ne _ _ h1 n10]
    rfl

end Cert.KernelIdeal.Attn

end
-- ==== Proof.Run.lean ====
module

public import proofs.«01_k».proof.Proof.Body
public import proofs.«01_k».proof.Proof.Gen.KernelIdeal.Frame
public import Idealize.ShloMosaic.Lib.Pipeline.TableIdle
public import Idealize.ShloMosaic.Lib.Pipeline.Frame
public import Idealize.ShloMosaic.Lib.Pipeline.FrameBody

@[expose] public section

set_option maxRecDepth 16384
set_option maxHeartbeats 4000000

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligationLoose)
open Cert.KernelIdeal.Gen

variable {F : FTy → Type} [FloatOps F]

local notation "𝕄" => MT nD τ sig Unit (Elt F) ℕ (UR sig nD τ) ℕ

/-! ## One point of the grid, at the blocks its windows hold -/

/-- The guard of the accumulators' reset, at a row block. -/
theorem first_iff (i : grid0.Coords) :
    Scalar.cmpi .ne (Scalar.extui (Scalar.cmpi .eq (BitVec.ofNat 32 (i 1).val) 0#32) : BitVec 32) 0#32 = 1#1 ↔ (i 1).val = 0 := by
  have h : ∀ n : Fin 8, Scalar.cmpi .ne (Scalar.extui (Scalar.cmpi .eq (BitVec.ofNat 32 n.val) 0#32) : BitVec 32) 0#32 = 1#1 ↔ n.val = 0 := by decide +kernel
  exact h (i 1)

/-- The guard of the flush, at a row block. -/
theorem last_iff (i : grid0.Coords) : k0_cond2 i = 1#1 ↔ (i 1).val = 7 := by
  have h : ∀ n : Fin 8, Scalar.cmpi .ne (Scalar.extui (Scalar.cmpi .eq (BitVec.ofNat 32 n.val) 7#32) : BitVec 32) 0#32 = 1#1 ↔ n.val = 7 := by decide +kernel
  exact h (i 1)

/-- What a point leaves: from the blocks of its windows and the accumulators as it finds them. -/
def leaves (i : grid0.Coords) (p : Point F) (x y : Vec F S32x128x256 .f32) : Carry F :=
  runPoint p (i 1).val (if (i 1).val = 0 then k0_pay104 else x) (if (i 1).val = 0 then k0_pay105 else y)

/-- The body at a point, in terms of what its memrefs hold before and after. -/
theorem point (𝒱 : Variants) (c : Dev nD) (bd : Option 𝒱.V) (E : Set ℕ) (i : grid0.Coords)
    (arg2 : Memref sig .tc .vmem S1024x128 .bf16) (harg2 : arg2.IsWhole) (arg3 : Memref sig .tc .vmem S8192x128 .bf16) (harg3 : arg3.IsWhole)
    (arg4 : Memref sig .tc .vmem S8192x128 .bf16) (harg4 : arg4.IsWhole) (arg5 : Memref sig .tc .vmem S1024x128 .f32) (harg5 : arg5.IsWhole)
    (arg6 : Memref sig .tc .vmem S1024x128 .bf16) (harg6 : arg6.IsWhole) (arg7 : Memref sig .tc .vmem S1024x128 .bf16) (harg7 : arg7.IsWhole)
    (arg8 : Memref sig .tc .vmem S8192x128 .bf16) (harg8 : arg8.IsWhole) (arg9 : Memref sig .tc .vmem S8192x128 .bf16) (harg9 : arg9.IsWhole)
    (arg10 : Memref sig .tc .vmem S32x128x256 .f32) (harg10 : arg10.IsWhole) (arg11 : Memref sig .tc .vmem S32x128x256 .f32) (harg11 : arg11.IsWhole)
    (q : S1024x128.Idx → Elt F .bf16) (k v : S8192x128.Idx → Elt F .bf16) (l : S1024x128.Idx → Elt F .f32) (d e : S1024x128.Idx → Elt F .bf16)
    (g h : S8192x128.Idx → Elt F .bf16) (x y : S32x128x256.Idx → Elt F .f32) (s : Carry F) (hs : s = leaves i ⟨q, d, ltCol l, k, v⟩ x y) :
    iprop(owns (c : Thread nD τ) arg2 fullShare q ∗ owns (c : Thread nD τ) arg3 fullShare k ∗ owns (c : Thread nD τ) arg4 fullShare v
        ∗ owns (c : Thread nD τ) arg5 fullShare l ∗ owns (c : Thread nD τ) arg6 fullShare d ∗ owns (c : Thread nD τ) arg7 fullShare e
        ∗ owns (c : Thread nD τ) arg8 fullShare g ∗ owns (c : Thread nD τ) arg9 fullShare h ∗ owns (c : Thread nD τ) arg10 fullShare x
        ∗ owns (c : Thread nD τ) arg11 fullShare y)
    ⊢ (wp frame (wpE (defs₀ (F := F)) 𝒱 (c : Thread nD τ) bd) E
        (cc0_sb_attn_bwd2 (F := F) i arg2 harg2 arg3 harg3 arg4 harg4 arg5 harg5 arg6 harg6 arg7 harg7 arg8 harg8 arg9 harg9 arg10 harg10 arg11 harg11)
        (fun _ => iprop(owns (c : Thread nD τ) arg2 fullShare q ∗ owns (c : Thread nD τ) arg3 fullShare k ∗ owns (c : Thread nD τ) arg4 fullShare v
        ∗ owns (c : Thread nD τ) arg5 fullShare l ∗ owns (c : Thread nD τ) arg6 fullShare d ∗ owns (c : Thread nD τ) arg7 fullShare (dqOut s)
        ∗ owns (c : Thread nD τ) arg8 fullShare (if (i 1).val = 7 then dkOut s.dkt else g) ∗ owns (c : Thread nD τ) arg9 fullShare (if (i 1).val = 7 then dvOut s.dvt else h)
        ∗ owns (c : Thread nD τ) arg10 fullShare s.dkt ∗ owns (c : Thread nD τ) arg11 fullShare s.dvt)) : sProp 𝕄) := by
  subst hs
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩⟩
  subst e2 e3 e4 e5 e6 e7 e8 e9 e10 e11
  by_cases h0 : (i 1).val = 0
  · have n7 : ¬ (i 1).val = 7 := by omega
    have hw := fun Q' => fun hQ => (body_first 𝒱 c bd E i arg2 harg2 arg3 harg3 arg4 harg4 arg5 harg5 arg6 harg6 arg7 harg7 arg8 harg8 arg9 harg9 arg10 harg10 arg11 harg11
      f2 f3 f4 f5 f6 f7 f8 f9 f10 f11
      ((first_iff i).2 h0) (mt (last_iff i).1 n7) _ rfl).trans (wp_mono frame (wpE (defs₀ (F := F)) 𝒱 (c : Thread nD τ) bd) E (Q' := Q') hQ)
    iapply (hw _ ?_)
    rotate_left
    · isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    intro _
    unfold leaves
    simp only [h0, (by decide : ¬ (0 = 7)), if_true, if_false]
    iintro ⟨H2, H3, H4, H5, H6, ⟨%a7, H7, %b7⟩, H8, H9, ⟨%a10, H10, %b10⟩, ⟨%a11, H11, %b11⟩⟩
    isplitl [H2]
    · iexists _; isplitr; swap; · iexact H2
      ipureintro; exact rfl
    isplitl [H3]
    · iexists _; isplitr; swap; · iexact H3
      ipureintro; exact rfl
    isplitl [H4]
    · iexists _; isplitr; swap; · iexact H4
      ipureintro; exact rfl
    isplitl [H5]
    · iexists _; isplitr; swap; · iexact H5
      ipureintro; exact rfl
    isplitl [H6]
    · iexists _; isplitr; swap; · iexact H6
      ipureintro; exact rfl
    isplitl [H7]
    · iexists _; isplitr; swap; · iexact H7
      ipureintro; exact b7
    isplitl [H8]
    · iexists _; isplitr; swap; · iexact H8
      ipureintro; exact rfl
    isplitl [H9]
    · iexists _; isplitr; swap; · iexact H9
      ipureintro; exact rfl
    isplitl [H10]
    · iexists _; isplitr; swap; · iexact H10
      ipureintro; exact b10
    iexists _; isplitr; swap; · iexact H11
    ipureintro; exact b11
  by_cases h7 : (i 1).val = 7
  · have hw := fun Q' => fun hQ => (body_last 𝒱 c bd E i arg2 harg2 arg3 harg3 arg4 harg4 arg5 harg5 arg6 harg6 arg7 harg7 arg8 harg8 arg9 harg9 arg10 harg10 arg11 harg11
      f2 f3 f4 f5 f6 f7 f8 f9 f10 f11
      (mt (first_iff i).1 h0) ((last_iff i).2 h7) _ rfl).trans (wp_mono frame (wpE (defs₀ (F := F)) 𝒱 (c : Thread nD τ) bd) E (Q' := Q') hQ)
    iapply (hw _ ?_)
    rotate_left
    · isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    intro _
    unfold leaves
    simp only [h7, (by decide : ¬ (7 = 0)), if_true, if_false]
    iintro ⟨H2, H3, H4, H5, H6, ⟨%a7, H7, %b7⟩, ⟨%a8, H8, %b8⟩, ⟨%a9, H9, %b9⟩, ⟨%a10, H10, %b10⟩, ⟨%a11, H11, %b11⟩⟩
    isplitl [H2]
    · iexists _; isplitr; swap; · iexact H2
      ipureintro; exact rfl
    isplitl [H3]
    · iexists _; isplitr; swap; · iexact H3
      ipureintro; exact rfl
    isplitl [H4]
    · iexists _; isplitr; swap; · iexact H4
      ipureintro; exact rfl
    isplitl [H5]
    · iexists _; isplitr; swap; · iexact H5
      ipureintro; exact rfl
    isplitl [H6]
    · iexists _; isplitr; swap; · iexact H6
      ipureintro; exact rfl
    isplitl [H7]
    · iexists _; isplitr; swap; · iexact H7
      ipureintro; exact b7
    isplitl [H8]
    · iexists _; isplitr; swap; · iexact H8
      ipureintro; exact b8
    isplitl [H9]
    · iexists _; isplitr; swap; · iexact H9
      ipureintro; exact b9
    isplitl [H10]
    · iexists _; isplitr; swap; · iexact H10
      ipureintro; exact b10
    iexists _; isplitr; swap; · iexact H11
    ipureintro; exact b11
  · have hw := fun Q' => fun hQ => (body_mid 𝒱 c bd E i arg2 harg2 arg3 harg3 arg4 harg4 arg5 harg5 arg6 harg6 arg7 harg7 arg8 harg8 arg9 harg9 arg10 harg10 arg11 harg11
      f2 f3 f4 f5 f6 f7 f8 f9 f10 f11
      (mt (first_iff i).1 h0) (mt (last_iff i).1 h7) _ rfl).trans (wp_mono frame (wpE (defs₀ (F := F)) 𝒱 (c : Thread nD τ) bd) E (Q' := Q') hQ)
    iapply (hw _ ?_)
    rotate_left
    · isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    intro _
    unfold leaves
    simp only [h0, h7, if_true, if_false]
    iintro ⟨H2, H3, H4, H5, H6, ⟨%a7, H7, %b7⟩, H8, H9, ⟨%a10, H10, %b10⟩, ⟨%a11, H11, %b11⟩⟩
    isplitl [H2]
    · iexists _; isplitr; swap; · iexact H2
      ipureintro; exact rfl
    isplitl [H3]
    · iexists _; isplitr; swap; · iexact H3
      ipureintro; exact rfl
    isplitl [H4]
    · iexists _; isplitr; swap; · iexact H4
      ipureintro; exact rfl
    isplitl [H5]
    · iexists _; isplitr; swap; · iexact H5
      ipureintro; exact rfl
    isplitl [H6]
    · iexists _; isplitr; swap; · iexact H6
      ipureintro; exact rfl
    isplitl [H7]
    · iexists _; isplitr; swap; · iexact H7
      ipureintro; exact b7
    isplitl [H8]
    · iexists _; isplitr; swap; · iexact H8
      ipureintro; exact rfl
    isplitl [H9]
    · iexists _; isplitr; swap; · iexact H9
      ipureintro; exact rfl
    isplitl [H10]
    · iexists _; isplitr; swap; · iexact H10
      ipureintro; exact b10
    iexists _; isplitr; swap; · iexact H11
    ipureintro; exact b11

/-! ## The proof data -/

variable (m : (ℓ : Loc nD τ sig) → Buf (Elt F) ℓ) (ρ : Dev nD → PrngReg)

/-- The row block of a point is its number modulo eight. -/
theorem coord1 : ∀ t : Fin cfg0.N, (grid0.coords t 1).val = t.val % 8 := (by decide +kernel : ∀ t : Fin grid0.N, (grid0.coords t 1).val = t.val % 8)

/-- The blocks a point reads. -/
def blocks (c : Dev nD) (t : Fin cfg0.N) : Point F := ⟨iblk m c 0 t, iblk m c 4 t, ltCol (iblk m c 3 t), iblk m c 1 t, iblk m c 2 t⟩

/-- What the two accumulators hold after the first `n` points. -/
def held (c : Dev nD) : ℕ → Vec F S32x128x256 .f32 × Vec F S32x128x256 .f32
  | 0 => (k0_pay104, k0_pay105)
  | n + 1 => if h : n < cfg0.N then
      ((leaves (grid0.coords ⟨n, h⟩) (blocks m c ⟨n, h⟩) (held c n).1 (held c n).2).dkt,
        (leaves (grid0.coords ⟨n, h⟩) (blocks m c ⟨n, h⟩) (held c n).1 (held c n).2).dvt)
    else held c n

/-- What point `t` leaves. -/
def ran (c : Dev nD) (t : Fin cfg0.N) : Carry F := leaves (grid0.coords t) (blocks m c t) (held m c t.val).1 (held m c t.val).2

theorem held_succ (c : Dev nD) (t : Fin cfg0.N) : held m c (t.val + 1) = ((ran m c t).dkt, (ran m c t).dvt) := by
  unfold ran
  rw [held, dif_pos t.isLt]

/-- The accumulators before a point that goes on from the one before it. -/
def PhiS (c : Dev nD) (n : ℕ) : sProp 𝕄 :=
  iprop(((∃ x, owns (c : Thread nD τ) (Memref.whole cc0_scratch0) fullShare x ∗ ⌜n % 8 ≠ 0 → x = (held m c n).1⌝)
      ∗ (∃ y, owns (c : Thread nD τ) (Memref.whole cc0_scratch1) fullShare y ∗ ⌜n % 8 ≠ 0 → y = (held m c n).2⌝))
    ∗ ∃ r, prngReg c r)

/-- The proof data on core `c`. -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => dqOut (ran m c t)
    | 6 => dkOut (ran m c t).dkt
    | 7 => dvOut (ran m c t).dvt
    | ⟨_ + 8, h⟩ => absurd h (Nat.not_lt.2 (Nat.le_add_left _ _))
  Φ t := PhiS m c t.val
  q w := Pipeline.shareOf spec0 w
  owed _ := 0

theorem A_eq (c : Dev nD) (w : Fin cfg0.W) : (dats m 0 c).A w = V m c (Pipeline.arrRef spec0 w) := by dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- A window of the keys' or values' gradients after a point: as found before the last row block, the gradient there. -/
def keeps (c : Dev nD) (t : Fin cfg0.N) (w : Fin cfg0.W) : sProp 𝕄 :=
  match cfg0.idle w (cfg0.grid.coords t) with
  | true =>
    match (cfg0.win w).flush t with
    | false => iprop(∃ d, owns (c : Thread nD τ) ((cfg0.win w).stage (cfg0.slots t w)) fullShare ((dats m 0 c).before w t d))
    | true => owns (c : Thread nD τ) ((cfg0.win w).stage (cfg0.slots t w)) fullShare ((dats m 0 c).after w t)
  | false => owns (c : Thread nD τ) ((cfg0.win w).stage (cfg0.slots t w)) fullShare ((dats m 0 c).after w t)

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ keeps m c t 6 ∗ keeps m c t 7)

theorem defs₀_row (t : Fin cfg0.N) : defs₀ (F := F) .tc cfg0.body (cfg0.bodyArgs t (cfg0.slots t)) = bodyAt0 t := by
  unfold defs₀; rw [Defs.onTc_tc]

theorem keeps_of6 (c : Dev nD) (t : Fin cfg0.N) (d) :
    owns (c : Thread nD τ) (st0_6 t) fullShare (if ((grid0.coords t) 1).val = 7 then dkOut (ran m c t).dkt else (dats m 0 c).before 6 t d) ⊢ keeps m c t 6 := by
  have hi : cfg0.idle 6 (cfg0.grid.coords t) = !(k0_cond2 (grid0.coords t) == 1#1) := rfl
  unfold keeps
  by_cases h : ((grid0.coords t) 1).val = 7
  · rw [if_pos h, hi, (last_iff _).2 h]
    exact .rfl
  · have hf : (cfg0.win 6).flush t = false := by
      refine Bool.eq_false_iff.2 fun hf => h ?_
      rw [coord1]; exact (flush0_6 t).1 hf
    have hn : (!(k0_cond2 (grid0.coords t) == 1#1)) = true := by
      rw [Bool.not_eq_true', beq_eq_false_iff_ne]; exact mt (last_iff _).1 h
    rw [if_neg h, hi, hn, hf]
    iintro H; iexists d; iexact H

theorem keeps_of7 (c : Dev nD) (t : Fin cfg0.N) (d) :
    owns (c : Thread nD τ) (st0_7 t) fullShare (if ((grid0.coords t) 1).val = 7 then dvOut (ran m c t).dvt else (dats m 0 c).before 7 t d) ⊢ keeps m c t 7 := by
  have hi : cfg0.idle 7 (cfg0.grid.coords t) = !(k0_cond2 (grid0.coords t) == 1#1) := rfl
  unfold keeps
  by_cases h : ((grid0.coords t) 1).val = 7
  · rw [if_pos h, hi, (last_iff _).2 h]
    exact .rfl
  · have hf : (cfg0.win 7).flush t = false := by
      refine Bool.eq_false_iff.2 fun hf => h ?_
      rw [coord1]; exact (flush0_7 t).1 hf
    have hn : (!(k0_cond2 (grid0.coords t) == 1#1)) = true := by
      rw [Bool.not_eq_true', beq_eq_false_iff_ne]; exact mt (last_iff _).1 h
    rw [if_neg h, hi, hn, hf]
    iintro H; iexists d; iexact H

theorem sound_body (c : Dev nD) (t : Fin cfg0.N) :
    bodyPre m c t ⊢ wp frame (wpE (defs₀ (F := F)) Variants.none (c : Thread nD τ) none) Set.univ (bodyAt0 t) (fun _ => bodyPost m c t) := by
  have e0 := before0_0_of m (dats m 0 c) (A_eq m c 0) (fun _ => rfl) t
  have e1 := before0_1_of m (dats m 0 c) (A_eq m c 1) (fun _ => rfl) t
  have e2 := before0_2_of m (dats m 0 c) (A_eq m c 2) (fun _ => rfl) t
  have e3 := before0_3_of m (dats m 0 c) (A_eq m c 3) (fun _ => rfl) t
  have e4 := before0_4_of m (dats m 0 c) (A_eq m c 4) (fun _ => rfl) t
  unfold bodyPre bodyPost bodyAt0
  rw [show (dats m 0 c).Φ t.castSucc = PhiS m c t.val from rfl, show (dats m 0 c).Φ t.succ = PhiS m c (t.val + 1) from rfl,
    show (dats m 0 c).owesAt () t.succ = (dats m 0 c).owesAt () t.castSucc from rfl]
  simp only [e0, e1, e2, e3, e4]
  unfold PhiS
  rw [held_succ]
  iintro ⟨⟨⟨⟨%x, X, %hx⟩, ⟨%y, Y, %hy⟩⟩, Hr⟩, HO, ⟨%d0, H0⟩, ⟨%d1, H1⟩, ⟨%d2, H2⟩, ⟨%d3, H3⟩, ⟨%d4, H4⟩, ⟨%d5, H5⟩, ⟨%d6, H6⟩, ⟨%d7, H7⟩⟩
  have es : ran m c t = leaves (grid0.coords t) (blocks m c t) x y := by
    unfold ran leaves
    rw [coord1]
    by_cases h : t.val % 8 = 0
    · simp only [h, if_true]
    · simp only [h, if_false, hx h, hy h]
  have hw := fun Q' => fun hQ => (show iprop(_ ∗ ((∃ r, prngReg c r) ∗ (dats m 0 c).owesAt () t.castSucc)) ⊢ _ from BI.sep_mono_l (point (F := F) Variants.none c none Set.univ (grid0.coords t) (st0_0 t) (hstage0_0 ((cfg0.slots t 0).cast nbuf0_0))
    (st0_1 t) (hstage0_1 ((cfg0.slots t 1).cast nbuf0_1)) (st0_2 t) (hstage0_2 ((cfg0.slots t 2).cast nbuf0_2)) (st0_3 t) (hstage0_3 ((cfg0.slots t 3).cast nbuf0_3))
    (st0_4 t) (hstage0_4 ((cfg0.slots t 4).cast nbuf0_4)) (st0_5 t) (hstage0_5 ((cfg0.slots t 5).cast nbuf0_5)) (st0_6 t) (hstage0_6 ((cfg0.slots t 6).cast nbuf0_6))
    (st0_7 t) (hstage0_7 ((cfg0.slots t 7).cast nbuf0_7)) (Memref.whole cc0_scratch0) (Memref.isWhole_whole _) (Memref.whole cc0_scratch1) (Memref.isWhole_whole _)
    (iblk m c 0 t) (iblk m c 1 t) (iblk m c 2 t) (iblk m c 3 t) (iblk m c 4 t) ((dats m 0 c).before 5 t d5) ((dats m 0 c).before 6 t d6) ((dats m 0 c).before 7 t d7)
    x y (ran m c t) es)).trans ((wp_frame_r frame _ _).trans (wp_mono frame (wpE (defs₀ (F := F)) Variants.none (c : Thread nD τ) none) Set.univ (Q' := Q') hQ))
  iapply (hw _ ?_)
  rotate_left
  · isplitr [Hr HO]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [X]; · iexact X
      iexact Y
    isplitl [Hr]; · iexact Hr
    iexact HO
  intro _
  iintro ⟨⟨H0, H1, H2, H3, H4, H5, H6, H7, X, Y⟩, Hr, HO⟩
  isplitl [X Y Hr]
  · isplitr [Hr]
    · isplitl [X]
      · iexists _; isplitl; · iexact X
        ipureintro; exact fun _ => rfl
      · iexists _; isplitl; · iexact Y
        ipureintro; exact fun _ => rfl
    iexact Hr
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]
  · iapply (keeps_of6 m c t d6); iexact H6
  · iapply (keeps_of7 m c t d7); iexact H7

theorem body_obligation (c : Dev nD) : BodyObligationLoose (dats (F := F) m 0 c) (defs₀ (F := F)) Variants.none () Set.univ := fun t => by
  rw [bigSep_W0, bigSep_W0, defs₀_row]
  exact triple_restated (sound_body m c t) rfl .rfl fun _ => .rfl

/-! ## The run -/

theorem hin (c : Dev nD) : Pipeline.ΦA spec0 c ⊢ (dats m 0 c).Φ 0 := by
  show Pipeline.ΦA spec0 c ⊢ PhiS m c 0
  unfold Pipeline.ΦA PhiS
  rw [scopedRest0_eq]
  simp only [owns_whole]
  iintro ⟨⟨⟨%f, H0⟩, ⟨%g, H1⟩⟩, Hr⟩
  isplitl [H0 H1]
  · isplitl [H0]
    · iexists f; isplitl; · iexact H0
      ipureintro; exact fun h => absurd rfl h
    · iexists g; isplitl; · iexact H1
      ipureintro; exact fun h => absurd rfl h
  iexact Hr

theorem hout (c : Dev nD) : (dats m 0 c).Φ (Fin.last cfg0.N) ⊢ Pipeline.ΦA spec0 c := by
  show PhiS m c _ ⊢ Pipeline.ΦA spec0 c
  unfold Pipeline.ΦA PhiS
  rw [scopedRest0_eq]
  simp only [owns_whole]
  iintro ⟨⟨⟨%f, H0, -⟩, ⟨%g, H1, -⟩⟩, Hr⟩
  isplitl [H0 H1]
  · isplitl [H0]
    · iexists f; iexact H0
    · iexists g; iexact H1
  iexact Hr

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => body_obligation m c) (hq := fun _ _ _ => rfl) (howed := fun _ _ => rfl) (V := V m) (hmain := hmain m Variants.none)
    (hA := A_eq m) (hin := hin m) (hout := hout m) (hQ' := fun _ h => h)

end Cert.KernelIdeal.Attn

end
-- ==== Proof.Frames.lean ====
module

public import proofs.«01_k».proof.Defs
public import proofs.«01_k».proof.Proof.Run
public import proofs.«01_k».proof.Proof.Gen.Kernel
public import proofs.«01_k».proof.Proof.Gen.ReferenceIdeal.Run
public import Idealize.ShloMosaic.Lib.Quiescent

@[expose] public section

set_option maxRecDepth 100000
set_option maxHeartbeats 1000000

noncomputable section

namespace Cert.KernelIdeal.Attn

open Idealize.ShloMosaic Idealize.ShloMosaic.TcCoe Idealize.SL.Sem
open Cert.KernelIdeal.Gen

variable {F : FTy → Type} [FloatOps F]
variable (m : (ℓ : Loc nD τ sig) → Buf (Elt F) ℓ) (ρ : Dev nD → PrngReg)

/-- What the run ends in: both arguments as launched, every counter at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨((h.1 c).1 2).trans (((dats m 0 c).arrAt_in 2 rfl _).trans ((A_eq m c 2).trans (V_main_arg0 m c))),
      ((h.1 c).1 4).trans (((dats m 0 c).arrAt_in 4 rfl _).trans ((A_eq m c 4).trans (V_main_arg1 m c)))⟩, h.2⟩) (run_main m ρ)

end Cert.KernelIdeal.Attn

namespace Cert.Proof

open Idealize.ShloMosaic Idealize.ShloMosaic.TcCoe Idealize.SL.Sem

/-- The kernel over the extended reals. -/
theorem frame_ideal : Cert.quiescent_KernelIdeal (hKernelIdeal := Cert.KernelIdeal.Gen.facts) := fun m ρ _ => Cert.KernelIdeal.Attn.frame_any (F := Ideal) m ρ

/-- The two programs bind the same body to the same label. -/
theorem same_bodies : Cert.Kernel.defs₀ (F := Bits) = Cert.KernelIdeal.defs₀ (F := Bits) :=
  congrArg Defs.onTc (funext fun l => funext fun x => match l, x with
    | 0, (_, _) => rfl
    | ⟨_ + 1, h⟩, _ => absurd h (Nat.not_lt.2 (Nat.le_add_left _ _)))

/-- So their calls are the same. -/
theorem same_calls : Cert.Kernel.defs (F := Bits) = Cert.KernelIdeal.defs (F := Bits) := by
  unfold Cert.Kernel.defs Cert.KernelIdeal.defs
  rw [same_bodies]
  rfl

/-- And so are their host codes. -/
theorem same_main : Cert.Kernel.main (F := Bits) = Cert.KernelIdeal.main (F := Bits) := rfl

/-- The kernel at its bits: the frame proved for every format, read there. -/
theorem frame_kernel : Cert.quiescent_Kernel (hKernel := Cert.Kernel.Gen.facts) := fun m ρ _ => by
  rw [same_calls, same_main]
  exact (θ_run Cert.KernelIdeal.defs _ _).mono (fun _ h => h) (Cert.KernelIdeal.Attn.frame_any (F := Bits) m ρ)

/-- The reference, which is host code alone. -/
theorem frame_reference : Cert.quiescent_ReferenceIdeal (hReferenceIdeal := Cert.ReferenceIdeal.Gen.facts) := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

end Cert.Proof

end
-- ==== Proof.Model.lean ====
/- The gradients of the stick-breaking attention over the real numbers, as finite sums indexed by natural numbers, and the
   identities between such sums that a run over blocks of 256 keys and tiles of 1024 queries needs. -/
module

public import Mathlib.Analysis.SpecialFunctions.Log.Basic
public import Mathlib.Algebra.BigOperators.Intervals
public import Mathlib.Tactic.FieldSimp
public import Mathlib.Tactic.Linarith
public import Mathlib.Tactic.Positivity
public import Mathlib.Tactic.Ring

@[expose] public section

noncomputable section

namespace StickBreak

open Finset

/-- The logarithm of the sigmoid. -/
def lsig (x : ℝ) : ℝ := -Real.log (1 + Real.exp (-x))

theorem one_add_exp_pos (x : ℝ) : 0 < 1 + Real.exp x := by positivity

theorem exp_lsig (x : ℝ) : Real.exp (lsig x) = 1 / (1 + Real.exp (-x)) := by
  unfold lsig
  rw [Real.exp_neg, Real.exp_log (one_add_exp_pos _), one_div]

/-- log (1 - σ x) = log σ x - x. -/
theorem lsig_neg (x : ℝ) : lsig (-x) = lsig x - x := by
  apply Real.exp_injective
  rw [Real.exp_sub, exp_lsig, exp_lsig, neg_neg, Real.exp_neg]
  have h := Real.exp_pos x
  field_simp
  ring

/-- σ (-x) = 1 - σ x. -/
theorem exp_lsig_neg (x : ℝ) : Real.exp (lsig (-x)) = 1 - Real.exp (lsig x) := by
  rw [exp_lsig, exp_lsig, neg_neg, Real.exp_neg]
  have h := Real.exp_pos x
  field_simp
  ring

/-- The softplus as it is computed, by the larger of its two halves. -/
theorem softplus_eq (x : ℝ) : max x 0 + Real.log (1 + Real.exp (-|x|)) = -lsig (-x) := by
  unfold lsig
  rw [neg_neg, neg_neg]
  rcases le_total 0 x with h | h
  · rw [max_eq_left h, abs_of_nonneg h]
    apply Real.exp_injective
    rw [Real.exp_add, Real.exp_log (one_add_exp_pos _), Real.exp_log (one_add_exp_pos _), Real.exp_neg]
    have := Real.exp_pos x
    field_simp
    ring
  · rw [max_eq_right h, abs_of_nonpos h, neg_neg, zero_add]

/-- The logarithm of the sigmoid as it is computed, by the smaller of its two halves. -/
theorem logsig_eq (x : ℝ) : min x 0 - Real.log (1 + Real.exp (-|x|)) = lsig x := by
  have h := softplus_eq (-x)
  rw [neg_neg, abs_neg] at h
  have e : max (-x) 0 = -min x 0 := by
    rcases le_total 0 x with h | h
    · rw [min_eq_right h, max_eq_right (by linarith)]; ring
    · rw [min_eq_left h, max_eq_left (by linarith)]
  linarith [h, e]

section scores

variable (z g : ℕ → ℕ → ℝ)

/-- log (1 - σ z) of a key before its query, else zero. -/
def rest (t j : ℕ) : ℝ := if j < t then lsig (-(z t j)) else 0
/-- The attention weight of a key: its sigmoid times the rests of the keys between it and the query. -/
def wgt (t j : ℕ) : ℝ := if j < t then Real.exp (lsig (z t j) + ∑ i ∈ Ico (j + 1) 8192, rest z t i) else 0
/-- The weight times its cotangent. -/
def wtd (t j : ℕ) : ℝ := wgt z t j * g t j
/-- The cotangent of the scores. -/
def dz (t j : ℕ) : ℝ :=
  if j < t then wtd z g t j - Real.exp (lsig (z t j)) * (wtd z g t j + ∑ i ∈ range j, wtd z g t i) else 0

theorem rest_of_le {t j : ℕ} (h : t ≤ j) : rest z t j = 0 := if_neg (by omega)
theorem wgt_of_le {t j : ℕ} (h : t ≤ j) : wgt z t j = 0 := if_neg (by omega)
theorem wtd_of_le {t j : ℕ} (h : t ≤ j) : wtd z g t j = 0 := by rw [wtd, wgt_of_le z h, zero_mul]
theorem dz_of_le {t j : ℕ} (h : t ≤ j) : dz z g t j = 0 := if_neg (by omega)

end scores

/-- One head: its queries, keys, values and output cotangents, and the scale of its scores. -/
structure Head where
  q : ℕ → ℕ → ℝ
  k : ℕ → ℕ → ℝ
  v : ℕ → ℕ → ℝ
  d : ℕ → ℕ → ℝ
  c : ℝ

namespace Head

variable (h : Head)

/-- The scores. -/
def z (t j : ℕ) : ℝ := (∑ e ∈ range 128, h.q t e * h.k j e) * h.c
/-- The cotangents of the weights. -/
def g (t j : ℕ) : ℝ := ∑ e ∈ range 128, h.d t e * h.v j e
/-- The gradient of the queries. -/
def dq (t e : ℕ) : ℝ := (∑ j ∈ range 8192, dz h.z h.g t j * h.k j e) * h.c
/-- The gradient of the keys. -/
def dk (j e : ℕ) : ℝ := (∑ t ∈ range 8192, h.q t e * dz h.z h.g t j) * h.c
/-- The gradient of the values. -/
def dv (j e : ℕ) : ℝ := ∑ t ∈ range 8192, h.d t e * wgt h.z t j

end Head

/-! ## Sums -/

theorem sum_fin_shift (f : ℕ → ℝ) (a n : ℕ) : ∑ k : Fin n, f (a + k.val) = ∑ i ∈ Ico a (a + n), f i := by
  rw [Finset.sum_Ico_eq_sum_range, ← Finset.sum_range fun k => f (a + k), Nat.add_sub_cancel_left]

theorem range_add_fin (f : ℕ → ℝ) (a n : ℕ) : ∑ i ∈ range a, f i + ∑ k : Fin n, f (a + k.val) = ∑ i ∈ range (a + n), f i := by
  rw [sum_fin_shift, Finset.range_eq_Ico, Finset.range_eq_Ico, Finset.sum_Ico_consecutive f (by omega) (by omega)]

/-- A block's later keys, and all the keys after the block. -/
theorem sum_after (f : ℕ → ℝ) (a n N : ℕ) (s : Fin n) (hN : a + n ≤ N) :
    ∑ k : Fin n, f (a + k.val) * (if s.val < k.val then 1 else 0) + (∑ i ∈ range N, f i - ∑ i ∈ range (a + n), f i)
      = ∑ i ∈ Ico (a + s.val + 1) N, f i := by
  have h1 : ∑ k : Fin n, f (a + k.val) * (if s.val < k.val then 1 else 0) = ∑ i ∈ Ico a (a + n), f i * (if a + s.val < i then 1 else 0) := by
    rw [← sum_fin_shift (fun i => f i * (if a + s.val < i then 1 else 0))]
    exact Finset.sum_congr rfl fun k _ => by simp only [Nat.add_lt_add_iff_left]
  have hs := s.isLt
  have h2 : ∑ i ∈ Ico a (a + n), f i * (if a + s.val < i then (1 : ℝ) else 0) = ∑ i ∈ Ico (a + s.val + 1) (a + n), f i := by
    rw [← Finset.sum_Ico_consecutive _ (show a ≤ a + s.val + 1 by omega) (show a + s.val + 1 ≤ a + n by omega)]
    rw [Finset.sum_eq_zero, zero_add]
    · refine Finset.sum_congr rfl fun i hi => ?_
      rw [Finset.mem_Ico] at hi
      rw [if_pos (by omega), mul_one]
    · intro i hi
      rw [Finset.mem_Ico] at hi
      rw [if_neg (by omega), mul_zero]
  rw [h1, h2, ← Finset.sum_Ico_eq_sub f hN, Finset.sum_Ico_consecutive f (by omega) hN]

/-- A block's earlier keys, and all the keys before the block. -/
theorem sum_before (f : ℕ → ℝ) (a n : ℕ) (s : Fin n) :
    ∑ k : Fin n, f (a + k.val) * (if k.val < s.val then 1 else 0) + ∑ i ∈ range a, f i = ∑ i ∈ range (a + s.val), f i := by
  have h1 : ∑ k : Fin n, f (a + k.val) * (if k.val < s.val then 1 else 0) = ∑ i ∈ Ico a (a + n), f i * (if i < a + s.val then 1 else 0) := by
    rw [← sum_fin_shift (fun i => f i * (if i < a + s.val then 1 else 0))]
    exact Finset.sum_congr rfl fun k _ => by simp only [Nat.add_lt_add_iff_left]
  have hs := s.isLt
  have h2 : ∑ i ∈ Ico a (a + n), f i * (if i < a + s.val then (1 : ℝ) else 0) = ∑ i ∈ Ico a (a + s.val), f i := by
    rw [← Finset.sum_Ico_consecutive _ (show a ≤ a + s.val by omega) (show a + s.val ≤ a + n by omega), add_comm]
    rw [Finset.sum_eq_zero, zero_add]
    · refine Finset.sum_congr rfl fun i hi => ?_
      rw [Finset.mem_Ico] at hi
      rw [if_pos (by omega), mul_one]
    · intro i hi
      rw [Finset.mem_Ico] at hi
      rw [if_neg (by omega), mul_zero]
  rw [h1, h2, add_comm, Finset.range_eq_Ico, Finset.range_eq_Ico, Finset.sum_Ico_consecutive f (by omega) (by omega)]

/-- A sum whose terms from `a` on are zero. -/
theorem sum_range_trim (f : ℕ → ℝ) {a N : ℕ} (h : a ≤ N) (h0 : ∀ i, a ≤ i → f i = 0) : ∑ i ∈ range N, f i = ∑ i ∈ range a, f i := by
  symm
  refine Finset.sum_subset (Finset.range_subset_range.2 h) fun i _ hi => h0 i ?_
  rw [Finset.mem_range] at hi
  omega

end StickBreak

end
-- ==== Proof.Lift.lean ====
/- The operations of the extended reals on real numbers: each of them is the operation of the reals. -/
module

public import Idealize.ShloMosaic.PureOps.Ideal.Laws
public import Idealize.ShloMosaic.Lib.IdealHost
public import proofs.«01_k».proof.Proof.Model

@[expose] public section

noncomputable section

namespace StickBreak

open Idealize.ShloMosaic Finset

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max (x y : ℝ) : max (x : EReal) (y : EReal) = ((max x y : ℝ) : EReal) := by
  rcases le_total x y with h | h
  · rw [max_eq_right h, max_eq_right (EReal.coe_le_coe_iff.2 h)]
  · rw [max_eq_left h, max_eq_left (EReal.coe_le_coe_iff.2 h)]

theorem coe_min (x y : ℝ) : min (x : EReal) (y : EReal) = ((min x y : ℝ) : EReal) := by
  rcases le_total x y with h | h
  · rw [min_eq_left h, min_eq_left (EReal.coe_le_coe_iff.2 h)]
  · rw [min_eq_right h, min_eq_right (EReal.coe_le_coe_iff.2 h)]

theorem coe_abs (x : ℝ) : max (x : EReal) (-(x : EReal)) = ((|x| : ℝ) : EReal) := by
  rw [← EReal.coe_neg, coe_max]; rfl

theorem exp_coe (x : ℝ) : Ideal.exp (x : EReal) = ((Real.exp x : ℝ) : EReal) := rfl

theorem log_coe {x : ℝ} (h : 0 < x) : Ideal.log (x : EReal) = ((Real.log x : ℝ) : EReal) := by
  show (if x ≤ 0 then ⊥ else ((Real.log x : ℝ) : EReal)) = _
  rw [if_neg (by linarith)]

theorem log_one_add_exp (x : ℝ) : Ideal.log (1 + Ideal.exp (x : EReal)) = ((Real.log (1 + Real.exp x) : ℝ) : EReal) := by
  rw [exp_coe, ← EReal.coe_one, ← EReal.coe_add, log_coe (one_add_exp_pos x)]

theorem log1p_exp (x : ℝ) : Ideal.log1p (Ideal.exp (x : EReal)) = ((Real.log (1 + Real.exp x) : ℝ) : EReal) := log_one_add_exp x

/-- The logarithm of the sigmoid as a kernel computes it. -/
theorem logsig_coe (x : ℝ) :
    min (x : EReal) 0 - Ideal.log (1 + Ideal.exp (0 - max (x : EReal) (-(x : EReal)))) = ((lsig x : ℝ) : EReal) := by
  rw [coe_abs, zero_sub, ← EReal.coe_neg, log_one_add_exp, ← EReal.coe_zero, coe_min, ← EReal.coe_sub, logsig_eq]

/-- The softplus as a host computes it. -/
theorem softplus_coe (x : ℝ) :
    max (x : EReal) 0 + Ideal.log1p (Ideal.exp (-max (x : EReal) (-(x : EReal)))) = ((-lsig (-x) : ℝ) : EReal) := by
  rw [coe_abs, ← EReal.coe_neg, log1p_exp, ← EReal.coe_zero, coe_max, ← EReal.coe_add, softplus_eq]

/-- The scale of the scores is a real number. -/
def scale : ℝ := (Ideal.ofBits .f32 0x3DB504F3#32).toReal

theorem scale_coe : Ideal.ofBits .f32 0x3DB504F3#32 = ((scale : ℝ) : EReal) := by
  unfold scale
  rw [EReal.coe_toReal]
  · simp [Ideal.ofBits, Ideal.ieee, -EReal.coe_mul]
  · simp [Ideal.ofBits, Ideal.ieee, -EReal.coe_mul]

/-- A number less than infinity in absolute value is real. -/
theorem coe_of_abs_lt_top {x : EReal} (h : max x (-x) < ⊤) : x = ((x.toReal : ℝ) : EReal) := by
  rw [EReal.coe_toReal]
  · rintro rfl; simp at h
  · rintro rfl; simp at h

/-! ## Comparisons of words that hold natural numbers -/

theorem cmp_slt {a b : ℕ} (ha : a < 2 ^ 31) (hb : b < 2 ^ 31) :
    IntOp.cmpi .slt (BitVec.ofNat 32 a) (BitVec.ofNat 32 b) = BitVec.ofBool (decide (a < b)) := by
  refine congrArg BitVec.ofBool ?_
  rw [BitVec.slt, BitVec.toInt_eq_toNat_of_lt (by rw [BitVec.toNat_ofNat]; omega),
    BitVec.toInt_eq_toNat_of_lt (by rw [BitVec.toNat_ofNat]; omega), BitVec.toNat_ofNat, BitVec.toNat_ofNat,
    Nat.mod_eq_of_lt (by omega), Nat.mod_eq_of_lt (by omega)]
  exact decide_eq_decide.2 Int.ofNat_lt

theorem cmp_sgt {a b : ℕ} (ha : a < 2 ^ 31) (hb : b < 2 ^ 31) :
    IntOp.cmpi .sgt (BitVec.ofNat 32 a) (BitVec.ofNat 32 b) = BitVec.ofBool (decide (b < a)) := cmp_slt hb ha

theorem select_decide {α : Type} (p : Prop) [Decidable p] (x y : α) : Scalar.select (BitVec.ofBool (decide p)) x y = if p then x else y := by
  by_cases h : p
  · rw [if_pos h, decide_eq_true h]; rfl
  · rw [if_neg h, decide_eq_false h]; rfl

end StickBreak

end
-- ==== Proof.BlockValue.lean ====
/- The values of one key block over the extended reals: where the point's arguments are real numbers, every operation of
   the block is the formula of the real gradients at the block's queries and keys. -/
module

public import proofs.«01_k».proof.Proof.Block
public import proofs.«01_k».proof.Proof.Lift
public import Idealize.ShloMosaic.Lib.MatmulPlain
public import Idealize.ShloMosaic.Lib.ValueIdx
public import Idealize.ShloMosaic.Lib.ValueLayout
public import Idealize.ShloMosaic.Lib.ValueLayoutCasts

@[expose] public section

set_option maxRecDepth 16384

noncomputable section

namespace Cert.KernelIdeal.Attn

open Idealize.ShloMosaic Idealize.ShloMosaic.ValueIdx Idealize.SL.Sem Cert.KernelIdeal.Gen StickBreak Finset

/-! ## Products and row sums of real numbers -/

theorem mm_plain {M K N : ℕ} {φ₁ φ₂ : FTy} (x : FVec Ideal ⟨2, ![M, K]⟩ φ₁) (y : FVec Ideal ⟨2, ![K, N]⟩ φ₂) (r : Fin M) (c : Fin N) (f g : Fin K → ℝ)
    (hx : ∀ k, x (ix2 r k) = ((f k : ℝ) : EReal)) (hy : ∀ k, y (ix2 k c) = ((g k : ℝ) : EReal)) :
    matmul (DotDims.plain M K N) none x y (constant ⟨2, ![M, N]⟩ .f32 0x00000000#32) (ix2 r c) = ((∑ k, f k * g k : ℝ) : EReal) := by
  refine (Ideal.matmul_plain_apply none x y _ r c).trans ?_
  rw [constant_apply, Ideal.ofBits_zero_f32, zero_add, coe_sum]
  exact Finset.sum_congr rfl fun k _ => by rw [hx, hy, EReal.coe_mul]

theorem mm_transposed {M K N : ℕ} {φ₁ φ₂ : FTy} (x : FVec Ideal ⟨2, ![M, K]⟩ φ₁) (y : FVec Ideal ⟨2, ![N, K]⟩ φ₂) (r : Fin M) (c : Fin N) (f g : Fin K → ℝ)
    (hx : ∀ k, x (ix2 r k) = ((f k : ℝ) : EReal)) (hy : ∀ k, y (ix2 c k) = ((g k : ℝ) : EReal)) :
    matmul (DotDims.transposedRhs M K N) none x y (constant ⟨2, ![M, N]⟩ .f32 0x00000000#32) (ix2 r c) = ((∑ k, f k * g k : ℝ) : EReal) := by
  refine (Ideal.matmul_transposedRhs_apply none x y _ r c).trans ?_
  rw [constant_apply, Ideal.ofBits_zero_f32, zero_add, coe_sum]
  exact Finset.sum_congr rfl fun k _ => by rw [hx, hy, EReal.coe_mul]

/-- A row sum kept as a column. -/
theorem row_sum (x : FVec Ideal S1024x256 .f32) (r : Fin 1024) (f : Fin 256 → ℝ) (hx : ∀ s, x (ix2 r s) = ((f s : ℝ) : EReal)) :
    shapeCast S1024x1 (multiReduction .add [1] S1024 x 0x00000000#32 reduces_S1024x256_S1024 (.inl rfl) rfl) shapeCasts_S1024_S1024x1 (ix2 r 0)
      = ((∑ s, f s : ℝ) : EReal) := by
  refine (shapeCast_a_a1_apply _ _ r 0).trans ?_
  refine (Ideal.multiReduction_add_single x _ _ _ _ _).trans ?_
  rw [coe_sum]
  refine Finset.sum_congr rfl fun s _ => Eq.trans (congrArg x ?_) (hx s)
  funext a
  match a with
  | ⟨0, _⟩ => rfl
  | ⟨1, _⟩ => rfl

theorem column_apply (x : FVec Ideal S1024x1 .f32) (r : Fin 1024) (s : Fin 256) :
    broadcastTo S1024x256 x broadcasts_S1024x1_S1024x256 (ix2 r s) = x (ix2 r 0) :=
  broadcastTo_apply x _ _ _ fun a => match a with | ⟨0, _⟩ => rfl | ⟨1, _⟩ => rfl

/-- The triangle of ones after the diagonal. -/
theorem after_apply (k s : Fin 256) : (k0_pay102 (F := Ideal)) (ix2 k s) = (((if s.val < k.val then 1 else 0 : ℝ)) : EReal) := by
  show Scalar.select (IntOp.cmpi .sgt (iota .tc S256x256 32 [0] iota_S256x256_d0_w32 (ix2 k s)) (iota .tc S256x256 32 [1] iota_S256x256_d1_w32 (ix2 k s)))
    (Ideal.ofBits .f32 0x3F800000#32) (Ideal.ofBits .f32 0x00000000#32) = _
  have hk := k.isLt
  have hs := s.isLt
  rw [iota_single_apply, iota_single_apply, cmp_sgt (a := k.val) (b := s.val) (by omega) (by omega), select_decide, Ideal.ofBits_one_f32, Ideal.ofBits_zero_f32]
  split <;> rfl

/-- The triangle of ones before the diagonal. -/
theorem before_apply (k s : Fin 256) : (k0_pay103 (F := Ideal)) (ix2 k s) = (((if k.val < s.val then 1 else 0 : ℝ)) : EReal) := by
  show Scalar.select (IntOp.cmpi .slt (iota .tc S256x256 32 [0] iota_S256x256_d0_w32 (ix2 k s)) (iota .tc S256x256 32 [1] iota_S256x256_d1_w32 (ix2 k s)))
    (Ideal.ofBits .f32 0x3F800000#32) (Ideal.ofBits .f32 0x00000000#32) = _
  have hk := k.isLt
  have hs := s.isLt
  rw [iota_single_apply, iota_single_apply, cmp_slt (a := k.val) (b := s.val) (by omega) (by omega), select_decide, Ideal.ofBits_one_f32, Ideal.ofBits_zero_f32]
  split <;> rfl

/-! ## One block -/

/-- The arguments of the point of query tile `i` are a head's: its queries and output cotangents of the tile, its keys and
    values, and the tile's totals. -/
structure Holds (H : Head) (i : ℕ) (p : Point Ideal) : Prop where
  c : H.c = scale
  q : ∀ (r : Fin 1024) (e : Fin 128), p.q (ix2 r e) = ((H.q (1024 * i + r.val) e.val : ℝ) : EReal)
  d : ∀ (r : Fin 1024) (e : Fin 128), p.d (ix2 r e) = ((H.d (1024 * i + r.val) e.val : ℝ) : EReal)
  lt : ∀ r : Fin 1024, p.lt (ix2 r 0) = ((∑ j ∈ range 8192, rest H.z (1024 * i + r.val) j : ℝ) : EReal)
  k : ∀ (j : Fin 8192) (e : Fin 128), p.k (ix2 j e) = ((H.k j.val e.val : ℝ) : EReal)
  v : ∀ (j : Fin 8192) (e : Fin 128), p.v (ix2 j e) = ((H.v j.val e.val : ℝ) : EReal)

/-- The mask at block `n` of query tile `i`: a tile's element where its key is before its query, else zero. -/
def SelFor (sel : Sel Ideal) (i n : ℕ) : Prop :=
  ∀ (x : FVec Ideal S1024x256 .f32) (r : Fin 1024) (s : Fin 256), sel x (ix2 r s) = if 256 * n + s.val < 1024 * i + r.val then x (ix2 r s) else 0

theorem selFor_id {i n : ℕ} (h : n < 4 * i) : SelFor (fun x => x) i n := by
  intro x r s
  rw [if_pos]
  have := s.isLt
  omega

theorem selFor_causal {i m : ℕ} (hm : m < 4) : SelFor (masked (causal (BitVec.ofNat 32 (256 * m)))) i (4 * i + m) := by
  intro x r s
  have hs := s.isLt
  have hr := r.isLt
  show Scalar.select (IntOp.cmpi .slt (BitVec.ofNat 32 (256 * m) + iota .tc S1024x256 32 [1] iota_S1024x256_d1_w32 (ix2 r s))
    (iota .tc S1024x256 32 [0] iota_S1024x256_d0_w32 (ix2 r s))) (x (ix2 r s)) (Ideal.ofBits .f32 0x00000000#32) = _
  rw [iota_single_apply, iota_single_apply, ← BitVec.ofNat_add, cmp_slt (a := 256 * m + s.val) (b := r.val) (by omega) (by omega), select_decide,
    Ideal.ofBits_zero_f32]
  exact if_congr (by omega) rfl rfl

theorem rows_apply (x : S8192x128.Idx → Elt Ideal .bf16) {n : ℕ} (hn : n < 32) (s : Fin 256) (e : Fin 128) :
    rows x n (ix2 s e) = x (ix2 (n0 := 8192) ⟨256 * n + s.val, by have := s.isLt; omega⟩ e) := by
  have hs := s.isLt
  have he := e.isLt
  refine congrArg x (funext fun a => Fin.ext ?_)
  match a with
  | ⟨0, _⟩ => show (256 * n + s.val) % 8192 = 256 * n + s.val; omega
  | ⟨1, _⟩ => show (0 + e.val) % 128 = e.val; omega

section block

variable {H : Head} {i n : ℕ} {p : Point Ideal} {sel : Sel Ideal}

theorem keys_apply (hp : Holds H i p) (hn : n < 32) (s : Fin 256) (e : Fin 128) :
    rows p.k n (ix2 s e) = ((H.k (256 * n + s.val) e.val : ℝ) : EReal) := (rows_apply p.k hn s e).trans (hp.k _ e)

theorem values_apply (hp : Holds H i p) (hn : n < 32) (s : Fin 256) (e : Fin 128) :
    rows p.v n (ix2 s e) = ((H.v (256 * n + s.val) e.val : ℝ) : EReal) := (rows_apply p.v hn s e).trans (hp.v _ e)

theorem score_apply (hp : Holds H i p) (hn : n < 32) (r : Fin 1024) (s : Fin 256) :
    score p.q (rows p.k n) (ix2 r s) = ((H.z (1024 * i + r.val) (256 * n + s.val) : ℝ) : EReal) := by
  have h := mm_transposed (φ₁ := .bf16) (φ₂ := .bf16) p.q (rows p.k n) r s _ _ (hp.q r) (keys_apply hp hn s)
  unfold Head.z
  rw [Finset.sum_range fun e => H.q (1024 * i + r.val) e * H.k (256 * n + s.val) e, EReal.coe_mul, ← h, hp.c, ← scale_coe]
  rfl

theorem logBeta_apply (hp : Holds H i p) (hn : n < 32) (r : Fin 1024) (s : Fin 256) :
    logBeta p.q (rows p.k n) (ix2 r s) = ((lsig (H.z (1024 * i + r.val) (256 * n + s.val)) : ℝ) : EReal) := by
  rw [← logsig_coe, ← score_apply hp hn r s, ← Ideal.ofBits_zero_f32, ← Ideal.ofBits_one_f32]
  rfl

theorem logRest_apply (hp : Holds H i p) (hn : n < 32) (hs : SelFor sel i n) (r : Fin 1024) (s : Fin 256) :
    logRest sel p.q (rows p.k n) (ix2 r s) = ((rest H.z (1024 * i + r.val) (256 * n + s.val) : ℝ) : EReal) := by
  unfold logRest rest
  rw [hs]
  split
  · rw [subf_apply, logBeta_apply hp hn, score_apply hp hn, ← EReal.coe_sub, lsig_neg]
  · rfl

/-- The sums carried into block `n` are over the keys before it. -/
def RestTo (H : Head) (i n : ℕ) (c1 : FVec Ideal S1024x1 .f32) : Prop :=
  ∀ r : Fin 1024, c1 (ix2 r 0) = ((∑ j ∈ range (256 * n), rest H.z (1024 * i + r.val) j : ℝ) : EReal)
def WtdTo (H : Head) (i n : ℕ) (ce : FVec Ideal S1024x1 .f32) : Prop :=
  ∀ r : Fin 1024, ce (ix2 r 0) = ((∑ j ∈ range (256 * n), wtd H.z H.g (1024 * i + r.val) j : ℝ) : EReal)

variable {c1 ce : FVec Ideal S1024x1 .f32}

theorem restSum_apply (hp : Holds H i p) (hn : n < 32) (hs : SelFor sel i n) (hc : RestTo H i n c1) :
    RestTo H i (n + 1) (restSum sel p.q (rows p.k n) c1) := by
  intro r
  unfold restSum
  rw [addf_apply, hc r, row_sum _ r _ (logRest_apply hp hn hs r), ← EReal.coe_add, range_add_fin (rest H.z (1024 * i + r.val))]
  rfl

theorem weight_apply (hp : Holds H i p) (hn : n < 32) (hs : SelFor sel i n) (hc : RestTo H i n c1) (r : Fin 1024) (s : Fin 256) :
    weight sel p.q p.lt (rows p.k n) c1 (ix2 r s) = ((wgt H.z (1024 * i + r.val) (256 * n + s.val) : ℝ) : EReal) := by
  have hm := mm_plain (φ₁ := .bf16) (φ₂ := .bf16) (truncf .bf16 (logRest sel p.q (rows p.k n)) bitsLt_bf16_f32) (k0_pay102 (F := Ideal)) r s _ _
    (logRest_apply hp hn hs r) (fun k => after_apply k s)
  have hlt : (k0_pay101 p.lt) (ix2 r 0) = p.lt (ix2 r 0) := congrFun (shapeCast_self p.lt _) _
  unfold weight wgt
  rw [hs]
  split
  · have hr := restSum_apply hp hn hs hc r
    have e := sum_after (rest H.z (1024 * i + r.val)) (256 * n) 256 8192 s (by omega)
    rw [← e]
    show Ideal.exp (_ + (_ + broadcastTo S1024x256 _ _ (ix2 r s))) = _
    rw [column_apply, subf_apply, hr, hlt, hp.lt r, logBeta_apply hp hn]
    refine congrArg Ideal.exp ?_ |>.trans (exp_coe _)
    rw [EReal.coe_add, EReal.coe_add, EReal.coe_sub]
    exact congrArg (_ + ·) (congrArg (· + _) hm)
  · rfl

theorem weighted_apply (hp : Holds H i p) (hn : n < 32) (hs : SelFor sel i n) (hc : RestTo H i n c1) (r : Fin 1024) (s : Fin 256) :
    weighted sel p.q p.d p.lt (rows p.k n) (rows p.v n) c1 (ix2 r s) = ((wtd H.z H.g (1024 * i + r.val) (256 * n + s.val) : ℝ) : EReal) := by
  have hm := mm_transposed (φ₁ := .bf16) (φ₂ := .bf16) p.d (rows p.v n) r s _ _ (hp.d r) (values_apply hp hn s)
  unfold weighted wtd Head.g
  rw [mulf_apply, weight_apply hp hn hs hc, Finset.sum_range fun e => H.d (1024 * i + r.val) e * H.v (256 * n + s.val) e, EReal.coe_mul, ← hm]
  rfl

theorem weightedSum_apply (hp : Holds H i p) (hn : n < 32) (hs : SelFor sel i n) (hc : RestTo H i n c1) (he : WtdTo H i n ce) :
    WtdTo H i (n + 1) (weightedSum sel p.q p.d p.lt (rows p.k n) (rows p.v n) c1 ce) := by
  intro r
  unfold weightedSum
  rw [addf_apply, he r, row_sum _ r _ (weighted_apply hp hn hs hc r), ← EReal.coe_add, range_add_fin (wtd H.z H.g (1024 * i + r.val))]
  rfl

theorem dScore_apply (hp : Holds H i p) (hn : n < 32) (hs : SelFor sel i n) (hc : RestTo H i n c1) (he : WtdTo H i n ce) (r : Fin 1024) (s : Fin 256) :
    dScore sel p.q p.d p.lt (rows p.k n) (rows p.v n) c1 ce (ix2 r s) = ((dz H.z H.g (1024 * i + r.val) (256 * n + s.val) : ℝ) : EReal) := by
  have hm := mm_plain (φ₁ := .bf16) (φ₂ := .bf16) (truncf .bf16 (weighted sel p.q p.d p.lt (rows p.k n) (rows p.v n) c1) bitsLt_bf16_f32) (k0_pay103 (F := Ideal)) r s _ _
    (weighted_apply hp hn hs hc r) (fun k => before_apply k s)
  unfold dScore dz
  rw [truncf_apply, hs]
  split
  · have e := sum_before (wtd H.z H.g (1024 * i + r.val)) (256 * n) 256 s
    rw [← e]
    show _ - Ideal.exp _ * (_ + (_ + broadcastTo S1024x256 _ _ (ix2 r s))) = _
    rw [column_apply, he r, logBeta_apply hp hn, weighted_apply hp hn hs hc, exp_coe, EReal.coe_sub, EReal.coe_mul, EReal.coe_add, EReal.coe_add]
    exact congrArg (_ - ·) (congrArg (_ * ·) (congrArg (_ + ·) (congrArg (· + _) hm)))
  · rfl

theorem dKeys_apply (hp : Holds H i p) (hn : n < 32) (hs : SelFor sel i n) (hc : RestTo H i n c1) (he : WtdTo H i n ce) (e : Fin 128) (s : Fin 256) :
    dKeys sel p.q p.d p.lt (rows p.k n) (rows p.v n) c1 ce (ix2 e s)
      = ((∑ r : Fin 1024, H.q (1024 * i + r.val) e.val * dz H.z H.g (1024 * i + r.val) (256 * n + s.val) : ℝ) : EReal) :=
  mm_plain (φ₁ := .bf16) (φ₂ := .bf16) (k0_pay99 p.q) (dScore sel p.q p.d p.lt (rows p.k n) (rows p.v n) c1 ce) e s _ _
    (fun r => (transpose_ix2_apply _ _ e r).trans (hp.q r e)) (fun r => dScore_apply hp hn hs hc he r s)

theorem dValues_apply (hp : Holds H i p) (hn : n < 32) (hs : SelFor sel i n) (hc : RestTo H i n c1) (e : Fin 128) (s : Fin 256) :
    dValues sel p.q p.d p.lt (rows p.k n) c1 (ix2 e s)
      = ((∑ r : Fin 1024, H.d (1024 * i + r.val) e.val * wgt H.z (1024 * i + r.val) (256 * n + s.val) : ℝ) : EReal) :=
  mm_plain (φ₁ := .bf16) (φ₂ := .bf16) (k0_pay100 p.d) (truncf .bf16 (weight sel p.q p.lt (rows p.k n) c1) bitsLt_bf16_f32) e s _ _
    (fun r => (transpose_ix2_apply _ _ e r).trans (hp.d r e)) (fun r => weight_apply hp hn hs hc r s)

/-- The gradient of the queries carried into block `n` is over the keys before it. -/
def DqTo (H : Head) (i n : ℕ) (dq : FVec Ideal S1024x128 .f32) : Prop :=
  ∀ (r : Fin 1024) (e : Fin 128), dq (ix2 r e) = ((∑ j ∈ range (256 * n), dz H.z H.g (1024 * i + r.val) j * H.k j e.val : ℝ) : EReal)

theorem dQueries_apply (hp : Holds H i p) (hn : n < 32) (hs : SelFor sel i n) (hc : RestTo H i n c1) (he : WtdTo H i n ce)
    {dq : FVec Ideal S1024x128 .f32} (hq : DqTo H i n dq) : DqTo H i (n + 1) (dQueries sel p.q p.d p.lt (rows p.k n) (rows p.v n) c1 ce dq) := by
  intro r e
  have hm := mm_plain (φ₁ := .bf16) (φ₂ := .bf16) (dScore sel p.q p.d p.lt (rows p.k n) (rows p.v n) c1 ce) (rows p.k n) r e _ _
    (dScore_apply hp hn hs hc he r) (fun s => keys_apply hp hn s e)
  unfold dQueries
  rw [addf_apply, hq r e, show 256 * (n + 1) = 256 * n + 256 from rfl, ← range_add_fin (fun j => dz H.z H.g (1024 * i + r.val) j * H.k j e.val),
    EReal.coe_add, ← hm]
  rfl

end block

end Cert.KernelIdeal.Attn

end
-- ==== Proof.KerTotal.lean ====
module

public import proofs.«01_k».proof.Proof.Run
public import proofs.«01_k».proof.Proof.BlockValue
public import Idealize.ShloMosaic.Lib.Claim
public import proofs.«01_k».proof.Proof.Gen.ReferenceIdeal.Read

@[expose] public section

set_option maxRecDepth 16384

noncomputable section

namespace Cert.KernelIdeal.Attn

open Idealize.ShloMosaic Idealize.ShloMosaic.TcCoe
open Cert.KernelIdeal.Gen

/-- The totals' array as the call finds it: the row sums of the masked logarithms, one lane block for each head. -/
theorem V_total (m : (ℓ : Loc nD τ sig) → Buf (Elt Ideal) ℓ) (c : Dev nD) :
    Gen.V m c main_v24 = shapeCast S8192x2048 (broadcastInDim S8192x16x128 ![0, 1, 2] bcast_S8192x16x1_S8192x16x128_0_1_2
      (broadcastInDim S8192x16x1 ![0, 1] bcast_S8192x16_S8192x16x1_0_1 (transpose S8192x16 [1, 0]
        (Host.reduceAdd (F := Ideal) (φ := .f32) (Cert.ReferenceIdeal.Read.val_main_v24_0 (F := Ideal) (m ((c : Thread nD τ).loc main_arg0)))
          (constant S_ .f32 0x00000000#32) reducesTo_S16x8192x8192_S16x8192_d2 h_S_) transposes_S16x8192_S8192x16_1_0)))
      shapeCasts_S8192x16x128_S8192x2048 := by
  entry_read
  rfl

end Cert.KernelIdeal.Attn
-- ==== Proof.HeadData.lean ====
/- The heads of the two arrays a call takes: `A` holds the queries, the keys and the values side by side, `B` the
   cotangents of the outputs; a head is a block of 128 columns of each. -/
module

public import Idealize.ShloMosaic.Lib.ValueIdxCore
public import proofs.«01_k».proof.Proof.Lift

@[expose] public section

noncomputable section

namespace StickBreak

open Idealize.ShloMosaic Idealize.ShloMosaic.ValueIdx

/-- An array of 8192 rows of extended reals. -/
abbrev Arr (n : ℕ) : Type := (⟨2, ![8192, n]⟩ : Shape).Idx → EReal

/-- Every element is a real number. -/
def Finite {n : ℕ} (A : Arr n) : Prop := ∀ i, A i = (((A i).toReal : ℝ) : EReal)

/-- The element of row `t` and column `c` as a real number. -/
def ent {n : ℕ} (A : Arr n) (t c : ℕ) : ℝ := if h : t < 8192 ∧ c < n then (A (ix2 ⟨t, h.1⟩ ⟨c, h.2⟩)).toReal else 0

theorem ent_coe {n : ℕ} {A : Arr n} (hA : Finite A) (i : (⟨2, ![8192, n]⟩ : Shape).Idx) (t c : ℕ) (h0 : (i 0).val = t) (h1 : (i 1).val = c) :
    A i = ((ent A t c : ℝ) : EReal) := by
  subst h0 h1
  have l0 : (i 0).val < 8192 := (i 0).isLt
  have l1 : (i 1).val < n := (i 1).isLt
  rw [ent, dif_pos ⟨l0, l1⟩]
  exact (hA i).trans (congrArg (fun y => (((A y).toReal : ℝ) : EReal)) (eq_ix2 i))

/-- Head `h` of the two arrays. -/
def headOf (A : Arr 6144) (B : Arr 2048) (h : ℕ) : Head where
  q t e := ent A t (h * 128 + e)
  k t e := ent A t (2048 + (h * 128 + e))
  v t e := ent A t (4096 + (h * 128 + e))
  d t e := ent B t (h * 128 + e)
  c := scale

end StickBreak
-- ==== Proof.WindowSum.lean ====
/- The sums over windows along the last axis of an array of rank three, of real numbers: with the padding above, the sums
   of a row's elements from one on; with the padding below, the sums of its elements up to one. -/
module

public import Idealize.ShloMosaic.PureOps.Ideal.Laws
public import Idealize.ShloMosaic.Lib.ValueIdxCore
public import proofs.«01_k».proof.Proof.Lift

@[expose] public section

noncomputable section

namespace StickBreak

open Idealize.ShloMosaic Idealize.ShloMosaic.ValueIdx Finset

theorem foldl_add {ι : Type*} (f : ι → EReal) (l : List ι) (v : EReal) : l.foldl (fun r n => r + f n) v = v + (l.map f).sum := by
  induction l generalizing v with
  | nil => simp
  | cons a l ih => rw [List.foldl_cons, ih, List.map_cons, List.sum_cons, add_assoc]

/-- The windows along the last axis, one position each on the others. -/
def lastAxis (N : ℕ) : (⟨3, ![1, 1, N]⟩ : Shape).Idx ≃ Fin N where
  toFun w := w 2
  invFun k := ix3 0 0 k
  left_inv w := by
    funext a
    match a with
    | ⟨0, _⟩ => exact Subsingleton.elim (α := Fin 1) _ _
    | ⟨1, _⟩ => exact Subsingleton.elim (α := Fin 1) _ _
    | ⟨2, _⟩ => rfl
  right_inv k := rfl

/-- A window sum along the last axis as a sum over the positions of the window. -/
theorem reduceWindow_last {A B N lo hi : ℕ} (x : (⟨3, ![A, B, N]⟩ : Shape).Idx → EReal) (v : EReal)
    (h : (⟨3, ![A, B, N]⟩ : Shape).ReduceWindows ![1, 1, N] ![1, 1, 1] ![0, 0, lo] ![0, 0, hi] ⟨3, ![A, B, N]⟩) (a : Fin A) (b : Fin B) (j : Fin N) :
    Ideal.hostReduceWindowAdd ![1, 1, N] ![1, 1, 1] ![0, 0, lo] ![0, 0, hi] h x v (ix3 a b j)
      = v + ∑ k : Fin N, if hk : lo ≤ j.val + k.val ∧ j.val + k.val - lo < N then x (ix3 a b ⟨j.val + k.val - lo, hk.2⟩) else v := by
  unfold Ideal.hostReduceWindowAdd Host.reduceWindow
  dsimp only
  rw [foldl_add, ← Fin.sum_univ_def, ← Equiv.sum_comp (Shape.rowMajor ⟨3, ![1, 1, N]⟩), ← Equiv.sum_comp (lastAxis N).symm]
  refine congrArg (v + ·) (Finset.sum_congr rfl fun k _ => ?_)
  simp only [Equiv.symm_apply_apply]
  by_cases hk : lo ≤ j.val + k.val ∧ j.val + k.val - lo < N
  · rw [dif_pos hk, dif_pos]
    · refine congrArg x (funext fun d => Fin.ext ?_)
      match d with
      | ⟨0, _⟩ => show a.val * 1 + 0 - 0 = a.val; omega
      | ⟨1, _⟩ => show b.val * 1 + 0 - 0 = b.val; omega
      | ⟨2, _⟩ => show j.val * 1 + k.val - lo = j.val + k.val - lo; omega
    · intro d
      match d with
      | ⟨0, _⟩ => exact ⟨Nat.zero_le _, by show a.val * 1 + 0 - 0 < A; have := a.isLt; omega⟩
      | ⟨1, _⟩ => exact ⟨Nat.zero_le _, by show b.val * 1 + 0 - 0 < B; have := b.isLt; omega⟩
      | ⟨2, _⟩ => exact ⟨by show lo ≤ j.val * 1 + k.val; omega, by show j.val * 1 + k.val - lo < N; omega⟩
  · rw [dif_neg hk, dif_neg]
    intro hall
    have h2 : lo ≤ j.val * 1 + k.val ∧ j.val * 1 + k.val - lo < N := hall 2
    exact hk ⟨by omega, by omega⟩

theorem sum_shift_up (f : ℕ → ℝ) (N j : ℕ) (hj : j < N) :
    ∑ k : Fin N, (if j + k.val < N then f (j + k.val) else 0) = ∑ i ∈ Ico j N, f i := by
  rw [← Finset.sum_range fun k => if j + k < N then f (j + k) else 0, Finset.sum_Ico_eq_sum_range,
    sum_range_trim _ (show N - j ≤ N by omega) fun i hi => if_neg (by omega)]
  refine Finset.sum_congr rfl fun k hk => if_pos ?_
  rw [Finset.mem_range] at hk
  omega

theorem sum_shift_down (f : ℕ → ℝ) (N j lo : ℕ) (hlo : lo + 1 = N) (hj : j < N) :
    ∑ k : Fin N, (if lo ≤ j + k.val then f (j + k.val - lo) else 0) = ∑ i ∈ range (j + 1), f i := by
  rw [← Finset.sum_range fun k => if lo ≤ j + k then f (j + k - lo) else 0, Finset.range_eq_Ico,
    ← Finset.sum_Ico_consecutive _ (show 0 ≤ lo - j by omega) (show lo - j ≤ N by omega), Finset.sum_eq_zero, zero_add,
    Finset.sum_Ico_eq_sum_range]
  · have e : N - (lo - j) = j + 1 := by omega
    rw [e]
    refine Finset.sum_congr rfl fun k _ => ?_
    rw [if_pos (by omega)]
    exact congrArg f (by omega)
  · intro k hk
    rw [Finset.mem_Ico] at hk
    exact if_neg (by omega)

/-- With the padding above: the sum of the row from the element on. -/
theorem window_suffix {A B N hi : ℕ} (x : (⟨3, ![A, B, N]⟩ : Shape).Idx → EReal)
    (h : (⟨3, ![A, B, N]⟩ : Shape).ReduceWindows ![1, 1, N] ![1, 1, 1] ![0, 0, 0] ![0, 0, hi] ⟨3, ![A, B, N]⟩) (a : Fin A) (b : Fin B) (j : Fin N)
    (f : ℕ → ℝ) (hf : ∀ i : Fin N, x (ix3 a b i) = ((f i.val : ℝ) : EReal)) :
    Ideal.hostReduceWindowAdd ![1, 1, N] ![1, 1, 1] ![0, 0, 0] ![0, 0, hi] h x 0 (ix3 a b j) = ((∑ i ∈ Ico j.val N, f i : ℝ) : EReal) := by
  rw [reduceWindow_last, zero_add, ← sum_shift_up f N j.val j.isLt, coe_sum]
  refine Finset.sum_congr rfl fun k _ => ?_
  by_cases hk : j.val + k.val < N
  · rw [dif_pos ⟨Nat.zero_le _, hk⟩, if_pos hk, hf]; rfl
  · rw [dif_neg fun hh => hk hh.2, if_neg hk, EReal.coe_zero]

/-- With the padding below: the sum of the row up to the element. -/
theorem window_prefix {A B N lo : ℕ} (x : (⟨3, ![A, B, N]⟩ : Shape).Idx → EReal)
    (h : (⟨3, ![A, B, N]⟩ : Shape).ReduceWindows ![1, 1, N] ![1, 1, 1] ![0, 0, lo] ![0, 0, 0] ⟨3, ![A, B, N]⟩) (a : Fin A) (b : Fin B) (j : Fin N)
    (hlo : lo + 1 = N) (f : ℕ → ℝ) (hf : ∀ i : Fin N, x (ix3 a b i) = ((f i.val : ℝ) : EReal)) :
    Ideal.hostReduceWindowAdd ![1, 1, N] ![1, 1, 1] ![0, 0, lo] ![0, 0, 0] h x 0 (ix3 a b j) = ((∑ i ∈ range (j.val + 1), f i : ℝ) : EReal) := by
  rw [reduceWindow_last, zero_add, ← sum_shift_down f N j.val lo hlo j.isLt, coe_sum]
  refine Finset.sum_congr rfl fun k _ => ?_
  have hj := j.isLt
  have hk' := k.isLt
  by_cases hk : lo ≤ j.val + k.val
  · rw [dif_pos ⟨hk, by omega⟩, if_pos hk, hf]
  · rw [dif_neg fun hh => hk hh.1, if_neg hk, EReal.coe_zero]

end StickBreak

end
-- ==== Proof.RefScore.lean ====
/- The reference's forward lines at one head, on real numbers: the scores, the logarithms of the sigmoids, the running
   sums and the weights. -/
module

public import proofs.«01_k».proof.Proof.HeadData
public import proofs.«01_k».proof.Proof.WindowSum
public import proofs.«01_k».proof.Proof.Gen.ReferenceIdeal.Read

@[expose] public section

set_option maxRecDepth 16384

noncomputable section

namespace Cert.ReferenceIdeal.Attn

open Idealize.ShloMosaic Idealize.ShloMosaic.ValueIdx StickBreak Finset
open Cert.ReferenceIdeal.Read Cert.ReferenceIdeal.Gen

variable {A : Arr 6144} {B : Arr 2048}

/-! ## The operands -/

theorem q_val (hA : Finite A) (h : Fin 16) (t : Fin 8192) (e : Fin 128) :
    val_main_v3 (F := Ideal) A (ix3 h t e) = (((headOf A B h.val).q t.val e.val : ℝ) : EReal) := by
  rw [val_main_v3_apply, val_main_v2_apply, val_main_v1_apply, val_main_v0_apply]
  have := h.isLt; have := t.isLt; have := e.isLt
  exact ent_coe hA _ _ _ (by show ((t.val * 16 + h.val) * 128 + e.val) / 2048 = t.val; omega)
    (by show ((t.val * 16 + h.val) * 128 + e.val) % 2048 = h.val * 128 + e.val; omega)

theorem k_val (hA : Finite A) (h : Fin 16) (t : Fin 8192) (e : Fin 128) :
    val_main_v7 (F := Ideal) A (ix3 h t e) = (((headOf A B h.val).k t.val e.val : ℝ) : EReal) := by
  rw [val_main_v7_apply, val_main_v6_apply, val_main_v5_apply, val_main_v4_apply]
  have := h.isLt; have := t.isLt; have := e.isLt
  exact ent_coe hA _ _ _ (by show ((t.val * 16 + h.val) * 128 + e.val) / 2048 = t.val; omega)
    (by show 2048 + ((t.val * 16 + h.val) * 128 + e.val) % 2048 = 2048 + (h.val * 128 + e.val); omega)

theorem v_val (hA : Finite A) (h : Fin 16) (t : Fin 8192) (e : Fin 128) :
    val_main_v11 (F := Ideal) A (ix3 h t e) = (((headOf A B h.val).v t.val e.val : ℝ) : EReal) := by
  rw [val_main_v11_apply, val_main_v10_apply, val_main_v9_apply, val_main_v8_apply]
  have := h.isLt; have := t.isLt; have := e.isLt
  exact ent_coe hA _ _ _ (by show ((t.val * 16 + h.val) * 128 + e.val) / 2048 = t.val; omega)
    (by show 4096 + ((t.val * 16 + h.val) * 128 + e.val) % 2048 = 4096 + (h.val * 128 + e.val); omega)

theorem d_val (hB : Finite B) (h : Fin 16) (t : Fin 8192) (e : Fin 128) :
    val_main_v33 (F := Ideal) B (ix3 h t e) = (((headOf A B h.val).d t.val e.val : ℝ) : EReal) := by
  rw [val_main_v33_apply, val_main_v32_apply, val_main_v31_apply]
  have := h.isLt; have := t.isLt; have := e.isLt
  exact ent_coe hB _ _ _ (by show ((t.val * 16 + h.val) * 128 + e.val) / 2048 = t.val; omega)
    (by show ((t.val * 16 + h.val) * 128 + e.val) % 2048 = h.val * 128 + e.val; omega)

/-! ## The scores -/

/-- A sum of products of real numbers. -/
theorem sum_mul_coe {n : ℕ} (x y : Fin n → EReal) (f g : ℕ → ℝ) (hx : ∀ k, x k = ((f k.val : ℝ) : EReal)) (hy : ∀ k, y k = ((g k.val : ℝ) : EReal)) :
    ∑ k, x k * y k = ((∑ k ∈ range n, f k * g k : ℝ) : EReal) := by
  rw [Finset.sum_range, coe_sum]
  exact Finset.sum_congr rfl fun k _ => by rw [hx, hy, EReal.coe_mul]

theorem z_val (hA : Finite A) (h : Fin 16) (t j : Fin 8192) :
    val_main_v15 (F := Ideal) A (ix3 h t j) = (((headOf A B h.val).z t.val j.val : ℝ) : EReal) := by
  have e : val_main_v13 (F := Ideal) A (ix3 h t j)
      = ((∑ e ∈ range 128, (headOf A B h.val).q t.val e * (headOf A B h.val).k j.val e : ℝ) : EReal) := by
    rw [val_main_v13_apply]
    refine sum_mul_coe _ _ _ _ (fun k => (congrArg (val_main_v3 (F := Ideal) A) ?_).trans (q_val hA h t k))
      (fun k => (congrArg (val_main_v7 (F := Ideal) A) ?_).trans (k_val hA h j k))
    · exact eq_ix3 _
    · exact eq_ix3 _
  rw [val_main_v15_apply, e, val_main_v14_apply]
  refine (congrArg₂ (· * ·) rfl scale_coe).trans ?_
  rw [← EReal.coe_mul]
  rfl

/-- The order of a key and a query. -/
theorem mask_val (h : Fin 16) (t j : Fin 8192) :
    val_main_v24_1 (F := Ideal) (ix3 h t j) = BitVec.ofBool (decide (j.val < t.val)) := by
  rw [val_main_v24_1_apply, val_main_v20_apply, val_main_v18_apply, val_main_v16_apply, val_main_v19_apply, val_main_v17_apply]
  exact cmp_slt (a := j.val) (b := t.val) (by have := j.isLt; omega) (by have := t.isLt; omega)

theorem mask_val' (h : Fin 16) (t j : Fin 8192) :
    val_main_v29_1 (F := Ideal) (ix3 h t j) = BitVec.ofBool (decide (j.val < t.val)) := mask_val h t j

/-! ## The logarithms of the sigmoids -/

theorem une_eq (x y : EReal) : Ideal.cmp .une x y = BitVec.ofBool (decide (x ≠ y)) := rfl

theorem oeq_eq (x y : EReal) : Ideal.cmp .oeq x y = BitVec.ofBool (decide (x = y)) := rfl

/-- The softplus of a real number. -/
theorem softplus_real (x : ℝ) (o : EReal) (ho : o = 0) :
    Scalar.select (Ideal.cmp .une ((x : EReal) - o) ((x : EReal) - o)) ((x : EReal) + o)
      (max (x : EReal) o + Ideal.log1p (Ideal.exp (-max ((x : EReal) - o) (-((x : EReal) - o))))) = ((-lsig (-x) : ℝ) : EReal) := by
  subst ho
  rw [une_eq, select_decide, if_neg (by simp), sub_zero, softplus_coe]

/-- Its derivative. -/
theorem logistic_real (x : ℝ) (s o i i' : EReal) (hs : s = ((-lsig (-x) : ℝ) : EReal)) (hi : i = ⊤) (hi' : i' = ⊤) :
    Ideal.exp (Scalar.select (Ideal.cmp .oeq (x : EReal) i) o (x : EReal) - Scalar.select (Ideal.cmp .oeq s i') o s)
      = ((Real.exp (lsig x) : ℝ) : EReal) := by
  subst hi hi' hs
  rw [oeq_eq, oeq_eq, select_decide, select_decide, if_neg (EReal.coe_ne_top _), if_neg (EReal.coe_ne_top _), ← EReal.coe_sub,
    exp_coe, lsig_neg]
  congr 2
  ring

/-- The largest pattern of the format is the infinity. -/
theorem inf_val : Ideal.ofBits .f32 0x7F800000#32 = ⊤ := by simp [Ideal.ofBits, Ideal.ieee]

theorem neg_val (hA : Finite A) (h : Fin 16) (t j : Fin 8192) :
    val_main_call0_v0 (F := Ideal) A (ix3 h t j) = ((-(headOf A B h.val).z t.val j.val : ℝ) : EReal) := by
  rw [val_main_call0_v0_apply, z_val (B := B) hA, EReal.coe_neg]; rfl

theorem neg_neg_val (hA : Finite A) (h : Fin 16) (t j : Fin 8192) :
    val_main_call1_v0 (F := Ideal) A (ix3 h t j) = (((headOf A B h.val).z t.val j.val : ℝ) : EReal) := by
  rw [val_main_call1_v0_apply, val_main_v22_apply, z_val (B := B) hA]
  exact neg_neg (((headOf A B h.val).z t.val j.val : ℝ) : EReal)

/-- The softplus of the negated scores. -/
theorem softplus_neg (hA : Finite A) (h : Fin 16) (t j : Fin 8192) :
    val_main_call0_v1_0 (F := Ideal) A (ix3 h t j) = ((-lsig ((headOf A B h.val).z t.val j.val) : ℝ) : EReal) := by
  have e := neg_val (B := B) hA h t j
  have s := softplus_real (-(headOf A B h.val).z t.val j.val) _ Ideal.ofBits_zero_f32
  rw [neg_neg, ← e] at s
  exact s

/-- The softplus of the scores. -/
theorem softplus_pos (hA : Finite A) (h : Fin 16) (t j : Fin 8192) :
    val_main_call1_v1_0 (F := Ideal) A (ix3 h t j) = ((-lsig (-(headOf A B h.val).z t.val j.val) : ℝ) : EReal) := by
  have e := neg_neg_val (B := B) hA h t j
  have s := softplus_real ((headOf A B h.val).z t.val j.val) _ Ideal.ofBits_zero_f32
  rw [← e] at s
  exact s

/-- log σ of the scores. -/
theorem lsig_val (hA : Finite A) (h : Fin 16) (t j : Fin 8192) :
    val_main_v21_0 (F := Ideal) A (ix3 h t j) = ((lsig ((headOf A B h.val).z t.val j.val) : ℝ) : EReal) := by
  rw [val_main_v21_0_apply, softplus_neg (B := B) hA, EReal.coe_neg]
  exact neg_neg _

/-- 1 - σ of the scores. -/
theorem one_sub_val (hA : Finite A) (h : Fin 16) (t j : Fin 8192) :
    val_main_v21_1 (F := Ideal) A (ix3 h t j) = ((1 - Real.exp (lsig ((headOf A B h.val).z t.val j.val)) : ℝ) : EReal) := by
  have e := neg_val (B := B) hA h t j
  have s := logistic_real (-(headOf A B h.val).z t.val j.val) (val_main_call0_v1_0 (F := Ideal) A (ix3 h t j)) (Ideal.ofBits .f32 0x00000000#32) _ _
    (by rw [neg_neg]; exact softplus_neg hA h t j) inf_val inf_val
  rw [← e, exp_lsig_neg] at s
  exact s

/-- σ of the scores. -/
theorem sig_val (hA : Finite A) (h : Fin 16) (t j : Fin 8192) :
    val_main_v23_1 (F := Ideal) A (ix3 h t j) = ((Real.exp (lsig ((headOf A B h.val).z t.val j.val)) : ℝ) : EReal) := by
  have e := neg_neg_val (B := B) hA h t j
  have s := logistic_real ((headOf A B h.val).z t.val j.val) (val_main_call1_v1_0 (F := Ideal) A (ix3 h t j)) (Ideal.ofBits .f32 0x00000000#32) _ _
    (softplus_pos hA h t j) inf_val inf_val
  rw [← e] at s
  exact s

/-- log (1 - σ) of the keys before the query. -/
theorem rest_val (hA : Finite A) (h : Fin 16) (t j : Fin 8192) :
    val_main_v24_0 (F := Ideal) A (ix3 h t j) = ((rest (headOf A B h.val).z t.val j.val : ℝ) : EReal) := by
  have z0 : val_main_call2_v2 (F := Ideal) (ix3 h t j) = 0 := Ideal.ofBits_zero_f32
  rw [val_main_v24_0_apply, mask_val, select_decide, z0, val_main_v23_0_apply, softplus_pos (B := B) hA, rest]
  split
  · exact (congrArg Neg.neg (EReal.coe_neg _)).trans (neg_neg _)
  · exact EReal.coe_zero.symm

/-! ## The weights -/

/-- The sum of the later keys' logarithms. -/
theorem after_val (hA : Finite A) (h : Fin 16) (t j : Fin 8192) :
    val_main_v26 (F := Ideal) A (ix3 h t j) = ((∑ i ∈ Ico (j.val + 1) 8192, rest (headOf A B h.val).z t.val i : ℝ) : EReal) := by
  have i0 : val_main_call3_v0 (F := Ideal) = fun _ => (0 : EReal) := funext fun _ => Ideal.ofBits_zero_f32
  have e : val_main_v25 (F := Ideal) A (ix3 h t j) = ((∑ i ∈ Ico j.val 8192, rest (headOf A B h.val).z t.val i : ℝ) : EReal) := by
    have w := window_suffix (A := 16) (B := 8192) (N := 8192) (hi := 8191) (val_main_v24_0 (F := Ideal) A)
      reduceWindows_S16x8192x8192_S16x8192x8192_w1s1p0_0_w1s1p0_0_w8192s1p0_8191 h t j (rest (headOf A B h.val).z t.val)
      fun i => rest_val (B := B) hA h t i
    unfold val_main_v25 Host.reduceWindowAdd
    rw [i0, Ideal.hostReduceWindowAdd_def]
    exact w
  rw [val_main_v26_apply, e, rest_val (B := B) hA]
  refine (EReal.coe_sub _ _).symm.trans (congrArg _ ?_)
  rw [Finset.sum_eq_sum_Ico_succ_bot j.isLt]
  ring

/-- σ times the rests of the later keys, masked or not. -/
theorem pre_val (hA : Finite A) (h : Fin 16) (t j : Fin 8192) :
    val_main_v28 (F := Ideal) A (ix3 h t j)
      = ((Real.exp (lsig ((headOf A B h.val).z t.val j.val) + ∑ i ∈ Ico (j.val + 1) 8192, rest (headOf A B h.val).z t.val i) : ℝ) : EReal) := by
  rw [val_main_v28_apply, val_main_v27_apply, lsig_val (B := B) hA, after_val (B := B) hA]
  refine Eq.trans ?_ (exp_coe _)
  rw [EReal.coe_add]
  rfl

/-- The attention's weights. -/
theorem wgt_val (hA : Finite A) (h : Fin 16) (t j : Fin 8192) :
    val_main_v29_0 (F := Ideal) A (ix3 h t j) = ((wgt (headOf A B h.val).z t.val j.val : ℝ) : EReal) := by
  have z0 : val_main_call4_v2 (F := Ideal) (ix3 h t j) = 0 := Ideal.ofBits_zero_f32
  rw [val_main_v29_0_apply, mask_val', select_decide, z0, pre_val (B := B) hA, wgt]
  split
  · rfl
  · exact EReal.coe_zero.symm

end Cert.ReferenceIdeal.Attn
-- ==== Proof.PointValue.lean ====
/- The values of one grid point over the extended reals: the key blocks run one after another, and the accumulators of the
   gradients of the keys and values, kept over the points of one head. -/
module

public import proofs.«01_k».proof.Proof.BlockValue

@[expose] public section

set_option maxRecDepth 16384

noncomputable section

namespace Cert.KernelIdeal.Attn

open Idealize.ShloMosaic Idealize.ShloMosaic.ValueIdx Idealize.SL.Sem Cert.KernelIdeal.Gen StickBreak Finset

/-- An accumulator holds the real numbers `f b e s`, slab by slab. -/
def AccTo (f : ℕ → ℕ → ℕ → ℝ) (x : S32x128x256.Idx → Elt Ideal .f32) : Prop :=
  ∀ b, b < 32 → ∀ (e : Fin 128) (s : Fin 256), slab x b (ix3 0 e s) = ((f b e.val s.val : ℝ) : EReal)

/-- The first `n` slabs with their contribution. -/
def upTo (f g : ℕ → ℕ → ℕ → ℝ) (n : ℕ) (b e s : ℕ) : ℝ := f b e s + if b < n then g b e s else 0

theorem upTo_zero (f g : ℕ → ℕ → ℕ → ℝ) : upTo f g 0 = f := by
  funext b e s
  rw [upTo, if_neg (Nat.not_lt_zero b), add_zero]

theorem accTo_step {f g : ℕ → ℕ → ℕ → ℝ} {n : ℕ} (hn : n < 32) {x : S32x128x256.Idx → Elt Ideal .f32} (hx : AccTo (upTo f g n) x)
    (y : FVec Ideal S128x256 .f32) (hy : ∀ (e : Fin 128) (s : Fin 256), y (ix2 e s) = ((g n e.val s.val : ℝ) : EReal)) :
    AccTo (upTo f g (n + 1)) (setSlab x n (accum (slab x n) y)) := by
  intro b hb e s
  by_cases h : b = n
  · subst h
    rw [slab_setSlab_same x _ hb]
    unfold accum
    refine (shapeCast_ab_1ab_apply _ _ 0 e s).trans ?_
    rw [addf_apply, hy e s]
    refine (congrArg (· + _) ((shapeCast_1ab_ab_apply _ _ e s).trans (hx b hb e s))).trans ?_
    rw [upTo, upTo, if_neg (Nat.lt_irrefl b), if_pos (Nat.lt_succ_self b), add_zero, EReal.coe_add]
  · rw [slab_setSlab_ne x _ hb h, hx b hb e s, upTo, upTo]
    by_cases h' : b < n
    · rw [if_pos h', if_pos (by omega)]
    · rw [if_neg h', if_neg (by omega)]

/-- A query tile's contribution to the gradient of the keys, and of the values. -/
def keyPart (H : Head) (i b e s : ℕ) : ℝ := ∑ r : Fin 1024, H.q (1024 * i + r.val) e * dz H.z H.g (1024 * i + r.val) (256 * b + s)
def valPart (H : Head) (i b e s : ℕ) : ℝ := ∑ r : Fin 1024, H.d (1024 * i + r.val) e * wgt H.z (1024 * i + r.val) (256 * b + s)

/-- What is carried into block `n` of query tile `i`, over accumulators that held `f` and `f'` before the point. -/
structure Inv (H : Head) (i n : ℕ) (f f' : ℕ → ℕ → ℕ → ℝ) (s : Carry Ideal) : Prop where
  rest : RestTo H i n s.rest
  wsum : WtdTo H i n s.wsum
  dq : DqTo H i n s.dq
  dkt : AccTo (upTo f (keyPart H i) n) s.dkt
  dvt : AccTo (upTo f' (valPart H i) n) s.dvt

variable {H : Head} {i : ℕ} {p : Point Ideal} {f f' : ℕ → ℕ → ℕ → ℝ}

theorem inv_step (hp : Holds H i p) {n : ℕ} (hn : n < 32) {sel : Sel Ideal} (hs : SelFor sel i n) {s : Carry Ideal} (h : Inv H i n f f' s) :
    Inv H i (n + 1) f f' (step p sel n s) where
  rest := restSum_apply hp hn hs h.rest
  wsum := weightedSum_apply hp hn hs h.rest h.wsum
  dq := dQueries_apply hp hn hs h.rest h.wsum h.dq
  dkt := accTo_step hn h.dkt _ (dKeys_apply hp hn hs h.rest h.wsum)
  dvt := accTo_step hn h.dvt _ (dValues_apply hp hn hs h.rest)

theorem inv_start {x y : S32x128x256.Idx → Elt Ideal .f32} (hx : AccTo f x) (hy : AccTo f' y) : Inv H i 0 f f' (start x y) where
  rest r := by
    rw [Nat.mul_zero, Finset.range_zero, Finset.sum_empty, EReal.coe_zero, ← Ideal.ofBits_zero_f32]
    rfl
  wsum r := by
    rw [Nat.mul_zero, Finset.range_zero, Finset.sum_empty, EReal.coe_zero, ← Ideal.ofBits_zero_f32]
    rfl
  dq r e := by
    rw [Nat.mul_zero, Finset.range_zero, Finset.sum_empty, EReal.coe_zero, ← Ideal.ofBits_zero_f32]
    rfl
  dkt := by rw [upTo_zero]; exact hx
  dvt := by rw [upTo_zero]; exact hy

theorem inv_free (hp : Holds H i p) (hi : i < 8) {s : Carry Ideal} (h : Inv H i 0 f f' s) : ∀ n, n ≤ 4 * i → Inv H i n f f' (free p s n)
  | 0, _ => h
  | n + 1, hn => inv_step hp (by omega) (selFor_id (by omega)) (inv_free hp hi h n (by omega))

theorem inv_runPoint (hp : Holds H i p) (hi : i < 8) {x y : S32x128x256.Idx → Elt Ideal .f32} (hx : AccTo f x) (hy : AccTo f' y) :
    Inv H i (4 * i + 4) f f' (runPoint p i x y) := by
  have h0 := inv_free hp hi (inv_start hx hy) (4 * i) le_rfl
  have h1 := inv_step hp (by omega) (selFor_causal (i := i) (m := 0) (by omega)) h0
  have h2 := inv_step hp (by omega) (selFor_causal (i := i) (m := 1) (by omega)) h1
  have h3 := inv_step hp (by omega) (selFor_causal (i := i) (m := 2) (by omega)) h2
  exact inv_step hp (by omega) (selFor_causal (i := i) (m := 3) (by omega)) h3

/-! ## A point's results -/

/-- The accumulators after the query tiles before number `i`. -/
def keysTo (H : Head) (i b e s : ℕ) : ℝ := ∑ t ∈ range (1024 * i), H.q t e * dz H.z H.g t (256 * b + s)
def valsTo (H : Head) (i b e s : ℕ) : ℝ := ∑ t ∈ range (1024 * i), H.d t e * wgt H.z t (256 * b + s)

theorem upTo_keys (b e s : ℕ) : upTo (keysTo H i) (keyPart H i) (4 * i + 4) b e s = keysTo H (i + 1) b e s := by
  unfold upTo keysTo keyPart
  rw [show 1024 * (i + 1) = 1024 * i + 1024 from rfl, ← range_add_fin (fun t => H.q t e * dz H.z H.g t (256 * b + s))]
  refine congrArg (_ + ·) ?_
  split
  · rfl
  · refine (Finset.sum_eq_zero fun r _ => ?_).symm
    have := r.isLt
    rw [dz_of_le _ _ (by omega), mul_zero]

theorem upTo_vals (b e s : ℕ) : upTo (valsTo H i) (valPart H i) (4 * i + 4) b e s = valsTo H (i + 1) b e s := by
  unfold upTo valsTo valPart
  rw [show 1024 * (i + 1) = 1024 * i + 1024 from rfl, ← range_add_fin (fun t => H.d t e * wgt H.z t (256 * b + s))]
  refine congrArg (_ + ·) ?_
  split
  · rfl
  · refine (Finset.sum_eq_zero fun r _ => ?_).symm
    have := r.isLt
    rw [wgt_of_le _ (by omega), mul_zero]

/-- A point adds its query tile to the accumulators. -/
theorem runPoint_acc (hp : Holds H i p) (hi : i < 8) {x y : S32x128x256.Idx → Elt Ideal .f32} (hx : AccTo (keysTo H i) x) (hy : AccTo (valsTo H i) y) :
    AccTo (keysTo H (i + 1)) (runPoint p i x y).dkt ∧ AccTo (valsTo H (i + 1)) (runPoint p i x y).dvt := by
  have h := inv_runPoint hp hi hx hy
  exact ⟨fun b hb e s => by rw [← upTo_keys]; exact h.dkt b hb e s, fun b hb e s => by rw [← upTo_vals]; exact h.dvt b hb e s⟩

/-- A point's rows of the gradient of the queries. -/
theorem runPoint_dq (hp : Holds H i p) (hi : i < 8) {x y : S32x128x256.Idx → Elt Ideal .f32} (hx : AccTo f x) (hy : AccTo f' y)
    (r : Fin 1024) (e : Fin 128) : dqOut (runPoint p i x y) (ix2 r e) = ((H.dq (1024 * i + r.val) e.val : ℝ) : EReal) := by
  have h := (inv_runPoint hp hi hx hy).dq r e
  have hr := r.isLt
  unfold dqOut Head.dq
  rw [truncf_apply, mulf_apply, h, EReal.coe_mul, hp.c, ← scale_coe, sum_range_trim _ (show 256 * (4 * i + 4) ≤ 8192 by omega)]
  · rfl
  · intro j hj
    rw [dz_of_le _ _ (by omega), zero_mul]

theorem accTo_zero : AccTo (fun _ _ _ => 0) (k0_pay104 (F := Ideal)) := by
  intro b _ e s
  have h : (k0_pay104 (F := Ideal)) = broadcast S32x128x256 (Scalar.ofBits .f32 0x00000000#32) := shapeCast_self _ _
  rw [h, EReal.coe_zero, ← Ideal.ofBits_zero_f32]
  rfl

theorem accTo_zero' : AccTo (fun _ _ _ => 0) (k0_pay105 (F := Ideal)) := accTo_zero

theorem keysTo_zero : keysTo H 0 = fun _ _ _ => 0 := by
  funext b e s
  rw [keysTo, Nat.mul_zero, Finset.range_zero, Finset.sum_empty]

theorem valsTo_zero : valsTo H 0 = fun _ _ _ => 0 := by
  funext b e s
  rw [valsTo, Nat.mul_zero, Finset.range_zero, Finset.sum_empty]

/-- The gradient of the keys as stored after the last query tile. -/
theorem dkOut_apply (hc : H.c = scale) {x : S32x128x256.Idx → Elt Ideal .f32} (hx : AccTo (keysTo H 8) x) (j : Fin 8192) (e : Fin 128) :
    dkOut x (ix2 j e) = ((H.dk j.val e.val : ℝ) : EReal) := by
  have hj := j.isLt
  have he := e.isLt
  have hi : inTile (ix2 j e) = ix2 (n0 := 256) (n1 := 128) ⟨j.val % 256, by omega⟩ e := by
    funext a
    match a with
    | ⟨0, _⟩ => rfl
    | ⟨1, _⟩ => exact Fin.ext (Nat.mod_eq_of_lt he)
  have h := hx (j.val / 256) (by omega) e ⟨j.val % 256, by omega⟩
  unfold dkOut k0_pay3
  rw [hi]
  dsimp only
  rw [truncf_apply, mulf_apply]
  refine (congrArg (· * _) ((transpose_ix2_apply _ _ _ e).trans ((shapeCast_1ab_ab_apply _ _ e _).trans h))).trans ?_
  unfold Head.dk keysTo
  rw [hc, EReal.coe_mul, ← scale_coe]
  show ((∑ t ∈ range 8192, H.q t e.val * dz H.z H.g t (256 * (j.val / 256) + j.val % 256) : ℝ) : EReal) * _ = _
  rw [Nat.div_add_mod]
  rfl

/-- The gradient of the values as stored after the last query tile. -/
theorem dvOut_apply {x : S32x128x256.Idx → Elt Ideal .f32} (hx : AccTo (valsTo H 8) x) (j : Fin 8192) (e : Fin 128) :
    dvOut x (ix2 j e) = ((H.dv j.val e.val : ℝ) : EReal) := by
  have hj := j.isLt
  have he := e.isLt
  have hi : inTile (ix2 j e) = ix2 (n0 := 256) (n1 := 128) ⟨j.val % 256, by omega⟩ e := by
    funext a
    match a with
    | ⟨0, _⟩ => rfl
    | ⟨1, _⟩ => exact Fin.ext (Nat.mod_eq_of_lt he)
  have h := hx (j.val / 256) (by omega) e ⟨j.val % 256, by omega⟩
  unfold dvOut k0_pay4
  rw [hi]
  dsimp only
  rw [truncf_apply]
  refine ((transpose_ix2_apply _ _ _ e).trans ((shapeCast_1ab_ab_apply _ _ e _).trans h)).trans ?_
  unfold Head.dv valsTo
  show ((∑ t ∈ range 8192, H.d t e.val * wgt H.z t (256 * (j.val / 256) + j.val % 256) : ℝ) : EReal) = _
  rw [Nat.div_add_mod]

end Cert.KernelIdeal.Attn

end
-- ==== Proof.KerValue.lean ====
module

public import proofs.«01_k».proof.Proof.KerTotal
public import proofs.«01_k».proof.Proof.RefScore
public import proofs.«01_k».proof.Proof.PointValue
public import Idealize.ShloMosaic.Lib.Pipeline.ValueKit

@[expose] public section

set_option maxRecDepth 16384

noncomputable section

namespace Cert.KernelIdeal.Attn

open Idealize.ShloMosaic hiding ix0 ix1 ix2 ix3 eq_ix2 eq_ix3
open Idealize.ShloMosaic.TcCoe Idealize.ShloMosaic.ValueIdx StickBreak
open Cert.KernelIdeal.Gen

variable (m : (ℓ : Loc nD τ sig) → Buf (Elt Ideal) ℓ) (c : Dev nD)

/-- The queries, keys and values the call is launched with, and the outputs' cotangents. -/
abbrev opA : Arr 6144 := m ((c : Thread nD τ).loc main_arg0)
abbrev opB : Arr 2048 := m ((c : Thread nD τ).loc main_arg1)

/-- The head a point works on. -/
abbrev hd (t : ℕ) : Head := headOf (opA m c) (opB m c) (t / 8)

/-! ## The blocks a point reads -/

theorem idx_0 : ∀ t : Fin cfg0.N, (cfg0.win 0).index t = ![t.val % 8, t.val / 8] :=
  (by decide +kernel : ∀ t : Fin grid0.N, (cfg0.win 0).index t = ![t.val % 8, t.val / 8])
theorem idx_1 : ∀ t : Fin cfg0.N, (cfg0.win 1).index t = ![0, 16 + t.val / 8] :=
  (by decide +kernel : ∀ t : Fin grid0.N, (cfg0.win 1).index t = ![0, 16 + t.val / 8])
theorem idx_2 : ∀ t : Fin cfg0.N, (cfg0.win 2).index t = ![0, 32 + t.val / 8] :=
  (by decide +kernel : ∀ t : Fin grid0.N, (cfg0.win 2).index t = ![0, 32 + t.val / 8])
theorem idx_3 : ∀ t : Fin cfg0.N, (cfg0.win 3).index t = ![t.val % 8, t.val / 8] :=
  (by decide +kernel : ∀ t : Fin grid0.N, (cfg0.win 3).index t = ![t.val % 8, t.val / 8])
theorem idx_4 : ∀ t : Fin cfg0.N, (cfg0.win 4).index t = ![t.val % 8, t.val / 8] :=
  (by decide +kernel : ∀ t : Fin grid0.N, (cfg0.win 4).index t = ![t.val % 8, t.val / 8])
theorem idx_5 : ∀ t : Fin cfg0.N, (cfg0.win 5).index t = ![t.val % 8, t.val / 8] :=
  (by decide +kernel : ∀ t : Fin grid0.N, (cfg0.win 5).index t = ![t.val % 8, t.val / 8])
theorem idx_6 : ∀ t : Fin cfg0.N, (cfg0.win 6).index t = ![0, t.val / 8] :=
  (by decide +kernel : ∀ t : Fin grid0.N, (cfg0.win 6).index t = ![0, t.val / 8])
theorem idx_7 : ∀ t : Fin cfg0.N, (cfg0.win 7).index t = ![0, t.val / 8] :=
  (by decide +kernel : ∀ t : Fin grid0.N, (cfg0.win 7).index t = ![0, t.val / 8])

theorem blk_q (hA : Finite (opA m c)) (t : Fin cfg0.N) (r : Fin 1024) (e : Fin 128) :
    iblk m c 0 t (ix2 r e) = (((hd m c t.val).q (1024 * (t.val % 8) + r.val) e.val : ℝ) : EReal) := by
  blk_simp [iblk]
  rw [V_main_arg0]
  refine ent_coe hA _ _ _ ?_ ?_
  · blk_simp [idx_0 t]
    show t.val % 8 * 1024 + r.val = _
    omega
  · blk_simp [idx_0 t]

theorem blk_d (hB : Finite (opB m c)) (t : Fin cfg0.N) (r : Fin 1024) (e : Fin 128) :
    iblk m c 4 t (ix2 r e) = (((hd m c t.val).d (1024 * (t.val % 8) + r.val) e.val : ℝ) : EReal) := by
  blk_simp [iblk]
  rw [V_main_arg1]
  refine ent_coe hB _ _ _ ?_ ?_
  · blk_simp [idx_4 t]
    show t.val % 8 * 1024 + r.val = _
    omega
  · blk_simp [idx_4 t]

theorem blk_k (hA : Finite (opA m c)) (t : Fin cfg0.N) (j : Fin 8192) (e : Fin 128) :
    iblk m c 1 t (ix2 j e) = (((hd m c t.val).k j.val e.val : ℝ) : EReal) := by
  blk_simp [iblk]
  rw [V_main_arg0]
  refine ent_coe hA _ _ _ ?_ ?_
  · blk_simp [idx_1 t]
  · blk_simp [idx_1 t]
    show (16 + t.val / 8) * 128 + e.val = _
    omega

theorem blk_v (hA : Finite (opA m c)) (t : Fin cfg0.N) (j : Fin 8192) (e : Fin 128) :
    iblk m c 2 t (ix2 j e) = (((hd m c t.val).v j.val e.val : ℝ) : EReal) := by
  blk_simp [iblk]
  rw [V_main_arg0]
  refine ent_coe hA _ _ _ ?_ ?_
  · blk_simp [idx_2 t]
  · blk_simp [idx_2 t]
    show (32 + t.val / 8) * 128 + e.val = _
    omega

/-- The totals as the call finds them. -/
theorem total_val (hA : Finite (opA m c)) (i : S8192x2048.Idx) (t : Fin 8192) (h : Fin 16) (e : Fin 128)
    (h0 : (i 0).val = t.val) (h1 : (i 1).val = h.val * 128 + e.val) :
    V m c main_v24 i = ((∑ j ∈ Finset.range 8192, rest (headOf (opA m c) (opB m c) h.val).z t.val j : ℝ) : EReal) := by
  rw [V_total]
  refine (shapeCast_apply _ _ i (ix3 t h e) ?_).trans ?_
  · rw [Shape.rowMajor_val_two, Shape.rowMajor_val_three]
    show (t.val * 16 + h.val) * 128 + e.val = (i 0).val * 2048 + (i 1).val
    omega
  refine (broadcastInDim_apply _ _ _ (ix3 t h e) (ix3 t h 0) ?_).trans ?_
  · intro a
    match a with
    | ⟨0, _⟩ => rfl
    | ⟨1, _⟩ => rfl
    | ⟨2, _⟩ => rfl
  refine (broadcastInDim_apply _ _ _ (ix3 t h 0) (ix2 t h) ?_).trans ?_
  · intro a
    match a with
    | ⟨0, _⟩ => rfl
    | ⟨1, _⟩ => rfl
  refine (transpose_ix2_apply _ _ t h).trans ?_
  have hr : (S16x8192x8192 : Shape).Reduces [2] S16x8192 := by decide
  refine (Ideal.hostReduceAdd_single _ hr _ _ _).trans ?_
  rw [Finset.sum_range, coe_sum]
  refine (congrArg₂ (· + ·) Ideal.ofBits_zero_f32 (Finset.sum_congr rfl fun j _ => ?_)).trans (zero_add _)
  refine (congrArg (Cert.ReferenceIdeal.Read.val_main_v24_0 (F := Ideal) (opA m c)) ?_).trans
    (Cert.ReferenceIdeal.Attn.rest_val (B := opB m c) hA h t j)
  funext a
  apply Fin.ext
  rw [Shape.Reduces.lift_val]
  match a with
  | ⟨0, _⟩ => rfl
  | ⟨1, _⟩ => rfl
  | ⟨2, _⟩ => rfl

theorem blk_total (hA : Finite (opA m c)) (t : Fin cfg0.N) (r : Fin 1024) :
    ltCol (iblk m c 3 t) (ix2 r 0)
      = ((∑ j ∈ Finset.range 8192, rest (hd m c t.val).z (1024 * (t.val % 8) + r.val) j : ℝ) : EReal) := by
  have ht : t.val < 128 := t.isLt
  have hr := r.isLt
  refine (show ltCol (iblk m c 3 t) (ix2 r 0) = iblk m c 3 t (ix2 r (0 : Fin 128)) from congrArg (iblk m c 3 t) ?_).trans ?_
  · exact eq_ix2 _
  blk_simp [iblk]
  refine total_val m c hA _ ⟨1024 * (t.val % 8) + r.val, by omega⟩ ⟨t.val / 8, by omega⟩ 0 ?_ ?_
  · blk_simp [idx_3 t]
    show t.val % 8 * 1024 + r.val = 1024 * (t.val % 8) + r.val
    omega
  · blk_simp [idx_3 t]

/-- What a point reads is its head's data. -/
theorem holds (hA : Finite (opA m c)) (hB : Finite (opB m c)) (t : Fin cfg0.N) : Holds (hd m c t.val) (t.val % 8) (blocks m c t) where
  c := rfl
  q := blk_q m c hA t
  d := blk_d m c hB t
  lt := blk_total m c hA t
  k := blk_k m c hA t
  v := blk_v m c hA t

/-! ## The accumulators -/

/-- Before a point that goes on, the accumulators hold the contributions of the head's earlier points. -/
def Before (n : ℕ) : Prop :=
  AccTo (keysTo (hd m c n) (n % 8)) (if n % 8 = 0 then k0_pay104 (F := Ideal) else (held m c n).1)
    ∧ AccTo (valsTo (hd m c n) (n % 8)) (if n % 8 = 0 then k0_pay105 (F := Ideal) else (held m c n).2)

theorem ran_acc (hA : Finite (opA m c)) (hB : Finite (opB m c)) (t : Fin cfg0.N) (h : Before m c t.val) :
    AccTo (keysTo (hd m c t.val) (t.val % 8 + 1)) (ran m c t).dkt ∧ AccTo (valsTo (hd m c t.val) (t.val % 8 + 1)) (ran m c t).dvt := by
  unfold ran leaves
  rw [coord1]
  exact runPoint_acc (holds m c hA hB t) (Nat.mod_lt _ (by omega)) h.1 h.2

theorem before (hA : Finite (opA m c)) (hB : Finite (opB m c)) (n : ℕ) (hn : n < 128) : Before m c n := by
  induction n with
  | zero =>
    refine ⟨?_, ?_⟩
    · rw [if_pos rfl, keysTo_zero]; exact accTo_zero
    · rw [if_pos rfl, valsTo_zero]; exact accTo_zero'
  | succ n ih =>
    unfold Before
    by_cases h : (n + 1) % 8 = 0
    · rw [if_pos h, if_pos h, h, keysTo_zero, valsTo_zero]
      exact ⟨accTo_zero, accTo_zero'⟩
    · have r := ran_acc m c hA hB ⟨n, by show n < 128; omega⟩ (ih (by omega))
      have s := held_succ m c ⟨n, by show n < 128; omega⟩
      rw [if_neg h, if_neg h, show (n + 1) % 8 = n % 8 + 1 by omega, show hd m c (n + 1) = hd m c n by unfold hd; rw [show (n + 1) / 8 = n / 8 by omega]]
      rw [show held m c (n + 1) = _ from s]
      exact r

/-! ## The results -/

theorem flush_6 : ∀ t : Fin cfg0.N, (cfg0.win 6).flush t = true → t.val % 8 = 7 :=
  (by decide +kernel : ∀ t : Fin grid0.N, (cfg0.win 6).flush t = true → t.val % 8 = 7)
theorem flush_7 : ∀ t : Fin cfg0.N, (cfg0.win 7).flush t = true → t.val % 8 = 7 :=
  (by decide +kernel : ∀ t : Fin grid0.N, (cfg0.win 7).flush t = true → t.val % 8 = 7)

theorem point_dq (hA : Finite (opA m c)) (hB : Finite (opB m c)) (t : Fin cfg0.N) (r : Fin 1024) (e : Fin 128) :
    dqOut (ran m c t) (ix2 r e) = (((hd m c t.val).dq (1024 * (t.val % 8) + r.val) e.val : ℝ) : EReal) := by
  have h := before m c hA hB t.val t.isLt
  unfold ran leaves
  rw [coord1]
  exact runPoint_dq (holds m c hA hB t) (Nat.mod_lt _ (by omega)) h.1 h.2 r e

theorem point_dk (hA : Finite (opA m c)) (hB : Finite (opB m c)) (t : Fin cfg0.N) (h : t.val % 8 = 7) (j : Fin 8192) (e : Fin 128) :
    dkOut (ran m c t).dkt (ix2 j e) = (((hd m c t.val).dk j.val e.val : ℝ) : EReal) := by
  have r := (ran_acc m c hA hB t (before m c hA hB t.val t.isLt)).1
  rw [h] at r
  exact dkOut_apply rfl r j e

theorem point_dv (hA : Finite (opA m c)) (hB : Finite (opB m c)) (t : Fin cfg0.N) (h : t.val % 8 = 7) (j : Fin 8192) (e : Fin 128) :
    dvOut (ran m c t).dvt (ix2 j e) = (((hd m c t.val).dv j.val e.val : ℝ) : EReal) := by
  have r := (ran_acc m c hA hB t (before m c hA hB t.val t.isLt)).2
  rw [h] at r
  exact dvOut_apply r j e

end Cert.KernelIdeal.Attn
-- ==== Proof.RefGrad.lean ====
/- The reference's backward lines at one head, on real numbers: its three results are the head's gradients. -/
module

public import proofs.«01_k».proof.Proof.RefScore

@[expose] public section

set_option maxRecDepth 16384

noncomputable section

namespace Cert.ReferenceIdeal.Attn

open Idealize.ShloMosaic Idealize.ShloMosaic.ValueIdx StickBreak Finset
open Cert.ReferenceIdeal.Read Cert.ReferenceIdeal.Gen

variable {A : Arr 6144} {B : Arr 2048}

/-! ## The cotangent of the scores -/

/-- The cotangents of the weights. -/
theorem g_val (hA : Finite A) (hB : Finite B) (h : Fin 16) (t j : Fin 8192) :
    val_main_v36 (F := Ideal) A B (ix3 h t j) = (((headOf A B h.val).g t.val j.val : ℝ) : EReal) := by
  rw [val_main_v36_apply]
  refine sum_mul_coe _ _ _ _ (fun k => (congrArg (val_main_v33 (F := Ideal) B) ?_).trans (d_val (A := A) hB h t k))
    (fun k => (congrArg (val_main_v11 (F := Ideal) A) ?_).trans (v_val (B := B) hA h j k))
  · exact eq_ix3 _
  · exact eq_ix3 _

/-- The weights times their cotangents. -/
theorem wtd_val (hA : Finite A) (hB : Finite B) (h : Fin 16) (t j : Fin 8192) :
    val_main_v38 (F := Ideal) A B (ix3 h t j) = ((wtd (headOf A B h.val).z (headOf A B h.val).g t.val j.val : ℝ) : EReal) := by
  have z0 : val_main_call5_v0 (F := Ideal) (ix3 h t j) = 0 := Ideal.ofBits_zero_f32
  rw [val_main_v38_apply, val_main_v37_apply, mask_val', select_decide, z0, g_val hA hB, pre_val (B := B) hA, wtd, wgt]
  split
  · refine (EReal.coe_mul _ _).symm.trans (congrArg _ ?_)
    ring
  · rw [zero_mul, EReal.coe_zero]
    exact zero_mul _

/-- The sum of the earlier keys' weighted cotangents. -/
theorem before_val (hA : Finite A) (hB : Finite B) (h : Fin 16) (t j : Fin 8192) :
    val_main_v41 (F := Ideal) A B (ix3 h t j)
      = ((∑ i ∈ range j.val, wtd (headOf A B h.val).z (headOf A B h.val).g t.val i : ℝ) : EReal) := by
  have i0 : val_main_call6_v0 (F := Ideal) = fun _ => (0 : EReal) := funext fun _ => Ideal.ofBits_zero_f32
  have e : val_main_v40 (F := Ideal) A B (ix3 h t j)
      = ((∑ i ∈ range (j.val + 1), wtd (headOf A B h.val).z (headOf A B h.val).g t.val i : ℝ) : EReal) := by
    have w := window_prefix (A := 16) (B := 8192) (N := 8192) (lo := 8191) (val_main_v38 (F := Ideal) A B)
      reduceWindows_S16x8192x8192_S16x8192x8192_w1s1p0_0_w1s1p0_0_w8192s1p8191_0 h t j rfl
      (wtd (headOf A B h.val).z (headOf A B h.val).g t.val) fun i => wtd_val hA hB h t i
    unfold val_main_v40 Host.reduceWindowAdd
    rw [i0, Ideal.hostReduceWindowAdd_def]
    exact w
  rw [val_main_v41_apply, val_main_v39_apply, e, wtd_val hA hB]
  refine (congrArg₂ (· + ·) (EReal.coe_neg _).symm rfl).trans ((EReal.coe_add _ _).symm.trans (congrArg _ ?_))
  rw [Finset.sum_range_succ]
  ring

/-- The cotangent of the scores, scaled. -/
theorem dz_val (hA : Finite A) (hB : Finite B) (h : Fin 16) (t j : Fin 8192) :
    val_main_v48 (F := Ideal) A B (ix3 h t j)
      = ((dz (headOf A B h.val).z (headOf A B h.val).g t.val j.val * scale : ℝ) : EReal) := by
  have z0 : val_main_call7_v0 (F := Ideal) (ix3 h t j) = 0 := Ideal.ofBits_zero_f32
  have c0 : val_main_v47 (F := Ideal) (ix3 h t j) = ((scale : ℝ) : EReal) := scale_coe
  have m0 : val_main_v42 (F := Ideal) A B (ix3 h t j)
      = (((if j.val < t.val then ∑ i ∈ range j.val, wtd (headOf A B h.val).z (headOf A B h.val).g t.val i else 0 : ℝ)) : EReal) := by
    rw [val_main_v42_apply, mask_val, select_decide, z0, before_val hA hB]
    split
    · rfl
    · exact EReal.coe_zero.symm
  rw [val_main_v48_apply, val_main_v46_apply, val_main_v44_apply, val_main_v43_apply, val_main_call8_v1_apply, val_main_call8_v0_apply,
    val_main_v45_apply, val_main_call9_v1_apply, val_main_call9_v0_apply, c0, m0, wtd_val hA hB, sig_val (B := B) hA, one_sub_val (B := B) hA]
  show (-(-(-_ * _)) + -(-_ * _)) * _ = _
  simp only [← EReal.coe_neg, ← EReal.coe_mul, ← EReal.coe_add]
  refine congrArg _ ?_
  unfold dz
  split
  · ring
  · rename_i hj
    rw [wtd_of_le _ _ (Nat.le_of_not_lt hj)]
    ring

/-! ## The gradients -/

theorem dq_val (hA : Finite A) (hB : Finite B) (h : Fin 16) (t : Fin 8192) (e : Fin 128) :
    val_main_v50 (F := Ideal) A B (ix3 h t e) = (((headOf A B h.val).dq t.val e.val : ℝ) : EReal) := by
  rw [val_main_v50_apply]
  refine (sum_mul_coe _ _ (fun j => dz (headOf A B h.val).z (headOf A B h.val).g t.val j * scale) (fun j => (headOf A B h.val).k j e.val)
    (fun j => (congrArg (val_main_v48 (F := Ideal) A B) ?_).trans (dz_val hA hB h t j))
    (fun j => (congrArg (val_main_v7 (F := Ideal) A) ?_).trans (k_val (B := B) hA h j e))).trans (congrArg _ ?_)
  · exact eq_ix3 _
  · exact eq_ix3 _
  · rw [Head.dq, Finset.sum_mul]
    exact Finset.sum_congr rfl fun j _ => by show _ = _ * scale; ring

theorem dk_val (hA : Finite A) (hB : Finite B) (h : Fin 16) (j : Fin 8192) (e : Fin 128) :
    val_main_v49 (F := Ideal) A B (ix3 h j e) = (((headOf A B h.val).dk j.val e.val : ℝ) : EReal) := by
  rw [val_main_v49_apply]
  refine (sum_mul_coe _ _ (fun t => dz (headOf A B h.val).z (headOf A B h.val).g t j.val * scale) (fun t => (headOf A B h.val).q t e.val)
    (fun t => (congrArg (val_main_v48 (F := Ideal) A B) ?_).trans (dz_val hA hB h t j))
    (fun t => (congrArg (val_main_v3 (F := Ideal) A) ?_).trans (q_val (B := B) hA h t e))).trans (congrArg _ ?_)
  · exact eq_ix3 _
  · exact eq_ix3 _
  · rw [Head.dk, Finset.sum_mul]
    exact Finset.sum_congr rfl fun t _ => by show _ = _ * scale; ring

theorem dv_val (hA : Finite A) (hB : Finite B) (h : Fin 16) (j : Fin 8192) (e : Fin 128) :
    val_main_v35 (F := Ideal) A B (ix3 h j e) = (((headOf A B h.val).dv j.val e.val : ℝ) : EReal) := by
  rw [val_main_v35_apply, val_main_v34_apply]
  refine sum_mul_coe _ _ (fun t => (headOf A B h.val).d t e.val) (fun t => wgt (headOf A B h.val).z t j.val)
    (fun t => (congrArg (val_main_v33 (F := Ideal) B) ?_).trans (d_val (A := A) hB h t e))
    (fun t => (congrArg (val_main_v29_0 (F := Ideal) A) ?_).trans (wgt_val (B := B) hA h t j))
  · exact eq_ix3 _
  · exact eq_ix3 _

/-! ## The results -/

/-- The first result: the gradient of the queries, the heads side by side. -/
theorem res_dq (hA : Finite A) (hB : Finite B) (t : Fin 8192) (h : Fin 16) (e : Fin 128) (i : S8192x2048.Idx)
    (h0 : (i 0).val = t.val) (h1 : (i 1).val = h.val * 128 + e.val) :
    val_main_v53 (F := Ideal) A B i = (((headOf A B h.val).dq t.val e.val : ℝ) : EReal) := by
  have := h.isLt; have := t.isLt; have := e.isLt
  rw [val_main_v53_apply, val_main_v52_apply, val_main_v51_apply]
  refine Eq.trans (congrArg (val_main_v50 (F := Ideal) A B) ?_) (dq_val hA hB h t e)
  funext a
  apply Fin.ext
  match a with
  | ⟨0, _⟩ => show ((i 0).val * 2048 + (i 1).val) / 128 % 16 = h.val; omega
  | ⟨1, _⟩ => show ((i 0).val * 2048 + (i 1).val) / 2048 = t.val; omega
  | ⟨2, _⟩ => show ((i 0).val * 2048 + (i 1).val) % 128 = e.val; omega

/-- The second result: the gradient of the keys. -/
theorem res_dk (hA : Finite A) (hB : Finite B) (t : Fin 8192) (h : Fin 16) (e : Fin 128) (i : S8192x2048.Idx)
    (h0 : (i 0).val = t.val) (h1 : (i 1).val = h.val * 128 + e.val) :
    val_main_v56 (F := Ideal) A B i = (((headOf A B h.val).dk t.val e.val : ℝ) : EReal) := by
  have := h.isLt; have := t.isLt; have := e.isLt
  rw [val_main_v56_apply, val_main_v55_apply, val_main_v54_apply]
  refine Eq.trans (congrArg (val_main_v49 (F := Ideal) A B) ?_) (dk_val hA hB h t e)
  funext a
  apply Fin.ext
  match a with
  | ⟨0, _⟩ => show ((i 0).val * 2048 + (i 1).val) / 128 % 16 = h.val; omega
  | ⟨1, _⟩ => show ((i 0).val * 2048 + (i 1).val) / 2048 = t.val; omega
  | ⟨2, _⟩ => show ((i 0).val * 2048 + (i 1).val) % 128 = e.val; omega

/-- The third result: the gradient of the values. -/
theorem res_dv (hA : Finite A) (hB : Finite B) (t : Fin 8192) (h : Fin 16) (e : Fin 128) (i : S8192x2048.Idx)
    (h0 : (i 0).val = t.val) (h1 : (i 1).val = h.val * 128 + e.val) :
    val_main_v59 (F := Ideal) A B i = (((headOf A B h.val).dv t.val e.val : ℝ) : EReal) := by
  have := h.isLt; have := t.isLt; have := e.isLt
  rw [val_main_v59_apply, val_main_v58_apply, val_main_v57_apply]
  refine Eq.trans (congrArg (val_main_v35 (F := Ideal) A B) ?_) (dv_val hA hB h t e)
  funext a
  apply Fin.ext
  match a with
  | ⟨0, _⟩ => show ((i 0).val * 2048 + (i 1).val) / 128 % 16 = h.val; omega
  | ⟨1, _⟩ => show ((i 0).val * 2048 + (i 1).val) / 2048 = t.val; omega
  | ⟨2, _⟩ => show ((i 0).val * 2048 + (i 1).val) % 128 = e.val; omega

end Cert.ReferenceIdeal.Attn
-- ==== Proof.KerFinal.lean ====
/- What the call leaves in its three result arrays: the reference's three results. -/
module

public import proofs.«01_k».proof.Proof.KerValue
public import proofs.«01_k».proof.Proof.RefGrad

@[expose] public section

set_option maxRecDepth 16384

noncomputable section

namespace Cert.KernelIdeal.Attn

open Idealize.ShloMosaic hiding ix0 ix1 ix2 ix3 eq_ix2 eq_ix3
open Idealize.ShloMosaic.TcCoe Idealize.ShloMosaic.ValueIdx StickBreak
open Cert.KernelIdeal.Gen
open Idealize.ShloMosaic.Pipeline (Dat)
open Cert.ReferenceIdeal.Read (val_main_v53 val_main_v56 val_main_v59)
open Cert.ReferenceIdeal.Attn (res_dq res_dk res_dv)

variable (m : (ℓ : Loc nD τ sig) → Buf (Elt Ideal) ℓ) (c : Dev nD)

/-- At the call's end the array of `dq` is the reference's. -/
theorem final_dq (hA : Finite (opA m c)) (hB : Finite (opB m c)) :
    (dats m 0 c).arrAt 5 cfg0.N = val_main_v53 (F := Ideal) (opA m c) (opB m c) := by
  refine (dats m 0 c).arrAt_eq_of_covers 5 _ (by decide +kernel) fun t hf y => ?_
  have ht : t.val < 128 := t.isLt
  have hy : (y 0).val < 1024 := (y 0).isLt
  refine (show _ = dqOut (ran m c t) (ix2 (y 0) (y 1)) from ?_).trans ((point_dq m c hA hB t (y 0) (y 1)).trans
    (res_dq hA hB ⟨1024 * (t.val % 8) + (y 0).val, by omega⟩ ⟨t.val / 8, by omega⟩ (y 1) _ ?_ ?_).symm)
  · blk_simp
    exact congrArg (dqOut (ran m c t)) (eq_ix2 y)
  · blk_simp [idx_5 t]
    exact congrArg (· + (y 0).val) (Nat.mul_comm (t.val % 8) 1024)
  · blk_simp [idx_5 t]

/-- At the call's end the array of `dk` is the reference's. -/
theorem final_dk (hA : Finite (opA m c)) (hB : Finite (opB m c)) :
    (dats m 0 c).arrAt 6 cfg0.N = val_main_v56 (F := Ideal) (opA m c) (opB m c) := by
  refine (dats m 0 c).arrAt_eq_of_covers 6 _ (by decide +kernel) fun t hf y => ?_
  have ht : t.val < 128 := t.isLt
  refine (show _ = dkOut (ran m c t).dkt (ix2 (y 0) (y 1)) from ?_).trans ((point_dk m c hA hB t (flush_6 t hf) (y 0) (y 1)).trans
    (res_dk hA hB (y 0) ⟨t.val / 8, by omega⟩ (y 1) _ ?_ ?_).symm)
  · blk_simp
    exact congrArg (dkOut (ran m c t).dkt) (eq_ix2 y)
  · blk_simp [idx_6 t]
  · blk_simp [idx_6 t]

/-- At the call's end the array of `dv` is the reference's. -/
theorem final_dv (hA : Finite (opA m c)) (hB : Finite (opB m c)) :
    (dats m 0 c).arrAt 7 cfg0.N = val_main_v59 (F := Ideal) (opA m c) (opB m c) := by
  refine (dats m 0 c).arrAt_eq_of_covers 7 _ (by decide +kernel) fun t hf y => ?_
  have ht : t.val < 128 := t.isLt
  refine (show _ = dvOut (ran m c t).dvt (ix2 (y 0) (y 1)) from ?_).trans ((point_dv m c hA hB t (flush_7 t hf) (y 0) (y 1)).trans
    (res_dv hA hB (y 0) ⟨t.val / 8, by omega⟩ (y 1) _ ?_ ?_).symm)
  · blk_simp
    exact congrArg (dvOut (ran m c t).dvt) (eq_ix2 y)
  · blk_simp [idx_7 t]
  · blk_simp [idx_7 t]

end Cert.KernelIdeal.Attn
-- ==== Proof.Equal.lean ====
/- The two programs compute the same three gradients whenever the arguments hold finite numbers. -/
module

public import proofs.«01_k».proof.Defs
public import proofs.«01_k».proof.Proof.KerFinal
public import proofs.«01_k».proof.Proof.Frames
public import proofs.«01_k».proof.Proof.Gen.Pre_finite
public import Idealize.ShloMosaic.Lib.ReduceAll

@[expose] public section

set_option maxRecDepth 16384

noncomputable section

namespace Cert.Pre_finite

open Idealize.ShloMosaic StickBreak
open Cert.Pre_finite.Gen

/-- One index, the empty one: two indices of a shape without axes agree. -/
instance : Subsingleton S_.Idx := ⟨fun i j => funext fun a => a.elim0⟩

/-- The bits of the bound are those of infinity. -/
theorem bound_val : Ideal.ofBits .bf16 0x7F80#16 = ⊤ := by simp [Ideal.ofBits, Ideal.ieee]

/-- An extended real below infinity in absolute value is a real number. -/
theorem real_of_lt (x : EReal) (h : Ideal.cmp .olt (max x (-x)) (Ideal.ofBits .bf16 0x7F80#16) = 1#1) :
    x = (x.toReal : EReal) := by
  rw [bound_val] at h
  exact coe_of_abs_lt_top ((Ideal.cmp_olt_eq_one _ _).1 h)

/-- The precondition says that every entry of both arguments is a real number. -/
theorem finite_of_fn (a : Arr 6144) (b : Arr 2048)
    (h : Cert.Pre_finite.fn (F := Ideal) a b = fun _ => 1#1) : Finite a ∧ Finite b := by
  obtain ⟨ha, hb⟩ := IntOp.andi_eq_one.1 (congrFun h (Shape.Idx.first h_S_))
  exact ⟨fun i => real_of_lt _ (Host.reduce_andi_all _ _ _ _ _ ha i),
    fun i => real_of_lt _ (Host.reduce_andi_all _ _ _ _ _ hb i)⟩

end Cert.Pre_finite

namespace Cert.Proof

open Idealize.ShloMosaic Idealize.ShloMosaic.TcCoe Idealize.SL.Sem
open Cert.KernelIdeal.Attn (opA opB)
open Cert.ReferenceIdeal.Read (val_main_v53 val_main_v56 val_main_v59)

/-- Over the extended reals and at finite arguments the kernel and the reference end with equal gradients of q, k and v. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre harg
  refine ⟨fun c => val_main_v53 (F := Ideal) (opA m c) (opB m c), fun c => val_main_v56 (F := Ideal) (opA m c) (opB m c),
    fun c => val_main_v59 (F := Ideal) (opA m c) (opB m c), ?_, ?_⟩
  · refine (θ_run Cert.KernelIdeal.defs _ _).mono (fun r h c => ?_) (Cert.KernelIdeal.Attn.run_main (F := Ideal) m g)
    obtain ⟨hA, hB⟩ := Cert.Pre_finite.finite_of_fn _ _ (hpre c)
    exact ⟨((h.1 c).1 5).trans (Cert.KernelIdeal.Attn.final_dq m c hA hB),
      ((h.1 c).1 6).trans (Cert.KernelIdeal.Attn.final_dk m c hA hB),
      ((h.1 c).1 7).trans (Cert.KernelIdeal.Attn.final_dv m c hA hB),
      ((h.1 c).1 2).trans (((Cert.KernelIdeal.Attn.dats m 0 c).arrAt_in 2 rfl _).trans
        ((Cert.KernelIdeal.Attn.A_eq m c 2).trans (Cert.KernelIdeal.Gen.V_main_arg0 m c))),
      ((h.1 c).1 4).trans (((Cert.KernelIdeal.Attn.dats m 0 c).arrAt_in 4 rfl _).trans
        ((Cert.KernelIdeal.Attn.A_eq m c 4).trans (Cert.KernelIdeal.Gen.V_main_arg1 m c)))⟩
  · refine (θ_run Cert.ReferenceIdeal.defs _ _).mono (fun r h c => ?_) (Cert.ReferenceIdeal.Value.run (F := Ideal) m' g')
    obtain ⟨h0, h1⟩ := harg c
    obtain ⟨r0, r1, r2, r3⟩ := h c
    refine ⟨r0.trans ((Cert.ReferenceIdeal.Read.val_main_v53_eq m' c).trans ?_),
      r1.trans ((Cert.ReferenceIdeal.Read.val_main_v56_eq m' c).trans ?_),
      r2.trans ((Cert.ReferenceIdeal.Read.val_main_v59_eq m' c).trans ?_), r3⟩ <;>
    exact congrArg₂ _ h0 h1

end Cert.Proof

end
-- ==== Proof.Swiglu.lean ====
/- The gradient through SwiGLU's activation: at finite gradients, weights and up-projections, what the call leaves in its two result arrays is the reference's arrays. -/
module

public import proofs.«01_k».proof.Defs
public import proofs.«01_k».proof.Proof.Equal
public import proofs.«01_k».proof.Proof.Gen.Kernel2Ideal.Value
public import proofs.«01_k».proof.Proof.Gen.Reference2Ideal.Read
public import proofs.«01_k».proof.Proof.Gen.Reference2Ideal.Run
public import proofs.«01_k».proof.Proof.Gen.Pre_finite2
public import Idealize.ShloMosaic.Lib.Pipeline.ValueKit
public import Idealize.ShloMosaic.Lib.ReduceAll

@[expose] public section

set_option maxRecDepth 16384

noncomputable section

namespace Swiglu

open Idealize.ShloMosaic

/-- The gradient with respect to the gate, of the hidden value's gradient `d`, the gate `g` and the up-projection `u`. -/
def dgate (d g u : EReal) : EReal := d * u * (Ideal.logistic g + g * Ideal.logistic g * (1 - Ideal.logistic g))

/-- The gradient with respect to the up-projection. -/
def dup (d g : EReal) : EReal := d * (g * Ideal.logistic g)

/-- The logistic function's values are real numbers, at the infinities too. -/
theorem logistic_real (g : EReal) : ∃ s : ℝ, Ideal.logistic g = s := by
  induction g with
  | bot => exact ⟨0, by simp⟩
  | coe r => exact ⟨_, Ideal.logistic_coe r⟩
  | top => exact ⟨1, by simp⟩

/-- A real factor distributes over a sum whose first term is real. -/
theorem real_mul_add (p a : ℝ) (b : EReal) : (p : EReal) * (a + b) = p * a + p * b := by
  induction b with
  | coe r => norm_cast; exact mul_add p a r
  | bot =>
    rcases lt_trichotomy p 0 with h | rfl | h
    · rw [EReal.add_bot, EReal.coe_mul_bot_of_neg h, ← EReal.coe_mul, EReal.coe_add_top]
    · simp
    · rw [EReal.add_bot, EReal.coe_mul_bot_of_pos h, EReal.add_bot]
  | top =>
    rcases lt_trichotomy p 0 with h | rfl | h
    · rw [EReal.coe_add_top, EReal.coe_mul_top_of_neg h, EReal.add_bot]
    · simp
    · rw [EReal.coe_add_top, EReal.coe_mul_top_of_pos h, ← EReal.coe_mul, EReal.coe_add_top]

/-- With real `d` and `u` the gate's gradient is the sum of two products that the product rule gives. -/
theorem dgate_eq (d u : ℝ) (g : EReal) : dgate d g u
    = (d : EReal) * u * Ideal.logistic g + g * ((d : EReal) * u) * (Ideal.logistic g * (1 - Ideal.logistic g)) := by
  obtain ⟨s, hs⟩ := logistic_real g
  unfold dgate
  rw [hs, ← EReal.coe_mul, real_mul_add, mul_comm g ((d * u : ℝ) : EReal), mul_assoc, mul_assoc]

/-- A sum of products of real numbers is a real number. -/
theorem sum_real {n : ℕ} (a b : Fin n → EReal) (ha : ∀ k, a k = ((a k).toReal : EReal)) (hb : ∀ k, b k = ((b k).toReal : EReal)) :
    ∃ r : ℝ, ∑ k, a k * b k = r := by
  refine ⟨∑ k, (a k).toReal * (b k).toReal, ?_⟩
  rw [StickBreak.coe_sum]
  refine Finset.sum_congr rfl fun k _ => ?_
  rw [EReal.coe_mul, ← ha k, ← hb k]

end Swiglu

namespace Cert.Kernel2Ideal.Act

open Idealize.ShloMosaic Idealize.ShloMosaic.TcCoe Idealize.SL.Sem
open Cert.Kernel2Ideal.Gen
open Idealize.ShloMosaic.Pipeline (Dat)
open Cert.Reference2Ideal.Read

variable (m : (ℓ : Loc nD τ sig) → Buf (Elt Ideal) ℓ) (c : Dev nD)

/-- Which blocks grid point `t` reads and writes. -/
theorem idx : ∀ t : Fin cfg0.N, win0_0.index t = ![t.val % 8, 0] ∧ win0_1.index t = ![t.val / 8, 0]
    ∧ win0_2.index t = ![t.val % 8, t.val / 8] ∧ win0_3.index t = ![t.val % 8, t.val / 8]
    ∧ win0_4.index t = ![t.val % 8, t.val / 8] ∧ win0_5.index t = ![t.val % 8, t.val / 8] := by
  decide +kernel

/-- The gate's gradient at an entry of a part of 256 rows. -/
theorem part_gate (v0 : Vec Ideal S256x2048 .bf16) (v1 : Vec Ideal S512x2048 .bf16) (v3 v12 : Vec Ideal S256x512 .bf16) (y : S256x512.Idx) :
    k0_pay13 (F := Ideal) v0 v1 v3 v12 y
      = Swiglu.dgate (∑ k : Fin 2048, v0 (ix2 (y 0) k) * v1 (ix2 (y 1) k)) (v3 y) (v12 y) := by
  unfold Swiglu.dgate Ideal.logistic
  pointwise [k0_pay13, k0_pay9, k0_pay10, k0_pay11, k0_pay12]
  rw [zero_sub]

/-- The up-projection's gradient at an entry of a part of 256 rows. -/
theorem part_up (v0 : Vec Ideal S256x2048 .bf16) (v1 : Vec Ideal S512x2048 .bf16) (v3 : Vec Ideal S256x512 .bf16) (y : S256x512.Idx) :
    k0_pay14 (F := Ideal) v0 v1 v3 y = Swiglu.dup (∑ k : Fin 2048, v0 (ix2 (y 0) k) * v1 (ix2 (y 1) k)) (v3 y) := by
  unfold Swiglu.dup Ideal.logistic
  pointwise [k0_pay14, k0_pay9, k0_pay10, k0_pay11, k0_pay12]
  rw [zero_sub]

/-- What a grid point leaves in the first result's block. -/
theorem block_gate (x0 : Vec Ideal S1024x2048 .bf16) (x1 : Vec Ideal S512x2048 .bf16) (x2 x3 : Vec Ideal S1024x512 .bf16) (y : S1024x512.Idx) :
    out0_4 (F := Ideal) x0 x1 x2 x3 y
      = Swiglu.dgate (∑ k : Fin 2048, x0 (ix2 (y 0) k) * x1 (ix2 (y 1) k)) (x2 y) (x3 y) := by
  unfold out0_4
  canon_tiles x h
  all_goals
    refine (part_gate _ _ _ _ x).trans ?_
    congr 1
    · exact Finset.sum_congr rfl fun k _ => congrArg₂ (· * ·)
        (View.ld_unit_apply_of _ _ _ _ _ _ (Fin.forall_fin_two.2 ⟨by first | exact h0 | exact h0.trans (Nat.zero_add _).symm, (Nat.zero_add _).symm⟩))
        (View.ld_unit_apply_of _ _ _ _ _ _ (Fin.forall_fin_two.2 ⟨h1.trans (Nat.zero_add _).symm, (Nat.zero_add _).symm⟩))
    · exact View.ld_unit_apply_of _ _ _ _ _ _ (Fin.forall_fin_two.2 ⟨by first | exact h0 | exact h0.trans (Nat.zero_add _).symm, h1.trans (Nat.zero_add _).symm⟩)
    · exact View.ld_unit_apply_of _ _ _ _ _ _ (Fin.forall_fin_two.2 ⟨by first | exact h0 | exact h0.trans (Nat.zero_add _).symm, h1.trans (Nat.zero_add _).symm⟩)

/-- What a grid point leaves in the second result's block. -/
theorem block_up (x0 : Vec Ideal S1024x2048 .bf16) (x1 : Vec Ideal S512x2048 .bf16) (x2 x3 : Vec Ideal S1024x512 .bf16) (y : S1024x512.Idx) :
    out0_5 (F := Ideal) x0 x1 x2 x3 y = Swiglu.dup (∑ k : Fin 2048, x0 (ix2 (y 0) k) * x1 (ix2 (y 1) k)) (x2 y) := by
  unfold out0_5
  canon_tiles x h
  all_goals
    refine (part_up _ _ _ x).trans ?_
    congr 1
    · exact Finset.sum_congr rfl fun k _ => congrArg₂ (· * ·)
        (View.ld_unit_apply_of _ _ _ _ _ _ (Fin.forall_fin_two.2 ⟨by first | exact h0 | exact h0.trans (Nat.zero_add _).symm, (Nat.zero_add _).symm⟩))
        (View.ld_unit_apply_of _ _ _ _ _ _ (Fin.forall_fin_two.2 ⟨h1.trans (Nat.zero_add _).symm, (Nat.zero_add _).symm⟩))
    · exact View.ld_unit_apply_of _ _ _ _ _ _ (Fin.forall_fin_two.2 ⟨by first | exact h0 | exact h0.trans (Nat.zero_add _).symm, h1.trans (Nat.zero_add _).symm⟩)

/-- The gradient of the hidden value, in the reference. -/
theorem ref_hidden (x0 : (⟨Cert.Reference2Ideal.S8192x2048, .bf16⟩ : BufTy).Contents (Elt Ideal))
    (x1 : (⟨Cert.Reference2Ideal.S5632x2048, .bf16⟩ : BufTy).Contents (Elt Ideal)) (i : Cert.Reference2Ideal.S8192x5632.Idx) :
    val_main_v7 (F := Ideal) x0 x1 i = ∑ k : Fin 2048, x0 (ix2 (i 0) k) * x1 (ix2 (i 1) k) := by
  refine (val_main_v7_apply x0 x1 i).trans (Finset.sum_congr rfl fun k _ => ?_)
  refine congrArg₂ (· * ·) (congrArg x0 ?_) (congrArg x1 ?_) <;>
    blk_ext []

/-- The reference's logistic function of the gate. -/
theorem ref_logistic (x2 : (⟨Cert.Reference2Ideal.S8192x5632, .bf16⟩ : BufTy).Contents (Elt Ideal)) (i : Cert.Reference2Ideal.S8192x5632.Idx) :
    val_main_v3_2 (F := Ideal) x2 i = Ideal.logistic (x2 i) := by
  unfold Ideal.logistic
  pointwise [val_main_v3_2_apply, val_main_call0_v4_apply, val_main_call0_v3_apply, val_main_call0_cst_0_apply,
    val_main_call0_v2_apply, val_main_call0_cst_apply, val_main_call0_v1_apply, val_main_call0_v0_apply, val_main_v1_apply]

/-- The reference's second array at an entry. -/
theorem ref_up (x0 : (⟨Cert.Reference2Ideal.S8192x2048, .bf16⟩ : BufTy).Contents (Elt Ideal))
    (x1 : (⟨Cert.Reference2Ideal.S5632x2048, .bf16⟩ : BufTy).Contents (Elt Ideal))
    (x2 : (⟨Cert.Reference2Ideal.S8192x5632, .bf16⟩ : BufTy).Contents (Elt Ideal)) (i : Cert.Reference2Ideal.S8192x5632.Idx) :
    val_main_v12 (F := Ideal) x0 x1 x2 i = Swiglu.dup (∑ k : Fin 2048, x0 (ix2 (i 0) k) * x1 (ix2 (i 1) k)) (x2 i) := by
  refine Eq.trans (b := x2 i * val_main_v3_2 (F := Ideal) x2 i * val_main_v7 (F := Ideal) x0 x1 i) rfl ?_
  rw [ref_logistic, ref_hidden, mul_comm]
  rfl

/-- The reference's first array at an entry, where the gradient, the weight and the up-projection are real. -/
theorem ref_gate (x0 : (⟨Cert.Reference2Ideal.S8192x2048, .bf16⟩ : BufTy).Contents (Elt Ideal))
    (x1 : (⟨Cert.Reference2Ideal.S5632x2048, .bf16⟩ : BufTy).Contents (Elt Ideal))
    (x2 x3 : (⟨Cert.Reference2Ideal.S8192x5632, .bf16⟩ : BufTy).Contents (Elt Ideal)) (h0 : ∀ i, x0 i = ((x0 i : EReal).toReal : EReal))
    (h1 : ∀ i, x1 i = ((x1 i : EReal).toReal : EReal)) (h3 : ∀ i, x3 i = ((x3 i : EReal).toReal : EReal)) (i : Cert.Reference2Ideal.S8192x5632.Idx) :
    val_main_v11 (F := Ideal) x0 x1 x2 x3 i
      = Swiglu.dgate (∑ k : Fin 2048, x0 (ix2 (i 0) k) * x1 (ix2 (i 1) k)) (x2 i) (x3 i) := by
  refine Eq.trans (b := val_main_v7 (F := Ideal) x0 x1 i * x3 i * val_main_v3_2 (F := Ideal) x2 i
    + x2 i * (val_main_v7 (F := Ideal) x0 x1 i * x3 i) * (val_main_v3_2 (F := Ideal) x2 i
      * (Ideal.ofBits .f32 0x3F800000#32 - val_main_v3_2 (F := Ideal) x2 i))) rfl ?_
  obtain ⟨r, hr⟩ := Swiglu.sum_real (fun k : Fin 2048 => x0 (ix2 (i 0) k)) (fun k => x1 (ix2 (i 1) k)) (fun _ => h0 _) (fun _ => h1 _)
  rw [ref_logistic, ref_hidden, Ideal.ofBits_one_f32]
  have hr' : (∑ k : Fin 2048, x0 (ix2 (i 0) k) * x1 (ix2 (i 1) k) : EReal) = (r : EReal) := hr
  rw [hr', h3 i]
  exact (Swiglu.dgate_eq r _ _).symm

/-- At the call's end the first result array is the reference's. -/
theorem final_gate (h0 : ∀ i, m ((c.tc : Thread nD τ).loc main_arg0) i = ((m ((c.tc : Thread nD τ).loc main_arg0) i : EReal).toReal : EReal))
    (h1 : ∀ i, m ((c.tc : Thread nD τ).loc main_arg1) i = ((m ((c.tc : Thread nD τ).loc main_arg1) i : EReal).toReal : EReal))
    (h3 : ∀ i, m ((c.tc : Thread nD τ).loc main_arg3) i = ((m ((c.tc : Thread nD τ).loc main_arg3) i : EReal).toReal : EReal)) :
    (dats m 0 c).arrAt 4 cfg0.N = val_main_v11 (F := Ideal) (m ((c.tc : Thread nD τ).loc main_arg0)) (m ((c.tc : Thread nD τ).loc main_arg1))
      (m ((c.tc : Thread nD τ).loc main_arg2)) (m ((c.tc : Thread nD τ).loc main_arg3)) := by
  refine (dats m 0 c).arrAt_eq_of_covers 4 _ (by decide +kernel) fun t hf y => ?_
  blk_simp
  rw [after0_4, block_gate, ref_gate _ _ _ _ h0 h1 h3]
  congr 1
  refine Finset.sum_congr rfl fun k _ => ?_
  congr 1 <;> blk_ext [iblk, V, idx t]

/-- At the call's end the second result array is the reference's. -/
theorem final_up : (dats m 0 c).arrAt 5 cfg0.N = val_main_v12 (F := Ideal) (m ((c.tc : Thread nD τ).loc main_arg0))
    (m ((c.tc : Thread nD τ).loc main_arg1)) (m ((c.tc : Thread nD τ).loc main_arg2)) := by
  refine (dats m 0 c).arrAt_eq_of_covers 5 _ (by decide +kernel) fun t hf y => ?_
  blk_simp
  rw [after0_5, block_up, ref_up]
  congr 1
  refine Finset.sum_congr rfl fun k _ => ?_
  congr 1 <;> blk_ext [iblk, V, idx t]

end Cert.Kernel2Ideal.Act

namespace Cert.Pre_finite2

open Idealize.ShloMosaic
open Cert.Pre_finite2.Gen

/-- One index, the empty one: two indices of a shape without axes agree. -/
instance : Subsingleton S_.Idx := ⟨fun i j => funext fun a => a.elim0⟩

/-- The precondition says that every entry of the gradient, of the weight and of the up-projection is a real number. -/
theorem finite_of_fn (x0 : FVec Ideal S8192x2048 .bf16) (x1 : FVec Ideal S5632x2048 .bf16) (x2 x3 : FVec Ideal S8192x5632 .bf16)
    (h : Cert.Pre_finite2.fn (F := Ideal) x0 x1 x2 x3 = fun _ => 1#1) :
    (∀ i, x0 i = ((x0 i : EReal).toReal : EReal)) ∧ (∀ i, x1 i = ((x1 i : EReal).toReal : EReal))
      ∧ ∀ i, x3 i = ((x3 i : EReal).toReal : EReal) := by
  obtain ⟨ha, h3⟩ := IntOp.andi_eq_one.1 (congrFun h (Shape.Idx.first h_S_))
  obtain ⟨h0, h1⟩ := IntOp.andi_eq_one.1 ha
  exact ⟨fun i => Cert.Pre_finite.real_of_lt _ (Host.reduce_andi_all _ _ _ _ _ h0 i),
    fun i => Cert.Pre_finite.real_of_lt _ (Host.reduce_andi_all _ _ _ _ _ h1 i),
    fun i => Cert.Pre_finite.real_of_lt _ (Host.reduce_andi_all _ _ _ _ _ h3 i)⟩

end Cert.Pre_finite2

namespace Cert.Proof

open Idealize.ShloMosaic Idealize.ShloMosaic.TcCoe Idealize.SL.Sem
open Cert.Reference2Ideal.Read

/-- Over the extended reals and at a finite gradient, weight and up-projection the call and the reference end with equal gradients
of the gate and of the up-projection. -/
theorem algebraic2 : Cert.algebraic_Kernel2Ideal_Reference2Ideal_pre_finite2 (hKernel2Ideal := Cert.Kernel2Ideal.Gen.facts)
    (hReference2Ideal := Cert.Reference2Ideal.Gen.facts) (hPre_finite2 := Cert.Pre_finite2.Gen.facts) := by
  intro m g m' g' hpre harg
  refine ⟨fun c => val_main_v11 (F := Ideal) (m ((c.tc : Thread _ _).loc Cert.Kernel2Ideal.main_arg0))
      (m ((c.tc : Thread _ _).loc Cert.Kernel2Ideal.main_arg1)) (m ((c.tc : Thread _ _).loc Cert.Kernel2Ideal.main_arg2))
      (m ((c.tc : Thread _ _).loc Cert.Kernel2Ideal.main_arg3)),
    fun c => val_main_v12 (F := Ideal) (m ((c.tc : Thread _ _).loc Cert.Kernel2Ideal.main_arg0))
      (m ((c.tc : Thread _ _).loc Cert.Kernel2Ideal.main_arg1)) (m ((c.tc : Thread _ _).loc Cert.Kernel2Ideal.main_arg2)), ?_, ?_⟩
  · refine (θ_run Cert.Kernel2Ideal.defs _ _).mono (fun r h c => ?_) (Cert.Kernel2Ideal.Value.run_blocks (F := Ideal) m g)
    obtain ⟨h0, h1, h3⟩ := Cert.Pre_finite2.finite_of_fn _ _ _ _ (hpre c)
    exact ⟨(h c).1.trans (Cert.Kernel2Ideal.Act.final_gate m c h0 h1 h3), (h c).2.1.trans (Cert.Kernel2Ideal.Act.final_up m c), (h c).2.2⟩
  · refine (θ_run Cert.Reference2Ideal.defs _ _).mono (fun r h c => ?_) (Cert.Reference2Ideal.Value.run (F := Ideal) m' g')
    obtain ⟨a0, a1, a2, a3⟩ := harg c
    exact ⟨(h c).1.trans ((val_main_v11_eq _ _ _ _).trans (by rw [a0, a1, a2, a3])),
      (h c).2.1.trans ((val_main_v12_eq _ _ _).trans (by rw [a0, a1, a2])), (h c).2.2⟩

end Cert.Proof
-- ==== Proof.DownGrad.lean ====
/- The weight gradient of the layer's last product: what the call leaves in its result array is the reference's array. -/
module

public import proofs.«01_k».proof.Proof.Gen.Kernel3Ideal.Value
public import proofs.«01_k».proof.Proof.Gen.Reference3Ideal.Read
public import proofs.«01_k».proof.Proof.Gen.Reference3Ideal.Run
public import proofs.«01_k».proof.Defs
public import Idealize.ShloMosaic.Lib.Pipeline.ValueKit

@[expose] public section

set_option maxRecDepth 16384

noncomputable section

namespace Cert.Kernel3Ideal.Down

open Idealize.ShloMosaic Idealize.ShloMosaic.TcCoe Idealize.SL.Sem
open Cert.Kernel3Ideal.Gen
open Idealize.ShloMosaic.Pipeline (Dat)
open Cert.Reference3Ideal.Read

variable (m : (ℓ : Loc nD τ sig) → Buf (Elt Ideal) ℓ) (c : Dev nD)

/-- Which blocks grid point `t` reads and writes. -/
theorem idx : ∀ t : Fin cfg0.N, win0_0.index t = ![t.val % 4, t.val / 8] ∧ win0_1.index t = ![t.val % 4, t.val / 4 % 2]
    ∧ win0_2.index t = ![t.val / 8, t.val / 4 % 2] := by
  decide +kernel

/-- One grid point's product at an entry: the sum over its rows. -/
theorem part (v0 : Vec Ideal S2048x1408 .bf16) (v1 : Vec Ideal S2048x1024 .bf16) (y : S1408x1024.Idx) :
    k0_pay1 (F := Ideal) v0 v1 y = ∑ k : Fin 2048, v0 (ix2 k (y 0)) * v1 (ix2 k (y 1)) := by
  pointwise [k0_pay1]

/-- A later point of a run adds its product to what the run has left. -/
theorem step (v0 : Vec Ideal S2048x1408 .bf16) (v1 : Vec Ideal S2048x1024 .bf16) (v9 : Vec Ideal S1408x1024 .f32) (y : S1408x1024.Idx) :
    k0_pay2 (F := Ideal) v0 v1 v9 y = v9 y + k0_pay1 (F := Ideal) v0 v1 y := by
  unfold k0_pay2
  rw [shapeCast_self]
  rfl

/-- The block a run of four points leaves: the sum of their products. -/
theorem run_eq (t : Fin cfg0.N) (hf : (cfg0.win 2).flush t = true) (y : S1408x1024.Idx) :
    (dats m 0 c).after 2 t y = ∑ s : Fin 4, k0_pay1 (F := Ideal)
      (iblk m c 0 ⟨4 * (t.val / 4) + s.val, Pipeline.run_point_lt_of_flush t ((flush0_2 t).mp hf) s⟩)
      (iblk m c 1 ⟨4 * (t.val / 4) + s.val, Pipeline.run_point_lt_of_flush t ((flush0_2 t).mp hf) s⟩) y := by
  rw [after0_2, Pipeline.eq_sum_fin_of_reset_step_apply_of_flush (fun n h => outsAt0 m c n h) 4 (fun _ => 0)
    (fun t j => k0_pay1 (F := Ideal) (iblk m c 0 t) (iblk m c 1 t) j)
    (fun t h j => by rw [outsAt0_A m c t h (by omega)]; frame_out; exact (zero_add _).symm)
    (fun t h j => by rw [outsAt0_B m c t h (by omega)]; frame_out; rw [step]) t ((flush0_2 t).mp hf) y, zero_add]

/-- The reference's array at an entry: the sum over all rows. -/
theorem ref (x0 : (⟨Cert.Reference3Ideal.S8192x5632, .bf16⟩ : BufTy).Contents (Elt Ideal))
    (x1 : (⟨Cert.Reference3Ideal.S8192x2048, .bf16⟩ : BufTy).Contents (Elt Ideal)) (i : Cert.Reference3Ideal.S5632x2048.Idx) :
    val_main_v5 (F := Ideal) x0 x1 i = ∑ k : Fin 8192, x0 (ix2 k (i 0)) * x1 (ix2 k (i 1)) := by
  rw [val_main_v5_apply, val_main_v4_apply]
  refine Finset.sum_congr rfl fun k _ => (mul_comm _ _).trans (congrArg₂ (· * ·) (congrArg x0 ?_) (congrArg x1 ?_)) <;>
    blk_ext []

/-- At the call's end the result array is the reference's. -/
theorem final : (dats m 0 c).arrAt 2 cfg0.N = val_main_v5 (F := Ideal) (m ((c.tc : Thread nD τ).loc main_arg0)) (m ((c.tc : Thread nD τ).loc main_arg1)) := by
  refine (dats m 0 c).arrAt_eq_of_covers 2 _ (by decide +kernel) fun t hf y => ?_
  blk_simp
  rw [run_eq m c t hf, ref]
  refine (Finset.sum_congr rfl fun s _ => part _ _ _).trans ?_
  refine Fin.sum_mul_add_congr fun s k hl => ?_
  congr 1 <;> blk_ext [iblk, V, idx t, idx ⟨_, Pipeline.run_point_lt_of_flush t ((flush0_2 t).mp hf) s⟩]

end Cert.Kernel3Ideal.Down

namespace Cert.Proof

open Idealize.ShloMosaic Idealize.ShloMosaic.TcCoe Idealize.SL.Sem
open Cert.Reference3Ideal.Read

/-- Over the extended reals the call and the reference end with equal gradients of the weight. -/
theorem algebraic3 : Cert.algebraic_Kernel3Ideal_Reference3Ideal (hKernel3Ideal := Cert.Kernel3Ideal.Gen.facts)
    (hReference3Ideal := Cert.Reference3Ideal.Gen.facts) := by
  intro m g m' g' _ harg
  refine ⟨fun c => val_main_v5 (F := Ideal) (m ((c.tc : Thread _ _).loc Cert.Kernel3Ideal.main_arg0))
    (m ((c.tc : Thread _ _).loc Cert.Kernel3Ideal.main_arg1)), ?_, ?_⟩
  · exact (θ_run Cert.Kernel3Ideal.defs _ _).mono (fun r h c => ⟨(h c).1.trans (Cert.Kernel3Ideal.Down.final m c), (h c).2⟩)
      (Cert.Kernel3Ideal.Value.run_blocks (F := Ideal) m g)
  · exact (θ_run Cert.Reference3Ideal.defs _ _).mono (fun r h c => ⟨(h c).1.trans ((val_main_v5_eq _ _).trans
      (congrArg₂ _ (harg c).1 (harg c).2)), (h c).2⟩) (Cert.Reference3Ideal.Value.run (F := Ideal) m' g')

end Cert.Proof
-- ==== Proof.ShardGrad.lean ====
/- The gradient of a weight kept as four column parts: what the call leaves in its result array is the reference's array. -/
module

public import proofs.«01_k».proof.Defs
public import proofs.«01_k».proof.Proof.Gen.Kernel4Ideal.Value
public import proofs.«01_k».proof.Proof.Gen.Reference4Ideal.Read
public import proofs.«01_k».proof.Proof.Gen.Reference4Ideal.Run
public import Idealize.ShloMosaic.Lib.Pipeline.ValueKit

@[expose] public section

set_option maxRecDepth 16384

noncomputable section

namespace Cert.Kernel4Ideal.Shard

open Idealize.ShloMosaic Idealize.ShloMosaic.TcCoe Idealize.SL.Sem
open Cert.Kernel4Ideal.Gen
open Idealize.ShloMosaic.Pipeline (Dat)
open Cert.Reference4Ideal.Read

variable (m : (ℓ : Loc nD τ sig) → Buf (Elt Ideal) ℓ) (c : Dev nD)

/-- Which blocks grid point `t` reads and writes. -/
theorem idx : ∀ t : Fin cfg0.N, win0_0.index t = ![t.val % 4, t.val / 16] ∧ win0_1.index t = ![t.val % 4, t.val / 4 % 4]
    ∧ win0_2.index t = ![t.val / 4 % 4, t.val / 16, 0] := by
  decide +kernel

/-- One grid point's product at an entry: the sum over its rows. -/
theorem part (v0 : Vec Ideal S2048x1024 .bf16) (v1 : Vec Ideal S2048x1408 .bf16) (y : S1x1024x1408.Idx) :
    k0_pay2 (F := Ideal) v0 v1 y = ∑ k : Fin 2048, v0 (ix2 k (y 1)) * v1 (ix2 k (y 2)) := by
  pointwise [k0_pay2, k0_pay1]

/-- A later point of a run adds its product to what the run has left. -/
theorem step (v0 : Vec Ideal S2048x1024 .bf16) (v1 : Vec Ideal S2048x1408 .bf16) (v9 : Vec Ideal S1x1024x1408 .f32)
    (y : S1x1024x1408.Idx) : k0_pay3 (F := Ideal) v0 v1 v9 y = v9 y + k0_pay2 (F := Ideal) v0 v1 y := by
  rw [part]
  pointwise [k0_pay3, k0_pay1]

/-- The block a run of four points leaves: the sum of their products. -/
theorem run_eq (t : Fin cfg0.N) (hf : (cfg0.win 2).flush t = true) (y : S1x1024x1408.Idx) :
    (dats m 0 c).after 2 t y = ∑ s : Fin 4, k0_pay2 (F := Ideal)
      (iblk m c 0 ⟨4 * (t.val / 4) + s.val, Pipeline.run_point_lt_of_flush t ((flush0_2 t).mp hf) s⟩)
      (iblk m c 1 ⟨4 * (t.val / 4) + s.val, Pipeline.run_point_lt_of_flush t ((flush0_2 t).mp hf) s⟩) y := by
  rw [after0_2, Pipeline.eq_sum_fin_of_reset_step_apply_of_flush (fun n h => outsAt0 m c n h) 4 (fun _ => 0)
    (fun t j => k0_pay2 (F := Ideal) (iblk m c 0 t) (iblk m c 1 t) j)
    (fun t h j => by rw [outsAt0_A m c t h (by omega)]; frame_out; exact (zero_add _).symm)
    (fun t h j => by rw [outsAt0_B m c t h (by omega)]; frame_out; rw [step]) t ((flush0_2 t).mp hf) y, zero_add]

/-- The reference's array at an entry: the sum over all rows, at the entry's column of the whole weight. -/
theorem ref (x0 : (⟨Cert.Reference4Ideal.S8192x2048, .bf16⟩ : BufTy).Contents (Elt Ideal))
    (x1 : (⟨Cert.Reference4Ideal.S8192x5632, .bf16⟩ : BufTy).Contents (Elt Ideal)) (i : Cert.Reference4Ideal.S4x2048x1408.Idx) :
    val_main_v7 (F := Ideal) x0 x1 i = ∑ k : Fin 8192, x0 (ix2 k (i 1))
      * x1 (ix2 k ⟨1408 * (i 0).val + (i 2).val, by have := (i 0).isLt; have := (i 2).isLt; simp at *; omega⟩) := by
  have h0 : (i 0).val < 4 := (i 0).isLt
  have h1 : (i 1).val < 2048 := (i 1).isLt
  have h2 : (i 2).val < 1408 := (i 2).isLt
  rw [val_main_v7_apply, val_main_v6_apply, val_main_v5_apply, val_main_v4_apply]
  refine Finset.sum_congr rfl fun k _ => (mul_comm _ _).trans (congrArg₂ (· * ·) (congrArg x0 ?_) (congrArg x1 ?_)) <;>
    blk_ext []

/-- At the call's end the result array is the reference's. -/
theorem final : (dats m 0 c).arrAt 2 cfg0.N = val_main_v7 (F := Ideal) (m ((c.tc : Thread nD τ).loc main_arg0)) (m ((c.tc : Thread nD τ).loc main_arg1)) := by
  refine (dats m 0 c).arrAt_eq_of_covers 2 _ (by decide +kernel) fun t hf y => ?_
  blk_simp
  rw [run_eq m c t hf, ref]
  refine (Finset.sum_congr rfl fun s _ => part _ _ _).trans ?_
  refine Fin.sum_mul_add_congr fun s k hl => ?_
  congr 1 <;> blk_ext [iblk, V, idx t, idx ⟨_, Pipeline.run_point_lt_of_flush t ((flush0_2 t).mp hf) s⟩]

end Cert.Kernel4Ideal.Shard

namespace Cert.Proof

open Idealize.ShloMosaic Idealize.ShloMosaic.TcCoe Idealize.SL.Sem
open Cert.Reference4Ideal.Read

/-- Over the extended reals the call and the reference end with equal gradients of the weight. -/
theorem algebraic4 : Cert.algebraic_Kernel4Ideal_Reference4Ideal (hKernel4Ideal := Cert.Kernel4Ideal.Gen.facts)
    (hReference4Ideal := Cert.Reference4Ideal.Gen.facts) := by
  intro m g m' g' _ harg
  refine ⟨fun c => val_main_v7 (F := Ideal) (m ((c.tc : Thread _ _).loc Cert.Kernel4Ideal.main_arg0))
    (m ((c.tc : Thread _ _).loc Cert.Kernel4Ideal.main_arg1)), ?_, ?_⟩
  · exact (θ_run Cert.Kernel4Ideal.defs _ _).mono (fun r h c => ⟨(h c).1.trans (Cert.Kernel4Ideal.Shard.final m c), (h c).2⟩)
      (Cert.Kernel4Ideal.Value.run_blocks (F := Ideal) m g)
  · exact (θ_run Cert.Reference4Ideal.defs _ _).mono (fun r h c => ⟨(h c).1.trans ((val_main_v7_eq _ _).trans
      (congrArg₂ _ (harg c).1 (harg c).2)), (h c).2⟩) (Cert.Reference4Ideal.Value.run (F := Ideal) m' g')

end Cert.Proof
-- ==== Proof.InGrad.lean ====
/- The gradient of a layer's input through one product: what the call leaves in its result array is the reference's array. -/
module

public import proofs.«01_k».proof.Defs
public import proofs.«01_k».proof.Proof.Gen.Kernel5Ideal.Value
public import proofs.«01_k».proof.Proof.Gen.Reference5Ideal.Read
public import proofs.«01_k».proof.Proof.Gen.Reference5Ideal.Run
public import Idealize.ShloMosaic.Lib.Pipeline.ValueKit
public import Idealize.ShloMosaic.Lib.Pipeline.ReadBack

@[expose] public section

set_option maxRecDepth 16384

noncomputable section

namespace Cert.Kernel5Ideal.In

open Idealize.ShloMosaic Idealize.ShloMosaic.TcCoe Idealize.SL.Sem
open Cert.Kernel5Ideal.Gen
open Idealize.ShloMosaic.Pipeline (Dat)
open Cert.Reference5Ideal.Read

variable (m : (ℓ : Loc nD τ sig) → Buf (Elt Ideal) ℓ) (c : Dev nD)

/-- Which blocks grid point `t` reads and writes. -/
theorem idx : ∀ t : Fin cfg0.N, win0_0.index t = ![t.val / 4, t.val % 4] ∧ win0_1.index t = ![t.val % 4, 0, 0]
    ∧ win0_2.index t = ![t.val / 4, 0] := by
  decide +kernel

/-- One grid point's product at an entry: the sum over the columns of its part of the weight. -/
theorem part (v0 : Vec Ideal S1024x1408 .bf16) (v1 : Vec Ideal S1x2048x1408 .bf16) (y : S1024x2048.Idx) :
    k0_pay1 (F := Ideal) v0 v1 y = ∑ k : Fin 1408, v0 (ix2 (y 0) k) * v1 (ix3 0 (y 1) k) := by
  pointwise [k0_pay1]

/-- The first point of a run stores its product. -/
theorem first (v0 : Vec Ideal S1024x1408 .bf16) (v1 : Vec Ideal S1x2048x1408 .bf16) :
    k0_pay2 (F := Ideal) v0 v1 = k0_pay1 (F := Ideal) v0 v1 := by
  unfold k0_pay2
  rw [shapeCast_self]

/-- A later point of a run adds its product to what the run has left. -/
theorem step (v0 : Vec Ideal S1024x1408 .bf16) (v1 : Vec Ideal S1x2048x1408 .bf16) (v9 : Vec Ideal S1024x2048 .f32) (y : S1024x2048.Idx) :
    k0_pay3 (F := Ideal) v0 v1 v9 y = v9 y + k0_pay1 (F := Ideal) v0 v1 y := by
  unfold k0_pay3
  rw [shapeCast_self]
  rfl

/-- The sum a run of four points leaves in the scratch buffer. -/
theorem run_eq (t : Fin cfg0.N) (ht : t.val % 4 = 3) (y : S1024x2048.Idx) :
    (outsAt0 m c t.val t.isLt).2 y = ∑ s : Fin 4, k0_pay1 (F := Ideal)
      (iblk m c 0 ⟨4 * (t.val / 4) + s.val, Pipeline.run_point_lt_of_flush t ht s⟩)
      (iblk m c 1 ⟨4 * (t.val / 4) + s.val, Pipeline.run_point_lt_of_flush t ht s⟩) y := by
  rw [Pipeline.eq_sum_fin_of_reset_step_apply_of_flush (fun n h => (outsAt0 m c n h).2) 4 (fun _ => 0)
    (fun t j => k0_pay1 (F := Ideal) (iblk m c 0 t) (iblk m c 1 t) j)
    (fun t h j => by rw [outsAt0_A m c t h (by omega) (by omega)]; frame_out; rw [first]; exact (zero_add _).symm)
    (fun t h j => by
      by_cases h2 : t.val % 4 = 3
      · rw [outsAt0_C m c t h (by omega) h2]; frame_out; rw [read_unread_whole, step]
      · rw [outsAt0_B m c t h (by omega) h2]; frame_out; rw [read_unread_whole, step]) t ht y, zero_add]

/-- The last point of a run rounds that sum and writes it. -/
theorem out_eq (t : Fin cfg0.N) (ht : t.val % 4 = 3) (y : S1024x2048.Idx) :
    (outsAt0 m c t.val t.isLt).1 y = (outsAt0 m c t.val t.isLt).2 y := by
  rw [outsAt0_C m c t (by omega) (by omega) ht]
  frame_out
  rfl

/-- The reference's array at an entry: the sum over all columns of the weight, part by part. -/
theorem ref (x0 : (⟨Cert.Reference5Ideal.S8192x5632, .bf16⟩ : BufTy).Contents (Elt Ideal))
    (x1 : (⟨Cert.Reference5Ideal.S4x2048x1408, .bf16⟩ : BufTy).Contents (Elt Ideal)) (i : Cert.Reference5Ideal.S8192x2048.Idx) :
    val_main_v7 (F := Ideal) x0 x1 i = ∑ k : Fin 5632, x0 (ix2 (i 0) k)
      * x1 (ix3 ⟨k.val / 1408, by omega⟩ (i 1) ⟨k.val % 1408, by omega⟩) := by
  have h1 : (i 1).val < 2048 := (i 1).isLt
  refine (val_main_v6_apply x0 x1 i).trans (Finset.sum_congr rfl fun k _ => ?_)
  rw [val_main_v3_apply, val_main_v2_apply]
  refine congrArg₂ (· * ·) (congrArg x0 ?_) (congrArg x1 ?_) <;>
    blk_ext []

/-- At the call's end the result array is the reference's. -/
theorem final : (dats m 0 c).arrAt 2 cfg0.N = val_main_v7 (F := Ideal) (m ((c.tc : Thread nD τ).loc main_arg0)) (m ((c.tc : Thread nD τ).loc main_arg1)) := by
  refine (dats m 0 c).arrAt_eq_of_covers 2 _ (by decide +kernel) fun t hf y => ?_
  blk_simp
  rw [after0_2, out_eq m c t ((flush0_2 t).mp hf), run_eq m c t ((flush0_2 t).mp hf), ref]
  refine (Finset.sum_congr rfl fun s _ => part _ _ _).trans ?_
  refine Fin.sum_mul_add_congr fun s k hl => ?_
  congr 1 <;> blk_ext [iblk, V, idx t, idx ⟨_, Pipeline.run_point_lt_of_flush t ((flush0_2 t).mp hf) s⟩]

end Cert.Kernel5Ideal.In

namespace Cert.Proof

open Idealize.ShloMosaic Idealize.ShloMosaic.TcCoe Idealize.SL.Sem
open Cert.Reference5Ideal.Read

/-- Over the extended reals the call and the reference end with equal gradients of the layer's input. -/
theorem algebraic5 : Cert.algebraic_Kernel5Ideal_Reference5Ideal (hKernel5Ideal := Cert.Kernel5Ideal.Gen.facts)
    (hReference5Ideal := Cert.Reference5Ideal.Gen.facts) := by
  intro m g m' g' _ harg
  refine ⟨fun c => val_main_v7 (F := Ideal) (m ((c.tc : Thread _ _).loc Cert.Kernel5Ideal.main_arg0))
    (m ((c.tc : Thread _ _).loc Cert.Kernel5Ideal.main_arg1)), ?_, ?_⟩
  · exact (θ_run Cert.Kernel5Ideal.defs _ _).mono (fun r h c => ⟨(h c).1.trans (Cert.Kernel5Ideal.In.final m c), (h c).2⟩)
      (Cert.Kernel5Ideal.Value.run_blocks (F := Ideal) m g)
  · exact (θ_run Cert.Reference5Ideal.defs _ _).mono (fun r h c => ⟨(h c).1.trans ((val_main_v7_eq _ _).trans
      (congrArg₂ _ (harg c).1 (harg c).2)), (h c).2⟩) (Cert.Reference5Ideal.Value.run (F := Ideal) m' g')

end Cert.Proof
-- ==== Proof.InGradAdd.lean ====
/- The gradient of a layer's input through one product, added to another gradient: what the call leaves in its result array is the reference's array. -/
module

public import proofs.«01_k».proof.Defs
public import proofs.«01_k».proof.Proof.Gen.Kernel6Ideal.Value
public import proofs.«01_k».proof.Proof.Gen.Reference6Ideal.Read
public import proofs.«01_k».proof.Proof.Gen.Reference6Ideal.Run
public import Idealize.ShloMosaic.Lib.Pipeline.ValueKit
public import Idealize.ShloMosaic.Lib.Pipeline.ReadBack

@[expose] public section

set_option maxRecDepth 16384

noncomputable section

namespace Cert.Kernel6Ideal.In

open Idealize.ShloMosaic Idealize.ShloMosaic.TcCoe Idealize.SL.Sem
open Cert.Kernel6Ideal.Gen
open Idealize.ShloMosaic.Pipeline (Dat)
open Cert.Reference6Ideal.Read

variable (m : (ℓ : Loc nD τ sig) → Buf (Elt Ideal) ℓ) (c : Dev nD)

/-- Which blocks grid point `t` reads and writes. -/
theorem idx : ∀ t : Fin cfg0.N, win0_0.index t = ![t.val / 4, t.val % 4] ∧ win0_1.index t = ![t.val % 4, 0, 0]
    ∧ win0_2.index t = ![t.val / 4, 0] ∧ win0_3.index t = ![t.val / 4, 0] := by
  decide +kernel

/-- One grid point's product at an entry: the sum over the columns of its part of the weight. -/
theorem part (v0 : Vec Ideal S512x1408 .bf16) (v1 : Vec Ideal S1x2048x1408 .bf16) (y : S512x2048.Idx) :
    k0_pay1 (F := Ideal) v0 v1 y = ∑ k : Fin 1408, v0 (ix2 (y 0) k) * v1 (ix3 0 (y 1) k) := by
  pointwise [k0_pay1]

/-- The first point of a run stores its product plus the gradient it is added to. -/
theorem first (v0 : Vec Ideal S512x1408 .bf16) (v1 : Vec Ideal S1x2048x1408 .bf16) (v2 : Vec Ideal S512x2048 .bf16) (y : S512x2048.Idx) :
    k0_pay2 (F := Ideal) v0 v1 v2 y = k0_pay1 (F := Ideal) v0 v1 y + v2 y := by
  unfold k0_pay2
  rw [shapeCast_self]
  rfl

/-- A later point of a run adds its product to what the run has left. -/
theorem step (v0 : Vec Ideal S512x1408 .bf16) (v1 : Vec Ideal S1x2048x1408 .bf16) (v9 : Vec Ideal S512x2048 .f32) (y : S512x2048.Idx) :
    k0_pay3 (F := Ideal) v0 v1 v9 y = v9 y + k0_pay1 (F := Ideal) v0 v1 y := by
  unfold k0_pay3
  rw [shapeCast_self]
  rfl

/-- The block of the gradient that a run's sum is added to. -/
def added (t : Fin cfg0.N) (y : S512x2048.Idx) : EReal := (iblk m c 2 t : Vec Ideal S512x2048 .bf16) y

/-- What grid point `t` adds to the scratch buffer: its product, and at a run's first point the gradient it is added to. -/
def term (t : Fin cfg0.N) (y : S512x2048.Idx) : EReal :=
  k0_pay1 (F := Ideal) (iblk m c 0 t) (iblk m c 1 t) y + if t.val % 4 = 0 then added m c t y else 0

/-- What a run of four points leaves in the scratch buffer. -/
theorem run_sum (t : Fin cfg0.N) (ht : t.val % 4 = 3) (y : S512x2048.Idx) :
    (outsAt0 m c t.val t.isLt).2 y = ∑ s : Fin 4, term m c ⟨4 * (t.val / 4) + s.val, Pipeline.run_point_lt_of_flush t ht s⟩ y := by
  rw [Pipeline.eq_sum_fin_of_reset_step_apply_of_flush (fun n h => (outsAt0 m c n h).2) 4 (fun _ => (0 : EReal)) (term m c)
    (fun t h j => by
      rw [outsAt0_A m c t h (by omega) (by omega), term, if_pos h]; frame_out; rw [first]; exact (zero_add _).symm)
    (fun t h j => by
      rw [term, if_neg h, add_zero]
      by_cases h2 : t.val % 4 = 3
      · rw [outsAt0_C m c t h (by omega) h2]; frame_out; rw [read_unread_whole, step]
      · rw [outsAt0_B m c t h (by omega) h2]; frame_out; rw [read_unread_whole, step]) t ht y, zero_add]

/-- The same with the added gradient apart. -/
theorem run_eq (t : Fin cfg0.N) (ht : t.val % 4 = 3) (y : S512x2048.Idx) :
    (outsAt0 m c t.val t.isLt).2 y = (∑ s : Fin 4, k0_pay1 (F := Ideal)
      (iblk m c 0 ⟨4 * (t.val / 4) + s.val, Pipeline.run_point_lt_of_flush t ht s⟩)
      (iblk m c 1 ⟨4 * (t.val / 4) + s.val, Pipeline.run_point_lt_of_flush t ht s⟩) y)
      + added m c ⟨4 * (t.val / 4), lt_of_le_of_lt (Nat.mul_div_le t.val 4) t.isLt⟩ y := by
  rw [run_sum m c t ht y]
  unfold term
  rw [Finset.sum_add_distrib]
  refine congrArg _ ?_
  rw [Fin.sum_univ_four]
  simp [Nat.mul_add_mod]

/-- The last point of a run rounds that sum and writes it. -/
theorem out_eq (t : Fin cfg0.N) (ht : t.val % 4 = 3) (y : S512x2048.Idx) :
    (outsAt0 m c t.val t.isLt).1 y = (outsAt0 m c t.val t.isLt).2 y := by
  rw [outsAt0_C m c t (by omega) (by omega) ht]
  frame_out
  rfl

/-- The reference's array at an entry: the sum over all columns of the weight, part by part, and the gradient it is added to. -/
theorem ref (x0 : (⟨Cert.Reference6Ideal.S8192x5632, .bf16⟩ : BufTy).Contents (Elt Ideal))
    (x1 : (⟨Cert.Reference6Ideal.S4x2048x1408, .bf16⟩ : BufTy).Contents (Elt Ideal))
    (x2 : (⟨Cert.Reference6Ideal.S8192x2048, .bf16⟩ : BufTy).Contents (Elt Ideal)) (i : Cert.Reference6Ideal.S8192x2048.Idx) :
    val_main_v9 (F := Ideal) x0 x1 x2 i = (∑ k : Fin 5632, x0 (ix2 (i 0) k)
      * x1 (ix3 ⟨k.val / 1408, by omega⟩ (i 1) ⟨k.val % 1408, by omega⟩)) + x2 i := by
  have h1 : (i 1).val < 2048 := (i 1).isLt
  refine (add_comm (x2 i) (val_main_v7 (F := Ideal) x0 x1 i)).trans (congrArg (· + x2 i) ?_)
  refine (val_main_v7_apply x0 x1 i).trans (Finset.sum_congr rfl fun k _ => ?_)
  rw [val_main_v4_apply, val_main_v3_apply]
  refine congrArg₂ (· * ·) (congrArg x0 ?_) (congrArg x1 ?_) <;>
    blk_ext []

/-- At the call's end the result array is the reference's. -/
theorem final : (dats m 0 c).arrAt 3 cfg0.N = val_main_v9 (F := Ideal) (m ((c.tc : Thread nD τ).loc main_arg0)) (m ((c.tc : Thread nD τ).loc main_arg1))
    (m ((c.tc : Thread nD τ).loc main_arg2)) := by
  refine (dats m 0 c).arrAt_eq_of_covers 3 _ (by decide +kernel) fun t hf y => ?_
  blk_simp
  have ht := (flush0_3 t).mp hf
  rw [after0_3, out_eq m c t ht, run_eq m c t ht, ref]
  refine congrArg₂ (· + ·) ?_ ?_
  · refine (Finset.sum_congr rfl fun s _ => part _ _ _).trans ?_
    refine Fin.sum_mul_add_congr fun s k hl => ?_
    congr 1 <;> blk_ext [iblk, V, idx t, idx ⟨_, Pipeline.run_point_lt_of_flush t ht s⟩]
  · unfold added
    blk_ext [iblk, V, idx t, idx ⟨4 * (t.val / 4), lt_of_le_of_lt (Nat.mul_div_le t.val 4) t.isLt⟩]

end Cert.Kernel6Ideal.In

namespace Cert.Proof

open Idealize.ShloMosaic Idealize.ShloMosaic.TcCoe Idealize.SL.Sem
open Cert.Reference6Ideal.Read

/-- Over the extended reals the call and the reference end with equal gradients of the layer's input. -/
theorem algebraic6 : Cert.algebraic_Kernel6Ideal_Reference6Ideal (hKernel6Ideal := Cert.Kernel6Ideal.Gen.facts)
    (hReference6Ideal := Cert.Reference6Ideal.Gen.facts) := by
  intro m g m' g' _ harg
  refine ⟨fun c => val_main_v9 (F := Ideal) (m ((c.tc : Thread _ _).loc Cert.Kernel6Ideal.main_arg0))
    (m ((c.tc : Thread _ _).loc Cert.Kernel6Ideal.main_arg1)) (m ((c.tc : Thread _ _).loc Cert.Kernel6Ideal.main_arg2)), ?_, ?_⟩
  · exact (θ_run Cert.Kernel6Ideal.defs _ _).mono (fun r h c => ⟨(h c).1.trans (Cert.Kernel6Ideal.In.final m c), (h c).2⟩)
      (Cert.Kernel6Ideal.Value.run_blocks (F := Ideal) m g)
  · exact (θ_run Cert.Reference6Ideal.defs _ _).mono (fun r h c => ⟨(h c).1.trans ((val_main_v9_eq _ _ _).trans
      (by rw [(harg c).1, (harg c).2.1, (harg c).2.2])), (h c).2⟩) (Cert.Reference6Ideal.Value.run (F := Ideal) m' g')

end Cert.Proof
-- ==== Proof.FeedFrames.lean ====
/- The frames of the feed-forward block's calls and of their references: each run ends with its arguments as launched and every counter at zero. -/
module

public import proofs.«01_k».proof.Defs
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Reference6Ideal.Run
public import Idealize.ShloMosaic.Lib.Quiescent

@[expose] public section

set_option maxRecDepth 16384

noncomputable section

namespace Cert.Proof

open Idealize.ShloMosaic Idealize.ShloMosaic.TcCoe Idealize.SL.Sem

/-- The call of SwiGLU's gradient, at its bits. -/
theorem frame_kernel2 : Cert.quiescent_Kernel2 (hKernel2 := Cert.Kernel2.Gen.facts) := fun m ρ _ => Cert.Kernel2.Gen.frame (F := Bits) m ρ

/-- The same over the extended reals. -/
theorem frame_ideal2 : Cert.quiescent_Kernel2Ideal (hKernel2Ideal := Cert.Kernel2Ideal.Gen.facts) := fun m ρ _ =>
  Cert.Kernel2Ideal.Gen.frame (F := Ideal) m ρ

/-- Its reference, which is host code alone. -/
theorem frame_reference2 : Cert.quiescent_Reference2Ideal (hReference2Ideal := Cert.Reference2Ideal.Gen.facts) := fun m ρ _ =>
  (θ_run Cert.Reference2Ideal.defs _ _).mono (fun r h => ⟨fun c => (h c).2.2, sem_eq_zero_of_no_sems (by decide) r.2⟩)
    (Cert.Reference2Ideal.Value.run (F := Ideal) m ρ)

/-- The call of the output weight's gradient, at its bits. -/
theorem frame_kernel3 : Cert.quiescent_Kernel3 (hKernel3 := Cert.Kernel3.Gen.facts) := fun m ρ _ => Cert.Kernel3.Gen.frame (F := Bits) m ρ

/-- The same over the extended reals. -/
theorem frame_ideal3 : Cert.quiescent_Kernel3Ideal (hKernel3Ideal := Cert.Kernel3Ideal.Gen.facts) := fun m ρ _ =>
  Cert.Kernel3Ideal.Gen.frame (F := Ideal) m ρ

/-- Its reference, which is host code alone. -/
theorem frame_reference3 : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run (F := Ideal) m ρ)

/-- The call of the input weights' gradient, at its bits. -/
theorem frame_kernel4 : Cert.quiescent_Kernel4 (hKernel4 := Cert.Kernel4.Gen.facts) := fun m ρ _ => Cert.Kernel4.Gen.frame (F := Bits) m ρ

/-- The same over the extended reals. -/
theorem frame_ideal4 : Cert.quiescent_Kernel4Ideal (hKernel4Ideal := Cert.Kernel4Ideal.Gen.facts) := fun m ρ _ =>
  Cert.Kernel4Ideal.Gen.frame (F := Ideal) m ρ

/-- Its reference, which is host code alone. -/
theorem frame_reference4 : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Value.run (F := Ideal) m ρ)

/-- The call of the input's gradient, at its bits. -/
theorem frame_kernel5 : Cert.quiescent_Kernel5 (hKernel5 := Cert.Kernel5.Gen.facts) := fun m ρ _ => Cert.Kernel5.Gen.frame (F := Bits) m ρ

/-- The same over the extended reals. -/
theorem frame_ideal5 : Cert.quiescent_Kernel5Ideal (hKernel5Ideal := Cert.Kernel5Ideal.Gen.facts) := fun m ρ _ =>
  Cert.Kernel5Ideal.Gen.frame (F := Ideal) m ρ

/-- Its reference, which is host code alone. -/
theorem frame_reference5 : Cert.quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩)
    (Cert.Reference5Ideal.Value.run (F := Ideal) m ρ)

/-- The call of the input's gradient, added to another, at its bits. -/
theorem frame_kernel6 : Cert.quiescent_Kernel6 (hKernel6 := Cert.Kernel6.Gen.facts) := fun m ρ _ => Cert.Kernel6.Gen.frame (F := Bits) m ρ

/-- The same over the extended reals. -/
theorem frame_ideal6 : Cert.quiescent_Kernel6Ideal (hKernel6Ideal := Cert.Kernel6Ideal.Gen.facts) := fun m ρ _ =>
  Cert.Kernel6Ideal.Gen.frame (F := Ideal) m ρ

/-- Its reference, which is host code alone. -/
theorem frame_reference6 : Cert.quiescent_Reference6Ideal (hReference6Ideal := Cert.Reference6Ideal.Gen.facts) := fun m ρ _ =>
  (θ_run Cert.Reference6Ideal.defs _ _).mono (fun r h => ⟨fun c => (h c).2, sem_eq_zero_of_no_sems (by decide) r.2⟩)
    (Cert.Reference6Ideal.Value.run (F := Ideal) m ρ)

end Cert.Proof
-- ==== Proof.ProjOutGrad.lean ====
/- The gradient of the input of a mixing layer's output projection: what the call leaves in its result array is the reference's array. -/
module

public import proofs.«01_k».proof.Defs
public import proofs.«01_k».proof.Proof.Gen.Kernel7Ideal.Value
public import proofs.«01_k».proof.Proof.Gen.Reference7Ideal.Read
public import proofs.«01_k».proof.Proof.Gen.Reference7Ideal.Run
public import Idealize.ShloMosaic.Lib.Pipeline.ValueKit

@[expose] public section

set_option maxRecDepth 16384

noncomputable section

namespace Cert.Kernel7Ideal.ProjOut

open Idealize.ShloMosaic Idealize.ShloMosaic.TcCoe Idealize.SL.Sem
open Cert.Kernel7Ideal.Gen
open Idealize.ShloMosaic.Pipeline (Dat)
open Cert.Reference7Ideal.Read

variable (m : (ℓ : Loc nD τ sig) → Buf (Elt Ideal) ℓ) (c : Dev nD)

/-- Which blocks grid point `t` reads and writes. -/
theorem idx : ∀ t : Fin cfg0.N, win0_0.index t = ![t.val % 8, 0] ∧ win0_1.index t = ![t.val / 8, 0]
    ∧ win0_2.index t = ![t.val % 8, t.val / 8] := by
  decide +kernel

/-- One grid point's product at an entry: the sum over the columns of the weight. -/
theorem part (v0 : Vec Ideal S1024x2048 .bf16) (v1 : Vec Ideal S512x2048 .bf16) (y : S1024x512.Idx) :
    k0_pay1 (F := Ideal) v0 v1 y = ∑ k : Fin 2048, v0 (ix2 (y 0) k) * v1 (ix2 (y 1) k) := by
  pointwise [k0_pay1]

/-- The reference's array at an entry. -/
theorem ref (x0 : (⟨Cert.Reference7Ideal.S8192x2048, .bf16⟩ : BufTy).Contents (Elt Ideal))
    (x1 : (⟨Cert.Reference7Ideal.S2048x2048, .bf16⟩ : BufTy).Contents (Elt Ideal)) (i : Cert.Reference7Ideal.S8192x2048.Idx) :
    val_main_v5 (F := Ideal) x0 x1 i = ∑ k : Fin 2048, x0 (ix2 (i 0) k) * x1 (ix2 (i 1) k) := by
  refine (val_main_v4_apply x0 x1 i).trans (Finset.sum_congr rfl fun k _ => ?_)
  refine congrArg₂ (· * ·) (congrArg x0 ?_) (congrArg x1 ?_) <;>
    blk_ext []

/-- At the call's end the result array is the reference's. -/
theorem final : (dats m 0 c).arrAt 2 cfg0.N = val_main_v5 (F := Ideal) (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  rw [part, ref]
  show @Eq EReal _ _
  refine Finset.sum_congr rfl fun k _ => ?_
  congr 1 <;> blk_ext [iblk, V, idx t]

end Cert.Kernel7Ideal.ProjOut

namespace Cert.Proof

open Idealize.ShloMosaic Idealize.ShloMosaic.TcCoe Idealize.SL.Sem
open Cert.Reference7Ideal.Read

/-- Over the extended reals the call and the reference end with equal gradients of the projection's input. -/
theorem algebraic7 : Cert.algebraic_Kernel7Ideal_Reference7Ideal (hKernel7Ideal := Cert.Kernel7Ideal.Gen.facts)
    (hReference7Ideal := Cert.Reference7Ideal.Gen.facts) := by
  intro m g m' g' _ harg
  refine ⟨fun c => val_main_v5 (F := Ideal) (m ((c.tc : Thread _ _).loc Cert.Kernel7Ideal.main_arg0))
    (m ((c.tc : Thread _ _).loc Cert.Kernel7Ideal.main_arg1)), ?_, ?_⟩
  · exact (θ_run Cert.Kernel7Ideal.defs _ _).mono (fun r h c => ⟨(h c).1.trans (Cert.Kernel7Ideal.ProjOut.final m c), (h c).2⟩)
      (Cert.Kernel7Ideal.Value.run_blocks (F := Ideal) m g)
  · exact (θ_run Cert.Reference7Ideal.defs _ _).mono (fun r h c => ⟨(h c).1.trans ((val_main_v5_eq _ _).trans
      (congrArg₂ _ (harg c).1 (harg c).2)), (h c).2⟩) (Cert.Reference7Ideal.Value.run (F := Ideal) m' g')

end Cert.Proof
-- ==== Proof.ProjWeightGrad.lean ====
/- The weight gradient of a mixing layer's output projection: what the call leaves in its result array is the reference's array. -/
module

public import proofs.«01_k».proof.Proof.Gen.Kernel8Ideal.Value
public import proofs.«01_k».proof.Proof.Gen.Reference8Ideal.Read
public import proofs.«01_k».proof.Proof.Gen.Reference8Ideal.Run
public import proofs.«01_k».proof.Defs
public import Idealize.ShloMosaic.Lib.Pipeline.ValueKit

@[expose] public section

set_option maxRecDepth 16384

noncomputable section

namespace Cert.Kernel8Ideal.ProjWeight

open Idealize.ShloMosaic Idealize.ShloMosaic.TcCoe Idealize.SL.Sem
open Cert.Kernel8Ideal.Gen
open Idealize.ShloMosaic.Pipeline (Dat)
open Cert.Reference8Ideal.Read

variable (m : (ℓ : Loc nD τ sig) → Buf (Elt Ideal) ℓ) (c : Dev nD)

/-- Which blocks grid point `t` reads and writes. -/
theorem idx : ∀ t : Fin cfg0.N, win0_0.index t = ![t.val % 4, t.val / 8] ∧ win0_1.index t = ![t.val % 4, t.val / 4 % 2]
    ∧ win0_2.index t = ![t.val / 8, t.val / 4 % 2] := by
  decide +kernel

/-- One grid point's product at an entry: the sum over its rows. -/
theorem part (v0 : Vec Ideal S2048x1024 .bf16) (v1 : Vec Ideal S2048x1024 .bf16) (y : S1024x1024.Idx) :
    k0_pay1 (F := Ideal) v0 v1 y = ∑ k : Fin 2048, v0 (ix2 k (y 0)) * v1 (ix2 k (y 1)) := by
  pointwise [k0_pay1]

/-- A later point of a run adds its product to what the run has left. -/
theorem step (v0 : Vec Ideal S2048x1024 .bf16) (v1 : Vec Ideal S2048x1024 .bf16) (v9 : Vec Ideal S1024x1024 .f32) (y : S1024x1024.Idx) :
    k0_pay2 (F := Ideal) v0 v1 v9 y = v9 y + k0_pay1 (F := Ideal) v0 v1 y := by
  unfold k0_pay2
  rw [shapeCast_self]
  rfl

/-- The block a run of four points leaves: the sum of their products. -/
theorem run_eq (t : Fin cfg0.N) (hf : (cfg0.win 2).flush t = true) (y : S1024x1024.Idx) :
    (dats m 0 c).after 2 t y = ∑ s : Fin 4, k0_pay1 (F := Ideal)
      (iblk m c 0 ⟨4 * (t.val / 4) + s.val, Pipeline.run_point_lt_of_flush t ((flush0_2 t).mp hf) s⟩)
      (iblk m c 1 ⟨4 * (t.val / 4) + s.val, Pipeline.run_point_lt_of_flush t ((flush0_2 t).mp hf) s⟩) y := by
  rw [after0_2, Pipeline.eq_sum_fin_of_reset_step_apply_of_flush (fun n h => outsAt0 m c n h) 4 (fun _ => 0)
    (fun t j => k0_pay1 (F := Ideal) (iblk m c 0 t) (iblk m c 1 t) j)
    (fun t h j => by rw [outsAt0_A m c t h (by omega)]; frame_out; exact (zero_add _).symm)
    (fun t h j => by rw [outsAt0_B m c t h (by omega)]; frame_out; rw [step]) t ((flush0_2 t).mp hf) y, zero_add]

/-- The reference's array at an entry: the sum over all rows. -/
theorem ref (x0 : (⟨Cert.Reference8Ideal.S8192x2048, .bf16⟩ : BufTy).Contents (Elt Ideal))
    (x1 : (⟨Cert.Reference8Ideal.S8192x2048, .bf16⟩ : BufTy).Contents (Elt Ideal)) (i : Cert.Reference8Ideal.S2048x2048.Idx) :
    val_main_v5 (F := Ideal) x0 x1 i = ∑ k : Fin 8192, x0 (ix2 k (i 0)) * x1 (ix2 k (i 1)) := by
  rw [val_main_v5_apply, val_main_v4_apply]
  refine Finset.sum_congr rfl fun k _ => (mul_comm _ _).trans (congrArg₂ (· * ·) (congrArg x0 ?_) (congrArg x1 ?_)) <;>
    blk_ext []

/-- At the call's end the result array is the reference's. -/
theorem final : (dats m 0 c).arrAt 2 cfg0.N = val_main_v5 (F := Ideal) (m ((c.tc : Thread nD τ).loc main_arg0)) (m ((c.tc : Thread nD τ).loc main_arg1)) := by
  refine (dats m 0 c).arrAt_eq_of_covers 2 _ (by decide +kernel) fun t hf y => ?_
  blk_simp
  rw [run_eq m c t hf, ref]
  refine (Finset.sum_congr rfl fun s _ => part _ _ _).trans ?_
  refine Fin.sum_mul_add_congr fun s k hl => ?_
  congr 1 <;> blk_ext [iblk, V, idx t, idx ⟨_, Pipeline.run_point_lt_of_flush t ((flush0_2 t).mp hf) s⟩]

end Cert.Kernel8Ideal.ProjWeight

namespace Cert.Proof

open Idealize.ShloMosaic Idealize.ShloMosaic.TcCoe Idealize.SL.Sem
open Cert.Reference8Ideal.Read

/-- Over the extended reals the call and the reference end with equal gradients of the weight. -/
theorem algebraic8 : Cert.algebraic_Kernel8Ideal_Reference8Ideal (hKernel8Ideal := Cert.Kernel8Ideal.Gen.facts)
    (hReference8Ideal := Cert.Reference8Ideal.Gen.facts) := by
  intro m g m' g' _ harg
  refine ⟨fun c => val_main_v5 (F := Ideal) (m ((c.tc : Thread _ _).loc Cert.Kernel8Ideal.main_arg0))
    (m ((c.tc : Thread _ _).loc Cert.Kernel8Ideal.main_arg1)), ?_, ?_⟩
  · exact (θ_run Cert.Kernel8Ideal.defs _ _).mono (fun r h c => ⟨(h c).1.trans (Cert.Kernel8Ideal.ProjWeight.final m c), (h c).2⟩)
      (Cert.Kernel8Ideal.Value.run_blocks (F := Ideal) m g)
  · exact (θ_run Cert.Reference8Ideal.defs _ _).mono (fun r h c => ⟨(h c).1.trans ((val_main_v5_eq _ _).trans
      (congrArg₂ _ (harg c).1 (harg c).2)), (h c).2⟩) (Cert.Reference8Ideal.Value.run (F := Ideal) m' g')

end Cert.Proof
-- ==== Proof.ProjShardGrad.lean ====
/- The weight gradient of the projection to queries, keys and values, kept as four column parts: what the call leaves in its result array is the reference's array. -/
module

public import proofs.«01_k».proof.Defs
public import proofs.«01_k».proof.Proof.Gen.Kernel9Ideal.Value
public import proofs.«01_k».proof.Proof.Gen.Reference9Ideal.Read
public import proofs.«01_k».proof.Proof.Gen.Reference9Ideal.Run
public import Idealize.ShloMosaic.Lib.Pipeline.ValueKit

@[expose] public section

set_option maxRecDepth 16384

noncomputable section

namespace Cert.Kernel9Ideal.ProjShard

open Idealize.ShloMosaic Idealize.ShloMosaic.TcCoe Idealize.SL.Sem
open Cert.Kernel9Ideal.Gen
open Idealize.ShloMosaic.Pipeline (Dat)
open Cert.Reference9Ideal.Read

variable (m : (ℓ : Loc nD τ sig) → Buf (Elt Ideal) ℓ) (c : Dev nD)

/-- Which blocks grid point `t` reads and writes. -/
theorem idx : ∀ t : Fin cfg0.N, win0_0.index t = ![t.val % 4, t.val / 16] ∧ win0_1.index t = ![t.val % 4, t.val / 4 % 4]
    ∧ win0_2.index t = ![t.val / 4 % 4, t.val / 16, 0] := by
  decide +kernel

/-- One grid point's product at an entry: the sum over its rows. -/
theorem part (v0 : Vec Ideal S2048x1024 .bf16) (v1 : Vec Ideal S2048x1536 .bf16) (y : S1x1024x1536.Idx) :
    k0_pay2 (F := Ideal) v0 v1 y = ∑ k : Fin 2048, v0 (ix2 k (y 1)) * v1 (ix2 k (y 2)) := by
  pointwise [k0_pay2, k0_pay1]

/-- A later point of a run adds its product to what the run has left. -/
theorem step (v0 : Vec Ideal S2048x1024 .bf16) (v1 : Vec Ideal S2048x1536 .bf16) (v9 : Vec Ideal S1x1024x1536 .f32)
    (y : S1x1024x1536.Idx) : k0_pay3 (F := Ideal) v0 v1 v9 y = v9 y + k0_pay2 (F := Ideal) v0 v1 y := by
  rw [part]
  pointwise [k0_pay3, k0_pay1]

/-- The block a run of four points leaves: the sum of their products. -/
theorem run_eq (t : Fin cfg0.N) (hf : (cfg0.win 2).flush t = true) (y : S1x1024x1536.Idx) :
    (dats m 0 c).after 2 t y = ∑ s : Fin 4, k0_pay2 (F := Ideal)
      (iblk m c 0 ⟨4 * (t.val / 4) + s.val, Pipeline.run_point_lt_of_flush t ((flush0_2 t).mp hf) s⟩)
      (iblk m c 1 ⟨4 * (t.val / 4) + s.val, Pipeline.run_point_lt_of_flush t ((flush0_2 t).mp hf) s⟩) y := by
  rw [after0_2, Pipeline.eq_sum_fin_of_reset_step_apply_of_flush (fun n h => outsAt0 m c n h) 4 (fun _ => 0)
    (fun t j => k0_pay2 (F := Ideal) (iblk m c 0 t) (iblk m c 1 t) j)
    (fun t h j => by rw [outsAt0_A m c t h (by omega)]; frame_out; exact (zero_add _).symm)
    (fun t h j => by rw [outsAt0_B m c t h (by omega)]; frame_out; rw [step]) t ((flush0_2 t).mp hf) y, zero_add]

/-- The reference's array at an entry: the sum over all rows, at the entry's column of the whole weight. -/
theorem ref (x0 : (⟨Cert.Reference9Ideal.S8192x2048, .bf16⟩ : BufTy).Contents (Elt Ideal))
    (x1 : (⟨Cert.Reference9Ideal.S8192x6144, .bf16⟩ : BufTy).Contents (Elt Ideal)) (i : Cert.Reference9Ideal.S4x2048x1536.Idx) :
    val_main_v7 (F := Ideal) x0 x1 i = ∑ k : Fin 8192, x0 (ix2 k (i 1))
      * x1 (ix2 k ⟨1536 * (i 0).val + (i 2).val, by have := (i 0).isLt; have := (i 2).isLt; simp at *; omega⟩) := by
  have h0 : (i 0).val < 4 := (i 0).isLt
  have h1 : (i 1).val < 2048 := (i 1).isLt
  have h2 : (i 2).val < 1536 := (i 2).isLt
  rw [val_main_v7_apply, val_main_v6_apply, val_main_v5_apply, val_main_v4_apply]
  refine Finset.sum_congr rfl fun k _ => (mul_comm _ _).trans (congrArg₂ (· * ·) (congrArg x0 ?_) (congrArg x1 ?_)) <;>
    blk_ext []

/-- At the call's end the result array is the reference's. -/
theorem final : (dats m 0 c).arrAt 2 cfg0.N = val_main_v7 (F := Ideal) (m ((c.tc : Thread nD τ).loc main_arg0)) (m ((c.tc : Thread nD τ).loc main_arg1)) := by
  refine (dats m 0 c).arrAt_eq_of_covers 2 _ (by decide +kernel) fun t hf y => ?_
  blk_simp
  rw [run_eq m c t hf, ref]
  refine (Finset.sum_congr rfl fun s _ => part _ _ _).trans ?_
  refine Fin.sum_mul_add_congr fun s k hl => ?_
  congr 1 <;> blk_ext [iblk, V, idx t, idx ⟨_, Pipeline.run_point_lt_of_flush t ((flush0_2 t).mp hf) s⟩]

end Cert.Kernel9Ideal.ProjShard

namespace Cert.Proof

open Idealize.ShloMosaic Idealize.ShloMosaic.TcCoe Idealize.SL.Sem
open Cert.Reference9Ideal.Read

/-- Over the extended reals the call and the reference end with equal gradients of the weight. -/
theorem algebraic9 : Cert.algebraic_Kernel9Ideal_Reference9Ideal (hKernel9Ideal := Cert.Kernel9Ideal.Gen.facts)
    (hReference9Ideal := Cert.Reference9Ideal.Gen.facts) := by
  intro m g m' g' _ harg
  refine ⟨fun c => val_main_v7 (F := Ideal) (m ((c.tc : Thread _ _).loc Cert.Kernel9Ideal.main_arg0))
    (m ((c.tc : Thread _ _).loc Cert.Kernel9Ideal.main_arg1)), ?_, ?_⟩
  · exact (θ_run Cert.Kernel9Ideal.defs _ _).mono (fun r h c => ⟨(h c).1.trans (Cert.Kernel9Ideal.ProjShard.final m c), (h c).2⟩)
      (Cert.Kernel9Ideal.Value.run_blocks (F := Ideal) m g)
  · exact (θ_run Cert.Reference9Ideal.defs _ _).mono (fun r h c => ⟨(h c).1.trans ((val_main_v7_eq _ _).trans
      (congrArg₂ _ (harg c).1 (harg c).2)), (h c).2⟩) (Cert.Reference9Ideal.Value.run (F := Ideal) m' g')

end Cert.Proof
-- ==== Proof.ProjInGrad.lean ====
/- The gradient of a mixing layer's input through the projection to queries, keys and values: what the call leaves in its result array is the reference's array. -/
module

public import proofs.«01_k».proof.Defs
public import proofs.«01_k».proof.Proof.Gen.Kernel10Ideal.Value
public import proofs.«01_k».proof.Proof.Gen.Reference10Ideal.Read
public import proofs.«01_k».proof.Proof.Gen.Reference10Ideal.Run
public import Idealize.ShloMosaic.Lib.Pipeline.ValueKit
public import Idealize.ShloMosaic.Lib.Pipeline.ReadBack

@[expose] public section

set_option maxRecDepth 16384

noncomputable section

namespace Cert.Kernel10Ideal.ProjIn

open Idealize.ShloMosaic Idealize.ShloMosaic.TcCoe Idealize.SL.Sem
open Cert.Kernel10Ideal.Gen
open Idealize.ShloMosaic.Pipeline (Dat)
open Cert.Reference10Ideal.Read

variable (m : (ℓ : Loc nD τ sig) → Buf (Elt Ideal) ℓ) (c : Dev nD)

/-- Which blocks grid point `t` reads and writes. -/
theorem idx : ∀ t : Fin cfg0.N, win0_0.index t = ![t.val / 4, t.val % 4] ∧ win0_1.index t = ![t.val % 4, 0, 0]
    ∧ win0_2.index t = ![t.val / 4, 0] := by
  decide +kernel

/-- One grid point's product at an entry: the sum over the columns of its part of the weight. -/
theorem part (v0 : Vec Ideal S1024x1536 .bf16) (v1 : Vec Ideal S1x2048x1536 .bf16) (y : S1024x2048.Idx) :
    k0_pay1 (F := Ideal) v0 v1 y = ∑ k : Fin 1536, v0 (ix2 (y 0) k) * v1 (ix3 0 (y 1) k) := by
  pointwise [k0_pay1]

/-- The first point of a run stores its product. -/
theorem first (v0 : Vec Ideal S1024x1536 .bf16) (v1 : Vec Ideal S1x2048x1536 .bf16) :
    k0_pay2 (F := Ideal) v0 v1 = k0_pay1 (F := Ideal) v0 v1 := by
  unfold k0_pay2
  rw [shapeCast_self]

/-- A later point of a run adds its product to what the run has left. -/
theorem step (v0 : Vec Ideal S1024x1536 .bf16) (v1 : Vec Ideal S1x2048x1536 .bf16) (v9 : Vec Ideal S1024x2048 .f32) (y : S1024x2048.Idx) :
    k0_pay3 (F := Ideal) v0 v1 v9 y = v9 y + k0_pay1 (F := Ideal) v0 v1 y := by
  unfold k0_pay3
  rw [shapeCast_self]
  rfl

/-- The sum a run of four points leaves in the scratch buffer. -/
theorem run_eq (t : Fin cfg0.N) (ht : t.val % 4 = 3) (y : S1024x2048.Idx) :
    (outsAt0 m c t.val t.isLt).2 y = ∑ s : Fin 4, k0_pay1 (F := Ideal)
      (iblk m c 0 ⟨4 * (t.val / 4) + s.val, Pipeline.run_point_lt_of_flush t ht s⟩)
      (iblk m c 1 ⟨4 * (t.val / 4) + s.val, Pipeline.run_point_lt_of_flush t ht s⟩) y := by
  rw [Pipeline.eq_sum_fin_of_reset_step_apply_of_flush (fun n h => (outsAt0 m c n h).2) 4 (fun _ => 0)
    (fun t j => k0_pay1 (F := Ideal) (iblk m c 0 t) (iblk m c 1 t) j)
    (fun t h j => by rw [outsAt0_A m c t h (by omega) (by omega)]; frame_out; rw [first]; exact (zero_add _).symm)
    (fun t h j => by
      by_cases h2 : t.val % 4 = 3
      · rw [outsAt0_C m c t h (by omega) h2]; frame_out; rw [read_unread_whole, step]
      · rw [outsAt0_B m c t h (by omega) h2]; frame_out; rw [read_unread_whole, step]) t ht y, zero_add]

/-- The last point of a run rounds that sum and writes it. -/
theorem out_eq (t : Fin cfg0.N) (ht : t.val % 4 = 3) (y : S1024x2048.Idx) :
    (outsAt0 m c t.val t.isLt).1 y = (outsAt0 m c t.val t.isLt).2 y := by
  rw [outsAt0_C m c t (by omega) (by omega) ht]
  frame_out
  rfl

/-- The reference's array at an entry: the sum over all columns of the weight, part by part. -/
theorem ref (x0 : (⟨Cert.Reference10Ideal.S8192x6144, .bf16⟩ : BufTy).Contents (Elt Ideal))
    (x1 : (⟨Cert.Reference10Ideal.S4x2048x1536, .bf16⟩ : BufTy).Contents (Elt Ideal)) (i : Cert.Reference10Ideal.S8192x2048.Idx) :
    val_main_v7 (F := Ideal) x0 x1 i = ∑ k : Fin 6144, x0 (ix2 (i 0) k)
      * x1 (ix3 ⟨k.val / 1536, by omega⟩ (i 1) ⟨k.val % 1536, by omega⟩) := by
  have h1 : (i 1).val < 2048 := (i 1).isLt
  refine (val_main_v6_apply x0 x1 i).trans (Finset.sum_congr rfl fun k _ => ?_)
  rw [val_main_v3_apply, val_main_v2_apply]
  refine congrArg₂ (· * ·) (congrArg x0 ?_) (congrArg x1 ?_) <;>
    blk_ext []

/-- At the call's end the result array is the reference's. -/
theorem final : (dats m 0 c).arrAt 2 cfg0.N = val_main_v7 (F := Ideal) (m ((c.tc : Thread nD τ).loc main_arg0)) (m ((c.tc : Thread nD τ).loc main_arg1)) := by
  refine (dats m 0 c).arrAt_eq_of_covers 2 _ (by decide +kernel) fun t hf y => ?_
  blk_simp
  rw [after0_2, out_eq m c t ((flush0_2 t).mp hf), run_eq m c t ((flush0_2 t).mp hf), ref]
  refine (Finset.sum_congr rfl fun s _ => part _ _ _).trans ?_
  refine Fin.sum_mul_add_congr fun s k hl => ?_
  congr 1 <;> blk_ext [iblk, V, idx t, idx ⟨_, Pipeline.run_point_lt_of_flush t ((flush0_2 t).mp hf) s⟩]

end Cert.Kernel10Ideal.ProjIn

namespace Cert.Proof

open Idealize.ShloMosaic Idealize.ShloMosaic.TcCoe Idealize.SL.Sem
open Cert.Reference10Ideal.Read

/-- Over the extended reals the call and the reference end with equal gradients of the layer's input. -/
theorem algebraic10 : Cert.algebraic_Kernel10Ideal_Reference10Ideal (hKernel10Ideal := Cert.Kernel10Ideal.Gen.facts)
    (hReference10Ideal := Cert.Reference10Ideal.Gen.facts) := by
  intro m g m' g' _ harg
  refine ⟨fun c => val_main_v7 (F := Ideal) (m ((c.tc : Thread _ _).loc Cert.Kernel10Ideal.main_arg0))
    (m ((c.tc : Thread _ _).loc Cert.Kernel10Ideal.main_arg1)), ?_, ?_⟩
  · exact (θ_run Cert.Kernel10Ideal.defs _ _).mono (fun r h c => ⟨(h c).1.trans (Cert.Kernel10Ideal.ProjIn.final m c), (h c).2⟩)
      (Cert.Kernel10Ideal.Value.run_blocks (F := Ideal) m g)
  · exact (θ_run Cert.Reference10Ideal.defs _ _).mono (fun r h c => ⟨(h c).1.trans ((val_main_v7_eq _ _).trans
      (congrArg₂ _ (harg c).1 (harg c).2)), (h c).2⟩) (Cert.Reference10Ideal.Value.run (F := Ideal) m' g')

end Cert.Proof
-- ==== Proof.GateForward.lean ====
/- The gate's product of a SwiGLU layer: what the call leaves in its result array is the reference's array. -/
module

public import proofs.«01_k».proof.Defs
public import proofs.«01_k».proof.Proof.Gen.Kernel11Ideal.Value
public import proofs.«01_k».proof.Proof.Gen.Reference11Ideal.Read
public import proofs.«01_k».proof.Proof.Gen.Reference11Ideal.Run
public import Idealize.ShloMosaic.Lib.Pipeline.ValueKit

@[expose] public section

set_option maxRecDepth 16384

noncomputable section

namespace Cert.Kernel11Ideal.Gate

open Idealize.ShloMosaic Idealize.ShloMosaic.TcCoe Idealize.SL.Sem
open Cert.Kernel11Ideal.Gen
open Idealize.ShloMosaic.Pipeline (Dat)
open Cert.Reference11Ideal.Read

variable (m : (ℓ : Loc nD τ sig) → Buf (Elt Ideal) ℓ) (c : Dev nD)

/-- Which blocks grid point `t` reads and writes. -/
theorem idx : ∀ t : Fin cfg0.N, win0_0.index t = ![t.val % 8, 0] ∧ win0_1.index t = ![t.val / 8, 0, 0]
    ∧ win0_2.index t = ![t.val % 8, t.val / 8] := by
  decide +kernel

/-- One grid point's product at an entry: the sum over the layer's features. -/
theorem part (v0 : Vec Ideal S1024x2048 .bf16) (v1 : Vec Ideal S1x2048x1408 .bf16) (y : S1024x1408.Idx) :
    k0_pay1 (F := Ideal) v0 v1 y = ∑ k : Fin 2048, v0 (ix2 (y 0) k) * v1 (ix3 0 k (y 1)) := by
  pointwise [k0_pay1]

/-- The reference's array at an entry: the entry's column lies in one of the weight's four parts. -/
theorem ref (x0 : (⟨Cert.Reference11Ideal.S8192x2048, .bf16⟩ : BufTy).Contents (Elt Ideal))
    (x1 : (⟨Cert.Reference11Ideal.S4x2048x1408, .bf16⟩ : BufTy).Contents (Elt Ideal)) (i : Cert.Reference11Ideal.S8192x5632.Idx) :
    val_main_v5 (F := Ideal) x0 x1 i = ∑ k : Fin 2048, x0 (ix2 (i 0) k)
      * x1 (ix3 ⟨(i 1).val / 1408, by have := (i 1).isLt; simp at *; omega⟩ k ⟨(i 1).val % 1408, by omega⟩) := by
  have h1 : (i 1).val < 5632 := (i 1).isLt
  refine (val_main_v4_apply x0 x1 i).trans (Finset.sum_congr rfl fun k _ => ?_)
  rw [val_main_v3_apply, val_main_v2_apply]
  refine congrArg₂ (· * ·) (congrArg x0 ?_) (congrArg x1 ?_) <;>
    blk_ext []

/-- At the call's end the result array is the reference's. -/
theorem final : (dats m 0 c).arrAt 2 cfg0.N = val_main_v5 (F := Ideal) (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  rw [part, ref]
  show @Eq EReal _ _
  refine Finset.sum_congr rfl fun k _ => ?_
  congr 1 <;> blk_ext [iblk, V, idx t]

end Cert.Kernel11Ideal.Gate

namespace Cert.Proof

open Idealize.ShloMosaic Idealize.ShloMosaic.TcCoe Idealize.SL.Sem
open Cert.Reference11Ideal.Read

/-- Over the extended reals the call and the reference end with equal gates. -/
theorem algebraic11 : Cert.algebraic_Kernel11Ideal_Reference11Ideal (hKernel11Ideal := Cert.Kernel11Ideal.Gen.facts)
    (hReference11Ideal := Cert.Reference11Ideal.Gen.facts) := by
  intro m g m' g' _ harg
  refine ⟨fun c => val_main_v5 (F := Ideal) (m ((c.tc : Thread _ _).loc Cert.Kernel11Ideal.main_arg0))
    (m ((c.tc : Thread _ _).loc Cert.Kernel11Ideal.main_arg1)), ?_, ?_⟩
  · exact (θ_run Cert.Kernel11Ideal.defs _ _).mono (fun r h c => ⟨(h c).1.trans (Cert.Kernel11Ideal.Gate.final m c), (h c).2⟩)
      (Cert.Kernel11Ideal.Value.run_blocks (F := Ideal) m g)
  · exact (θ_run Cert.Reference11Ideal.defs _ _).mono (fun r h c => ⟨(h c).1.trans ((val_main_v5_eq _ _).trans
      (congrArg₂ _ (harg c).1 (harg c).2)), (h c).2⟩) (Cert.Reference11Ideal.Value.run (F := Ideal) m' g')

end Cert.Proof
-- ==== Proof.UpForward.lean ====
/- The up-projection of a SwiGLU layer and the layer's hidden value: what the call leaves in its two result arrays is the reference's arrays. -/
module

public import proofs.«01_k».proof.Defs
public import proofs.«01_k».proof.Proof.Gen.Kernel12Ideal.Value
public import proofs.«01_k».proof.Proof.Gen.Reference12Ideal.Read
public import proofs.«01_k».proof.Proof.Gen.Reference12Ideal.Run
public import Idealize.ShloMosaic.Lib.Pipeline.ValueKit

@[expose] public section

set_option maxRecDepth 16384

noncomputable section

namespace Cert.Kernel12Ideal.Up

open Idealize.ShloMosaic Idealize.ShloMosaic.TcCoe Idealize.SL.Sem
open Cert.Kernel12Ideal.Gen
open Idealize.ShloMosaic.Pipeline (Dat)
open Cert.Reference12Ideal.Read

/-- The hidden value, of the gate `g` and the up-projection `u`. -/
def act (g u : EReal) : EReal := g * Ideal.logistic g * u

variable (m : (ℓ : Loc nD τ sig) → Buf (Elt Ideal) ℓ) (c : Dev nD)

/-- Which blocks grid point `t` reads and writes. -/
theorem idx : ∀ t : Fin cfg0.N, win0_0.index t = ![t.val % 16, 0] ∧ win0_1.index t = ![t.val / 16, 0, 0]
    ∧ win0_2.index t = ![t.val % 16, t.val / 16] ∧ win0_3.index t = ![t.val % 16, t.val / 16]
    ∧ win0_4.index t = ![t.val % 16, t.val / 16] := by
  decide +kernel

/-- The up-projection at an entry of a part of 256 rows. -/
theorem part_up (v0 : Vec Ideal S256x2048 .bf16) (v1 : Vec Ideal S1x2048x1408 .bf16) (y : S256x1408.Idx) :
    k0_pay3 (F := Ideal) v0 v1 y = ∑ k : Fin 2048, v0 (ix2 (y 0) k) * v1 (ix3 0 k (y 1)) := by
  pointwise [k0_pay3, k0_pay2]

/-- The hidden value at an entry of a part of 256 rows. -/
theorem part_act (v0 : Vec Ideal S256x2048 .bf16) (v1 : Vec Ideal S1x2048x1408 .bf16) (v4 : Vec Ideal S256x1408 .bf16) (y : S256x1408.Idx) :
    k0_pay4 (F := Ideal) v0 v1 v4 y = act (v4 y) (∑ k : Fin 2048, v0 (ix2 (y 0) k) * v1 (ix3 0 k (y 1))) := by
  unfold act Ideal.logistic
  pointwise [k0_pay4, k0_pay2]
  rw [zero_sub]

/-- What a grid point leaves in the first result's block. -/
theorem block_up (x0 : Vec Ideal S512x2048 .bf16) (x1 : Vec Ideal S1x2048x1408 .bf16) (x2 : Vec Ideal S512x1408 .bf16) (y : S512x1408.Idx) :
    out0_3 (F := Ideal) x0 x1 x2 y = ∑ k : Fin 2048, x0 (ix2 (y 0) k) * x1 (ix3 0 k (y 1)) := by
  unfold out0_3
  canon_tiles x h
  all_goals
    refine (part_up _ _ x).trans ?_
    exact Finset.sum_congr rfl fun k _ => congrArg₂ (· * ·)
      (View.ld_unit_apply_of _ _ _ _ _ _ (Fin.forall_fin_two.2 ⟨by first | exact h0 | exact h0.trans (Nat.zero_add _).symm, (Nat.zero_add _).symm⟩))
      (View.ld_unit_apply_of _ _ _ _ _ _ (Fin.forall_fin_succ.2 ⟨rfl, Fin.forall_fin_two.2 ⟨(Nat.zero_add _).symm, h1.trans (Nat.zero_add _).symm⟩⟩))

/-- What a grid point leaves in the second result's block. -/
theorem block_act (x0 : Vec Ideal S512x2048 .bf16) (x1 : Vec Ideal S1x2048x1408 .bf16) (x2 : Vec Ideal S512x1408 .bf16) (y : S512x1408.Idx) :
    out0_4 (F := Ideal) x0 x1 x2 y = act (x2 y) (∑ k : Fin 2048, x0 (ix2 (y 0) k) * x1 (ix3 0 k (y 1))) := by
  unfold out0_4
  canon_tiles x h
  all_goals
    refine (part_act _ _ _ x).trans ?_
    refine congrArg₂ act ?_ (Finset.sum_congr rfl fun k _ => congrArg₂ (· * ·)
      (View.ld_unit_apply_of _ _ _ _ _ _ (Fin.forall_fin_two.2 ⟨by first | exact h0 | exact h0.trans (Nat.zero_add _).symm, (Nat.zero_add _).symm⟩))
      (View.ld_unit_apply_of _ _ _ _ _ _ (Fin.forall_fin_succ.2 ⟨rfl, Fin.forall_fin_two.2 ⟨(Nat.zero_add _).symm, h1.trans (Nat.zero_add _).symm⟩⟩)))
    exact View.ld_unit_apply_of _ _ _ _ _ _ (Fin.forall_fin_two.2 ⟨by first | exact h0 | exact h0.trans (Nat.zero_add _).symm, h1.trans (Nat.zero_add _).symm⟩)

/-- The reference's first array at an entry: the entry's column lies in one of the weight's four parts. -/
theorem ref_up (x0 : (⟨Cert.Reference12Ideal.S8192x2048, .bf16⟩ : BufTy).Contents (Elt Ideal))
    (x1 : (⟨Cert.Reference12Ideal.S4x2048x1408, .bf16⟩ : BufTy).Contents (Elt Ideal)) (i : Cert.Reference12Ideal.S8192x5632.Idx) :
    val_main_v5 (F := Ideal) x0 x1 i = ∑ k : Fin 2048, x0 (ix2 (i 0) k)
      * x1 (ix3 ⟨(i 1).val / 1408, by have := (i 1).isLt; simp at *; omega⟩ k ⟨(i 1).val % 1408, by omega⟩) := by
  have h1 : (i 1).val < 5632 := (i 1).isLt
  refine (val_main_v4_apply x0 x1 i).trans (Finset.sum_congr rfl fun k _ => ?_)
  rw [val_main_v3_apply, val_main_v2_apply]
  refine congrArg₂ (· * ·) (congrArg x0 ?_) (congrArg x1 ?_) <;>
    blk_ext []

/-- The reference's logistic function of the gate. -/
theorem ref_logistic (x2 : (⟨Cert.Reference12Ideal.S8192x5632, .bf16⟩ : BufTy).Contents (Elt Ideal)) (i : Cert.Reference12Ideal.S8192x5632.Idx) :
    val_main_call0_v5 (F := Ideal) x2 i = Ideal.logistic (x2 i) := by
  unfold Ideal.logistic
  pointwise [val_main_call0_v5_apply, val_main_call0_v4_apply, val_main_call0_v3_apply, val_main_call0_cst_0_apply,
    val_main_call0_v2_apply, val_main_call0_cst_apply, val_main_call0_v1_apply, val_main_call0_v0_apply, val_main_v6_apply]

/-- The reference's second array at an entry. -/
theorem ref_act (x0 : (⟨Cert.Reference12Ideal.S8192x2048, .bf16⟩ : BufTy).Contents (Elt Ideal))
    (x1 : (⟨Cert.Reference12Ideal.S4x2048x1408, .bf16⟩ : BufTy).Contents (Elt Ideal))
    (x2 : (⟨Cert.Reference12Ideal.S8192x5632, .bf16⟩ : BufTy).Contents (Elt Ideal)) (i : Cert.Reference12Ideal.S8192x5632.Idx) :
    val_main_v9 (F := Ideal) x0 x1 x2 i = act (x2 i) (val_main_v5 (F := Ideal) x0 x1 i) := by
  refine Eq.trans (b := x2 i * val_main_call0_v5 (F := Ideal) x2 i * val_main_v5 (F := Ideal) x0 x1 i) rfl ?_
  rw [ref_logistic]
  rfl

/-- At the call's end the first result array is the reference's. -/
theorem final_up : (dats m 0 c).arrAt 3 cfg0.N = val_main_v5 (F := Ideal) (m ((c.tc : Thread nD τ).loc main_arg0))
    (m ((c.tc : Thread nD τ).loc main_arg1)) := by
  refine (dats m 0 c).arrAt_eq_of_covers 3 _ (by decide +kernel) fun t hf y => ?_
  blk_simp
  rw [after0_3, block_up, ref_up]
  show @Eq EReal _ _
  refine Finset.sum_congr rfl fun k _ => ?_
  congr 1 <;> blk_ext [iblk, V, idx t]

/-- At the call's end the second result array is the reference's. -/
theorem final_act : (dats m 0 c).arrAt 4 cfg0.N = val_main_v9 (F := Ideal) (m ((c.tc : Thread nD τ).loc main_arg0))
    (m ((c.tc : Thread nD τ).loc main_arg1)) (m ((c.tc : Thread nD τ).loc main_arg2)) := by
  refine (dats m 0 c).arrAt_eq_of_covers 4 _ (by decide +kernel) fun t hf y => ?_
  blk_simp
  rw [after0_4, block_act, ref_act, ref_up]
  congr 1
  refine Finset.sum_congr rfl fun k _ => ?_
  congr 1 <;> blk_ext [iblk, V, idx t]

end Cert.Kernel12Ideal.Up

namespace Cert.Proof

open Idealize.ShloMosaic Idealize.ShloMosaic.TcCoe Idealize.SL.Sem
open Cert.Reference12Ideal.Read

/-- Over the extended reals the call and the reference end with equal up-projections and equal hidden values. -/
theorem algebraic12 : Cert.algebraic_Kernel12Ideal_Reference12Ideal (hKernel12Ideal := Cert.Kernel12Ideal.Gen.facts)
    (hReference12Ideal := Cert.Reference12Ideal.Gen.facts) := by
  intro m g m' g' _ harg
  refine ⟨fun c => val_main_v5 (F := Ideal) (m ((c.tc : Thread _ _).loc Cert.Kernel12Ideal.main_arg0))
      (m ((c.tc : Thread _ _).loc Cert.Kernel12Ideal.main_arg1)),
    fun c => val_main_v9 (F := Ideal) (m ((c.tc : Thread _ _).loc Cert.Kernel12Ideal.main_arg0))
      (m ((c.tc : Thread _ _).loc Cert.Kernel12Ideal.main_arg1)) (m ((c.tc : Thread _ _).loc Cert.Kernel12Ideal.main_arg2)), ?_, ?_⟩
  · exact (θ_run Cert.Kernel12Ideal.defs _ _).mono (fun r h c => ⟨(h c).1.trans (Cert.Kernel12Ideal.Up.final_up m c),
      (h c).2.1.trans (Cert.Kernel12Ideal.Up.final_act m c), (h c).2.2⟩) (Cert.Kernel12Ideal.Value.run_blocks (F := Ideal) m g)
  · refine (θ_run Cert.Reference12Ideal.defs _ _).mono (fun r h c => ?_) (Cert.Reference12Ideal.Value.run (F := Ideal) m' g')
    obtain ⟨a0, a1, a2⟩ := harg c
    exact ⟨(h c).1.trans ((val_main_v5_eq _ _).trans (by rw [a0, a1])),
      (h c).2.1.trans ((val_main_v9_eq _ _ _).trans (by rw [a0, a1, a2])), (h c).2.2⟩

end Cert.Proof
-- ==== Proof.DownForward.lean ====
/- The last product of a SwiGLU layer and the sum with the layer's input: what the call leaves in its two result arrays is the reference's arrays. -/
module

public import proofs.«01_k».proof.Defs
public import proofs.«01_k».proof.Proof.Gen.Kernel13Ideal.Value
public import proofs.«01_k».proof.Proof.Gen.Reference13Ideal.Read
public import proofs.«01_k».proof.Proof.Gen.Reference13Ideal.Run
public import Idealize.ShloMosaic.Lib.Pipeline.ValueKit

@[expose] public section

set_option maxRecDepth 16384

noncomputable section

namespace Cert.Kernel13Ideal.Down

open Idealize.ShloMosaic Idealize.ShloMosaic.TcCoe Idealize.SL.Sem
open Cert.Kernel13Ideal.Gen
open Idealize.ShloMosaic.Pipeline (Dat)
open Cert.Reference13Ideal.Read

/-- The stream's new value, of its old value `h`, the layer's factor `s` and the product `y`. -/
def added (h s y : EReal) : EReal := h + s * y

variable (m : (ℓ : Loc nD τ sig) → Buf (Elt Ideal) ℓ) (c : Dev nD)

/-- Which blocks grid point `t` reads and writes. -/
theorem idx : ∀ t : Fin cfg0.N, win0_0.index t = ![t.val % 16, 0] ∧ win0_1.index t = ![0, t.val / 16]
    ∧ win0_2.index t = ![t.val % 16, t.val / 16] ∧ win0_3.index t = ![0, t.val / 16]
    ∧ win0_4.index t = ![t.val % 16, t.val / 16] ∧ win0_5.index t = ![t.val % 16, t.val / 16] := by
  decide +kernel

/-- One grid point's product at an entry: the sum over the weight's rows. -/
theorem part (v0 : Vec Ideal S512x5632 .bf16) (v1 : Vec Ideal S5632x512 .bf16) (y : S512x512.Idx) :
    k0_pay3 (F := Ideal) v0 v1 y = ∑ k : Fin 5632, v0 (ix2 (y 0) k) * v1 (ix2 k (y 1)) := by
  pointwise [k0_pay3, k0_pay1]

/-- One grid point's new stream at an entry. -/
theorem part_res (v0 : Vec Ideal S512x5632 .bf16) (v1 : Vec Ideal S5632x512 .bf16) (v3 : Vec Ideal S512x512 .f32) (v4 : Vec Ideal S1x512 .f32)
    (y : S512x512.Idx) : k0_pay2 (F := Ideal) v0 v1 v3 v4 y
      = added (v3 y) (v4 (ix2 0 (y 1))) (∑ k : Fin 5632, v0 (ix2 (y 0) k) * v1 (ix2 k (y 1))) := by
  unfold added
  pointwise [k0_pay2, k0_pay1]

/-- The reference's product at an entry. -/
theorem ref (x0 : (⟨Cert.Reference13Ideal.S8192x5632, .bf16⟩ : BufTy).Contents (Elt Ideal))
    (x1 : (⟨Cert.Reference13Ideal.S5632x2048, .bf16⟩ : BufTy).Contents (Elt Ideal)) (i : Cert.Reference13Ideal.S8192x2048.Idx) :
    val_main_v6 (F := Ideal) x0 x1 i = ∑ k : Fin 5632, x0 (ix2 (i 0) k) * x1 (ix2 k (i 1)) := by
  refine (val_main_v2_apply x0 x1 i).trans (Finset.sum_congr rfl fun k _ => ?_)
  refine congrArg₂ (· * ·) (congrArg x0 ?_) (congrArg x1 ?_) <;>
    blk_ext []

/-- The reference's new stream at an entry. -/
theorem ref_res (x0 : (⟨Cert.Reference13Ideal.S8192x5632, .bf16⟩ : BufTy).Contents (Elt Ideal))
    (x1 : (⟨Cert.Reference13Ideal.S5632x2048, .bf16⟩ : BufTy).Contents (Elt Ideal))
    (x2 : (⟨Cert.Reference13Ideal.S8192x2048, .f32⟩ : BufTy).Contents (Elt Ideal))
    (x3 : (⟨Cert.Reference13Ideal.S1x2048, .f32⟩ : BufTy).Contents (Elt Ideal)) (i : Cert.Reference13Ideal.S8192x2048.Idx) :
    val_main_v5 (F := Ideal) x0 x1 x2 x3 i = added (x2 i) (x3 (ix2 0 (i 1))) (val_main_v6 (F := Ideal) x0 x1 i) := by
  refine Eq.trans (b := added (x2 i) (val_main_v3 (F := Ideal) x3 i) (val_main_v6 (F := Ideal) x0 x1 i)) rfl ?_
  rw [val_main_v3_apply]
  refine congrArg (fun s => added (x2 i) s _) (congrArg x3 ?_)
  blk_ext []

/-- At the call's end the second result array is the reference's. -/
theorem final_out : (dats m 0 c).arrAt 5 cfg0.N = val_main_v6 (F := Ideal) (m ((c.tc : Thread nD τ).loc main_arg0))
    (m ((c.tc : Thread nD τ).loc main_arg1)) := by
  refine (dats m 0 c).arrAt_eq_of_covers 5 _ (by decide +kernel) fun t hf y => ?_
  blk_simp
  rw [after0_5]
  frame_out
  rw [part, ref]
  show @Eq EReal _ _
  refine Finset.sum_congr rfl fun k _ => ?_
  congr 1 <;> blk_ext [iblk, V, idx t]

/-- At the call's end the first result array is the reference's. -/
theorem final_res : (dats m 0 c).arrAt 4 cfg0.N = val_main_v5 (F := Ideal) (m ((c.tc : Thread nD τ).loc main_arg0))
    (m ((c.tc : Thread nD τ).loc main_arg1)) (m ((c.tc : Thread nD τ).loc main_arg2)) (m ((c.tc : Thread nD τ).loc main_arg3)) := by
  refine (dats m 0 c).arrAt_eq_of_covers 4 _ (by decide +kernel) fun t hf y => ?_
  blk_simp
  rw [after0_4]
  frame_out
  rw [part_res, ref_res, ref]
  refine congr (congr (congrArg added ?_) ?_) (Finset.sum_congr rfl fun k _ => ?_)
  · blk_ext [iblk, V, idx t]
  · blk_ext [iblk, V, idx t]
  · congr 1 <;> blk_ext [iblk, V, idx t]

end Cert.Kernel13Ideal.Down

namespace Cert.Proof

open Idealize.ShloMosaic Idealize.ShloMosaic.TcCoe Idealize.SL.Sem
open Cert.Reference13Ideal.Read

/-- Over the extended reals the call and the reference end with equal streams and equal products. -/
theorem algebraic13 : Cert.algebraic_Kernel13Ideal_Reference13Ideal (hKernel13Ideal := Cert.Kernel13Ideal.Gen.facts)
    (hReference13Ideal := Cert.Reference13Ideal.Gen.facts) := by
  intro m g m' g' _ harg
  refine ⟨fun c => val_main_v5 (F := Ideal) (m ((c.tc : Thread _ _).loc Cert.Kernel13Ideal.main_arg0))
      (m ((c.tc : Thread _ _).loc Cert.Kernel13Ideal.main_arg1)) (m ((c.tc : Thread _ _).loc Cert.Kernel13Ideal.main_arg2))
      (m ((c.tc : Thread _ _).loc Cert.Kernel13Ideal.main_arg3)),
    fun c => val_main_v6 (F := Ideal) (m ((c.tc : Thread _ _).loc Cert.Kernel13Ideal.main_arg0))
      (m ((c.tc : Thread _ _).loc Cert.Kernel13Ideal.main_arg1)), ?_, ?_⟩
  · exact (θ_run Cert.Kernel13Ideal.defs _ _).mono (fun r h c => ⟨(h c).1.trans (Cert.Kernel13Ideal.Down.final_res m c),
      (h c).2.1.trans (Cert.Kernel13Ideal.Down.final_out m c), (h c).2.2⟩) (Cert.Kernel13Ideal.Value.run_blocks (F := Ideal) m g)
  · refine (θ_run Cert.Reference13Ideal.defs _ _).mono (fun r h c => ?_) (Cert.Reference13Ideal.Value.run (F := Ideal) m' g')
    obtain ⟨a0, a1, a2, a3⟩ := harg c
    exact ⟨(h c).1.trans ((val_main_v5_eq _ _ _ _).trans (by rw [a0, a1, a2, a3])),
      (h c).2.1.trans ((val_main_v6_eq _ _).trans (by rw [a0, a1])), (h c).2.2⟩

end Cert.Proof
-- ==== Proof.ProjForward.lean ====
/- The projection to queries, keys and values: what the call leaves in its result array is the reference's array. -/
module

public import proofs.«01_k».proof.Defs
public import proofs.«01_k».proof.Proof.Gen.Kernel14Ideal.Value
public import proofs.«01_k».proof.Proof.Gen.Reference14Ideal.Read
public import proofs.«01_k».proof.Proof.Gen.Reference14Ideal.Run
public import Idealize.ShloMosaic.Lib.Pipeline.ValueKit

@[expose] public section

set_option maxRecDepth 16384

noncomputable section

namespace Cert.Kernel14Ideal.Proj

open Idealize.ShloMosaic Idealize.ShloMosaic.TcCoe Idealize.SL.Sem
open Cert.Kernel14Ideal.Gen
open Idealize.ShloMosaic.Pipeline (Dat)
open Cert.Reference14Ideal.Read

variable (m : (ℓ : Loc nD τ sig) → Buf (Elt Ideal) ℓ) (c : Dev nD)

/-- Which blocks grid point `t` reads and writes. -/
theorem idx : ∀ t : Fin cfg0.N, win0_0.index t = ![t.val % 8, 0] ∧ win0_1.index t = ![t.val / 8, 0, 0]
    ∧ win0_2.index t = ![t.val % 8, t.val / 8] := by
  decide +kernel

/-- One grid point's product at an entry: the sum over the layer's features. -/
theorem part (v0 : Vec Ideal S1024x2048 .bf16) (v1 : Vec Ideal S1x2048x1536 .bf16) (y : S1024x1536.Idx) :
    k0_pay1 (F := Ideal) v0 v1 y = ∑ k : Fin 2048, v0 (ix2 (y 0) k) * v1 (ix3 0 k (y 1)) := by
  pointwise [k0_pay1]

/-- The reference's array at an entry: the entry's column lies in one of the weight's four parts. -/
theorem ref (x0 : (⟨Cert.Reference14Ideal.S8192x2048, .bf16⟩ : BufTy).Contents (Elt Ideal))
    (x1 : (⟨Cert.Reference14Ideal.S4x2048x1536, .bf16⟩ : BufTy).Contents (Elt Ideal)) (i : Cert.Reference14Ideal.S8192x6144.Idx) :
    val_main_v5 (F := Ideal) x0 x1 i = ∑ k : Fin 2048, x0 (ix2 (i 0) k)
      * x1 (ix3 ⟨(i 1).val / 1536, by have := (i 1).isLt; simp at *; omega⟩ k ⟨(i 1).val % 1536, by omega⟩) := by
  have h1 : (i 1).val < 6144 := (i 1).isLt
  refine (val_main_v4_apply x0 x1 i).trans (Finset.sum_congr rfl fun k _ => ?_)
  rw [val_main_v3_apply, val_main_v2_apply]
  refine congrArg₂ (· * ·) (congrArg x0 ?_) (congrArg x1 ?_) <;>
    blk_ext []

/-- At the call's end the result array is the reference's. -/
theorem final : (dats m 0 c).arrAt 2 cfg0.N = val_main_v5 (F := Ideal) (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  rw [part, ref]
  show @Eq EReal _ _
  refine Finset.sum_congr rfl fun k _ => ?_
  congr 1 <;> blk_ext [iblk, V, idx t]

end Cert.Kernel14Ideal.Proj

namespace Cert.Proof

open Idealize.ShloMosaic Idealize.ShloMosaic.TcCoe Idealize.SL.Sem
open Cert.Reference14Ideal.Read

/-- Over the extended reals the call and the reference end with equal projections. -/
theorem algebraic14 : Cert.algebraic_Kernel14Ideal_Reference14Ideal (hKernel14Ideal := Cert.Kernel14Ideal.Gen.facts)
    (hReference14Ideal := Cert.Reference14Ideal.Gen.facts) := by
  intro m g m' g' _ harg
  refine ⟨fun c => val_main_v5 (F := Ideal) (m ((c.tc : Thread _ _).loc Cert.Kernel14Ideal.main_arg0))
    (m ((c.tc : Thread _ _).loc Cert.Kernel14Ideal.main_arg1)), ?_, ?_⟩
  · exact (θ_run Cert.Kernel14Ideal.defs _ _).mono (fun r h c => ⟨(h c).1.trans (Cert.Kernel14Ideal.Proj.final m c), (h c).2⟩)
      (Cert.Kernel14Ideal.Value.run_blocks (F := Ideal) m g)
  · exact (θ_run Cert.Reference14Ideal.defs _ _).mono (fun r h c => ⟨(h c).1.trans ((val_main_v5_eq _ _).trans
      (congrArg₂ _ (harg c).1 (harg c).2)), (h c).2⟩) (Cert.Reference14Ideal.Value.run (F := Ideal) m' g')

end Cert.Proof
-- ==== Proof.ProjOutForward.lean ====
/- A mixing layer's output projection and the sum with the layer's input: what the call leaves in its two result arrays is the reference's arrays. -/
module

public import proofs.«01_k».proof.Defs
public import proofs.«01_k».proof.Proof.Gen.Kernel15Ideal.Value
public import proofs.«01_k».proof.Proof.Gen.Reference15Ideal.Read
public import proofs.«01_k».proof.Proof.Gen.Reference15Ideal.Run
public import Idealize.ShloMosaic.Lib.Pipeline.ValueKit

@[expose] public section

set_option maxRecDepth 16384

noncomputable section

namespace Cert.Kernel15Ideal.OutProj

open Idealize.ShloMosaic Idealize.ShloMosaic.TcCoe Idealize.SL.Sem
open Cert.Kernel15Ideal.Gen
open Idealize.ShloMosaic.Pipeline (Dat)
open Cert.Reference15Ideal.Read

/-- The stream's new value, of its old value `h`, the layer's factor `s` and the product `y`. -/
def added (h s y : EReal) : EReal := h + s * y

variable (m : (ℓ : Loc nD τ sig) → Buf (Elt Ideal) ℓ) (c : Dev nD)

/-- Which blocks grid point `t` reads and writes. -/
theorem idx : ∀ t : Fin cfg0.N, win0_0.index t = ![t.val % 16, 0] ∧ win0_1.index t = ![0, t.val / 16]
    ∧ win0_2.index t = ![t.val % 16, t.val / 16] ∧ win0_3.index t = ![0, t.val / 16]
    ∧ win0_4.index t = ![t.val % 16, t.val / 16] ∧ win0_5.index t = ![t.val % 16, t.val / 16] := by
  decide +kernel

/-- One grid point's product at an entry: the sum over the weight's rows. -/
theorem part (v0 : Vec Ideal S512x2048 .bf16) (v1 : Vec Ideal S2048x512 .bf16) (y : S512x512.Idx) :
    k0_pay3 (F := Ideal) v0 v1 y = ∑ k : Fin 2048, v0 (ix2 (y 0) k) * v1 (ix2 k (y 1)) := by
  pointwise [k0_pay3, k0_pay1]

/-- One grid point's new stream at an entry. -/
theorem part_res (v0 : Vec Ideal S512x2048 .bf16) (v1 : Vec Ideal S2048x512 .bf16) (v3 : Vec Ideal S512x512 .f32) (v4 : Vec Ideal S1x512 .f32)
    (y : S512x512.Idx) : k0_pay2 (F := Ideal) v0 v1 v3 v4 y
      = added (v3 y) (v4 (ix2 0 (y 1))) (∑ k : Fin 2048, v0 (ix2 (y 0) k) * v1 (ix2 k (y 1))) := by
  unfold added
  pointwise [k0_pay2, k0_pay1]

/-- The reference's product at an entry. -/
theorem ref (x0 : (⟨Cert.Reference15Ideal.S8192x2048, .bf16⟩ : BufTy).Contents (Elt Ideal))
    (x1 : (⟨Cert.Reference15Ideal.S2048x2048, .bf16⟩ : BufTy).Contents (Elt Ideal)) (i : Cert.Reference15Ideal.S8192x2048.Idx) :
    val_main_v6 (F := Ideal) x0 x1 i = ∑ k : Fin 2048, x0 (ix2 (i 0) k) * x1 (ix2 k (i 1)) := by
  refine (val_main_v2_apply x0 x1 i).trans (Finset.sum_congr rfl fun k _ => ?_)
  refine congrArg₂ (· * ·) (congrArg x0 ?_) (congrArg x1 ?_) <;>
    blk_ext []

/-- The reference's new stream at an entry. -/
theorem ref_res (x0 : (⟨Cert.Reference15Ideal.S8192x2048, .bf16⟩ : BufTy).Contents (Elt Ideal))
    (x1 : (⟨Cert.Reference15Ideal.S2048x2048, .bf16⟩ : BufTy).Contents (Elt Ideal))
    (x2 : (⟨Cert.Reference15Ideal.S8192x2048, .f32⟩ : BufTy).Contents (Elt Ideal))
    (x3 : (⟨Cert.Reference15Ideal.S1x2048, .f32⟩ : BufTy).Contents (Elt Ideal)) (i : Cert.Reference15Ideal.S8192x2048.Idx) :
    val_main_v5 (F := Ideal) x0 x1 x2 x3 i = added (x2 i) (x3 (ix2 0 (i 1))) (val_main_v6 (F := Ideal) x0 x1 i) := by
  refine Eq.trans (b := added (x2 i) (val_main_v3 (F := Ideal) x3 i) (val_main_v6 (F := Ideal) x0 x1 i)) rfl ?_
  rw [val_main_v3_apply]
  refine congrArg (fun s => added (x2 i) s _) (congrArg x3 ?_)
  blk_ext []

/-- At the call's end the second result array is the reference's. -/
theorem final_out : (dats m 0 c).arrAt 5 cfg0.N = val_main_v6 (F := Ideal) (m ((c.tc : Thread nD τ).loc main_arg0))
    (m ((c.tc : Thread nD τ).loc main_arg1)) := by
  refine (dats m 0 c).arrAt_eq_of_covers 5 _ (by decide +kernel) fun t hf y => ?_
  blk_simp
  rw [after0_5]
  frame_out
  rw [part, ref]
  show @Eq EReal _ _
  refine Finset.sum_congr rfl fun k _ => ?_
  congr 1 <;> blk_ext [iblk, V, idx t]

/-- At the call's end the first result array is the reference's. -/
theorem final_res : (dats m 0 c).arrAt 4 cfg0.N = val_main_v5 (F := Ideal) (m ((c.tc : Thread nD τ).loc main_arg0))
    (m ((c.tc : Thread nD τ).loc main_arg1)) (m ((c.tc : Thread nD τ).loc main_arg2)) (m ((c.tc : Thread nD τ).loc main_arg3)) := by
  refine (dats m 0 c).arrAt_eq_of_covers 4 _ (by decide +kernel) fun t hf y => ?_
  blk_simp
  rw [after0_4]
  frame_out
  rw [part_res, ref_res, ref]
  refine congr (congr (congrArg added ?_) ?_) (Finset.sum_congr rfl fun k _ => ?_)
  · blk_ext [iblk, V, idx t]
  · blk_ext [iblk, V, idx t]
  · congr 1 <;> blk_ext [iblk, V, idx t]

end Cert.Kernel15Ideal.OutProj

namespace Cert.Proof

open Idealize.ShloMosaic Idealize.ShloMosaic.TcCoe Idealize.SL.Sem
open Cert.Reference15Ideal.Read

/-- Over the extended reals the call and the reference end with equal streams and equal products. -/
theorem algebraic15 : Cert.algebraic_Kernel15Ideal_Reference15Ideal (hKernel15Ideal := Cert.Kernel15Ideal.Gen.facts)
    (hReference15Ideal := Cert.Reference15Ideal.Gen.facts) := by
  intro m g m' g' _ harg
  refine ⟨fun c => val_main_v5 (F := Ideal) (m ((c.tc : Thread _ _).loc Cert.Kernel15Ideal.main_arg0))
      (m ((c.tc : Thread _ _).loc Cert.Kernel15Ideal.main_arg1)) (m ((c.tc : Thread _ _).loc Cert.Kernel15Ideal.main_arg2))
      (m ((c.tc : Thread _ _).loc Cert.Kernel15Ideal.main_arg3)),
    fun c => val_main_v6 (F := Ideal) (m ((c.tc : Thread _ _).loc Cert.Kernel15Ideal.main_arg0))
      (m ((c.tc : Thread _ _).loc Cert.Kernel15Ideal.main_arg1)), ?_, ?_⟩
  · exact (θ_run Cert.Kernel15Ideal.defs _ _).mono (fun r h c => ⟨(h c).1.trans (Cert.Kernel15Ideal.OutProj.final_res m c),
      (h c).2.1.trans (Cert.Kernel15Ideal.OutProj.final_out m c), (h c).2.2⟩) (Cert.Kernel15Ideal.Value.run_blocks (F := Ideal) m g)
  · refine (θ_run Cert.Reference15Ideal.defs _ _).mono (fun r h c => ?_) (Cert.Reference15Ideal.Value.run (F := Ideal) m' g')
    obtain ⟨a0, a1, a2, a3⟩ := harg c
    exact ⟨(h c).1.trans ((val_main_v5_eq _ _ _ _).trans (by rw [a0, a1, a2, a3])),
      (h c).2.1.trans ((val_main_v6_eq _ _).trans (by rw [a0, a1])), (h c).2.2⟩

end Cert.Proof
-- ==== Proof.PoolInGrad.lean ====
/- The gradient of the pooled differences through the pool's grouped product: what the call leaves in its result array is the reference's array. -/
module

public import proofs.«01_k».proof.Defs
public import proofs.«01_k».proof.Proof.Gen.Kernel16Ideal.Value
public import proofs.«01_k».proof.Proof.Gen.Reference16Ideal.Read
public import proofs.«01_k».proof.Proof.Gen.Reference16Ideal.Run
public import Idealize.ShloMosaic.Lib.Pipeline.ValueKit

@[expose] public section

set_option maxRecDepth 16384

noncomputable section

namespace Cert.Kernel16Ideal.PoolIn

open Idealize.ShloMosaic Idealize.ShloMosaic.TcCoe Idealize.SL.Sem
open Cert.Kernel16Ideal.Gen
open Idealize.ShloMosaic.Pipeline (Dat)
open Cert.Reference16Ideal.Read

variable (m : (ℓ : Loc nD τ sig) → Buf (Elt Ideal) ℓ) (c : Dev nD)

/-- Which blocks grid point `t` reads and writes. -/
theorem idx : ∀ t : Fin cfg0.N, win0_0.index t = ![t.val % 8, t.val / 8] ∧ win0_1.index t = ![t.val / 8, 0, 0]
    ∧ win0_2.index t = ![t.val % 8, t.val / 8] := by
  decide +kernel

/-- One grid point's product at an entry: the sum over the columns of its group's weight. -/
theorem part (v0 : Vec Ideal S1024x512 .bf16) (v1 : Vec Ideal S1x512x512 .bf16) (y : S1024x512.Idx) :
    k0_pay1 (F := Ideal) v0 v1 y = ∑ k : Fin 512, v0 (ix2 (y 0) k) * v1 (ix3 0 (y 1) k) := by
  pointwise [k0_pay1]

/-- The reference's array at an entry: the sum over the columns of the entry's group. -/
theorem ref (x0 : (⟨Cert.Reference16Ideal.S8192x2048, .bf16⟩ : BufTy).Contents (Elt Ideal))
    (x1 : (⟨Cert.Reference16Ideal.S4x512x512, .bf16⟩ : BufTy).Contents (Elt Ideal)) (i : Cert.Reference16Ideal.S8192x2048.Idx) :
    val_main_v12 (F := Ideal) x0 x1 i = ∑ k : Fin 512,
      x0 (ix2 (i 0) ⟨512 * ((i 1).val / 512) + k.val, by have := (i 1).isLt; simp at *; omega⟩)
      * x1 (ix3 ⟨(i 1).val / 512, by have := (i 1).isLt; simp at *; omega⟩ ⟨(i 1).val % 512, by omega⟩ k) := by
  have h0 : (i 0).val < 8192 := (i 0).isLt
  have h1 : (i 1).val < 2048 := (i 1).isLt
  refine Eq.trans (b := val_main_v11 (F := Ideal) x0 x1 i) rfl ?_
  rw [val_main_v11_apply, val_main_v10_apply, val_main_v9_apply]
  refine Finset.sum_congr rfl fun k _ => ?_
  rw [val_main_v8_apply, val_main_v7_apply]
  refine congrArg₂ (· * ·) (congrArg x0 ?_) (congrArg x1 ?_) <;>
    blk_ext []

/-- At the call's end the result array is the reference's. -/
theorem final : (dats m 0 c).arrAt 2 cfg0.N = val_main_v12 (F := Ideal) (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  rw [part, ref]
  show @Eq EReal _ _
  refine Finset.sum_congr rfl fun k _ => ?_
  congr 1 <;> blk_ext [iblk, V, idx t]

end Cert.Kernel16Ideal.PoolIn

namespace Cert.Proof

open Idealize.ShloMosaic Idealize.ShloMosaic.TcCoe Idealize.SL.Sem
open Cert.Reference16Ideal.Read

/-- Over the extended reals the call and the reference end with equal gradients of the pooled differences. -/
theorem algebraic16 : Cert.algebraic_Kernel16Ideal_Reference16Ideal (hKernel16Ideal := Cert.Kernel16Ideal.Gen.facts)
    (hReference16Ideal := Cert.Reference16Ideal.Gen.facts) := by
  intro m g m' g' _ harg
  refine ⟨fun c => val_main_v12 (F := Ideal) (m ((c.tc : Thread _ _).loc Cert.Kernel16Ideal.main_arg0))
    (m ((c.tc : Thread _ _).loc Cert.Kernel16Ideal.main_arg1)), ?_, ?_⟩
  · exact (θ_run Cert.Kernel16Ideal.defs _ _).mono (fun r h c => ⟨(h c).1.trans (Cert.Kernel16Ideal.PoolIn.final m c), (h c).2⟩)
      (Cert.Kernel16Ideal.Value.run_blocks (F := Ideal) m g)
  · exact (θ_run Cert.Reference16Ideal.defs _ _).mono (fun r h c => ⟨(h c).1.trans ((val_main_v12_eq _ _).trans
      (congrArg₂ _ (harg c).1 (harg c).2)), (h c).2⟩) (Cert.Reference16Ideal.Value.run (F := Ideal) m' g')

end Cert.Proof
-- ==== Proof.PoolWeightGrad.lean ====
/- The gradient of the pool's grouped weight: what the call leaves in its result array is the reference's array. -/
module

public import proofs.«01_k».proof.Defs
public import proofs.«01_k».proof.Proof.Gen.Kernel17Ideal.Value
public import proofs.«01_k».proof.Proof.Gen.Reference17Ideal.Read
public import proofs.«01_k».proof.Proof.Gen.Reference17Ideal.Run
public import Idealize.ShloMosaic.Lib.Pipeline.ValueKit

@[expose] public section

set_option maxRecDepth 16384

noncomputable section

namespace Cert.Kernel17Ideal.PoolWeight

open Idealize.ShloMosaic Idealize.ShloMosaic.TcCoe Idealize.SL.Sem
open Cert.Kernel17Ideal.Gen
open Idealize.ShloMosaic.Pipeline (Dat)
open Cert.Reference17Ideal.Read

variable (m : (ℓ : Loc nD τ sig) → Buf (Elt Ideal) ℓ) (c : Dev nD)

/-- Which blocks grid point `t` reads and writes. -/
theorem idx : ∀ t : Fin cfg0.N, win0_0.index t = ![t.val % 4, t.val / 4] ∧ win0_1.index t = ![t.val % 4, t.val / 4]
    ∧ win0_2.index t = ![t.val / 4, 0, 0] := by
  decide +kernel

/-- One grid point's product at an entry: the sum over its rows. -/
theorem part (v0 v1 : Vec Ideal S2048x512 .bf16) (y : S1x512x512.Idx) :
    k0_pay2 (F := Ideal) v0 v1 y = ∑ k : Fin 2048, v0 (ix2 k (y 1)) * v1 (ix2 k (y 2)) := by
  pointwise [k0_pay2, k0_pay1]

/-- A later point of a run adds its product to what the run has left. -/
theorem step (v0 v1 : Vec Ideal S2048x512 .bf16) (v9 : Vec Ideal S1x512x512 .f32) (y : S1x512x512.Idx) :
    k0_pay3 (F := Ideal) v0 v1 v9 y = v9 y + k0_pay2 (F := Ideal) v0 v1 y := by
  rw [part]
  pointwise [k0_pay3, k0_pay1]

/-- The block a run of four points leaves: the sum of their products. -/
theorem run_eq (t : Fin cfg0.N) (hf : (cfg0.win 2).flush t = true) (y : S1x512x512.Idx) :
    (dats m 0 c).after 2 t y = ∑ s : Fin 4, k0_pay2 (F := Ideal)
      (iblk m c 0 ⟨4 * (t.val / 4) + s.val, Pipeline.run_point_lt_of_flush t ((flush0_2 t).mp hf) s⟩)
      (iblk m c 1 ⟨4 * (t.val / 4) + s.val, Pipeline.run_point_lt_of_flush t ((flush0_2 t).mp hf) s⟩) y := by
  rw [after0_2, Pipeline.eq_sum_fin_of_reset_step_apply_of_flush (fun n h => outsAt0 m c n h) 4 (fun _ => 0)
    (fun t j => k0_pay2 (F := Ideal) (iblk m c 0 t) (iblk m c 1 t) j)
    (fun t h j => by rw [outsAt0_A m c t h (by omega)]; frame_out; exact (zero_add _).symm)
    (fun t h j => by rw [outsAt0_B m c t h (by omega)]; frame_out; rw [step]) t ((flush0_2 t).mp hf) y, zero_add]

/-- The reference's array at an entry: the sum over all rows, at the entry's group of columns. -/
theorem ref (x0 x1 : (⟨Cert.Reference17Ideal.S8192x2048, .bf16⟩ : BufTy).Contents (Elt Ideal)) (i : Cert.Reference17Ideal.S4x512x512.Idx) :
    val_main_v10 (F := Ideal) x0 x1 i = ∑ k : Fin 8192,
      x0 (ix2 k ⟨512 * (i 0).val + (i 1).val, by have := (i 0).isLt; have := (i 1).isLt; simp at *; omega⟩)
      * x1 (ix2 k ⟨512 * (i 0).val + (i 2).val, by have := (i 0).isLt; have := (i 2).isLt; simp at *; omega⟩) := by
  have h0 : (i 0).val < 4 := (i 0).isLt
  have h1 : (i 1).val < 512 := (i 1).isLt
  have h2 : (i 2).val < 512 := (i 2).isLt
  rw [val_main_v10_apply, val_main_v9_apply]
  refine Finset.sum_congr rfl fun k _ => (mul_comm _ _).trans ?_
  rw [val_main_v8_apply, val_main_v7_apply, val_main_v2_apply]
  refine congrArg₂ (· * ·) (congrArg x0 ?_) (congrArg x1 ?_) <;>
    blk_ext []

/-- At the call's end the result array is the reference's. -/
theorem final : (dats m 0 c).arrAt 2 cfg0.N = val_main_v10 (F := Ideal) (m ((c.tc : Thread nD τ).loc main_arg0)) (m ((c.tc : Thread nD τ).loc main_arg1)) := by
  refine (dats m 0 c).arrAt_eq_of_covers 2 _ (by decide +kernel) fun t hf y => ?_
  blk_simp
  rw [run_eq m c t hf, ref]
  refine (Finset.sum_congr rfl fun s _ => part _ _ _).trans ?_
  refine Fin.sum_mul_add_congr fun s k hl => ?_
  congr 1 <;> blk_ext [iblk, V, idx t, idx ⟨_, Pipeline.run_point_lt_of_flush t ((flush0_2 t).mp hf) s⟩]

end Cert.Kernel17Ideal.PoolWeight

namespace Cert.Proof

open Idealize.ShloMosaic Idealize.ShloMosaic.TcCoe Idealize.SL.Sem
open Cert.Reference17Ideal.Read

/-- Over the extended reals the call and the reference end with equal gradients of the grouped weight. -/
theorem algebraic17 : Cert.algebraic_Kernel17Ideal_Reference17Ideal (hKernel17Ideal := Cert.Kernel17Ideal.Gen.facts)
    (hReference17Ideal := Cert.Reference17Ideal.Gen.facts) := by
  intro m g m' g' _ harg
  refine ⟨fun c => val_main_v10 (F := Ideal) (m ((c.tc : Thread _ _).loc Cert.Kernel17Ideal.main_arg0))
    (m ((c.tc : Thread _ _).loc Cert.Kernel17Ideal.main_arg1)), ?_, ?_⟩
  · exact (θ_run Cert.Kernel17Ideal.defs _ _).mono (fun r h c => ⟨(h c).1.trans (Cert.Kernel17Ideal.PoolWeight.final m c), (h c).2⟩)
      (Cert.Kernel17Ideal.Value.run_blocks (F := Ideal) m g)
  · exact (θ_run Cert.Reference17Ideal.defs _ _).mono (fun r h c => ⟨(h c).1.trans ((val_main_v10_eq _ _).trans
      (congrArg₂ _ (harg c).1 (harg c).2)), (h c).2⟩) (Cert.Reference17Ideal.Value.run (F := Ideal) m' g')

end Cert.Proof
-- ==== Proof.PoolForward.lean ====
/- The pool's grouped product and the sum with the layer's input: what the call leaves in its two result arrays is the reference's arrays. -/
module

public import proofs.«01_k».proof.Defs
public import proofs.«01_k».proof.Proof.Gen.Kernel18Ideal.Value
public import proofs.«01_k».proof.Proof.Gen.Reference18Ideal.Read
public import proofs.«01_k».proof.Proof.Gen.Reference18Ideal.Run
public import Idealize.ShloMosaic.Lib.Pipeline.ValueKit

@[expose] public section

set_option maxRecDepth 16384

noncomputable section

namespace Cert.Kernel18Ideal.PoolOut

open Idealize.ShloMosaic Idealize.ShloMosaic.TcCoe Idealize.SL.Sem
open Cert.Kernel18Ideal.Gen
open Idealize.ShloMosaic.Pipeline (Dat)
open Cert.Reference18Ideal.Read

/-- The stream's new value, of its old value `h`, the column's gate `g`, the layer's factor `s` and the product `y`. -/
def added (h g s y : EReal) : EReal := h + g * s * y

/-- The stream's new value, of its old value `h`, the product `g` of the column's gate and the layer's factor, and the product `y`. -/
def plus (h g y : EReal) : EReal := h + g * y

/-- The new stream in terms of that product. -/
theorem added_eq (h g s y : EReal) : added h g s y = plus h (g * s) y := rfl

variable (m : (ℓ : Loc nD τ sig) → Buf (Elt Ideal) ℓ) (c : Dev nD)

/-- Which blocks grid point `t` reads and writes. -/
theorem idx : ∀ t : Fin cfg0.N, win0_0.index t = ![t.val % 16, t.val / 16] ∧ win0_1.index t = ![t.val / 16, 0, 0]
    ∧ win0_2.index t = ![t.val % 16, t.val / 16] ∧ win0_3.index t = ![0, t.val / 16]
    ∧ win0_4.index t = ![t.val % 16, t.val / 16] ∧ win0_5.index t = ![t.val % 16, t.val / 16] := by
  decide +kernel

/-- The product of a gate and a layer's factor. -/
def factor (g s : EReal) : EReal := g * s

/-- The row of column factors that the call is given: the gates times the layer's factors. -/
theorem factors : V m c main_v0 = fun i => factor (m ((c.tc : Thread nD τ).loc main_arg3) i) (m ((c.tc : Thread nD τ).loc main_arg4) i) := by
  unfold_abbrev_sides
  after_results
  rfl

/-- One grid point's product at an entry: the sum over the rows of its group's weight. -/
theorem part (v0 : Vec Ideal S512x512 .bf16) (v1 : Vec Ideal S1x512x512 .bf16) (y : S512x512.Idx) :
    k0_pay3 (F := Ideal) v0 v1 y = ∑ k : Fin 512, v0 (ix2 (y 0) k) * v1 (ix3 0 k (y 1)) := by
  pointwise [k0_pay3, k0_pay1]

/-- One grid point's new stream at an entry. -/
theorem part_res (v0 : Vec Ideal S512x512 .bf16) (v1 : Vec Ideal S1x512x512 .bf16) (v4 : Vec Ideal S512x512 .f32) (v5 : Vec Ideal S1x512 .f32)
    (y : S512x512.Idx) : k0_pay2 (F := Ideal) v0 v1 v4 v5 y
      = plus (v4 y) (v5 (ix2 0 (y 1))) (∑ k : Fin 512, v0 (ix2 (y 0) k) * v1 (ix3 0 k (y 1))) := by
  unfold plus
  pointwise [k0_pay2, k0_pay1]

/-- The reference's product at an entry: the sum over the columns of the entry's group. -/
theorem ref (x0 : (⟨Cert.Reference18Ideal.S8192x2048, .bf16⟩ : BufTy).Contents (Elt Ideal))
    (x1 : (⟨Cert.Reference18Ideal.S4x512x512, .bf16⟩ : BufTy).Contents (Elt Ideal)) (i : Cert.Reference18Ideal.S8192x2048.Idx) :
    val_main_v11 (F := Ideal) x0 x1 i = ∑ k : Fin 512,
      x0 (ix2 (i 0) ⟨512 * ((i 1).val / 512) + k.val, by have := (i 1).isLt; simp at *; omega⟩)
      * x1 (ix3 ⟨(i 1).val / 512, by have := (i 1).isLt; simp at *; omega⟩ k ⟨(i 1).val % 512, by omega⟩) := by
  have h0 : (i 0).val < 8192 := (i 0).isLt
  have h1 : (i 1).val < 2048 := (i 1).isLt
  refine Eq.trans (b := val_main_v5 (F := Ideal) x0 x1 i) rfl ?_
  rw [val_main_v5_apply, val_main_v4_apply, val_main_v3_apply]
  refine Finset.sum_congr rfl fun k _ => (mul_comm _ _).trans ?_
  rw [val_main_v2_apply]
  refine congrArg₂ (· * ·) (congrArg x0 ?_) (congrArg x1 ?_) <;>
    blk_ext []

/-- The reference's new stream at an entry. -/
theorem ref_res (x0 : (⟨Cert.Reference18Ideal.S8192x2048, .bf16⟩ : BufTy).Contents (Elt Ideal))
    (x1 : (⟨Cert.Reference18Ideal.S4x512x512, .bf16⟩ : BufTy).Contents (Elt Ideal))
    (x2 : (⟨Cert.Reference18Ideal.S8192x2048, .f32⟩ : BufTy).Contents (Elt Ideal))
    (x3 x4 : (⟨Cert.Reference18Ideal.S1x2048, .f32⟩ : BufTy).Contents (Elt Ideal)) (i : Cert.Reference18Ideal.S8192x2048.Idx) :
    val_main_v10 (F := Ideal) x0 x1 x2 x3 x4 i
      = added (x2 i) (x3 (ix2 0 (i 1))) (x4 (ix2 0 (i 1))) (val_main_v11 (F := Ideal) x0 x1 i) := by
  refine Eq.trans (b := x2 i + val_main_v8 (F := Ideal) x3 i * (val_main_v11 (F := Ideal) x0 x1 i * val_main_v6 (F := Ideal) x4 i)) rfl ?_
  have e3 : val_main_v8 (F := Ideal) x3 i = x3 (ix2 0 (i 1)) := by
    rw [val_main_v8_apply]
    exact congrArg x3 (by blk_ext [])
  have e4 : val_main_v6 (F := Ideal) x4 i = x4 (ix2 0 (i 1)) := by
    rw [val_main_v6_apply]
    exact congrArg x4 (by blk_ext [])
  rw [e3, e4]
  exact congrArg (x2 i + ·) (by rw [mul_assoc]; exact congrArg _ (mul_comm _ _))

/-- At the call's end the second result array is the reference's. -/
theorem final_out : (dats m 0 c).arrAt 5 cfg0.N = val_main_v11 (F := Ideal) (m ((c.tc : Thread nD τ).loc main_arg0))
    (m ((c.tc : Thread nD τ).loc main_arg1)) := by
  refine (dats m 0 c).arrAt_eq_of_covers 5 _ (by decide +kernel) fun t hf y => ?_
  blk_simp
  rw [after0_5]
  frame_out
  rw [part, ref, ← V_main_arg0 m c, ← V_main_arg1 m c]
  show @Eq EReal _ _
  refine Finset.sum_congr rfl fun k _ => ?_
  congr 1 <;> blk_ext [iblk, idx t]

/-- At the call's end the first result array is the reference's. -/
theorem final_res : (dats m 0 c).arrAt 4 cfg0.N = val_main_v10 (F := Ideal) (m ((c.tc : Thread nD τ).loc main_arg0))
    (m ((c.tc : Thread nD τ).loc main_arg1)) (m ((c.tc : Thread nD τ).loc main_arg2)) (m ((c.tc : Thread nD τ).loc main_arg3))
    (m ((c.tc : Thread nD τ).loc main_arg4)) := by
  refine (dats m 0 c).arrAt_eq_of_covers 4 _ (by decide +kernel) fun t hf y => ?_
  blk_simp
  rw [after0_4]
  frame_out
  rw [part_res, ref_res, ref, ← V_main_arg0 m c, ← V_main_arg1 m c, ← V_main_arg2 m c, added_eq]
  refine congr (congr (congrArg plus ?_) ?_) (Finset.sum_congr rfl fun k _ => ?_)
  · blk_ext [iblk, idx t]
  · refine Eq.trans ?_ (congrFun (factors m c) _)
    blk_ext [iblk, idx t]
  · congr 1 <;> blk_ext [iblk, idx t]

end Cert.Kernel18Ideal.PoolOut

namespace Cert.Proof

open Idealize.ShloMosaic Idealize.ShloMosaic.TcCoe Idealize.SL.Sem
open Cert.Reference18Ideal.Read

/-- Over the extended reals the call and the reference end with equal streams and equal products. -/
theorem algebraic18 : Cert.algebraic_Kernel18Ideal_Reference18Ideal (hKernel18Ideal := Cert.Kernel18Ideal.Gen.facts)
    (hReference18Ideal := Cert.Reference18Ideal.Gen.facts) := by
  intro m g m' g' _ harg
  refine ⟨fun c => val_main_v10 (F := Ideal) (m ((c.tc : Thread _ _).loc Cert.Kernel18Ideal.main_arg0))
      (m ((c.tc : Thread _ _).loc Cert.Kernel18Ideal.main_arg1)) (m ((c.tc : Thread _ _).loc Cert.Kernel18Ideal.main_arg2))
      (m ((c.tc : Thread _ _).loc Cert.Kernel18Ideal.main_arg3)) (m ((c.tc : Thread _ _).loc Cert.Kernel18Ideal.main_arg4)),
    fun c => val_main_v11 (F := Ideal) (m ((c.tc : Thread _ _).loc Cert.Kernel18Ideal.main_arg0))
      (m ((c.tc : Thread _ _).loc Cert.Kernel18Ideal.main_arg1)), ?_, ?_⟩
  · exact (θ_run Cert.Kernel18Ideal.defs _ _).mono (fun r h c => ⟨(h c).1.trans (Cert.Kernel18Ideal.PoolOut.final_res m c),
      (h c).2.1.trans (Cert.Kernel18Ideal.PoolOut.final_out m c), (h c).2.2⟩) (Cert.Kernel18Ideal.Value.run_blocks (F := Ideal) m g)
  · refine (θ_run Cert.Reference18Ideal.defs _ _).mono (fun r h c => ?_) (Cert.Reference18Ideal.Value.run (F := Ideal) m' g')
    obtain ⟨a0, a1, a2, a3, a4⟩ := harg c
    exact ⟨(h c).1.trans ((val_main_v10_eq _ _ _ _ _).trans (by rw [a0, a1, a2, a3, a4])),
      (h c).2.1.trans ((val_main_v11_eq _ _).trans (by rw [a0, a1])), (h c).2.2⟩

end Cert.Proof
-- ==== Proof.MixFrames.lean ====
/- The frames of the mixing layer's projections, forward and backward, and of their references: each run ends with its arguments as launched and every counter at zero. -/
module

public import proofs.«01_k».proof.Defs
public import proofs.«01_k».proof.Proof.Gen.Kernel7.Frame
public import proofs.«01_k».proof.Proof.Gen.Kernel7Ideal.Frame
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Reference9Ideal.Run
public import proofs.«01_k».proof.Proof.Gen.Kernel10.Frame
public import proofs.«01_k».proof.Proof.Gen.Kernel10Ideal.Frame
public import proofs.«01_k».proof.Proof.Gen.Reference10Ideal.Run
public import proofs.«01_k».proof.Proof.Gen.Kernel14.Frame
public import proofs.«01_k».proof.Proof.Gen.Kernel14Ideal.Frame
public import proofs.«01_k».proof.Proof.Gen.Reference14Ideal.Run
public import proofs.«01_k».proof.Proof.Gen.Kernel15.Frame
public import proofs.«01_k».proof.Proof.Gen.Kernel15Ideal.Frame
public import proofs.«01_k».proof.Proof.Gen.Reference15Ideal.Run
public import Idealize.ShloMosaic.Lib.Quiescent

@[expose] public section

set_option maxRecDepth 16384

noncomputable section

namespace Cert.Proof

open Idealize.ShloMosaic Idealize.ShloMosaic.TcCoe Idealize.SL.Sem

/-- The call of the gradient of the output projection's input, at its bits. -/
theorem frame_kernel7 : Cert.quiescent_Kernel7 (hKernel7 := Cert.Kernel7.Gen.facts) := fun m ρ _ => Cert.Kernel7.Gen.frame (F := Bits) m ρ

/-- The same over the extended reals. -/
theorem frame_ideal7 : Cert.quiescent_Kernel7Ideal (hKernel7Ideal := Cert.Kernel7Ideal.Gen.facts) := fun m ρ _ =>
  Cert.Kernel7Ideal.Gen.frame (F := Ideal) m ρ

/-- Its reference, which is host code alone. -/
theorem frame_reference7 : Cert.quiescent_Reference7Ideal (hReference7Ideal := Cert.Reference7Ideal.Gen.facts) := fun m ρ _ =>
  (θ_run Cert.Reference7Ideal.defs _ _).mono (fun r h => ⟨fun c => (h c).2, sem_eq_zero_of_no_sems (by decide) r.2⟩)
    (Cert.Reference7Ideal.Value.run (F := Ideal) m ρ)

/-- The call of the gradient of the output projection's weight, at its bits. -/
theorem frame_kernel8 : Cert.quiescent_Kernel8 (hKernel8 := Cert.Kernel8.Gen.facts) := fun m ρ _ => Cert.Kernel8.Gen.frame (F := Bits) m ρ

/-- The same over the extended reals. -/
theorem frame_ideal8 : Cert.quiescent_Kernel8Ideal (hKernel8Ideal := Cert.Kernel8Ideal.Gen.facts) := fun m ρ _ =>
  Cert.Kernel8Ideal.Gen.frame (F := Ideal) m ρ

/-- Its reference, which is host code alone. -/
theorem frame_reference8 : Cert.quiescent_Reference8Ideal (hReference8Ideal := Cert.Reference8Ideal.Gen.facts) := fun m ρ _ =>
  (θ_run Cert.Reference8Ideal.defs _ _).mono (fun r h => ⟨fun c => (h c).2, sem_eq_zero_of_no_sems (by decide) r.2⟩)
    (Cert.Reference8Ideal.Value.run (F := Ideal) m ρ)

/-- The call of the gradient of the weight of the projection to queries, keys and values, at its bits. -/
theorem frame_kernel9 : Cert.quiescent_Kernel9 (hKernel9 := Cert.Kernel9.Gen.facts) := fun m ρ _ => Cert.Kernel9.Gen.frame (F := Bits) m ρ

/-- The same over the extended reals. -/
theorem frame_ideal9 : Cert.quiescent_Kernel9Ideal (hKernel9Ideal := Cert.Kernel9Ideal.Gen.facts) := fun m ρ _ =>
  Cert.Kernel9Ideal.Gen.frame (F := Ideal) m ρ

/-- Its reference, which is host code alone. -/
theorem frame_reference9 : Cert.quiescent_Reference9Ideal (hReference9Ideal := Cert.Reference9Ideal.Gen.facts) := fun m ρ _ =>
  (θ_run Cert.Reference9Ideal.defs _ _).mono (fun r h => ⟨fun c => (h c).2, sem_eq_zero_of_no_sems (by decide) r.2⟩)
    (Cert.Reference9Ideal.Value.run (F := Ideal) m ρ)

/-- The call of the gradient of that projection's input, at its bits. -/
theorem frame_kernel10 : Cert.quiescent_Kernel10 (hKernel10 := Cert.Kernel10.Gen.facts) := fun m ρ _ => Cert.Kernel10.Gen.frame (F := Bits) m ρ

/-- The same over the extended reals. -/
theorem frame_ideal10 : Cert.quiescent_Kernel10Ideal (hKernel10Ideal := Cert.Kernel10Ideal.Gen.facts) := fun m ρ _ =>
  Cert.Kernel10Ideal.Gen.frame (F := Ideal) m ρ

/-- Its reference, which is host code alone. -/
theorem frame_reference10 : Cert.quiescent_Reference10Ideal (hReference10Ideal := Cert.Reference10Ideal.Gen.facts) := fun m ρ _ =>
  (θ_run Cert.Reference10Ideal.defs _ _).mono (fun r h => ⟨fun c => (h c).2, sem_eq_zero_of_no_sems (by decide) r.2⟩)
    (Cert.Reference10Ideal.Value.run (F := Ideal) m ρ)

/-- The call of the projection to queries, keys and values, at its bits. -/
theorem frame_kernel14 : Cert.quiescent_Kernel14 (hKernel14 := Cert.Kernel14.Gen.facts) := fun m ρ _ => Cert.Kernel14.Gen.frame (F := Bits) m ρ

/-- The same over the extended reals. -/
theorem frame_ideal14 : Cert.quiescent_Kernel14Ideal (hKernel14Ideal := Cert.Kernel14Ideal.Gen.facts) := fun m ρ _ =>
  Cert.Kernel14Ideal.Gen.frame (F := Ideal) m ρ

/-- Its reference, which is host code alone. -/
theorem frame_reference14 : Cert.quiescent_Reference14Ideal (hReference14Ideal := Cert.Reference14Ideal.Gen.facts) := fun m ρ _ =>
  (θ_run Cert.Reference14Ideal.defs _ _).mono (fun r h => ⟨fun c => (h c).2, sem_eq_zero_of_no_sems (by decide) r.2⟩)
    (Cert.Reference14Ideal.Value.run (F := Ideal) m ρ)

/-- The call of the output projection, at its bits. -/
theorem frame_kernel15 : Cert.quiescent_Kernel15 (hKernel15 := Cert.Kernel15.Gen.facts) := fun m ρ _ => Cert.Kernel15.Gen.frame (F := Bits) m ρ

/-- The same over the extended reals. -/
theorem frame_ideal15 : Cert.quiescent_Kernel15Ideal (hKernel15Ideal := Cert.Kernel15Ideal.Gen.facts) := fun m ρ _ =>
  Cert.Kernel15Ideal.Gen.frame (F := Ideal) m ρ

/-- Its reference, which is host code alone. -/
theorem frame_reference15 : Cert.quiescent_Reference15Ideal (hReference15Ideal := Cert.Reference15Ideal.Gen.facts) := fun m ρ _ =>
  (θ_run Cert.Reference15Ideal.defs _ _).mono (fun r h => ⟨fun c => (h c).2.2, sem_eq_zero_of_no_sems (by decide) r.2⟩)
    (Cert.Reference15Ideal.Value.run (F := Ideal) m ρ)

end Cert.Proof
-- ==== Proof.ForwardFrames.lean ====
/- The frames of the feed-forward block's forward calls and of their references: each run ends with its arguments as launched and every counter at zero. -/
module

public import proofs.«01_k».proof.Defs
public import proofs.«01_k».proof.Proof.Gen.Kernel11.Frame
public import proofs.«01_k».proof.Proof.Gen.Kernel11Ideal.Frame
public import proofs.«01_k».proof.Proof.Gen.Reference11Ideal.Run
public import proofs.«01_k».proof.Proof.Gen.Kernel12.Frame
public import proofs.«01_k».proof.Proof.Gen.Kernel12Ideal.Frame
public import proofs.«01_k».proof.Proof.Gen.Reference12Ideal.Run
public import proofs.«01_k».proof.Proof.Gen.Kernel13.Frame
public import proofs.«01_k».proof.Proof.Gen.Kernel13Ideal.Frame
public import proofs.«01_k».proof.Proof.Gen.Reference13Ideal.Run
public import Idealize.ShloMosaic.Lib.Quiescent

@[expose] public section

set_option maxRecDepth 16384

noncomputable section

namespace Cert.Proof

open Idealize.ShloMosaic Idealize.ShloMosaic.TcCoe Idealize.SL.Sem

/-- The call of the gate's product, at its bits. -/
theorem frame_kernel11 : Cert.quiescent_Kernel11 (hKernel11 := Cert.Kernel11.Gen.facts) := fun m ρ _ => Cert.Kernel11.Gen.frame (F := Bits) m ρ

/-- The same over the extended reals. -/
theorem frame_ideal11 : Cert.quiescent_Kernel11Ideal (hKernel11Ideal := Cert.Kernel11Ideal.Gen.facts) := fun m ρ _ =>
  Cert.Kernel11Ideal.Gen.frame (F := Ideal) m ρ

/-- Its reference, which is host code alone. -/
theorem frame_reference11 : Cert.quiescent_Reference11Ideal (hReference11Ideal := Cert.Reference11Ideal.Gen.facts) := fun m ρ _ =>
  (θ_run Cert.Reference11Ideal.defs _ _).mono (fun r h => ⟨fun c => (h c).2, sem_eq_zero_of_no_sems (by decide) r.2⟩)
    (Cert.Reference11Ideal.Value.run (F := Ideal) m ρ)

/-- The call of the up-projection and the hidden value, at its bits. -/
theorem frame_kernel12 : Cert.quiescent_Kernel12 (hKernel12 := Cert.Kernel12.Gen.facts) := fun m ρ _ => Cert.Kernel12.Gen.frame (F := Bits) m ρ

/-- The same over the extended reals. -/
theorem frame_ideal12 : Cert.quiescent_Kernel12Ideal (hKernel12Ideal := Cert.Kernel12Ideal.Gen.facts) := fun m ρ _ =>
  Cert.Kernel12Ideal.Gen.frame (F := Ideal) m ρ

/-- Its reference, which is host code alone. -/
theorem frame_reference12 : Cert.quiescent_Reference12Ideal (hReference12Ideal := Cert.Reference12Ideal.Gen.facts) := fun m ρ _ =>
  (θ_run Cert.Reference12Ideal.defs _ _).mono (fun r h => ⟨fun c => (h c).2.2, sem_eq_zero_of_no_sems (by decide) r.2⟩)
    (Cert.Reference12Ideal.Value.run (F := Ideal) m ρ)

/-- The call of the feed-forward block's last product, at its bits. -/
theorem frame_kernel13 : Cert.quiescent_Kernel13 (hKernel13 := Cert.Kernel13.Gen.facts) := fun m ρ _ => Cert.Kernel13.Gen.frame (F := Bits) m ρ

/-- The same over the extended reals. -/
theorem frame_ideal13 : Cert.quiescent_Kernel13Ideal (hKernel13Ideal := Cert.Kernel13Ideal.Gen.facts) := fun m ρ _ =>
  Cert.Kernel13Ideal.Gen.frame (F := Ideal) m ρ

/-- Its reference, which is host code alone. -/
theorem frame_reference13 : Cert.quiescent_Reference13Ideal (hReference13Ideal := Cert.Reference13Ideal.Gen.facts) := fun m ρ _ =>
  (θ_run Cert.Reference13Ideal.defs _ _).mono (fun r h => ⟨fun c => (h c).2.2, sem_eq_zero_of_no_sems (by decide) r.2⟩)
    (Cert.Reference13Ideal.Value.run (F := Ideal) m ρ)

end Cert.Proof
-- ==== Proof.PoolFrames.lean ====
/- The frames of the pool's products, forward and backward, and of their references: each run ends with its arguments as launched and every counter at zero. -/
module

public import proofs.«01_k».proof.Defs
public import proofs.«01_k».proof.Proof.Gen.Kernel16.Frame
public import proofs.«01_k».proof.Proof.Gen.Kernel16Ideal.Frame
public import proofs.«01_k».proof.Proof.Gen.Reference16Ideal.Run
public import proofs.«01_k».proof.Proof.Gen.Kernel17.Frame
public import proofs.«01_k».proof.Proof.Gen.Kernel17Ideal.Frame
public import proofs.«01_k».proof.Proof.Gen.Reference17Ideal.Run
public import proofs.«01_k».proof.Proof.Gen.Kernel18.Frame
public import proofs.«01_k».proof.Proof.Gen.Kernel18Ideal.Frame
public import proofs.«01_k».proof.Proof.Gen.Reference18Ideal.Run
public import Idealize.ShloMosaic.Lib.Quiescent

@[expose] public section

set_option maxRecDepth 16384

noncomputable section

namespace Cert.Proof

open Idealize.ShloMosaic Idealize.ShloMosaic.TcCoe Idealize.SL.Sem

/-- The call of the gradient of the pooled differences, at its bits. -/
theorem frame_kernel16 : Cert.quiescent_Kernel16 (hKernel16 := Cert.Kernel16.Gen.facts) := fun m ρ _ => Cert.Kernel16.Gen.frame (F := Bits) m ρ

/-- The same over the extended reals. -/
theorem frame_ideal16 : Cert.quiescent_Kernel16Ideal (hKernel16Ideal := Cert.Kernel16Ideal.Gen.facts) := fun m ρ _ =>
  Cert.Kernel16Ideal.Gen.frame (F := Ideal) m ρ

/-- Its reference, which is host code alone. -/
theorem frame_reference16 : Cert.quiescent_Reference16Ideal (hReference16Ideal := Cert.Reference16Ideal.Gen.facts) := fun m ρ _ =>
  (θ_run Cert.Reference16Ideal.defs _ _).mono (fun r h => ⟨fun c => (h c).2, sem_eq_zero_of_no_sems (by decide) r.2⟩)
    (Cert.Reference16Ideal.Value.run (F := Ideal) m ρ)

/-- The call of the gradient of the pool's weight, at its bits. -/
theorem frame_kernel17 : Cert.quiescent_Kernel17 (hKernel17 := Cert.Kernel17.Gen.facts) := fun m ρ _ => Cert.Kernel17.Gen.frame (F := Bits) m ρ

/-- The same over the extended reals. -/
theorem frame_ideal17 : Cert.quiescent_Kernel17Ideal (hKernel17Ideal := Cert.Kernel17Ideal.Gen.facts) := fun m ρ _ =>
  Cert.Kernel17Ideal.Gen.frame (F := Ideal) m ρ

/-- Its reference, which is host code alone. -/
theorem frame_reference17 : Cert.quiescent_Reference17Ideal (hReference17Ideal := Cert.Reference17Ideal.Gen.facts) := fun m ρ _ =>
  (θ_run Cert.Reference17Ideal.defs _ _).mono (fun r h => ⟨fun c => (h c).2, sem_eq_zero_of_no_sems (by decide) r.2⟩)
    (Cert.Reference17Ideal.Value.run (F := Ideal) m ρ)

/-- The call of the pool's product, at its bits. -/
theorem frame_kernel18 : Cert.quiescent_Kernel18 (hKernel18 := Cert.Kernel18.Gen.facts) := fun m ρ _ => Cert.Kernel18.Gen.frame (F := Bits) m ρ

/-- The same over the extended reals. -/
theorem frame_ideal18 : Cert.quiescent_Kernel18Ideal (hKernel18Ideal := Cert.Kernel18Ideal.Gen.facts) := fun m ρ _ =>
  Cert.Kernel18Ideal.Gen.frame (F := Ideal) m ρ

/-- Its reference, which is host code alone. -/
theorem frame_reference18 : Cert.quiescent_Reference18Ideal (hReference18Ideal := Cert.Reference18Ideal.Gen.facts) := fun m ρ _ =>
  (θ_run Cert.Reference18Ideal.defs _ _).mono (fun r h => ⟨fun c => (h c).2.2, sem_eq_zero_of_no_sems (by decide) r.2⟩)
    (Cert.Reference18Ideal.Value.run (F := Ideal) m ρ)

end Cert.Proof
-- ==== Proof.FwdBlock.lean ====
/- The forward pass of the stick-breaking attention at one query tile, as pure operations on vectors: one key block takes the
   row sums and the outputs over the keys after it to those over its own keys too. Over any float values. The scores, their
   logarithms, the masks and the row sums are those of `proofs.«01_k».proof.Proof.Block`. -/
module

public import proofs.«01_k».proof.Proof.Block
public import proofs.«01_k».proof.Proof.Gen.Kernel19Ideal.Skeleton

@[expose] public section

noncomputable section

namespace Cert.Kernel19Ideal.Fwd

open Idealize.ShloMosaic Idealize.SL.Sem Cert.Kernel19Ideal.Gen
open Cert.KernelIdeal.Attn (Sel score logBeta logRest restSum rows masked causal)

variable {F : FTy → Type} [FloatOps F]

/-- What a run over the key blocks carries: the row sums of log(1 - beta), and the outputs. -/
abbrev Carry (F : FTy → Type) [FloatOps F] : Type := FVec F S1024x1 .f32 × FVec F S1024x128 .f32

/-- The arguments of one grid point: its tile of queries, and the head's keys and values. -/
structure Point (F : FTy → Type) [FloatOps F] where
  q : Vec F S1024x128 .bf16
  k : S8192x128.Idx → Elt F .bf16
  v : S8192x128.Idx → Elt F .bf16

/-- The attention weights of a block, from the row sums over the keys after it. -/
def weight (sel : Sel F) (q : Vec F S1024x128 .bf16) (k : Vec F S256x128 .bf16) (c : FVec F S1024x1 .f32) : FVec F S1024x256 .f32 :=
  sel (exp (addf (logBeta q k) (addf
    (matmul dot_S1024x256_S256x256_S1024x256_1_0_0_1_n_n none (truncf .bf16 (logRest sel q k) bitsLt_bf16_f32) (k0_pay47 (F := F)) (constant S1024x256 .f32 0x00000000#32))
    (broadcastTo S1024x256 c broadcasts_S1024x1_S1024x256))))

/-- The outputs with a block's weighted values added. -/
def outputs (sel : Sel F) (q : Vec F S1024x128 .bf16) (k v : Vec F S256x128 .bf16) (c : FVec F S1024x1 .f32) (a : FVec F S1024x128 .f32) : FVec F S1024x128 .f32 :=
  addf a (matmul dot_S1024x256_S256x128_S1024x128_1_0_0_1_n_n none (truncf .bf16 (weight sel q k c) bitsLt_bf16_f32) v (constant S1024x128 .f32 0x00000000#32))

/-- One block. -/
def step (p : Point F) (sel : Sel F) (b : ℕ) (s : Carry F) : Carry F :=
  (restSum sel p.q (rows p.k b) s.1, outputs sel p.q (rows p.k b) (rows p.v b) s.1 s.2)

/-- The blocks `b - 1, b - 2, …`, none of them masked: `n` of them. -/
def free (p : Point F) (b : ℕ) (s : Carry F) : ℕ → Carry F
  | 0 => s
  | n + 1 => step p (fun x => x) (b - 1 - n) (free p b s n)

/-- The four blocks of the diagonal, the last one first. -/
def diag (p : Point F) (b : ℕ) : Carry F :=
  step p (masked (causal 0#32)) (b + 0) (step p (masked (causal 256#32)) (b + 1) (step p (masked (causal 512#32)) (b + 2)
    (step p (masked (causal 768#32)) (b + 3) (k0_pay48, k0_pay49))))

/-- All the blocks of the point whose query tile has number `i`. -/
def runPoint (p : Point F) (i : ℕ) : Carry F := free p (4 * i) (diag p (4 * i)) (4 * i)

/-- Four blocks at a time. -/
theorem free_four (p : Point F) (b : ℕ) (s : Carry F) (k : ℕ) :
    free p b s (4 * (k + 1)) = step p (fun x => x) (b - 1 - (4 * k + 3)) (step p (fun x => x) (b - 1 - (4 * k + 2))
      (step p (fun x => x) (b - 1 - (4 * k + 1)) (step p (fun x => x) (b - 1 - (4 * k + 0)) (free p b s (4 * k))))) := rfl

/-- A load of the tile of rows of number `b`. -/
theorem ld_rows (w : View sig .tc .vmem S8192x128 .bf16) (f : w.ty.Contents (Elt F)) {off : Fin 2 → ℕ} (b : ℕ)
    (inb : ∀ a, off a + S256x128.size a ≤ S8192x128.size a) (h : off = ![256 * b, 0]) :
    w.readAt (Elt F) (Rect.unit (s := S8192x128) off S256x128.size inb).toLoadRect f = rows (w.read (Elt F) f) b := by
  subst h
  exact (View.readAt_unit w f inb rfl inb).trans (Cert.KernelIdeal.Attn.window_rows _ b inb)

/-- A load of the whole of a tile of 1024 rows. -/
theorem ld_whole (w : View sig .tc .vmem S1024x128 .bf16) (f : w.ty.Contents (Elt F)) :
    w.readAt (Elt F) (Rect.unit (s := S1024x128) ![0, 0] S1024x128.size inb_S1024x128_S1024x128_0_0).toLoadRect f = w.read (Elt F) f :=
  View.readAt_full w f _

end Cert.Kernel19Ideal.Fwd

end
-- ==== Proof.FwdTrip.lean ====
/- One trip of the forward pass' loop over the key blocks left of the diagonal: four blocks. -/
module

public import proofs.«01_k».proof.Proof.FwdBlock
public import proofs.«01_k».proof.Proof.Gen.Kernel19Ideal.Loops
public import Idealize.ShloMosaic.Lib.Tactic.Stretches

@[expose] public section

set_option maxRecDepth 16384
set_option maxHeartbeats 4000000

noncomputable section

namespace Cert.Kernel19Ideal.Fwd

open Idealize.ShloMosaic Idealize.ShloMosaic.TcCoe Idealize.ShloMosaic.Tactic Idealize.SL.Sem Cert.Kernel19Ideal.Gen
open Cert.KernelIdeal.Attn (rows)

variable {F : FTy → Type} [FloatOps F]

/-- The rows a trip's block number `r` loads. -/
theorem off2_eq : ∀ (i : grid0.Coords) (k : Fin (k0_t1_loop i).trips) (r : Fin 4),
    k0_off2 i k (BitVec.ofNat 32 r.val) = ![256 * (4 * (i 1).val - 1 - (4 * k.val + r.val)), 0] := by decide +kernel

/-- What a trip makes of what it is given. -/
theorem trip_val (𝒱 : Variants) (c : Dev nD) (bd : Option 𝒱.V) (i : grid0.Coords)
    (arg2 : Memref sig .tc .vmem S1024x128 .bf16) (harg2 : arg2.IsWhole) (arg3 : Memref sig .tc .vmem S8192x128 .bf16) (harg3 : arg3.IsWhole)
    (arg4 : Memref sig .tc .vmem S8192x128 .bf16) (harg4 : arg4.IsWhole) (arg5 : Memref sig .tc .vmem S1024x128 .bf16) (harg5 : arg5.IsWhole)
    (arg6 : Memref sig .tc .vmem S1024x128 .f32) (harg6 : arg6.IsWhole) (arg1 : BitVec 32) (v0 : Vec F S1024x128 .bf16)
    (f3 : BufTy.Contents (Elt F) arg3.view.ty) (f4 : BufTy.Contents (Elt F) arg4.view.ty) (k : Fin (k0_t1_loop i).trips) (s : Carry F)
    (p : Point F) (hp : p = ⟨v0, arg3.view.read (Elt F) f3, arg4.view.read (Elt F) f4⟩) :
    tripR_k0_t1 𝒱 c bd i arg2 harg2 arg3 harg3 arg4 harg4 arg5 harg5 arg6 harg6 arg1 v0 k0_pay47 f3 f4 k s
      = step p (fun x => x) (4 * (i 1).val - 1 - (4 * k.val + 3)) (step p (fun x => x) (4 * (i 1).val - 1 - (4 * k.val + 2))
        (step p (fun x => x) (4 * (i 1).val - 1 - (4 * k.val + 1)) (step p (fun x => x) (4 * (i 1).val - 1 - (4 * k.val + 0)) s))) := by
  subst hp
  have a0 : k0_off2 i k 0#32 = ![256 * (4 * (i 1).val - 1 - (4 * k.val + 0)), 0] := off2_eq i k 0
  have a1 : k0_off2 i k 1#32 = ![256 * (4 * (i 1).val - 1 - (4 * k.val + 1)), 0] := off2_eq i k 1
  have a2 : k0_off2 i k 2#32 = ![256 * (4 * (i 1).val - 1 - (4 * k.val + 2)), 0] := off2_eq i k 2
  have a3 : k0_off2 i k 3#32 = ![256 * (4 * (i 1).val - 1 - (4 * k.val + 3)), 0] := off2_eq i k 3
  unfold tripR_k0_t1 trip_k0_t1
  sl_open_run
  simp only [ld_rows _ _ _ _ a0, ld_rows _ _ _ _ a1, ld_rows _ _ _ _ a2, ld_rows _ _ _ _ a3]
  rfl

/-- The trips of the loop left of the diagonal. -/
theorem trips1 (i : grid0.Coords) : (k0_t1_loop i).trips = (i 1).val := by
  have h : ∀ n : Fin 8, Scf.trips (0#32) (Scalar.addi 0#32 (Scalar.muli (Scalar.divsi (Scalar.subi (Scalar.muli (BitVec.ofNat 32 n.val) 1#32) 0#32) 1#32) 1#32)) 1#32 = n.val := by decide +kernel
  exact h (i 1)

/-- The remainder loop runs no trip. -/
theorem trips2 (i : grid0.Coords) : (k0_t2_loop i).trips = 0 := Nat.le_zero.1 (k0_t2_abs i).2.1

/-- What the loop carries after `n` trips. -/
theorem st_val (𝒱 : Variants) (c : Dev nD) (bd : Option 𝒱.V) (i : grid0.Coords)
    (arg2 : Memref sig .tc .vmem S1024x128 .bf16) (harg2 : arg2.IsWhole) (arg3 : Memref sig .tc .vmem S8192x128 .bf16) (harg3 : arg3.IsWhole)
    (arg4 : Memref sig .tc .vmem S8192x128 .bf16) (harg4 : arg4.IsWhole) (arg5 : Memref sig .tc .vmem S1024x128 .bf16) (harg5 : arg5.IsWhole)
    (arg6 : Memref sig .tc .vmem S1024x128 .f32) (harg6 : arg6.IsWhole) (arg1 : BitVec 32) (v0 : Vec F S1024x128 .bf16)
    (f3 : BufTy.Contents (Elt F) arg3.view.ty) (f4 : BufTy.Contents (Elt F) arg4.view.ty) (s : Carry F)
    (p : Point F) (hp : p = ⟨v0, arg3.view.read (Elt F) f3, arg4.view.read (Elt F) f4⟩) : ∀ n, n ≤ (i 1).val →
    st_k0_t1 𝒱 c bd i arg2 harg2 arg3 harg3 arg4 harg4 arg5 harg5 arg6 harg6 arg1 v0 k0_pay47 f3 f4 s n = free p (4 * (i 1).val) s (4 * n)
  | 0, _ => rfl
  | n + 1, h => by
    rw [free_four, ← st_val 𝒱 c bd i arg2 harg2 arg3 harg3 arg4 harg4 arg5 harg5 arg6 harg6 arg1 v0 f3 f4 s p hp n (Nat.le_of_succ_le h)]
    exact (st_k0_t1_succ 𝒱 c bd i arg2 harg2 arg3 harg3 arg4 harg4 arg5 harg5 arg6 harg6 arg1 v0 k0_pay47 f3 f4 s ⟨n, by rw [trips1]; exact h⟩).trans
      (trip_val 𝒱 c bd i arg2 harg2 arg3 harg3 arg4 harg4 arg5 harg5 arg6 harg6 arg1 v0 f3 f4 _ _ p hp)

end Cert.Kernel19Ideal.Fwd

end
-- ==== Proof.FwdPoint.lean ====
/- What one grid point of the forward pass leaves in its two output tiles. -/
module

public import proofs.«01_k».proof.Proof.FwdTrip
public import proofs.«01_k».proof.Proof.Gen.Kernel19Ideal.Frame

@[expose] public section

set_option maxRecDepth 16384
set_option maxHeartbeats 4000000

noncomputable section

namespace Cert.Kernel19Ideal.Fwd

open Idealize.ShloMosaic Idealize.ShloMosaic.TcCoe Idealize.ShloMosaic.Tactic Idealize.SL.Sem Cert.Kernel19Ideal.Gen
open Cert.KernelIdeal.Attn (rows)

variable {F : FTy → Type} [FloatOps F]

section
variable (c : Dev nD) (i : grid0.Coords)
    (arg2 : Memref sig .tc .vmem S1024x128 .bf16) (harg2 : arg2.IsWhole) (arg3 : Memref sig .tc .vmem S8192x128 .bf16) (harg3 : arg3.IsWhole)
    (arg4 : Memref sig .tc .vmem S8192x128 .bf16) (harg4 : arg4.IsWhole) (arg5 : Memref sig .tc .vmem S1024x128 .bf16) (harg5 : arg5.IsWhole)
    (arg6 : Memref sig .tc .vmem S1024x128 .f32) (harg6 : arg6.IsWhole)
    (x0 : Vec F S1024x128 .bf16) (x1 x2 : Vec F S8192x128 .bf16)

/-- The rows the diagonal's block number `r` loads. -/
theorem off1_lit (r : Fin 4) : k0_off1 i (BitVec.ofNat 32 r.val) = ![256 * (4 * (i 1).val + r.val), 0] := by
  rw [k0_off1_eq]; congr 1; omega

/-- What the remainder loop carries at its end is what it is given. -/
theorem st2_val (arg1 v187 : BitVec 32) (v0 : Vec F S1024x128 .bf16)
    (f3 : BufTy.Contents (Elt F) arg3.view.ty) (f4 : BufTy.Contents (Elt F) arg4.view.ty) (s : Carry F) :
    st_k0_t2 Variants.none c none i arg2 harg2 arg3 harg3 arg4 harg4 arg5 harg5 arg6 harg6 arg1 v0 k0_pay47 v187 f3 f4 s (k0_t2_loop i).trips = s := by
  rw [trips2]; rfl

/-- What the loop left of the diagonal carries at its end. -/
theorem st1_val (arg1 : BitVec 32) (v0 : Vec F S1024x128 .bf16)
    (f3 : BufTy.Contents (Elt F) arg3.view.ty) (f4 : BufTy.Contents (Elt F) arg4.view.ty) (s : Carry F) :
    st_k0_t1 Variants.none c none i arg2 harg2 arg3 harg3 arg4 harg4 arg5 harg5 arg6 harg6 arg1 v0 k0_pay47 f3 f4 s (k0_t1_loop i).trips
      = free ⟨v0, arg3.view.read (Elt F) f3, arg4.view.read (Elt F) f4⟩ (4 * (i 1).val) s (4 * (i 1).val) := by
  rw [trips1]
  exact st_val Variants.none c none i arg2 harg2 arg3 harg3 arg4 harg4 arg5 harg5 arg6 harg6 arg1 v0 f3 f4 s _ rfl _ (Nat.le_refl _)

/-- The tile of outputs. -/
theorem out_val : out0_A_3 c i arg2 harg2 arg3 harg3 arg4 harg4 arg5 harg5 arg6 harg6 x0 x1 x2 = k0_pay11 (runPoint ⟨x0, x1, x2⟩ (i 1).val).2 := by
  have a0 : k0_off1 i 0#32 = ![256 * (4 * (i 1).val + 0), 0] := off1_lit i 0
  have a1 : k0_off1 i 1#32 = ![256 * (4 * (i 1).val + 1), 0] := off1_lit i 1
  have a2 : k0_off1 i 2#32 = ![256 * (4 * (i 1).val + 2), 0] := off1_lit i 2
  have a3 : k0_off1 i 3#32 = ![256 * (4 * (i 1).val + 3), 0] := off1_lit i 3
  unfold out0_A_3 kernelRun0_A
  sl_open_run
  rw [View.read_writes_full]
  rw [ld_whole arg2.view, harg2.read_unread]
  simp only [ld_rows _ _ _ _ a0, ld_rows _ _ _ _ a1, ld_rows _ _ _ _ a2, ld_rows _ _ _ _ a3, harg3.read_unread, harg4.read_unread]
  refine congrArg (fun s => k0_pay11 (Prod.snd s)) ((st2_val c i arg2 harg2 arg3 harg3 arg4 harg4 arg5 harg5 arg6 harg6 _ _ _ _ _ _).trans
    ((st1_val c i arg2 harg2 arg3 harg3 arg4 harg4 arg5 harg5 arg6 harg6 _ _ _ _ _).trans ?_))
  rw [harg3.read_unread, harg4.read_unread]
  rfl

/-- The tile of row sums. -/
theorem total_val : out0_A_4 c i arg2 harg2 arg3 harg3 arg4 harg4 arg5 harg5 arg6 harg6 x0 x1 x2 = k0_pay12 (runPoint ⟨x0, x1, x2⟩ (i 1).val).1 := by
  have a0 : k0_off1 i 0#32 = ![256 * (4 * (i 1).val + 0), 0] := off1_lit i 0
  have a1 : k0_off1 i 1#32 = ![256 * (4 * (i 1).val + 1), 0] := off1_lit i 1
  have a2 : k0_off1 i 2#32 = ![256 * (4 * (i 1).val + 2), 0] := off1_lit i 2
  have a3 : k0_off1 i 3#32 = ![256 * (4 * (i 1).val + 3), 0] := off1_lit i 3
  unfold out0_A_4 kernelRun0_A
  sl_open_run
  rw [View.read_writes_full]
  rw [ld_whole arg2.view, harg2.read_unread]
  simp only [ld_rows _ _ _ _ a0, ld_rows _ _ _ _ a1, ld_rows _ _ _ _ a2, ld_rows _ _ _ _ a3, harg3.read_unread, harg4.read_unread]
  refine congrArg (fun s => k0_pay12 (Prod.fst s)) ((st2_val c i arg2 harg2 arg3 harg3 arg4 harg4 arg5 harg5 arg6 harg6 _ _ _ _ _ _).trans
    ((st1_val c i arg2 harg2 arg3 harg3 arg4 harg4 arg5 harg5 arg6 harg6 _ _ _ _ _).trans ?_))
  rw [harg3.read_unread, harg4.read_unread]
  rfl

end

/-- A point's blocks. -/
abbrev blocks (m : (ℓ : Loc nD τ sig) → Buf (Elt F) ℓ) (c : Dev nD) (t : Fin cfg0.N) : Point F := ⟨iblk m c 0 t, iblk m c 1 t, iblk m c 2 t⟩

theorem left_o (m : (ℓ : Loc nD τ sig) → Buf (Elt F) ℓ) (c : Dev nD) (t : Fin cfg0.N) :
    (dats m 0 c).after 3 t = k0_pay11 (runPoint (blocks m c t) (grid0.coords t 1).val).2 := by
  rw [after0_3 m c t, outsAt0]
  exact out_val c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t)

theorem left_total (m : (ℓ : Loc nD τ sig) → Buf (Elt F) ℓ) (c : Dev nD) (t : Fin cfg0.N) :
    (dats m 0 c).after 4 t = k0_pay12 (runPoint (blocks m c t) (grid0.coords t 1).val).1 := by
  rw [after0_4 m c t, outsAt0]
  exact total_val c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t)

end Cert.Kernel19Ideal.Fwd

end
-- ==== Proof.FwdRef.lean ====
/- The forward reference's two results at one head, on real numbers: the outputs and the row sums. Its lines up to the
   weights are the forward lines of the attention's backward reference. -/
module

public import proofs.«01_k».proof.Proof.RefScore
public import proofs.«01_k».proof.Proof.Gen.Reference19Ideal.Read

@[expose] public section

set_option maxRecDepth 16384

noncomputable section

namespace StickBreak

/-- The outputs of a head: its values by their weights. -/
def Head.o (h : Head) (t e : ℕ) : ℝ := ∑ j ∈ Finset.range 8192, wgt h.z t j * h.v j e

/-- The row sums of a head. -/
def Head.total (h : Head) (t : ℕ) : ℝ := ∑ j ∈ Finset.range 8192, rest h.z t j

end StickBreak

namespace Cert.Reference19Ideal.Fwd

open Idealize.ShloMosaic Idealize.ShloMosaic.ValueIdx StickBreak Finset
open Cert.Reference19Ideal.Read Cert.Reference19Ideal.Gen
open Cert.ReferenceIdeal.Attn (sum_mul_coe rest_val wgt_val v_val)

variable {A : Arr 6144}

/-- The cotangents, which the forward pass has none of. -/
abbrev none2048 : Arr 2048 := fun _ => 0

/-- The weights, the values and the masked logarithms are those of the backward reference's forward lines. -/
theorem weights_eq : val_main_v42 (F := Ideal) A = Cert.ReferenceIdeal.Read.val_main_v29_0 (F := Ideal) A := rfl
theorem values_eq : val_main_v11 (F := Ideal) A = Cert.ReferenceIdeal.Read.val_main_v11 (F := Ideal) A := rfl
theorem rests_eq : val_main_v23 (F := Ideal) A = Cert.ReferenceIdeal.Read.val_main_v24_0 (F := Ideal) A := rfl

theorem o_val (hA : Finite A) (h : Fin 16) (t : Fin 8192) (e : Fin 128) :
    val_main_v43 (F := Ideal) A (ix3 h t e) = (((headOf A none2048 h.val).o t.val e.val : ℝ) : EReal) := by
  rw [val_main_v43_apply]
  refine sum_mul_coe _ _ (fun j => wgt (headOf A none2048 h.val).z t.val j) (fun j => (headOf A none2048 h.val).v j e.val)
    (fun j => (congrArg (val_main_v42 (F := Ideal) A) ?_).trans ((congrFun weights_eq _).trans (wgt_val hA h t j)))
    (fun j => (congrArg (val_main_v11 (F := Ideal) A) ?_).trans ((congrFun values_eq _).trans (v_val hA h j e)))
  · exact eq_ix3 _
  · exact eq_ix3 _

theorem total_val (hA : Finite A) (h : Fin 16) (t : Fin 8192) :
    val_main_v24 (F := Ideal) A (ix2 h t) = (((headOf A none2048 h.val).total t.val : ℝ) : EReal) := by
  have hr : (S16x8192x8192 : Shape).Reduces [2] S16x8192 := by decide
  refine (Ideal.hostReduceAdd_single _ hr _ _ _).trans ?_
  rw [Head.total, Finset.sum_range, coe_sum]
  refine (congrArg₂ (· + ·) Ideal.ofBits_zero_f32 (Finset.sum_congr rfl fun j _ => ?_)).trans (zero_add _)
  refine (congrArg (val_main_v23 (F := Ideal) A) ?_).trans ((congrFun rests_eq _).trans (rest_val (B := none2048) hA h t j))
  funext a
  apply Fin.ext
  rw [Shape.Reduces.lift_val]
  match a with
  | ⟨0, _⟩ => rfl
  | ⟨1, _⟩ => rfl
  | ⟨2, _⟩ => rfl

/-- The first result: the outputs, the heads side by side. -/
theorem res_o (hA : Finite A) (t : Fin 8192) (h : Fin 16) (e : Fin 128) (i : S8192x2048.Idx)
    (h0 : (i 0).val = t.val) (h1 : (i 1).val = h.val * 128 + e.val) :
    val_main_v46 (F := Ideal) A i = (((headOf A none2048 h.val).o t.val e.val : ℝ) : EReal) := by
  have := h.isLt; have := t.isLt; have := e.isLt
  rw [val_main_v46_apply, val_main_v45_apply, val_main_v44_apply]
  refine Eq.trans (congrArg (val_main_v43 (F := Ideal) A) ?_) (o_val hA h t e)
  funext a
  apply Fin.ext
  match a with
  | ⟨0, _⟩ => show ((i 0).val * 2048 + (i 1).val) / 128 % 16 = h.val; omega
  | ⟨1, _⟩ => show ((i 0).val * 2048 + (i 1).val) / 2048 = t.val; omega
  | ⟨2, _⟩ => show ((i 0).val * 2048 + (i 1).val) % 128 = e.val; omega

/-- The second result: the row sums, each at the 128 columns of its head. -/
theorem res_total (hA : Finite A) (t : Fin 8192) (h : Fin 16) (e : Fin 128) (i : S8192x2048.Idx)
    (h0 : (i 0).val = t.val) (h1 : (i 1).val = h.val * 128 + e.val) :
    val_main_v50 (F := Ideal) A i = (((headOf A none2048 h.val).total t.val : ℝ) : EReal) := by
  have := h.isLt; have := t.isLt; have := e.isLt
  rw [val_main_v50_apply, val_main_v49_apply, val_main_v48_apply, val_main_v47_apply]
  refine Eq.trans (congrArg (val_main_v24 (F := Ideal) A) ?_) (total_val hA h t)
  funext a
  apply Fin.ext
  match a with
  | ⟨0, _⟩ => show ((i 0).val * 2048 + (i 1).val) / 128 % 16 = h.val; omega
  | ⟨1, _⟩ => show ((i 0).val * 2048 + (i 1).val) / 2048 = t.val; omega

end Cert.Reference19Ideal.Fwd

end
-- ==== Proof.FwdValue.lean ====
/- The values of one grid point of the forward pass over the extended reals: the key blocks run from the diagonal down, and
   what is carried into a block are the sums over the keys after it. -/
module

public import proofs.«01_k».proof.Proof.FwdBlock
public import proofs.«01_k».proof.Proof.FwdRef
public import proofs.«01_k».proof.Proof.BlockValue

@[expose] public section

set_option maxRecDepth 16384

noncomputable section

namespace Cert.Kernel19Ideal.Fwd

open Idealize.ShloMosaic Idealize.ShloMosaic.ValueIdx Idealize.SL.Sem Cert.Kernel19Ideal.Gen StickBreak Finset
open Cert.KernelIdeal.Attn (Sel logBeta logRest restSum rows masked causal SelFor Holds mm_plain row_sum column_apply after_apply
  selFor_id selFor_causal logBeta_apply logRest_apply values_apply)

/-- The arguments of the point of query tile `i` are a head's. -/
structure Reads (H : Head) (i : ℕ) (p : Point Ideal) : Prop where
  c : H.c = scale
  q : ∀ (r : Fin 1024) (e : Fin 128), p.q (ix2 r e) = ((H.q (1024 * i + r.val) e.val : ℝ) : EReal)
  k : ∀ (j : Fin 8192) (e : Fin 128), p.k (ix2 j e) = ((H.k j.val e.val : ℝ) : EReal)
  v : ∀ (j : Fin 8192) (e : Fin 128), p.v (ix2 j e) = ((H.v j.val e.val : ℝ) : EReal)

/-- The point of the backward pass with the same queries, keys and values, and with the head's cotangents and totals. -/
def back (H : Head) (i : ℕ) (p : Point Ideal) : Cert.KernelIdeal.Attn.Point Ideal where
  q := p.q
  d y := ((H.d (1024 * i + (y 0).val) (y 1).val : ℝ) : EReal)
  lt y := ((H.total (1024 * i + (y 0).val) : ℝ) : EReal)
  k := p.k
  v := p.v

theorem Reads.holds {H : Head} {i : ℕ} {p : Point Ideal} (hp : Reads H i p) : Holds H i (back H i p) where
  c := hp.c
  q := hp.q
  d _ _ := rfl
  lt _ := rfl
  k := hp.k
  v := hp.v

/-- What is carried into a block are the sums over the keys from number `256 n` on. -/
structure From (H : Head) (i n : ℕ) (s : Carry Ideal) : Prop where
  rest : ∀ r : Fin 1024, s.1 (ix2 r 0) = ((∑ j ∈ Ico (256 * n) 8192, rest H.z (1024 * i + r.val) j : ℝ) : EReal)
  out : ∀ (r : Fin 1024) (e : Fin 128),
    s.2 (ix2 r e) = ((∑ j ∈ Ico (256 * n) 8192, wgt H.z (1024 * i + r.val) j * H.v j e.val : ℝ) : EReal)

/-- A block's terms before those of the later blocks. -/
theorem Ico_add_fin (f : ℕ → ℝ) {n : ℕ} (hn : n < 32) :
    ∑ j ∈ Ico (256 * (n + 1)) 8192, f j + ∑ s : Fin 256, f (256 * n + s.val) = ∑ j ∈ Ico (256 * n) 8192, f j := by
  rw [sum_fin_shift, add_comm]
  exact Finset.sum_Ico_consecutive f (by omega) (by omega)

section block

variable {H : Head} {i n : ℕ} {p : Point Ideal} {sel : Sel Ideal} {s : Carry Ideal}

theorem weight_apply (hp : Reads H i p) (hn : n < 32) (hs : SelFor sel i n) (h : From H i (n + 1) s) (r : Fin 1024) (k : Fin 256) :
    weight sel p.q (rows p.k n) s.1 (ix2 r k) = ((wgt H.z (1024 * i + r.val) (256 * n + k.val) : ℝ) : EReal) := by
  have hm := mm_plain (φ₁ := .bf16) (φ₂ := .bf16) (truncf .bf16 (logRest sel p.q (rows p.k n)) bitsLt_bf16_f32) (k0_pay47 (F := Ideal)) r k _ _
    (logRest_apply hp.holds hn hs r) (fun j => after_apply j k)
  unfold weight wgt
  rw [hs]
  split
  · have e := sum_after (StickBreak.rest H.z (1024 * i + r.val)) (256 * n) 256 8192 k (by omega)
    rw [← e]
    show Ideal.exp (_ + (_ + broadcastTo S1024x256 _ _ (ix2 r k))) = _
    refine (congrArg (fun x => Ideal.exp (_ + (_ + x))) ((column_apply s.1 r k).trans (h.rest r))).trans ?_
    refine (congrArg (fun x => Ideal.exp (x + _)) (logBeta_apply hp.holds hn r k)).trans ?_
    refine Eq.trans (congrArg Ideal.exp ?_) (exp_coe _)
    rw [EReal.coe_add, EReal.coe_add, ← Finset.sum_Ico_eq_sub _ (show 256 * n + 256 ≤ 8192 by omega)]
    exact congrArg (_ + ·) (congrArg (· + _) hm)
  · rfl

theorem from_step (hp : Reads H i p) (hn : n < 32) (hs : SelFor sel i n) (h : From H i (n + 1) s) : From H i n (step p sel n s) where
  rest r := by
    show restSum sel p.q (rows p.k n) s.1 (ix2 r 0) = _
    unfold restSum
    rw [addf_apply, h.rest r]
    refine (congrArg (_ + ·) (row_sum _ r _ (logRest_apply hp.holds hn hs r))).trans ?_
    rw [← EReal.coe_add]
    exact congrArg _ (Ico_add_fin (StickBreak.rest H.z (1024 * i + r.val)) hn)
  out r e := by
    have hm := mm_plain (φ₁ := .bf16) (φ₂ := .bf16) (weight sel p.q (rows p.k n) s.1) (rows p.v n) r e _ _
      (weight_apply hp hn hs h r) (fun k => values_apply hp.holds hn k e)
    show outputs sel p.q (rows p.k n) (rows p.v n) s.1 s.2 (ix2 r e) = _
    unfold outputs
    rw [addf_apply, h.out r e, ← Ico_add_fin (fun j => wgt H.z (1024 * i + r.val) j * H.v j e.val) hn, EReal.coe_add, ← hm]
    rfl

end block

section point

variable {H : Head} {i : ℕ} {p : Point Ideal}

/-- A sum over keys none of which is before the tile's queries. -/
theorem tail_zero (f : ℕ → ℝ) (r : Fin 1024) (h0 : ∀ j, 1024 * i + r.val ≤ j → f j = 0) : ∑ j ∈ Ico (256 * (4 * i + 4)) 8192, f j = 0 := by
  refine Finset.sum_eq_zero fun j hj => h0 j ?_
  have := r.isLt
  rw [Finset.mem_Ico] at hj
  omega

theorem from_start : From H i (4 * i + 4) (k0_pay48, k0_pay49) where
  rest r := by
    rw [tail_zero _ r fun j hj => rest_of_le _ hj, EReal.coe_zero, ← Ideal.ofBits_zero_f32]
    rfl
  out r e := by
    rw [tail_zero _ r fun j hj => by rw [wgt_of_le _ hj, zero_mul], EReal.coe_zero, ← Ideal.ofBits_zero_f32]
    rfl

theorem from_diag (hp : Reads H i p) (hi : i < 8) : From H i (4 * i) (diag p (4 * i)) := by
  have h3 := from_step hp (by omega) (selFor_causal (i := i) (m := 3) (by omega)) from_start
  have h2 := from_step hp (by omega) (selFor_causal (i := i) (m := 2) (by omega)) h3
  have h1 := from_step hp (by omega) (selFor_causal (i := i) (m := 1) (by omega)) h2
  exact from_step hp (by omega) (selFor_causal (i := i) (m := 0) (by omega)) h1

theorem from_free (hp : Reads H i p) (hi : i < 8) {s : Carry Ideal} (h : From H i (4 * i) s) :
    ∀ n, n ≤ 4 * i → From H i (4 * i - n) (free p (4 * i) s n)
  | 0, _ => h
  | n + 1, hn => by
    have h' := from_free hp hi h n (by omega)
    rw [show 4 * i - n = 4 * i - 1 - n + 1 by omega] at h'
    have r := from_step hp (by omega) (selFor_id (by omega)) h'
    rw [show 4 * i - (n + 1) = 4 * i - 1 - n by omega]
    exact r

theorem from_runPoint (hp : Reads H i p) (hi : i < 8) : From H i 0 (runPoint p i) := by
  have h := from_free hp hi (from_diag hp hi) (4 * i) le_rfl
  rw [Nat.sub_self] at h
  exact h

/-- A point's rows of the outputs. -/
theorem runPoint_out (hp : Reads H i p) (hi : i < 8) (r : Fin 1024) (e : Fin 128) :
    k0_pay11 (runPoint p i).2 (ix2 r e) = ((H.o (1024 * i + r.val) e.val : ℝ) : EReal) := by
  have h := (from_runPoint hp hi).out r e
  unfold k0_pay11 Head.o
  rw [truncf_apply, h, Nat.mul_zero, ← Finset.range_eq_Ico]

theorem broadcast_column (x : FVec Ideal S1024x1 .f32) (r : Fin 1024) (e : Fin 128) :
    broadcastTo S1024x128 x broadcasts_S1024x1_S1024x128 (ix2 r e) = x (ix2 r 0) :=
  broadcastTo_apply x _ _ _ fun a => match a with | ⟨0, _⟩ => rfl | ⟨1, _⟩ => rfl

/-- A point's row sums, each at 128 columns. -/
theorem runPoint_total (hp : Reads H i p) (hi : i < 8) (r : Fin 1024) (e : Fin 128) :
    k0_pay12 (runPoint p i).1 (ix2 r e) = ((H.total (1024 * i + r.val) : ℝ) : EReal) := by
  have h := (from_runPoint hp hi).rest r
  unfold k0_pay12 Head.total
  refine (broadcast_column _ r e).trans ?_
  refine (congrFun (shapeCast_self _ _) _).trans (h.trans ?_)
  rw [Nat.mul_zero, ← Finset.range_eq_Ico]

end point

end Cert.Kernel19Ideal.Fwd

end
-- ==== Proof.FwdFinal.lean ====
/- What the forward call leaves in its two result arrays: the forward reference's two results. -/
module

public import proofs.«01_k».proof.Proof.FwdPoint
public import proofs.«01_k».proof.Proof.FwdValue
public import Idealize.ShloMosaic.Lib.Pipeline.ValueKit

@[expose] public section

set_option maxRecDepth 16384

noncomputable section

namespace Cert.Kernel19Ideal.Fwd

open Idealize.ShloMosaic hiding ix0 ix1 ix2 ix3 eq_ix2 eq_ix3
open Idealize.ShloMosaic.TcCoe Idealize.ShloMosaic.ValueIdx StickBreak
open Cert.Kernel19Ideal.Gen
open Idealize.ShloMosaic.Pipeline (Dat)
open Cert.Reference19Ideal.Read (val_main_v46 val_main_v50)
open Cert.Reference19Ideal.Fwd (none2048 res_o res_total)

variable (m : (ℓ : Loc nD τ sig) → Buf (Elt Ideal) ℓ) (c : Dev nD)

/-- The queries, keys and values the call is launched with. -/
abbrev opA : Arr 6144 := m ((c : Thread nD τ).loc main_arg0)

/-- The head a point works on. -/
abbrev hd (t : ℕ) : Head := headOf (opA m c) none2048 (t / 8)

/-! ## The blocks a point reads -/

theorem idx_0 : ∀ t : Fin cfg0.N, (cfg0.win 0).index t = ![t.val % 8, t.val / 8] :=
  (by decide +kernel : ∀ t : Fin grid0.N, (cfg0.win 0).index t = ![t.val % 8, t.val / 8])
theorem idx_1 : ∀ t : Fin cfg0.N, (cfg0.win 1).index t = ![0, 16 + t.val / 8] :=
  (by decide +kernel : ∀ t : Fin grid0.N, (cfg0.win 1).index t = ![0, 16 + t.val / 8])
theorem idx_2 : ∀ t : Fin cfg0.N, (cfg0.win 2).index t = ![0, 32 + t.val / 8] :=
  (by decide +kernel : ∀ t : Fin grid0.N, (cfg0.win 2).index t = ![0, 32 + t.val / 8])
theorem idx_3 : ∀ t : Fin cfg0.N, (cfg0.win 3).index t = ![t.val % 8, t.val / 8] :=
  (by decide +kernel : ∀ t : Fin grid0.N, (cfg0.win 3).index t = ![t.val % 8, t.val / 8])
theorem idx_4 : ∀ t : Fin cfg0.N, (cfg0.win 4).index t = ![t.val % 8, t.val / 8] :=
  (by decide +kernel : ∀ t : Fin grid0.N, (cfg0.win 4).index t = ![t.val % 8, t.val / 8])
theorem coord1 : ∀ t : Fin cfg0.N, (grid0.coords t 1).val = t.val % 8 :=
  (by decide +kernel : ∀ t : Fin grid0.N, (grid0.coords t 1).val = t.val % 8)

/-- What a point reads is its head's data. -/
theorem reads (hA : Finite (opA m c)) (t : Fin cfg0.N) : Reads (hd m c t.val) (t.val % 8) (blocks m c t) where
  c := rfl
  q r e := by
    show iblk m c 0 t (ix2 r e) = _
    blk_simp [iblk]
    rw [V_main_arg0]
    refine ent_coe hA _ _ _ ?_ ?_
    · blk_simp [idx_0 t]
      show t.val % 8 * 1024 + r.val = _
      omega
    · blk_simp [idx_0 t]
  k j e := by
    show iblk m c 1 t (ix2 j e) = _
    blk_simp [iblk]
    rw [V_main_arg0]
    refine ent_coe hA _ _ _ ?_ ?_
    · blk_simp [idx_1 t]
    · blk_simp [idx_1 t]
      show (16 + t.val / 8) * 128 + e.val = _
      omega
  v j e := by
    show iblk m c 2 t (ix2 j e) = _
    blk_simp [iblk]
    rw [V_main_arg0]
    refine ent_coe hA _ _ _ ?_ ?_
    · blk_simp [idx_2 t]
    · blk_simp [idx_2 t]
      show (32 + t.val / 8) * 128 + e.val = _
      omega

/-! ## The results -/

/-- At the call's end the array of outputs is the reference's. -/
theorem final_o (hA : Finite (opA m c)) : (dats m 0 c).arrAt 3 cfg0.N = val_main_v46 (F := Ideal) (opA m c) := by
  refine (dats m 0 c).arrAt_eq_of_covers 3 _ (by decide +kernel) fun t hf y => ?_
  have ht : t.val < 128 := t.isLt
  have hy : (y 0).val < 1024 := (y 0).isLt
  rw [left_o m c t, coord1 t]
  refine (show _ = k0_pay11 (runPoint (blocks m c t) (t.val % 8)).2 (ix2 (y 0) (y 1)) from ?_).trans
    ((runPoint_out (reads m c hA t) (Nat.mod_lt _ (by omega)) (y 0) (y 1)).trans
    (res_o hA ⟨1024 * (t.val % 8) + (y 0).val, by omega⟩ ⟨t.val / 8, by omega⟩ (y 1) _ ?_ ?_).symm)
  · exact congrArg (k0_pay11 (runPoint (blocks m c t) (t.val % 8)).2) (eq_ix2 y)
  · blk_simp [idx_3 t]
    exact congrArg (· + (y 0).val) (Nat.mul_comm (t.val % 8) 1024)
  · blk_simp [idx_3 t]

/-- At the call's end the array of row sums is the reference's. -/
theorem final_total (hA : Finite (opA m c)) : (dats m 0 c).arrAt 4 cfg0.N = val_main_v50 (F := Ideal) (opA m c) := by
  refine (dats m 0 c).arrAt_eq_of_covers 4 _ (by decide +kernel) fun t hf y => ?_
  have ht : t.val < 128 := t.isLt
  have hy : (y 0).val < 1024 := (y 0).isLt
  rw [left_total m c t, coord1 t]
  refine (show _ = k0_pay12 (runPoint (blocks m c t) (t.val % 8)).1 (ix2 (y 0) (y 1)) from ?_).trans
    ((runPoint_total (reads m c hA t) (Nat.mod_lt _ (by omega)) (y 0) (y 1)).trans
    (res_total hA ⟨1024 * (t.val % 8) + (y 0).val, by omega⟩ ⟨t.val / 8, by omega⟩ (y 1) _ ?_ ?_).symm)
  · exact congrArg (k0_pay12 (runPoint (blocks m c t) (t.val % 8)).1) (eq_ix2 y)
  · blk_simp [idx_4 t]
    exact congrArg (· + (y 0).val) (Nat.mul_comm (t.val % 8) 1024)
  · blk_simp [idx_4 t]

end Cert.Kernel19Ideal.Fwd
-- ==== Proof.FwdEqual.lean ====
/- The forward pass of the attention and its reference: their frames, and the equality of their two results where the
   argument holds finite numbers. -/
module

public import proofs.«01_k».proof.Defs
public import proofs.«01_k».proof.Proof.FwdFinal
public import proofs.«01_k».proof.Proof.Equal
public import proofs.«01_k».proof.Proof.Gen.Kernel19.Frame
public import proofs.«01_k».proof.Proof.Gen.Reference19Ideal.Run
public import proofs.«01_k».proof.Proof.Gen.Pre_finite19

@[expose] public section

set_option maxRecDepth 16384

noncomputable section

namespace Cert.Proof

open Idealize.ShloMosaic Idealize.ShloMosaic.TcCoe Idealize.SL.Sem
open Cert.Kernel19Ideal.Fwd (opA)
open Cert.Reference19Ideal.Read (val_main_v46 val_main_v50)

/-- The precondition says that every entry of the argument is a real number. -/
theorem finite19_of_fn (a : StickBreak.Arr 6144)
    (h : Cert.Pre_finite19.fn (F := Ideal) a = fun _ => 1#1) : StickBreak.Finite a := fun i =>
  Cert.Pre_finite.real_of_lt _ (Host.reduce_andi_all _ _ _ _ _ (congrFun h (Shape.Idx.first Cert.Pre_finite19.Gen.h_S_)) i)

/-- The call of the forward pass, at its bits. -/
theorem frame_kernel19 : Cert.quiescent_Kernel19 (hKernel19 := Cert.Kernel19.Gen.facts) := fun m ρ _ => Cert.Kernel19.Gen.frame (F := Bits) m ρ

/-- The same over the extended reals. -/
theorem frame_ideal19 : Cert.quiescent_Kernel19Ideal (hKernel19Ideal := Cert.Kernel19Ideal.Gen.facts) := fun m ρ _ =>
  Cert.Kernel19Ideal.Gen.frame (F := Ideal) m ρ

/-- Its reference, which is host code alone. -/
theorem frame_reference19 : Cert.quiescent_Reference19Ideal (hReference19Ideal := Cert.Reference19Ideal.Gen.facts) := fun m ρ _ =>
  (θ_run Cert.Reference19Ideal.defs _ _).mono (fun r h => ⟨fun c => (h c).2.2, sem_eq_zero_of_no_sems (by decide) r.2⟩)
    (Cert.Reference19Ideal.Value.run (F := Ideal) m ρ)

/-- Over the extended reals and at finite arguments the call and the reference end with equal outputs and equal row sums. -/
theorem algebraic19 : Cert.algebraic_Kernel19Ideal_Reference19Ideal_pre_finite19 (hKernel19Ideal := Cert.Kernel19Ideal.Gen.facts)
    (hReference19Ideal := Cert.Reference19Ideal.Gen.facts) (hPre_finite19 := Cert.Pre_finite19.Gen.facts) := by
  intro m g m' g' hpre harg
  refine ⟨fun c => val_main_v46 (F := Ideal) (opA m c), fun c => val_main_v50 (F := Ideal) (opA m c), ?_, ?_⟩
  · refine (θ_run Cert.Kernel19Ideal.defs _ _).mono (fun r h c => ?_) (Cert.Kernel19Ideal.Gen.run_main (F := Ideal) m g)
    have hA := finite19_of_fn _ (hpre c)
    exact ⟨((h c).1 3).trans (Cert.Kernel19Ideal.Fwd.final_o m c hA),
      ((h c).1 4).trans (Cert.Kernel19Ideal.Fwd.final_total m c hA),
      ((h c).1 0).trans (((Cert.Kernel19Ideal.Gen.dats m 0 c).arrAt_in 0 rfl _).trans
        ((Cert.Kernel19Ideal.Gen.A_eq m c 0).trans (Cert.Kernel19Ideal.Gen.V_main_arg0 m c)))⟩
  · refine (θ_run Cert.Reference19Ideal.defs _ _).mono (fun r h c => ?_) (Cert.Reference19Ideal.Value.run (F := Ideal) m' g')
    obtain ⟨r0, r1, r2⟩ := h c
    exact ⟨r0.trans ((Cert.Reference19Ideal.Read.val_main_v46_eq m' c).trans (congrArg _ (harg c))),
      r1.trans ((Cert.Reference19Ideal.Read.val_main_v50_eq m' c).trans (congrArg _ (harg c))), r2⟩

end Cert.Proof

end
-- ==== Proof.ConvForward.lean ====
/- The short convolution between its projections: what the call leaves in its result array is the reference's array. -/
module

public import proofs.«01_k».proof.Defs
public import proofs.«01_k».proof.Proof.Gen.Kernel21Ideal.Value
public import proofs.«01_k».proof.Proof.Gen.Reference21Ideal.Read
public import proofs.«01_k».proof.Proof.Gen.Reference21Ideal.Run
public import Idealize.ShloMosaic.Lib.Pipeline.ValueKit

@[expose] public section

set_option maxRecDepth 16384

noncomputable section

namespace Cert.Kernel21Ideal.Conv

open Idealize.ShloMosaic Idealize.ShloMosaic.TcCoe Idealize.SL.Sem
open Cert.Kernel21Ideal.Gen
open Idealize.ShloMosaic.Pipeline (Dat)
open Cert.Reference21Ideal.Read

variable (m : (ℓ : Loc nD τ sig) → Buf (Elt Ideal) ℓ) (c : Dev nD)

/-- Which blocks grid point `t` reads and writes. -/
theorem idx : ∀ t : Fin cfg0.N, win0_0.index t = ![t.val / 4, t.val % 4] ∧ win0_1.index t = ![t.val / 4, 4 + t.val % 4]
    ∧ win0_2.index t = ![t.val / 4, 8 + t.val % 4] ∧ win0_3.index t = ![t.val / 4 * 16 - 1, 4 + t.val % 4]
    ∧ win0_4.index t = ![t.val / 4 * 16 - 1, 8 + t.val % 4] ∧ win0_5.index t = ![0, t.val % 4]
    ∧ win0_6.index t = ![t.val / 4, t.val % 4] ∧ ((grid0.coords t) 0).val = t.val / 4 := by
  decide +kernel

/-- Row `n` of the block of products with its sixteen earlier rows before it, the earlier rows of the first block being zero. -/
def ahead (b : ℕ) (v0 v2 : Vec Ideal S256x512 .bf16) (v6 v8 : Vec Ideal S16x512 .bf16) (n : ℕ) (j : Fin 512) : EReal :=
  if h : n < 16 then if b = 0 then 0 else v6 (ix2 ⟨n, h⟩ j) * v8 (ix2 ⟨n, h⟩ j)
  else if h : n < 272 then v0 (ix2 ⟨n - 16, by omega⟩ j) * v2 (ix2 ⟨n - 16, by omega⟩ j) else 0

/-- Whether a block is the first, by its number's word. -/
theorem first : ∀ b : Fin 32, Scalar.cmpi .eq (BitVec.ofNat 32 b.val) 0#32 = if b.val = 0 then 1#1 else 0#1 := by decide +kernel

/-- The same row where its number is written another way. -/
theorem late (b : ℕ) (hb : b < 32) (v0 v2 : Vec Ideal S256x512 .bf16) (v6 v8 : Vec Ideal S16x512 .bf16) (p n : ℕ) (hp : p = n) (hn : n < 272) (j : Fin 512) :
    (if h : p < 16 then Scalar.select (Scalar.cmpi .eq (BitVec.ofNat 32 b) 0#32) (0 : EReal) (v6 (ix2 ⟨p, h⟩ j) * v8 (ix2 ⟨p, h⟩ j))
      else v0 (ix2 ⟨p - 16, by omega⟩ j) * v2 (ix2 ⟨p - 16, by omega⟩ j)) = ahead b v0 v2 v6 v8 n j := by
  subst hp
  unfold ahead
  by_cases h : p < 16
  · rw [dif_pos h, dif_pos h, first ⟨b, hb⟩]
    unfold Scalar.select
    by_cases h0 : b = 0
    · rw [if_pos h0, if_pos h0]; rfl
    · rw [if_neg h0, if_neg h0]; rfl
  · rw [dif_neg h, dif_neg h, dif_pos hn]

/-- One entry of the convolution, of its factor `b`, the three taps and the three products they meet. -/
def mid (b w0 w1 w2 z0 z1 z2 : EReal) : EReal := b * ((w0 * z0 + w1 * z1) + w2 * z2)

/-- The same in the other order. -/
theorem mid_eq (b w0 w1 w2 z0 z1 z2 : EReal) : b * ((w2 * z2 + w1 * z1) + w0 * z0) = mid b w0 w1 w2 z0 z1 z2 := by
  unfold mid
  rw [add_comm (w2 * z2) (w1 * z1), add_comm (w0 * z0) (w1 * z1), add_assoc, add_assoc, add_comm (w2 * z2) (w0 * z0)]

/-- One grid point's result at an entry. -/
theorem part (i : grid0.Coords) (v0 v2 : Vec Ideal S256x512 .bf16) (v6 v8 : Vec Ideal S16x512 .bf16) (v14 : Vec Ideal S3x512 .f32)
    (v30 : Vec Ideal S256x512 .bf16) (y : S256x512.Idx) : k0_pay1 (F := Ideal) i v0 v2 v6 v8 v14 v30 y
      = mid (v30 y) (v14 (ix2 0 (y 1))) (v14 (ix2 1 (y 1))) (v14 (ix2 2 (y 1))) (ahead (i 0).val v0 v2 v6 v8 (14 + (y 0).val) (y 1))
          (ahead (i 0).val v0 v2 v6 v8 (15 + (y 0).val) (y 1)) (ahead (i 0).val v0 v2 v6 v8 (16 + (y 0).val) (y 1)) := by
  rw [← mid_eq]
  have hy : (y 0).val < 256 := (y 0).isLt
  have hb : (i 0).val < 32 := (i 0).isLt
  pointwise [k0_pay1]
  have z : ahead (i 0).val v0 v2 v6 v8 (16 + (y 0).val) (y 1) = v0 y * v2 y := by
    unfold ahead
    rw [dif_neg (by omega), dif_pos (by omega)]
    refine congr (congrArg HMul.hMul ?_) ?_ <;> blk_ext []
  rw [z]
  refine congrArg₂ (fun p q : EReal => v30 y * ((v14 (ix2 2 (y 1)) * (v0 y * v2 y) + v14 (ix2 1 (y 1)) * p) + v14 (ix2 0 (y 1)) * q)) ?_ ?_
  · exact late (i 0).val hb v0 v2 v6 v8 ((16 + (y 0).val + 272 - 1) % 272) _ (by omega) (by omega) (y 1)
  · exact late (i 0).val hb v0 v2 v6 v8 ((16 + (y 0).val + 272 - 2) % 272) _ (by omega) (by omega) (y 1)

/-- The product of the second and third of the array's three parts, two rows of zeros before its first row. -/
def padded (x : Vec Ideal S8192x6144 .bf16) (n : ℕ) (j : Fin 2048) : EReal :=
  if h : 2 ≤ n ∧ n < 8194 then x (ix2 ⟨n - 2, by omega⟩ ⟨2048 + j.val, by omega⟩) * x (ix2 ⟨n - 2, by omega⟩ ⟨4096 + j.val, by omega⟩) else 0

theorem ahead_blk (t : Fin cfg0.N) (n : ℕ) (hn : 14 ≤ n) (hn' : n < 272) (j : Fin 512) :
    ahead ((grid0.coords t) 0).val (iblk m c 1 t) (iblk m c 2 t) (iblk m c 3 t) (iblk m c 4 t) n j
      = padded (m ((c.tc : Thread nD τ).loc main_arg0)) (t.val / 4 * 256 + n - 14) ⟨t.val % 4 * 512 + j.val, by omega⟩ := by
  have ht : t.val < 128 := t.isLt
  unfold ahead padded
  rw [(idx t).2.2.2.2.2.2.2]
  by_cases h : n < 16
  · rw [dif_pos h]
    by_cases h0 : t.val / 4 = 0
    · rw [if_pos h0, dif_neg (by omega)]
    · rw [if_neg h0, dif_pos (by omega)]
      refine congr (congrArg HMul.hMul ?_) ?_ <;> blk_ext [iblk, V, idx t]
  · rw [dif_neg h, dif_pos hn', dif_pos (by omega)]
    refine congr (congrArg HMul.hMul ?_) ?_ <;> blk_ext [iblk, V, idx t]

/-- The reference's products with two rows of zeros before them, at an entry. -/
theorem ref_padded (x0 : (⟨Cert.Reference21Ideal.S8192x6144, .bf16⟩ : BufTy).Contents (Elt Ideal)) (i : Cert.Reference21Ideal.S8194x2048.Idx) :
    val_main_v6 (F := Ideal) x0 i = padded x0 (i 0).val (i 1) := by
  have hi : (i 0).val < 8194 := (i 0).isLt
  unfold val_main_v6 padded
  pointwise
  by_cases h : (i 0).val < 2
  · rw [dif_pos h, dif_neg (by omega), val_main_v4_apply]
    exact Ideal.ofBits_zero .f32
  · rw [dif_neg h, dif_pos (by omega), val_main_v5_apply, val_main_v2_apply, val_main_v3_apply]
    show @Eq EReal (x0 _ * x0 _) _
    refine congr (congrArg HMul.hMul (congrArg x0 ?_)) (congrArg x0 ?_) <;> blk_ext []

/-- The reference's result at an entry. -/
theorem ref (x0 : (⟨Cert.Reference21Ideal.S8192x6144, .bf16⟩ : BufTy).Contents (Elt Ideal))
    (x1 : (⟨Cert.Reference21Ideal.S3x2048, .f32⟩ : BufTy).Contents (Elt Ideal)) (i : Cert.Reference21Ideal.S8192x2048.Idx) :
    val_main_v22 (F := Ideal) x0 x1 i = mid (x0 (ix2 (i 0) ⟨(i 1).val, by have h : (i 1).val < 2048 := (i 1).isLt; show _ < 6144; omega⟩))
      (x1 (ix2 0 (i 1))) (x1 (ix2 1 (i 1))) (x1 (ix2 2 (i 1))) (padded x0 (i 0).val (i 1)) (padded x0 (1 + (i 0).val) (i 1)) (padded x0 (2 + (i 0).val) (i 1)) := by
  refine Eq.trans (b := mid (val_main_v1 (F := Ideal) x0 i) (val_main_v9 (F := Ideal) x1 i) (val_main_v13 (F := Ideal) x1 i) (val_main_v18 (F := Ideal) x1 i)
    (val_main_v8 (F := Ideal) x0 i) (val_main_v12 (F := Ideal) x0 i) (val_main_v17 (F := Ideal) x0 i)) rfl ?_
  rw [val_main_v1_apply, val_main_v9_apply, val_main_v13_apply, val_main_v18_apply, val_main_v7_apply, val_main_v11_apply, val_main_v16_apply,
    val_main_v8_apply, val_main_v12_apply, val_main_v17_apply, ref_padded, ref_padded, ref_padded]
  refine congr (congr (congr (congr (congr (congr (congrArg mid ?_) ?_) ?_) ?_) ?_) ?_) ?_
  · refine congrArg x0 ?_; blk_ext []
  · refine congrArg x1 ?_; blk_ext []
  · refine congrArg x1 ?_; blk_ext []
  · refine congrArg x1 ?_; blk_ext []
  · rfl
  · rfl
  · rfl

/-- At the call's end its result array is the reference's. -/
theorem final : (dats m 0 c).arrAt 6 cfg0.N = val_main_v22 (F := Ideal) (m ((c.tc : Thread nD τ).loc main_arg0)) (m ((c.tc : Thread nD τ).loc main_arg1)) := by
  refine (dats m 0 c).arrAt_eq_of_covers 6 _ (by decide +kernel) fun t hf y => ?_
  have ht : t.val < 128 := t.isLt
  have hy : (y 0).val < 256 := (y 0).isLt
  have hy1 : (y 1).val < 512 := (y 1).isLt
  blk_simp
  rw [after0_6]
  frame_out
  have e : ((View.whole main_v0).slice (win0_6.rect t)).emb y
      = ix2 ⟨t.val / 4 * 256 + (y 0).val, by omega⟩ ⟨t.val % 4 * 512 + (y 1).val, by omega⟩ := by
    blk_ext [idx t]
  rw [e, part, ref]
  refine congr (congr (congr (congr (congr (congr (congrArg mid ?_) ?_) ?_) ?_) ?_) ?_) ?_
  · blk_ext [iblk, V, idx t]
  · blk_ext [iblk, V, idx t]
  · blk_ext [iblk, V, idx t]
  · blk_ext [iblk, V, idx t]
  · refine (ahead_blk m c t _ (by omega) (by omega) (y 1)).trans (congrArg (fun n => padded _ n _) ?_)
    show t.val / 4 * 256 + (14 + (y 0).val) - 14 = t.val / 4 * 256 + (y 0).val
    omega
  · refine (ahead_blk m c t _ (by omega) (by omega) (y 1)).trans (congrArg (fun n => padded _ n _) ?_)
    show t.val / 4 * 256 + (15 + (y 0).val) - 14 = 1 + (t.val / 4 * 256 + (y 0).val)
    omega
  · refine (ahead_blk m c t _ (by omega) (by omega) (y 1)).trans (congrArg (fun n => padded _ n _) ?_)
    show t.val / 4 * 256 + (16 + (y 0).val) - 14 = 2 + (t.val / 4 * 256 + (y 0).val)
    omega

end Cert.Kernel21Ideal.Conv

namespace Cert.Proof

open Idealize.ShloMosaic Idealize.ShloMosaic.TcCoe Idealize.SL.Sem
open Cert.Reference21Ideal.Read

/-- Over the extended reals the call and the reference end with equal results. -/
theorem algebraic21 : Cert.algebraic_Kernel21Ideal_Reference21Ideal (hKernel21Ideal := Cert.Kernel21Ideal.Gen.facts)
    (hReference21Ideal := Cert.Reference21Ideal.Gen.facts) := by
  intro m g m' g' _ harg
  refine ⟨fun c => val_main_v22 (F := Ideal) (m ((c.tc : Thread _ _).loc Cert.Kernel21Ideal.main_arg0))
      (m ((c.tc : Thread _ _).loc Cert.Kernel21Ideal.main_arg1)), ?_, ?_⟩
  · exact (θ_run Cert.Kernel21Ideal.defs _ _).mono (fun r h c => ⟨(h c).1.trans (Cert.Kernel21Ideal.Conv.final m c), (h c).2⟩)
      (Cert.Kernel21Ideal.Value.run_blocks (F := Ideal) m g)
  · refine (θ_run Cert.Reference21Ideal.defs _ _).mono (fun r h c => ?_) (Cert.Reference21Ideal.Value.run (F := Ideal) m' g')
    obtain ⟨a0, a1⟩ := harg c
    exact ⟨(h c).1.trans ((val_main_v22_eq _ _).trans (by rw [a0, a1])), (h c).2⟩

end Cert.Proof
-- ==== Proof.ConvBackward.lean ====
/- The gradients of the short convolution between its projections. -/
module

public import proofs.«01_k».proof.Defs
public import proofs.«01_k».proof.Proof.ConvForward
public import proofs.«01_k».proof.Proof.Gen.Kernel20Ideal.Value
public import proofs.«01_k».proof.Proof.Gen.Reference20Ideal.Read
public import proofs.«01_k».proof.Proof.Gen.Reference20Ideal.Run
public import Idealize.ShloMosaic.Lib.Pipeline.ValueKit

@[expose] public section

set_option maxRecDepth 16384

noncomputable section

namespace Cert.Kernel20Ideal.Conv

open Idealize.ShloMosaic Idealize.ShloMosaic.TcCoe Idealize.SL.Sem
open Cert.Kernel20Ideal.Gen
open Idealize.ShloMosaic.Pipeline (Dat)
open Cert.Reference20Ideal.Read
open Cert.Kernel21Ideal.Conv (mid mid_eq first ahead late padded)

variable (m : (ℓ : Loc nD τ sig) → Buf (Elt Ideal) ℓ) (c : Dev nD)

/-- Which blocks grid point `t` reads and writes. -/
theorem idx : ∀ t : Fin cfg0.N, win0_0.index t = ![t.val / 4, t.val % 4] ∧ win0_1.index t = ![t.val / 4, 4 + t.val % 4]
    ∧ win0_2.index t = ![t.val / 4, 8 + t.val % 4] ∧ win0_3.index t = ![t.val / 4 * 16 - 1, 4 + t.val % 4]
    ∧ win0_4.index t = ![t.val / 4 * 16 - 1, 8 + t.val % 4] ∧ win0_5.index t = ![min (t.val / 4 * 16 + 16) 511, t.val % 4]
    ∧ win0_6.index t = ![t.val / 4, t.val % 4] ∧ win0_7.index t = ![min (t.val / 4 * 16 + 16) 511, t.val % 4]
    ∧ win0_8.index t = ![0, t.val % 4] ∧ win0_9.index t = ![t.val / 4, t.val % 4] ∧ win0_10.index t = ![t.val / 4, t.val % 4]
    ∧ win0_11.index t = ![t.val / 4, t.val % 4] ∧ win0_12.index t = ![t.val / 4, 0, t.val % 4] ∧ ((grid0.coords t) 0).val = t.val / 4 := by
  decide +kernel

/-- Row `n` of the block of products with its sixteen later rows after it, the later rows of the last block being zero. -/
def behind (b : ℕ) (v4 v6 : Vec Ideal S256x512 .bf16) (v39 v41 : Vec Ideal S16x512 .bf16) (n : ℕ) (j : Fin 512) : EReal :=
  if h : n < 256 then v6 (ix2 ⟨n, h⟩ j) * v4 (ix2 ⟨n, h⟩ j)
  else if h : n < 272 then if b = 31 then 0 else v39 (ix2 ⟨n - 256, by omega⟩ j) * v41 (ix2 ⟨n - 256, by omega⟩ j) else 0

/-- The gradient of the convolution's sum: the incoming gradient times the array's first part, zero after the last row. -/
def follow (x : Vec Ideal S8192x6144 .bf16) (d : Vec Ideal S8192x2048 .bf16) (n : ℕ) (j : Fin 2048) : EReal :=
  if h : n < 8192 then d (ix2 ⟨n, h⟩ j) * x (ix2 ⟨n, h⟩ ⟨j.val, by omega⟩) else 0

/-- One entry of the gradient of the products, of the three taps and the three gradients they meet. -/
def back (w0 w1 w2 g0 g1 g2 : EReal) : EReal := (w2 * g0 + w1 * g1) + w0 * g2

/-- Whether a block is the last, by its number's word. -/
theorem last : ∀ b : Fin 32, Scalar.cmpi .eq (BitVec.ofNat 32 b.val) 31#32 = if b.val = 31 then 1#1 else 0#1 := by decide +kernel

/-- The same row where its number is written another way. -/
theorem early (b : ℕ) (hb : b < 32) (v4 v6 : Vec Ideal S256x512 .bf16) (v39 v41 : Vec Ideal S16x512 .bf16) (p n : ℕ) (hp : p = n) (hn : n < 272) (j : Fin 512) :
    (if h : p < 256 then v6 (ix2 ⟨p, h⟩ j) * v4 (ix2 ⟨p, h⟩ j)
      else Scalar.select (Scalar.cmpi .eq (BitVec.ofNat 32 b) 31#32) (0 : EReal) (v39 (ix2 ⟨p - 256, by omega⟩ j) * v41 (ix2 ⟨p - 256, by omega⟩ j)))
      = behind b v4 v6 v39 v41 n j := by
  subst hp
  unfold behind
  by_cases h : p < 256
  · rw [dif_pos h, dif_pos h]
  · rw [dif_neg h, dif_neg h, dif_pos hn, last ⟨b, hb⟩]
    unfold Scalar.select
    by_cases h0 : b = 31
    · rw [if_pos h0, if_pos h0]; rfl
    · rw [if_neg h0, if_neg h0]; rfl

/-- The products a row earlier. -/
theorem part10 (i : grid0.Coords) (v0 v2 : Vec Ideal S256x512 .bf16) (v10 v12 : Vec Ideal S16x512 .bf16) (y : S256x512.Idx) :
    k0_pay10 (F := Ideal) i v0 v2 v10 v12 y = ahead (i 0).val v0 v2 v10 v12 (15 + (y 0).val) (y 1) := by
  have hy : (y 0).val < 256 := (y 0).isLt
  have hb : (i 0).val < 32 := (i 0).isLt
  pointwise [k0_pay10, k0_pay9, k0_pay8, k0_pay4, k0_pay5]
  exact late (i 0).val hb v0 v2 v10 v12 ((16 + (y 0).val + 272 - 1) % 272) _ (by omega) (by omega) (y 1)

/-- The products two rows earlier. -/
theorem part11 (i : grid0.Coords) (v0 v2 : Vec Ideal S256x512 .bf16) (v10 v12 : Vec Ideal S16x512 .bf16) (y : S256x512.Idx) :
    k0_pay11 (F := Ideal) i v0 v2 v10 v12 y = ahead (i 0).val v0 v2 v10 v12 (14 + (y 0).val) (y 1) := by
  have hy : (y 0).val < 256 := (y 0).isLt
  have hb : (i 0).val < 32 := (i 0).isLt
  pointwise [k0_pay11, k0_pay9, k0_pay8, k0_pay4, k0_pay5]
  exact late (i 0).val hb v0 v2 v10 v12 ((16 + (y 0).val + 272 - 2) % 272) _ (by omega) (by omega) (y 1)

/-- The products themselves. -/
theorem part8 (b : ℕ) (v0 v2 : Vec Ideal S256x512 .bf16) (v10 v12 : Vec Ideal S16x512 .bf16) (y : S256x512.Idx) :
    k0_pay8 (F := Ideal) v0 v2 y = ahead b v0 v2 v10 v12 (16 + (y 0).val) (y 1) := by
  have hy : (y 0).val < 256 := (y 0).isLt
  refine Eq.trans (b := (v0 y * v2 y : EReal)) rfl ?_
  unfold ahead
  rw [dif_neg (by omega), dif_pos (by omega)]
  refine congr (congrArg HMul.hMul ?_) ?_ <;> blk_ext []

/-- One grid point's gradient of the first factor, at an entry. -/
theorem part12 (i : grid0.Coords) (v0 v2 v6 : Vec Ideal S256x512 .bf16) (v10 v12 : Vec Ideal S16x512 .bf16) (v22 : Vec Ideal S3x512 .f32) (y : S256x512.Idx) :
    k0_pay12 (F := Ideal) i v0 v2 v6 v10 v12 v22 y
      = mid (v6 y) (v22 (ix2 0 (y 1))) (v22 (ix2 1 (y 1))) (v22 (ix2 2 (y 1))) (ahead (i 0).val v0 v2 v10 v12 (14 + (y 0).val) (y 1))
          (ahead (i 0).val v0 v2 v10 v12 (15 + (y 0).val) (y 1)) (ahead (i 0).val v0 v2 v10 v12 (16 + (y 0).val) (y 1)) := by
  rw [← mid_eq, ← part10 i, ← part11 i, ← part8 (i 0).val]
  pointwise [k0_pay12, k0_pay7]

/-- One grid point's gradient of the products, at an entry. -/
theorem part14 (b : ℕ) (hb : b < 32) (v4 v6 : Vec Ideal S256x512 .bf16) (v22 : Vec Ideal S3x512 .f32) (v39 v41 : Vec Ideal S16x512 .bf16) (y : S256x512.Idx) :
    k0_pay14 (F := Ideal) (BitVec.ofNat 32 b) (k0_pay6 v4) (k0_pay7 v6) v22 v39 v41 y
      = back (v22 (ix2 0 (y 1))) (v22 (ix2 1 (y 1))) (v22 (ix2 2 (y 1))) (behind b v4 v6 v39 v41 (y 0).val (y 1))
          (behind b v4 v6 v39 v41 (1 + (y 0).val) (y 1)) (behind b v4 v6 v39 v41 (2 + (y 0).val) (y 1)) := by
  have hy : (y 0).val < 256 := (y 0).isLt
  have z : behind b v4 v6 v39 v41 (y 0).val (y 1) = v6 y * v4 y := by
    unfold behind
    rw [dif_pos hy]
    refine congr (congrArg HMul.hMul ?_) ?_ <;> blk_ext []
  rw [z]
  unfold back
  pointwise [k0_pay14, k0_pay13, k0_pay6, k0_pay7]
  refine congrArg₂ (fun p q : EReal => (v22 (ix2 2 (y 1)) * (v6 y * v4 y) + v22 (ix2 1 (y 1)) * p) + v22 (ix2 0 (y 1)) * q) ?_ ?_
  · exact early b hb v4 v6 v39 v41 (((y 0).val + 272 - 271) % 272) _ (by omega) (by omega) (y 1)
  · exact early b hb v4 v6 v39 v41 (((y 0).val + 272 - 270) % 272) _ (by omega) (by omega) (y 1)

theorem ahead_blk (t : Fin cfg0.N) (n : ℕ) (hn : 14 ≤ n) (hn' : n < 272) (j : Fin 512) :
    ahead ((grid0.coords t) 0).val (iblk m c 1 t) (iblk m c 2 t) (iblk m c 3 t) (iblk m c 4 t) n j
      = padded (m ((c.tc : Thread nD τ).loc main_arg0)) (t.val / 4 * 256 + n - 14) ⟨t.val % 4 * 512 + j.val, by omega⟩ := by
  have ht : t.val < 128 := t.isLt
  unfold ahead padded
  rw [(idx t).2.2.2.2.2.2.2.2.2.2.2.2.2]
  by_cases h : n < 16
  · rw [dif_pos h]
    by_cases h0 : t.val / 4 = 0
    · rw [if_pos h0, dif_neg (by omega)]
    · rw [if_neg h0, dif_pos (by omega)]
      refine congr (congrArg HMul.hMul ?_) ?_ <;> blk_ext [iblk, V, idx t]
  · rw [dif_neg h, dif_pos hn', dif_pos (by omega)]
    refine congr (congrArg HMul.hMul ?_) ?_ <;> blk_ext [iblk, V, idx t]

theorem behind_blk (t : Fin cfg0.N) (n : ℕ) (hn : n < 272) (j : Fin 512) :
    behind ((grid0.coords t) 0).val (iblk m c 0 t) (iblk m c 6 t) (iblk m c 7 t) (iblk m c 5 t) n j
      = follow (m ((c.tc : Thread nD τ).loc main_arg0)) (m ((c.tc : Thread nD τ).loc main_arg1)) (t.val / 4 * 256 + n) ⟨t.val % 4 * 512 + j.val, by omega⟩ := by
  have ht : t.val < 128 := t.isLt
  unfold behind follow
  rw [(idx t).2.2.2.2.2.2.2.2.2.2.2.2.2]
  by_cases h : n < 256
  · rw [dif_pos h, dif_pos (by omega)]
    refine congr (congrArg HMul.hMul ?_) ?_ <;> blk_ext [iblk, V, idx t]
  · rw [dif_neg h, dif_pos hn]
    by_cases h0 : t.val / 4 = 31
    · rw [if_pos h0, dif_neg (by omega)]
    · rw [if_neg h0, dif_pos (by omega)]
      refine congr (congrArg HMul.hMul ?_) ?_ <;> blk_ext [iblk, V, idx t]

end Cert.Kernel20Ideal.Conv
-- ==== Proof.ConvBackRef.lean ====
/- The gradients of the short convolution between its projections: the reference's arrays at an entry. -/
module

public import proofs.«01_k».proof.Defs
public import proofs.«01_k».proof.Proof.ConvBackward
public import proofs.«01_k».proof.Proof.Gen.Reference20Ideal.Read
public import Idealize.ShloMosaic.Lib.Pipeline.ValueKit

@[expose] public section

set_option maxRecDepth 16384

noncomputable section

namespace Cert.Reference20Ideal.Conv

open Idealize.ShloMosaic Idealize.ShloMosaic.TcCoe Idealize.SL.Sem
open Cert.Reference20Ideal.Read
open Cert.Kernel21Ideal.Conv (mid padded)
open Cert.Kernel20Ideal.Conv (follow back)

variable (x0 : (⟨S8192x6144, .bf16⟩ : BufTy).Contents (Elt Ideal)) (x1 : (⟨S8192x2048, .bf16⟩ : BufTy).Contents (Elt Ideal))
  (x2 : (⟨S3x2048, .f32⟩ : BufTy).Contents (Elt Ideal))

/-- The first tap, spread over all rows. -/
theorem tap0 (i : S8192x2048.Idx) : val_main_v13 (F := Ideal) x2 i = x2 (ix2 0 (i 1)) := by
  have h0 : (i 0).val < 8192 := (i 0).isLt
  have h1 : (i 1).val < 2048 := (i 1).isLt
  rw [val_main_v13_apply, val_main_v12_apply, val_main_v11_apply, val_main_v10_apply, val_main_v9_apply, val_main_v4_apply]
  refine congrArg x2 ?_
  blk_ext []

/-- The second. -/
theorem tap1 (i : S8192x2048.Idx) : val_main_v18 (F := Ideal) x2 i = x2 (ix2 1 (i 1)) := by
  have h0 : (i 0).val < 8192 := (i 0).isLt
  have h1 : (i 1).val < 2048 := (i 1).isLt
  rw [val_main_v18_apply, val_main_v17_apply, val_main_v16_apply, val_main_v15_apply, val_main_v14_apply, val_main_v4_apply]
  refine congrArg x2 ?_
  blk_ext []

/-- The third. -/
theorem tap2 (i : S8192x2048.Idx) : val_main_v23 (F := Ideal) x2 i = x2 (ix2 2 (i 1)) := by
  have h0 : (i 0).val < 8192 := (i 0).isLt
  have h1 : (i 1).val < 2048 := (i 1).isLt
  rw [val_main_v23_apply, val_main_v22_apply, val_main_v21_apply, val_main_v20_apply, val_main_v19_apply, val_main_v4_apply]
  refine congrArg x2 ?_
  blk_ext []

/-- The products with two rows of zeros before them. -/
theorem ref_padded (i : S8194x2048.Idx) : val_main_v7 (F := Ideal) x0 i = padded x0 (i 0).val (i 1) := by
  have hi : (i 0).val < 8194 := (i 0).isLt
  unfold val_main_v7 padded
  pointwise
  by_cases h : (i 0).val < 2
  · rw [dif_pos h, dif_neg (by omega), val_main_v5_apply]
    exact Ideal.ofBits_zero .f32
  · rw [dif_neg h, dif_pos (by omega), val_main_v6_apply, val_main_v2_apply, val_main_v3_apply]
    show @Eq EReal (x0 _ * x0 _) _
    refine congr (congrArg HMul.hMul (congrArg x0 ?_)) (congrArg x0 ?_) <;> blk_ext []

/-- The products at a row, one and two rows earlier. -/
theorem row2 (i : S8192x2048.Idx) : val_main_v24 (F := Ideal) x0 i = padded x0 (i 0).val (i 1) := by
  rw [val_main_v24_apply, ref_padded]
  rfl

theorem row1 (i : S8192x2048.Idx) : val_main_v26 (F := Ideal) x0 i = padded x0 (1 + (i 0).val) (i 1) := by
  rw [val_main_v26_apply, ref_padded]
  rfl

theorem row0 (i : S8192x2048.Idx) : val_main_v29 (F := Ideal) x0 i = padded x0 (2 + (i 0).val) (i 1) := by
  rw [val_main_v29_apply, ref_padded]
  rfl

/-- The gradient of the convolution's sum. -/
theorem ref_follow (i : S8192x2048.Idx) : val_main_v34 (F := Ideal) x0 x1 i = follow x0 x1 (i 0).val (i 1) := by
  have hi : (i 0).val < 8192 := (i 0).isLt
  unfold follow
  rw [dif_pos hi, val_main_v34_apply, val_main_v1_apply]
  show @Eq EReal (x0 _ * x1 _) _
  refine (mul_comm _ _).trans (congr (congrArg HMul.hMul (congrArg x1 ?_)) (congrArg x0 ?_)) <;> blk_ext []

/-- The first factor's gradient. -/
theorem ref71 (i : S8192x2048.Idx) : val_main_v71 (F := Ideal) x0 x1 x2 i
    = mid (x1 i) (x2 (ix2 0 (i 1))) (x2 (ix2 1 (i 1))) (x2 (ix2 2 (i 1))) (padded x0 (i 0).val (i 1)) (padded x0 (1 + (i 0).val) (i 1)) (padded x0 (2 + (i 0).val) (i 1)) := by
  rw [← tap0 x2 i, ← tap1 x2 i, ← tap2 x2 i, ← row0, ← row1, ← row2]
  rfl

/-- A tap times the gradient, at a row the gradient has and at one it has not. -/
theorem scaled (w : EReal) (n : ℕ) (j : Fin 2048) (h : ¬ n < 8192) : w * follow x0 x1 n j = 0 := by
  unfold follow
  rw [dif_neg h, mul_zero]

/-- The gradient of the products with the two rows before them. -/
theorem ref68 (i : S8192x2048.Idx) : val_main_v68 (F := Ideal) x0 x1 x2 i
    = back (x2 (ix2 0 (i 1))) (x2 (ix2 1 (i 1))) (x2 (ix2 2 (i 1))) (follow x0 x1 (i 0).val (i 1)) (follow x0 x1 (1 + (i 0).val) (i 1)) (follow x0 x1 (2 + (i 0).val) (i 1)) := by
  have hi : (i 0).val < 8192 := (i 0).isLt
  rw [val_main_v68_apply, val_main_v46_apply, val_main_v42_apply]
  have e38 : val_main_v38 (F := Ideal) x0 x1 x2 (idx_main_v68 i) = x2 (ix2 2 (i 1)) * follow x0 x1 (i 0).val (i 1) := by
    unfold val_main_v38
    pointwise
    rw [val_main_v36_apply, tap2, ref_follow]
    rfl
  have e41 : val_main_v41 (F := Ideal) x0 x1 x2 (idx_main_v68 i) = x2 (ix2 1 (i 1)) * follow x0 x1 (1 + (i 0).val) (i 1) := by
    unfold val_main_v41
    pointwise
    have e : 2 + (i 0).val - 1 = 1 + (i 0).val := by omega
    by_cases h : 1 + (i 0).val < 8192
    · rw [dif_pos (by omega), val_main_v39_apply, tap1, ref_follow]
      exact congrArg (fun n => x2 (ix2 1 (i 1)) * follow x0 x1 n (i 1)) e
    · rw [dif_neg (by omega)]
      exact (Ideal.ofBits_zero .f32).trans (scaled x0 x1 _ _ (i 1) h).symm
  have e45 : val_main_v45 (F := Ideal) x0 x1 x2 (idx_main_v68 i) = x2 (ix2 0 (i 1)) * follow x0 x1 (2 + (i 0).val) (i 1) := by
    unfold val_main_v45
    pointwise
    by_cases h : 2 + (i 0).val < 8192
    · rw [dif_pos h, val_main_v43_apply, tap0, ref_follow]
      rfl
    · rw [dif_neg h]
      exact (Ideal.ofBits_zero .f32).trans (scaled x0 x1 _ _ (i 1) h).symm
  rw [e38, e41, e45]
  rfl

/-- The second factor's gradient. -/
theorem ref72 (i : S8192x2048.Idx) : val_main_v72 (F := Ideal) x0 x1 x2 i
    = val_main_v68 (F := Ideal) x0 x1 x2 i * x0 (ix2 (i 0) ⟨4096 + (i 1).val, by have h : (i 1).val < 2048 := (i 1).isLt; show _ < 6144; omega⟩) := by
  refine Eq.trans (b := (val_main_v68 (F := Ideal) x0 x1 x2 i * val_main_v3 (F := Ideal) x0 i : EReal)) rfl ?_
  rw [val_main_v3_apply]
  refine congrArg (fun z : EReal => val_main_v68 (F := Ideal) x0 x1 x2 i * z) (congrArg x0 ?_)
  blk_ext []

/-- The third factor's gradient. -/
theorem ref73 (i : S8192x2048.Idx) : val_main_v73 (F := Ideal) x0 x1 x2 i
    = val_main_v68 (F := Ideal) x0 x1 x2 i * x0 (ix2 (i 0) ⟨2048 + (i 1).val, by have h : (i 1).val < 2048 := (i 1).isLt; show _ < 6144; omega⟩) := by
  refine Eq.trans (b := (val_main_v2 (F := Ideal) x0 i * val_main_v68 (F := Ideal) x0 x1 x2 i : EReal)) rfl ?_
  rw [mul_comm, val_main_v2_apply]
  refine congrArg (fun z : EReal => val_main_v68 (F := Ideal) x0 x1 x2 i * z) (congrArg x0 ?_)
  blk_ext []

/-- One block's gradient of the tap that meets the products `k` rows before the padded row. -/
def tapsum (b k : ℕ) (j : Fin 2048) : EReal := ∑ r : Fin 256, follow x0 x1 (b * 256 + r.val) j * padded x0 (k + (b * 256 + r.val)) j

/-- Zero added twice before a sum. -/
theorem zeros (z : EReal) : FloatOps.ofBits (F := Ideal) .f32 0x00000000#32 + (FloatOps.ofBits (F := Ideal) .f32 0x00000000#32 + z) = z := by
  have e : FloatOps.ofBits (F := Ideal) .f32 0x00000000#32 = (0 : EReal) := Ideal.ofBits_zero .f32
  rw [e, zero_add, zero_add]

/-- A gradient row times its input row. -/
theorem prod2 (i : S8192x2048.Idx) : val_main_v37 (F := Ideal) x0 x1 i
    = follow x0 x1 (i 0).val (i 1) * padded x0 (2 + (i 0).val) (i 1) := by
  rw [val_main_v37_apply, ref_follow, row0]
  rfl

/-- One tap's gradient, block by block. -/
theorem sum2 (i : S32x2048.Idx) : val_main_v50 (F := Ideal) x0 x1 i = tapsum x0 x1 (i 0).val 2 (i 1) := by
  have h0 : (i 0).val < 32 := (i 0).isLt
  have h1 : (i 1).val < 2048 := (i 1).isLt
  rw [val_main_v50_apply, Fin.sum_univ_one, val_main_v49_apply, val_main_v48_apply]
  refine (zeros _).trans (Finset.sum_congr rfl fun r _ => ?_)
  have hr : r.val < 256 := r.isLt
  have e : idx_main_v47 (idx_main_v48 (idx_main_v49 (idx_main_v50 i 0)) r) = ix2 ⟨(i 0).val * 256 + r.val, by omega⟩ (i 1) := by
    blk_ext []
  rw [val_main_v47_apply, e]
  exact prod2 x0 x1 _

/-- A gradient row times its input row. -/
theorem prod1 (i : S8192x2048.Idx) : val_main_v40 (F := Ideal) x0 x1 i
    = follow x0 x1 (i 0).val (i 1) * padded x0 (1 + (i 0).val) (i 1) := by
  rw [val_main_v40_apply, ref_follow, row1]
  rfl

/-- One tap's gradient, block by block. -/
theorem sum1 (i : S32x2048.Idx) : val_main_v56 (F := Ideal) x0 x1 i = tapsum x0 x1 (i 0).val 1 (i 1) := by
  have h0 : (i 0).val < 32 := (i 0).isLt
  have h1 : (i 1).val < 2048 := (i 1).isLt
  rw [val_main_v56_apply, Fin.sum_univ_one, val_main_v55_apply, val_main_v54_apply]
  refine (zeros _).trans (Finset.sum_congr rfl fun r _ => ?_)
  have hr : r.val < 256 := r.isLt
  have e : idx_main_v53 (idx_main_v54 (idx_main_v55 (idx_main_v56 i 0)) r) = ix2 ⟨(i 0).val * 256 + r.val, by omega⟩ (i 1) := by
    blk_ext []
  rw [val_main_v53_apply, e]
  exact prod1 x0 x1 _

/-- A gradient row times its input row. -/
theorem prod0 (i : S8192x2048.Idx) : val_main_v44 (F := Ideal) x0 x1 i
    = follow x0 x1 (i 0).val (i 1) * padded x0 (0 + (i 0).val) (i 1) := by
  rw [val_main_v44_apply, ref_follow, row2]
  exact congrArg (fun n => follow x0 x1 (i 0).val (i 1) * padded x0 n (i 1)) (Nat.zero_add _).symm

/-- One tap's gradient, block by block. -/
theorem sum0 (i : S32x2048.Idx) : val_main_v63 (F := Ideal) x0 x1 i = tapsum x0 x1 (i 0).val 0 (i 1) := by
  have h0 : (i 0).val < 32 := (i 0).isLt
  have h1 : (i 1).val < 2048 := (i 1).isLt
  rw [val_main_v63_apply, Fin.sum_univ_one, val_main_v62_apply, val_main_v61_apply]
  refine (zeros _).trans (Finset.sum_congr rfl fun r _ => ?_)
  have hr : r.val < 256 := r.isLt
  have e : idx_main_v60 (idx_main_v61 (idx_main_v62 (idx_main_v63 i 0)) r) = ix2 ⟨(i 0).val * 256 + r.val, by omega⟩ (i 1) := by
    blk_ext []
  rw [val_main_v60_apply, e]
  exact prod0 x0 x1 _

/-- The last tap's sums stand in the third row. -/
theorem place2 (i : S32x3x2048.Idx) : val_main_v52 (F := Ideal) x0 x1 i = if (i 1).val = 2 then tapsum x0 x1 (i 0).val 2 (i 2) else 0 := by
  have h1 : (i 1).val < 3 := (i 1).isLt
  unfold val_main_v52
  pointwise
  by_cases h : (i 1).val = 2
  · rw [dif_pos (by omega), if_pos h, val_main_v51_apply]
    exact sum2 x0 x1 _
  · rw [dif_neg (by omega), if_neg h]
    exact Ideal.ofBits_zero .f32

/-- The middle tap's sums stand in the second row. -/
theorem place1 (i : S32x3x2048.Idx) : val_main_v58 (F := Ideal) x0 x1 i = if (i 1).val = 1 then tapsum x0 x1 (i 0).val 1 (i 2) else 0 := by
  have h1 : (i 1).val < 3 := (i 1).isLt
  unfold val_main_v58
  pointwise
  by_cases h : (i 1).val = 1
  · rw [dif_pos (by omega), if_pos h, val_main_v57_apply]
    exact sum1 x0 x1 _
  · rw [dif_neg (by omega), if_neg h]
    exact Ideal.ofBits_zero .f32

/-- The first tap's sums stand in the first row. -/
theorem place0 (i : S32x3x2048.Idx) : val_main_v65 (F := Ideal) x0 x1 i = if (i 1).val = 0 then tapsum x0 x1 (i 0).val 0 (i 2) else 0 := by
  have h1 : (i 1).val < 3 := (i 1).isLt
  unfold val_main_v65
  pointwise
  by_cases h : (i 1).val = 0
  · rw [dif_pos (by omega), if_pos h, val_main_v64_apply]
    exact sum0 x0 x1 _
  · rw [dif_neg (by omega), if_neg h]
    exact Ideal.ofBits_zero .f32

/-- The three rows of tap sums. -/
theorem ref66 (i : S32x3x2048.Idx) : val_main_v66 (F := Ideal) x0 x1 i = tapsum x0 x1 (i 0).val (i 1).val (i 2) := by
  have h1 : (i 1).val < 3 := (i 1).isLt
  rw [val_main_v66_apply, val_main_v59_apply, place2, place1, place0]
  show @Eq EReal ((_ + _) + _) _
  obtain h | h | h : (i 1).val = 0 ∨ (i 1).val = 1 ∨ (i 1).val = 2 := by omega
  · rw [if_neg (by omega), if_neg (by omega), if_pos h, h, zero_add, zero_add]
  · rw [if_neg (by omega), if_pos h, if_neg (by omega), h, zero_add, add_zero]
  · rw [if_pos h, if_neg (by omega), if_neg (by omega), h, add_zero, add_zero]

/-- The taps' gradient: one row a tap, and five rows of zeros. -/
theorem ref74 (i : S32x8x2048.Idx) : val_main_v74 (F := Ideal) x0 x1 i
    = if (i 1).val < 3 then tapsum x0 x1 (i 0).val (i 1).val (i 2) else 0 := by
  have h1 : (i 1).val < 8 := (i 1).isLt
  unfold val_main_v74
  pointwise
  by_cases h : (i 1).val < 3
  · rw [dif_pos (by omega), if_pos h]
    exact ref66 x0 x1 _
  · rw [dif_neg (by omega), if_neg h]
    show (((0#32 : BitVec 32).toInt : ℝ) : EReal) = 0
    norm_num

end Cert.Reference20Ideal.Conv
-- ==== Proof.ConvEqual.lean ====
/- The gradients of the short convolution: the call's four arrays are the reference's. -/
module

public import proofs.«01_k».proof.Proof.ConvBackward
public import proofs.«01_k».proof.Proof.ConvBackRef

@[expose] public section

set_option maxRecDepth 16384

noncomputable section

namespace Cert.Kernel20Ideal.Conv

open Idealize.ShloMosaic Idealize.ShloMosaic.TcCoe Idealize.SL.Sem
open Cert.Kernel20Ideal.Gen
open Idealize.ShloMosaic.Pipeline (Dat)
open Cert.Reference20Ideal.Read
open Cert.Reference20Ideal.Conv (ref71 ref72 ref73 ref74 ref68 tapsum)
open Cert.Kernel21Ideal.Conv (mid ahead padded)

variable (m : (ℓ : Loc nD τ sig) → Buf (Elt Ideal) ℓ) (c : Dev nD)

/-- One row stored over a block: the row where the index names it, what was there before elsewhere. -/
theorem layer (k : ℕ) (inb : ∀ a, (![0, k, 0] : Fin 3 → ℕ) a + (![1, 1, 512] : Fin 3 → ℕ) a ≤ S1x8x512.size a)
    (w : (Rect.unit (s := S1x8x512) ![0, k, 0] ![1, 1, 512] inb).shape.Idx → EReal) (L : List (View.Piece (Elt Ideal) S1x8x512 .f32)) (y : S1x8x512.Idx) :
    View.canon (Val := Elt Ideal) (⟨Rect.unit (s := S1x8x512) ![0, k, 0] ![1, 1, 512] inb, w⟩ :: L) y
      = if (y 1).val = k then w (ix3 0 0 (y 2)) else View.canon L y := by
  have h0 : (y 0).val < 1 := (y 0).isLt
  by_cases h : (y 1).val = k
  · rw [if_pos h]
    have e : (Rect.unit (s := S1x8x512) ![0, k, 0] ![1, 1, 512] inb).emb (ix3 0 0 (y 2)) = y := by
      funext a
      refine Fin.ext ?_
      rw [Rect.emb_apply]
      fin_cases a
      · show 0 + 1 * 0 = (y 0).val
        omega
      · show k + 1 * 0 = (y 1).val
        omega
      · show 0 + 1 * (y 2).val = (y 2).val
        omega
    have q := View.canon_cons_emb (Val := Elt Ideal) (Rect.unit (s := S1x8x512) ![0, k, 0] ![1, 1, 512] inb) w L (ix3 0 0 (y 2))
    rw [e] at q
    exact q
  · rw [if_neg h]
    refine View.canon_cons_of_not_mem _ _ fun hm => h ?_
    have hm' := (Rect.mem_set_unit (inb := inb)).mp hm 1
    have a1 : k ≤ (y 1).val := hm'.1
    have a2 : (y 1).val < k + 1 := hm'.2
    omega

/-- A block of zeros. -/
theorem blank (y : S1x8x512.Idx) : k0_pay17 (F := Ideal) y = (0 : EReal) := by
  pointwise [k0_pay17]
  try exact Ideal.ofBits_zero .f32

/-- One tap's sum over a block. -/
theorem part3 (v8 v37 : FVec Ideal S256x512 .f32) (y : S1x1x512.Idx) :
    k0_pay3 (F := Ideal) v8 v37 y = ∑ r : Fin 256, v37 (ix2 r (y 2)) * v8 (ix2 r (y 2)) := by
  pointwise [k0_pay3]

theorem part2 (v19 v37 : FVec Ideal S256x512 .f32) (y : S1x1x512.Idx) :
    k0_pay2 (F := Ideal) v19 v37 y = ∑ r : Fin 256, v37 (ix2 r (y 2)) * v19 (ix2 r (y 2)) := by
  pointwise [k0_pay2]

theorem part1 (v5 v7 v21 : FVec Ideal S256x512 .f32) (y : S1x1x512.Idx) :
    k0_pay1 (F := Ideal) (k0_pay18 v5 v7 v21) y = ∑ r : Fin 256, k0_pay13 (F := Ideal) v5 v7 (ix2 r (y 2)) * v21 (ix2 r (y 2)) := by
  pointwise [k0_pay1, k0_pay18]

/-- The gradient of the convolution's sum, at a row of a block. -/
theorem behind_row (b : ℕ) (v4 v6 : Vec Ideal S256x512 .bf16) (v39 v41 : Vec Ideal S16x512 .bf16) (y : S256x512.Idx) :
    k0_pay13 (F := Ideal) (k0_pay6 v4) (k0_pay7 v6) y = behind b v4 v6 v39 v41 (y 0).val (y 1) := by
  have hy : (y 0).val < 256 := (y 0).isLt
  refine Eq.trans (b := (v6 y * v4 y : EReal)) rfl ?_
  unfold behind
  rw [dif_pos hy]
  refine congr (congrArg HMul.hMul ?_) ?_ <;> blk_ext []

/-- The first factor's gradient is the reference's. -/
theorem final9 : (dats m 0 c).arrAt 9 cfg0.N = val_main_v71 (F := Ideal) (m ((c.tc : Thread nD τ).loc main_arg0)) (m ((c.tc : Thread nD τ).loc main_arg1)) (m ((c.tc : Thread nD τ).loc main_arg2)) := by
  refine (dats m 0 c).arrAt_eq_of_covers 9 _ (by decide +kernel) fun t hf y => ?_
  have ht : t.val < 128 := t.isLt
  have hy : (y 0).val < 256 := (y 0).isLt
  have hy1 : (y 1).val < 512 := (y 1).isLt
  blk_simp
  rw [after0_9]
  unfold outsAt0
  frame_out
  have e : ((View.whole main_v0_0).slice (win0_9.rect t)).emb y
      = ix2 ⟨t.val / 4 * 256 + (y 0).val, by omega⟩ ⟨t.val % 4 * 512 + (y 1).val, by omega⟩ := by
    blk_ext [idx t]
  rw [e, part12, ref71]
  refine congr (congr (congr (congr (congr (congr (congrArg mid ?_) ?_) ?_) ?_) ?_) ?_) ?_
  · blk_ext [iblk, V, idx t]
  · blk_ext [iblk, V, idx t]
  · blk_ext [iblk, V, idx t]
  · blk_ext [iblk, V, idx t]
  · refine (ahead_blk m c t _ (by omega) (by omega) (y 1)).trans (congrArg (fun n => padded _ n _) ?_)
    show t.val / 4 * 256 + (14 + (y 0).val) - 14 = t.val / 4 * 256 + (y 0).val
    omega
  · refine (ahead_blk m c t _ (by omega) (by omega) (y 1)).trans (congrArg (fun n => padded _ n _) ?_)
    show t.val / 4 * 256 + (15 + (y 0).val) - 14 = 1 + (t.val / 4 * 256 + (y 0).val)
    omega
  · refine (ahead_blk m c t _ (by omega) (by omega) (y 1)).trans (congrArg (fun n => padded _ n _) ?_)
    show t.val / 4 * 256 + (16 + (y 0).val) - 14 = 2 + (t.val / 4 * 256 + (y 0).val)
    omega

/-- A block's gradient of the products is the reference's. -/
theorem back_blk (t : Fin cfg0.N) (y : S256x512.Idx) (hy : (y 0).val < 256) (hy1 : (y 1).val < 512) (ht : t.val < 128) :
    k0_pay14 (F := Ideal) (BitVec.ofNat 32 ((grid0.coords t) 0).val) (k0_pay6 (iblk m c 0 t)) (k0_pay7 (iblk m c 6 t)) (iblk m c 8 t) (iblk m c 7 t) (iblk m c 5 t) y
      = val_main_v68 (F := Ideal) (m ((c.tc : Thread nD τ).loc main_arg0)) (m ((c.tc : Thread nD τ).loc main_arg1)) (m ((c.tc : Thread nD τ).loc main_arg2))
          (ix2 ⟨t.val / 4 * 256 + (y 0).val, by omega⟩ ⟨t.val % 4 * 512 + (y 1).val, by omega⟩) := by
  have hb : ((grid0.coords t) 0).val < 32 := ((grid0.coords t) 0).isLt
  rw [part14 _ hb, ref68]
  refine congr (congr (congr (congr (congr (congrArg back ?_) ?_) ?_) ?_) ?_) ?_
  · blk_ext [iblk, V, idx t]
  · blk_ext [iblk, V, idx t]
  · blk_ext [iblk, V, idx t]
  · exact behind_blk m c t _ (by omega) (y 1)
  · refine (behind_blk m c t _ (by omega) (y 1)).trans (congrArg (fun n => follow _ _ n _) ?_)
    show t.val / 4 * 256 + (1 + (y 0).val) = 1 + (t.val / 4 * 256 + (y 0).val)
    omega
  · refine (behind_blk m c t _ (by omega) (y 1)).trans (congrArg (fun n => follow _ _ n _) ?_)
    show t.val / 4 * 256 + (2 + (y 0).val) = 2 + (t.val / 4 * 256 + (y 0).val)
    omega

/-- The second factor's gradient is the reference's. -/
theorem final10 : (dats m 0 c).arrAt 10 cfg0.N = val_main_v72 (F := Ideal) (m ((c.tc : Thread nD τ).loc main_arg0)) (m ((c.tc : Thread nD τ).loc main_arg1)) (m ((c.tc : Thread nD τ).loc main_arg2)) := by
  refine (dats m 0 c).arrAt_eq_of_covers 10 _ (by decide +kernel) fun t hf y => ?_
  have ht : t.val < 128 := t.isLt
  have hy : (y 0).val < 256 := (y 0).isLt
  have hy1 : (y 1).val < 512 := (y 1).isLt
  blk_simp
  rw [after0_10]
  unfold outsAt0
  frame_out
  have e : ((View.whole main_v0_1).slice (win0_10.rect t)).emb y
      = ix2 ⟨t.val / 4 * 256 + (y 0).val, by omega⟩ ⟨t.val % 4 * 512 + (y 1).val, by omega⟩ := by
    blk_ext [idx t]
  rw [e, ref72, ← back_blk m c t y hy hy1 ht]
  unfold k0_pay15
  refine congrArg (fun z : EReal => k0_pay14 (F := Ideal) _ _ _ _ _ _ y * z) ?_
  refine Eq.trans (b := iblk m c 2 t y) rfl ?_
  blk_ext [iblk, V, idx t]

/-- The third factor's gradient is the reference's. -/
theorem final11 : (dats m 0 c).arrAt 11 cfg0.N = val_main_v73 (F := Ideal) (m ((c.tc : Thread nD τ).loc main_arg0)) (m ((c.tc : Thread nD τ).loc main_arg1)) (m ((c.tc : Thread nD τ).loc main_arg2)) := by
  refine (dats m 0 c).arrAt_eq_of_covers 11 _ (by decide +kernel) fun t hf y => ?_
  have ht : t.val < 128 := t.isLt
  have hy : (y 0).val < 256 := (y 0).isLt
  have hy1 : (y 1).val < 512 := (y 1).isLt
  blk_simp
  rw [after0_11]
  unfold outsAt0
  frame_out
  have e : ((View.whole main_v0_2).slice (win0_11.rect t)).emb y
      = ix2 ⟨t.val / 4 * 256 + (y 0).val, by omega⟩ ⟨t.val % 4 * 512 + (y 1).val, by omega⟩ := by
    blk_ext [idx t]
  rw [e, ref73, ← back_blk m c t y hy hy1 ht]
  unfold k0_pay16
  refine congrArg (fun z : EReal => k0_pay14 (F := Ideal) _ _ _ _ _ _ y * z) ?_
  refine Eq.trans (b := iblk m c 1 t y) rfl ?_
  blk_ext [iblk, V, idx t]

/-- The taps' gradients are the reference's. -/
theorem final12 : (dats m 0 c).arrAt 12 cfg0.N = val_main_v74 (F := Ideal) (m ((c.tc : Thread nD τ).loc main_arg0)) (m ((c.tc : Thread nD τ).loc main_arg1)) := by
  refine (dats m 0 c).arrAt_eq_of_covers 12 _ (by decide +kernel) fun t hf y => ?_
  have ht : t.val < 128 := t.isLt
  have hy : (y 0).val < 1 := (y 0).isLt
  have hy1 : (y 1).val < 8 := (y 1).isLt
  have hy2 : (y 2).val < 512 := (y 2).isLt
  have hb : ((grid0.coords t) 0).val < 32 := ((grid0.coords t) 0).isLt
  blk_simp
  rw [after0_12]
  unfold outsAt0
  frame_out
  have e : ((View.whole main_v0_3).slice (win0_12.rect t)).emb y
      = ix3 ⟨t.val / 4, by omega⟩ ⟨(y 1).val, by omega⟩ ⟨t.val % 4 * 512 + (y 2).val, by omega⟩ := by
    blk_ext [idx t]
  rw [e, ref74]
  have g (r : Fin 256) : k0_pay13 (F := Ideal) (k0_pay6 (iblk m c 0 t)) (k0_pay7 (iblk m c 6 t)) (ix2 r (y 2))
      = follow (m ((c.tc : Thread nD τ).loc main_arg0)) (m ((c.tc : Thread nD τ).loc main_arg1)) (t.val / 4 * 256 + r.val) ⟨t.val % 4 * 512 + (y 2).val, by omega⟩ :=
    (behind_row ((grid0.coords t) 0).val _ _ (iblk m c 7 t) (iblk m c 5 t) _).trans (behind_blk m c t r.val (by have := r.isLt; omega) (y 2))
  have p (k : ℕ) (hk : k < 3) (r : Fin 256) : ahead ((grid0.coords t) 0).val (iblk m c 1 t) (iblk m c 2 t) (iblk m c 3 t) (iblk m c 4 t) (14 + k + r.val) (y 2)
      = padded (m ((c.tc : Thread nD τ).loc main_arg0)) (k + (t.val / 4 * 256 + r.val)) ⟨t.val % 4 * 512 + (y 2).val, by omega⟩ := by
    have hr : r.val < 256 := r.isLt
    refine (ahead_blk m c t _ (by omega) (by omega) (y 2)).trans (congrArg (fun n => padded _ n _) ?_)
    omega
  rw [layer 2, layer 1, layer 0]
  show _ = if (y 1).val < 3 then tapsum _ _ (t.val / 4) (y 1).val ⟨t.val % 4 * 512 + (y 2).val, _⟩ else 0
  by_cases h2 : (y 1).val = 2
  · rw [if_pos h2, if_pos (by omega), part3, h2]
    refine Finset.sum_congr rfl fun r _ => congrArg₂ (fun p q : EReal => p * q) (g r) ?_
    exact (part8 ((grid0.coords t) 0).val _ _ (iblk m c 3 t) (iblk m c 4 t) _).trans (p 2 (by omega) r)
  rw [if_neg h2]
  by_cases h1 : (y 1).val = 1
  · rw [if_pos h1, if_pos (by omega), part2, h1]
    refine Finset.sum_congr rfl fun r _ => congrArg₂ (fun p q : EReal => p * q) (g r) ?_
    exact (part10 _ _ _ _ _ _).trans (p 1 (by omega) r)
  rw [if_neg h1]
  by_cases h0 : (y 1).val = 0
  · rw [if_pos h0, if_pos (by omega), part1, h0]
    refine Finset.sum_congr rfl fun r _ => congrArg₂ (fun p q : EReal => p * q) (g r) ?_
    exact (part11 _ _ _ _ _ _).trans (p 0 (by omega) r)
  rw [if_neg h0, if_neg (by omega)]
  exact (congrFun (View.canon_cons_unit_lit (S := S1x8x512) inb_S1x8x512_S1x8x512_0_0_0 _ [] (by decide)) y).trans (blank y)

end Cert.Kernel20Ideal.Conv

namespace Cert.Proof

open Idealize.ShloMosaic Idealize.ShloMosaic.TcCoe Idealize.SL.Sem
open Cert.Reference20Ideal.Read

/-- Over the extended reals the call and the reference end with equal gradients of the factors and of the taps. -/
theorem algebraic20 : Cert.algebraic_Kernel20Ideal_Reference20Ideal (hKernel20Ideal := Cert.Kernel20Ideal.Gen.facts)
    (hReference20Ideal := Cert.Reference20Ideal.Gen.facts) := by
  intro m g m' g' _ harg
  refine ⟨fun c => val_main_v71 (F := Ideal) (m ((c.tc : Thread _ _).loc Cert.Kernel20Ideal.main_arg0))
      (m ((c.tc : Thread _ _).loc Cert.Kernel20Ideal.main_arg1)) (m ((c.tc : Thread _ _).loc Cert.Kernel20Ideal.main_arg2)),
    fun c => val_main_v72 (F := Ideal) (m ((c.tc : Thread _ _).loc Cert.Kernel20Ideal.main_arg0))
      (m ((c.tc : Thread _ _).loc Cert.Kernel20Ideal.main_arg1)) (m ((c.tc : Thread _ _).loc Cert.Kernel20Ideal.main_arg2)),
    fun c => val_main_v73 (F := Ideal) (m ((c.tc : Thread _ _).loc Cert.Kernel20Ideal.main_arg0))
      (m ((c.tc : Thread _ _).loc Cert.Kernel20Ideal.main_arg1)) (m ((c.tc : Thread _ _).loc Cert.Kernel20Ideal.main_arg2)),
    fun c => val_main_v74 (F := Ideal) (m ((c.tc : Thread _ _).loc Cert.Kernel20Ideal.main_arg0))
      (m ((c.tc : Thread _ _).loc Cert.Kernel20Ideal.main_arg1)), ?_, ?_⟩
  · exact (θ_run Cert.Kernel20Ideal.defs _ _).mono (fun r h c => ⟨(h c).1.trans (Cert.Kernel20Ideal.Conv.final9 m c),
      (h c).2.1.trans (Cert.Kernel20Ideal.Conv.final10 m c), (h c).2.2.1.trans (Cert.Kernel20Ideal.Conv.final11 m c),
      (h c).2.2.2.1.trans (Cert.Kernel20Ideal.Conv.final12 m c), (h c).2.2.2.2⟩) (Cert.Kernel20Ideal.Value.run_blocks (F := Ideal) m g)
  · refine (θ_run Cert.Reference20Ideal.defs _ _).mono (fun r h c => ?_) (Cert.Reference20Ideal.Value.run (F := Ideal) m' g')
    obtain ⟨a0, a1, a2⟩ := harg c
    exact ⟨(h c).1.trans ((val_main_v71_eq _ _ _).trans (by rw [a0, a1, a2])),
      (h c).2.1.trans ((val_main_v72_eq _ _ _).trans (by rw [a0, a1, a2])),
      (h c).2.2.1.trans ((val_main_v73_eq _ _ _).trans (by rw [a0, a1, a2])),
      (h c).2.2.2.1.trans ((val_main_v74_eq _ _).trans (by rw [a0, a1])), (h c).2.2.2.2⟩

end Cert.Proof
-- ==== Proof.ModForward.lean ====
/- The modulation: what the call leaves in its result array is the reference's array. -/
module

public import proofs.«01_k».proof.Defs
public import proofs.«01_k».proof.Proof.Gen.Kernel23Ideal.Value
public import proofs.«01_k».proof.Proof.Gen.Reference23Ideal.Read
public import proofs.«01_k».proof.Proof.Gen.Reference23Ideal.Run
public import Idealize.ShloMosaic.Lib.Pipeline.ValueKit

@[expose] public section

set_option maxRecDepth 16384

noncomputable section

namespace Cert.Kernel23Ideal.Mod

open Idealize.ShloMosaic Idealize.ShloMosaic.TcCoe Idealize.SL.Sem
open Cert.Kernel23Ideal.Gen
open Idealize.ShloMosaic.Pipeline (Dat)
open Cert.Reference23Ideal.Read

variable (m : (ℓ : Loc nD τ sig) → Buf (Elt Ideal) ℓ) (c : Dev nD)

/-- Which blocks grid point `t` reads and writes. -/
theorem idx : ∀ t : Fin cfg0.N, win0_0.index t = ![0, 0] ∧ win0_1.index t = ![t.val / 6, 0, t.val % 6] ∧ win0_2.index t = ![t.val / 6, 0, t.val % 6]
    ∧ win0_3.index t = ![t.val / 6, 0, t.val % 6] := by
  decide +kernel

/-- The product of a number and its logistic function. -/
def silu (x : EReal) : EReal := x * Ideal.logistic x

/-- One grid point's result at an entry. -/
theorem part (v0 : Vec Ideal S16x2048 .f32) (v10 : Vec Ideal S1x2048x512 .f32) (v14 : Vec Ideal S1x1x512 .f32) (y : S1x16x512.Idx) :
    k0_pay1 (F := Ideal) v0 v10 v14 y = (∑ k : Fin 2048, silu (v0 (ix2 (y 1) k)) * v10 (ix3 0 k (y 2))) + v14 (ix3 0 0 (y 2)) := by
  unfold silu Ideal.logistic
  pointwise [k0_pay1]
  simp only [zero_sub]

/-- The reference's activation at an entry. -/
theorem ref_silu (x0 : (⟨Cert.Reference23Ideal.S16x2048, .f32⟩ : BufTy).Contents (Elt Ideal)) (i : Cert.Reference23Ideal.S16x2048.Idx) :
    val_main_v0 (F := Ideal) x0 i = silu (x0 i) := by
  unfold silu Ideal.logistic
  pointwise [val_main_v0_apply, val_main_call0_v5_apply, val_main_call0_v4_apply, val_main_call0_v3_apply, val_main_call0_cst_0_apply,
    val_main_call0_v2_apply, val_main_call0_cst_apply, val_main_call0_v1_apply, val_main_call0_v0_apply]

/-- The reference's result at an entry. -/
theorem ref (x0 : (⟨Cert.Reference23Ideal.S16x2048, .f32⟩ : BufTy).Contents (Elt Ideal)) (x1 : (⟨Cert.Reference23Ideal.S4x2048x3072, .f32⟩ : BufTy).Contents (Elt Ideal))
    (x2 : (⟨Cert.Reference23Ideal.S4x1x3072, .f32⟩ : BufTy).Contents (Elt Ideal)) (i : Cert.Reference23Ideal.S4x16x3072.Idx) :
    val_main_v4 (F := Ideal) x0 x1 x2 i = (∑ k : Fin 2048, silu (x0 (ix2 (i 1) k)) * x1 (ix3 (i 0) k (i 2))) + x2 (ix3 (i 0) 0 (i 2)) := by
  rw [val_main_v4_apply, val_main_v2_apply, val_main_v1_apply, val_main_v3_apply]
  refine congrArg₂ (fun p q : EReal => p + q) (Finset.sum_congr rfl fun k _ => ?_) (congrArg x2 ?_)
  · rw [ref_silu]
    refine (mul_comm _ _).trans (congrArg₂ (fun p q : EReal => silu p * q) (congrArg x0 ?_) (congrArg x1 ?_)) <;> blk_ext []
  · blk_ext []

/-- At the call's end its result array is the reference's. -/
theorem final : (dats m 0 c).arrAt 3 cfg0.N = val_main_v4 (F := Ideal) (m ((c.tc : Thread nD τ).loc main_arg0)) (m ((c.tc : Thread nD τ).loc main_arg1))
    (m ((c.tc : Thread nD τ).loc main_arg2)) := by
  refine (dats m 0 c).arrAt_eq_of_covers 3 _ (by decide +kernel) fun t hf y => ?_
  have ht : t.val < 24 := t.isLt
  have hy0 : (y 0).val < 1 := (y 0).isLt
  have hy : (y 1).val < 16 := (y 1).isLt
  have hy1 : (y 2).val < 512 := (y 2).isLt
  blk_simp
  rw [after0_3]
  frame_out
  have e : ((View.whole main_v0).slice (win0_3.rect t)).emb y
      = ix3 ⟨t.val / 6, by omega⟩ ⟨(y 1).val, by omega⟩ ⟨t.val % 6 * 512 + (y 2).val, by omega⟩ := by
    blk_ext [idx t]
  rw [e, part, ref]
  refine congrArg₂ (fun p q : EReal => p + q) (Finset.sum_congr rfl fun k _ => congrArg₂ (fun p q : EReal => silu p * q) ?_ ?_) ?_ <;>
    blk_ext [iblk, V, idx t]

end Cert.Kernel23Ideal.Mod

namespace Cert.Proof

open Idealize.ShloMosaic Idealize.ShloMosaic.TcCoe Idealize.SL.Sem
open Cert.Reference23Ideal.Read

/-- Over the extended reals the call and the reference end with equal modulations. -/
theorem algebraic23 : Cert.algebraic_Kernel23Ideal_Reference23Ideal (hKernel23Ideal := Cert.Kernel23Ideal.Gen.facts)
    (hReference23Ideal := Cert.Reference23Ideal.Gen.facts) := by
  intro m g m' g' _ harg
  refine ⟨fun c => val_main_v4 (F := Ideal) (m ((c.tc : Thread _ _).loc Cert.Kernel23Ideal.main_arg0)) (m ((c.tc : Thread _ _).loc Cert.Kernel23Ideal.main_arg1)) (m ((c.tc : Thread _ _).loc Cert.Kernel23Ideal.main_arg2)), ?_, ?_⟩
  · exact (θ_run Cert.Kernel23Ideal.defs _ _).mono (fun r h c => ⟨(h c).1.trans (Cert.Kernel23Ideal.Mod.final m c), (h c).2⟩)
      (Cert.Kernel23Ideal.Value.run_blocks (F := Ideal) m g)
  · refine (θ_run Cert.Reference23Ideal.defs _ _).mono (fun r h c => ?_) (Cert.Reference23Ideal.Value.run (F := Ideal) m' g')
    obtain ⟨a0, a1, a2⟩ := harg c
    exact ⟨(h c).1.trans ((val_main_v4_eq _ _ _).trans (by rw [a0, a1, a2])), (h c).2⟩

end Cert.Proof
-- ==== Proof.ModGrad.lean ====
/- The gradient of the modulation's weight: what the call leaves in its result array is the reference's array. -/
module

public import proofs.«01_k».proof.Defs
public import proofs.«01_k».proof.Proof.Gen.Kernel22Ideal.Value
public import proofs.«01_k».proof.Proof.Gen.Reference22Ideal.Read
public import proofs.«01_k».proof.Proof.Gen.Reference22Ideal.Run
public import Idealize.ShloMosaic.Lib.Pipeline.ValueKit

@[expose] public section

set_option maxRecDepth 16384

noncomputable section

namespace Cert.Kernel22Ideal.Mod

open Idealize.ShloMosaic Idealize.ShloMosaic.TcCoe Idealize.SL.Sem
open Cert.Kernel22Ideal.Gen
open Idealize.ShloMosaic.Pipeline (Dat)
open Cert.Reference22Ideal.Read

variable (m : (ℓ : Loc nD τ sig) → Buf (Elt Ideal) ℓ) (c : Dev nD)

/-- Which blocks grid point `t` reads and writes. -/
theorem idx : ∀ t : Fin cfg0.N, win0_0.index t = ![t.val / 6 % 4, 0] ∧ win0_1.index t = ![t.val / 24, 0, t.val % 6]
    ∧ win0_2.index t = ![t.val / 24, t.val / 6 % 4, t.val % 6] := by
  decide +kernel

/-- The product of a number and its logistic function. -/
def silu (x : EReal) : EReal := x * Ideal.logistic x

/-- The kernel's activation at an entry. -/
theorem part_silu (v0 : Vec Ideal S512x8 .f32) (y : S512x8.Idx) : k0_pay2 (F := Ideal) v0 y = silu (v0 y) := by
  unfold silu Ideal.logistic
  pointwise [k0_pay2]
  rw [zero_sub]

/-- One grid point's result at an entry: the sum over the eight examples. -/
theorem part (v0 : Vec Ideal S512x8 .f32) (v9 : Vec Ideal S1x8x512 .f32) (y : S1x512x512.Idx) :
    k0_pay1 (F := Ideal) (k0_pay2 v0) (k0_pay3 v9) (k0_pay4 v0 v9) (k0_pay5 v9) (k0_pay6 v0) y
      = ∑ k : Fin 8, silu (v0 (ix2 (y 1) k)) * v9 (ix3 0 k (y 2)) := by
  simp only [← part_silu]
  rw [Fin.sum_univ_eight]
  pointwise [k0_pay1, k0_pay3, k0_pay4, k0_pay5, k0_pay6]

/-- The reference's activation at an entry. -/
theorem ref_silu (x0 : (⟨Cert.Reference22Ideal.S2048x8, .f32⟩ : BufTy).Contents (Elt Ideal)) (i : Cert.Reference22Ideal.S8x2048.Idx) :
    val_main_v2 (F := Ideal) x0 i = silu (val_main_v1 (F := Ideal) x0 i) := by
  unfold silu Ideal.logistic
  pointwise [val_main_v2_apply, val_main_call0_v5_apply, val_main_call0_v4_apply, val_main_call0_v3_apply, val_main_call0_cst_0_apply,
    val_main_call0_v2_apply, val_main_call0_cst_apply, val_main_call0_v1_apply, val_main_call0_v0_apply]

/-- The reference's result at an entry. -/
theorem ref (x0 : (⟨Cert.Reference22Ideal.S2048x8, .f32⟩ : BufTy).Contents (Elt Ideal)) (x1 : (⟨Cert.Reference22Ideal.S4x8x3072, .f32⟩ : BufTy).Contents (Elt Ideal))
    (i : Cert.Reference22Ideal.S4x2048x3072.Idx) :
    val_main_v9 (F := Ideal) x0 x1 i = ∑ k : Fin 8, silu (x0 (ix2 (i 1) k)) * x1 (ix3 (i 0) k (i 2)) := by
  rw [val_main_v9_apply, val_main_v8_apply]
  refine Finset.sum_congr rfl fun k _ => ?_
  rw [ref_silu, val_main_v7_apply, val_main_v1_apply]
  refine (mul_comm _ _).trans (congrArg₂ (fun p q : EReal => silu p * q) (congrArg x0 ?_) (congrArg x1 ?_)) <;> blk_ext []

/-- At the call's end its result array is the reference's. -/
theorem final : (dats m 0 c).arrAt 2 cfg0.N = val_main_v9 (F := Ideal) (m ((c.tc : Thread nD τ).loc main_arg0)) (m ((c.tc : Thread nD τ).loc main_arg1)) := by
  refine (dats m 0 c).arrAt_eq_of_covers 2 _ (by decide +kernel) fun t hf y => ?_
  have ht : t.val < 96 := t.isLt
  have hy0 : (y 0).val < 1 := (y 0).isLt
  have hy : (y 1).val < 512 := (y 1).isLt
  have hy1 : (y 2).val < 512 := (y 2).isLt
  blk_simp
  rw [after0_2]
  frame_out
  have e : ((View.whole main_v0).slice (win0_2.rect t)).emb y
      = ix3 ⟨t.val / 24, by omega⟩ ⟨t.val / 6 % 4 * 512 + (y 1).val, by omega⟩ ⟨t.val % 6 * 512 + (y 2).val, by omega⟩ := by
    blk_ext [idx t]
  rw [e, part, ref]
  show @Eq EReal _ _
  refine Finset.sum_congr rfl fun k _ => congrArg₂ (fun p q : EReal => silu p * q) ?_ ?_ <;>
    blk_ext [iblk, V, idx t]

end Cert.Kernel22Ideal.Mod

namespace Cert.Proof

open Idealize.ShloMosaic Idealize.ShloMosaic.TcCoe Idealize.SL.Sem
open Cert.Reference22Ideal.Read

/-- Over the extended reals the call and the reference end with equal gradients of the modulation's weight. -/
theorem algebraic22 : Cert.algebraic_Kernel22Ideal_Reference22Ideal (hKernel22Ideal := Cert.Kernel22Ideal.Gen.facts)
    (hReference22Ideal := Cert.Reference22Ideal.Gen.facts) := by
  intro m g m' g' _ harg
  refine ⟨fun c => val_main_v9 (F := Ideal) (m ((c.tc : Thread _ _).loc Cert.Kernel22Ideal.main_arg0)) (m ((c.tc : Thread _ _).loc Cert.Kernel22Ideal.main_arg1)), ?_, ?_⟩
  · exact (θ_run Cert.Kernel22Ideal.defs _ _).mono (fun r h c => ⟨(h c).1.trans (Cert.Kernel22Ideal.Mod.final m c), (h c).2⟩)
      (Cert.Kernel22Ideal.Value.run_blocks (F := Ideal) m g)
  · refine (θ_run Cert.Reference22Ideal.defs _ _).mono (fun r h c => ?_) (Cert.Reference22Ideal.Value.run (F := Ideal) m' g')
    obtain ⟨a0, a1⟩ := harg c
    exact ⟨(h c).1.trans ((val_main_v9_eq _ _).trans (by rw [a0, a1])), (h c).2⟩

end Cert.Proof
-- ==== Proof.NormForward.lean ====
/- The normalisation with its scale and shift: what the call leaves in its result array is the reference's array. -/
module

public import proofs.«01_k».proof.Defs
public import proofs.«01_k».proof.Proof.Gen.Kernel24Ideal.Value
public import proofs.«01_k».proof.Proof.Gen.Reference24Ideal.Read
public import proofs.«01_k».proof.Proof.Gen.Reference24Ideal.Run
public import Idealize.ShloMosaic.Lib.Pipeline.ValueKit

@[expose] public section

set_option maxRecDepth 16384

noncomputable section

namespace Cert.Kernel24Ideal.Norm

open Idealize.ShloMosaic Idealize.ShloMosaic.TcCoe Idealize.SL.Sem
open Cert.Kernel24Ideal.Gen
open Idealize.ShloMosaic.Pipeline (Dat)
open Cert.Reference24Ideal.Read

variable (m : (ℓ : Loc nD τ sig) → Buf (Elt Ideal) ℓ) (c : Dev nD)

/-- Which blocks grid point `t` reads and writes. -/
theorem idx : ∀ t : Fin cfg0.N, win0_0.index t = ![t.val, 0] ∧ win0_1.index t = ![0, 0] ∧ win0_2.index t = ![0, 0]
    ∧ win0_3.index t = ![0, 0] ∧ win0_4.index t = ![t.val, 0] := by
  decide +kernel

/-- The normalised, scaled and shifted entry, of the entry, the sum of its row's squares, and the column's gain, scale and shift. -/
def norm (h s g scale shift : EReal) : EReal :=
  h * Ideal.rsqrt (Ideal.div s (FloatOps.ofBits (F := Ideal) .f32 0x45000000#32) + FloatOps.ofBits (F := Ideal) .f32 0x358637BD#32) * g
    * (FloatOps.ofBits (F := Ideal) .f32 0x3F800000#32 + scale) + shift

/-- One grid point's result at an entry. -/
theorem part (v0 : Vec Ideal S512x2048 .f32) (v1 v2 v3 : Vec Ideal S1x2048 .f32) (y : S512x2048.Idx) :
    k0_pay1 (F := Ideal) v0 v1 v2 v3 y
      = norm (v0 y) (∑ k : Fin 2048, v0 (ix2 (y 0) k) * v0 (ix2 (y 0) k)) (v1 (ix2 0 (y 1))) (v2 (ix2 0 (y 1))) (v3 (ix2 0 (y 1))) := by
  unfold norm
  pointwise [k0_pay1]

/-- The reference's result at an entry. -/
theorem ref (x0 : (⟨Cert.Reference24Ideal.S8192x2048, .f32⟩ : BufTy).Contents (Elt Ideal))
    (x1 x2 x3 : (⟨Cert.Reference24Ideal.S1x2048, .f32⟩ : BufTy).Contents (Elt Ideal)) (i : Cert.Reference24Ideal.S8192x2048.Idx) :
    val_main_v18 (F := Ideal) x0 x1 x2 x3 i
      = norm (x0 i) (∑ k : Fin 2048, x0 (ix2 (i 0) k) * x0 (ix2 (i 0) k)) (x1 (ix2 0 (i 1))) (x2 (ix2 0 (i 1))) (x3 (ix2 0 (i 1))) := by
  refine Eq.trans (b := norm (x0 i) (val_main_v2 (F := Ideal) x0 (idx_main_v8 i)) (val_main_v10 (F := Ideal) x1 i)
    (x2 (idx_main_v14 i)) (val_main_v16 (F := Ideal) x3 i)) ?_ ?_
  · rw [val_main_v18_apply, val_main_v17_apply, val_main_v15_apply, val_main_v11_apply, val_main_v9_apply, val_main_v8_apply, val_main_v7_apply,
      val_main_v6_apply, val_main_v5_apply, val_main_v4_apply, val_main_v3_apply, val_main_v14_apply, val_main_v13_apply, val_main_v12_apply]
    rfl
  · rw [val_main_v2_apply, val_main_v1_apply, val_main_v10_apply, val_main_v16_apply]
    refine congr (congr (congr (congr (congrArg norm rfl) ?_) ?_) ?_) ?_
    · refine (congrArg (fun z : EReal => z + _) (Ideal.ofBits_zero .f32)).trans ((zero_add _).trans (Finset.sum_congr rfl fun k _ => ?_))
      rw [val_main_v0_apply]
      refine congrArg₂ (fun p q : EReal => p * q) (congrArg x0 ?_) (congrArg x0 ?_) <;> blk_ext []
    · refine congrArg x1 ?_; blk_ext []
    · refine congrArg x2 ?_; blk_ext []
    · refine congrArg x3 ?_; blk_ext []

/-- At the call's end its result array is the reference's. -/
theorem final : (dats m 0 c).arrAt 4 cfg0.N = val_main_v18 (F := Ideal) (m ((c.tc : Thread nD τ).loc main_arg0)) (m ((c.tc : Thread nD τ).loc main_arg1))
    (m ((c.tc : Thread nD τ).loc main_arg2)) (m ((c.tc : Thread nD τ).loc main_arg3)) := by
  refine (dats m 0 c).arrAt_eq_of_covers 4 _ (by decide +kernel) fun t hf y => ?_
  have ht : t.val < 16 := t.isLt
  have hy : (y 0).val < 512 := (y 0).isLt
  have hy1 : (y 1).val < 2048 := (y 1).isLt
  blk_simp
  rw [after0_4]
  frame_out
  have e : ((View.whole main_v0).slice (win0_4.rect t)).emb y = ix2 ⟨t.val * 512 + (y 0).val, by omega⟩ ⟨(y 1).val, by omega⟩ := by
    blk_ext [idx t]
  rw [e, part, ref]
  refine congr (congr (congr (congr (congrArg norm ?_) ?_) ?_) ?_) ?_
  · blk_ext [iblk, V, idx t]
  · refine Finset.sum_congr rfl fun k _ => congrArg₂ (fun p q : EReal => p * q) ?_ ?_ <;> blk_ext [iblk, V, idx t]
  · blk_ext [iblk, V, idx t]
  · blk_ext [iblk, V, idx t]
  · blk_ext [iblk, V, idx t]

end Cert.Kernel24Ideal.Norm

namespace Cert.Proof

open Idealize.ShloMosaic Idealize.ShloMosaic.TcCoe Idealize.SL.Sem
open Cert.Reference24Ideal.Read

/-- Over the extended reals the call and the reference end with equal normalised arrays. -/
theorem algebraic24 : Cert.algebraic_Kernel24Ideal_Reference24Ideal (hKernel24Ideal := Cert.Kernel24Ideal.Gen.facts)
    (hReference24Ideal := Cert.Reference24Ideal.Gen.facts) := by
  intro m g m' g' _ harg
  refine ⟨fun c => val_main_v18 (F := Ideal) (m ((c.tc : Thread _ _).loc Cert.Kernel24Ideal.main_arg0)) (m ((c.tc : Thread _ _).loc Cert.Kernel24Ideal.main_arg1)) (m ((c.tc : Thread _ _).loc Cert.Kernel24Ideal.main_arg2)) (m ((c.tc : Thread _ _).loc Cert.Kernel24Ideal.main_arg3)), ?_, ?_⟩
  · exact (θ_run Cert.Kernel24Ideal.defs _ _).mono (fun r h c => ⟨(h c).1.trans (Cert.Kernel24Ideal.Norm.final m c), (h c).2⟩)
      (Cert.Kernel24Ideal.Value.run_blocks (F := Ideal) m g)
  · refine (θ_run Cert.Reference24Ideal.defs _ _).mono (fun r h c => ?_) (Cert.Reference24Ideal.Value.run (F := Ideal) m' g')
    obtain ⟨a0, a1, a2, a3⟩ := harg c
    exact ⟨(h c).1.trans ((val_main_v18_eq _ _ _ _).trans (by rw [a0, a1, a2, a3])), (h c).2⟩

end Cert.Proof
-- ==== Proof.NormReal.lean ====
/- The gradient of the normalisation's input: the call's form of it is the reference's, at every extended real. -/
module

public import proofs.«01_k».proof.Defs
public import Idealize.ShloMosaic.Lib.Pipeline.ValueKit

@[expose] public section

noncomputable section

namespace Cert.NormBack

open Idealize.ShloMosaic

theorem width_val : Ideal.ofBits .f32 0x45000000#32 = ((2048 : ℝ) : EReal) := by
  simp [Ideal.ofBits, Ideal.ieee, -EReal.coe_mul]
  norm_num

theorem half_val : Ideal.ofBits .f32 0xBF000000#32 = ((-(1 / 2) : ℝ) : EReal) := by
  simp [Ideal.ofBits, Ideal.ieee, -EReal.coe_mul]
  norm_num

theorem eps_pos : 0 < Ideal.ofBits .f32 0x358637BD#32 := by
  simp [Ideal.ofBits, Ideal.ieee, -EReal.coe_mul]
  try norm_num

/-- Division by the row's width is multiplication by a real. -/
theorem div_width (x : EReal) : Ideal.div x (Ideal.ofBits .f32 0x45000000#32) = x * (((2048 : ℝ)⁻¹ : ℝ) : EReal) := by
  rw [width_val]
  unfold Ideal.div
  rw [if_neg (by norm_num), EReal.coe_inv]

/-- A square is not negative. -/
theorem sq_nonneg (x : EReal) : 0 ≤ x * x := by
  induction x with
  | bot => simp
  | top => simp
  | coe r => rw [← EReal.coe_mul]; exact_mod_cast mul_self_nonneg r

/-- The mean of a row's squares, and the number added to it, is positive. -/
theorem mean_pos (n : ℕ) (f : Fin n → EReal) : 0 < Ideal.div (∑ k, f k * f k) (Ideal.ofBits .f32 0x45000000#32) + Ideal.ofBits .f32 0x358637BD#32 := by
  rw [div_width]
  have h : (0 : EReal) ≤ (∑ k, f k * f k) * (((2048 : ℝ)⁻¹ : ℝ) : EReal) :=
    mul_nonneg (Finset.sum_nonneg fun k _ => sq_nonneg _) (by exact_mod_cast (by norm_num : (0 : ℝ) ≤ (2048 : ℝ)⁻¹))
  exact lt_of_lt_of_le eps_pos (le_add_of_nonneg_left h)

/-- The reciprocal root of a positive number is zero or a positive real. -/
theorem root_cases (M : EReal) (h : 0 < M) : (Ideal.rsqrt M = 0 ∧ M = ⊤) ∨ ∃ m : ℝ, 0 < m ∧ M = (m : EReal) ∧ Ideal.rsqrt M = (((Real.sqrt m)⁻¹ : ℝ) : EReal) := by
  induction M with
  | bot => simp at h
  | top => exact Or.inl ⟨rfl, rfl⟩
  | coe m =>
    have hm : 0 < m := by exact_mod_cast h
    refine Or.inr ⟨m, hm, rfl, ?_⟩
    show (if m < 0 then (⊥ : EReal) else if m = 0 then ⊤ else (((Real.sqrt m)⁻¹ : ℝ) : EReal)) = _
    rw [if_neg (not_lt.mpr hm.le), if_neg hm.ne']

theorem root_nonneg (M : EReal) (h : 0 < M) : 0 ≤ Ideal.rsqrt M ∧ Ideal.rsqrt M ≠ ⊤ := by
  rcases root_cases M h with ⟨e, _⟩ | ⟨m, hm, _, e⟩
  · rw [e]; simp
  · rw [e]
    exact ⟨by exact_mod_cast inv_nonneg.mpr (Real.sqrt_nonneg m), EReal.coe_ne_top _⟩

/-- The reciprocal root is a factor of the row's sum. -/
theorem sum_root (M : EReal) (h : 0 < M) (n : ℕ) (f g : Fin n → EReal) :
    ∑ k, g k * (f k * Ideal.rsqrt M) = (∑ k, f k * g k) * Ideal.rsqrt M := by
  obtain ⟨h0, h1⟩ := root_nonneg M h
  have key : ∀ s : Finset (Fin n), ∑ k ∈ s, g k * (f k * Ideal.rsqrt M) = (∑ k ∈ s, f k * g k) * Ideal.rsqrt M := by
    intro s
    induction s using Finset.induction_on with
    | empty => simp
    | insert a s ha ih =>
      rw [Finset.sum_insert ha, Finset.sum_insert ha, ih, EReal.right_distrib_of_nonneg_of_ne_top h0 h1, ← mul_assoc, mul_comm (g a)]
  exact key _

/-- Twice a multiple. -/
theorem twice (c : ℝ) (x : EReal) : (c : EReal) * x + (c : EReal) * x = ((2 * c : ℝ) : EReal) * x := by
  have e : ((2 * c : ℝ) : EReal) * x = (1 + 1 : EReal) * ((c : EReal) * x) := by
    rw [EReal.coe_mul, mul_assoc]
    rw [show (2 : ℝ) = 1 + 1 by norm_num, EReal.coe_add, EReal.coe_one]
  rw [e, EReal.right_distrib_of_nonneg zero_le_one zero_le_one, one_mul]

/-- The input's gradient, less the part that passes by the normalisation. -/
theorem back_eq (M h d s : EReal) (hM : 0 < M) :
    Ideal.rsqrt M * (d - (h * Ideal.rsqrt M) * Ideal.div (s * Ideal.rsqrt M) (Ideal.ofBits .f32 0x45000000#32))
      = (d * Ideal.rsqrt M + h * Ideal.div (s * (Ideal.ofBits .f32 0xBF000000#32 * Ideal.div (Ideal.rsqrt M) M)) (Ideal.ofBits .f32 0x45000000#32))
        + Ideal.div (s * (Ideal.ofBits .f32 0xBF000000#32 * Ideal.div (Ideal.rsqrt M) M)) (Ideal.ofBits .f32 0x45000000#32) * h := by
  simp only [div_width, half_val]
  rcases root_cases M hM with ⟨e, eM⟩ | ⟨m, hm, eM, e⟩
  · rw [e, eM]
    simp [Ideal.div]
  · rw [e, eM]
    have hq : 0 < (Real.sqrt m)⁻¹ := inv_pos.mpr (Real.sqrt_pos.mpr hm)
    have hqq : (Real.sqrt m)⁻¹ * (Real.sqrt m)⁻¹ = m⁻¹ := by rw [← mul_inv, Real.mul_self_sqrt hm.le]
    generalize (Real.sqrt m)⁻¹ = q at hq hqq
    have e1 : Ideal.div (q : EReal) (m : EReal) = ((q * m⁻¹ : ℝ) : EReal) := by
      unfold Ideal.div
      rw [if_neg (by exact_mod_cast hm.ne'), EReal.coe_mul, EReal.coe_inv]
    rw [e1]
    have e2 : (h * (q : EReal)) * (s * (q : EReal) * (((2048 : ℝ)⁻¹ : ℝ) : EReal)) = ((q * q * 2048⁻¹ : ℝ) : EReal) * (h * s) := by
      rw [EReal.coe_mul, EReal.coe_mul]; ac_rfl
    have e3 : h * (s * ((((-(1 / 2) : ℝ)) : EReal) * ((q * m⁻¹ : ℝ) : EReal)) * (((2048 : ℝ)⁻¹ : ℝ) : EReal))
        = ((-(1 / 2) * (q * m⁻¹) * 2048⁻¹ : ℝ) : EReal) * (h * s) := by
      rw [EReal.coe_mul (-(1 / 2) * (q * m⁻¹)), EReal.coe_mul (-(1 / 2))]; ac_rfl
    have e4 : s * ((((-(1 / 2) : ℝ)) : EReal) * ((q * m⁻¹ : ℝ) : EReal)) * (((2048 : ℝ)⁻¹ : ℝ) : EReal) * h
        = ((-(1 / 2) * (q * m⁻¹) * 2048⁻¹ : ℝ) : EReal) * (h * s) := by
      rw [mul_comm _ h]; exact e3
    rw [e2, e3, e4, add_assoc, twice, sub_eq_add_neg, EReal.left_distrib_of_nonneg_of_ne_top (by exact_mod_cast hq.le) (EReal.coe_ne_top _), mul_comm (q : EReal) d]
    congr 1
    rw [← neg_mul, ← EReal.coe_neg, ← mul_assoc, ← EReal.coe_mul]
    congr 2
    rw [← hqq]
    ring

end Cert.NormBack
-- ==== Proof.NormBackward.lean ====
/- The gradients of the normalisation: one grid point's values. -/
module

public import proofs.«01_k».proof.Defs
public import proofs.«01_k».proof.Proof.NormReal
public import proofs.«01_k».proof.Proof.Gen.Kernel25Ideal.Value
public import Idealize.ShloMosaic.Lib.Pipeline.ValueKit

@[expose] public section

set_option maxRecDepth 16384

noncomputable section

namespace Cert.Kernel25Ideal.Norm

open Idealize.ShloMosaic Idealize.ShloMosaic.TcCoe Idealize.SL.Sem
open Cert.Kernel25Ideal.Gen
open Idealize.ShloMosaic.Pipeline (Dat)

variable (m : (ℓ : Loc nD τ sig) → Buf (Elt Ideal) ℓ) (c : Dev nD)

/-- Which blocks grid point `t` reads and writes. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![0, 0]
    ∧ win0_7.index t = ![t.val, 0] ∧ win0_8.index t = ![t.val, 0] ∧ win0_9.index t = ![0, 0] := by
  decide +kernel

/-- A row's mean square, and the number added to it, from the sum of its squares. -/
def mean (s : EReal) : EReal := Ideal.div s (Ideal.ofBits .f32 0x45000000#32) + Ideal.ofBits .f32 0x358637BD#32

/-- The gradient of the scaled entry. -/
def scaled (d scale : EReal) : EReal := d * (Ideal.ofBits .f32 0x3F800000#32 + scale)

/-- The reciprocal root of a row's mean square. -/
theorem part3 (v0 : Vec Ideal S256x2048 .f32) (y : S256x1.Idx) :
    k0_pay3 (F := Ideal) v0 y = Ideal.rsqrt (mean (∑ k : Fin 2048, v0 (ix2 (y 0) k) * v0 (ix2 (y 0) k))) := by
  unfold mean
  pointwise [k0_pay3]

/-- The normalised entry. -/
theorem part4 (v0 : Vec Ideal S256x2048 .f32) (y : S256x2048.Idx) :
    k0_pay4 (F := Ideal) v0 y = v0 y * Ideal.rsqrt (mean (∑ k : Fin 2048, v0 (ix2 (y 0) k) * v0 (ix2 (y 0) k))) := by
  unfold mean
  pointwise [k0_pay4, k0_pay3]

/-- The gradient of the entry before the shift and the scale. -/
theorem part5 (v1 : Vec Ideal S256x2048 .bf16) (v13 : Vec Ideal S1x2048 .f32) (y : S256x2048.Idx) :
    k0_pay5 (F := Ideal) v1 v13 y = scaled (v1 y) (v13 (ix2 0 (y 1))) := by
  unfold scaled
  pointwise [k0_pay5, k0_pay2]

/-- The gradient of the input, from the payloads before it. -/
theorem part6 (v0 : Vec Ideal S256x2048 .f32) (v1 : Vec Ideal S256x2048 .bf16) (v13 v18 : Vec Ideal S1x2048 .f32) (v21 : Vec Ideal S256x2048 .f32) (y : S256x2048.Idx) :
    k0_pay6 (F := Ideal) v0 v1 v13 v18 v21 y = v21 y + k0_pay3 (F := Ideal) v0 (ix2 (y 0) 0) * (k0_pay5 (F := Ideal) v1 v13 y * v18 (ix2 0 (y 1))
      - k0_pay4 (F := Ideal) v0 y * Ideal.div (∑ k : Fin 2048, k0_pay5 (F := Ideal) v1 v13 (ix2 (y 0) k) * v18 (ix2 0 k) * k0_pay4 (F := Ideal) v0 (ix2 (y 0) k))
        (Ideal.ofBits .f32 0x45000000#32)) := by
  pointwise [k0_pay6]

theorem part7 (v1 : Vec Ideal S256x2048 .bf16) (y : S1x2048.Idx) : k0_pay7 (F := Ideal) v1 y = ∑ r : Fin 256, v1 (ix2 r (y 1)) := by
  pointwise [k0_pay7, k0_pay2]

theorem part8 (v32 : FVec Ideal S256x2048 .f32) (v45 : Vec Ideal S1x2048 .f32) (y : S256x2048.Idx) :
    k0_pay8 (F := Ideal) v32 v45 y = v32 y * v45 (ix2 0 (y 1)) := by
  pointwise [k0_pay8]

theorem part9 (v32 : FVec Ideal S256x2048 .f32) (v50 : Vec Ideal S256x2048 .bf16) (y : S1x2048.Idx) :
    k0_pay9 (F := Ideal) v32 v50 y = ∑ r : Fin 256, v32 (ix2 r (y 1)) * v50 (ix2 r (y 1)) := by
  pointwise [k0_pay9]

theorem part10 (y : S8x2048.Idx) : k0_pay10 (F := Ideal) y = (0 : EReal) := by
  pointwise [k0_pay10]
  try exact Ideal.ofBits_zero .f32

theorem part1 (v54 : FVec Ideal S1x2048 .f32) (v70 : Vec Ideal S1x2048 .f32) (y : S1x2048.Idx) :
    k0_pay1 (F := Ideal) v54 v70 y = (v70 y + v54 y : EReal) := by
  unfold k0_pay1
  rw [shapeCast_self]
  rfl

theorem part11 (v35 : FVec Ideal S1x2048 .f32) (v58 : Vec Ideal S1x2048 .f32) (y : S1x2048.Idx) :
    k0_pay11 (F := Ideal) v35 v58 y = (v58 y + v35 y : EReal) := by
  unfold k0_pay11
  rw [shapeCast_self]
  rfl

theorem part12 (v2 v12 : FVec Ideal S256x2048 .f32) (v36 : Vec Ideal S1x2048 .f32) (v62 : Vec Ideal S1x2048 .f32) (y : S1x2048.Idx) :
    k0_pay12 (F := Ideal) v2 v12 v36 v62 y = (v62 y + ∑ r : Fin 256, v2 (ix2 r (y 1)) * (v12 (ix2 r (y 1)) * v36 (ix2 0 (y 1))) : EReal) := by
  unfold k0_pay12
  rw [shapeCast_self]
  pointwise

theorem part13 (v12 v17 : FVec Ideal S256x2048 .f32) (v66 : Vec Ideal S1x2048 .f32) (y : S1x2048.Idx) :
    k0_pay13 (F := Ideal) v12 v17 v66 y = (v66 y + ∑ r : Fin 256, v17 (ix2 r (y 1)) * v12 (ix2 r (y 1)) : EReal) := by
  unfold k0_pay13
  rw [shapeCast_self]
  pointwise

end Cert.Kernel25Ideal.Norm
-- ==== Proof.NormSums.lean ====
/- The gradients of the normalisation's parameters: what the call's third result holds from one grid point to the next. -/
module

public import proofs.«01_k».proof.Proof.NormBackward
public import Idealize.ShloMosaic.Lib.Pipeline.ReadBack
public import Idealize.ShloMosaic.Lib.Writes

@[expose] public section

set_option maxRecDepth 16384

noncomputable section

namespace Cert.Kernel25Ideal.Norm

open Idealize.ShloMosaic Idealize.ShloMosaic.TcCoe Idealize.SL.Sem
open Cert.Kernel25Ideal.Gen
open Idealize.ShloMosaic.Pipeline (Dat)

variable (m : (ℓ : Loc nD τ sig) → Buf (Elt Ideal) ℓ) (c : Dev nD)

/-- A row's rectangle holds the row. -/
theorem row_emb (k : ℕ) (inb : ∀ a, (![k, 0] : Fin 2 → ℕ) a + (![1, 2048] : Fin 2 → ℕ) a ≤ S8x2048.size a) (y : S8x2048.Idx) (h : (y 0).val = k) :
    (Rect.unit (s := S8x2048) ![k, 0] ![1, 2048] inb).emb (ix2 0 (y 1)) = y := by
  funext a
  refine Fin.ext ?_
  rw [Rect.emb_apply]
  fin_cases a
  · show k + 1 * 0 = (y 0).val
    omega
  · show 0 + 1 * (y 1).val = (y 1).val
    omega

/-- And no other. -/
theorem row_miss (k : ℕ) (inb : ∀ a, (![k, 0] : Fin 2 → ℕ) a + (![1, 2048] : Fin 2 → ℕ) a ≤ S8x2048.size a) (y : S8x2048.Idx) (h : (y 0).val ≠ k) :
    y ∉ (Rect.unit (s := S8x2048) ![k, 0] ![1, 2048] inb).set := by
  intro hm
  have hm' := (Rect.mem_set_unit (inb := inb)).mp hm 0
  have a1 : k ≤ (y 0).val := hm'.1
  have a2 : (y 0).val < k + 1 := hm'.2
  omega

/-- One row stored over fresh contents. -/
theorem fresh (k : ℕ) (inb : ∀ a, (![k, 0] : Fin 2 → ℕ) a + (![1, 2048] : Fin 2 → ℕ) a ≤ S8x2048.size a)
    (w : (Rect.unit (s := S8x2048) ![k, 0] ![1, 2048] inb).shape.Idx → EReal) (L : List (View.Piece (Elt Ideal) S8x2048 .f32)) (y : S8x2048.Idx) :
    View.canon (Val := Elt Ideal) (⟨Rect.unit (s := S8x2048) ![k, 0] ![1, 2048] inb, w⟩ :: L) y
      = if (y 0).val = k then w (ix2 0 (y 1)) else View.canon L y := by
  by_cases h : (y 0).val = k
  · rw [if_pos h]
    have q := View.canon_cons_emb (Val := Elt Ideal) (Rect.unit (s := S8x2048) ![k, 0] ![1, 2048] inb) w L (ix2 0 (y 1))
    rw [row_emb k inb y h] at q
    exact q
  · rw [if_neg h]
    exact View.canon_cons_of_not_mem _ _ (row_miss k inb y h)

/-- One row stored over earlier contents. -/
theorem over {κ : Kind} {sp : Space} (v : View sig κ sp S8x2048 .f32) (f : v.ty.Contents (Elt Ideal)) (k : ℕ)
    (inb : ∀ a, (![k, 0] : Fin 2 → ℕ) a + (![1, 2048] : Fin 2 → ℕ) a ≤ S8x2048.size a)
    (w : (Rect.unit (s := S8x2048) ![k, 0] ![1, 2048] inb).shape.Idx → EReal) (L : List (View.Piece (Elt Ideal) S8x2048 .f32)) (y : S8x2048.Idx) :
    v.read (Elt Ideal) (v.writes (Elt Ideal) f (⟨Rect.unit (s := S8x2048) ![k, 0] ![1, 2048] inb, w⟩ :: L)) y
      = if (y 0).val = k then w (ix2 0 (y 1)) else v.read (Elt Ideal) (v.writes (Elt Ideal) f L) y := by
  by_cases h : (y 0).val = k
  · rw [if_pos h]
    exact View.read_writes_cons_hit v f _ w L (ix2 0 (y 1)) y (row_emb k inb y h)
  · rw [if_neg h]
    exact View.read_writes_cons_miss v f _ L y (row_miss k inb y h)

/-- A row of the contents, loaded. -/
theorem loaded (X : S8x2048.Idx → EReal) (k : ℕ) (inb : ∀ a, (![k, 0] : Fin 2 → ℕ) a + (![1, 2048] : Fin 2 → ℕ) a ≤ S8x2048.size a) (y : S8x2048.Idx) (h : (y 0).val = k) :
    View.ld (Val := Elt Ideal) (e' := .f32) X (Rect.unit (s := S8x2048) ![k, 0] ![1, 2048] inb) (ix2 0 (y 1)) = X y :=
  congrArg X (row_emb k inb y h)

/-- What one grid point adds to the four rows of sums. -/
def added (t : Fin cfg0.N) (y : S8x2048.Idx) : EReal :=
  if (y 0).val = 3 then k0_pay9 (F := Ideal) (k0_pay6 (iblk m c 0 t) (iblk m c 3 t) (iblk m c 2 t) (iblk m c 1 t) (iblk m c 4 t)) (iblk m c 5 t) (ix2 0 (y 1))
  else if (y 0).val = 2 then ∑ r : Fin 256, k0_pay5 (F := Ideal) (iblk m c 3 t) (iblk m c 2 t) (ix2 r (y 1)) * k0_pay4 (F := Ideal) (iblk m c 0 t) (ix2 r (y 1))
  else if (y 0).val = 1 then ∑ r : Fin 256, k0_pay2 (F := Ideal) (iblk m c 3 t) (ix2 r (y 1)) * (k0_pay4 (F := Ideal) (iblk m c 0 t) (ix2 r (y 1)) * (iblk m c 1 t) (ix2 0 (y 1)))
  else if (y 0).val = 0 then k0_pay7 (F := Ideal) (iblk m c 3 t) (ix2 0 (y 1))
  else 0

/-- The first grid point starts from zeros. -/
theorem first (t : Fin cfg0.N) (h : t.val % 32 = 0) (y : S8x2048.Idx) : (outsAt0 m c t.val t.isLt).2.2 y = (0 + added m c t y : EReal) := by
  rw [outsAt0_A m c t h]
  frame_out
  simp (discharger := decide) only [↓View.readCov_skip, ↓View.readCov_fill]
  rw [fresh 3, fresh 2, fresh 1, fresh 0]
  unfold added
  by_cases h3 : (y 0).val = 3
  · rw [if_pos h3, if_pos h3, part1, loaded _ 3 _ y h3, part10]
  rw [if_neg h3, if_neg h3]
  by_cases h2 : (y 0).val = 2
  · rw [if_pos h2, if_pos h2, part13, loaded _ 2 _ y h2, part10]
    rfl
  rw [if_neg h2, if_neg h2]
  by_cases h1 : (y 0).val = 1
  · rw [if_pos h1, if_pos h1, part12, loaded _ 1 _ y h1, part10]
    rfl
  rw [if_neg h1, if_neg h1]
  by_cases h0 : (y 0).val = 0
  · rw [if_pos h0, if_pos h0, part11, loaded _ 0 _ y h0, part10]
  rw [if_neg h0, if_neg h0, add_zero]
  exact (congrFun (View.canon_cons_unit_lit (S := S8x2048) inb_S8x2048_S8x2048_0_0 _ [] (by decide)) y).trans (part10 y)

/-- A later one adds to what the point before it left. -/
theorem next (t : Fin cfg0.N) (h : ¬ t.val % 32 = 0) (y : S8x2048.Idx) : (outsAt0 m c t.val t.isLt).2.2 y
    = ((outsAt0 m c (t.val - 1) (Nat.lt_of_le_of_lt (Nat.sub_le _ _) t.isLt)).2.2 y + added m c t y : EReal) := by
  rw [outsAt0_B m c t h]
  frame_out
  rw [over _ _ 3, over _ _ 2, over _ _ 1, over _ _ 0]
  unfold added
  by_cases h3 : (y 0).val = 3
  · rw [if_pos h3, if_pos h3, part1, loaded _ 3 _ y h3]
  rw [if_neg h3, if_neg h3]
  by_cases h2 : (y 0).val = 2
  · rw [if_pos h2, if_pos h2, part13, loaded _ 2 _ y h2]
    rfl
  rw [if_neg h2, if_neg h2]
  by_cases h1 : (y 0).val = 1
  · rw [if_pos h1, if_pos h1, part12, loaded _ 1 _ y h1]
    rfl
  rw [if_neg h1, if_neg h1]
  by_cases h0 : (y 0).val = 0
  · rw [if_pos h0, if_pos h0, part11, loaded _ 0 _ y h0]
  rw [if_neg h0, if_neg h0, add_zero, View.writes_nil]
  exact congrFun (Memref.IsWhole.read_unread _ _) y

/-- What the last grid point leaves: the sums over all grid points. -/
theorem sums (t : Fin cfg0.N) (hf : (cfg0.win 9).flush t = true) (y : S8x2048.Idx) :
    (dats m 0 c).after 9 t y = ∑ s : Fin 32, added m c ⟨32 * (t.val / 32) + s.val, Pipeline.run_point_lt_of_flush t ((flush0_9 t).mp hf) s⟩ y := by
  rw [after0_9, Pipeline.eq_sum_fin_of_reset_step_apply_of_flush (fun n h => (outsAt0 m c n h).2.2) 32 (fun _ => (0 : EReal))
    (fun t j => added m c t j)
    (fun t h j => first m c t (by omega) j)
    (fun t h j => next m c t (by omega) j) t ((flush0_9 t).mp hf) y, zero_add]

end Cert.Kernel25Ideal.Norm
-- ==== Proof.NormBackRef.lean ====
/- The gradients of the normalisation: the reference's entries. -/
module

public import proofs.«01_k».proof.Proof.NormSums
public import proofs.«01_k».proof.Proof.Gen.Reference25Ideal.Read
public import proofs.«01_k».proof.Proof.Gen.Reference25Ideal.Run

@[expose] public section

set_option maxRecDepth 16384

noncomputable section

namespace Cert.Kernel25Ideal.Norm

open Idealize.ShloMosaic Idealize.ShloMosaic.TcCoe Idealize.SL.Sem
open Cert.Reference25Ideal.Read
open Cert.Reference25Ideal (S8192x2048 S8192x1 S1x2048 S8x2048)
open Cert.NormBack

variable (x0 x4 : (⟨S8192x2048, .f32⟩ : BufTy).Contents (Elt Ideal)) (x1 x2 x6 : (⟨S1x2048, .f32⟩ : BufTy).Contents (Elt Ideal))
  (x3 x5 : (⟨S8192x2048, .bf16⟩ : BufTy).Contents (Elt Ideal))

/-- The mean square of row `n`, with the small number added. -/
def square (n : Fin 8192) : EReal := mean (∑ k : Fin 2048, x0 (ix2 n k) * x0 (ix2 n k))

/-- The gradient of the scaled and weighted entry. -/
def inner (n : Fin 8192) (j : Fin 2048) : EReal := scaled (x3 (ix2 n j)) (x2 (ix2 0 j))

/-- The gradient of the normalisation's input, with the stream's own added: as the kernel computes it. -/
def grad (n : Fin 8192) (j : Fin 2048) : EReal :=
  x4 (ix2 n j) + Ideal.rsqrt (square x0 n) * (inner x2 x3 n j * x1 (ix2 0 j) - x0 (ix2 n j) * Ideal.rsqrt (square x0 n)
    * Ideal.div (∑ k : Fin 2048, inner x2 x3 n k * x1 (ix2 0 k) * (x0 (ix2 n k) * Ideal.rsqrt (square x0 n))) (Ideal.ofBits .f32 0x45000000#32))

/-- The sums over all rows, one for each of the four parameters. -/
def total (i : S8x2048.Idx) : EReal :=
  if (i 0).val = 3 then ∑ n : Fin 8192, grad x0 x4 x1 x2 x3 n (i 1) * x5 (ix2 n (i 1))
  else if (i 0).val = 2 then ∑ n : Fin 8192, inner x2 x3 n (i 1) * (x0 (ix2 n (i 1)) * Ideal.rsqrt (square x0 n))
  else if (i 0).val = 1 then ∑ n : Fin 8192, x3 (ix2 n (i 1)) * (x0 (ix2 n (i 1)) * Ideal.rsqrt (square x0 n) * x1 (ix2 0 (i 1)))
  else if (i 0).val = 0 then ∑ n : Fin 8192, x3 (ix2 n (i 1))
  else 0

/-- A sum from a zero is the sum. -/
theorem from_zero (s z : EReal) (h : s = z) : Ideal.ofBits .f32 0x00000000#32 + s = z := by
  rw [Ideal.ofBits_zero, zero_add, h]

theorem ref7 (i : S8192x1.Idx) : val_main_v7 (F := Ideal) x0 i = square x0 (i 0) := by
  unfold square mean
  rw [val_main_v7_apply, val_main_v5_apply, val_main_v6_apply, val_main_v4_apply, val_main_v3_apply, val_main_v2_apply]
  show @Eq EReal _ _
  refine congrArg₂ (fun p q : EReal => Ideal.div p q + Ideal.ofBits .f32 0x358637BD#32) (from_zero _ _ (Finset.sum_congr rfl fun k _ => ?_)) rfl
  rw [val_main_v1_apply]
  refine congrArg₂ (fun p q : EReal => p * q) (congrArg x0 ?_) (congrArg x0 ?_) <;> blk_ext []

theorem ref8 (i : S8192x1.Idx) : val_main_v8 (F := Ideal) x0 i = Ideal.rsqrt (square x0 (i 0)) := by
  rw [val_main_v8_apply, ref7]
  rfl

theorem ref13 (i : S8192x2048.Idx) : val_main_v13 (F := Ideal) x0 i = x0 i * Ideal.rsqrt (square x0 (i 0)) := by
  rw [val_main_v13_apply, val_main_v12_apply, ref8]
  rfl

theorem ref29 (i : S8192x2048.Idx) : val_main_v29 (F := Ideal) x2 x3 i = inner x2 x3 (i 0) (i 1) := by
  unfold inner scaled
  rw [val_main_v29_apply, val_main_v28_apply, val_main_v22_apply, val_main_v17_apply, val_main_v16_apply]
  show @Eq EReal _ _
  refine congrArg₂ (fun p q : EReal => p * (Ideal.ofBits .f32 0x3F800000#32 + q)) (congrArg x3 ?_) (congrArg x2 ?_) <;> blk_ext []

theorem ref34 (i : S8192x2048.Idx) : val_main_v34 (F := Ideal) x1 x2 x3 i = inner x2 x3 (i 0) (i 1) * x1 (ix2 0 (i 1)) := by
  rw [val_main_v34_apply, ref29, val_main_v33_apply]
  refine congrArg₂ (fun p q : EReal => p * q) rfl (congrArg x1 ?_)
  blk_ext []

theorem ref36 (i : Cert.Reference25Ideal.S8192.Idx) : val_main_v36 (F := Ideal) x0 x1 x2 x3 i
    = ∑ k : Fin 2048, x0 (ix2 (i 0) k) * (inner x2 x3 (i 0) k * x1 (ix2 0 k)) := by
  rw [val_main_v36_apply]
  refine from_zero _ _ (Finset.sum_congr rfl fun k _ => ?_)
  rw [val_main_v35_apply, ref34]
  refine congrArg₂ (fun p q : EReal => p * q) (congrArg x0 ?_) rfl
  blk_ext []

theorem ref44 (i : S8192x2048.Idx) : val_main_v44 (F := Ideal) x0 x1 x2 x3 i
    = Ideal.div ((∑ k : Fin 2048, x0 (ix2 (i 0) k) * (inner x2 x3 (i 0) k * x1 (ix2 0 k))) * (Ideal.ofBits .f32 0xBF000000#32
      * Ideal.div (Ideal.rsqrt (square x0 (i 0))) (square x0 (i 0)))) (Ideal.ofBits .f32 0x45000000#32) := by
  rw [val_main_v44_apply, val_main_v43_apply, Fin.sum_univ_one, val_main_v42_apply, val_main_v41_apply, val_main_v40_apply, val_main_v37_apply,
    val_main_v11_apply, val_main_v10_apply, val_main_v9_apply, ref8, ref7]
  have e : (idx_main_v37 (idx_main_v43 (idx_main_v44 i) 0)) 0 = (i 0 : Fin 8192) := by
    refine Fin.ext ?_
    show (i 0).val * 1 + 0 = (i 0).val
    omega
  rw [ref36]
  show @Eq EReal (Ideal.ofBits .f32 0x00000000#32 + Ideal.div ((∑ k : Fin 2048, x0 (ix2 ((idx_main_v37 (idx_main_v43 (idx_main_v44 i) 0)) 0) k)
    * (inner x2 x3 ((idx_main_v37 (idx_main_v43 (idx_main_v44 i) 0)) 0) k * x1 (ix2 0 k))) * (Ideal.ofBits .f32 0xBF000000#32
      * Ideal.div (Ideal.rsqrt (square x0 (i 0))) (square x0 (i 0)))) (Ideal.ofBits .f32 0x45000000#32)) _
  rw [e]
  exact from_zero _ _ rfl

/-- The kernel's sum along the row, with the root taken out of it. -/
theorem grad_eq (n : Fin 8192) (j : Fin 2048) : grad x0 x4 x1 x2 x3 n j
    = x4 (ix2 n j) + Ideal.rsqrt (square x0 n) * (inner x2 x3 n j * x1 (ix2 0 j) - x0 (ix2 n j) * Ideal.rsqrt (square x0 n)
      * Ideal.div ((∑ k : Fin 2048, x0 (ix2 n k) * (inner x2 x3 n k * x1 (ix2 0 k))) * Ideal.rsqrt (square x0 n)) (Ideal.ofBits .f32 0x45000000#32)) :=
  congrArg (fun q : EReal => x4 (ix2 n j) + Ideal.rsqrt (square x0 n) * (inner x2 x3 n j * x1 (ix2 0 j) - x0 (ix2 n j) * Ideal.rsqrt (square x0 n)
    * Ideal.div q (Ideal.ofBits .f32 0x45000000#32)))
    (sum_root (square x0 n) (mean_pos 2048 fun k => x0 (ix2 n k)) 2048 (fun k => x0 (ix2 n k)) fun k => inner x2 x3 n k * x1 (ix2 0 k))

/-- The reference's gradient of the input is the kernel's. -/
theorem ref49 (n : Fin 8192) (j : Fin 2048) : val_main_v49 (F := Ideal) x0 x1 x2 x3 x4 (ix2 n j) = grad x0 x4 x1 x2 x3 n j := by
  refine Eq.trans ?_ ((congrArg (fun q : EReal => x4 (ix2 n j) + q) (back_eq (square x0 n) (x0 (ix2 n j)) (inner x2 x3 n j * x1 (ix2 0 j))
    (∑ k : Fin 2048, x0 (ix2 n k) * (inner x2 x3 n k * x1 (ix2 0 k))) (mean_pos 2048 fun k => x0 (ix2 n k)))).symm.trans (grad_eq x0 x4 x1 x2 x3 n j).symm)
  rw [val_main_v49_apply, val_main_v48_apply, val_main_v46_apply, val_main_v39_apply, val_main_v38_apply, val_main_v45_apply, val_main_v47_apply, ref44, ref34, ref8]
  rfl

/-- The gradient of the branch's result. -/
theorem ref58 (n : Fin 8192) (j : Fin 2048) : val_main_v58 (F := Ideal) x0 x1 x2 x3 x4 x6 (ix2 n j) = grad x0 x4 x1 x2 x3 n j * x6 (ix2 0 j) := by
  rw [val_main_v58_apply, val_main_v54_apply, ref49, val_main_v53_apply]
  refine (mul_comm _ _).trans (congrArg₂ (fun p q : EReal => p * q) rfl (congrArg x6 ?_))
  blk_ext []

theorem ref24 (i : S1x2048.Idx) : val_main_v24 (F := Ideal) x3 i = ∑ n : Fin 8192, x3 (ix2 n (i 1)) := by
  rw [val_main_v24_apply, val_main_v23_apply]
  refine from_zero _ _ (Finset.sum_congr rfl fun n _ => ?_)
  rw [val_main_v22_apply]
  refine congrArg x3 ?_
  blk_ext []

theorem ref27 (i : S1x2048.Idx) : val_main_v27 (F := Ideal) x0 x1 x3 i
    = ∑ n : Fin 8192, x3 (ix2 n (i 1)) * (x0 (ix2 n (i 1)) * Ideal.rsqrt (square x0 n) * x1 (ix2 0 (i 1))) := by
  rw [val_main_v27_apply, val_main_v26_apply]
  refine from_zero _ _ (Finset.sum_congr rfl fun n _ => ?_)
  rw [val_main_v25_apply, val_main_v15_apply, ref13, val_main_v14_apply, val_main_v22_apply]
  refine (mul_comm _ _).trans (congrArg₂ (fun p q : EReal => p * q) (congrArg x3 ?_) (congrArg₂ (fun p q : EReal => p * Ideal.rsqrt (square x0 n) * q) (congrArg x0 ?_) (congrArg x1 ?_))) <;> blk_ext []

theorem ref32 (i : S1x2048.Idx) : val_main_v32 (F := Ideal) x0 x2 x3 i
    = ∑ n : Fin 8192, inner x2 x3 n (i 1) * (x0 (ix2 n (i 1)) * Ideal.rsqrt (square x0 n)) := by
  rw [val_main_v32_apply, val_main_v31_apply]
  refine from_zero _ _ (Finset.sum_congr rfl fun n _ => ?_)
  have e : idx_main_v31 (idx_main_v32 i) n = (ix2 n (i 1) : S8192x2048.Idx) := by blk_ext []
  rw [e, val_main_v30_apply, ref13, ref29]
  exact mul_comm _ _

theorem ref57 (i : S1x2048.Idx) : val_main_v57 (F := Ideal) x0 x1 x2 x3 x4 x5 i
    = ∑ n : Fin 8192, grad x0 x4 x1 x2 x3 n (i 1) * x5 (ix2 n (i 1)) := by
  rw [val_main_v57_apply, val_main_v56_apply]
  refine from_zero _ _ (Finset.sum_congr rfl fun n _ => ?_)
  have e : idx_main_v56 (idx_main_v57 i) n = (ix2 n (i 1) : S8192x2048.Idx) := by blk_ext []
  rw [e, val_main_v55_apply]
  exact congrArg (fun p : EReal => p * x5 (ix2 n (i 1))) (ref49 x0 x4 x1 x2 x3 n (i 1))

theorem total0 (i : S8x2048.Idx) (h : (i 0).val = 0) : total x0 x4 x1 x2 x3 x5 i = ∑ n : Fin 8192, x3 (ix2 n (i 1)) := by
  unfold total
  rw [if_neg (by omega), if_neg (by omega), if_neg (by omega), if_pos h]

theorem total1 (i : S8x2048.Idx) (h : (i 0).val = 1) : total x0 x4 x1 x2 x3 x5 i
    = ∑ n : Fin 8192, x3 (ix2 n (i 1)) * (x0 (ix2 n (i 1)) * Ideal.rsqrt (square x0 n) * x1 (ix2 0 (i 1))) := by
  unfold total
  rw [if_neg (by omega), if_neg (by omega), if_pos h]

theorem total2 (i : S8x2048.Idx) (h : (i 0).val = 2) : total x0 x4 x1 x2 x3 x5 i
    = ∑ n : Fin 8192, inner x2 x3 n (i 1) * (x0 (ix2 n (i 1)) * Ideal.rsqrt (square x0 n)) := by
  unfold total
  rw [if_neg (by omega), if_pos h]

theorem total3 (i : S8x2048.Idx) (h : (i 0).val = 3) : total x0 x4 x1 x2 x3 x5 i
    = ∑ n : Fin 8192, grad x0 x4 x1 x2 x3 n (i 1) * x5 (ix2 n (i 1)) := by
  unfold total
  rw [if_pos h]

theorem total4 (i : S8x2048.Idx) (h : 3 < (i 0).val) : total x0 x4 x1 x2 x3 x5 i = 0 := by
  unfold total
  rw [if_neg (by omega), if_neg (by omega), if_neg (by omega), if_neg (by omega)]

/-- The reference's stacked sums. -/
theorem ref60 (i : S8x2048.Idx) : val_main_v60 (F := Ideal) x0 x1 x2 x3 x4 x5 i = total x0 x4 x1 x2 x3 x5 i := by
  have hi : (i 0).val < 8 := (i 0).isLt
  unfold val_main_v60
  pointwise
  by_cases h0 : (i 0).val = 0
  · rw [dif_pos (by omega), total0 _ _ _ _ _ _ i h0]
    exact ref24 _ _
  rw [dif_neg (by omega)]
  by_cases h1 : (i 0).val = 1
  · rw [dif_pos (by omega), total1 _ _ _ _ _ _ i h1]
    exact ref27 _ _ _ _
  rw [dif_neg (by omega)]
  by_cases h2 : (i 0).val = 2
  · rw [dif_pos (by omega), total2 _ _ _ _ _ _ i h2]
    exact ref32 _ _ _ _
  rw [dif_neg (by omega)]
  by_cases h3 : (i 0).val = 3
  · rw [dif_pos (by omega), total3 _ _ _ _ _ _ i h3]
    exact ref57 _ _ _ _ _ _ _
  rw [dif_neg (by omega), total4 _ _ _ _ _ _ i (by omega), val_main_v59_apply]
  exact Ideal.ofBits_zero .f32

end Cert.Kernel25Ideal.Norm
-- ==== Proof.NormEqual.lean ====
/- The gradients of the normalisation: what the call leaves in its three result arrays is the reference's. -/
module

public import proofs.«01_k».proof.Proof.NormBackRef

@[expose] public section

set_option maxRecDepth 16384

noncomputable section

namespace Cert.Kernel25Ideal.Norm

open Idealize.ShloMosaic Idealize.ShloMosaic.TcCoe Idealize.SL.Sem
open Cert.Kernel25Ideal.Gen
open Idealize.ShloMosaic.Pipeline (Dat)
open Cert.Reference25Ideal.Read

variable (m : (ℓ : Loc nD τ sig) → Buf (Elt Ideal) ℓ) (c : Dev nD)

/-- The argument arrays. -/
abbrev a0 : (⟨Cert.Reference25Ideal.S8192x2048, .f32⟩ : BufTy).Contents (Elt Ideal) := m ((c.tc : Thread nD τ).loc main_arg0)
abbrev a1 : (⟨Cert.Reference25Ideal.S1x2048, .f32⟩ : BufTy).Contents (Elt Ideal) := m ((c.tc : Thread nD τ).loc main_arg1)
abbrev a2 : (⟨Cert.Reference25Ideal.S1x2048, .f32⟩ : BufTy).Contents (Elt Ideal) := m ((c.tc : Thread nD τ).loc main_arg2)
abbrev a3 : (⟨Cert.Reference25Ideal.S8192x2048, .bf16⟩ : BufTy).Contents (Elt Ideal) := m ((c.tc : Thread nD τ).loc main_arg3)
abbrev a4 : (⟨Cert.Reference25Ideal.S8192x2048, .f32⟩ : BufTy).Contents (Elt Ideal) := m ((c.tc : Thread nD τ).loc main_arg4)
abbrev a5 : (⟨Cert.Reference25Ideal.S8192x2048, .bf16⟩ : BufTy).Contents (Elt Ideal) := m ((c.tc : Thread nD τ).loc main_arg5)
abbrev a6 : (⟨Cert.Reference25Ideal.S1x2048, .f32⟩ : BufTy).Contents (Elt Ideal) := m ((c.tc : Thread nD τ).loc main_arg6)

/-- The array's row that is row `r` of grid point `t`'s block. -/
def row (t : Fin cfg0.N) (r : Fin 256) : Fin 8192 := ⟨t.val * 256 + r.val, by have h : t.val < 32 := t.isLt; omega⟩

theorem block0 (t : Fin cfg0.N) (r : Fin 256) (j : Fin 2048) : iblk m c 0 t (ix2 r j) = a0 m c (ix2 (row t r) j) := by
  blk_ext [iblk, V, idx t, row]

theorem block1 (t : Fin cfg0.N) (j : Fin 2048) : iblk m c 1 t (ix2 0 j) = a1 m c (ix2 0 j) := by
  blk_ext [iblk, V, idx t]

theorem block2 (t : Fin cfg0.N) (j : Fin 2048) : iblk m c 2 t (ix2 0 j) = a2 m c (ix2 0 j) := by
  blk_ext [iblk, V, idx t]

theorem block3 (t : Fin cfg0.N) (r : Fin 256) (j : Fin 2048) : iblk m c 3 t (ix2 r j) = a3 m c (ix2 (row t r) j) := by
  blk_ext [iblk, V, idx t, row]

theorem block4 (t : Fin cfg0.N) (r : Fin 256) (j : Fin 2048) : iblk m c 4 t (ix2 r j) = a4 m c (ix2 (row t r) j) := by
  blk_ext [iblk, V, idx t, row]

theorem block5 (t : Fin cfg0.N) (r : Fin 256) (j : Fin 2048) : iblk m c 5 t (ix2 r j) = a5 m c (ix2 (row t r) j) := by
  blk_ext [iblk, V, idx t, row]

theorem block6 (t : Fin cfg0.N) (j : Fin 2048) : iblk m c 6 t (ix2 0 j) = a6 m c (ix2 0 j) := by
  blk_ext [iblk, V, idx t]

/-- A grid point's values, from the whole arrays. -/
theorem val3 (t : Fin cfg0.N) (r : Fin 256) : k0_pay3 (F := Ideal) (iblk m c 0 t) (ix2 r 0) = Ideal.rsqrt (square (a0 m c) (row t r)) :=
  (part3 _ _).trans (congrArg (fun q : EReal => Ideal.rsqrt (mean q))
    (Finset.sum_congr rfl fun k _ => congrArg₂ (fun p q : EReal => p * q) (block0 m c t r k) (block0 m c t r k)))

theorem val4 (t : Fin cfg0.N) (r : Fin 256) (j : Fin 2048) :
    k0_pay4 (F := Ideal) (iblk m c 0 t) (ix2 r j) = (a0 m c (ix2 (row t r) j) * Ideal.rsqrt (square (a0 m c) (row t r)) : EReal) :=
  (part4 _ _).trans (congrArg₂ (fun p q : EReal => p * Ideal.rsqrt (mean q)) (block0 m c t r j)
    (Finset.sum_congr rfl fun k _ => congrArg₂ (fun p q : EReal => p * q) (block0 m c t r k) (block0 m c t r k)))

theorem val5 (t : Fin cfg0.N) (r : Fin 256) (j : Fin 2048) :
    k0_pay5 (F := Ideal) (iblk m c 3 t) (iblk m c 2 t) (ix2 r j) = inner (a2 m c) (a3 m c) (row t r) j :=
  (part5 _ _ _).trans (congrArg₂ (fun p q : EReal => scaled p q) (block3 m c t r j) (block2 m c t j))

theorem val6 (t : Fin cfg0.N) (r : Fin 256) (j : Fin 2048) :
    k0_pay6 (F := Ideal) (iblk m c 0 t) (iblk m c 3 t) (iblk m c 2 t) (iblk m c 1 t) (iblk m c 4 t) (ix2 r j)
      = grad (a0 m c) (a4 m c) (a1 m c) (a2 m c) (a3 m c) (row t r) j := by
  refine (part6 _ _ _ _ _ _).trans ?_
  unfold grad
  refine congrArg₂ (fun p q : EReal => p + q) (block4 m c t r j) (congrArg₂ (fun p q : EReal => p * q) (val3 m c t r)
    (congrArg₂ (fun p q : EReal => p - q) (congrArg₂ (fun p q : EReal => p * q) (val5 m c t r j) (block1 m c t j))
      (congrArg₂ (fun p q : EReal => p * Ideal.div q (Ideal.ofBits .f32 0x45000000#32)) (val4 m c t r j)
        (Finset.sum_congr rfl fun k _ => congrArg₂ (fun p q : EReal => p * q) (congrArg₂ (fun p q : EReal => p * q) (val5 m c t r k) (block1 m c t k)) (val4 m c t r k)))))

/-- At the call's end its first result array is the reference's gradient of the input. -/
theorem final7 : (dats m 0 c).arrAt 7 cfg0.N = val_main_v49 (F := Ideal) (a0 m c) (a1 m c) (a2 m c) (a3 m c) (a4 m c) := by
  refine (dats m 0 c).arrAt_eq_of_covers 7 _ (by decide +kernel) fun t hf y => ?_
  have ht : t.val < 32 := t.isLt
  have hy : (y 0).val < 256 := (y 0).isLt
  have e : ((View.whole main_v0_0).slice (win0_7.rect t)).emb y = ix2 (row t (y 0)) (y 1) := by
    blk_ext [idx t, row]
  have ey : y = ix2 (y 0) (y 1) := by blk_ext []
  have q : (outsAt0 m c t.val t.isLt).1 y = grad (a0 m c) (a4 m c) (a1 m c) (a2 m c) (a3 m c) (row t (y 0)) (y 1) := by
    refine Eq.trans ?_ ((congrArg (k0_pay6 (F := Ideal) (iblk m c 0 t) (iblk m c 3 t) (iblk m c 2 t) (iblk m c 1 t) (iblk m c 4 t)) ey).trans (val6 m c t (y 0) (y 1)))
    by_cases h : t.val % 32 = 0
    · rw [outsAt0_A m c t h]
      frame_out
    · rw [outsAt0_B m c t h]
      frame_out
  blk_simp
  rw [after0_7]
  refine q.trans ?_
  rw [e]
  exact (ref49 _ _ _ _ _ _ _).symm

/-- Its second is the reference's gradient of the branch's result. -/
theorem final8 : (dats m 0 c).arrAt 8 cfg0.N = val_main_v58 (F := Ideal) (a0 m c) (a1 m c) (a2 m c) (a3 m c) (a4 m c) (a6 m c) := by
  refine (dats m 0 c).arrAt_eq_of_covers 8 _ (by decide +kernel) fun t hf y => ?_
  have ht : t.val < 32 := t.isLt
  have hy : (y 0).val < 256 := (y 0).isLt
  have e : ((View.whole main_v0_1).slice (win0_8.rect t)).emb y = ix2 (row t (y 0)) (y 1) := by
    blk_ext [idx t, row]
  have ey : y = ix2 (y 0) (y 1) := by blk_ext []
  have q : (outsAt0 m c t.val t.isLt).2.1 y = (grad (a0 m c) (a4 m c) (a1 m c) (a2 m c) (a3 m c) (row t (y 0)) (y 1) * a6 m c (ix2 0 (y 1)) : EReal) := by
    refine Eq.trans ?_ (congrArg₂ (fun p q : EReal => p * q) ((congrArg (k0_pay6 (F := Ideal) (iblk m c 0 t) (iblk m c 3 t) (iblk m c 2 t) (iblk m c 1 t) (iblk m c 4 t)) ey).trans (val6 m c t (y 0) (y 1))) (block6 m c t (y 1)))
    by_cases h : t.val % 32 = 0
    · rw [outsAt0_A m c t h]
      frame_out
      exact part8 _ _ _
    · rw [outsAt0_B m c t h]
      frame_out
      exact part8 _ _ _
  blk_simp
  rw [after0_8]
  refine q.trans ?_
  rw [e]
  exact (ref58 _ _ _ _ _ _ _ _).symm

/-- The kernel's sums over the grid points are sums over all rows. -/
theorem sum_rows (f : Fin 8192 → EReal) (b : Fin 32 → EReal) (p : Fin 32 → Fin cfg0.N) (hp : ∀ s, (p s).val = s.val)
    (h : ∀ s, b s = ∑ r : Fin 256, f (row (p s) r)) : ∑ s : Fin 32, b s = ∑ n : Fin 8192, f n := by
  refine (Finset.sum_congr rfl fun s _ => h s).trans ?_
  refine Fin.sum_mul_add_congr fun s k hl => ?_
  refine congrArg f (Fin.ext ?_)
  show (p s).val * 256 + k.val = _
  rw [hp s]

/-- What the last grid point leaves in the rows of sums. -/
theorem sums_eq (t : Fin cfg0.N) (hf : (cfg0.win 9).flush t = true) (y : S8x2048.Idx) :
    (dats m 0 c).after 9 t y = total (a0 m c) (a4 m c) (a1 m c) (a2 m c) (a3 m c) (a5 m c) y := by
  have ht : t.val < 32 := t.isLt
  rw [sums m c t hf y]
  have hp : ∀ s : Fin 32, (⟨32 * (t.val / 32) + s.val, Pipeline.run_point_lt_of_flush t ((flush0_9 t).mp hf) s⟩ : Fin cfg0.N).val = s.val := by
    intro s
    show 32 * (t.val / 32) + s.val = s.val
    omega
  by_cases h0 : (y 0).val = 0
  · rw [total0 _ _ _ _ _ _ y h0]
    refine sum_rows _ _ _ hp fun s => ?_
    unfold added
    rw [if_neg (by omega), if_neg (by omega), if_neg (by omega), if_pos h0]
    exact (part7 _ _).trans (Finset.sum_congr rfl fun r _ => block3 m c _ r (y 1))
  by_cases h1 : (y 0).val = 1
  · rw [total1 _ _ _ _ _ _ y h1]
    refine sum_rows _ _ _ hp fun s => ?_
    unfold added
    rw [if_neg (by omega), if_neg (by omega), if_pos h1]
    refine Finset.sum_congr rfl fun r _ => congrArg₂ (fun p q : EReal => p * q) ?_ (congrArg₂ (fun p q : EReal => p * q) (val4 m c _ r (y 1)) (block1 m c _ (y 1)))
    refine Eq.trans ?_ (block3 m c _ r (y 1))
    pointwise [k0_pay2]
  by_cases h2 : (y 0).val = 2
  · rw [total2 _ _ _ _ _ _ y h2]
    refine sum_rows _ _ _ hp fun s => ?_
    unfold added
    rw [if_neg (by omega), if_pos h2]
    exact Finset.sum_congr rfl fun r _ => congrArg₂ (fun p q : EReal => p * q) (val5 m c _ r (y 1)) (val4 m c _ r (y 1))
  by_cases h3 : (y 0).val = 3
  · rw [total3 _ _ _ _ _ _ y h3]
    refine sum_rows _ _ _ hp fun s => ?_
    unfold added
    rw [if_pos h3]
    exact (part9 _ _ _).trans (Finset.sum_congr rfl fun r _ => congrArg₂ (fun p q : EReal => p * q) (val6 m c _ r (y 1)) (block5 m c _ r (y 1)))
  · rw [total4 _ _ _ _ _ _ y (by omega)]
    show @Eq EReal _ _
    refine Finset.sum_eq_zero (M := EReal) fun s _ => ?_
    unfold added
    rw [if_neg h3, if_neg h2, if_neg h1, if_neg h0]

/-- Its third is the reference's stacked sums. -/
theorem final9 : (dats m 0 c).arrAt 9 cfg0.N = val_main_v60 (F := Ideal) (a0 m c) (a1 m c) (a2 m c) (a3 m c) (a4 m c) (a5 m c) := by
  refine (dats m 0 c).arrAt_eq_of_covers 9 _ (by decide +kernel) fun t hf y => ?_
  have e : ((View.whole main_v0_2).slice (win0_9.rect t)).emb y = y := by
    blk_ext [idx t]
  have q := sums_eq m c t hf y
  blk_simp
  refine q.trans ?_
  rw [e]
  exact (ref60 _ _ _ _ _ _ _).symm

end Cert.Kernel25Ideal.Norm

namespace Cert.Proof

open Idealize.ShloMosaic Idealize.ShloMosaic.TcCoe Idealize.SL.Sem
open Cert.Reference25Ideal.Read

/-- Over the extended reals the call and the reference end with equal gradients of the normalisation. -/
theorem algebraic25 : Cert.algebraic_Kernel25Ideal_Reference25Ideal (hKernel25Ideal := Cert.Kernel25Ideal.Gen.facts)
    (hReference25Ideal := Cert.Reference25Ideal.Gen.facts) := by
  intro m g m' g' _ harg
  refine ⟨fun c => val_main_v49 (F := Ideal) (m ((c.tc : Thread _ _).loc Cert.Kernel25Ideal.main_arg0))
      (m ((c.tc : Thread _ _).loc Cert.Kernel25Ideal.main_arg1)) (m ((c.tc : Thread _ _).loc Cert.Kernel25Ideal.main_arg2))
      (m ((c.tc : Thread _ _).loc Cert.Kernel25Ideal.main_arg3)) (m ((c.tc : Thread _ _).loc Cert.Kernel25Ideal.main_arg4)),
    fun c => val_main_v58 (F := Ideal) (m ((c.tc : Thread _ _).loc Cert.Kernel25Ideal.main_arg0))
      (m ((c.tc : Thread _ _).loc Cert.Kernel25Ideal.main_arg1)) (m ((c.tc : Thread _ _).loc Cert.Kernel25Ideal.main_arg2))
      (m ((c.tc : Thread _ _).loc Cert.Kernel25Ideal.main_arg3)) (m ((c.tc : Thread _ _).loc Cert.Kernel25Ideal.main_arg4))
      (m ((c.tc : Thread _ _).loc Cert.Kernel25Ideal.main_arg6)),
    fun c => val_main_v60 (F := Ideal) (m ((c.tc : Thread _ _).loc Cert.Kernel25Ideal.main_arg0))
      (m ((c.tc : Thread _ _).loc Cert.Kernel25Ideal.main_arg1)) (m ((c.tc : Thread _ _).loc Cert.Kernel25Ideal.main_arg2))
      (m ((c.tc : Thread _ _).loc Cert.Kernel25Ideal.main_arg3)) (m ((c.tc : Thread _ _).loc Cert.Kernel25Ideal.main_arg4))
      (m ((c.tc : Thread _ _).loc Cert.Kernel25Ideal.main_arg5)), ?_, ?_⟩
  · exact (θ_run Cert.Kernel25Ideal.defs _ _).mono (fun r h c => ⟨(h c).1.trans (Cert.Kernel25Ideal.Norm.final7 m c),
      (h c).2.1.trans (Cert.Kernel25Ideal.Norm.final8 m c), (h c).2.2.1.trans (Cert.Kernel25Ideal.Norm.final9 m c), (h c).2.2.2⟩)
      (Cert.Kernel25Ideal.Value.run_blocks (F := Ideal) m g)
  · refine (θ_run Cert.Reference25Ideal.defs _ _).mono (fun r h c => ?_) (Cert.Reference25Ideal.Value.run (F := Ideal) m' g')
    obtain ⟨a0, a1, a2, a3, a4, a5, a6⟩ := harg c
    exact ⟨(h c).1.trans ((val_main_v49_eq _ _).trans (by rw [a0, a1, a2, a3, a4])),
      (h c).2.1.trans ((val_main_v58_eq _ _).trans (by rw [a0, a1, a2, a3, a4, a6])),
      (h c).2.2.1.trans ((val_main_v60_eq _ _).trans (by rw [a0, a1, a2, a3, a4, a5])), (h c).2.2.2⟩

end Cert.Proof
-- ==== Proof.LayerFrames.lean ====
/- The frames of the calls between the products, the convolution, the modulation and the normalisation, and of their references: each run ends with its arguments as launched and every counter at zero. -/
module

public import proofs.«01_k».proof.Defs
public import proofs.«01_k».proof.Proof.Gen.Kernel20.Frame
public import proofs.«01_k».proof.Proof.Gen.Kernel20Ideal.Frame
public import proofs.«01_k».proof.Proof.Gen.Reference20Ideal.Run
public import proofs.«01_k».proof.Proof.Gen.Kernel21.Frame
public import proofs.«01_k».proof.Proof.Gen.Kernel21Ideal.Frame
public import proofs.«01_k».proof.Proof.Gen.Reference21Ideal.Run
public import proofs.«01_k».proof.Proof.Gen.Kernel22.Frame
public import proofs.«01_k».proof.Proof.Gen.Kernel22Ideal.Frame
public import proofs.«01_k».proof.Proof.Gen.Reference22Ideal.Run
public import proofs.«01_k».proof.Proof.Gen.Kernel23.Frame
public import proofs.«01_k».proof.Proof.Gen.Kernel23Ideal.Frame
public import proofs.«01_k».proof.Proof.Gen.Reference23Ideal.Run
public import proofs.«01_k».proof.Proof.Gen.Kernel24.Frame
public import proofs.«01_k».proof.Proof.Gen.Kernel24Ideal.Frame
public import proofs.«01_k».proof.Proof.Gen.Reference24Ideal.Run
public import proofs.«01_k».proof.Proof.Gen.Kernel25.Frame
public import proofs.«01_k».proof.Proof.Gen.Kernel25Ideal.Frame
public import proofs.«01_k».proof.Proof.Gen.Reference25Ideal.Run
public import Idealize.ShloMosaic.Lib.Quiescent

@[expose] public section

set_option maxRecDepth 16384

noncomputable section

namespace Cert.Proof

open Idealize.ShloMosaic Idealize.ShloMosaic.TcCoe Idealize.SL.Sem

/-- The call of the gradients of the convolution between its projections, at its bits. -/
theorem frame_kernel20 : Cert.quiescent_Kernel20 (hKernel20 := Cert.Kernel20.Gen.facts) := fun m ρ _ => Cert.Kernel20.Gen.frame (F := Bits) m ρ

/-- The same over the extended reals. -/
theorem frame_ideal20 : Cert.quiescent_Kernel20Ideal (hKernel20Ideal := Cert.Kernel20Ideal.Gen.facts) := fun m ρ _ =>
  Cert.Kernel20Ideal.Gen.frame (F := Ideal) m ρ

/-- Its reference, which is host code alone. -/
theorem frame_reference20 : Cert.quiescent_Reference20Ideal (hReference20Ideal := Cert.Reference20Ideal.Gen.facts) := fun m ρ _ =>
  (θ_run Cert.Reference20Ideal.defs _ _).mono (fun r h => ⟨fun c => (h c).2.2.2.2, sem_eq_zero_of_no_sems (by decide) r.2⟩)
    (Cert.Reference20Ideal.Value.run (F := Ideal) m ρ)

/-- The call of the convolution between its projections, at its bits. -/
theorem frame_kernel21 : Cert.quiescent_Kernel21 (hKernel21 := Cert.Kernel21.Gen.facts) := fun m ρ _ => Cert.Kernel21.Gen.frame (F := Bits) m ρ

/-- The same over the extended reals. -/
theorem frame_ideal21 : Cert.quiescent_Kernel21Ideal (hKernel21Ideal := Cert.Kernel21Ideal.Gen.facts) := fun m ρ _ =>
  Cert.Kernel21Ideal.Gen.frame (F := Ideal) m ρ

/-- Its reference, which is host code alone. -/
theorem frame_reference21 : Cert.quiescent_Reference21Ideal (hReference21Ideal := Cert.Reference21Ideal.Gen.facts) := fun m ρ _ =>
  (θ_run Cert.Reference21Ideal.defs _ _).mono (fun r h => ⟨fun c => (h c).2, sem_eq_zero_of_no_sems (by decide) r.2⟩)
    (Cert.Reference21Ideal.Value.run (F := Ideal) m ρ)

/-- The call of the gradient of the modulation's weight, at its bits. -/
theorem frame_kernel22 : Cert.quiescent_Kernel22 (hKernel22 := Cert.Kernel22.Gen.facts) := fun m ρ _ => Cert.Kernel22.Gen.frame (F := Bits) m ρ

/-- The same over the extended reals. -/
theorem frame_ideal22 : Cert.quiescent_Kernel22Ideal (hKernel22Ideal := Cert.Kernel22Ideal.Gen.facts) := fun m ρ _ =>
  Cert.Kernel22Ideal.Gen.frame (F := Ideal) m ρ

/-- Its reference, which is host code alone. -/
theorem frame_reference22 : Cert.quiescent_Reference22Ideal (hReference22Ideal := Cert.Reference22Ideal.Gen.facts) := fun m ρ _ =>
  (θ_run Cert.Reference22Ideal.defs _ _).mono (fun r h => ⟨fun c => (h c).2, sem_eq_zero_of_no_sems (by decide) r.2⟩)
    (Cert.Reference22Ideal.Value.run (F := Ideal) m ρ)

/-- The call of the modulation, at its bits. -/
theorem frame_kernel23 : Cert.quiescent_Kernel23 (hKernel23 := Cert.Kernel23.Gen.facts) := fun m ρ _ => Cert.Kernel23.Gen.frame (F := Bits) m ρ

/-- The same over the extended reals. -/
theorem frame_ideal23 : Cert.quiescent_Kernel23Ideal (hKernel23Ideal := Cert.Kernel23Ideal.Gen.facts) := fun m ρ _ =>
  Cert.Kernel23Ideal.Gen.frame (F := Ideal) m ρ

/-- Its reference, which is host code alone. -/
theorem frame_reference23 : Cert.quiescent_Reference23Ideal (hReference23Ideal := Cert.Reference23Ideal.Gen.facts) := fun m ρ _ =>
  (θ_run Cert.Reference23Ideal.defs _ _).mono (fun r h => ⟨fun c => (h c).2, sem_eq_zero_of_no_sems (by decide) r.2⟩)
    (Cert.Reference23Ideal.Value.run (F := Ideal) m ρ)

/-- The call of the normalisation, at its bits. -/
theorem frame_kernel24 : Cert.quiescent_Kernel24 (hKernel24 := Cert.Kernel24.Gen.facts) := fun m ρ _ => Cert.Kernel24.Gen.frame (F := Bits) m ρ

/-- The same over the extended reals. -/
theorem frame_ideal24 : Cert.quiescent_Kernel24Ideal (hKernel24Ideal := Cert.Kernel24Ideal.Gen.facts) := fun m ρ _ =>
  Cert.Kernel24Ideal.Gen.frame (F := Ideal) m ρ

/-- Its reference, which is host code alone. -/
theorem frame_reference24 : Cert.quiescent_Reference24Ideal (hReference24Ideal := Cert.Reference24Ideal.Gen.facts) := fun m ρ _ =>
  (θ_run Cert.Reference24Ideal.defs _ _).mono (fun r h => ⟨fun c => (h c).2, sem_eq_zero_of_no_sems (by decide) r.2⟩)
    (Cert.Reference24Ideal.Value.run (F := Ideal) m ρ)

/-- The call of the gradients of the normalisation, at its bits. -/
theorem frame_kernel25 : Cert.quiescent_Kernel25 (hKernel25 := Cert.Kernel25.Gen.facts) := fun m ρ _ => Cert.Kernel25.Gen.frame (F := Bits) m ρ

/-- The same over the extended reals. -/
theorem frame_ideal25 : Cert.quiescent_Kernel25Ideal (hKernel25Ideal := Cert.Kernel25Ideal.Gen.facts) := fun m ρ _ =>
  Cert.Kernel25Ideal.Gen.frame (F := Ideal) m ρ

/-- Its reference, which is host code alone. -/
theorem frame_reference25 : Cert.quiescent_Reference25Ideal (hReference25Ideal := Cert.Reference25Ideal.Gen.facts) := fun m ρ _ =>
  (θ_run Cert.Reference25Ideal.defs _ _).mono (fun r h => ⟨fun c => (h c).2.2.2, sem_eq_zero_of_no_sems (by decide) r.2⟩)
    (Cert.Reference25Ideal.Value.run (F := Ideal) m ρ)

end Cert.Proof
-- ==== Proof.AdamFrames.lean ====
/- The frames of the optimiser's calls and of the first norm's gradients, and of their references: each run ends with its arguments as launched and every counter at zero. -/
module

public import proofs.«01_k».proof.Defs
public import proofs.«01_k».proof.Proof.Gen.Kernel26.Frame
public import proofs.«01_k».proof.Proof.Gen.Kernel26Ideal.Frame
public import proofs.«01_k».proof.Proof.Gen.Reference26Ideal.Run
public import proofs.«01_k».proof.Proof.Gen.Kernel27.Frame
public import proofs.«01_k».proof.Proof.Gen.Kernel27Ideal.Frame
public import proofs.«01_k».proof.Proof.Gen.Reference27Ideal.Run
public import proofs.«01_k».proof.Proof.Gen.Kernel28.Frame
public import proofs.«01_k».proof.Proof.Gen.Kernel28Ideal.Frame
public import proofs.«01_k».proof.Proof.Gen.Reference28Ideal.Run
public import proofs.«01_k».proof.Proof.Gen.Kernel29.Frame
public import proofs.«01_k».proof.Proof.Gen.Kernel29Ideal.Frame
public import proofs.«01_k».proof.Proof.Gen.Reference29Ideal.Run
public import proofs.«01_k».proof.Proof.Gen.Kernel30.Frame
public import proofs.«01_k».proof.Proof.Gen.Kernel30Ideal.Frame
public import proofs.«01_k».proof.Proof.Gen.Reference30Ideal.Run
public import proofs.«01_k».proof.Proof.Gen.Kernel31.Frame
public import proofs.«01_k».proof.Proof.Gen.Kernel31Ideal.Frame
public import proofs.«01_k».proof.Proof.Gen.Reference31Ideal.Run
public import proofs.«01_k».proof.Proof.Gen.Kernel32.Frame
public import proofs.«01_k».proof.Proof.Gen.Kernel32Ideal.Frame
public import proofs.«01_k».proof.Proof.Gen.Reference32Ideal.Run
public import proofs.«01_k».proof.Proof.Gen.Kernel33.Frame
public import proofs.«01_k».proof.Proof.Gen.Kernel33Ideal.Frame
public import proofs.«01_k».proof.Proof.Gen.Reference33Ideal.Run
public import proofs.«01_k».proof.Proof.Gen.Kernel34.Frame
public import proofs.«01_k».proof.Proof.Gen.Kernel34Ideal.Frame
public import proofs.«01_k».proof.Proof.Gen.Reference34Ideal.Run
public import proofs.«01_k».proof.Proof.Gen.Kernel35.Frame
public import proofs.«01_k».proof.Proof.Gen.Kernel35Ideal.Frame
public import proofs.«01_k».proof.Proof.Gen.Reference35Ideal.Run
public import proofs.«01_k».proof.Proof.Gen.Kernel36.Frame
public import proofs.«01_k».proof.Proof.Gen.Kernel36Ideal.Frame
public import proofs.«01_k».proof.Proof.Gen.Reference36Ideal.Run
public import proofs.«01_k».proof.Proof.Gen.Kernel37.Frame
public import proofs.«01_k».proof.Proof.Gen.Kernel37Ideal.Frame
public import proofs.«01_k».proof.Proof.Gen.Reference37Ideal.Run
public import Idealize.ShloMosaic.Lib.Quiescent

@[expose] public section

set_option maxRecDepth 16384

noncomputable section

namespace Cert.Proof

open Idealize.ShloMosaic Idealize.ShloMosaic.TcCoe Idealize.SL.Sem

/-- The optimiser's call of w_mod, at its bits. -/
theorem frame_kernel26 : Cert.quiescent_Kernel26 (hKernel26 := Cert.Kernel26.Gen.facts) := fun m ρ _ => Cert.Kernel26.Gen.frame (F := Bits) m ρ

/-- The same over the extended reals. -/
theorem frame_ideal26 : Cert.quiescent_Kernel26Ideal (hKernel26Ideal := Cert.Kernel26Ideal.Gen.facts) := fun m ρ _ =>
  Cert.Kernel26Ideal.Gen.frame (F := Ideal) m ρ

/-- Its reference, which is host code alone. -/
theorem frame_reference26 : Cert.quiescent_Reference26Ideal (hReference26Ideal := Cert.Reference26Ideal.Gen.facts) := fun m ρ _ =>
  (θ_run Cert.Reference26Ideal.defs _ _).mono (fun r h => ⟨fun c => (h c).2.2.2, sem_eq_zero_of_no_sems (by decide) r.2⟩)
    (Cert.Reference26Ideal.Value.run (F := Ideal) m ρ)

/-- The optimiser's call of ffn_w_gate and of ffn_w_up, at its bits. -/
theorem frame_kernel27 : Cert.quiescent_Kernel27 (hKernel27 := Cert.Kernel27.Gen.facts) := fun m ρ _ => Cert.Kernel27.Gen.frame (F := Bits) m ρ

/-- The same over the extended reals. -/
theorem frame_ideal27 : Cert.quiescent_Kernel27Ideal (hKernel27Ideal := Cert.Kernel27Ideal.Gen.facts) := fun m ρ _ =>
  Cert.Kernel27Ideal.Gen.frame (F := Ideal) m ρ

/-- Its reference, which is host code alone. -/
theorem frame_reference27 : Cert.quiescent_Reference27Ideal (hReference27Ideal := Cert.Reference27Ideal.Gen.facts) := fun m ρ _ =>
  (θ_run Cert.Reference27Ideal.defs _ _).mono (fun r h => ⟨fun c => (h c).2.2.2, sem_eq_zero_of_no_sems (by decide) r.2⟩)
    (Cert.Reference27Ideal.Value.run (F := Ideal) m ρ)

/-- The optimiser's call of ffn_w_down, at its bits. -/
theorem frame_kernel28 : Cert.quiescent_Kernel28 (hKernel28 := Cert.Kernel28.Gen.facts) := fun m ρ _ => Cert.Kernel28.Gen.frame (F := Bits) m ρ

/-- The same over the extended reals. -/
theorem frame_ideal28 : Cert.quiescent_Kernel28Ideal (hKernel28Ideal := Cert.Kernel28Ideal.Gen.facts) := fun m ρ _ =>
  Cert.Kernel28Ideal.Gen.frame (F := Ideal) m ρ

/-- Its reference, which is host code alone. -/
theorem frame_reference28 : Cert.quiescent_Reference28Ideal (hReference28Ideal := Cert.Reference28Ideal.Gen.facts) := fun m ρ _ =>
  (θ_run Cert.Reference28Ideal.defs _ _).mono (fun r h => ⟨fun c => (h c).2.2.2, sem_eq_zero_of_no_sems (by decide) r.2⟩)
    (Cert.Reference28Ideal.Value.run (F := Ideal) m ρ)

/-- The optimiser's call of conv_w_in and of sb_w_qkv, at its bits. -/
theorem frame_kernel29 : Cert.quiescent_Kernel29 (hKernel29 := Cert.Kernel29.Gen.facts) := fun m ρ _ => Cert.Kernel29.Gen.frame (F := Bits) m ρ

/-- The same over the extended reals. -/
theorem frame_ideal29 : Cert.quiescent_Kernel29Ideal (hKernel29Ideal := Cert.Kernel29Ideal.Gen.facts) := fun m ρ _ =>
  Cert.Kernel29Ideal.Gen.frame (F := Ideal) m ρ

/-- Its reference, which is host code alone. -/
theorem frame_reference29 : Cert.quiescent_Reference29Ideal (hReference29Ideal := Cert.Reference29Ideal.Gen.facts) := fun m ρ _ =>
  (θ_run Cert.Reference29Ideal.defs _ _).mono (fun r h => ⟨fun c => (h c).2.2.2, sem_eq_zero_of_no_sems (by decide) r.2⟩)
    (Cert.Reference29Ideal.Value.run (F := Ideal) m ρ)

/-- The optimiser's call of conv_w_out and of sb_w_o, at its bits. -/
theorem frame_kernel30 : Cert.quiescent_Kernel30 (hKernel30 := Cert.Kernel30.Gen.facts) := fun m ρ _ => Cert.Kernel30.Gen.frame (F := Bits) m ρ

/-- The same over the extended reals. -/
theorem frame_ideal30 : Cert.quiescent_Kernel30Ideal (hKernel30Ideal := Cert.Kernel30Ideal.Gen.facts) := fun m ρ _ =>
  Cert.Kernel30Ideal.Gen.frame (F := Ideal) m ρ

/-- Its reference, which is host code alone. -/
theorem frame_reference30 : Cert.quiescent_Reference30Ideal (hReference30Ideal := Cert.Reference30Ideal.Gen.facts) := fun m ρ _ =>
  (θ_run Cert.Reference30Ideal.defs _ _).mono (fun r h => ⟨fun c => (h c).2.2.2, sem_eq_zero_of_no_sems (by decide) r.2⟩)
    (Cert.Reference30Ideal.Value.run (F := Ideal) m ρ)

/-- The optimiser's call of pool_w, at its bits. -/
theorem frame_kernel31 : Cert.quiescent_Kernel31 (hKernel31 := Cert.Kernel31.Gen.facts) := fun m ρ _ => Cert.Kernel31.Gen.frame (F := Bits) m ρ

/-- The same over the extended reals. -/
theorem frame_ideal31 : Cert.quiescent_Kernel31Ideal (hKernel31Ideal := Cert.Kernel31Ideal.Gen.facts) := fun m ρ _ =>
  Cert.Kernel31Ideal.Gen.frame (F := Ideal) m ρ

/-- Its reference, which is host code alone. -/
theorem frame_reference31 : Cert.quiescent_Reference31Ideal (hReference31Ideal := Cert.Reference31Ideal.Gen.facts) := fun m ρ _ =>
  (θ_run Cert.Reference31Ideal.defs _ _).mono (fun r h => ⟨fun c => (h c).2.2.2, sem_eq_zero_of_no_sems (by decide) r.2⟩)
    (Cert.Reference31Ideal.Value.run (F := Ideal) m ρ)

/-- The optimiser's call of norm_mix_g and of norm_ffn_g, at its bits. -/
theorem frame_kernel32 : Cert.quiescent_Kernel32 (hKernel32 := Cert.Kernel32.Gen.facts) := fun m ρ _ => Cert.Kernel32.Gen.frame (F := Bits) m ρ

/-- The same over the extended reals. -/
theorem frame_ideal32 : Cert.quiescent_Kernel32Ideal (hKernel32Ideal := Cert.Kernel32Ideal.Gen.facts) := fun m ρ _ =>
  Cert.Kernel32Ideal.Gen.frame (F := Ideal) m ρ

/-- Its reference, which is host code alone. -/
theorem frame_reference32 : Cert.quiescent_Reference32Ideal (hReference32Ideal := Cert.Reference32Ideal.Gen.facts) := fun m ρ _ =>
  (θ_run Cert.Reference32Ideal.defs _ _).mono (fun r h => ⟨fun c => (h c).2.2.2, sem_eq_zero_of_no_sems (by decide) r.2⟩)
    (Cert.Reference32Ideal.Value.run (F := Ideal) m ρ)

/-- The optimiser's call of b_mod, at its bits. -/
theorem frame_kernel33 : Cert.quiescent_Kernel33 (hKernel33 := Cert.Kernel33.Gen.facts) := fun m ρ _ => Cert.Kernel33.Gen.frame (F := Bits) m ρ

/-- The same over the extended reals. -/
theorem frame_ideal33 : Cert.quiescent_Kernel33Ideal (hKernel33Ideal := Cert.Kernel33Ideal.Gen.facts) := fun m ρ _ =>
  Cert.Kernel33Ideal.Gen.frame (F := Ideal) m ρ

/-- Its reference, which is host code alone. -/
theorem frame_reference33 : Cert.quiescent_Reference33Ideal (hReference33Ideal := Cert.Reference33Ideal.Gen.facts) := fun m ρ _ =>
  (θ_run Cert.Reference33Ideal.defs _ _).mono (fun r h => ⟨fun c => (h c).2.2.2, sem_eq_zero_of_no_sems (by decide) r.2⟩)
    (Cert.Reference33Ideal.Value.run (F := Ideal) m ρ)

/-- The optimiser's call of pool_scale, at its bits. -/
theorem frame_kernel34 : Cert.quiescent_Kernel34 (hKernel34 := Cert.Kernel34.Gen.facts) := fun m ρ _ => Cert.Kernel34.Gen.frame (F := Bits) m ρ

/-- The same over the extended reals. -/
theorem frame_ideal34 : Cert.quiescent_Kernel34Ideal (hKernel34Ideal := Cert.Kernel34Ideal.Gen.facts) := fun m ρ _ =>
  Cert.Kernel34Ideal.Gen.frame (F := Ideal) m ρ

/-- Its reference, which is host code alone. -/
theorem frame_reference34 : Cert.quiescent_Reference34Ideal (hReference34Ideal := Cert.Reference34Ideal.Gen.facts) := fun m ρ _ =>
  (θ_run Cert.Reference34Ideal.defs _ _).mono (fun r h => ⟨fun c => (h c).2.2.2, sem_eq_zero_of_no_sems (by decide) r.2⟩)
    (Cert.Reference34Ideal.Value.run (F := Ideal) m ρ)

/-- The optimiser's call of conv_w, at its bits. -/
theorem frame_kernel35 : Cert.quiescent_Kernel35 (hKernel35 := Cert.Kernel35.Gen.facts) := fun m ρ _ => Cert.Kernel35.Gen.frame (F := Bits) m ρ

/-- The same over the extended reals. -/
theorem frame_ideal35 : Cert.quiescent_Kernel35Ideal (hKernel35Ideal := Cert.Kernel35Ideal.Gen.facts) := fun m ρ _ =>
  Cert.Kernel35Ideal.Gen.frame (F := Ideal) m ρ

/-- Its reference, which is host code alone. -/
theorem frame_reference35 : Cert.quiescent_Reference35Ideal (hReference35Ideal := Cert.Reference35Ideal.Gen.facts) := fun m ρ _ =>
  (θ_run Cert.Reference35Ideal.defs _ _).mono (fun r h => ⟨fun c => (h c).2.2.2, sem_eq_zero_of_no_sems (by decide) r.2⟩)
    (Cert.Reference35Ideal.Value.run (F := Ideal) m ρ)

/-- The optimiser's call of final_g, at its bits. -/
theorem frame_kernel36 : Cert.quiescent_Kernel36 (hKernel36 := Cert.Kernel36.Gen.facts) := fun m ρ _ => Cert.Kernel36.Gen.frame (F := Bits) m ρ

/-- The same over the extended reals. -/
theorem frame_ideal36 : Cert.quiescent_Kernel36Ideal (hKernel36Ideal := Cert.Kernel36Ideal.Gen.facts) := fun m ρ _ =>
  Cert.Kernel36Ideal.Gen.frame (F := Ideal) m ρ

/-- Its reference, which is host code alone. -/
theorem frame_reference36 : Cert.quiescent_Reference36Ideal (hReference36Ideal := Cert.Reference36Ideal.Gen.facts) := fun m ρ _ =>
  (θ_run Cert.Reference36Ideal.defs _ _).mono (fun r h => ⟨fun c => (h c).2.2.2, sem_eq_zero_of_no_sems (by decide) r.2⟩)
    (Cert.Reference36Ideal.Value.run (F := Ideal) m ρ)

/-- The call of the gradients of the first norm, at its bits. -/
theorem frame_kernel37 : Cert.quiescent_Kernel37 (hKernel37 := Cert.Kernel37.Gen.facts) := fun m ρ _ => Cert.Kernel37.Gen.frame (F := Bits) m ρ

/-- The same over the extended reals. -/
theorem frame_ideal37 : Cert.quiescent_Kernel37Ideal (hKernel37Ideal := Cert.Kernel37Ideal.Gen.facts) := fun m ρ _ =>
  Cert.Kernel37Ideal.Gen.frame (F := Ideal) m ρ

/-- Its reference, which is host code alone. -/
theorem frame_reference37 : Cert.quiescent_Reference37Ideal (hReference37Ideal := Cert.Reference37Ideal.Gen.facts) := fun m ρ _ =>
  (θ_run Cert.Reference37Ideal.defs _ _).mono (fun r h => ⟨fun c => (h c).2.2, sem_eq_zero_of_no_sems (by decide) r.2⟩)
    (Cert.Reference37Ideal.Value.run (F := Ideal) m ρ)

end Cert.Proof
-- ==== Proof.Adam26.lean ====
/- AdamW on one device's part of w_mod (8192 rows of 3072): the step and the two new moments that the call leaves are the reference's. -/
module

public import proofs.«01_k».proof.Defs
public import proofs.«01_k».proof.Proof.Gen.Kernel26Ideal.Value
public import proofs.«01_k».proof.Proof.Gen.Reference26Ideal.Read
public import proofs.«01_k».proof.Proof.Gen.Reference26Ideal.Run

@[expose] public section

set_option maxRecDepth 16384

noncomputable section

namespace Cert.Kernel26Ideal.Adam

open Idealize.ShloMosaic Idealize.ShloMosaic.TcCoe Idealize.SL.Sem
open Cert.Reference26Ideal.Read

/-- The new first moment. -/
theorem first (x1 x2 : (⟨Cert.Reference26Ideal.S8192x3072, .f32⟩ : BufTy).Contents (Elt Ideal)) :
    val_main_v4 (F := Ideal) x1 x2 = Cert.Kernel26Ideal.Value.G5 (F := Ideal) x1 x2 := by
  funext i
  rw [val_main_v4_apply, val_main_v1_apply, val_main_v0_apply, val_main_v3_apply, val_main_v2_apply]
  rfl

/-- The new second moment. -/
theorem second (x1 x3 : (⟨Cert.Reference26Ideal.S8192x3072, .f32⟩ : BufTy).Contents (Elt Ideal)) :
    val_main_v10 (F := Ideal) x1 x3 = Cert.Kernel26Ideal.Value.G6 (F := Ideal) x1 x3 := by
  funext i
  rw [val_main_v10_apply, val_main_v6_apply, val_main_v5_apply, val_main_v9_apply, val_main_v8_apply, val_main_v7_apply]
  rfl

/-- The step, of the weight, its gradient and the two moments before it. -/
theorem step (x0 x1 x2 x3 : (⟨Cert.Reference26Ideal.S8192x3072, .f32⟩ : BufTy).Contents (Elt Ideal)) :
    val_main_v23 (F := Ideal) x0 x1 x2 x3 = Cert.Kernel26Ideal.Value.G4 (F := Ideal) x1 x2 x3 x0 := by
  funext i
  rw [val_main_v23_apply, val_main_v22_apply, val_main_v21_apply, val_main_v20_apply, val_main_v19_apply, val_main_v18_apply, val_main_v17_apply,
    val_main_v16_apply, val_main_v15_apply, val_main_v14_apply, val_main_v13_apply, val_main_v12_apply, val_main_v11_apply, first, second]
  rfl

end Cert.Kernel26Ideal.Adam

namespace Cert.Proof

open Idealize.ShloMosaic Idealize.ShloMosaic.TcCoe Idealize.SL.Sem
open Cert.Reference26Ideal.Read

/-- Over the extended reals the call and the reference end with equal steps and moments. -/
theorem algebraic26 : Cert.algebraic_Kernel26Ideal_Reference26Ideal (hKernel26Ideal := Cert.Kernel26Ideal.Gen.facts)
    (hReference26Ideal := Cert.Reference26Ideal.Gen.facts) := by
  intro m g m' g' _ harg
  refine ⟨fun c => val_main_v23 (F := Ideal) (m ((c.tc : Thread _ _).loc Cert.Kernel26Ideal.main_arg0)) (m ((c.tc : Thread _ _).loc Cert.Kernel26Ideal.main_arg1))
      (m ((c.tc : Thread _ _).loc Cert.Kernel26Ideal.main_arg2)) (m ((c.tc : Thread _ _).loc Cert.Kernel26Ideal.main_arg3)),
    fun c => val_main_v4 (F := Ideal) (m ((c.tc : Thread _ _).loc Cert.Kernel26Ideal.main_arg1)) (m ((c.tc : Thread _ _).loc Cert.Kernel26Ideal.main_arg2)),
    fun c => val_main_v10 (F := Ideal) (m ((c.tc : Thread _ _).loc Cert.Kernel26Ideal.main_arg1)) (m ((c.tc : Thread _ _).loc Cert.Kernel26Ideal.main_arg3)), ?_, ?_⟩
  · refine (θ_run Cert.Kernel26Ideal.defs _ _).mono (fun r h c => ?_) (Cert.Kernel26Ideal.Value.run (F := Ideal) m g)
    obtain ⟨h0, h1, h2, h3⟩ := h c
    exact ⟨h0.trans (Cert.Kernel26Ideal.Adam.step _ _ _ _).symm, h1.trans (Cert.Kernel26Ideal.Adam.first _ _).symm,
      h2.trans (Cert.Kernel26Ideal.Adam.second _ _).symm, h3⟩
  · refine (θ_run Cert.Reference26Ideal.defs _ _).mono (fun r h c => ?_) (Cert.Reference26Ideal.Value.run (F := Ideal) m' g')
    obtain ⟨a0, a1, a2, a3⟩ := harg c
    obtain ⟨h0, h1, h2, h3⟩ := h c
    exact ⟨h0.trans ((val_main_v23_eq _ _ _ _).trans (by rw [a0, a1, a2, a3])), h1.trans ((val_main_v4_eq _ _).trans (by rw [a1, a2])),
      h2.trans ((val_main_v10_eq _ _).trans (by rw [a1, a3])), h3⟩

end Cert.Proof
-- ==== Proof.Adam27.lean ====
/- AdamW on one device's part of ffn_w_gate or of ffn_w_up (8192 rows of 1408): the step and the two new moments that the call leaves are the reference's. -/
module

public import proofs.«01_k».proof.Defs
public import proofs.«01_k».proof.Proof.Gen.Kernel27Ideal.Value
public import proofs.«01_k».proof.Proof.Gen.Reference27Ideal.Read
public import proofs.«01_k».proof.Proof.Gen.Reference27Ideal.Run

@[expose] public section

set_option maxRecDepth 16384

noncomputable section

namespace Cert.Kernel27Ideal.Adam

open Idealize.ShloMosaic Idealize.ShloMosaic.TcCoe Idealize.SL.Sem
open Cert.Reference27Ideal.Read

/-- The new first moment. -/
theorem first (x1 x2 : (⟨Cert.Reference27Ideal.S8192x1408, .f32⟩ : BufTy).Contents (Elt Ideal)) :
    val_main_v4 (F := Ideal) x1 x2 = Cert.Kernel27Ideal.Value.G5 (F := Ideal) x1 x2 := by
  funext i
  rw [val_main_v4_apply, val_main_v1_apply, val_main_v0_apply, val_main_v3_apply, val_main_v2_apply]
  rfl

/-- The new second moment. -/
theorem second (x1 x3 : (⟨Cert.Reference27Ideal.S8192x1408, .f32⟩ : BufTy).Contents (Elt Ideal)) :
    val_main_v10 (F := Ideal) x1 x3 = Cert.Kernel27Ideal.Value.G6 (F := Ideal) x1 x3 := by
  funext i
  rw [val_main_v10_apply, val_main_v6_apply, val_main_v5_apply, val_main_v9_apply, val_main_v8_apply, val_main_v7_apply]
  rfl

/-- The step, of the weight, its gradient and the two moments before it. -/
theorem step (x0 x1 x2 x3 : (⟨Cert.Reference27Ideal.S8192x1408, .f32⟩ : BufTy).Contents (Elt Ideal)) :
    val_main_v23 (F := Ideal) x0 x1 x2 x3 = Cert.Kernel27Ideal.Value.G4 (F := Ideal) x1 x2 x3 x0 := by
  funext i
  rw [val_main_v23_apply, val_main_v22_apply, val_main_v21_apply, val_main_v20_apply, val_main_v19_apply, val_main_v18_apply, val_main_v17_apply,
    val_main_v16_apply, val_main_v15_apply, val_main_v14_apply, val_main_v13_apply, val_main_v12_apply, val_main_v11_apply, first, second]
  rfl

end Cert.Kernel27Ideal.Adam

namespace Cert.Proof

open Idealize.ShloMosaic Idealize.ShloMosaic.TcCoe Idealize.SL.Sem
open Cert.Reference27Ideal.Read

/-- Over the extended reals the call and the reference end with equal steps and moments. -/
theorem algebraic27 : Cert.algebraic_Kernel27Ideal_Reference27Ideal (hKernel27Ideal := Cert.Kernel27Ideal.Gen.facts)
    (hReference27Ideal := Cert.Reference27Ideal.Gen.facts) := by
  intro m g m' g' _ harg
  refine ⟨fun c => val_main_v23 (F := Ideal) (m ((c.tc : Thread _ _).loc Cert.Kernel27Ideal.main_arg0)) (m ((c.tc : Thread _ _).loc Cert.Kernel27Ideal.main_arg1))
      (m ((c.tc : Thread _ _).loc Cert.Kernel27Ideal.main_arg2)) (m ((c.tc : Thread _ _).loc Cert.Kernel27Ideal.main_arg3)),
    fun c => val_main_v4 (F := Ideal) (m ((c.tc : Thread _ _).loc Cert.Kernel27Ideal.main_arg1)) (m ((c.tc : Thread _ _).loc Cert.Kernel27Ideal.main_arg2)),
    fun c => val_main_v10 (F := Ideal) (m ((c.tc : Thread _ _).loc Cert.Kernel27Ideal.main_arg1)) (m ((c.tc : Thread _ _).loc Cert.Kernel27Ideal.main_arg3)), ?_, ?_⟩
  · refine (θ_run Cert.Kernel27Ideal.defs _ _).mono (fun r h c => ?_) (Cert.Kernel27Ideal.Value.run (F := Ideal) m g)
    obtain ⟨h0, h1, h2, h3⟩ := h c
    exact ⟨h0.trans (Cert.Kernel27Ideal.Adam.step _ _ _ _).symm, h1.trans (Cert.Kernel27Ideal.Adam.first _ _).symm,
      h2.trans (Cert.Kernel27Ideal.Adam.second _ _).symm, h3⟩
  · refine (θ_run Cert.Reference27Ideal.defs _ _).mono (fun r h c => ?_) (Cert.Reference27Ideal.Value.run (F := Ideal) m' g')
    obtain ⟨a0, a1, a2, a3⟩ := harg c
    obtain ⟨h0, h1, h2, h3⟩ := h c
    exact ⟨h0.trans ((val_main_v23_eq _ _ _ _).trans (by rw [a0, a1, a2, a3])), h1.trans ((val_main_v4_eq _ _).trans (by rw [a1, a2])),
      h2.trans ((val_main_v10_eq _ _).trans (by rw [a1, a3])), h3⟩

end Cert.Proof
-- ==== Proof.Adam28.lean ====
/- AdamW on one device's part of ffn_w_down (5632 rows of 2048): the step and the two new moments that the call leaves are the reference's. -/
module

public import proofs.«01_k».proof.Defs
public import proofs.«01_k».proof.Proof.Gen.Kernel28Ideal.Value
public import proofs.«01_k».proof.Proof.Gen.Reference28Ideal.Read
public import proofs.«01_k».proof.Proof.Gen.Reference28Ideal.Run

@[expose] public section

set_option maxRecDepth 16384

noncomputable section

namespace Cert.Kernel28Ideal.Adam

open Idealize.ShloMosaic Idealize.ShloMosaic.TcCoe Idealize.SL.Sem
open Cert.Reference28Ideal.Read

/-- The new first moment. -/
theorem first (x1 x2 : (⟨Cert.Reference28Ideal.S5632x2048, .f32⟩ : BufTy).Contents (Elt Ideal)) :
    val_main_v4 (F := Ideal) x1 x2 = Cert.Kernel28Ideal.Value.G5 (F := Ideal) x1 x2 := by
  funext i
  rw [val_main_v4_apply, val_main_v1_apply, val_main_v0_apply, val_main_v3_apply, val_main_v2_apply]
  rfl

/-- The new second moment. -/
theorem second (x1 x3 : (⟨Cert.Reference28Ideal.S5632x2048, .f32⟩ : BufTy).Contents (Elt Ideal)) :
    val_main_v10 (F := Ideal) x1 x3 = Cert.Kernel28Ideal.Value.G6 (F := Ideal) x1 x3 := by
  funext i
  rw [val_main_v10_apply, val_main_v6_apply, val_main_v5_apply, val_main_v9_apply, val_main_v8_apply, val_main_v7_apply]
  rfl

/-- The step, of the weight, its gradient and the two moments before it. -/
theorem step (x0 x1 x2 x3 : (⟨Cert.Reference28Ideal.S5632x2048, .f32⟩ : BufTy).Contents (Elt Ideal)) :
    val_main_v23 (F := Ideal) x0 x1 x2 x3 = Cert.Kernel28Ideal.Value.G4 (F := Ideal) x1 x2 x3 x0 := by
  funext i
  rw [val_main_v23_apply, val_main_v22_apply, val_main_v21_apply, val_main_v20_apply, val_main_v19_apply, val_main_v18_apply, val_main_v17_apply,
    val_main_v16_apply, val_main_v15_apply, val_main_v14_apply, val_main_v13_apply, val_main_v12_apply, val_main_v11_apply, first, second]
  rfl

end Cert.Kernel28Ideal.Adam

namespace Cert.Proof

open Idealize.ShloMosaic Idealize.ShloMosaic.TcCoe Idealize.SL.Sem
open Cert.Reference28Ideal.Read

/-- Over the extended reals the call and the reference end with equal steps and moments. -/
theorem algebraic28 : Cert.algebraic_Kernel28Ideal_Reference28Ideal (hKernel28Ideal := Cert.Kernel28Ideal.Gen.facts)
    (hReference28Ideal := Cert.Reference28Ideal.Gen.facts) := by
  intro m g m' g' _ harg
  refine ⟨fun c => val_main_v23 (F := Ideal) (m ((c.tc : Thread _ _).loc Cert.Kernel28Ideal.main_arg0)) (m ((c.tc : Thread _ _).loc Cert.Kernel28Ideal.main_arg1))
      (m ((c.tc : Thread _ _).loc Cert.Kernel28Ideal.main_arg2)) (m ((c.tc : Thread _ _).loc Cert.Kernel28Ideal.main_arg3)),
    fun c => val_main_v4 (F := Ideal) (m ((c.tc : Thread _ _).loc Cert.Kernel28Ideal.main_arg1)) (m ((c.tc : Thread _ _).loc Cert.Kernel28Ideal.main_arg2)),
    fun c => val_main_v10 (F := Ideal) (m ((c.tc : Thread _ _).loc Cert.Kernel28Ideal.main_arg1)) (m ((c.tc : Thread _ _).loc Cert.Kernel28Ideal.main_arg3)), ?_, ?_⟩
  · refine (θ_run Cert.Kernel28Ideal.defs _ _).mono (fun r h c => ?_) (Cert.Kernel28Ideal.Value.run (F := Ideal) m g)
    obtain ⟨h0, h1, h2, h3⟩ := h c
    exact ⟨h0.trans (Cert.Kernel28Ideal.Adam.step _ _ _ _).symm, h1.trans (Cert.Kernel28Ideal.Adam.first _ _).symm,
      h2.trans (Cert.Kernel28Ideal.Adam.second _ _).symm, h3⟩
  · refine (θ_run Cert.Reference28Ideal.defs _ _).mono (fun r h c => ?_) (Cert.Reference28Ideal.Value.run (F := Ideal) m' g')
    obtain ⟨a0, a1, a2, a3⟩ := harg c
    obtain ⟨h0, h1, h2, h3⟩ := h c
    exact ⟨h0.trans ((val_main_v23_eq _ _ _ _).trans (by rw [a0, a1, a2, a3])), h1.trans ((val_main_v4_eq _ _).trans (by rw [a1, a2])),
      h2.trans ((val_main_v10_eq _ _).trans (by rw [a1, a3])), h3⟩

end Cert.Proof
-- ==== Proof.Adam29.lean ====
/- AdamW on one device's part of conv_w_in or of sb_w_qkv (2048 rows of 1536): the step and the two new moments that the call leaves are the reference's. -/
module

public import proofs.«01_k».proof.Defs
public import proofs.«01_k».proof.Proof.Gen.Kernel29Ideal.Value
public import proofs.«01_k».proof.Proof.Gen.Reference29Ideal.Read
public import proofs.«01_k».proof.Proof.Gen.Reference29Ideal.Run

@[expose] public section

set_option maxRecDepth 16384

noncomputable section

namespace Cert.Kernel29Ideal.Adam

open Idealize.ShloMosaic Idealize.ShloMosaic.TcCoe Idealize.SL.Sem
open Cert.Reference29Ideal.Read

/-- The new first moment. -/
theorem first (x1 x2 : (⟨Cert.Reference29Ideal.S2048x1536, .f32⟩ : BufTy).Contents (Elt Ideal)) :
    val_main_v4 (F := Ideal) x1 x2 = Cert.Kernel29Ideal.Value.G5 (F := Ideal) x1 x2 := by
  funext i
  rw [val_main_v4_apply, val_main_v1_apply, val_main_v0_apply, val_main_v3_apply, val_main_v2_apply]
  rfl

/-- The new second moment. -/
theorem second (x1 x3 : (⟨Cert.Reference29Ideal.S2048x1536, .f32⟩ : BufTy).Contents (Elt Ideal)) :
    val_main_v10 (F := Ideal) x1 x3 = Cert.Kernel29Ideal.Value.G6 (F := Ideal) x1 x3 := by
  funext i
  rw [val_main_v10_apply, val_main_v6_apply, val_main_v5_apply, val_main_v9_apply, val_main_v8_apply, val_main_v7_apply]
  rfl

/-- The step, of the weight, its gradient and the two moments before it. -/
theorem step (x0 x1 x2 x3 : (⟨Cert.Reference29Ideal.S2048x1536, .f32⟩ : BufTy).Contents (Elt Ideal)) :
    val_main_v23 (F := Ideal) x0 x1 x2 x3 = Cert.Kernel29Ideal.Value.G4 (F := Ideal) x1 x2 x3 x0 := by
  funext i
  rw [val_main_v23_apply, val_main_v22_apply, val_main_v21_apply, val_main_v20_apply, val_main_v19_apply, val_main_v18_apply, val_main_v17_apply,
    val_main_v16_apply, val_main_v15_apply, val_main_v14_apply, val_main_v13_apply, val_main_v12_apply, val_main_v11_apply, first, second]
  rfl

end Cert.Kernel29Ideal.Adam

namespace Cert.Proof

open Idealize.ShloMosaic Idealize.ShloMosaic.TcCoe Idealize.SL.Sem
open Cert.Reference29Ideal.Read

/-- Over the extended reals the call and the reference end with equal steps and moments. -/
theorem algebraic29 : Cert.algebraic_Kernel29Ideal_Reference29Ideal (hKernel29Ideal := Cert.Kernel29Ideal.Gen.facts)
    (hReference29Ideal := Cert.Reference29Ideal.Gen.facts) := by
  intro m g m' g' _ harg
  refine ⟨fun c => val_main_v23 (F := Ideal) (m ((c.tc : Thread _ _).loc Cert.Kernel29Ideal.main_arg0)) (m ((c.tc : Thread _ _).loc Cert.Kernel29Ideal.main_arg1))
      (m ((c.tc : Thread _ _).loc Cert.Kernel29Ideal.main_arg2)) (m ((c.tc : Thread _ _).loc Cert.Kernel29Ideal.main_arg3)),
    fun c => val_main_v4 (F := Ideal) (m ((c.tc : Thread _ _).loc Cert.Kernel29Ideal.main_arg1)) (m ((c.tc : Thread _ _).loc Cert.Kernel29Ideal.main_arg2)),
    fun c => val_main_v10 (F := Ideal) (m ((c.tc : Thread _ _).loc Cert.Kernel29Ideal.main_arg1)) (m ((c.tc : Thread _ _).loc Cert.Kernel29Ideal.main_arg3)), ?_, ?_⟩
  · refine (θ_run Cert.Kernel29Ideal.defs _ _).mono (fun r h c => ?_) (Cert.Kernel29Ideal.Value.run (F := Ideal) m g)
    obtain ⟨h0, h1, h2, h3⟩ := h c
    exact ⟨h0.trans (Cert.Kernel29Ideal.Adam.step _ _ _ _).symm, h1.trans (Cert.Kernel29Ideal.Adam.first _ _).symm,
      h2.trans (Cert.Kernel29Ideal.Adam.second _ _).symm, h3⟩
  · refine (θ_run Cert.Reference29Ideal.defs _ _).mono (fun r h c => ?_) (Cert.Reference29Ideal.Value.run (F := Ideal) m' g')
    obtain ⟨a0, a1, a2, a3⟩ := harg c
    obtain ⟨h0, h1, h2, h3⟩ := h c
    exact ⟨h0.trans ((val_main_v23_eq _ _ _ _).trans (by rw [a0, a1, a2, a3])), h1.trans ((val_main_v4_eq _ _).trans (by rw [a1, a2])),
      h2.trans ((val_main_v10_eq _ _).trans (by rw [a1, a3])), h3⟩

end Cert.Proof
-- ==== Proof.Adam30.lean ====
/- AdamW on one device's part of conv_w_out or of sb_w_o (512 rows of 2048): the step and the two new moments that the call leaves are the reference's. -/
module

public import proofs.«01_k».proof.Defs
public import proofs.«01_k».proof.Proof.Gen.Kernel30Ideal.Value
public import proofs.«01_k».proof.Proof.Gen.Reference30Ideal.Read
public import proofs.«01_k».proof.Proof.Gen.Reference30Ideal.Run

@[expose] public section

set_option maxRecDepth 16384

noncomputable section

namespace Cert.Kernel30Ideal.Adam

open Idealize.ShloMosaic Idealize.ShloMosaic.TcCoe Idealize.SL.Sem
open Cert.Reference30Ideal.Read

/-- The new first moment. -/
theorem first (x1 x2 : (⟨Cert.Reference30Ideal.S512x2048, .f32⟩ : BufTy).Contents (Elt Ideal)) :
    val_main_v4 (F := Ideal) x1 x2 = Cert.Kernel30Ideal.Value.G5 (F := Ideal) x1 x2 := by
  funext i
  rw [val_main_v4_apply, val_main_v1_apply, val_main_v0_apply, val_main_v3_apply, val_main_v2_apply]
  rfl

/-- The new second moment. -/
theorem second (x1 x3 : (⟨Cert.Reference30Ideal.S512x2048, .f32⟩ : BufTy).Contents (Elt Ideal)) :
    val_main_v10 (F := Ideal) x1 x3 = Cert.Kernel30Ideal.Value.G6 (F := Ideal) x1 x3 := by
  funext i
  rw [val_main_v10_apply, val_main_v6_apply, val_main_v5_apply, val_main_v9_apply, val_main_v8_apply, val_main_v7_apply]
  rfl

/-- The step, of the weight, its gradient and the two moments before it. -/
theorem step (x0 x1 x2 x3 : (⟨Cert.Reference30Ideal.S512x2048, .f32⟩ : BufTy).Contents (Elt Ideal)) :
    val_main_v23 (F := Ideal) x0 x1 x2 x3 = Cert.Kernel30Ideal.Value.G4 (F := Ideal) x1 x2 x3 x0 := by
  funext i
  rw [val_main_v23_apply, val_main_v22_apply, val_main_v21_apply, val_main_v20_apply, val_main_v19_apply, val_main_v18_apply, val_main_v17_apply,
    val_main_v16_apply, val_main_v15_apply, val_main_v14_apply, val_main_v13_apply, val_main_v12_apply, val_main_v11_apply, first, second]
  rfl

end Cert.Kernel30Ideal.Adam

namespace Cert.Proof

open Idealize.ShloMosaic Idealize.ShloMosaic.TcCoe Idealize.SL.Sem
open Cert.Reference30Ideal.Read

/-- Over the extended reals the call and the reference end with equal steps and moments. -/
theorem algebraic30 : Cert.algebraic_Kernel30Ideal_Reference30Ideal (hKernel30Ideal := Cert.Kernel30Ideal.Gen.facts)
    (hReference30Ideal := Cert.Reference30Ideal.Gen.facts) := by
  intro m g m' g' _ harg
  refine ⟨fun c => val_main_v23 (F := Ideal) (m ((c.tc : Thread _ _).loc Cert.Kernel30Ideal.main_arg0)) (m ((c.tc : Thread _ _).loc Cert.Kernel30Ideal.main_arg1))
      (m ((c.tc : Thread _ _).loc Cert.Kernel30Ideal.main_arg2)) (m ((c.tc : Thread _ _).loc Cert.Kernel30Ideal.main_arg3)),
    fun c => val_main_v4 (F := Ideal) (m ((c.tc : Thread _ _).loc Cert.Kernel30Ideal.main_arg1)) (m ((c.tc : Thread _ _).loc Cert.Kernel30Ideal.main_arg2)),
    fun c => val_main_v10 (F := Ideal) (m ((c.tc : Thread _ _).loc Cert.Kernel30Ideal.main_arg1)) (m ((c.tc : Thread _ _).loc Cert.Kernel30Ideal.main_arg3)), ?_, ?_⟩
  · refine (θ_run Cert.Kernel30Ideal.defs _ _).mono (fun r h c => ?_) (Cert.Kernel30Ideal.Value.run (F := Ideal) m g)
    obtain ⟨h0, h1, h2, h3⟩ := h c
    exact ⟨h0.trans (Cert.Kernel30Ideal.Adam.step _ _ _ _).symm, h1.trans (Cert.Kernel30Ideal.Adam.first _ _).symm,
      h2.trans (Cert.Kernel30Ideal.Adam.second _ _).symm, h3⟩
  · refine (θ_run Cert.Reference30Ideal.defs _ _).mono (fun r h c => ?_) (Cert.Reference30Ideal.Value.run (F := Ideal) m' g')
    obtain ⟨a0, a1, a2, a3⟩ := harg c
    obtain ⟨h0, h1, h2, h3⟩ := h c
    exact ⟨h0.trans ((val_main_v23_eq _ _ _ _).trans (by rw [a0, a1, a2, a3])), h1.trans ((val_main_v4_eq _ _).trans (by rw [a1, a2])),
      h2.trans ((val_main_v10_eq _ _).trans (by rw [a1, a3])), h3⟩

end Cert.Proof
-- ==== Proof.Adam31.lean ====
/- AdamW on one device's part of pool_w (1024 rows of 512): the step and the two new moments that the call leaves are the reference's. -/
module

public import proofs.«01_k».proof.Defs
public import proofs.«01_k».proof.Proof.Gen.Kernel31Ideal.Value
public import proofs.«01_k».proof.Proof.Gen.Reference31Ideal.Read
public import proofs.«01_k».proof.Proof.Gen.Reference31Ideal.Run

@[expose] public section

set_option maxRecDepth 16384

noncomputable section

namespace Cert.Kernel31Ideal.Adam

open Idealize.ShloMosaic Idealize.ShloMosaic.TcCoe Idealize.SL.Sem
open Cert.Reference31Ideal.Read

/-- The new first moment. -/
theorem first (x1 x2 : (⟨Cert.Reference31Ideal.S1024x512, .f32⟩ : BufTy).Contents (Elt Ideal)) :
    val_main_v4 (F := Ideal) x1 x2 = Cert.Kernel31Ideal.Value.G5 (F := Ideal) x1 x2 := by
  funext i
  rw [val_main_v4_apply, val_main_v1_apply, val_main_v0_apply, val_main_v3_apply, val_main_v2_apply]
  rfl

/-- The new second moment. -/
theorem second (x1 x3 : (⟨Cert.Reference31Ideal.S1024x512, .f32⟩ : BufTy).Contents (Elt Ideal)) :
    val_main_v10 (F := Ideal) x1 x3 = Cert.Kernel31Ideal.Value.G6 (F := Ideal) x1 x3 := by
  funext i
  rw [val_main_v10_apply, val_main_v6_apply, val_main_v5_apply, val_main_v9_apply, val_main_v8_apply, val_main_v7_apply]
  rfl

/-- The step, of the weight, its gradient and the two moments before it. -/
theorem step (x0 x1 x2 x3 : (⟨Cert.Reference31Ideal.S1024x512, .f32⟩ : BufTy).Contents (Elt Ideal)) :
    val_main_v23 (F := Ideal) x0 x1 x2 x3 = Cert.Kernel31Ideal.Value.G4 (F := Ideal) x1 x2 x3 x0 := by
  funext i
  rw [val_main_v23_apply, val_main_v22_apply, val_main_v21_apply, val_main_v20_apply, val_main_v19_apply, val_main_v18_apply, val_main_v17_apply,
    val_main_v16_apply, val_main_v15_apply, val_main_v14_apply, val_main_v13_apply, val_main_v12_apply, val_main_v11_apply, first, second]
  rfl

end Cert.Kernel31Ideal.Adam

namespace Cert.Proof

open Idealize.ShloMosaic Idealize.ShloMosaic.TcCoe Idealize.SL.Sem
open Cert.Reference31Ideal.Read

/-- Over the extended reals the call and the reference end with equal steps and moments. -/
theorem algebraic31 : Cert.algebraic_Kernel31Ideal_Reference31Ideal (hKernel31Ideal := Cert.Kernel31Ideal.Gen.facts)
    (hReference31Ideal := Cert.Reference31Ideal.Gen.facts) := by
  intro m g m' g' _ harg
  refine ⟨fun c => val_main_v23 (F := Ideal) (m ((c.tc : Thread _ _).loc Cert.Kernel31Ideal.main_arg0)) (m ((c.tc : Thread _ _).loc Cert.Kernel31Ideal.main_arg1))
      (m ((c.tc : Thread _ _).loc Cert.Kernel31Ideal.main_arg2)) (m ((c.tc : Thread _ _).loc Cert.Kernel31Ideal.main_arg3)),
    fun c => val_main_v4 (F := Ideal) (m ((c.tc : Thread _ _).loc Cert.Kernel31Ideal.main_arg1)) (m ((c.tc : Thread _ _).loc Cert.Kernel31Ideal.main_arg2)),
    fun c => val_main_v10 (F := Ideal) (m ((c.tc : Thread _ _).loc Cert.Kernel31Ideal.main_arg1)) (m ((c.tc : Thread _ _).loc Cert.Kernel31Ideal.main_arg3)), ?_, ?_⟩
  · refine (θ_run Cert.Kernel31Ideal.defs _ _).mono (fun r h c => ?_) (Cert.Kernel31Ideal.Value.run (F := Ideal) m g)
    obtain ⟨h0, h1, h2, h3⟩ := h c
    exact ⟨h0.trans (Cert.Kernel31Ideal.Adam.step _ _ _ _).symm, h1.trans (Cert.Kernel31Ideal.Adam.first _ _).symm,
      h2.trans (Cert.Kernel31Ideal.Adam.second _ _).symm, h3⟩
  · refine (θ_run Cert.Reference31Ideal.defs _ _).mono (fun r h c => ?_) (Cert.Reference31Ideal.Value.run (F := Ideal) m' g')
    obtain ⟨a0, a1, a2, a3⟩ := harg c
    obtain ⟨h0, h1, h2, h3⟩ := h c
    exact ⟨h0.trans ((val_main_v23_eq _ _ _ _).trans (by rw [a0, a1, a2, a3])), h1.trans ((val_main_v4_eq _ _).trans (by rw [a1, a2])),
      h2.trans ((val_main_v10_eq _ _).trans (by rw [a1, a3])), h3⟩

end Cert.Proof
-- ==== Proof.Adam32.lean ====
/- AdamW on one device's part of norm_mix_g or of norm_ffn_g (4 rows of 2048): the step and the two new moments that the call leaves are the reference's. -/
module

public import proofs.«01_k».proof.Defs
public import proofs.«01_k».proof.Proof.Gen.Kernel32Ideal.Value
public import proofs.«01_k».proof.Proof.Gen.Reference32Ideal.Read
public import proofs.«01_k».proof.Proof.Gen.Reference32Ideal.Run

@[expose] public section

set_option maxRecDepth 16384

noncomputable section

namespace Cert.Kernel32Ideal.Adam

open Idealize.ShloMosaic Idealize.ShloMosaic.TcCoe Idealize.SL.Sem
open Cert.Reference32Ideal.Read

/-- The new first moment. -/
theorem first (x1 x2 : (⟨Cert.Reference32Ideal.S4x2048, .f32⟩ : BufTy).Contents (Elt Ideal)) :
    val_main_v4 (F := Ideal) x1 x2 = Cert.Kernel32Ideal.Value.G5 (F := Ideal) x1 x2 := by
  funext i
  rw [val_main_v4_apply, val_main_v1_apply, val_main_v0_apply, val_main_v3_apply, val_main_v2_apply]
  rfl

/-- The new second moment. -/
theorem second (x1 x3 : (⟨Cert.Reference32Ideal.S4x2048, .f32⟩ : BufTy).Contents (Elt Ideal)) :
    val_main_v10 (F := Ideal) x1 x3 = Cert.Kernel32Ideal.Value.G6 (F := Ideal) x1 x3 := by
  funext i
  rw [val_main_v10_apply, val_main_v6_apply, val_main_v5_apply, val_main_v9_apply, val_main_v8_apply, val_main_v7_apply]
  rfl

/-- The step, of the weight, its gradient and the two moments before it. -/
theorem step (x0 x1 x2 x3 : (⟨Cert.Reference32Ideal.S4x2048, .f32⟩ : BufTy).Contents (Elt Ideal)) :
    val_main_v23 (F := Ideal) x0 x1 x2 x3 = Cert.Kernel32Ideal.Value.G4 (F := Ideal) x1 x2 x3 x0 := by
  funext i
  rw [val_main_v23_apply, val_main_v22_apply, val_main_v21_apply, val_main_v20_apply, val_main_v19_apply, val_main_v18_apply, val_main_v17_apply,
    val_main_v16_apply, val_main_v15_apply, val_main_v14_apply, val_main_v13_apply, val_main_v12_apply, val_main_v11_apply, first, second]
  rfl

end Cert.Kernel32Ideal.Adam

namespace Cert.Proof

open Idealize.ShloMosaic Idealize.ShloMosaic.TcCoe Idealize.SL.Sem
open Cert.Reference32Ideal.Read

/-- Over the extended reals the call and the reference end with equal steps and moments. -/
theorem algebraic32 : Cert.algebraic_Kernel32Ideal_Reference32Ideal (hKernel32Ideal := Cert.Kernel32Ideal.Gen.facts)
    (hReference32Ideal := Cert.Reference32Ideal.Gen.facts) := by
  intro m g m' g' _ harg
  refine ⟨fun c => val_main_v23 (F := Ideal) (m ((c.tc : Thread _ _).loc Cert.Kernel32Ideal.main_arg0)) (m ((c.tc : Thread _ _).loc Cert.Kernel32Ideal.main_arg1))
      (m ((c.tc : Thread _ _).loc Cert.Kernel32Ideal.main_arg2)) (m ((c.tc : Thread _ _).loc Cert.Kernel32Ideal.main_arg3)),
    fun c => val_main_v4 (F := Ideal) (m ((c.tc : Thread _ _).loc Cert.Kernel32Ideal.main_arg1)) (m ((c.tc : Thread _ _).loc Cert.Kernel32Ideal.main_arg2)),
    fun c => val_main_v10 (F := Ideal) (m ((c.tc : Thread _ _).loc Cert.Kernel32Ideal.main_arg1)) (m ((c.tc : Thread _ _).loc Cert.Kernel32Ideal.main_arg3)), ?_, ?_⟩
  · refine (θ_run Cert.Kernel32Ideal.defs _ _).mono (fun r h c => ?_) (Cert.Kernel32Ideal.Value.run (F := Ideal) m g)
    obtain ⟨h0, h1, h2, h3⟩ := h c
    exact ⟨h0.trans (Cert.Kernel32Ideal.Adam.step _ _ _ _).symm, h1.trans (Cert.Kernel32Ideal.Adam.first _ _).symm,
      h2.trans (Cert.Kernel32Ideal.Adam.second _ _).symm, h3⟩
  · refine (θ_run Cert.Reference32Ideal.defs _ _).mono (fun r h c => ?_) (Cert.Reference32Ideal.Value.run (F := Ideal) m' g')
    obtain ⟨a0, a1, a2, a3⟩ := harg c
    obtain ⟨h0, h1, h2, h3⟩ := h c
    exact ⟨h0.trans ((val_main_v23_eq _ _ _ _).trans (by rw [a0, a1, a2, a3])), h1.trans ((val_main_v4_eq _ _).trans (by rw [a1, a2])),
      h2.trans ((val_main_v10_eq _ _).trans (by rw [a1, a3])), h3⟩

end Cert.Proof
-- ==== Proof.Adam33.lean ====
/- AdamW on one device's part of b_mod (4 rows of 12288): the step and the two new moments that the call leaves are the reference's. -/
module

public import proofs.«01_k».proof.Defs
public import proofs.«01_k».proof.Proof.Gen.Kernel33Ideal.Value
public import proofs.«01_k».proof.Proof.Gen.Reference33Ideal.Read
public import proofs.«01_k».proof.Proof.Gen.Reference33Ideal.Run

@[expose] public section

set_option maxRecDepth 16384

noncomputable section

namespace Cert.Kernel33Ideal.Adam

open Idealize.ShloMosaic Idealize.ShloMosaic.TcCoe Idealize.SL.Sem
open Cert.Reference33Ideal.Read

/-- The new first moment. -/
theorem first (x1 x2 : (⟨Cert.Reference33Ideal.S4x12288, .f32⟩ : BufTy).Contents (Elt Ideal)) :
    val_main_v4 (F := Ideal) x1 x2 = Cert.Kernel33Ideal.Value.G5 (F := Ideal) x1 x2 := by
  funext i
  rw [val_main_v4_apply, val_main_v1_apply, val_main_v0_apply, val_main_v3_apply, val_main_v2_apply]
  rfl

/-- The new second moment. -/
theorem second (x1 x3 : (⟨Cert.Reference33Ideal.S4x12288, .f32⟩ : BufTy).Contents (Elt Ideal)) :
    val_main_v10 (F := Ideal) x1 x3 = Cert.Kernel33Ideal.Value.G6 (F := Ideal) x1 x3 := by
  funext i
  rw [val_main_v10_apply, val_main_v6_apply, val_main_v5_apply, val_main_v9_apply, val_main_v8_apply, val_main_v7_apply]
  rfl

/-- The step, of the weight, its gradient and the two moments before it. -/
theorem step (x0 x1 x2 x3 : (⟨Cert.Reference33Ideal.S4x12288, .f32⟩ : BufTy).Contents (Elt Ideal)) :
    val_main_v23 (F := Ideal) x0 x1 x2 x3 = Cert.Kernel33Ideal.Value.G4 (F := Ideal) x1 x2 x3 x0 := by
  funext i
  rw [val_main_v23_apply, val_main_v22_apply, val_main_v21_apply, val_main_v20_apply, val_main_v19_apply, val_main_v18_apply, val_main_v17_apply,
    val_main_v16_apply, val_main_v15_apply, val_main_v14_apply, val_main_v13_apply, val_main_v12_apply, val_main_v11_apply, first, second]
  rfl

end Cert.Kernel33Ideal.Adam

namespace Cert.Proof

open Idealize.ShloMosaic Idealize.ShloMosaic.TcCoe Idealize.SL.Sem
open Cert.Reference33Ideal.Read

/-- Over the extended reals the call and the reference end with equal steps and moments. -/
theorem algebraic33 : Cert.algebraic_Kernel33Ideal_Reference33Ideal (hKernel33Ideal := Cert.Kernel33Ideal.Gen.facts)
    (hReference33Ideal := Cert.Reference33Ideal.Gen.facts) := by
  intro m g m' g' _ harg
  refine ⟨fun c => val_main_v23 (F := Ideal) (m ((c.tc : Thread _ _).loc Cert.Kernel33Ideal.main_arg0)) (m ((c.tc : Thread _ _).loc Cert.Kernel33Ideal.main_arg1))
      (m ((c.tc : Thread _ _).loc Cert.Kernel33Ideal.main_arg2)) (m ((c.tc : Thread _ _).loc Cert.Kernel33Ideal.main_arg3)),
    fun c => val_main_v4 (F := Ideal) (m ((c.tc : Thread _ _).loc Cert.Kernel33Ideal.main_arg1)) (m ((c.tc : Thread _ _).loc Cert.Kernel33Ideal.main_arg2)),
    fun c => val_main_v10 (F := Ideal) (m ((c.tc : Thread _ _).loc Cert.Kernel33Ideal.main_arg1)) (m ((c.tc : Thread _ _).loc Cert.Kernel33Ideal.main_arg3)), ?_, ?_⟩
  · refine (θ_run Cert.Kernel33Ideal.defs _ _).mono (fun r h c => ?_) (Cert.Kernel33Ideal.Value.run (F := Ideal) m g)
    obtain ⟨h0, h1, h2, h3⟩ := h c
    exact ⟨h0.trans (Cert.Kernel33Ideal.Adam.step _ _ _ _).symm, h1.trans (Cert.Kernel33Ideal.Adam.first _ _).symm,
      h2.trans (Cert.Kernel33Ideal.Adam.second _ _).symm, h3⟩
  · refine (θ_run Cert.Reference33Ideal.defs _ _).mono (fun r h c => ?_) (Cert.Reference33Ideal.Value.run (F := Ideal) m' g')
    obtain ⟨a0, a1, a2, a3⟩ := harg c
    obtain ⟨h0, h1, h2, h3⟩ := h c
    exact ⟨h0.trans ((val_main_v23_eq _ _ _ _).trans (by rw [a0, a1, a2, a3])), h1.trans ((val_main_v4_eq _ _).trans (by rw [a1, a2])),
      h2.trans ((val_main_v10_eq _ _).trans (by rw [a1, a3])), h3⟩

end Cert.Proof
-- ==== Proof.Adam34.lean ====
/- AdamW on one device's part of pool_scale (2 rows of 512): the step and the two new moments that the call leaves are the reference's. -/
module

public import proofs.«01_k».proof.Defs
public import proofs.«01_k».proof.Proof.Gen.Kernel34Ideal.Value
public import proofs.«01_k».proof.Proof.Gen.Reference34Ideal.Read
public import proofs.«01_k».proof.Proof.Gen.Reference34Ideal.Run

@[expose] public section

set_option maxRecDepth 16384

noncomputable section

namespace Cert.Kernel34Ideal.Adam

open Idealize.ShloMosaic Idealize.ShloMosaic.TcCoe Idealize.SL.Sem
open Cert.Reference34Ideal.Read

/-- The new first moment. -/
theorem first (x1 x2 : (⟨Cert.Reference34Ideal.S2x512, .f32⟩ : BufTy).Contents (Elt Ideal)) :
    val_main_v4 (F := Ideal) x1 x2 = Cert.Kernel34Ideal.Value.G5 (F := Ideal) x1 x2 := by
  funext i
  rw [val_main_v4_apply, val_main_v1_apply, val_main_v0_apply, val_main_v3_apply, val_main_v2_apply]
  rfl

/-- The new second moment. -/
theorem second (x1 x3 : (⟨Cert.Reference34Ideal.S2x512, .f32⟩ : BufTy).Contents (Elt Ideal)) :
    val_main_v10 (F := Ideal) x1 x3 = Cert.Kernel34Ideal.Value.G6 (F := Ideal) x1 x3 := by
  funext i
  rw [val_main_v10_apply, val_main_v6_apply, val_main_v5_apply, val_main_v9_apply, val_main_v8_apply, val_main_v7_apply]
  rfl

/-- The step, of the weight, its gradient and the two moments before it. -/
theorem step (x0 x1 x2 x3 : (⟨Cert.Reference34Ideal.S2x512, .f32⟩ : BufTy).Contents (Elt Ideal)) :
    val_main_v23 (F := Ideal) x0 x1 x2 x3 = Cert.Kernel34Ideal.Value.G4 (F := Ideal) x1 x2 x3 x0 := by
  funext i
  rw [val_main_v23_apply, val_main_v22_apply, val_main_v21_apply, val_main_v20_apply, val_main_v19_apply, val_main_v18_apply, val_main_v17_apply,
    val_main_v16_apply, val_main_v15_apply, val_main_v14_apply, val_main_v13_apply, val_main_v12_apply, val_main_v11_apply, first, second]
  rfl

end Cert.Kernel34Ideal.Adam

namespace Cert.Proof

open Idealize.ShloMosaic Idealize.ShloMosaic.TcCoe Idealize.SL.Sem
open Cert.Reference34Ideal.Read

/-- Over the extended reals the call and the reference end with equal steps and moments. -/
theorem algebraic34 : Cert.algebraic_Kernel34Ideal_Reference34Ideal (hKernel34Ideal := Cert.Kernel34Ideal.Gen.facts)
    (hReference34Ideal := Cert.Reference34Ideal.Gen.facts) := by
  intro m g m' g' _ harg
  refine ⟨fun c => val_main_v23 (F := Ideal) (m ((c.tc : Thread _ _).loc Cert.Kernel34Ideal.main_arg0)) (m ((c.tc : Thread _ _).loc Cert.Kernel34Ideal.main_arg1))
      (m ((c.tc : Thread _ _).loc Cert.Kernel34Ideal.main_arg2)) (m ((c.tc : Thread _ _).loc Cert.Kernel34Ideal.main_arg3)),
    fun c => val_main_v4 (F := Ideal) (m ((c.tc : Thread _ _).loc Cert.Kernel34Ideal.main_arg1)) (m ((c.tc : Thread _ _).loc Cert.Kernel34Ideal.main_arg2)),
    fun c => val_main_v10 (F := Ideal) (m ((c.tc : Thread _ _).loc Cert.Kernel34Ideal.main_arg1)) (m ((c.tc : Thread _ _).loc Cert.Kernel34Ideal.main_arg3)), ?_, ?_⟩
  · refine (θ_run Cert.Kernel34Ideal.defs _ _).mono (fun r h c => ?_) (Cert.Kernel34Ideal.Value.run (F := Ideal) m g)
    obtain ⟨h0, h1, h2, h3⟩ := h c
    exact ⟨h0.trans (Cert.Kernel34Ideal.Adam.step _ _ _ _).symm, h1.trans (Cert.Kernel34Ideal.Adam.first _ _).symm,
      h2.trans (Cert.Kernel34Ideal.Adam.second _ _).symm, h3⟩
  · refine (θ_run Cert.Reference34Ideal.defs _ _).mono (fun r h c => ?_) (Cert.Reference34Ideal.Value.run (F := Ideal) m' g')
    obtain ⟨a0, a1, a2, a3⟩ := harg c
    obtain ⟨h0, h1, h2, h3⟩ := h c
    exact ⟨h0.trans ((val_main_v23_eq _ _ _ _).trans (by rw [a0, a1, a2, a3])), h1.trans ((val_main_v4_eq _ _).trans (by rw [a1, a2])),
      h2.trans ((val_main_v10_eq _ _).trans (by rw [a1, a3])), h3⟩

end Cert.Proof
-- ==== Proof.Adam35.lean ====
/- AdamW on one device's part of conv_w (3 rows of 512): the step and the two new moments that the call leaves are the reference's. -/
module

public import proofs.«01_k».proof.Defs
public import proofs.«01_k».proof.Proof.Gen.Kernel35Ideal.Value
public import proofs.«01_k».proof.Proof.Gen.Reference35Ideal.Read
public import proofs.«01_k».proof.Proof.Gen.Reference35Ideal.Run

@[expose] public section

set_option maxRecDepth 16384

noncomputable section

namespace Cert.Kernel35Ideal.Adam

open Idealize.ShloMosaic Idealize.ShloMosaic.TcCoe Idealize.SL.Sem
open Cert.Reference35Ideal.Read

/-- The new first moment. -/
theorem first (x1 x2 : (⟨Cert.Reference35Ideal.S3x512, .f32⟩ : BufTy).Contents (Elt Ideal)) :
    val_main_v4 (F := Ideal) x1 x2 = Cert.Kernel35Ideal.Value.G5 (F := Ideal) x1 x2 := by
  funext i
  rw [val_main_v4_apply, val_main_v1_apply, val_main_v0_apply, val_main_v3_apply, val_main_v2_apply]
  rfl

/-- The new second moment. -/
theorem second (x1 x3 : (⟨Cert.Reference35Ideal.S3x512, .f32⟩ : BufTy).Contents (Elt Ideal)) :
    val_main_v10 (F := Ideal) x1 x3 = Cert.Kernel35Ideal.Value.G6 (F := Ideal) x1 x3 := by
  funext i
  rw [val_main_v10_apply, val_main_v6_apply, val_main_v5_apply, val_main_v9_apply, val_main_v8_apply, val_main_v7_apply]
  rfl

/-- The step, of the weight, its gradient and the two moments before it. -/
theorem step (x0 x1 x2 x3 : (⟨Cert.Reference35Ideal.S3x512, .f32⟩ : BufTy).Contents (Elt Ideal)) :
    val_main_v23 (F := Ideal) x0 x1 x2 x3 = Cert.Kernel35Ideal.Value.G4 (F := Ideal) x1 x2 x3 x0 := by
  funext i
  rw [val_main_v23_apply, val_main_v22_apply, val_main_v21_apply, val_main_v20_apply, val_main_v19_apply, val_main_v18_apply, val_main_v17_apply,
    val_main_v16_apply, val_main_v15_apply, val_main_v14_apply, val_main_v13_apply, val_main_v12_apply, val_main_v11_apply, first, second]
  rfl

end Cert.Kernel35Ideal.Adam

namespace Cert.Proof

open Idealize.ShloMosaic Idealize.ShloMosaic.TcCoe Idealize.SL.Sem
open Cert.Reference35Ideal.Read

/-- Over the extended reals the call and the reference end with equal steps and moments. -/
theorem algebraic35 : Cert.algebraic_Kernel35Ideal_Reference35Ideal (hKernel35Ideal := Cert.Kernel35Ideal.Gen.facts)
    (hReference35Ideal := Cert.Reference35Ideal.Gen.facts) := by
  intro m g m' g' _ harg
  refine ⟨fun c => val_main_v23 (F := Ideal) (m ((c.tc : Thread _ _).loc Cert.Kernel35Ideal.main_arg0)) (m ((c.tc : Thread _ _).loc Cert.Kernel35Ideal.main_arg1))
      (m ((c.tc : Thread _ _).loc Cert.Kernel35Ideal.main_arg2)) (m ((c.tc : Thread _ _).loc Cert.Kernel35Ideal.main_arg3)),
    fun c => val_main_v4 (F := Ideal) (m ((c.tc : Thread _ _).loc Cert.Kernel35Ideal.main_arg1)) (m ((c.tc : Thread _ _).loc Cert.Kernel35Ideal.main_arg2)),
    fun c => val_main_v10 (F := Ideal) (m ((c.tc : Thread _ _).loc Cert.Kernel35Ideal.main_arg1)) (m ((c.tc : Thread _ _).loc Cert.Kernel35Ideal.main_arg3)), ?_, ?_⟩
  · refine (θ_run Cert.Kernel35Ideal.defs _ _).mono (fun r h c => ?_) (Cert.Kernel35Ideal.Value.run (F := Ideal) m g)
    obtain ⟨h0, h1, h2, h3⟩ := h c
    exact ⟨h0.trans (Cert.Kernel35Ideal.Adam.step _ _ _ _).symm, h1.trans (Cert.Kernel35Ideal.Adam.first _ _).symm,
      h2.trans (Cert.Kernel35Ideal.Adam.second _ _).symm, h3⟩
  · refine (θ_run Cert.Reference35Ideal.defs _ _).mono (fun r h c => ?_) (Cert.Reference35Ideal.Value.run (F := Ideal) m' g')
    obtain ⟨a0, a1, a2, a3⟩ := harg c
    obtain ⟨h0, h1, h2, h3⟩ := h c
    exact ⟨h0.trans ((val_main_v23_eq _ _ _ _).trans (by rw [a0, a1, a2, a3])), h1.trans ((val_main_v4_eq _ _).trans (by rw [a1, a2])),
      h2.trans ((val_main_v10_eq _ _).trans (by rw [a1, a3])), h3⟩

end Cert.Proof
-- ==== Proof.Adam36.lean ====
/- AdamW on one device's part of final_g (1 rows of 2048): the step and the two new moments that the call leaves are the reference's. -/
module

public import proofs.«01_k».proof.Defs
public import proofs.«01_k».proof.Proof.Gen.Kernel36Ideal.Value
public import proofs.«01_k».proof.Proof.Gen.Reference36Ideal.Read
public import proofs.«01_k».proof.Proof.Gen.Reference36Ideal.Run

@[expose] public section

set_option maxRecDepth 16384

noncomputable section

namespace Cert.Kernel36Ideal.Adam

open Idealize.ShloMosaic Idealize.ShloMosaic.TcCoe Idealize.SL.Sem
open Cert.Reference36Ideal.Read

/-- The new first moment. -/
theorem first (x1 x2 : (⟨Cert.Reference36Ideal.S1x2048, .f32⟩ : BufTy).Contents (Elt Ideal)) :
    val_main_v4 (F := Ideal) x1 x2 = Cert.Kernel36Ideal.Value.G5 (F := Ideal) x1 x2 := by
  funext i
  rw [val_main_v4_apply, val_main_v1_apply, val_main_v0_apply, val_main_v3_apply, val_main_v2_apply]
  rfl

/-- The new second moment. -/
theorem second (x1 x3 : (⟨Cert.Reference36Ideal.S1x2048, .f32⟩ : BufTy).Contents (Elt Ideal)) :
    val_main_v10 (F := Ideal) x1 x3 = Cert.Kernel36Ideal.Value.G6 (F := Ideal) x1 x3 := by
  funext i
  rw [val_main_v10_apply, val_main_v6_apply, val_main_v5_apply, val_main_v9_apply, val_main_v8_apply, val_main_v7_apply]
  rfl

/-- The step, of the weight, its gradient and the two moments before it. -/
theorem step (x0 x1 x2 x3 : (⟨Cert.Reference36Ideal.S1x2048, .f32⟩ : BufTy).Contents (Elt Ideal)) :
    val_main_v23 (F := Ideal) x0 x1 x2 x3 = Cert.Kernel36Ideal.Value.G4 (F := Ideal) x1 x2 x3 x0 := by
  funext i
  rw [val_main_v23_apply, val_main_v22_apply, val_main_v21_apply, val_main_v20_apply, val_main_v19_apply, val_main_v18_apply, val_main_v17_apply,
    val_main_v16_apply, val_main_v15_apply, val_main_v14_apply, val_main_v13_apply, val_main_v12_apply, val_main_v11_apply, first, second]
  rfl

end Cert.Kernel36Ideal.Adam

namespace Cert.Proof

open Idealize.ShloMosaic Idealize.ShloMosaic.TcCoe Idealize.SL.Sem
open Cert.Reference36Ideal.Read

/-- Over the extended reals the call and the reference end with equal steps and moments. -/
theorem algebraic36 : Cert.algebraic_Kernel36Ideal_Reference36Ideal (hKernel36Ideal := Cert.Kernel36Ideal.Gen.facts)
    (hReference36Ideal := Cert.Reference36Ideal.Gen.facts) := by
  intro m g m' g' _ harg
  refine ⟨fun c => val_main_v23 (F := Ideal) (m ((c.tc : Thread _ _).loc Cert.Kernel36Ideal.main_arg0)) (m ((c.tc : Thread _ _).loc Cert.Kernel36Ideal.main_arg1))
      (m ((c.tc : Thread _ _).loc Cert.Kernel36Ideal.main_arg2)) (m ((c.tc : Thread _ _).loc Cert.Kernel36Ideal.main_arg3)),
    fun c => val_main_v4 (F := Ideal) (m ((c.tc : Thread _ _).loc Cert.Kernel36Ideal.main_arg1)) (m ((c.tc : Thread _ _).loc Cert.Kernel36Ideal.main_arg2)),
    fun c => val_main_v10 (F := Ideal) (m ((c.tc : Thread _ _).loc Cert.Kernel36Ideal.main_arg1)) (m ((c.tc : Thread _ _).loc Cert.Kernel36Ideal.main_arg3)), ?_, ?_⟩
  · refine (θ_run Cert.Kernel36Ideal.defs _ _).mono (fun r h c => ?_) (Cert.Kernel36Ideal.Value.run (F := Ideal) m g)
    obtain ⟨h0, h1, h2, h3⟩ := h c
    exact ⟨h0.trans (Cert.Kernel36Ideal.Adam.step _ _ _ _).symm, h1.trans (Cert.Kernel36Ideal.Adam.first _ _).symm,
      h2.trans (Cert.Kernel36Ideal.Adam.second _ _).symm, h3⟩
  · refine (θ_run Cert.Reference36Ideal.defs _ _).mono (fun r h c => ?_) (Cert.Reference36Ideal.Value.run (F := Ideal) m' g')
    obtain ⟨a0, a1, a2, a3⟩ := harg c
    obtain ⟨h0, h1, h2, h3⟩ := h c
    exact ⟨h0.trans ((val_main_v23_eq _ _ _ _).trans (by rw [a0, a1, a2, a3])), h1.trans ((val_main_v4_eq _ _).trans (by rw [a1, a2])),
      h2.trans ((val_main_v10_eq _ _).trans (by rw [a1, a3])), h3⟩

end Cert.Proof
-- ==== Proof.FirstBackward.lean ====
/- The gradients of the first layer's normalisation, before which there is no layer: one grid point's values. -/
module

public import proofs.«01_k».proof.Defs
public import proofs.«01_k».proof.Proof.NormReal
public import proofs.«01_k».proof.Proof.Gen.Kernel37Ideal.Value
public import Idealize.ShloMosaic.Lib.Pipeline.ValueKit

@[expose] public section

set_option maxRecDepth 16384

noncomputable section

namespace Cert.Kernel37Ideal.Norm

open Idealize.ShloMosaic Idealize.ShloMosaic.TcCoe Idealize.SL.Sem
open Cert.Kernel37Ideal.Gen
open Idealize.ShloMosaic.Pipeline (Dat)

variable (m : (ℓ : Loc nD τ sig) → Buf (Elt Ideal) ℓ) (c : Dev nD)

/-- Which blocks grid point `t` reads and writes. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![0, 0] := by
  decide +kernel

/-- A row's mean square, and the number added to it, from the sum of its squares. -/
def mean (s : EReal) : EReal := Ideal.div s (Ideal.ofBits .f32 0x45000000#32) + Ideal.ofBits .f32 0x358637BD#32

/-- The gradient of the scaled entry. -/
def scaled (d scale : EReal) : EReal := d * (Ideal.ofBits .f32 0x3F800000#32 + scale)

/-- The reciprocal root of a row's mean square. -/
theorem part3 (v0 : Vec Ideal S256x2048 .f32) (y : S256x1.Idx) :
    k0_pay6 (F := Ideal) v0 y = Ideal.rsqrt (mean (∑ k : Fin 2048, v0 (ix2 (y 0) k) * v0 (ix2 (y 0) k))) := by
  unfold mean
  pointwise [k0_pay6]

/-- The normalised entry. -/
theorem part4 (v0 : Vec Ideal S256x2048 .f32) (y : S256x2048.Idx) :
    k0_pay7 (F := Ideal) v0 y = v0 y * Ideal.rsqrt (mean (∑ k : Fin 2048, v0 (ix2 (y 0) k) * v0 (ix2 (y 0) k))) := by
  unfold mean
  pointwise [k0_pay7, k0_pay6]

/-- The gradient of the entry before the shift and the scale. -/
theorem part5 (v1 : Vec Ideal S256x2048 .bf16) (v13 : Vec Ideal S1x2048 .f32) (y : S256x2048.Idx) :
    k0_pay8 (F := Ideal) v1 v13 y = scaled (v1 y) (v13 (ix2 0 (y 1))) := by
  unfold scaled
  pointwise [k0_pay8, k0_pay5]

/-- The gradient of the input, from the payloads before it. -/
theorem part6 (v0 : Vec Ideal S256x2048 .f32) (v1 : Vec Ideal S256x2048 .bf16) (v13 v18 : Vec Ideal S1x2048 .f32) (v21 : Vec Ideal S256x2048 .f32) (y : S256x2048.Idx) :
    k0_pay9 (F := Ideal) v0 v1 v13 v18 v21 y = v21 y + k0_pay6 (F := Ideal) v0 (ix2 (y 0) 0) * (k0_pay8 (F := Ideal) v1 v13 y * v18 (ix2 0 (y 1))
      - k0_pay7 (F := Ideal) v0 y * Ideal.div (∑ k : Fin 2048, k0_pay8 (F := Ideal) v1 v13 (ix2 (y 0) k) * v18 (ix2 0 k) * k0_pay7 (F := Ideal) v0 (ix2 (y 0) k))
        (Ideal.ofBits .f32 0x45000000#32)) := by
  pointwise [k0_pay9]

theorem part7 (v1 : Vec Ideal S256x2048 .bf16) (y : S1x2048.Idx) : k0_pay10 (F := Ideal) v1 y = ∑ r : Fin 256, v1 (ix2 r (y 1)) := by
  pointwise [k0_pay10, k0_pay5]

theorem part10 (y : S8x2048.Idx) : k0_pay1 (F := Ideal) y = (0 : EReal) := by
  pointwise [k0_pay1]
  try exact Ideal.ofBits_zero .f32

theorem part11 (v35 : FVec Ideal S1x2048 .f32) (v58 : Vec Ideal S1x2048 .f32) (y : S1x2048.Idx) :
    k0_pay2 (F := Ideal) v35 v58 y = (v58 y + v35 y : EReal) := by
  unfold k0_pay2
  rw [shapeCast_self]
  rfl

theorem part12 (v2 v12 : FVec Ideal S256x2048 .f32) (v36 : Vec Ideal S1x2048 .f32) (v62 : Vec Ideal S1x2048 .f32) (y : S1x2048.Idx) :
    k0_pay3 (F := Ideal) v2 v12 v36 v62 y = (v62 y + ∑ r : Fin 256, v2 (ix2 r (y 1)) * (v12 (ix2 r (y 1)) * v36 (ix2 0 (y 1))) : EReal) := by
  unfold k0_pay3
  rw [shapeCast_self]
  pointwise

theorem part13 (v12 v17 : FVec Ideal S256x2048 .f32) (v66 : Vec Ideal S1x2048 .f32) (y : S1x2048.Idx) :
    k0_pay4 (F := Ideal) v12 v17 v66 y = (v66 y + ∑ r : Fin 256, v17 (ix2 r (y 1)) * v12 (ix2 r (y 1)) : EReal) := by
  unfold k0_pay4
  rw [shapeCast_self]
  pointwise

end Cert.Kernel37Ideal.Norm
-- ==== Proof.FirstSums.lean ====
/- The gradients of the first layer's normalisation's parameters: what the call's second result holds from one grid point to the next. -/
module

public import proofs.«01_k».proof.Proof.FirstBackward
public import Idealize.ShloMosaic.Lib.Pipeline.ReadBack
public import Idealize.ShloMosaic.Lib.Writes

@[expose] public section

set_option maxRecDepth 16384

noncomputable section

namespace Cert.Kernel37Ideal.Norm

open Idealize.ShloMosaic Idealize.ShloMosaic.TcCoe Idealize.SL.Sem
open Cert.Kernel37Ideal.Gen
open Idealize.ShloMosaic.Pipeline (Dat)

variable (m : (ℓ : Loc nD τ sig) → Buf (Elt Ideal) ℓ) (c : Dev nD)

/-- A row's rectangle holds the row. -/
theorem row_emb (k : ℕ) (inb : ∀ a, (![k, 0] : Fin 2 → ℕ) a + (![1, 2048] : Fin 2 → ℕ) a ≤ S8x2048.size a) (y : S8x2048.Idx) (h : (y 0).val = k) :
    (Rect.unit (s := S8x2048) ![k, 0] ![1, 2048] inb).emb (ix2 0 (y 1)) = y := by
  funext a
  refine Fin.ext ?_
  rw [Rect.emb_apply]
  fin_cases a
  · show k + 1 * 0 = (y 0).val
    omega
  · show 0 + 1 * (y 1).val = (y 1).val
    omega

/-- And no other. -/
theorem row_miss (k : ℕ) (inb : ∀ a, (![k, 0] : Fin 2 → ℕ) a + (![1, 2048] : Fin 2 → ℕ) a ≤ S8x2048.size a) (y : S8x2048.Idx) (h : (y 0).val ≠ k) :
    y ∉ (Rect.unit (s := S8x2048) ![k, 0] ![1, 2048] inb).set := by
  intro hm
  have hm' := (Rect.mem_set_unit (inb := inb)).mp hm 0
  have a1 : k ≤ (y 0).val := hm'.1
  have a2 : (y 0).val < k + 1 := hm'.2
  omega

/-- One row stored over fresh contents. -/
theorem fresh (k : ℕ) (inb : ∀ a, (![k, 0] : Fin 2 → ℕ) a + (![1, 2048] : Fin 2 → ℕ) a ≤ S8x2048.size a)
    (w : (Rect.unit (s := S8x2048) ![k, 0] ![1, 2048] inb).shape.Idx → EReal) (L : List (View.Piece (Elt Ideal) S8x2048 .f32)) (y : S8x2048.Idx) :
    View.canon (Val := Elt Ideal) (⟨Rect.unit (s := S8x2048) ![k, 0] ![1, 2048] inb, w⟩ :: L) y
      = if (y 0).val = k then w (ix2 0 (y 1)) else View.canon L y := by
  by_cases h : (y 0).val = k
  · rw [if_pos h]
    have q := View.canon_cons_emb (Val := Elt Ideal) (Rect.unit (s := S8x2048) ![k, 0] ![1, 2048] inb) w L (ix2 0 (y 1))
    rw [row_emb k inb y h] at q
    exact q
  · rw [if_neg h]
    exact View.canon_cons_of_not_mem _ _ (row_miss k inb y h)

/-- One row stored over earlier contents. -/
theorem over {κ : Kind} {sp : Space} (v : View sig κ sp S8x2048 .f32) (f : v.ty.Contents (Elt Ideal)) (k : ℕ)
    (inb : ∀ a, (![k, 0] : Fin 2 → ℕ) a + (![1, 2048] : Fin 2 → ℕ) a ≤ S8x2048.size a)
    (w : (Rect.unit (s := S8x2048) ![k, 0] ![1, 2048] inb).shape.Idx → EReal) (L : List (View.Piece (Elt Ideal) S8x2048 .f32)) (y : S8x2048.Idx) :
    v.read (Elt Ideal) (v.writes (Elt Ideal) f (⟨Rect.unit (s := S8x2048) ![k, 0] ![1, 2048] inb, w⟩ :: L)) y
      = if (y 0).val = k then w (ix2 0 (y 1)) else v.read (Elt Ideal) (v.writes (Elt Ideal) f L) y := by
  by_cases h : (y 0).val = k
  · rw [if_pos h]
    exact View.read_writes_cons_hit v f _ w L (ix2 0 (y 1)) y (row_emb k inb y h)
  · rw [if_neg h]
    exact View.read_writes_cons_miss v f _ L y (row_miss k inb y h)

/-- A row of the contents, loaded. -/
theorem loaded (X : S8x2048.Idx → EReal) (k : ℕ) (inb : ∀ a, (![k, 0] : Fin 2 → ℕ) a + (![1, 2048] : Fin 2 → ℕ) a ≤ S8x2048.size a) (y : S8x2048.Idx) (h : (y 0).val = k) :
    View.ld (Val := Elt Ideal) (e' := .f32) X (Rect.unit (s := S8x2048) ![k, 0] ![1, 2048] inb) (ix2 0 (y 1)) = X y :=
  congrArg X (row_emb k inb y h)

/-- What one grid point adds to the three rows of sums. -/
def added (t : Fin cfg0.N) (y : S8x2048.Idx) : EReal :=
  if (y 0).val = 2 then ∑ r : Fin 256, k0_pay8 (F := Ideal) (iblk m c 3 t) (iblk m c 2 t) (ix2 r (y 1)) * k0_pay7 (F := Ideal) (iblk m c 0 t) (ix2 r (y 1))
  else if (y 0).val = 1 then ∑ r : Fin 256, k0_pay5 (F := Ideal) (iblk m c 3 t) (ix2 r (y 1)) * (k0_pay7 (F := Ideal) (iblk m c 0 t) (ix2 r (y 1)) * (iblk m c 1 t) (ix2 0 (y 1)))
  else if (y 0).val = 0 then k0_pay10 (F := Ideal) (iblk m c 3 t) (ix2 0 (y 1))
  else 0

/-- The first grid point starts from zeros. -/
theorem first (t : Fin cfg0.N) (h : t.val % 32 = 0) (y : S8x2048.Idx) : (outsAt0 m c t.val t.isLt).2 y = (0 + added m c t y : EReal) := by
  rw [outsAt0_A m c t h]
  frame_out
  simp (discharger := decide) only [↓View.readCov_skip, ↓View.readCov_fill]
  rw [fresh 2, fresh 1, fresh 0]
  unfold added
  by_cases h2 : (y 0).val = 2
  · rw [if_pos h2, if_pos h2, part13, loaded _ 2 _ y h2, part10]
    rfl
  rw [if_neg h2, if_neg h2]
  by_cases h1 : (y 0).val = 1
  · rw [if_pos h1, if_pos h1, part12, loaded _ 1 _ y h1, part10]
    rfl
  rw [if_neg h1, if_neg h1]
  by_cases h0 : (y 0).val = 0
  · rw [if_pos h0, if_pos h0, part11, loaded _ 0 _ y h0, part10]
  rw [if_neg h0, if_neg h0, add_zero]
  exact (congrFun (View.canon_cons_unit_lit (S := S8x2048) inb_S8x2048_S8x2048_0_0 _ [] (by decide)) y).trans (part10 y)

/-- A later one adds to what the point before it left. -/
theorem next (t : Fin cfg0.N) (h : ¬ t.val % 32 = 0) (y : S8x2048.Idx) : (outsAt0 m c t.val t.isLt).2 y
    = ((outsAt0 m c (t.val - 1) (Nat.lt_of_le_of_lt (Nat.sub_le _ _) t.isLt)).2 y + added m c t y : EReal) := by
  rw [outsAt0_B m c t h]
  frame_out
  rw [over _ _ 2, over _ _ 1, over _ _ 0]
  unfold added
  by_cases h2 : (y 0).val = 2
  · rw [if_pos h2, if_pos h2, part13, loaded _ 2 _ y h2]
    rfl
  rw [if_neg h2, if_neg h2]
  by_cases h1 : (y 0).val = 1
  · rw [if_pos h1, if_pos h1, part12, loaded _ 1 _ y h1]
    rfl
  rw [if_neg h1, if_neg h1]
  by_cases h0 : (y 0).val = 0
  · rw [if_pos h0, if_pos h0, part11, loaded _ 0 _ y h0]
  rw [if_neg h0, if_neg h0, add_zero, View.writes_nil]
  exact congrFun (Memref.IsWhole.read_unread _ _) y

/-- What the last grid point leaves: the sums over all grid points. -/
theorem sums (t : Fin cfg0.N) (hf : (cfg0.win 6).flush t = true) (y : S8x2048.Idx) :
    (dats m 0 c).after 6 t y = ∑ s : Fin 32, added m c ⟨32 * (t.val / 32) + s.val, Pipeline.run_point_lt_of_flush t ((flush0_6 t).mp hf) s⟩ y := by
  rw [after0_6, Pipeline.eq_sum_fin_of_reset_step_apply_of_flush (fun n h => (outsAt0 m c n h).2) 32 (fun _ => (0 : EReal))
    (fun t j => added m c t j)
    (fun t h j => first m c t (by omega) j)
    (fun t h j => next m c t (by omega) j) t ((flush0_6 t).mp hf) y, zero_add]

end Cert.Kernel37Ideal.Norm
-- ==== Proof.FirstBackRef.lean ====
/- The gradients of the first layer's normalisation: the reference's entries. -/
module

public import proofs.«01_k».proof.Proof.FirstSums
public import proofs.«01_k».proof.Proof.Gen.Reference37Ideal.Read
public import proofs.«01_k».proof.Proof.Gen.Reference37Ideal.Run

@[expose] public section

set_option maxRecDepth 16384

noncomputable section

namespace Cert.Kernel37Ideal.Norm

open Idealize.ShloMosaic Idealize.ShloMosaic.TcCoe Idealize.SL.Sem
open Cert.Reference37Ideal.Read
open Cert.Reference37Ideal (S8192x2048 S8192x1 S1x2048 S8x2048)
open Cert.NormBack

variable (x0 x4 : (⟨S8192x2048, .f32⟩ : BufTy).Contents (Elt Ideal)) (x1 x2 : (⟨S1x2048, .f32⟩ : BufTy).Contents (Elt Ideal))
  (x3 : (⟨S8192x2048, .bf16⟩ : BufTy).Contents (Elt Ideal))

/-- The mean square of row `n`, with the small number added. -/
def square (n : Fin 8192) : EReal := mean (∑ k : Fin 2048, x0 (ix2 n k) * x0 (ix2 n k))

/-- The gradient of the scaled and weighted entry. -/
def inner (n : Fin 8192) (j : Fin 2048) : EReal := scaled (x3 (ix2 n j)) (x2 (ix2 0 j))

/-- The gradient of the normalisation's input, with the stream's own added: as the kernel computes it. -/
def grad (n : Fin 8192) (j : Fin 2048) : EReal :=
  x4 (ix2 n j) + Ideal.rsqrt (square x0 n) * (inner x2 x3 n j * x1 (ix2 0 j) - x0 (ix2 n j) * Ideal.rsqrt (square x0 n)
    * Ideal.div (∑ k : Fin 2048, inner x2 x3 n k * x1 (ix2 0 k) * (x0 (ix2 n k) * Ideal.rsqrt (square x0 n))) (Ideal.ofBits .f32 0x45000000#32))

/-- The sums over all rows, one for each of the three parameters. -/
def total (i : S8x2048.Idx) : EReal :=
  if (i 0).val = 2 then ∑ n : Fin 8192, inner x2 x3 n (i 1) * (x0 (ix2 n (i 1)) * Ideal.rsqrt (square x0 n))
  else if (i 0).val = 1 then ∑ n : Fin 8192, x3 (ix2 n (i 1)) * (x0 (ix2 n (i 1)) * Ideal.rsqrt (square x0 n) * x1 (ix2 0 (i 1)))
  else if (i 0).val = 0 then ∑ n : Fin 8192, x3 (ix2 n (i 1))
  else 0

/-- A sum from a zero is the sum. -/
theorem from_zero (s z : EReal) (h : s = z) : Ideal.ofBits .f32 0x00000000#32 + s = z := by
  rw [Ideal.ofBits_zero, zero_add, h]

theorem ref7 (i : S8192x1.Idx) : val_main_v7 (F := Ideal) x0 i = square x0 (i 0) := by
  unfold square mean
  rw [val_main_v7_apply, val_main_v5_apply, val_main_v6_apply, val_main_v4_apply, val_main_v3_apply, val_main_v2_apply]
  show @Eq EReal _ _
  refine congrArg₂ (fun p q : EReal => Ideal.div p q + Ideal.ofBits .f32 0x358637BD#32) (from_zero _ _ (Finset.sum_congr rfl fun k _ => ?_)) rfl
  rw [val_main_v1_apply]
  refine congrArg₂ (fun p q : EReal => p * q) (congrArg x0 ?_) (congrArg x0 ?_) <;> blk_ext []

theorem ref8 (i : S8192x1.Idx) : val_main_v8 (F := Ideal) x0 i = Ideal.rsqrt (square x0 (i 0)) := by
  rw [val_main_v8_apply, ref7]
  rfl

theorem ref13 (i : S8192x2048.Idx) : val_main_v13 (F := Ideal) x0 i = x0 i * Ideal.rsqrt (square x0 (i 0)) := by
  rw [val_main_v13_apply, val_main_v12_apply, ref8]
  rfl

theorem ref29 (i : S8192x2048.Idx) : val_main_v29 (F := Ideal) x2 x3 i = inner x2 x3 (i 0) (i 1) := by
  unfold inner scaled
  rw [val_main_v29_apply, val_main_v28_apply, val_main_v22_apply, val_main_v17_apply, val_main_v16_apply]
  show @Eq EReal _ _
  refine congrArg₂ (fun p q : EReal => p * (Ideal.ofBits .f32 0x3F800000#32 + q)) (congrArg x3 ?_) (congrArg x2 ?_) <;> blk_ext []

theorem ref34 (i : S8192x2048.Idx) : val_main_v34 (F := Ideal) x1 x2 x3 i = inner x2 x3 (i 0) (i 1) * x1 (ix2 0 (i 1)) := by
  rw [val_main_v34_apply, ref29, val_main_v33_apply]
  refine congrArg₂ (fun p q : EReal => p * q) rfl (congrArg x1 ?_)
  blk_ext []

theorem ref36 (i : Cert.Reference37Ideal.S8192.Idx) : val_main_v36 (F := Ideal) x0 x1 x2 x3 i
    = ∑ k : Fin 2048, x0 (ix2 (i 0) k) * (inner x2 x3 (i 0) k * x1 (ix2 0 k)) := by
  rw [val_main_v36_apply]
  refine from_zero _ _ (Finset.sum_congr rfl fun k _ => ?_)
  rw [val_main_v35_apply, ref34]
  refine congrArg₂ (fun p q : EReal => p * q) (congrArg x0 ?_) rfl
  blk_ext []

theorem ref44 (i : S8192x2048.Idx) : val_main_v44 (F := Ideal) x0 x1 x2 x3 i
    = Ideal.div ((∑ k : Fin 2048, x0 (ix2 (i 0) k) * (inner x2 x3 (i 0) k * x1 (ix2 0 k))) * (Ideal.ofBits .f32 0xBF000000#32
      * Ideal.div (Ideal.rsqrt (square x0 (i 0))) (square x0 (i 0)))) (Ideal.ofBits .f32 0x45000000#32) := by
  rw [val_main_v44_apply, val_main_v43_apply, Fin.sum_univ_one, val_main_v42_apply, val_main_v41_apply, val_main_v40_apply, val_main_v37_apply,
    val_main_v11_apply, val_main_v10_apply, val_main_v9_apply, ref8, ref7]
  have e : (idx_main_v37 (idx_main_v43 (idx_main_v44 i) 0)) 0 = (i 0 : Fin 8192) := by
    refine Fin.ext ?_
    show (i 0).val * 1 + 0 = (i 0).val
    omega
  rw [ref36]
  show @Eq EReal (Ideal.ofBits .f32 0x00000000#32 + Ideal.div ((∑ k : Fin 2048, x0 (ix2 ((idx_main_v37 (idx_main_v43 (idx_main_v44 i) 0)) 0) k)
    * (inner x2 x3 ((idx_main_v37 (idx_main_v43 (idx_main_v44 i) 0)) 0) k * x1 (ix2 0 k))) * (Ideal.ofBits .f32 0xBF000000#32
      * Ideal.div (Ideal.rsqrt (square x0 (i 0))) (square x0 (i 0)))) (Ideal.ofBits .f32 0x45000000#32)) _
  rw [e]
  exact from_zero _ _ rfl

/-- The kernel's sum along the row, with the root taken out of it. -/
theorem grad_eq (n : Fin 8192) (j : Fin 2048) : grad x0 x4 x1 x2 x3 n j
    = x4 (ix2 n j) + Ideal.rsqrt (square x0 n) * (inner x2 x3 n j * x1 (ix2 0 j) - x0 (ix2 n j) * Ideal.rsqrt (square x0 n)
      * Ideal.div ((∑ k : Fin 2048, x0 (ix2 n k) * (inner x2 x3 n k * x1 (ix2 0 k))) * Ideal.rsqrt (square x0 n)) (Ideal.ofBits .f32 0x45000000#32)) :=
  congrArg (fun q : EReal => x4 (ix2 n j) + Ideal.rsqrt (square x0 n) * (inner x2 x3 n j * x1 (ix2 0 j) - x0 (ix2 n j) * Ideal.rsqrt (square x0 n)
    * Ideal.div q (Ideal.ofBits .f32 0x45000000#32)))
    (sum_root (square x0 n) (mean_pos 2048 fun k => x0 (ix2 n k)) 2048 (fun k => x0 (ix2 n k)) fun k => inner x2 x3 n k * x1 (ix2 0 k))

/-- The reference's gradient of the input is the kernel's. -/
theorem ref49 (n : Fin 8192) (j : Fin 2048) : val_main_v49 (F := Ideal) x0 x1 x2 x3 x4 (ix2 n j) = grad x0 x4 x1 x2 x3 n j := by
  refine Eq.trans ?_ ((congrArg (fun q : EReal => x4 (ix2 n j) + q) (back_eq (square x0 n) (x0 (ix2 n j)) (inner x2 x3 n j * x1 (ix2 0 j))
    (∑ k : Fin 2048, x0 (ix2 n k) * (inner x2 x3 n k * x1 (ix2 0 k))) (mean_pos 2048 fun k => x0 (ix2 n k)))).symm.trans (grad_eq x0 x4 x1 x2 x3 n j).symm)
  rw [val_main_v49_apply, val_main_v48_apply, val_main_v46_apply, val_main_v39_apply, val_main_v38_apply, val_main_v45_apply, val_main_v47_apply, ref44, ref34, ref8]
  rfl

theorem ref24 (i : S1x2048.Idx) : val_main_v24 (F := Ideal) x3 i = ∑ n : Fin 8192, x3 (ix2 n (i 1)) := by
  rw [val_main_v24_apply, val_main_v23_apply]
  refine from_zero _ _ (Finset.sum_congr rfl fun n _ => ?_)
  rw [val_main_v22_apply]
  refine congrArg x3 ?_
  blk_ext []

theorem ref27 (i : S1x2048.Idx) : val_main_v27 (F := Ideal) x0 x1 x3 i
    = ∑ n : Fin 8192, x3 (ix2 n (i 1)) * (x0 (ix2 n (i 1)) * Ideal.rsqrt (square x0 n) * x1 (ix2 0 (i 1))) := by
  rw [val_main_v27_apply, val_main_v26_apply]
  refine from_zero _ _ (Finset.sum_congr rfl fun n _ => ?_)
  rw [val_main_v25_apply, val_main_v15_apply, ref13, val_main_v14_apply, val_main_v22_apply]
  refine (mul_comm _ _).trans (congrArg₂ (fun p q : EReal => p * q) (congrArg x3 ?_) (congrArg₂ (fun p q : EReal => p * Ideal.rsqrt (square x0 n) * q) (congrArg x0 ?_) (congrArg x1 ?_))) <;> blk_ext []

theorem ref32 (i : S1x2048.Idx) : val_main_v32 (F := Ideal) x0 x2 x3 i
    = ∑ n : Fin 8192, inner x2 x3 n (i 1) * (x0 (ix2 n (i 1)) * Ideal.rsqrt (square x0 n)) := by
  rw [val_main_v32_apply, val_main_v31_apply]
  refine from_zero _ _ (Finset.sum_congr rfl fun n _ => ?_)
  have e : idx_main_v31 (idx_main_v32 i) n = (ix2 n (i 1) : S8192x2048.Idx) := by blk_ext []
  rw [e, val_main_v30_apply, ref13, ref29]
  exact mul_comm _ _

theorem total0 (i : S8x2048.Idx) (h : (i 0).val = 0) : total x0 x1 x2 x3 i = ∑ n : Fin 8192, x3 (ix2 n (i 1)) := by
  unfold total
  rw [if_neg (by omega), if_neg (by omega), if_pos h]

theorem total1 (i : S8x2048.Idx) (h : (i 0).val = 1) : total x0 x1 x2 x3 i
    = ∑ n : Fin 8192, x3 (ix2 n (i 1)) * (x0 (ix2 n (i 1)) * Ideal.rsqrt (square x0 n) * x1 (ix2 0 (i 1))) := by
  unfold total
  rw [if_neg (by omega), if_pos h]

theorem total2 (i : S8x2048.Idx) (h : (i 0).val = 2) : total x0 x1 x2 x3 i
    = ∑ n : Fin 8192, inner x2 x3 n (i 1) * (x0 (ix2 n (i 1)) * Ideal.rsqrt (square x0 n)) := by
  unfold total
  rw [if_pos h]

theorem total4 (i : S8x2048.Idx) (h : 2 < (i 0).val) : total x0 x1 x2 x3 i = 0 := by
  unfold total
  rw [if_neg (by omega), if_neg (by omega), if_neg (by omega)]

/-- The reference's stacked sums. -/
theorem ref51 (i : S8x2048.Idx) : val_main_v51 (F := Ideal) x0 x1 x2 x3 i = total x0 x1 x2 x3 i := by
  have hi : (i 0).val < 8 := (i 0).isLt
  unfold val_main_v51
  pointwise
  by_cases h0 : (i 0).val = 0
  · rw [dif_pos (by omega), total0 _ _ _ _ i h0]
    exact ref24 _ _
  rw [dif_neg (by omega)]
  by_cases h1 : (i 0).val = 1
  · rw [dif_pos (by omega), total1 _ _ _ _ i h1]
    exact ref27 _ _ _ _
  rw [dif_neg (by omega)]
  by_cases h2 : (i 0).val = 2
  · rw [dif_pos (by omega), total2 _ _ _ _ i h2]
    exact ref32 _ _ _ _
  rw [dif_neg (by omega), total4 _ _ _ _ i (by omega), val_main_v50_apply]
  exact Ideal.ofBits_zero .f32

end Cert.Kernel37Ideal.Norm
-- ==== Proof.FirstEqual.lean ====
/- The gradients of the first layer's normalisation: what the call leaves in its two result arrays is the reference's. -/
module

public import proofs.«01_k».proof.Proof.FirstBackRef

@[expose] public section

set_option maxRecDepth 16384

noncomputable section

namespace Cert.Kernel37Ideal.Norm

open Idealize.ShloMosaic Idealize.ShloMosaic.TcCoe Idealize.SL.Sem
open Cert.Kernel37Ideal.Gen
open Idealize.ShloMosaic.Pipeline (Dat)
open Cert.Reference37Ideal.Read

variable (m : (ℓ : Loc nD τ sig) → Buf (Elt Ideal) ℓ) (c : Dev nD)

/-- The argument arrays. -/
abbrev a0 : (⟨Cert.Reference37Ideal.S8192x2048, .f32⟩ : BufTy).Contents (Elt Ideal) := m ((c.tc : Thread nD τ).loc main_arg0)
abbrev a1 : (⟨Cert.Reference37Ideal.S1x2048, .f32⟩ : BufTy).Contents (Elt Ideal) := m ((c.tc : Thread nD τ).loc main_arg1)
abbrev a2 : (⟨Cert.Reference37Ideal.S1x2048, .f32⟩ : BufTy).Contents (Elt Ideal) := m ((c.tc : Thread nD τ).loc main_arg2)
abbrev a3 : (⟨Cert.Reference37Ideal.S8192x2048, .bf16⟩ : BufTy).Contents (Elt Ideal) := m ((c.tc : Thread nD τ).loc main_arg3)
abbrev a4 : (⟨Cert.Reference37Ideal.S8192x2048, .f32⟩ : BufTy).Contents (Elt Ideal) := m ((c.tc : Thread nD τ).loc main_arg4)

/-- The array's row that is row `r` of grid point `t`'s block. -/
def row (t : Fin cfg0.N) (r : Fin 256) : Fin 8192 := ⟨t.val * 256 + r.val, by have h : t.val < 32 := t.isLt; omega⟩

theorem block0 (t : Fin cfg0.N) (r : Fin 256) (j : Fin 2048) : iblk m c 0 t (ix2 r j) = a0 m c (ix2 (row t r) j) := by
  blk_ext [iblk, V, idx t, row]

theorem block1 (t : Fin cfg0.N) (j : Fin 2048) : iblk m c 1 t (ix2 0 j) = a1 m c (ix2 0 j) := by
  blk_ext [iblk, V, idx t]

theorem block2 (t : Fin cfg0.N) (j : Fin 2048) : iblk m c 2 t (ix2 0 j) = a2 m c (ix2 0 j) := by
  blk_ext [iblk, V, idx t]

theorem block3 (t : Fin cfg0.N) (r : Fin 256) (j : Fin 2048) : iblk m c 3 t (ix2 r j) = a3 m c (ix2 (row t r) j) := by
  blk_ext [iblk, V, idx t, row]

theorem block4 (t : Fin cfg0.N) (r : Fin 256) (j : Fin 2048) : iblk m c 4 t (ix2 r j) = a4 m c (ix2 (row t r) j) := by
  blk_ext [iblk, V, idx t, row]

/-- A grid point's values, from the whole arrays. -/
theorem val3 (t : Fin cfg0.N) (r : Fin 256) : k0_pay6 (F := Ideal) (iblk m c 0 t) (ix2 r 0) = Ideal.rsqrt (square (a0 m c) (row t r)) :=
  (part3 _ _).trans (congrArg (fun q : EReal => Ideal.rsqrt (mean q))
    (Finset.sum_congr rfl fun k _ => congrArg₂ (fun p q : EReal => p * q) (block0 m c t r k) (block0 m c t r k)))

theorem val4 (t : Fin cfg0.N) (r : Fin 256) (j : Fin 2048) :
    k0_pay7 (F := Ideal) (iblk m c 0 t) (ix2 r j) = (a0 m c (ix2 (row t r) j) * Ideal.rsqrt (square (a0 m c) (row t r)) : EReal) :=
  (part4 _ _).trans (congrArg₂ (fun p q : EReal => p * Ideal.rsqrt (mean q)) (block0 m c t r j)
    (Finset.sum_congr rfl fun k _ => congrArg₂ (fun p q : EReal => p * q) (block0 m c t r k) (block0 m c t r k)))

theorem val5 (t : Fin cfg0.N) (r : Fin 256) (j : Fin 2048) :
    k0_pay8 (F := Ideal) (iblk m c 3 t) (iblk m c 2 t) (ix2 r j) = inner (a2 m c) (a3 m c) (row t r) j :=
  (part5 _ _ _).trans (congrArg₂ (fun p q : EReal => scaled p q) (block3 m c t r j) (block2 m c t j))

theorem val6 (t : Fin cfg0.N) (r : Fin 256) (j : Fin 2048) :
    k0_pay9 (F := Ideal) (iblk m c 0 t) (iblk m c 3 t) (iblk m c 2 t) (iblk m c 1 t) (iblk m c 4 t) (ix2 r j)
      = grad (a0 m c) (a4 m c) (a1 m c) (a2 m c) (a3 m c) (row t r) j := by
  refine (part6 _ _ _ _ _ _).trans ?_
  unfold grad
  refine congrArg₂ (fun p q : EReal => p + q) (block4 m c t r j) (congrArg₂ (fun p q : EReal => p * q) (val3 m c t r)
    (congrArg₂ (fun p q : EReal => p - q) (congrArg₂ (fun p q : EReal => p * q) (val5 m c t r j) (block1 m c t j))
      (congrArg₂ (fun p q : EReal => p * Ideal.div q (Ideal.ofBits .f32 0x45000000#32)) (val4 m c t r j)
        (Finset.sum_congr rfl fun k _ => congrArg₂ (fun p q : EReal => p * q) (congrArg₂ (fun p q : EReal => p * q) (val5 m c t r k) (block1 m c t k)) (val4 m c t r k)))))

/-- At the call's end its first result array is the reference's gradient of the input. -/
theorem final5 : (dats m 0 c).arrAt 5 cfg0.N = val_main_v49 (F := Ideal) (a0 m c) (a1 m c) (a2 m c) (a3 m c) (a4 m c) := by
  refine (dats m 0 c).arrAt_eq_of_covers 5 _ (by decide +kernel) fun t hf y => ?_
  have ht : t.val < 32 := t.isLt
  have hy : (y 0).val < 256 := (y 0).isLt
  have e : ((View.whole main_v0_0).slice (win0_5.rect t)).emb y = ix2 (row t (y 0)) (y 1) := by
    blk_ext [idx t, row]
  have ey : y = ix2 (y 0) (y 1) := by blk_ext []
  have q : (outsAt0 m c t.val t.isLt).1 y = grad (a0 m c) (a4 m c) (a1 m c) (a2 m c) (a3 m c) (row t (y 0)) (y 1) := by
    refine Eq.trans ?_ ((congrArg (k0_pay9 (F := Ideal) (iblk m c 0 t) (iblk m c 3 t) (iblk m c 2 t) (iblk m c 1 t) (iblk m c 4 t)) ey).trans (val6 m c t (y 0) (y 1)))
    by_cases h : t.val % 32 = 0
    · rw [outsAt0_A m c t h]
      frame_out
    · rw [outsAt0_B m c t h]
      frame_out
  blk_simp
  rw [after0_5]
  refine q.trans ?_
  rw [e]
  exact (ref49 _ _ _ _ _ _ _).symm

/-- The kernel's sums over the grid points are sums over all rows. -/
theorem sum_rows (f : Fin 8192 → EReal) (b : Fin 32 → EReal) (p : Fin 32 → Fin cfg0.N) (hp : ∀ s, (p s).val = s.val)
    (h : ∀ s, b s = ∑ r : Fin 256, f (row (p s) r)) : ∑ s : Fin 32, b s = ∑ n : Fin 8192, f n := by
  refine (Finset.sum_congr rfl fun s _ => h s).trans ?_
  refine Fin.sum_mul_add_congr fun s k hl => ?_
  refine congrArg f (Fin.ext ?_)
  show (p s).val * 256 + k.val = _
  rw [hp s]

/-- What the last grid point leaves in the rows of sums. -/
theorem sums_eq (t : Fin cfg0.N) (hf : (cfg0.win 6).flush t = true) (y : S8x2048.Idx) :
    (dats m 0 c).after 6 t y = total (a0 m c) (a1 m c) (a2 m c) (a3 m c) y := by
  have ht : t.val < 32 := t.isLt
  rw [sums m c t hf y]
  have hp : ∀ s : Fin 32, (⟨32 * (t.val / 32) + s.val, Pipeline.run_point_lt_of_flush t ((flush0_6 t).mp hf) s⟩ : Fin cfg0.N).val = s.val := by
    intro s
    show 32 * (t.val / 32) + s.val = s.val
    omega
  by_cases h0 : (y 0).val = 0
  · rw [total0 _ _ _ _ y h0]
    refine sum_rows _ _ _ hp fun s => ?_
    unfold added
    rw [if_neg (by omega), if_neg (by omega), if_pos h0]
    exact (part7 _ _).trans (Finset.sum_congr rfl fun r _ => block3 m c _ r (y 1))
  by_cases h1 : (y 0).val = 1
  · rw [total1 _ _ _ _ y h1]
    refine sum_rows _ _ _ hp fun s => ?_
    unfold added
    rw [if_neg (by omega), if_pos h1]
    refine Finset.sum_congr rfl fun r _ => congrArg₂ (fun p q : EReal => p * q) ?_ (congrArg₂ (fun p q : EReal => p * q) (val4 m c _ r (y 1)) (block1 m c _ (y 1)))
    refine Eq.trans ?_ (block3 m c _ r (y 1))
    pointwise [k0_pay5]
  by_cases h2 : (y 0).val = 2
  · rw [total2 _ _ _ _ y h2]
    refine sum_rows _ _ _ hp fun s => ?_
    unfold added
    rw [if_pos h2]
    exact Finset.sum_congr rfl fun r _ => congrArg₂ (fun p q : EReal => p * q) (val5 m c _ r (y 1)) (val4 m c _ r (y 1))
  · rw [total4 _ _ _ _ y (by omega)]
    show @Eq EReal _ _
    refine Finset.sum_eq_zero (M := EReal) fun s _ => ?_
    unfold added
    rw [if_neg h2, if_neg h1, if_neg h0]

/-- Its second is the reference's stacked sums. -/
theorem final6 : (dats m 0 c).arrAt 6 cfg0.N = val_main_v51 (F := Ideal) (a0 m c) (a1 m c) (a2 m c) (a3 m c) := by
  refine (dats m 0 c).arrAt_eq_of_covers 6 _ (by decide +kernel) fun t hf y => ?_
  have e : ((View.whole main_v0_1).slice (win0_6.rect t)).emb y = y := by
    blk_ext [idx t]
  have q := sums_eq m c t hf y
  blk_simp
  refine q.trans ?_
  rw [e]
  exact (ref51 _ _ _ _ _).symm

end Cert.Kernel37Ideal.Norm

namespace Cert.Proof

open Idealize.ShloMosaic Idealize.ShloMosaic.TcCoe Idealize.SL.Sem
open Cert.Reference37Ideal.Read

/-- Over the extended reals the call and the reference end with equal gradients of the normalisation. -/
theorem algebraic37 : Cert.algebraic_Kernel37Ideal_Reference37Ideal (hKernel37Ideal := Cert.Kernel37Ideal.Gen.facts)
    (hReference37Ideal := Cert.Reference37Ideal.Gen.facts) := by
  intro m g m' g' _ harg
  refine ⟨fun c => val_main_v49 (F := Ideal) (m ((c.tc : Thread _ _).loc Cert.Kernel37Ideal.main_arg0))
      (m ((c.tc : Thread _ _).loc Cert.Kernel37Ideal.main_arg1)) (m ((c.tc : Thread _ _).loc Cert.Kernel37Ideal.main_arg2))
      (m ((c.tc : Thread _ _).loc Cert.Kernel37Ideal.main_arg3)) (m ((c.tc : Thread _ _).loc Cert.Kernel37Ideal.main_arg4)),
    fun c => val_main_v51 (F := Ideal) (m ((c.tc : Thread _ _).loc Cert.Kernel37Ideal.main_arg0))
      (m ((c.tc : Thread _ _).loc Cert.Kernel37Ideal.main_arg1)) (m ((c.tc : Thread _ _).loc Cert.Kernel37Ideal.main_arg2))
      (m ((c.tc : Thread _ _).loc Cert.Kernel37Ideal.main_arg3)), ?_, ?_⟩
  · exact (θ_run Cert.Kernel37Ideal.defs _ _).mono (fun r h c => ⟨(h c).1.trans (Cert.Kernel37Ideal.Norm.final5 m c),
      (h c).2.1.trans (Cert.Kernel37Ideal.Norm.final6 m c), (h c).2.2⟩)
      (Cert.Kernel37Ideal.Value.run_blocks (F := Ideal) m g)
  · refine (θ_run Cert.Reference37Ideal.defs _ _).mono (fun r h c => ?_) (Cert.Reference37Ideal.Value.run (F := Ideal) m' g')
    obtain ⟨a0, a1, a2, a3, a4⟩ := harg c
    exact ⟨(h c).1.trans ((val_main_v49_eq _ _).trans (by rw [a0, a1, a2, a3, a4])),
      (h c).2.1.trans ((val_main_v51_eq _ _ _ _).trans (by rw [a0, a1, a2, a3])), (h c).2.2⟩

end Cert.Proof
-- ==== Proof.HeadFrames.lean ====
/- The frames of the loss's call, of the sums and of the pooling windows' gradient, and of their references: each run ends with its arguments as launched and every counter at zero. -/
module

public import proofs.«01_k».proof.Defs
public import proofs.«01_k».proof.Proof.Gen.Kernel38.Frame
public import proofs.«01_k».proof.Proof.Gen.Kernel38Ideal.Frame
public import proofs.«01_k».proof.Proof.Gen.Reference38Ideal.Run
public import proofs.«01_k».proof.Proof.Gen.Kernel39.Frame
public import proofs.«01_k».proof.Proof.Gen.Kernel39Ideal.Frame
public import proofs.«01_k».proof.Proof.Gen.Reference39Ideal.Run
public import proofs.«01_k».proof.Proof.Gen.Kernel40.Frame
public import proofs.«01_k».proof.Proof.Gen.Kernel40Ideal.Frame
public import proofs.«01_k».proof.Proof.Gen.Reference40Ideal.Run
public import proofs.«01_k».proof.Proof.Gen.Kernel41.Frame
public import proofs.«01_k».proof.Proof.Gen.Kernel41Ideal.Frame
public import proofs.«01_k».proof.Proof.Gen.Reference41Ideal.Run
public import proofs.«01_k».proof.Proof.Gen.Kernel42.Frame
public import proofs.«01_k».proof.Proof.Gen.Kernel42Ideal.Frame
public import proofs.«01_k».proof.Proof.Gen.Reference42Ideal.Run
public import Idealize.ShloMosaic.Lib.Quiescent

@[expose] public section

set_option maxRecDepth 16384

noncomputable section

namespace Cert.Proof

open Idealize.ShloMosaic Idealize.ShloMosaic.TcCoe Idealize.SL.Sem

/-- The call of the loss and its gradients, at its bits. -/
theorem frame_kernel38 : Cert.quiescent_Kernel38 (hKernel38 := Cert.Kernel38.Gen.facts) := fun m ρ _ => Cert.Kernel38.Gen.frame (F := Bits) m ρ

/-- The same over the extended reals. -/
theorem frame_ideal38 : Cert.quiescent_Kernel38Ideal (hKernel38Ideal := Cert.Kernel38Ideal.Gen.facts) := fun m ρ _ =>
  Cert.Kernel38Ideal.Gen.frame (F := Ideal) m ρ

/-- Its reference, which is host code alone. -/
theorem frame_reference38 : Cert.quiescent_Reference38Ideal (hReference38Ideal := Cert.Reference38Ideal.Gen.facts) := fun m ρ _ =>
  (θ_run Cert.Reference38Ideal.defs _ _).mono (fun r h => ⟨fun c => (h c).2.2.2, sem_eq_zero_of_no_sems (by decide) r.2⟩)
    (Cert.Reference38Ideal.Value.run (F := Ideal) m ρ)

/-- The sum over the devices, at its bits. -/
theorem frame_kernel39 : Cert.quiescent_Kernel39 (hKernel39 := Cert.Kernel39.Gen.facts) := fun m ρ _ => Cert.Kernel39.Gen.frame (F := Bits) m ρ

/-- The same over the extended reals. -/
theorem frame_ideal39 : Cert.quiescent_Kernel39Ideal (hKernel39Ideal := Cert.Kernel39Ideal.Gen.facts) := fun m ρ _ =>
  Cert.Kernel39Ideal.Gen.frame (F := Ideal) m ρ

/-- Its reference, which is host code alone. -/
theorem frame_reference39 : Cert.quiescent_Reference39Ideal (hReference39Ideal := Cert.Reference39Ideal.Gen.facts) := fun m ρ _ =>
  (θ_run Cert.Reference39Ideal.defs _ _).mono (fun r h => ⟨fun c => (h c).2, sem_eq_zero_of_no_sems (by decide) r.2⟩)
    (Cert.Reference39Ideal.Value.run (F := Ideal) m ρ)

/-- The sum of the loss over the columns, at its bits. -/
theorem frame_kernel40 : Cert.quiescent_Kernel40 (hKernel40 := Cert.Kernel40.Gen.facts) := fun m ρ _ => Cert.Kernel40.Gen.frame (F := Bits) m ρ

/-- The same over the extended reals. -/
theorem frame_ideal40 : Cert.quiescent_Kernel40Ideal (hKernel40Ideal := Cert.Kernel40Ideal.Gen.facts) := fun m ρ _ =>
  Cert.Kernel40Ideal.Gen.frame (F := Ideal) m ρ

/-- Its reference, which is host code alone. -/
theorem frame_reference40 : Cert.quiescent_Reference40Ideal (hReference40Ideal := Cert.Reference40Ideal.Gen.facts) := fun m ρ _ =>
  (θ_run Cert.Reference40Ideal.defs _ _).mono (fun r h => ⟨fun c => (h c).2, sem_eq_zero_of_no_sems (by decide) r.2⟩)
    (Cert.Reference40Ideal.Value.run (F := Ideal) m ρ)

/-- The sum of the taps' gradient over the blocks of rows, at its bits. -/
theorem frame_kernel41 : Cert.quiescent_Kernel41 (hKernel41 := Cert.Kernel41.Gen.facts) := fun m ρ _ => Cert.Kernel41.Gen.frame (F := Bits) m ρ

/-- The same over the extended reals. -/
theorem frame_ideal41 : Cert.quiescent_Kernel41Ideal (hKernel41Ideal := Cert.Kernel41Ideal.Gen.facts) := fun m ρ _ =>
  Cert.Kernel41Ideal.Gen.frame (F := Ideal) m ρ

/-- Its reference, which is host code alone. -/
theorem frame_reference41 : Cert.quiescent_Reference41Ideal (hReference41Ideal := Cert.Reference41Ideal.Gen.facts) := fun m ρ _ =>
  (θ_run Cert.Reference41Ideal.defs _ _).mono (fun r h => ⟨fun c => (h c).2, sem_eq_zero_of_no_sems (by decide) r.2⟩)
    (Cert.Reference41Ideal.Value.run (F := Ideal) m ρ)

/-- The gradient of the pooling mixer's windows, at its bits. -/
theorem frame_kernel42 : Cert.quiescent_Kernel42 (hKernel42 := Cert.Kernel42.Gen.facts) := fun m ρ _ => Cert.Kernel42.Gen.frame (F := Bits) m ρ

/-- The same over the extended reals. -/
theorem frame_ideal42 : Cert.quiescent_Kernel42Ideal (hKernel42Ideal := Cert.Kernel42Ideal.Gen.facts) := fun m ρ _ =>
  Cert.Kernel42Ideal.Gen.frame (F := Ideal) m ρ

/-- Its reference, which is host code alone. -/
theorem frame_reference42 : Cert.quiescent_Reference42Ideal (hReference42Ideal := Cert.Reference42Ideal.Gen.facts) := fun m ρ _ =>
  (θ_run Cert.Reference42Ideal.defs _ _).mono (fun r h => ⟨fun c => (h c).2, sem_eq_zero_of_no_sems (by decide) r.2⟩)
    (Cert.Reference42Ideal.Value.run (F := Ideal) m ρ)

end Cert.Proof
-- ==== Proof.LossBackward.lean ====
/- The last normalisation, the loss and their gradients: one grid point's values. -/
module

public import proofs.«01_k».proof.Defs
public import proofs.«01_k».proof.Proof.NormReal
public import proofs.«01_k».proof.Proof.Gen.Kernel38Ideal.Value
public import Idealize.ShloMosaic.Lib.Pipeline.ValueKit

@[expose] public section

set_option maxRecDepth 16384

noncomputable section

namespace Cert.Kernel38Ideal.Loss

open Idealize.ShloMosaic Idealize.ShloMosaic.TcCoe Idealize.SL.Sem
open Cert.Kernel38Ideal.Gen
open Idealize.ShloMosaic.Pipeline (Dat)

variable (m : (ℓ : Loc nD τ sig) → Buf (Elt Ideal) ℓ) (c : Dev nD)

/-- Which blocks grid point `t` reads and writes. -/
theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![t.val, 0] ∧ win0_6.index t = ![t.val, 0] ∧ win0_7.index t = ![0, 0] := by
  decide +kernel

/-- A row's mean square, and the number added to it, from the sum of its squares. -/
def mean (s : EReal) : EReal := Ideal.div s (Ideal.ofBits .f32 0x45000000#32) + Ideal.ofBits .f32 0x358637BD#32

/-- The reciprocal root of a row's mean square. -/
theorem part5 (v0 : Vec Ideal S256x2048 .f32) (y : S256x1.Idx) :
    k0_pay5 (F := Ideal) v0 y = Ideal.rsqrt (mean (∑ k : Fin 2048, v0 (ix2 (y 0) k) * v0 (ix2 (y 0) k))) := by
  unfold mean
  pointwise [k0_pay5]

/-- The normalised entry. -/
theorem part6 (v0 : Vec Ideal S256x2048 .f32) (y : S256x2048.Idx) :
    k0_pay6 (F := Ideal) v0 y = v0 y * k0_pay5 (F := Ideal) v0 (ix2 (y 0) 0) := by
  pointwise [k0_pay6]

/-- Its distance from the target. -/
theorem part7 (v0 : Vec Ideal S256x2048 .f32) (v11 : Vec Ideal S1x2048 .f32) (v14 : Vec Ideal S256x2048 .f32) (y : S256x2048.Idx) :
    k0_pay7 (F := Ideal) v0 v11 v14 y = k0_pay6 (F := Ideal) v0 y * v11 (ix2 0 (y 1)) - v14 y := by
  pointwise [k0_pay7]

/-- The loss's gradient in the weighted entry. -/
theorem part8 (v0 : Vec Ideal S256x2048 .f32) (v11 : Vec Ideal S1x2048 .f32) (v14 : Vec Ideal S256x2048 .f32) (y : S256x2048.Idx) :
    k0_pay8 (F := Ideal) v0 v11 v14 y = k0_pay7 (F := Ideal) v0 v11 v14 y * Ideal.ofBits .f32 0x3A000000#32 := by
  pointwise [k0_pay8]

/-- The gradient of the input, from the payloads before it. -/
theorem part9 (v0 : Vec Ideal S256x2048 .f32) (v11 : Vec Ideal S1x2048 .f32) (v14 : Vec Ideal S256x2048 .f32) (v18 : Vec Ideal S1x2048 .f32) (y : S256x2048.Idx) :
    k0_pay9 (F := Ideal) v0 v11 v14 v18 y = k0_pay5 (F := Ideal) v0 (ix2 (y 0) 0) * (k0_pay8 (F := Ideal) v0 v11 v14 y * v18 (ix2 0 (y 1))
      - k0_pay6 (F := Ideal) v0 y * Ideal.div (∑ k : Fin 2048, k0_pay8 (F := Ideal) v0 v11 v14 (ix2 (y 0) k) * v18 (ix2 0 k) * k0_pay6 (F := Ideal) v0 (ix2 (y 0) k))
        (Ideal.ofBits .f32 0x45000000#32)) := by
  pointwise [k0_pay9]

/-- The gradient of the gated output. -/
theorem part10 (v0 : Vec Ideal S256x2048 .f32) (v11 : Vec Ideal S1x2048 .f32) (v14 : Vec Ideal S256x2048 .f32) (v18 v32 : Vec Ideal S1x2048 .f32) (y : S256x2048.Idx) :
    k0_pay10 (F := Ideal) v0 v11 v14 v18 v32 y = (k0_pay9 (F := Ideal) v0 v11 v14 v18 y * v32 (ix2 0 (y 1)) : EReal) := by
  pointwise [k0_pay10]

theorem part1 (y : S8x2048.Idx) : k0_pay1 (F := Ideal) y = (0 : EReal) := by
  pointwise [k0_pay1]
  try exact Ideal.ofBits_zero .f32

theorem part2 (v10 v17 : FVec Ideal S256x2048 .f32) (v53 : Vec Ideal S1x2048 .f32) (y : S1x2048.Idx) :
    k0_pay2 (F := Ideal) v10 v17 v53 y = (v53 y + ∑ r : Fin 256, v17 (ix2 r (y 1)) * v10 (ix2 r (y 1)) : EReal) := by
  unfold k0_pay2
  rw [shapeCast_self]
  pointwise

theorem part3 (v30 : FVec Ideal S256x2048 .f32) (v40 : Vec Ideal S256x2048 .bf16) (v57 : Vec Ideal S1x2048 .f32) (y : S1x2048.Idx) :
    k0_pay3 (F := Ideal) v30 v40 v57 y = (v57 y + ∑ r : Fin 256, v30 (ix2 r (y 1)) * v40 (ix2 r (y 1)) : EReal) := by
  unfold k0_pay3
  rw [shapeCast_self]
  pointwise

theorem part4 (v15 : FVec Ideal S256x2048 .f32) (v61 : Vec Ideal S1x2048 .f32) (y : S1x2048.Idx) :
    k0_pay4 (F := Ideal) v15 v61 y = (v61 y + (∑ r : Fin 256, v15 (ix2 r (y 1)) * v15 (ix2 r (y 1))) * Ideal.ofBits .f32 0x39800000#32 : EReal) := by
  unfold k0_pay4
  rw [shapeCast_self]
  pointwise

end Cert.Kernel38Ideal.Loss
-- ==== Proof.LossSums.lean ====
/- The loss and the gradients of the last normalisation's weight and the gate: what the call's second result holds from one grid point to the next. -/
module

public import proofs.«01_k».proof.Proof.LossBackward
public import Idealize.ShloMosaic.Lib.Pipeline.ReadBack
public import Idealize.ShloMosaic.Lib.Writes

@[expose] public section

set_option maxRecDepth 16384

noncomputable section

namespace Cert.Kernel38Ideal.Loss

open Idealize.ShloMosaic Idealize.ShloMosaic.TcCoe Idealize.SL.Sem
open Cert.Kernel38Ideal.Gen
open Idealize.ShloMosaic.Pipeline (Dat)

variable (m : (ℓ : Loc nD τ sig) → Buf (Elt Ideal) ℓ) (c : Dev nD)

/-- A row's rectangle holds the row. -/
theorem row_emb (k : ℕ) (inb : ∀ a, (![k, 0] : Fin 2 → ℕ) a + (![1, 2048] : Fin 2 → ℕ) a ≤ S8x2048.size a) (y : S8x2048.Idx) (h : (y 0).val = k) :
    (Rect.unit (s := S8x2048) ![k, 0] ![1, 2048] inb).emb (ix2 0 (y 1)) = y := by
  funext a
  refine Fin.ext ?_
  rw [Rect.emb_apply]
  fin_cases a
  · show k + 1 * 0 = (y 0).val
    omega
  · show 0 + 1 * (y 1).val = (y 1).val
    omega

/-- And no other. -/
theorem row_miss (k : ℕ) (inb : ∀ a, (![k, 0] : Fin 2 → ℕ) a + (![1, 2048] : Fin 2 → ℕ) a ≤ S8x2048.size a) (y : S8x2048.Idx) (h : (y 0).val ≠ k) :
    y ∉ (Rect.unit (s := S8x2048) ![k, 0] ![1, 2048] inb).set := by
  intro hm
  have hm' := (Rect.mem_set_unit (inb := inb)).mp hm 0
  have a1 : k ≤ (y 0).val := hm'.1
  have a2 : (y 0).val < k + 1 := hm'.2
  omega

/-- One row stored over fresh contents. -/
theorem fresh (k : ℕ) (inb : ∀ a, (![k, 0] : Fin 2 → ℕ) a + (![1, 2048] : Fin 2 → ℕ) a ≤ S8x2048.size a)
    (w : (Rect.unit (s := S8x2048) ![k, 0] ![1, 2048] inb).shape.Idx → EReal) (L : List (View.Piece (Elt Ideal) S8x2048 .f32)) (y : S8x2048.Idx) :
    View.canon (Val := Elt Ideal) (⟨Rect.unit (s := S8x2048) ![k, 0] ![1, 2048] inb, w⟩ :: L) y
      = if (y 0).val = k then w (ix2 0 (y 1)) else View.canon L y := by
  by_cases h : (y 0).val = k
  · rw [if_pos h]
    have q := View.canon_cons_emb (Val := Elt Ideal) (Rect.unit (s := S8x2048) ![k, 0] ![1, 2048] inb) w L (ix2 0 (y 1))
    rw [row_emb k inb y h] at q
    exact q
  · rw [if_neg h]
    exact View.canon_cons_of_not_mem _ _ (row_miss k inb y h)

/-- One row stored over earlier contents. -/
theorem over {κ : Kind} {sp : Space} (v : View sig κ sp S8x2048 .f32) (f : v.ty.Contents (Elt Ideal)) (k : ℕ)
    (inb : ∀ a, (![k, 0] : Fin 2 → ℕ) a + (![1, 2048] : Fin 2 → ℕ) a ≤ S8x2048.size a)
    (w : (Rect.unit (s := S8x2048) ![k, 0] ![1, 2048] inb).shape.Idx → EReal) (L : List (View.Piece (Elt Ideal) S8x2048 .f32)) (y : S8x2048.Idx) :
    v.read (Elt Ideal) (v.writes (Elt Ideal) f (⟨Rect.unit (s := S8x2048) ![k, 0] ![1, 2048] inb, w⟩ :: L)) y
      = if (y 0).val = k then w (ix2 0 (y 1)) else v.read (Elt Ideal) (v.writes (Elt Ideal) f L) y := by
  by_cases h : (y 0).val = k
  · rw [if_pos h]
    exact View.read_writes_cons_hit v f _ w L (ix2 0 (y 1)) y (row_emb k inb y h)
  · rw [if_neg h]
    exact View.read_writes_cons_miss v f _ L y (row_miss k inb y h)

/-- A row of the contents, loaded. -/
theorem loaded (X : S8x2048.Idx → EReal) (k : ℕ) (inb : ∀ a, (![k, 0] : Fin 2 → ℕ) a + (![1, 2048] : Fin 2 → ℕ) a ≤ S8x2048.size a) (y : S8x2048.Idx) (h : (y 0).val = k) :
    View.ld (Val := Elt Ideal) (e' := .f32) X (Rect.unit (s := S8x2048) ![k, 0] ![1, 2048] inb) (ix2 0 (y 1)) = X y :=
  congrArg X (row_emb k inb y h)

/-- What one grid point adds to the three rows of sums. -/
def added (t : Fin cfg0.N) (y : S8x2048.Idx) : EReal :=
  if (y 0).val = 2 then (∑ r : Fin 256, k0_pay7 (F := Ideal) (iblk m c 0 t) (iblk m c 1 t) (iblk m c 2 t) (ix2 r (y 1))
    * k0_pay7 (F := Ideal) (iblk m c 0 t) (iblk m c 1 t) (iblk m c 2 t) (ix2 r (y 1))) * Ideal.ofBits .f32 0x39800000#32
  else if (y 0).val = 1 then ∑ r : Fin 256, k0_pay9 (F := Ideal) (iblk m c 0 t) (iblk m c 1 t) (iblk m c 2 t) (iblk m c 1 t) (ix2 r (y 1)) * (iblk m c 3 t) (ix2 r (y 1))
  else if (y 0).val = 0 then ∑ r : Fin 256, k0_pay8 (F := Ideal) (iblk m c 0 t) (iblk m c 1 t) (iblk m c 2 t) (ix2 r (y 1)) * k0_pay6 (F := Ideal) (iblk m c 0 t) (ix2 r (y 1))
  else 0

/-- The first grid point starts from zeros. -/
theorem first (t : Fin cfg0.N) (h : t.val % 32 = 0) (y : S8x2048.Idx) : (outsAt0 m c t.val t.isLt).2.2 y = (0 + added m c t y : EReal) := by
  rw [outsAt0_A m c t h]
  frame_out
  simp (discharger := decide) only [↓View.readCov_skip, ↓View.readCov_fill]
  rw [fresh 2, fresh 1, fresh 0]
  unfold added
  by_cases h2 : (y 0).val = 2
  · rw [if_pos h2, if_pos h2, part4, loaded _ 2 _ y h2, part1]
    rfl
  rw [if_neg h2, if_neg h2]
  by_cases h1 : (y 0).val = 1
  · rw [if_pos h1, if_pos h1, part3, loaded _ 1 _ y h1, part1]
    rfl
  rw [if_neg h1, if_neg h1]
  by_cases h0 : (y 0).val = 0
  · rw [if_pos h0, if_pos h0, part2, loaded _ 0 _ y h0, part1]
    rfl
  rw [if_neg h0, if_neg h0, add_zero]
  exact (congrFun (View.canon_cons_unit_lit (S := S8x2048) inb_S8x2048_S8x2048_0_0 _ [] (by decide)) y).trans (part1 y)

/-- A later one adds to what the point before it left. -/
theorem next (t : Fin cfg0.N) (h : ¬ t.val % 32 = 0) (y : S8x2048.Idx) : (outsAt0 m c t.val t.isLt).2.2 y
    = ((outsAt0 m c (t.val - 1) (Nat.lt_of_le_of_lt (Nat.sub_le _ _) t.isLt)).2.2 y + added m c t y : EReal) := by
  rw [outsAt0_B m c t h]
  frame_out
  rw [over _ _ 2, over _ _ 1, over _ _ 0]
  unfold added
  by_cases h2 : (y 0).val = 2
  · rw [if_pos h2, if_pos h2, part4, loaded _ 2 _ y h2]
    rfl
  rw [if_neg h2, if_neg h2]
  by_cases h1 : (y 0).val = 1
  · rw [if_pos h1, if_pos h1, part3, loaded _ 1 _ y h1]
    rfl
  rw [if_neg h1, if_neg h1]
  by_cases h0 : (y 0).val = 0
  · rw [if_pos h0, if_pos h0, part2, loaded _ 0 _ y h0]
    rfl
  rw [if_neg h0, if_neg h0, add_zero, View.writes_nil]
  exact congrFun (Memref.IsWhole.read_unread _ _) y

/-- What the last grid point leaves: the sums over all grid points. -/
theorem sums (t : Fin cfg0.N) (hf : (cfg0.win 7).flush t = true) (y : S8x2048.Idx) :
    (dats m 0 c).after 7 t y = ∑ s : Fin 32, added m c ⟨32 * (t.val / 32) + s.val, Pipeline.run_point_lt_of_flush t ((flush0_7 t).mp hf) s⟩ y := by
  rw [after0_7, Pipeline.eq_sum_fin_of_reset_step_apply_of_flush (fun n h => (outsAt0 m c n h).2.2) 32 (fun _ => (0 : EReal))
    (fun t j => added m c t j)
    (fun t h j => first m c t (by omega) j)
    (fun t h j => next m c t (by omega) j) t ((flush0_7 t).mp hf) y, zero_add]

end Cert.Kernel38Ideal.Loss
-- ==== Proof.LossBackRef.lean ====
/- The last normalisation, the loss and their gradients: the reference's entries. -/
module

public import proofs.«01_k».proof.Proof.LossSums
public import proofs.«01_k».proof.Proof.Gen.Reference38Ideal.Read
public import proofs.«01_k».proof.Proof.Gen.Reference38Ideal.Run

@[expose] public section

set_option maxRecDepth 16384

noncomputable section

namespace Cert.Kernel38Ideal.Loss

open Idealize.ShloMosaic Idealize.ShloMosaic.TcCoe Idealize.SL.Sem
open Cert.Reference38Ideal.Read
open Cert.Reference38Ideal (S8192x2048 S8192x1 S1x2048 S8x2048)
open Cert.NormBack

variable (x0 x2 : (⟨S8192x2048, .f32⟩ : BufTy).Contents (Elt Ideal)) (x1 x4 : (⟨S1x2048, .f32⟩ : BufTy).Contents (Elt Ideal))
  (x3 : (⟨S8192x2048, .bf16⟩ : BufTy).Contents (Elt Ideal))

/-- The mean square of row `n`, with the small number added. -/
def square (n : Fin 8192) : EReal := mean (∑ k : Fin 2048, x0 (ix2 n k) * x0 (ix2 n k))

/-- The weighted entry's distance from the target. -/
def err (n : Fin 8192) (j : Fin 2048) : EReal := x0 (ix2 n j) * Ideal.rsqrt (square x0 n) * x1 (ix2 0 j) - x2 (ix2 n j)

/-- The loss's gradient in the weighted entry. -/
def inner (n : Fin 8192) (j : Fin 2048) : EReal := err x0 x2 x1 n j * Ideal.ofBits .f32 0x3A000000#32

/-- The gradient of the normalisation's input: as the kernel computes it. -/
def grad (n : Fin 8192) (j : Fin 2048) : EReal :=
  Ideal.rsqrt (square x0 n) * (inner x0 x2 x1 n j * x1 (ix2 0 j) - x0 (ix2 n j) * Ideal.rsqrt (square x0 n)
    * Ideal.div (∑ k : Fin 2048, inner x0 x2 x1 n k * x1 (ix2 0 k) * (x0 (ix2 n k) * Ideal.rsqrt (square x0 n))) (Ideal.ofBits .f32 0x45000000#32))

/-- The sums over all rows: the weight's gradient, the gate's, and the loss. -/
def total (i : S8x2048.Idx) : EReal :=
  if (i 0).val = 2 then ∑ n : Fin 8192, err x0 x2 x1 n (i 1) * err x0 x2 x1 n (i 1) * Ideal.ofBits .f32 0x39800000#32
  else if (i 0).val = 1 then ∑ n : Fin 8192, grad x0 x2 x1 n (i 1) * x3 (ix2 n (i 1))
  else if (i 0).val = 0 then ∑ n : Fin 8192, inner x0 x2 x1 n (i 1) * (x0 (ix2 n (i 1)) * Ideal.rsqrt (square x0 n))
  else 0

/-- A sum from a zero is the sum. -/
theorem from_zero (s z : EReal) (h : s = z) : Ideal.ofBits .f32 0x00000000#32 + s = z := by
  rw [Ideal.ofBits_zero, zero_add, h]

theorem inverse_val : Ideal.ofBits .f32 0x3A000000#32 = (((2048 : ℝ)⁻¹ : ℝ) : EReal) := by
  simp [Ideal.ofBits, Ideal.ieee, -EReal.coe_mul]
  norm_num

theorem part_val : Ideal.ofBits .f32 0x39800000#32 = (((4096 : ℝ)⁻¹ : ℝ) : EReal) := by
  simp [Ideal.ofBits, Ideal.ieee, -EReal.coe_mul]
  norm_num

theorem two_val : Ideal.ofBits .f32 0x40000000#32 = ((2 : ℝ) : EReal) := by
  simp [Ideal.ofBits, Ideal.ieee, -EReal.coe_mul]
  try norm_num

theorem one_half_val : Ideal.ofBits .f32 0x3F000000#32 = ((1 / 2 : ℝ) : EReal) := by
  simp [Ideal.ofBits, Ideal.ieee, -EReal.coe_mul]
  try norm_num

theorem one_val : Ideal.ofBits .f32 0x3F800000#32 = ((1 : ℝ) : EReal) := by
  simp [Ideal.ofBits, Ideal.ieee, -EReal.coe_mul]
  try norm_num

/-- A factor that is a real and not negative may be multiplied into a sum. -/
theorem sum_factor (q : ℝ) (h : 0 ≤ q) (n : ℕ) (f : Fin n → EReal) : (∑ k, f k) * (q : EReal) = ∑ k, f k * (q : EReal) := by
  have key : ∀ s : Finset (Fin n), (∑ k ∈ s, f k) * (q : EReal) = ∑ k ∈ s, f k * (q : EReal) := by
    intro s
    induction s using Finset.induction_on with
    | empty => simp
    | insert a s ha ih =>
      rw [Finset.sum_insert ha, Finset.sum_insert ha, EReal.right_distrib_of_nonneg_of_ne_top (by exact_mod_cast h) (EReal.coe_ne_top q), ih]
  exact key _

/-- The reference's gradient of the square's mean is the kernel's. -/
theorem square_back (e : EReal) : Ideal.div (Ideal.ofBits .f32 0x00000000#32 + Ideal.ofBits .f32 0x3F000000#32 * Ideal.ofBits .f32 0x3F800000#32)
    (Ideal.ofBits .f32 0x45000000#32) * (Ideal.ofBits .f32 0x40000000#32 * e) = e * Ideal.ofBits .f32 0x3A000000#32 := by
  rw [div_width, Ideal.ofBits_zero, zero_add, one_half_val, one_val, two_val, inverse_val, ← mul_assoc, ← EReal.coe_mul, ← EReal.coe_mul, ← EReal.coe_mul, mul_comm e]
  congr 2
  norm_num

/-- And its loss. -/
theorem loss_back (f : Fin 8192 → EReal) : Ideal.ofBits .f32 0x3F000000#32 * (∑ n, Ideal.div (f n) (Ideal.ofBits .f32 0x45000000#32))
    = ∑ n, f n * Ideal.ofBits .f32 0x39800000#32 := by
  rw [mul_comm, one_half_val, sum_factor (1 / 2) (by norm_num), part_val]
  refine Finset.sum_congr rfl fun n _ => ?_
  rw [div_width, mul_assoc, ← EReal.coe_mul]
  congr 2
  norm_num

theorem ref6 (i : S8192x1.Idx) : val_main_v6 (F := Ideal) x0 i = square x0 (i 0) := by
  unfold square mean
  rw [val_main_v6_apply, val_main_v4_apply, val_main_v5_apply, val_main_v3_apply, val_main_v2_apply, val_main_v1_apply]
  show @Eq EReal _ _
  refine congrArg₂ (fun p q : EReal => Ideal.div p q + Ideal.ofBits .f32 0x358637BD#32) (from_zero _ _ (Finset.sum_congr rfl fun k _ => ?_)) rfl
  rw [val_main_v0_apply]
  refine congrArg₂ (fun p q : EReal => p * q) (congrArg x0 ?_) (congrArg x0 ?_) <;> blk_ext []

theorem ref7 (i : S8192x1.Idx) : val_main_v7 (F := Ideal) x0 i = Ideal.rsqrt (square x0 (i 0)) := by
  rw [val_main_v7_apply, ref6]
  rfl

theorem ref12 (i : S8192x2048.Idx) : val_main_v12 (F := Ideal) x0 i = x0 i * Ideal.rsqrt (square x0 (i 0)) := by
  rw [val_main_v12_apply, val_main_v11_apply, ref7]
  rfl

theorem ref15 (i : S8192x2048.Idx) : val_main_v15 (F := Ideal) x0 x1 x2 i = err x0 x2 x1 (i 0) (i 1) := by
  unfold err
  rw [val_main_v15_apply, val_main_v14_apply, ref12, val_main_v13_apply]
  show @Eq EReal _ _
  refine congrArg₂ (fun p q : EReal => p - q) (congrArg₂ (fun p q : EReal => p * Ideal.rsqrt (square x0 (i 0)) * q) (congrArg x0 ?_) (congrArg x1 ?_)) (congrArg x2 ?_) <;> blk_ext []

theorem ref32 (i : S8192x2048.Idx) : val_main_v32 (F := Ideal) x0 x1 x2 i = inner x0 x2 x1 (i 0) (i 1) := by
  unfold inner
  rw [val_main_v32_apply, val_main_v31_apply, val_main_v30_apply, val_main_v29_apply, val_main_v28_apply, Fin.sum_univ_one, val_main_v27_apply, val_main_v26_apply,
    val_main_v25_apply, val_main_v18_apply, val_main_v17_apply, ref15]
  exact square_back _

theorem ref37 (i : S8192x2048.Idx) : val_main_v37 (F := Ideal) x0 x1 x2 i = inner x0 x2 x1 (i 0) (i 1) * x1 (ix2 0 (i 1)) := by
  rw [val_main_v37_apply, ref32, val_main_v36_apply]
  refine congrArg₂ (fun p q : EReal => p * q) rfl (congrArg x1 ?_)
  blk_ext []

theorem ref39 (i : Cert.Reference38Ideal.S8192.Idx) : val_main_v39 (F := Ideal) x0 x1 x2 i
    = ∑ k : Fin 2048, x0 (ix2 (i 0) k) * (inner x0 x2 x1 (i 0) k * x1 (ix2 0 k)) := by
  rw [val_main_v39_apply]
  refine from_zero _ _ (Finset.sum_congr rfl fun k _ => ?_)
  rw [val_main_v38_apply, ref37]
  refine congrArg₂ (fun p q : EReal => p * q) (congrArg x0 ?_) rfl
  blk_ext []

theorem ref47 (i : S8192x2048.Idx) : val_main_v47 (F := Ideal) x0 x1 x2 i
    = Ideal.div ((∑ k : Fin 2048, x0 (ix2 (i 0) k) * (inner x0 x2 x1 (i 0) k * x1 (ix2 0 k))) * (Ideal.ofBits .f32 0xBF000000#32
      * Ideal.div (Ideal.rsqrt (square x0 (i 0))) (square x0 (i 0)))) (Ideal.ofBits .f32 0x45000000#32) := by
  rw [val_main_v47_apply, val_main_v46_apply, Fin.sum_univ_one, val_main_v45_apply, val_main_v44_apply, val_main_v43_apply, val_main_v40_apply,
    val_main_v10_apply, val_main_v9_apply, val_main_v8_apply, ref7, ref6]
  have e : (idx_main_v40 (idx_main_v46 (idx_main_v47 i) 0)) 0 = (i 0 : Fin 8192) := by
    refine Fin.ext ?_
    show (i 0).val * 1 + 0 = (i 0).val
    omega
  rw [ref39]
  show @Eq EReal (Ideal.ofBits .f32 0x00000000#32 + Ideal.div ((∑ k : Fin 2048, x0 (ix2 ((idx_main_v40 (idx_main_v46 (idx_main_v47 i) 0)) 0) k)
    * (inner x0 x2 x1 ((idx_main_v40 (idx_main_v46 (idx_main_v47 i) 0)) 0) k * x1 (ix2 0 k))) * (Ideal.ofBits .f32 0xBF000000#32
      * Ideal.div (Ideal.rsqrt (square x0 (i 0))) (square x0 (i 0)))) (Ideal.ofBits .f32 0x45000000#32)) _
  rw [e]
  exact from_zero _ _ rfl

/-- The kernel's sum along the row, with the root taken out of it. -/
theorem grad_eq (n : Fin 8192) (j : Fin 2048) : grad x0 x2 x1 n j
    = Ideal.rsqrt (square x0 n) * (inner x0 x2 x1 n j * x1 (ix2 0 j) - x0 (ix2 n j) * Ideal.rsqrt (square x0 n)
      * Ideal.div ((∑ k : Fin 2048, x0 (ix2 n k) * (inner x0 x2 x1 n k * x1 (ix2 0 k))) * Ideal.rsqrt (square x0 n)) (Ideal.ofBits .f32 0x45000000#32)) :=
  congrArg (fun q : EReal => Ideal.rsqrt (square x0 n) * (inner x0 x2 x1 n j * x1 (ix2 0 j) - x0 (ix2 n j) * Ideal.rsqrt (square x0 n)
    * Ideal.div q (Ideal.ofBits .f32 0x45000000#32)))
    (sum_root (square x0 n) (mean_pos 2048 fun k => x0 (ix2 n k)) 2048 (fun k => x0 (ix2 n k)) fun k => inner x0 x2 x1 n k * x1 (ix2 0 k))

/-- The reference's gradient of the input is the kernel's. -/
theorem ref51 (n : Fin 8192) (j : Fin 2048) : val_main_v51 (F := Ideal) x0 x1 x2 (ix2 n j) = grad x0 x2 x1 n j := by
  refine Eq.trans ?_ ((back_eq (square x0 n) (x0 (ix2 n j)) (inner x0 x2 x1 n j * x1 (ix2 0 j))
    (∑ k : Fin 2048, x0 (ix2 n k) * (inner x0 x2 x1 n k * x1 (ix2 0 k))) (mean_pos 2048 fun k => x0 (ix2 n k))).symm.trans (grad_eq x0 x2 x1 n j).symm)
  rw [val_main_v51_apply, val_main_v49_apply, val_main_v42_apply, val_main_v41_apply, val_main_v48_apply, val_main_v50_apply, ref47, ref37, ref7]
  rfl

/-- And that of the gated output. -/
theorem ref60 (n : Fin 8192) (j : Fin 2048) : val_main_v60 (F := Ideal) x0 x1 x2 x4 (ix2 n j) = (grad x0 x2 x1 n j * x4 (ix2 0 j) : EReal) := by
  rw [val_main_v60_apply, val_main_v56_apply, ref51, val_main_v55_apply]
  show @Eq EReal _ _
  refine (mul_comm _ _).trans (congrArg₂ (fun p q : EReal => p * q) rfl (congrArg x4 ?_))
  blk_ext []

theorem ref24 (i : S1x2048.Idx) : val_main_v24 (F := Ideal) x0 x1 x2 i
    = ∑ n : Fin 8192, err x0 x2 x1 n (i 1) * err x0 x2 x1 n (i 1) * Ideal.ofBits .f32 0x39800000#32 := by
  refine Eq.trans ?_ (loss_back fun n => err x0 x2 x1 n (i 1) * err x0 x2 x1 n (i 1))
  rw [val_main_v24_apply, val_main_v23_apply, val_main_v22_apply, val_main_v21_apply]
  show @Eq EReal _ _
  refine congrArg₂ (fun p q : EReal => p * q) rfl (from_zero _ _ (Finset.sum_congr rfl fun n _ => ?_))
  rw [val_main_v20_apply, val_main_v19_apply, val_main_v16_apply, ref15]
  rfl

theorem ref35 (i : S1x2048.Idx) : val_main_v35 (F := Ideal) x0 x1 x2 i
    = ∑ n : Fin 8192, inner x0 x2 x1 n (i 1) * (x0 (ix2 n (i 1)) * Ideal.rsqrt (square x0 n)) := by
  rw [val_main_v35_apply, val_main_v34_apply]
  refine from_zero _ _ (Finset.sum_congr rfl fun n _ => ?_)
  have e : idx_main_v34 (idx_main_v35 i) n = (ix2 n (i 1) : S8192x2048.Idx) := by blk_ext []
  rw [e, val_main_v33_apply, ref12, ref32]
  exact mul_comm _ _

theorem ref59 (i : S1x2048.Idx) : val_main_v59 (F := Ideal) x0 x1 x2 x3 i = ∑ n : Fin 8192, grad x0 x2 x1 n (i 1) * x3 (ix2 n (i 1)) := by
  rw [val_main_v59_apply, val_main_v58_apply]
  refine from_zero _ _ (Finset.sum_congr rfl fun n _ => ?_)
  have e : idx_main_v58 (idx_main_v59 i) n = (ix2 n (i 1) : S8192x2048.Idx) := by blk_ext []
  rw [e, val_main_v57_apply]
  exact congrArg₂ (fun p q : EReal => p * q) (ref51 x0 x2 x1 n (i 1)) rfl

theorem total0 (i : S8x2048.Idx) (h : (i 0).val = 0) : total x0 x2 x1 x3 i
    = ∑ n : Fin 8192, inner x0 x2 x1 n (i 1) * (x0 (ix2 n (i 1)) * Ideal.rsqrt (square x0 n)) := by
  unfold total
  rw [if_neg (by omega), if_neg (by omega), if_pos h]

theorem total1 (i : S8x2048.Idx) (h : (i 0).val = 1) : total x0 x2 x1 x3 i = ∑ n : Fin 8192, grad x0 x2 x1 n (i 1) * x3 (ix2 n (i 1)) := by
  unfold total
  rw [if_neg (by omega), if_pos h]

theorem total2 (i : S8x2048.Idx) (h : (i 0).val = 2) : total x0 x2 x1 x3 i
    = ∑ n : Fin 8192, err x0 x2 x1 n (i 1) * err x0 x2 x1 n (i 1) * Ideal.ofBits .f32 0x39800000#32 := by
  unfold total
  rw [if_pos h]

theorem total4 (i : S8x2048.Idx) (h : 2 < (i 0).val) : total x0 x2 x1 x3 i = 0 := by
  unfold total
  rw [if_neg (by omega), if_neg (by omega), if_neg (by omega)]

/-- The reference's stacked sums. -/
theorem ref62 (i : S8x2048.Idx) : val_main_v62 (F := Ideal) x0 x1 x2 x3 i = total x0 x2 x1 x3 i := by
  have hi : (i 0).val < 8 := (i 0).isLt
  unfold val_main_v62
  pointwise
  by_cases h0 : (i 0).val = 0
  · rw [dif_pos (by omega), total0 _ _ _ _ i h0]
    exact ref35 _ _ _ _
  rw [dif_neg (by omega)]
  by_cases h1 : (i 0).val = 1
  · rw [dif_pos (by omega), total1 _ _ _ _ i h1]
    exact ref59 _ _ _ _ _
  rw [dif_neg (by omega)]
  by_cases h2 : (i 0).val = 2
  · rw [dif_pos (by omega), total2 _ _ _ _ i h2]
    exact ref24 _ _ _ _
  rw [dif_neg (by omega), total4 _ _ _ _ i (by omega), val_main_v61_apply]
  exact Ideal.ofBits_zero .f32

end Cert.Kernel38Ideal.Loss
-- ==== Proof.LossEqual.lean ====
/- The last normalisation, the loss and their gradients: what the call leaves in its three result arrays is the reference's. -/
module

public import proofs.«01_k».proof.Proof.LossBackRef

@[expose] public section

set_option maxRecDepth 16384

noncomputable section

namespace Cert.Kernel38Ideal.Loss

open Idealize.ShloMosaic Idealize.ShloMosaic.TcCoe Idealize.SL.Sem
open Cert.Kernel38Ideal.Gen
open Idealize.ShloMosaic.Pipeline (Dat)
open Cert.Reference38Ideal.Read

variable (m : (ℓ : Loc nD τ sig) → Buf (Elt Ideal) ℓ) (c : Dev nD)

/-- The argument arrays. -/
abbrev a0 : (⟨Cert.Reference38Ideal.S8192x2048, .f32⟩ : BufTy).Contents (Elt Ideal) := m ((c.tc : Thread nD τ).loc main_arg0)
abbrev a1 : (⟨Cert.Reference38Ideal.S1x2048, .f32⟩ : BufTy).Contents (Elt Ideal) := m ((c.tc : Thread nD τ).loc main_arg1)
abbrev a2 : (⟨Cert.Reference38Ideal.S8192x2048, .f32⟩ : BufTy).Contents (Elt Ideal) := m ((c.tc : Thread nD τ).loc main_arg2)
abbrev a3 : (⟨Cert.Reference38Ideal.S8192x2048, .bf16⟩ : BufTy).Contents (Elt Ideal) := m ((c.tc : Thread nD τ).loc main_arg3)
abbrev a4 : (⟨Cert.Reference38Ideal.S1x2048, .f32⟩ : BufTy).Contents (Elt Ideal) := m ((c.tc : Thread nD τ).loc main_arg4)

/-- The array's row that is row `r` of grid point `t`'s block. -/
def row (t : Fin cfg0.N) (r : Fin 256) : Fin 8192 := ⟨t.val * 256 + r.val, by have h : t.val < 32 := t.isLt; omega⟩

theorem block0 (t : Fin cfg0.N) (r : Fin 256) (j : Fin 2048) : iblk m c 0 t (ix2 r j) = a0 m c (ix2 (row t r) j) := by
  blk_ext [iblk, V, idx t, row]

theorem block1 (t : Fin cfg0.N) (j : Fin 2048) : iblk m c 1 t (ix2 0 j) = a1 m c (ix2 0 j) := by
  blk_ext [iblk, V, idx t]

theorem block2 (t : Fin cfg0.N) (r : Fin 256) (j : Fin 2048) : iblk m c 2 t (ix2 r j) = a2 m c (ix2 (row t r) j) := by
  blk_ext [iblk, V, idx t, row]

theorem block3 (t : Fin cfg0.N) (r : Fin 256) (j : Fin 2048) : iblk m c 3 t (ix2 r j) = a3 m c (ix2 (row t r) j) := by
  blk_ext [iblk, V, idx t, row]

theorem block4 (t : Fin cfg0.N) (j : Fin 2048) : iblk m c 4 t (ix2 0 j) = a4 m c (ix2 0 j) := by
  blk_ext [iblk, V, idx t]

/-- A grid point's values, from the whole arrays. -/
theorem val5 (t : Fin cfg0.N) (r : Fin 256) : k0_pay5 (F := Ideal) (iblk m c 0 t) (ix2 r 0) = Ideal.rsqrt (square (a0 m c) (row t r)) :=
  (part5 _ _).trans (congrArg (fun q : EReal => Ideal.rsqrt (mean q))
    (Finset.sum_congr rfl fun k _ => congrArg₂ (fun p q : EReal => p * q) (block0 m c t r k) (block0 m c t r k)))

theorem val6 (t : Fin cfg0.N) (r : Fin 256) (j : Fin 2048) :
    k0_pay6 (F := Ideal) (iblk m c 0 t) (ix2 r j) = (a0 m c (ix2 (row t r) j) * Ideal.rsqrt (square (a0 m c) (row t r)) : EReal) :=
  (part6 _ _).trans (congrArg₂ (fun p q : EReal => p * q) (block0 m c t r j) (val5 m c t r))

theorem val7 (t : Fin cfg0.N) (r : Fin 256) (j : Fin 2048) :
    k0_pay7 (F := Ideal) (iblk m c 0 t) (iblk m c 1 t) (iblk m c 2 t) (ix2 r j) = err (a0 m c) (a2 m c) (a1 m c) (row t r) j :=
  (part7 _ _ _ _).trans (congrArg₂ (fun p q : EReal => p - q) (congrArg₂ (fun p q : EReal => p * q) (val6 m c t r j) (block1 m c t j)) (block2 m c t r j))

theorem val8 (t : Fin cfg0.N) (r : Fin 256) (j : Fin 2048) :
    k0_pay8 (F := Ideal) (iblk m c 0 t) (iblk m c 1 t) (iblk m c 2 t) (ix2 r j) = inner (a0 m c) (a2 m c) (a1 m c) (row t r) j :=
  (part8 _ _ _ _).trans (congrArg (fun p : EReal => p * Ideal.ofBits .f32 0x3A000000#32) (val7 m c t r j))

theorem val9 (t : Fin cfg0.N) (r : Fin 256) (j : Fin 2048) :
    k0_pay9 (F := Ideal) (iblk m c 0 t) (iblk m c 1 t) (iblk m c 2 t) (iblk m c 1 t) (ix2 r j) = grad (a0 m c) (a2 m c) (a1 m c) (row t r) j := by
  refine (part9 _ _ _ _ _).trans ?_
  unfold grad
  refine congrArg₂ (fun p q : EReal => p * q) (val5 m c t r)
    (congrArg₂ (fun p q : EReal => p - q) (congrArg₂ (fun p q : EReal => p * q) (val8 m c t r j) (block1 m c t j))
      (congrArg₂ (fun p q : EReal => p * Ideal.div q (Ideal.ofBits .f32 0x45000000#32)) (val6 m c t r j)
        (Finset.sum_congr rfl fun k _ => congrArg₂ (fun p q : EReal => p * q) (congrArg₂ (fun p q : EReal => p * q) (val8 m c t r k) (block1 m c t k)) (val6 m c t r k))))

theorem val10 (t : Fin cfg0.N) (r : Fin 256) (j : Fin 2048) :
    k0_pay10 (F := Ideal) (iblk m c 0 t) (iblk m c 1 t) (iblk m c 2 t) (iblk m c 1 t) (iblk m c 4 t) (ix2 r j)
      = (grad (a0 m c) (a2 m c) (a1 m c) (row t r) j * a4 m c (ix2 0 j) : EReal) :=
  (part10 _ _ _ _ _ _).trans (congrArg₂ (fun p q : EReal => p * q) (val9 m c t r j) (block4 m c t j))

/-- At the call's end its first result array is the reference's gradient of the input. -/
theorem final5 : (dats m 0 c).arrAt 5 cfg0.N = val_main_v51 (F := Ideal) (a0 m c) (a1 m c) (a2 m c) := by
  refine (dats m 0 c).arrAt_eq_of_covers 5 _ (by decide +kernel) fun t hf y => ?_
  have ht : t.val < 32 := t.isLt
  have hy : (y 0).val < 256 := (y 0).isLt
  have e : ((View.whole main_v0_0).slice (win0_5.rect t)).emb y = ix2 (row t (y 0)) (y 1) := by
    blk_ext [idx t, row]
  have ey : y = ix2 (y 0) (y 1) := by blk_ext []
  have q : (outsAt0 m c t.val t.isLt).1 y = grad (a0 m c) (a2 m c) (a1 m c) (row t (y 0)) (y 1) := by
    refine Eq.trans ?_ ((congrArg (k0_pay9 (F := Ideal) (iblk m c 0 t) (iblk m c 1 t) (iblk m c 2 t) (iblk m c 1 t)) ey).trans (val9 m c t (y 0) (y 1)))
    by_cases h : t.val % 32 = 0
    · rw [outsAt0_A m c t h]
      frame_out
    · rw [outsAt0_B m c t h]
      frame_out
  blk_simp
  rw [after0_5]
  refine q.trans ?_
  rw [e]
  exact (ref51 _ _ _ _ _).symm

/-- Its second is that of the gated output. -/
theorem final6 : (dats m 0 c).arrAt 6 cfg0.N = val_main_v60 (F := Ideal) (a0 m c) (a1 m c) (a2 m c) (a4 m c) := by
  refine (dats m 0 c).arrAt_eq_of_covers 6 _ (by decide +kernel) fun t hf y => ?_
  have ht : t.val < 32 := t.isLt
  have hy : (y 0).val < 256 := (y 0).isLt
  have e : ((View.whole main_v0_1).slice (win0_6.rect t)).emb y = ix2 (row t (y 0)) (y 1) := by
    blk_ext [idx t, row]
  have ey : y = ix2 (y 0) (y 1) := by blk_ext []
  have q : (outsAt0 m c t.val t.isLt).2.1 y = (grad (a0 m c) (a2 m c) (a1 m c) (row t (y 0)) (y 1) * a4 m c (ix2 0 (y 1)) : EReal) := by
    refine Eq.trans ?_ ((congrArg (k0_pay10 (F := Ideal) (iblk m c 0 t) (iblk m c 1 t) (iblk m c 2 t) (iblk m c 1 t) (iblk m c 4 t)) ey).trans (val10 m c t (y 0) (y 1)))
    by_cases h : t.val % 32 = 0
    · rw [outsAt0_A m c t h]
      frame_out
    · rw [outsAt0_B m c t h]
      frame_out
  blk_simp
  rw [after0_6]
  refine q.trans ?_
  rw [e]
  exact (ref60 _ _ _ _ _ _).symm

/-- The kernel's sums over the grid points are sums over all rows. -/
theorem sum_rows (f : Fin 8192 → EReal) (b : Fin 32 → EReal) (p : Fin 32 → Fin cfg0.N) (hp : ∀ s, (p s).val = s.val)
    (h : ∀ s, b s = ∑ r : Fin 256, f (row (p s) r)) : ∑ s : Fin 32, b s = ∑ n : Fin 8192, f n := by
  refine (Finset.sum_congr rfl fun s _ => h s).trans ?_
  refine Fin.sum_mul_add_congr fun s k hl => ?_
  refine congrArg f (Fin.ext ?_)
  show (p s).val * 256 + k.val = _
  rw [hp s]

/-- What the last grid point leaves in the rows of sums. -/
theorem sums_eq (t : Fin cfg0.N) (hf : (cfg0.win 7).flush t = true) (y : S8x2048.Idx) :
    (dats m 0 c).after 7 t y = total (a0 m c) (a2 m c) (a1 m c) (a3 m c) y := by
  have ht : t.val < 32 := t.isLt
  rw [sums m c t hf y]
  have hp : ∀ s : Fin 32, (⟨32 * (t.val / 32) + s.val, Pipeline.run_point_lt_of_flush t ((flush0_7 t).mp hf) s⟩ : Fin cfg0.N).val = s.val := by
    intro s
    show 32 * (t.val / 32) + s.val = s.val
    omega
  by_cases h0 : (y 0).val = 0
  · rw [total0 _ _ _ _ y h0]
    refine sum_rows _ _ _ hp fun s => ?_
    unfold added
    rw [if_neg (by omega), if_neg (by omega), if_pos h0]
    exact Finset.sum_congr rfl fun r _ => congrArg₂ (fun p q : EReal => p * q) (val8 m c _ r (y 1)) (val6 m c _ r (y 1))
  by_cases h1 : (y 0).val = 1
  · rw [total1 _ _ _ _ y h1]
    refine sum_rows _ _ _ hp fun s => ?_
    unfold added
    rw [if_neg (by omega), if_pos h1]
    exact Finset.sum_congr rfl fun r _ => congrArg₂ (fun p q : EReal => p * q) (val9 m c _ r (y 1)) (block3 m c _ r (y 1))
  by_cases h2 : (y 0).val = 2
  · rw [total2 _ _ _ _ y h2]
    refine sum_rows _ _ _ hp fun s => ?_
    unfold added
    rw [if_pos h2, part_val]
    exact (sum_factor _ (by norm_num) _ _).trans (Finset.sum_congr rfl fun r _ => congrArg (fun p : EReal => p * (((4096 : ℝ)⁻¹ : ℝ) : EReal))
      (congrArg₂ (fun p q : EReal => p * q) (val7 m c _ r (y 1)) (val7 m c _ r (y 1))))
  · rw [total4 _ _ _ _ y (by omega)]
    show @Eq EReal _ _
    refine Finset.sum_eq_zero (M := EReal) fun s _ => ?_
    unfold added
    rw [if_neg h2, if_neg h1, if_neg h0]

/-- Its third is the reference's stacked sums. -/
theorem final7 : (dats m 0 c).arrAt 7 cfg0.N = val_main_v62 (F := Ideal) (a0 m c) (a1 m c) (a2 m c) (a3 m c) := by
  refine (dats m 0 c).arrAt_eq_of_covers 7 _ (by decide +kernel) fun t hf y => ?_
  have e : ((View.whole main_v0_2).slice (win0_7.rect t)).emb y = y := by
    blk_ext [idx t]
  have q := sums_eq m c t hf y
  blk_simp
  refine q.trans ?_
  rw [e]
  exact (ref62 _ _ _ _ _).symm

end Cert.Kernel38Ideal.Loss

namespace Cert.Proof

open Idealize.ShloMosaic Idealize.ShloMosaic.TcCoe Idealize.SL.Sem
open Cert.Reference38Ideal.Read

/-- Over the extended reals the call and the reference end with equal losses and gradients. -/
theorem algebraic38 : Cert.algebraic_Kernel38Ideal_Reference38Ideal (hKernel38Ideal := Cert.Kernel38Ideal.Gen.facts)
    (hReference38Ideal := Cert.Reference38Ideal.Gen.facts) := by
  intro m g m' g' _ harg
  refine ⟨fun c => val_main_v51 (F := Ideal) (m ((c.tc : Thread _ _).loc Cert.Kernel38Ideal.main_arg0))
      (m ((c.tc : Thread _ _).loc Cert.Kernel38Ideal.main_arg1)) (m ((c.tc : Thread _ _).loc Cert.Kernel38Ideal.main_arg2)),
    fun c => val_main_v60 (F := Ideal) (m ((c.tc : Thread _ _).loc Cert.Kernel38Ideal.main_arg0))
      (m ((c.tc : Thread _ _).loc Cert.Kernel38Ideal.main_arg1)) (m ((c.tc : Thread _ _).loc Cert.Kernel38Ideal.main_arg2))
      (m ((c.tc : Thread _ _).loc Cert.Kernel38Ideal.main_arg4)),
    fun c => val_main_v62 (F := Ideal) (m ((c.tc : Thread _ _).loc Cert.Kernel38Ideal.main_arg0))
      (m ((c.tc : Thread _ _).loc Cert.Kernel38Ideal.main_arg1)) (m ((c.tc : Thread _ _).loc Cert.Kernel38Ideal.main_arg2))
      (m ((c.tc : Thread _ _).loc Cert.Kernel38Ideal.main_arg3)), ?_, ?_⟩
  · exact (θ_run Cert.Kernel38Ideal.defs _ _).mono (fun r h c => ⟨(h c).1.trans (Cert.Kernel38Ideal.Loss.final5 m c),
      (h c).2.1.trans (Cert.Kernel38Ideal.Loss.final6 m c), (h c).2.2.1.trans (Cert.Kernel38Ideal.Loss.final7 m c), (h c).2.2.2⟩)
      (Cert.Kernel38Ideal.Value.run_blocks (F := Ideal) m g)
  · refine (θ_run Cert.Reference38Ideal.defs _ _).mono (fun r h c => ?_) (Cert.Reference38Ideal.Value.run (F := Ideal) m' g')
    obtain ⟨a0, a1, a2, a3, a4⟩ := harg c
    exact ⟨(h c).1.trans ((val_main_v51_eq _ _).trans (by rw [a0, a1, a2])),
      (h c).2.1.trans ((val_main_v60_eq _ _).trans (by rw [a0, a1, a2, a4])),
      (h c).2.2.1.trans ((val_main_v62_eq _ _).trans (by rw [a0, a1, a2, a3])), (h c).2.2.2⟩

end Cert.Proof
-- ==== Proof.SumDevices.lean ====
/- The small gradients' sum over the devices, once every device has all of them: the call's result is the reference's sum. -/
module

public import proofs.«01_k».proof.Defs
public import proofs.«01_k».proof.Proof.Gen.Kernel39Ideal.Value
public import proofs.«01_k».proof.Proof.Gen.Reference39Ideal.Read
public import proofs.«01_k».proof.Proof.Gen.Reference39Ideal.Run
public import Idealize.ShloMosaic.Lib.Pipeline.ValueKit

@[expose] public section

set_option maxRecDepth 16384

noncomputable section

namespace Cert.Kernel39Ideal.Sum

open Idealize.ShloMosaic Idealize.ShloMosaic.TcCoe Idealize.SL.Sem
open Cert.Kernel39Ideal.Gen
open Idealize.ShloMosaic.Pipeline (Dat)
open Cert.Reference39Ideal.Read

/-- A sum from a zero is the sum. -/
theorem from_zero (s z : EReal) (h : s = z) : Ideal.ofBits .f32 0x00000000#32 + s = z := by
  rw [Ideal.ofBits_zero, zero_add, h]

/-- The eight devices' arrays, added one after another. -/
theorem total (x0 : (⟨Cert.Reference39Ideal.S8x40x2048, .f32⟩ : BufTy).Contents (Elt Ideal)) :
    Cert.Kernel39Ideal.Value.G1 (F := Ideal) x0 = val_main_v0 (F := Ideal) x0 := by
  funext i
  rw [val_main_v0_apply, Fin.sum_univ_eight]
  refine Eq.trans ?_ (from_zero _ _ rfl).symm
  pointwise [Cert.Kernel39Ideal.Value.G1, k0_pay1]
  refine congrArg₂ (fun p q : EReal => p + q) (congrArg₂ (fun p q : EReal => p + q) (congrArg₂ (fun p q : EReal => p + q) (congrArg₂ (fun p q : EReal => p + q)
    (congrArg₂ (fun p q : EReal => p + q) (congrArg₂ (fun p q : EReal => p + q) (congrArg₂ (fun p q : EReal => p + q) (congrArg x0 ?_) (congrArg x0 ?_))
    (congrArg x0 ?_)) (congrArg x0 ?_)) (congrArg x0 ?_)) (congrArg x0 ?_)) (congrArg x0 ?_)) (congrArg x0 ?_) <;> blk_ext []

end Cert.Kernel39Ideal.Sum

namespace Cert.Proof

open Idealize.ShloMosaic Idealize.ShloMosaic.TcCoe Idealize.SL.Sem
open Cert.Reference39Ideal.Read

/-- Over the extended reals the call and the reference end with equal sums over the devices. -/
theorem algebraic39 : Cert.algebraic_Kernel39Ideal_Reference39Ideal (hKernel39Ideal := Cert.Kernel39Ideal.Gen.facts)
    (hReference39Ideal := Cert.Reference39Ideal.Gen.facts) := by
  intro m g m' g' _ harg
  refine ⟨fun c => val_main_v0 (F := Ideal) (m ((c.tc : Thread _ _).loc Cert.Kernel39Ideal.main_arg0)), ?_, ?_⟩
  · exact (θ_run Cert.Kernel39Ideal.defs _ _).mono (fun r h c => ⟨(h c).1.trans (Cert.Kernel39Ideal.Sum.total _), (h c).2⟩)
      (Cert.Kernel39Ideal.Value.run (F := Ideal) m g)
  · refine (θ_run Cert.Reference39Ideal.defs _ _).mono (fun r h c => ?_) (Cert.Reference39Ideal.Value.run (F := Ideal) m' g')
    have a0 := harg c
    exact ⟨(h c).1.trans ((val_main_v0_eq _).trans (by rw [a0])), (h c).2⟩

end Cert.Proof
-- ==== Proof.SumLoss.lean ====
/- The loss's sum over the columns: the call's result is the reference's sum. -/
module

public import proofs.«01_k».proof.Defs
public import proofs.«01_k».proof.Proof.Gen.Kernel40Ideal.Value
public import proofs.«01_k».proof.Proof.Gen.Reference40Ideal.Read
public import proofs.«01_k».proof.Proof.Gen.Reference40Ideal.Run
public import Idealize.ShloMosaic.Lib.Pipeline.ValueKit

@[expose] public section

set_option maxRecDepth 16384

noncomputable section

namespace Cert.Kernel40Ideal.Sum

open Idealize.ShloMosaic Idealize.ShloMosaic.TcCoe Idealize.SL.Sem
open Cert.Kernel40Ideal.Gen
open Idealize.ShloMosaic.Pipeline (Dat)
open Cert.Reference40Ideal.Read

/-- A sum from a zero is the sum. -/
theorem from_zero (s z : EReal) (h : s = z) : Ideal.ofBits .f32 0x00000000#32 + s = z := by
  rw [Ideal.ofBits_zero, zero_add, h]

/-- The columns, in the order of their numbers. -/
theorem columns (f : Cert.Reference40Ideal.S1x2048.Idx → EReal) : ∑ k : Fin 2048, f (ix2 0 k) = ∑ j : Cert.Reference40Ideal.S1x2048.Idx, f j := by
  refine Fintype.sum_bijective (fun k : Fin 2048 => (ix2 0 k : Cert.Reference40Ideal.S1x2048.Idx)) ⟨fun a b h => ?_, fun j => ⟨j 1, ?_⟩⟩ _ _ fun _ => rfl
  · exact congrFun h 1
  · blk_ext []

/-- The row's sum. -/
theorem total (x0 : (⟨Cert.Reference40Ideal.S1x2048, .f32⟩ : BufTy).Contents (Elt Ideal)) :
    Cert.Kernel40Ideal.Value.G1 (F := Ideal) x0 = val_main_v1 (F := Ideal) x0 := by
  funext i
  have q : k0_pay1 (F := Ideal) x0 i = ∑ k : Fin 2048, x0 (ix2 0 k) := by
    pointwise [k0_pay1]
    exact Fin.sum_univ_one _
  refine q.trans ((columns x0).trans ?_)
  unfold val_main_v1
  pointwise
  rw [val_main_v0_apply]
  exact (from_zero _ _ rfl).symm

end Cert.Kernel40Ideal.Sum

namespace Cert.Proof

open Idealize.ShloMosaic Idealize.ShloMosaic.TcCoe Idealize.SL.Sem
open Cert.Reference40Ideal.Read

/-- Over the extended reals the call and the reference end with equal losses. -/
theorem algebraic40 : Cert.algebraic_Kernel40Ideal_Reference40Ideal (hKernel40Ideal := Cert.Kernel40Ideal.Gen.facts)
    (hReference40Ideal := Cert.Reference40Ideal.Gen.facts) := by
  intro m g m' g' _ harg
  refine ⟨fun c => val_main_v1 (F := Ideal) (m ((c.tc : Thread _ _).loc Cert.Kernel40Ideal.main_arg0)), ?_, ?_⟩
  · exact (θ_run Cert.Kernel40Ideal.defs _ _).mono (fun r h c => ⟨(h c).1.trans (Cert.Kernel40Ideal.Sum.total _), (h c).2⟩)
      (Cert.Kernel40Ideal.Value.run (F := Ideal) m g)
  · refine (θ_run Cert.Reference40Ideal.defs _ _).mono (fun r h c => ?_) (Cert.Reference40Ideal.Value.run (F := Ideal) m' g')
    have a0 := harg c
    exact ⟨(h c).1.trans ((val_main_v1_eq _).trans (by rw [a0])), (h c).2⟩

end Cert.Proof
-- ==== Proof.SumLead.lean ====
/- The taps' gradient's sum over the blocks of rows: the call's result is the reference's sum. -/
module

public import proofs.«01_k».proof.Defs
public import proofs.«01_k».proof.Proof.Gen.Kernel41Ideal.Value
public import proofs.«01_k».proof.Proof.Gen.Reference41Ideal.Read
public import proofs.«01_k».proof.Proof.Gen.Reference41Ideal.Run
public import Idealize.ShloMosaic.Lib.Pipeline.ValueKit

@[expose] public section

set_option maxRecDepth 16384

noncomputable section

namespace Cert.Kernel41Ideal.Sum

open Idealize.ShloMosaic Idealize.ShloMosaic.TcCoe Idealize.SL.Sem
open Cert.Kernel41Ideal.Gen
open Idealize.ShloMosaic.Pipeline (Dat)
open Cert.Reference41Ideal.Read

variable (m : (ℓ : Loc nD τ sig) → Buf (Elt Ideal) ℓ) (c : Dev nD)

/-- Which blocks grid point `t` reads and writes. -/
theorem idx : ∀ t : Fin cfg0.N, win0_0.index t = ![t.val, 0, 0] ∧ win0_1.index t = ![0, 0] := by
  decide +kernel

/-- The first point's block. -/
theorem part (v : Vec Ideal S1x8x2048 .f32) (y : S8x2048.Idx) : k0_pay1 (F := Ideal) v y = v (ix3 0 (y 0) (y 1)) := by
  pointwise [k0_pay1]

/-- A later point adds its block to what the points before it have left. -/
theorem step (v6 : Vec Ideal S8x2048 .f32) (v8 : Vec Ideal S1x8x2048 .f32) (y : S8x2048.Idx) : k0_pay2 (F := Ideal) v6 v8 y = (v6 y + k0_pay1 (F := Ideal) v8 y : EReal) := by
  unfold k0_pay2
  rw [shapeCast_self]
  rfl

/-- What the last point leaves: the sum of the blocks. -/
theorem run_eq (t : Fin cfg0.N) (hf : (cfg0.win 1).flush t = true) (y : S8x2048.Idx) :
    (dats m 0 c).after 1 t y = ∑ s : Fin 32, k0_pay1 (F := Ideal)
      (iblk m c 0 ⟨32 * (t.val / 32) + s.val, Pipeline.run_point_lt_of_flush t ((flush0_1 t).mp hf) s⟩) y := by
  rw [after0_1, Pipeline.eq_sum_fin_of_reset_step_apply_of_flush (fun n h => outsAt0 m c n h) 32 (fun _ => 0)
    (fun t j => k0_pay1 (F := Ideal) (iblk m c 0 t) j)
    (fun t h j => by rw [outsAt0_A m c t h (by have ht : t.val < 32 := t.isLt; omega)]; frame_out; exact (zero_add _).symm)
    (fun t h j => by rw [outsAt0_B m c t h (by omega)]; frame_out; rw [step]) t ((flush0_1 t).mp hf) y, zero_add]

/-- The reference's array at an entry. -/
theorem ref (x0 : (⟨Cert.Reference41Ideal.S32x8x2048, .f32⟩ : BufTy).Contents (Elt Ideal)) (i : Cert.Reference41Ideal.S8x2048.Idx) :
    val_main_v0 (F := Ideal) x0 i = ∑ s : Fin 32, x0 (ix3 s (i 0) (i 1)) := by
  rw [val_main_v0_apply]
  refine Eq.trans (congrArg (fun p : EReal => p + _) (Ideal.ofBits_zero .f32)) ((zero_add _).trans (Finset.sum_congr rfl fun k _ => congrArg x0 ?_))
  blk_ext []

/-- At the call's end the result array is the reference's. -/
theorem final : (dats m 0 c).arrAt 1 cfg0.N = val_main_v0 (F := Ideal) (m ((c.tc : Thread nD τ).loc main_arg0)) := by
  refine (dats m 0 c).arrAt_eq_of_covers 1 _ (by decide +kernel) fun t hf y => ?_
  have ht : t.val < 32 := t.isLt
  blk_simp
  rw [run_eq m c t hf, ref]
  show @Eq EReal _ _
  refine Finset.sum_congr (M := EReal) rfl fun s _ => (part _ _).trans ?_
  blk_ext [iblk, V, idx t, idx ⟨_, Pipeline.run_point_lt_of_flush t ((flush0_1 t).mp hf) s⟩]

end Cert.Kernel41Ideal.Sum

namespace Cert.Proof

open Idealize.ShloMosaic Idealize.ShloMosaic.TcCoe Idealize.SL.Sem
open Cert.Reference41Ideal.Read

/-- Over the extended reals the call and the reference end with equal sums over the blocks. -/
theorem algebraic41 : Cert.algebraic_Kernel41Ideal_Reference41Ideal (hKernel41Ideal := Cert.Kernel41Ideal.Gen.facts)
    (hReference41Ideal := Cert.Reference41Ideal.Gen.facts) := by
  intro m g m' g' _ harg
  refine ⟨fun c => val_main_v0 (F := Ideal) (m ((c.tc : Thread _ _).loc Cert.Kernel41Ideal.main_arg0)), ?_, ?_⟩
  · exact (θ_run Cert.Kernel41Ideal.defs _ _).mono (fun r h c => ⟨(h c).1.trans (Cert.Kernel41Ideal.Sum.final m c), (h c).2⟩)
      (Cert.Kernel41Ideal.Value.run_blocks (F := Ideal) m g)
  · refine (θ_run Cert.Reference41Ideal.defs _ _).mono (fun r h c => ?_) (Cert.Reference41Ideal.Value.run (F := Ideal) m' g')
    have a0 := harg c
    exact ⟨(h c).1.trans ((val_main_v0_eq _).trans (by rw [a0])), (h c).2⟩

end Cert.Proof
-- ==== Proof.PoolPost.lean ====
/- The gradient of the pooling mixer's windows: each row's gradient over its count, summed over the windows that hold the row. -/
module

public import proofs.«01_k».proof.Defs
public import proofs.«01_k».proof.Proof.Gen.Kernel42Ideal.Value
public import Idealize.ShloMosaic.Lib.Pipeline.ValueKit

@[expose] public section

set_option maxRecDepth 16384

noncomputable section

namespace Cert.Kernel42Ideal.Pool

open Cert.Kernel42Ideal Idealize.ShloMosaic Idealize.ShloMosaic.TcCoe Idealize.SL.Sem
open Cert.Kernel42Ideal.Gen
open Idealize.ShloMosaic.Pipeline (Dat)

variable (m : (ℓ : Loc nD τ sig) → Buf (Elt Ideal) ℓ) (c : Dev nD)

/-- Which blocks grid point `t` reads and writes. -/
theorem idx : ∀ t : Fin cfg0.N, win0_0.index t = ![t.val, 0] ∧ win0_1.index t = ![min (t.val * 16 + 16) 511, 0]
    ∧ win0_2.index t = ![t.val, 0] ∧ ((grid0.coords t) 0).val = t.val := by
  decide +kernel

/-- How many positions the window of length `w` that ends at position `n` holds, as a real. -/
def count (n w : ℕ) : ℝ := ((min (n + 1) w : ℕ) : ℝ)

/-- A small number's word, read signed, is the number. -/
theorem word (a : ℕ) (ha : a < 16384) : (BitVec.ofNat 32 a).toInt = (a : ℤ) := by
  rw [BitVec.toInt_eq_toNat_of_lt (by rw [BitVec.toNat_ofNat]; omega), BitVec.toNat_ofNat, Nat.mod_eq_of_lt (by omega)]

/-- The count computed in words. -/
theorem count_word (n w : ℕ) (hn : n < 16383) (hw : w < 16384) :
    FloatOps.sitofp (F := Ideal) .f32 (IntOp.minsi (BitVec.ofNat 32 (n + 1)) (BitVec.ofNat 32 w)) = (count n w : EReal) := by
  show (((IntOp.minsi (BitVec.ofNat 32 (n + 1)) (BitVec.ofNat 32 w)).toInt : ℝ) : EReal) = _
  have e : (IntOp.minsi (BitVec.ofNat 32 (n + 1)) (BitVec.ofNat 32 w)).toInt = ((min (n + 1) w : ℕ) : ℤ) := by
    unfold IntOp.minsi
    have h := BitVec.slt_eq_decide (x := BitVec.ofNat 32 (n + 1)) (y := BitVec.ofNat 32 w)
    rw [word _ (by omega), word _ hw] at h
    rw [h]
    by_cases hl : n + 1 < w
    · rw [if_pos (decide_eq_true (Int.ofNat_lt.mpr hl)), word _ (by omega), Nat.min_eq_left (by omega)]
    · rw [if_neg fun e => hl (Int.ofNat_lt.mp (of_decide_eq_true e)), word _ hw, Nat.min_eq_right (by omega)]
  rw [e]
  unfold count
  norm_cast

/-- The position of a block's row, computed in words. -/
theorem place (b n : ℕ) : IntOp.addi (IntOp.addi (Scalar.muli (BitVec.ofNat 32 b) 256#32) (BitVec.ofNat 32 n)) 1#32 = BitVec.ofNat 32 (b * 256 + n + 1) := by
  show BitVec.ofNat 32 b * BitVec.ofNat 32 256 + BitVec.ofNat 32 n + BitVec.ofNat 32 1 = _
  rw [← BitVec.ofNat_mul, ← BitVec.ofNat_add, ← BitVec.ofNat_add]

/-- Row `n` of the block with its sixteen later rows after it, the later rows of the last block being zero. -/
def joined (b : ℕ) (v0 : Vec Ideal S256x2048 .bf16) (v3 : Vec Ideal S16x2048 .bf16) (n : ℕ) (j : Fin 2048) : EReal :=
  if h : n < 256 then v0 (ix2 ⟨n, h⟩ j) else if h : n < 272 then if b = 31 then 0 else v3 (ix2 ⟨n - 256, by omega⟩ j) else 0

/-- That row over its count. -/
def share (b w : ℕ) (v0 : Vec Ideal S256x2048 .bf16) (v3 : Vec Ideal S16x2048 .bf16) (n : ℕ) (j : Fin 2048) : EReal :=
  joined b v0 v3 n j * Ideal.div 1 (count (b * 256 + n) w)

/-- Whether a block is the last, by its number's word. -/
theorem last : ∀ b : Fin 32, Scalar.cmpi .eq (BitVec.ofNat 32 b.val) 31#32 = if b.val = 31 then 1#1 else 0#1 := by decide +kernel

/-- A row over its count, where its number is written another way. -/
theorem leaf (b : ℕ) (hb : b < 32) (w : ℕ) (hw : w < 16384) (v0 : Vec Ideal S256x2048 .bf16) (v3 : Vec Ideal S16x2048 .bf16) (p n : ℕ) (hp : p = n) (hn : n < 272) (j : Fin 2048) :
    (if h : p < 256 then v0 (ix2 ⟨p, h⟩ j) else Scalar.select (Scalar.cmpi .eq (BitVec.ofNat 32 b) 31#32) (0 : EReal) (v3 (ix2 ⟨p - 256, by omega⟩ j)))
      * Ideal.div 1 (FloatOps.sitofp (F := Ideal) .f32 (IntOp.minsi (IntOp.addi (IntOp.addi (Scalar.muli (BitVec.ofNat 32 b) 256#32) (BitVec.ofNat 32 p)) 1#32) (BitVec.ofNat 32 w)))
      = share b w v0 v3 n j := by
  subst hp
  unfold share joined
  rw [place, count_word _ _ (by omega) hw]
  refine congrArg (fun q : EReal => q * Ideal.div 1 (count (b * 256 + p) w)) ?_
  by_cases h : p < 256
  · rw [dif_pos h, dif_pos h]
  · rw [dif_neg h, dif_neg h, dif_pos hn, last ⟨b, hb⟩]
    unfold Scalar.select
    by_cases h0 : b = 31
    · rw [if_pos h0, if_pos h0]; rfl
    · rw [if_neg h0, if_neg h0]; rfl

/-- The same of the block's own rows. -/
theorem own (b : ℕ) (hb : b < 32) (w : ℕ) (hw : w < 16384) (v0 : Vec Ideal S256x2048 .bf16) (v3 : Vec Ideal S16x2048 .bf16) (n : Fin 256) (j : Fin 2048) :
    v0 (ix2 n j) * Ideal.div 1 (FloatOps.sitofp (F := Ideal) .f32 (IntOp.minsi (IntOp.addi (IntOp.addi (Scalar.muli (BitVec.ofNat 32 b) 256#32) (BitVec.ofNat 32 n.val)) 1#32) (BitVec.ofNat 32 w)))
      = share b w v0 v3 n.val j := by
  have h : n.val < 256 := n.isLt
  refine Eq.trans ?_ (leaf b hb w hw v0 v3 n.val n.val rfl (by omega) j)
  rw [dif_pos h]

/-- The rows of a window as the calls add them: each time twice as many. -/
theorem sum2 (f : ℕ → EReal) (n : ℕ) : f n + f (n + 1) = ∑ k ∈ Finset.range 2, f (n + k) := by
  simp only [Finset.sum_range_succ, Finset.sum_range_zero, zero_add, add_zero]

theorem sum4 (f : ℕ → EReal) (n : ℕ) : (f n + f (n + 1)) + (f (n + 2) + f (n + 3)) = ∑ k ∈ Finset.range 4, f (n + k) := by
  simp only [Finset.sum_range_succ, Finset.sum_range_zero, zero_add, add_zero, add_assoc]

theorem sum8 (f : ℕ → EReal) (n : ℕ) : ((f n + f (n + 1)) + (f (n + 2) + f (n + 3))) + ((f (n + 4) + f (n + 5)) + (f (n + 6) + f (n + 7)))
    = ∑ k ∈ Finset.range 8, f (n + k) := by
  simp only [Finset.sum_range_succ, Finset.sum_range_zero, zero_add, add_zero, add_assoc]

theorem sum_twice (f : ℕ → EReal) (n k : ℕ) :
    (∑ i ∈ Finset.range k, f (n + i)) + ∑ i ∈ Finset.range k, f (n + k + i) = ∑ i ∈ Finset.range (k + k), f (n + i) := by
  rw [Finset.sum_range_add]
  simp only [Nat.add_assoc]

/-- One grid point's results in the columns whose window is 2, at an entry. -/
theorem part5 (i : grid0.Coords) (v0 : Vec Ideal S256x2048 .bf16) (v3 : Vec Ideal S16x2048 .bf16) (y : S256x512.Idx) :
    k0_pay5 (F := Ideal) i v0 v3 y
      = ((∑ k ∈ Finset.range 2, share (i 0).val 2 v0 v3 ((y 0).val + k) ⟨(y 1).val, by have h : (y 1).val < 512 := (y 1).isLt; omega⟩)
        - v0 (ix2 (y 0) ⟨(y 1).val, by have h : (y 1).val < 512 := (y 1).isLt; omega⟩) : EReal) := by
  have hy : (y 0).val < 256 := (y 0).isLt
  have hb : (i 0).val < 32 := (i 0).isLt
  rw [← sum2 fun n => share (i 0).val 2 v0 v3 n ⟨(y 1).val, by have h : (y 1).val < 512 := (y 1).isLt; omega⟩]
  pointwise [k0_pay5, k0_pay2, k0_pay3, k0_pay4]
  exact congrArg₂ (fun p q : EReal => p - q) (congrArg₂ (fun p q : EReal => p + q) (own _ hb 2 (by omega) v0 v3 (y 0) ⟨(y 1).val, by have h : (y 1).val < 512 := (y 1).isLt; omega⟩) (leaf _ hb 2 (by omega) v0 v3 (((y 0).val + 272 - 271) % 272) ((y 0).val + 1) (by omega) (by omega) ⟨(y 1).val, by have h : (y 1).val < 512 := (y 1).isLt; omega⟩)) rfl

set_option maxHeartbeats 4000000 in
/-- One grid point's results in the columns whose window is 8, at an entry. -/
theorem part8 (i : grid0.Coords) (v0 : Vec Ideal S256x2048 .bf16) (v3 : Vec Ideal S16x2048 .bf16) (y : S256x512.Idx) :
    k0_pay8 (F := Ideal) (k0_pay2 v0) (k0_pay3 i v0 v3) (k0_pay4 i) y
      = ((∑ k ∈ Finset.range 8, share (i 0).val 8 v0 v3 ((y 0).val + k) ⟨1024 + (y 1).val, by have h : (y 1).val < 512 := (y 1).isLt; omega⟩)
        - v0 (ix2 (y 0) ⟨1024 + (y 1).val, by have h : (y 1).val < 512 := (y 1).isLt; omega⟩) : EReal) := by
  have hy : (y 0).val < 256 := (y 0).isLt
  have hb : (i 0).val < 32 := (i 0).isLt
  rw [← sum8 fun n => share (i 0).val 8 v0 v3 n ⟨1024 + (y 1).val, by have h : (y 1).val < 512 := (y 1).isLt; omega⟩]
  pointwise [k0_pay8, k0_pay2, k0_pay3, k0_pay4]
  exact congrArg₂ (fun p q : EReal => p - q) (congrArg₂ (fun p q : EReal => p + q) (congrArg₂ (fun p q : EReal => p + q) (congrArg₂ (fun p q : EReal => p + q) (own _ hb 8 (by omega) v0 v3 (y 0) ⟨1024 + (y 1).val, by have h : (y 1).val < 512 := (y 1).isLt; omega⟩) (leaf _ hb 8 (by omega) v0 v3 (((y 0).val + 272 - 271) % 272) ((y 0).val + 1) (by omega) (by omega) ⟨1024 + (y 1).val, by have h : (y 1).val < 512 := (y 1).isLt; omega⟩)) (congrArg₂ (fun p q : EReal => p + q) (leaf _ hb 8 (by omega) v0 v3 (((y 0).val + 272 - 270) % 272) ((y 0).val + 2) (by omega) (by omega) ⟨1024 + (y 1).val, by have h : (y 1).val < 512 := (y 1).isLt; omega⟩) (leaf _ hb 8 (by omega) v0 v3 ((((y 0).val + 272 - 270) % 272 + 272 - 271) % 272) ((y 0).val + 3) (by omega) (by omega) ⟨1024 + (y 1).val, by have h : (y 1).val < 512 := (y 1).isLt; omega⟩))) (congrArg₂ (fun p q : EReal => p + q) (congrArg₂ (fun p q : EReal => p + q) (leaf _ hb 8 (by omega) v0 v3 (((y 0).val + 272 - 268) % 272) ((y 0).val + 4) (by omega) (by omega) ⟨1024 + (y 1).val, by have h : (y 1).val < 512 := (y 1).isLt; omega⟩) (leaf _ hb 8 (by omega) v0 v3 ((((y 0).val + 272 - 268) % 272 + 272 - 271) % 272) ((y 0).val + 5) (by omega) (by omega) ⟨1024 + (y 1).val, by have h : (y 1).val < 512 := (y 1).isLt; omega⟩)) (congrArg₂ (fun p q : EReal => p + q) (leaf _ hb 8 (by omega) v0 v3 ((((y 0).val + 272 - 268) % 272 + 272 - 270) % 272) ((y 0).val + 6) (by omega) (by omega) ⟨1024 + (y 1).val, by have h : (y 1).val < 512 := (y 1).isLt; omega⟩) (leaf _ hb 8 (by omega) v0 v3 (((((y 0).val + 272 - 268) % 272 + 272 - 270) % 272 + 272 - 271) % 272) ((y 0).val + 7) (by omega) (by omega) ⟨1024 + (y 1).val, by have h : (y 1).val < 512 := (y 1).isLt; omega⟩)))) rfl

/-- The first sums for the columns whose window is 4. -/
theorem part6 (i : grid0.Coords) (v0 : Vec Ideal S256x2048 .bf16) (v3 : Vec Ideal S16x2048 .bf16) (y : S272x512.Idx) (hy : (y 0).val < 269) :
    k0_pay6 (F := Ideal) i v0 v3 y
      = (∑ k ∈ Finset.range 2, share (i 0).val 4 v0 v3 ((y 0).val + k) ⟨512 + (y 1).val, by have h : (y 1).val < 512 := (y 1).isLt; omega⟩ : EReal) := by
  have hb : (i 0).val < 32 := (i 0).isLt
  rw [← sum2 fun n => share (i 0).val 4 v0 v3 n ⟨512 + (y 1).val, by have h : (y 1).val < 512 := (y 1).isLt; omega⟩]
  pointwise [k0_pay6, k0_pay2, k0_pay3, k0_pay4]
  exact congrArg₂ (fun p q : EReal => p + q) (leaf _ hb 4 (by omega) v0 v3 ((y 0).val) (y 0).val (by omega) (by omega) ⟨512 + (y 1).val, by have h : (y 1).val < 512 := (y 1).isLt; omega⟩) (leaf _ hb 4 (by omega) v0 v3 (((y 0).val + 272 - 271) % 272) ((y 0).val + 1) (by omega) (by omega) ⟨512 + (y 1).val, by have h : (y 1).val < 512 := (y 1).isLt; omega⟩)

/-- The first sums for the columns whose window is 16. -/
theorem part9 (i : grid0.Coords) (v0 : Vec Ideal S256x2048 .bf16) (v3 : Vec Ideal S16x2048 .bf16) (y : S272x512.Idx) (hy : (y 0).val < 269) :
    k0_pay9 (F := Ideal) (k0_pay3 i v0 v3) (k0_pay4 i) y
      = (∑ k ∈ Finset.range 4, share (i 0).val 16 v0 v3 ((y 0).val + k) ⟨1536 + (y 1).val, by have h : (y 1).val < 512 := (y 1).isLt; omega⟩ : EReal) := by
  have hb : (i 0).val < 32 := (i 0).isLt
  rw [← sum4 fun n => share (i 0).val 16 v0 v3 n ⟨1536 + (y 1).val, by have h : (y 1).val < 512 := (y 1).isLt; omega⟩]
  pointwise [k0_pay9, k0_pay2, k0_pay3, k0_pay4]
  exact congrArg₂ (fun p q : EReal => p + q) (congrArg₂ (fun p q : EReal => p + q) (leaf _ hb 16 (by omega) v0 v3 ((y 0).val) (y 0).val (by omega) (by omega) ⟨1536 + (y 1).val, by have h : (y 1).val < 512 := (y 1).isLt; omega⟩) (leaf _ hb 16 (by omega) v0 v3 (((y 0).val + 272 - 271) % 272) ((y 0).val + 1) (by omega) (by omega) ⟨1536 + (y 1).val, by have h : (y 1).val < 512 := (y 1).isLt; omega⟩)) (congrArg₂ (fun p q : EReal => p + q) (leaf _ hb 16 (by omega) v0 v3 (((y 0).val + 272 - 270) % 272) ((y 0).val + 2) (by omega) (by omega) ⟨1536 + (y 1).val, by have h : (y 1).val < 512 := (y 1).isLt; omega⟩) (leaf _ hb 16 (by omega) v0 v3 ((((y 0).val + 272 - 270) % 272 + 272 - 271) % 272) ((y 0).val + 3) (by omega) (by omega) ⟨1536 + (y 1).val, by have h : (y 1).val < 512 := (y 1).isLt; omega⟩))

/-- Such a sum where its row is written another way. -/
theorem later4 (i : grid0.Coords) (v0 : Vec Ideal S256x2048 .bf16) (v3 : Vec Ideal S16x2048 .bf16) (p n : ℕ) (hp : p = n) (hn : n < 269) (j : Fin 512) :
    (k0_pay6 (F := Ideal) i v0 v3) (ix2 ⟨p, by omega⟩ j) = (∑ k ∈ Finset.range 2, share (i 0).val 4 v0 v3 (n + k) ⟨512 + j.val, by omega⟩ : EReal) := by
  subst hp
  exact part6 i v0 v3 (ix2 ⟨p, by omega⟩ j) hn

/-- One grid point's results in the columns whose window is 4, at an entry. -/
theorem part7 (i : grid0.Coords) (v0 : Vec Ideal S256x2048 .bf16) (v3 : Vec Ideal S16x2048 .bf16) (y : S256x512.Idx) :
    k0_pay7 (F := Ideal) (k0_pay2 v0) (k0_pay6 (F := Ideal) i v0 v3) y
      = ((∑ k ∈ Finset.range 4, share (i 0).val 4 v0 v3 ((y 0).val + k) ⟨512 + (y 1).val, by have h : (y 1).val < 512 := (y 1).isLt; omega⟩)
        - v0 (ix2 (y 0) ⟨512 + (y 1).val, by have h : (y 1).val < 512 := (y 1).isLt; omega⟩) : EReal) := by
  have hy : (y 0).val < 256 := (y 0).isLt
  rw [← sum_twice (fun n => share (i 0).val 4 v0 v3 n ⟨512 + (y 1).val, by have h : (y 1).val < 512 := (y 1).isLt; omega⟩) (y 0).val 2]
  pointwise [k0_pay7, k0_pay2]
  exact congrArg₂ (fun p q : EReal => p - q) (congrArg₂ (fun p q : EReal => p + q) (later4 i v0 v3 ((y 0).val) ((y 0).val) (by omega) (by omega) (y 1)) (later4 i v0 v3 (((y 0).val + 272 - 270) % 272) ((y 0).val + 2) (by omega) (by omega) (y 1))) rfl

/-- Such a sum where its row is written another way. -/
theorem later16 (i : grid0.Coords) (v0 : Vec Ideal S256x2048 .bf16) (v3 : Vec Ideal S16x2048 .bf16) (p n : ℕ) (hp : p = n) (hn : n < 269) (j : Fin 512) :
    (k0_pay9 (F := Ideal) (k0_pay3 i v0 v3) (k0_pay4 i)) (ix2 ⟨p, by omega⟩ j) = (∑ k ∈ Finset.range 4, share (i 0).val 16 v0 v3 (n + k) ⟨1536 + j.val, by omega⟩ : EReal) := by
  subst hp
  exact part9 i v0 v3 (ix2 ⟨p, by omega⟩ j) hn

/-- One grid point's results in the columns whose window is 16, at an entry. -/
theorem part1 (i : grid0.Coords) (v0 : Vec Ideal S256x2048 .bf16) (v3 : Vec Ideal S16x2048 .bf16) (y : S256x512.Idx) :
    k0_pay1 (F := Ideal) (k0_pay2 v0) (k0_pay9 (F := Ideal) (k0_pay3 i v0 v3) (k0_pay4 i)) y
      = ((∑ k ∈ Finset.range 16, share (i 0).val 16 v0 v3 ((y 0).val + k) ⟨1536 + (y 1).val, by have h : (y 1).val < 512 := (y 1).isLt; omega⟩)
        - v0 (ix2 (y 0) ⟨1536 + (y 1).val, by have h : (y 1).val < 512 := (y 1).isLt; omega⟩) : EReal) := by
  have hy : (y 0).val < 256 := (y 0).isLt
  rw [← sum_twice (fun n => share (i 0).val 16 v0 v3 n ⟨1536 + (y 1).val, by have h : (y 1).val < 512 := (y 1).isLt; omega⟩) (y 0).val 8,
    ← sum_twice (fun n => share (i 0).val 16 v0 v3 n ⟨1536 + (y 1).val, by have h : (y 1).val < 512 := (y 1).isLt; omega⟩) (y 0).val 4, ← sum_twice (fun n => share (i 0).val 16 v0 v3 n ⟨1536 + (y 1).val, by have h : (y 1).val < 512 := (y 1).isLt; omega⟩) ((y 0).val + 8) 4]
  pointwise [k0_pay1, k0_pay2]
  exact congrArg₂ (fun p q : EReal => p - q) (congrArg₂ (fun p q : EReal => p + q) (congrArg₂ (fun p q : EReal => p + q) (later16 i v0 v3 ((y 0).val) ((y 0).val) (by omega) (by omega) (y 1)) (later16 i v0 v3 (((y 0).val + 272 - 268) % 272) ((y 0).val + 4) (by omega) (by omega) (y 1))) (congrArg₂ (fun p q : EReal => p + q) (later16 i v0 v3 (((y 0).val + 272 - 264) % 272) ((y 0).val + 8) (by omega) (by omega) (y 1)) (later16 i v0 v3 ((((y 0).val + 272 - 264) % 272 + 272 - 268) % 272) ((y 0).val + 8 + 4) (by omega) (by omega) (y 1)))) rfl

end Cert.Kernel42Ideal.Pool
-- ==== Proof.PoolPostRef.lean ====
/- The reference's gradient of the windows' means as sums over the windows that hold a row. -/
module

public import proofs.«01_k».proof.Proof.Lift
public import proofs.«01_k».proof.Proof.PoolPost
public import proofs.«01_k».proof.Proof.Gen.Reference42Ideal.Read

@[expose] public section

set_option maxRecDepth 16384

noncomputable section

namespace Cert.Reference42Ideal.Pool

open Cert.Reference42Ideal Cert.Reference42Ideal.Read Idealize.ShloMosaic Idealize.ShloMosaic.TcCoe Idealize.SL.Sem
open Cert.Kernel42Ideal.Pool (count word count_word)
open StickBreak (cmp_slt select_decide)

variable (x0 : (⟨S8192x2048, .bf16⟩ : BufTy).Contents (Elt Ideal))

/-- The window of a group of columns. -/
def window (g : ℕ) : ℕ := 2 * 2 ^ g

/-- The same computed in words. -/
theorem window_word : ∀ g : Fin 4, IntOp.shli .host 2#32 (BitVec.ofNat 32 g.val) = BitVec.ofNat 32 (window g.val) := by
  intro g
  fin_cases g <;> (unfold IntOp.shli; rw [if_pos (by decide)]; rfl)

theorem window_pos (g : ℕ) : 0 < window g := by
  unfold window
  positivity

theorem window_le : ∀ g : Fin 4, window g.val ≤ 16 := by decide

theorem cmp_sle {a b : ℕ} (ha : a < 16384) (hb : b < 16384) :
    IntOp.cmpi .sle (BitVec.ofNat 32 a) (BitVec.ofNat 32 b) = BitVec.ofBool (decide (a ≤ b)) := by
  refine congrArg BitVec.ofBool ?_
  rw [BitVec.sle, word a ha, word b hb]
  exact decide_eq_decide.mpr Int.ofNat_le

/-- Whether position `s` is in the window of length `w` that ends at position `t`, computed in words. -/
theorem inside (s t w : ℕ) (hs : s < 8192) (ht : t < 8192) (hw : w ≤ 16) (p q : EReal) :
    Scalar.select (IntOp.andi (IntOp.cmpi .sle (BitVec.ofNat 32 s) (BitVec.ofNat 32 t))
      (IntOp.cmpi .slt (IntOp.subi (BitVec.ofNat 32 t) (BitVec.ofNat 32 s)) (BitVec.ofNat 32 w))) p q = if s ≤ t ∧ t - s < w then p else q := by
  rw [cmp_sle (by omega) (by omega)]
  by_cases h : s ≤ t
  · have e : IntOp.subi (BitVec.ofNat 32 t) (BitVec.ofNat 32 s) = BitVec.ofNat 32 (t - s) := by
      show BitVec.ofNat 32 t - BitVec.ofNat 32 s = _
      refine BitVec.eq_of_toNat_eq ?_
      rw [BitVec.toNat_sub, BitVec.toNat_ofNat, BitVec.toNat_ofNat, BitVec.toNat_ofNat]
      omega
    rw [e, cmp_slt (by omega) (by omega), decide_eq_true h]
    have z : ∀ b : Bool, IntOp.andi (BitVec.ofBool true) (BitVec.ofBool b) = BitVec.ofBool b := by decide
    rw [z, select_decide]
    exact if_congr (by simp [h]) rfl rfl
  · rw [decide_eq_false h, if_neg fun e => h e.1]
    have z : ∀ b : BitVec 1, IntOp.andi (BitVec.ofBool false) b = BitVec.ofBool false := by decide
    rw [z]
    rfl

/-- A sum over the positions whose window holds `s` is a sum over `s` and the positions after it, as far as the array goes. -/
theorem sum_window (f : Fin 8192 → EReal) (s w : ℕ) :
    ∑ t : Fin 8192, f t * (if s ≤ t.val ∧ t.val - s < w then 1 else 0) = ∑ k ∈ Finset.range w, if h : s + k < 8192 then f ⟨s + k, h⟩ else 0 := by
  have e : ∀ t : Fin 8192, f t * (if s ≤ t.val ∧ t.val - s < w then 1 else 0)
      = (fun n => if s ≤ n ∧ n - s < w then (if h : n < 8192 then f ⟨n, h⟩ else 0) else 0) t.val := by
    intro t
    dsimp only
    rw [dif_pos t.isLt]
    split
    · exact mul_one _
    · exact mul_zero _
  rw [Finset.sum_congr rfl fun t _ => e t, Fin.sum_univ_eq_sum_range (fun n => if s ≤ n ∧ n - s < w then (if h : n < 8192 then f ⟨n, h⟩ else 0) else 0) 8192,
    ← Finset.sum_filter]
  have r : ∑ k ∈ Finset.range w, (if h : s + k < 8192 then f ⟨s + k, h⟩ else 0) = ∑ n ∈ Finset.Ico s (s + w), if h : n < 8192 then f ⟨n, h⟩ else 0 := by
    rw [Finset.sum_Ico_eq_sum_range, Nat.add_sub_cancel_left]
  rw [r]
  refine Finset.sum_subset (fun n hn => ?_) fun n hn hn' => ?_
  · rw [Finset.mem_filter, Finset.mem_range] at hn
    rw [Finset.mem_Ico]
    omega
  · rw [Finset.mem_Ico] at hn
    rw [Finset.mem_filter, Finset.mem_range] at hn'
    exact dif_neg fun h => hn' ⟨h, by omega⟩

/-- The gradient over its count, zero after the last row. -/
def given (w n : ℕ) (j : Fin 2048) : EReal := if h : n < 8192 then x0 (ix2 ⟨n, h⟩ j) * Ideal.div 1 (count n w) else 0

theorem count_ne (n w : ℕ) (hw : 0 < w) : count n w ≠ 0 := by
  unfold Cert.Kernel42Ideal.Pool.count
  exact Nat.cast_ne_zero.mpr (by omega)

/-- The matrix of the windows. -/
theorem ref22 (i : S4x8192x8192.Idx) : val_main_v22 (F := Ideal) i
    = if (i 2).val ≤ (i 1).val ∧ (i 1).val - (i 2).val < window (i 0).val then (1 : EReal) else 0 := by
  have h1 : (i 1).val < 8192 := (i 1).isLt
  have h2 : (i 2).val < 8192 := (i 2).isLt
  refine Eq.trans ?_ (inside (i 2).val (i 1).val (window (i 0).val) h2 h1 (window_le (i 0)) 1 0)
  rw [← window_word (i 0), ← Ideal.ofBits_one_f32, ← Ideal.ofBits_zero_f32]
  simp only [val_main_v22_apply, val_main_v21_apply, val_main_v20_apply, val_main_v19_apply, val_main_v10_apply, val_main_v8_apply, val_main_v9_apply,
    val_main_v7_apply, val_main_v6_apply, val_main_v5_apply, val_main_v4_apply, val_main_v18_apply, val_main_v17_apply, val_main_v16_apply, val_main_v15_apply,
    val_main_v14_apply, val_main_v13_apply, val_main_v12_apply, val_main_v11_apply, val_main_v3_apply, val_main_v2_apply, val_main_v1_apply, val_main_c_apply,
    val_main_call0_v0_apply, val_main_call0_v1_apply, val_main_cst_0_apply, val_main_cst_1_apply]
  rfl

/-- The counts. -/
theorem ref43 (i : S8192x4x512.Idx) : val_main_v43 (F := Ideal) i = (count (i 0).val (window (i 1).val) : EReal) := by
  have h0 : (i 0).val < 8192 := (i 0).isLt
  have hw := window_le (i 1)
  rw [← count_word (i 0).val (window (i 1).val) (by omega) (by omega), ← window_word (i 1), Nat.add_comm (i 0).val 1, BitVec.ofNat_add]
  simp only [val_main_v43_apply, val_main_v35_apply, val_main_v31_apply, val_main_v30_apply, val_main_v28_apply, val_main_v26_apply, val_main_v25_apply,
    val_main_v24_apply, val_main_c_2_apply, val_main_v23_apply, val_main_v29_apply, val_main_v27_apply, val_main_v3_apply, val_main_v2_apply, val_main_v1_apply,
    val_main_c_apply]
  rfl

/-- The gradient by groups of columns. -/
theorem ref41 (i : S8192x4x512.Idx) : val_main_v41 (F := Ideal) x0 i
    = x0 (ix2 (i 0) ⟨(i 1).val * 512 + (i 2).val, by have h1 : (i 1).val < 4 := (i 1).isLt; have h2 : (i 2).val < 512 := (i 2).isLt; omega⟩) := by
  have h0 : (i 0).val < 8192 := (i 0).isLt
  have h1 : (i 1).val < 4 := (i 1).isLt
  have h2 : (i 2).val < 512 := (i 2).isLt
  rw [val_main_v41_apply, val_main_v40_apply]
  show @Eq EReal (x0 _) _
  refine congrArg x0 ?_
  blk_ext []

/-- A position's sum over the windows that hold it. -/
theorem ref46 (i : S4x512x8192.Idx) (j : Fin 2048) (hj : j.val = (i 0).val * 512 + (i 1).val) : val_main_v46 (F := Ideal) x0 i
    = ∑ k ∈ Finset.range (window (i 0).val), given x0 (window (i 0).val) ((i 2).val + k) j := by
  rw [val_main_v46_apply]
  refine Eq.trans ?_ (sum_window (fun t => x0 (ix2 t j) * Ideal.div 1 (count t.val (window (i 0).val))) (i 2).val (window (i 0).val))
  refine Finset.sum_congr rfl fun t _ => ?_
  rw [val_main_v45_apply, val_main_v44_apply, ref41, ref43, ref22, Ideal.hostDivf_def]
  have hc := count_ne t.val (window (i 0).val) (window_pos _)
  have e : Ideal.div (x0 (ix2 t j)) (count t.val (window (i 0).val)) = (x0 (ix2 t j) : EReal) * Ideal.div 1 (count t.val (window (i 0).val)) := by
    rw [Ideal.div_coe hc, Ideal.div_coe hc, one_mul]
  refine congrArg₂ (fun p q : EReal => p * q) (Eq.trans ?_ e) rfl
  refine congrArg (fun q : EReal => Ideal.div q (count t.val (window (i 0).val))) (congrArg x0 ?_)
  exact congrArg (ix2 t) (Fin.ext hj.symm)

/-- The reference's result, at an entry. -/
theorem ref50 (i : S8192x2048.Idx) : val_main_v50 (F := Ideal) x0 i
    = ((∑ k ∈ Finset.range (window ((i 1).val / 512)), given x0 (window ((i 1).val / 512)) ((i 0).val + k) (i 1)) - x0 (ix2 (i 0) (i 1)) : EReal) := by
  have h0 : (i 0).val < 8192 := (i 0).isLt
  have h1 : (i 1).val < 2048 := (i 1).isLt
  have eg : ((i 0).val * 2048 + (i 1).val) / 512 % 4 = (i 1).val / 512 := by omega
  have en : ((i 0).val * 2048 + (i 1).val) / 2048 = (i 0).val := by omega
  rw [val_main_v50_apply, val_main_v49_apply, val_main_v48_apply, val_main_v42_apply, val_main_v47_apply, ref41,
    ref46 x0 (idx_main_v47 (idx_main_v49 i)) (i 1) (show (i 1).val = ((i 0).val * 2048 + (i 1).val) / 512 % 4 * 512 + ((i 0).val * 2048 + (i 1).val) % 512 by omega)]
  refine Eq.trans (b := (-(x0 (ix2 (i 0) (i 1))) + ∑ k ∈ Finset.range (window ((i 1).val / 512)), given x0 (window ((i 1).val / 512)) ((i 0).val + k) (i 1) : EReal)) ?_
    ((add_comm _ _).trans (sub_eq_add_neg _ _).symm)
  show @Eq EReal (-(x0 _) + ∑ k ∈ Finset.range (window (((i 0).val * 2048 + (i 1).val) / 512 % 4)),
    given x0 (window (((i 0).val * 2048 + (i 1).val) / 512 % 4)) (((i 0).val * 2048 + (i 1).val) / 2048 + k) (i 1)) _
  refine congrArg₂ (fun p q : EReal => -p + q) (congrArg x0 ?_) ?_
  · blk_ext []
  · rw [eg, en]

/-- The same with the entry's row and column named. -/
theorem ref50_at (i : S8192x2048.Idx) (n : Fin 8192) (j : Fin 2048) (hn : i 0 = n) (hj : i 1 = j) : val_main_v50 (F := Ideal) x0 i
    = ((∑ k ∈ Finset.range (window (j.val / 512)), given x0 (window (j.val / 512)) (n.val + k) j) - x0 (ix2 n j) : EReal) := by
  subst hn hj
  exact ref50 x0 i

end Cert.Reference42Ideal.Pool
-- ==== Proof.PoolPostEqual.lean ====
/- The gradient of the pooling mixer's windows: the call's array is the reference's. -/
module

public import proofs.«01_k».proof.Proof.PoolPost
public import proofs.«01_k».proof.Proof.PoolPostRef

@[expose] public section

set_option maxRecDepth 16384

noncomputable section

namespace Cert.Kernel42Ideal.Pool

open Idealize.ShloMosaic Idealize.ShloMosaic.TcCoe Idealize.SL.Sem
open Cert.Kernel42Ideal.Gen
open Idealize.ShloMosaic.Pipeline (Dat)
open Cert.Reference42Ideal.Read
open Cert.Reference42Ideal.Pool (given window ref50_at)

variable (m : (ℓ : Loc nD τ sig) → Buf (Elt Ideal) ℓ) (c : Dev nD)

/-- The argument array. -/
abbrev a0 : (⟨Cert.Reference42Ideal.S8192x2048, .bf16⟩ : BufTy).Contents (Elt Ideal) := m ((c.tc : Thread nD τ).loc main_arg0)

/-- A group of columns stored over a block: the group where the index names it, what was there before elsewhere. -/
theorem layer (k : ℕ) (inb : ∀ a, (![0, k] : Fin 2 → ℕ) a + (![256, 512] : Fin 2 → ℕ) a ≤ S256x2048.size a)
    (w : (Rect.unit (s := S256x2048) ![0, k] ![256, 512] inb).shape.Idx → EReal) (L : List (View.Piece (Elt Ideal) S256x2048 .bf16)) (y : S256x2048.Idx) :
    View.canon (Val := Elt Ideal) (⟨Rect.unit (s := S256x2048) ![0, k] ![256, 512] inb, w⟩ :: L) y
      = if h : k ≤ (y 1).val ∧ (y 1).val - k < 512 then w (ix2 (y 0) ⟨(y 1).val - k, h.2⟩) else View.canon L y := by
  by_cases h : k ≤ (y 1).val ∧ (y 1).val - k < 512
  · rw [dif_pos h]
    have e : (Rect.unit (s := S256x2048) ![0, k] ![256, 512] inb).emb (ix2 (y 0) ⟨(y 1).val - k, h.2⟩) = y := by
      funext a
      refine Fin.ext ?_
      rw [Rect.emb_apply]
      fin_cases a
      · show 0 + 1 * (y 0).val = (y 0).val
        omega
      · show k + 1 * ((y 1).val - k) = (y 1).val
        omega
    have q := View.canon_cons_emb (Val := Elt Ideal) (Rect.unit (s := S256x2048) ![0, k] ![256, 512] inb) w L (ix2 (y 0) ⟨(y 1).val - k, h.2⟩)
    rw [e] at q
    exact q
  · rw [dif_neg h]
    refine View.canon_cons_of_not_mem _ _ fun hm => h ?_
    have hm' := (Rect.mem_set_unit (inb := inb)).mp hm 1
    have a1 : k ≤ (y 1).val := hm'.1
    have a2 : (y 1).val < k + 512 := hm'.2
    omega

/-- A row of a block over its count is the array's row over its count. -/
theorem share_blk (t : Fin cfg0.N) (w n : ℕ) (hn : n < 272) (j : Fin 2048) :
    share ((grid0.coords t) 0).val w (iblk m c 0 t) (iblk m c 1 t) n j = given (a0 m c) w (t.val * 256 + n) j := by
  have ht : t.val < 32 := t.isLt
  unfold share joined given
  rw [(idx t).2.2.2]
  by_cases h : n < 256
  · rw [dif_pos h, dif_pos (by omega)]
    refine congrArg (fun q : EReal => q * Ideal.div 1 (count (t.val * 256 + n) w)) ?_
    blk_ext [iblk, V, idx t]
  · rw [dif_neg h, dif_pos hn]
    by_cases h0 : t.val = 31
    · rw [if_pos h0, dif_neg (by omega)]
      exact zero_mul _
    · rw [if_neg h0, dif_pos (by omega)]
      refine congrArg (fun q : EReal => q * Ideal.div 1 (count (t.val * 256 + n) w)) ?_
      blk_ext [iblk, V, idx t]

/-- The array's row that is row `r` of grid point `t`'s block. -/
def row (t : Fin cfg0.N) (r : Fin 256) : Fin 8192 := ⟨t.val * 256 + r.val, by have h : t.val < 32 := t.isLt; omega⟩

theorem block0 (t : Fin cfg0.N) (r : Fin 256) (j : Fin 2048) : iblk m c 0 t (ix2 r j) = a0 m c (ix2 (row t r) j) := by
  blk_ext [iblk, V, idx t, row]

/-- What the reference has at an entry of a grid point's block. -/
def entry (t : Fin cfg0.N) (y : S256x2048.Idx) : EReal :=
  (∑ k ∈ Finset.range (window ((y 1).val / 512)), given (a0 m c) (window ((y 1).val / 512)) ((row t (y 0)).val + k) (y 1)) - a0 m c (ix2 (row t (y 0)) (y 1))

/-- A grid point's value is that, in a group of columns of window `w`. -/
theorem meets (t : Fin cfg0.N) (y : S256x2048.Idx) (w : ℕ) (j : Fin 2048) (hj : j = y 1) (hw : w = window ((y 1).val / 512)) (h16 : w ≤ 16) :
    ((∑ k ∈ Finset.range w, share ((grid0.coords t) 0).val w (iblk m c 0 t) (iblk m c 1 t) ((y 0).val + k) j) - iblk m c 0 t (ix2 (y 0) j) : EReal) = entry m c t y := by
  have hy : (y 0).val < 256 := (y 0).isLt
  subst hj
  unfold entry
  rw [← hw]
  refine congrArg₂ (fun p q : EReal => p - q) (Finset.sum_congr rfl fun k hk => ?_) (block0 m c t (y 0) (y 1))
  rw [Finset.mem_range] at hk
  rw [share_blk m c t w ((y 0).val + k) (by omega) (y 1), ← Nat.add_assoc]
  rfl

/-- A grid point's block as the four groups of columns stored over it. -/
theorem pieces (i : grid0.Coords) (x0 : Vec Ideal S256x2048 .bf16) (x1 : Vec Ideal S16x2048 .bf16) : out0_2 (F := Ideal) i x0 x1
    = View.canon [⟨r0_5, k0_pay1 (k0_pay2 x0) (k0_pay9 (k0_pay3 i x0 x1) (k0_pay4 i))⟩, ⟨r0_4, k0_pay8 (k0_pay2 x0) (k0_pay3 i x0 x1) (k0_pay4 i)⟩,
      ⟨r0_3, k0_pay7 (k0_pay2 x0) (k0_pay6 i x0 x1)⟩, ⟨r0_2, k0_pay5 i x0 x1⟩] := by
  have l0 : View.ld (Val := Elt Ideal) x0 r0_0 = x0 := View.ld_unit_lit _ _ (by decide)
  have l1 : View.ld (Val := Elt Ideal) x1 r0_1 = x1 := View.ld_unit_lit _ _ (by decide)
  unfold out0_2 k0_pay12 k0_pay11 k0_pay10
  rw [l0, l1]

/-- What a grid point leaves in its block. -/
theorem block (t : Fin cfg0.N) (y : S256x2048.Idx) : out0_2 (F := Ideal) (grid0.coords t) (iblk m c 0 t) (iblk m c 1 t) y = entry m c t y := by
  have hj : (y 1).val < 2048 := (y 1).isLt
  refine (congrFun (pieces _ _ _) y).trans ?_
  refine (layer 1536 _ _ _ y).trans ?_
  by_cases h3 : 1536 ≤ (y 1).val ∧ (y 1).val - 1536 < 512
  · rw [dif_pos h3]
    exact (part1 _ _ _ _).trans (meets m c t y 16 _ (Fin.ext (show 1536 + ((y 1).val - 1536) = (y 1).val by omega))
      (by rw [show (y 1).val / 512 = 3 by omega]; rfl) (by omega))
  rw [dif_neg h3]
  refine (layer 1024 _ _ _ y).trans ?_
  by_cases h2 : 1024 ≤ (y 1).val ∧ (y 1).val - 1024 < 512
  · rw [dif_pos h2]
    exact (part8 _ _ _ _).trans (meets m c t y 8 _ (Fin.ext (show 1024 + ((y 1).val - 1024) = (y 1).val by omega))
      (by rw [show (y 1).val / 512 = 2 by omega]; rfl) (by omega))
  rw [dif_neg h2]
  refine (layer 512 _ _ _ y).trans ?_
  by_cases h1 : 512 ≤ (y 1).val ∧ (y 1).val - 512 < 512
  · rw [dif_pos h1]
    exact (part7 _ _ _ _).trans (meets m c t y 4 _ (Fin.ext (show 512 + ((y 1).val - 512) = (y 1).val by omega))
      (by rw [show (y 1).val / 512 = 1 by omega]; rfl) (by omega))
  rw [dif_neg h1]
  refine (layer 0 _ _ _ y).trans ?_
  rw [dif_pos (by omega)]
  exact (part5 _ _ _ _).trans (meets m c t y 2 _ (Fin.ext (show (y 1).val - 0 = (y 1).val by omega))
    (by rw [show (y 1).val / 512 = 0 by omega]; rfl) (by omega))

theorem entry_eq (t : Fin cfg0.N) (y : S256x2048.Idx) : entry m c t y = val_main_v50 (F := Ideal) (a0 m c) (ix2 (row t (y 0)) (y 1)) :=
  (ref50_at (a0 m c) (ix2 (row t (y 0)) (y 1)) (row t (y 0)) (y 1) rfl rfl).symm

/-- At the call's end its result array is the reference's. -/
theorem final2 : (dats m 0 c).arrAt 2 cfg0.N = val_main_v50 (F := Ideal) (a0 m c) := by
  refine (dats m 0 c).arrAt_eq_of_covers 2 _ (by decide +kernel) fun t hf y => ?_
  have e : ((View.whole main_v0).slice (win0_2.rect t)).emb y = ix2 (row t (y 0)) (y 1) := by
    blk_ext [idx t, row]
  blk_simp
  rw [after0_2, e]
  exact (block m c t y).trans (entry_eq m c t y)

end Cert.Kernel42Ideal.Pool

namespace Cert.Proof

open Idealize.ShloMosaic Idealize.ShloMosaic.TcCoe Idealize.SL.Sem
open Cert.Reference42Ideal.Read

/-- Over the extended reals the call and the reference end with equal gradients. -/
theorem algebraic42 : Cert.algebraic_Kernel42Ideal_Reference42Ideal (hKernel42Ideal := Cert.Kernel42Ideal.Gen.facts)
    (hReference42Ideal := Cert.Reference42Ideal.Gen.facts) := by
  intro m g m' g' _ harg
  refine ⟨fun c => val_main_v50 (F := Ideal) (m ((c.tc : Thread _ _).loc Cert.Kernel42Ideal.main_arg0)), ?_, ?_⟩
  · exact (θ_run Cert.Kernel42Ideal.defs _ _).mono (fun r h c => ⟨(h c).1.trans (Cert.Kernel42Ideal.Pool.final2 m c), (h c).2⟩)
      (Cert.Kernel42Ideal.Value.run_blocks (F := Ideal) m g)
  · refine (θ_run Cert.Reference42Ideal.defs _ _).mono (fun r h c => ?_) (Cert.Reference42Ideal.Value.run (F := Ideal) m' g')
    exact ⟨(h c).1.trans ((val_main_v50_eq _).trans (by rw [harg c])), (h c).2⟩

end Cert.Proof
-- ==== Proof.lean ====
/- The claims of proofs.«01_k».proof.Defs: stick-breaking attention, the products of the feed-forward block, of the mixing layers and of the pool,
and the short convolution, each forward and backward; the modulation, its weight's gradient, and the modulated norm. -/
module

public import proofs.«01_k».proof.Proof.Gen.Pre_finite2
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Reference19Ideal
public import proofs.«01_k».proof.Proof.Gen.Reference19Ideal.Run
public import proofs.«01_k».proof.Proof.Gen.Reference19Ideal.Read
public import proofs.«01_k».proof.Proof.Gen.Pre_finite19
public import proofs.«01_k».proof.Defs
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import proofs.«01_k».proof.Proof.Gen.Kernel22
public import proofs.«01_k».proof.Proof.Gen.Kernel22.Frame
public import proofs.«01_k».proof.Proof.Gen.Kernel22Ideal
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Reference22Ideal.Read
public import proofs.«01_k».proof.Proof.Gen.Kernel23
public import proofs.«01_k».proof.Proof.Gen.Kernel23.Frame
public import proofs.«01_k».proof.Proof.Gen.Kernel23Ideal
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Reference23Ideal.Read
public import proofs.«01_k».proof.Proof.Gen.Kernel24
public import proofs.«01_k».proof.Proof.Gen.Kernel24.Frame
public import proofs.«01_k».proof.Proof.Gen.Kernel24Ideal
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Run
public import proofs.«01_k».proof.Proof.Gen.Reference24Ideal.Read
public import proofs.«01_k».proof.Proof.Gen.Kernel25
public import proofs.«01_k».proof.Proof.Gen.Kernel25.Frame
public import proofs.«01_k».proof.Proof.Gen.Kernel25Ideal
public import proofs.«01_k».proof.Proof.Gen.Kernel25Ideal.Frame
public import proofs.«01_k».proof.Proof.Gen.Kernel25Ideal.Value
public import proofs.«01_k».proof.Proof.Gen.Reference25Ideal
public import proofs.«01_k».proof.Proof.Gen.Reference25Ideal.Run
public import proofs.«01_k».proof.Proof.Gen.Reference25Ideal.Read
public import proofs.«01_k».proof.Proof.Gen.Kernel26
public import proofs.«01_k».proof.Proof.Gen.Kernel26.Frame
public import proofs.«01_k».proof.Proof.Gen.Kernel26Ideal
public import proofs.«01_k».proof.Proof.Gen.Kernel26Ideal.Frame
public import proofs.«01_k».proof.Proof.Gen.Kernel26Ideal.Value
public import proofs.«01_k».proof.Proof.Gen.Reference26Ideal
public import proofs.«01_k».proof.Proof.Gen.Reference26Ideal.Run
public import proofs.«01_k».proof.Proof.Gen.Reference26Ideal.Read
public import proofs.«01_k».proof.Proof.Gen.Kernel27
public import proofs.«01_k».proof.Proof.Gen.Kernel27.Frame
public import proofs.«01_k».proof.Proof.Gen.Kernel27Ideal
public import proofs.«01_k».proof.Proof.Gen.Kernel27Ideal.Frame
public import proofs.«01_k».proof.Proof.Gen.Kernel27Ideal.Value
public import proofs.«01_k».proof.Proof.Gen.Reference27Ideal
public import proofs.«01_k».proof.Proof.Gen.Reference27Ideal.Run
public import proofs.«01_k».proof.Proof.Gen.Reference27Ideal.Read
public import proofs.«01_k».proof.Proof.Gen.Kernel28
public import proofs.«01_k».proof.Proof.Gen.Kernel28.Frame
public import proofs.«01_k».proof.Proof.Gen.Kernel28Ideal
public import proofs.«01_k».proof.Proof.Gen.Kernel28Ideal.Frame
public import proofs.«01_k».proof.Proof.Gen.Kernel28Ideal.Value
public import proofs.«01_k».proof.Proof.Gen.Reference28Ideal
public import proofs.«01_k».proof.Proof.Gen.Reference28Ideal.Run
public import proofs.«01_k».proof.Proof.Gen.Reference28Ideal.Read
public import proofs.«01_k».proof.Proof.Gen.Kernel29
public import proofs.«01_k».proof.Proof.Gen.Kernel29.Frame
public import proofs.«01_k».proof.Proof.Gen.Kernel29Ideal
public import proofs.«01_k».proof.Proof.Gen.Kernel29Ideal.Frame
public import proofs.«01_k».proof.Proof.Gen.Kernel29Ideal.Value
public import proofs.«01_k».proof.Proof.Gen.Reference29Ideal
public import proofs.«01_k».proof.Proof.Gen.Reference29Ideal.Run
public import proofs.«01_k».proof.Proof.Gen.Reference29Ideal.Read
public import proofs.«01_k».proof.Proof.Gen.Kernel30
public import proofs.«01_k».proof.Proof.Gen.Kernel30.Frame
public import proofs.«01_k».proof.Proof.Gen.Kernel30Ideal
public import proofs.«01_k».proof.Proof.Gen.Kernel30Ideal.Frame
public import proofs.«01_k».proof.Proof.Gen.Kernel30Ideal.Value
public import proofs.«01_k».proof.Proof.Gen.Reference30Ideal
public import proofs.«01_k».proof.Proof.Gen.Reference30Ideal.Run
public import proofs.«01_k».proof.Proof.Gen.Reference30Ideal.Read
public import proofs.«01_k».proof.Proof.Gen.Kernel31
public import proofs.«01_k».proof.Proof.Gen.Kernel31.Frame
public import proofs.«01_k».proof.Proof.Gen.Kernel31Ideal
public import proofs.«01_k».proof.Proof.Gen.Kernel31Ideal.Frame
public import proofs.«01_k».proof.Proof.Gen.Kernel31Ideal.Value
public import proofs.«01_k».proof.Proof.Gen.Reference31Ideal
public import proofs.«01_k».proof.Proof.Gen.Reference31Ideal.Run
public import proofs.«01_k».proof.Proof.Gen.Reference31Ideal.Read
public import proofs.«01_k».proof.Proof.Gen.Kernel32
public import proofs.«01_k».proof.Proof.Gen.Kernel32.Frame
public import proofs.«01_k».proof.Proof.Gen.Kernel32Ideal
public import proofs.«01_k».proof.Proof.Gen.Kernel32Ideal.Frame
public import proofs.«01_k».proof.Proof.Gen.Kernel32Ideal.Value
public import proofs.«01_k».proof.Proof.Gen.Reference32Ideal
public import proofs.«01_k».proof.Proof.Gen.Reference32Ideal.Run
public import proofs.«01_k».proof.Proof.Gen.Reference32Ideal.Read
public import proofs.«01_k».proof.Proof.Gen.Kernel33
public import proofs.«01_k».proof.Proof.Gen.Kernel33.Frame
public import proofs.«01_k».proof.Proof.Gen.Kernel33Ideal
public import proofs.«01_k».proof.Proof.Gen.Kernel33Ideal.Frame
public import proofs.«01_k».proof.Proof.Gen.Kernel33Ideal.Value
public import proofs.«01_k».proof.Proof.Gen.Reference33Ideal
public import proofs.«01_k».proof.Proof.Gen.Reference33Ideal.Run
public import proofs.«01_k».proof.Proof.Gen.Reference33Ideal.Read
public import proofs.«01_k».proof.Proof.Gen.Kernel34
public import proofs.«01_k».proof.Proof.Gen.Kernel34.Frame
public import proofs.«01_k».proof.Proof.Gen.Kernel34Ideal
public import proofs.«01_k».proof.Proof.Gen.Kernel34Ideal.Frame
public import proofs.«01_k».proof.Proof.Gen.Kernel34Ideal.Value
public import proofs.«01_k».proof.Proof.Gen.Reference34Ideal
public import proofs.«01_k».proof.Proof.Gen.Reference34Ideal.Run
public import proofs.«01_k».proof.Proof.Gen.Reference34Ideal.Read
public import proofs.«01_k».proof.Proof.Gen.Kernel35
public import proofs.«01_k».proof.Proof.Gen.Kernel35.Frame
public import proofs.«01_k».proof.Proof.Gen.Kernel35Ideal
public import proofs.«01_k».proof.Proof.Gen.Kernel35Ideal.Frame
public import proofs.«01_k».proof.Proof.Gen.Kernel35Ideal.Value
public import proofs.«01_k».proof.Proof.Gen.Reference35Ideal
public import proofs.«01_k».proof.Proof.Gen.Reference35Ideal.Run
public import proofs.«01_k».proof.Proof.Gen.Reference35Ideal.Read
public import proofs.«01_k».proof.Proof.Gen.Kernel36
public import proofs.«01_k».proof.Proof.Gen.Kernel36.Frame
public import proofs.«01_k».proof.Proof.Gen.Kernel36Ideal
public import proofs.«01_k».proof.Proof.Gen.Kernel36Ideal.Frame
public import proofs.«01_k».proof.Proof.Gen.Kernel36Ideal.Value
public import proofs.«01_k».proof.Proof.Gen.Reference36Ideal
public import proofs.«01_k».proof.Proof.Gen.Reference36Ideal.Run
public import proofs.«01_k».proof.Proof.Gen.Reference36Ideal.Read
public import proofs.«01_k».proof.Proof.Gen.Kernel37
public import proofs.«01_k».proof.Proof.Gen.Kernel37.Frame
public import proofs.«01_k».proof.Proof.Gen.Kernel37Ideal
public import proofs.«01_k».proof.Proof.Gen.Kernel37Ideal.Frame
public import proofs.«01_k».proof.Proof.Gen.Kernel37Ideal.Value
public import proofs.«01_k».proof.Proof.Gen.Reference37Ideal
public import proofs.«01_k».proof.Proof.Gen.Reference37Ideal.Run
public import proofs.«01_k».proof.Proof.Gen.Reference37Ideal.Read
public import proofs.«01_k».proof.Proof.Gen.Kernel38
public import proofs.«01_k».proof.Proof.Gen.Kernel38.Frame
public import proofs.«01_k».proof.Proof.Gen.Kernel38Ideal
public import proofs.«01_k».proof.Proof.Gen.Kernel38Ideal.Frame
public import proofs.«01_k».proof.Proof.Gen.Kernel38Ideal.Value
public import proofs.«01_k».proof.Proof.Gen.Reference38Ideal
public import proofs.«01_k».proof.Proof.Gen.Reference38Ideal.Run
public import proofs.«01_k».proof.Proof.Gen.Reference38Ideal.Read
public import proofs.«01_k».proof.Proof.Gen.Kernel39
public import proofs.«01_k».proof.Proof.Gen.Kernel39.Frame
public import proofs.«01_k».proof.Proof.Gen.Kernel39Ideal
public import proofs.«01_k».proof.Proof.Gen.Kernel39Ideal.Frame
public import proofs.«01_k».proof.Proof.Gen.Kernel39Ideal.Value
public import proofs.«01_k».proof.Proof.Gen.Reference39Ideal
public import proofs.«01_k».proof.Proof.Gen.Reference39Ideal.Run
public import proofs.«01_k».proof.Proof.Gen.Reference39Ideal.Read
public import proofs.«01_k».proof.Proof.Gen.Kernel40
public import proofs.«01_k».proof.Proof.Gen.Kernel40.Frame
public import proofs.«01_k».proof.Proof.Gen.Kernel40Ideal
public import proofs.«01_k».proof.Proof.Gen.Kernel40Ideal.Frame
public import proofs.«01_k».proof.Proof.Gen.Kernel40Ideal.Value
public import proofs.«01_k».proof.Proof.Gen.Reference40Ideal
public import proofs.«01_k».proof.Proof.Gen.Reference40Ideal.Run
public import proofs.«01_k».proof.Proof.Gen.Reference40Ideal.Read
public import proofs.«01_k».proof.Proof.Gen.Kernel41
public import proofs.«01_k».proof.Proof.Gen.Kernel41.Frame
public import proofs.«01_k».proof.Proof.Gen.Kernel41Ideal
public import proofs.«01_k».proof.Proof.Gen.Kernel41Ideal.Frame
public import proofs.«01_k».proof.Proof.Gen.Kernel41Ideal.Value
public import proofs.«01_k».proof.Proof.Gen.Reference41Ideal
public import proofs.«01_k».proof.Proof.Gen.Reference41Ideal.Run
public import proofs.«01_k».proof.Proof.Gen.Reference41Ideal.Read
public import proofs.«01_k».proof.Proof.Gen.Kernel42
public import proofs.«01_k».proof.Proof.Gen.Kernel42.Frame
public import proofs.«01_k».proof.Proof.Gen.Kernel42Ideal
public import proofs.«01_k».proof.Proof.Gen.Kernel42Ideal.Frame
public import proofs.«01_k».proof.Proof.Gen.Kernel42Ideal.Value
public import proofs.«01_k».proof.Proof.Gen.Reference42Ideal
public import proofs.«01_k».proof.Proof.Gen.Reference42Ideal.Run
public import proofs.«01_k».proof.Proof.Gen.Reference42Ideal.Read
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.Pre_finite
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel2Ideal.Value
public import proofs.«01_k».proof.Proof.Gen.Kernel3Ideal.Value
public import proofs.«01_k».proof.Proof.Gen.Kernel4Ideal.Value
public import proofs.«01_k».proof.Proof.Gen.Kernel5Ideal.Value
public import proofs.«01_k».proof.Proof.Gen.Kernel6Ideal.Value
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Frames
public import proofs.«01_k».proof.Proof.Equal
public import proofs.«01_k».proof.Proof.Swiglu
public import proofs.«01_k».proof.Proof.DownGrad
public import proofs.«01_k».proof.Proof.ShardGrad
public import proofs.«01_k».proof.Proof.InGrad
public import proofs.«01_k».proof.Proof.InGradAdd
public import proofs.«01_k».proof.Proof.FeedFrames
public import proofs.«01_k».proof.Proof.ProjOutGrad
public import proofs.«01_k».proof.Proof.ProjWeightGrad
public import proofs.«01_k».proof.Proof.ProjShardGrad
public import proofs.«01_k».proof.Proof.ProjInGrad
public import proofs.«01_k».proof.Proof.GateForward
public import proofs.«01_k».proof.Proof.UpForward
public import proofs.«01_k».proof.Proof.DownForward
public import proofs.«01_k».proof.Proof.ProjForward
public import proofs.«01_k».proof.Proof.ProjOutForward
public import proofs.«01_k».proof.Proof.PoolInGrad
public import proofs.«01_k».proof.Proof.PoolWeightGrad
public import proofs.«01_k».proof.Proof.PoolForward
public import proofs.«01_k».proof.Proof.MixFrames
public import proofs.«01_k».proof.Proof.ForwardFrames
public import proofs.«01_k».proof.Proof.PoolFrames
public import proofs.«01_k».proof.Proof.FwdEqual
public import proofs.«01_k».proof.Proof.ConvForward
public import proofs.«01_k».proof.Proof.ConvEqual
public import proofs.«01_k».proof.Proof.ModForward
public import proofs.«01_k».proof.Proof.ModGrad
public import proofs.«01_k».proof.Proof.NormForward
public import proofs.«01_k».proof.Proof.NormEqual
public import proofs.«01_k».proof.Proof.LayerFrames
public import proofs.«01_k».proof.Proof.AdamFrames
public import proofs.«01_k».proof.Proof.Adam26
public import proofs.«01_k».proof.Proof.Adam27
public import proofs.«01_k».proof.Proof.Adam28
public import proofs.«01_k».proof.Proof.Adam29
public import proofs.«01_k».proof.Proof.Adam30
public import proofs.«01_k».proof.Proof.Adam31
public import proofs.«01_k».proof.Proof.Adam32
public import proofs.«01_k».proof.Proof.Adam33
public import proofs.«01_k».proof.Proof.Adam34
public import proofs.«01_k».proof.Proof.Adam35
public import proofs.«01_k».proof.Proof.Adam36
public import proofs.«01_k».proof.Proof.FirstEqual
public import proofs.«01_k».proof.Proof.HeadFrames
public import proofs.«01_k».proof.Proof.LossEqual
public import proofs.«01_k».proof.Proof.SumDevices
public import proofs.«01_k».proof.Proof.SumLoss
public import proofs.«01_k».proof.Proof.SumLead
public import proofs.«01_k».proof.Proof.PoolPostEqual

@[expose] public section

noncomputable section

namespace Cert.Proof

open Idealize.ShloMosaic Idealize.SL.Sem Cert.Kernel

/-- Every claim of the certificate. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts, Cert.Kernel6.Gen.facts,
    Cert.Kernel6Ideal.Gen.facts, Cert.Reference6Ideal.Gen.facts, Cert.Kernel7.Gen.facts, Cert.Kernel7Ideal.Gen.facts,
    Cert.Reference7Ideal.Gen.facts, Cert.Kernel8.Gen.facts, Cert.Kernel8Ideal.Gen.facts, Cert.Reference8Ideal.Gen.facts,
    Cert.Kernel9.Gen.facts, Cert.Kernel9Ideal.Gen.facts, Cert.Reference9Ideal.Gen.facts, Cert.Kernel10.Gen.facts,
    Cert.Kernel10Ideal.Gen.facts, Cert.Reference10Ideal.Gen.facts, Cert.Kernel11.Gen.facts, Cert.Kernel11Ideal.Gen.facts,
    Cert.Reference11Ideal.Gen.facts, Cert.Kernel12.Gen.facts, Cert.Kernel12Ideal.Gen.facts, Cert.Reference12Ideal.Gen.facts,
    Cert.Kernel13.Gen.facts, Cert.Kernel13Ideal.Gen.facts, Cert.Reference13Ideal.Gen.facts, Cert.Kernel14.Gen.facts,
    Cert.Kernel14Ideal.Gen.facts, Cert.Reference14Ideal.Gen.facts, Cert.Kernel15.Gen.facts, Cert.Kernel15Ideal.Gen.facts,
    Cert.Reference15Ideal.Gen.facts, Cert.Kernel16.Gen.facts, Cert.Kernel16Ideal.Gen.facts, Cert.Reference16Ideal.Gen.facts,
    Cert.Kernel17.Gen.facts, Cert.Kernel17Ideal.Gen.facts, Cert.Reference17Ideal.Gen.facts, Cert.Kernel18.Gen.facts,
    Cert.Kernel18Ideal.Gen.facts, Cert.Reference18Ideal.Gen.facts, Cert.Kernel19.Gen.facts,
    Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Kernel26.Gen.facts, Cert.Kernel26Ideal.Gen.facts, Cert.Reference26Ideal.Gen.facts,
    Cert.Kernel27.Gen.facts, Cert.Kernel27Ideal.Gen.facts, Cert.Reference27Ideal.Gen.facts,
    Cert.Kernel28.Gen.facts, Cert.Kernel28Ideal.Gen.facts, Cert.Reference28Ideal.Gen.facts,
    Cert.Kernel29.Gen.facts, Cert.Kernel29Ideal.Gen.facts, Cert.Reference29Ideal.Gen.facts,
    Cert.Kernel30.Gen.facts, Cert.Kernel30Ideal.Gen.facts, Cert.Reference30Ideal.Gen.facts,
    Cert.Kernel31.Gen.facts, Cert.Kernel31Ideal.Gen.facts, Cert.Reference31Ideal.Gen.facts,
    Cert.Kernel32.Gen.facts, Cert.Kernel32Ideal.Gen.facts, Cert.Reference32Ideal.Gen.facts,
    Cert.Kernel33.Gen.facts, Cert.Kernel33Ideal.Gen.facts, Cert.Reference33Ideal.Gen.facts,
    Cert.Kernel34.Gen.facts, Cert.Kernel34Ideal.Gen.facts, Cert.Reference34Ideal.Gen.facts,
    Cert.Kernel35.Gen.facts, Cert.Kernel35Ideal.Gen.facts, Cert.Reference35Ideal.Gen.facts,
    Cert.Kernel36.Gen.facts, Cert.Kernel36Ideal.Gen.facts, Cert.Reference36Ideal.Gen.facts,
    Cert.Kernel37.Gen.facts, Cert.Kernel37Ideal.Gen.facts, Cert.Reference37Ideal.Gen.facts,
    Cert.Kernel38.Gen.facts, Cert.Kernel38Ideal.Gen.facts, Cert.Reference38Ideal.Gen.facts,
    Cert.Kernel39.Gen.facts, Cert.Kernel39Ideal.Gen.facts, Cert.Reference39Ideal.Gen.facts,
    Cert.Kernel40.Gen.facts, Cert.Kernel40Ideal.Gen.facts, Cert.Reference40Ideal.Gen.facts,
    Cert.Kernel41.Gen.facts, Cert.Kernel41Ideal.Gen.facts, Cert.Reference41Ideal.Gen.facts,
    Cert.Kernel42.Gen.facts, Cert.Kernel42Ideal.Gen.facts, Cert.Reference42Ideal.Gen.facts,
    Cert.Pre_finite.Gen.facts, Cert.Pre_finite2.Gen.facts,
    Cert.Pre_finite19.Gen.facts,
    frame_kernel, frame_ideal, fun m g _ => frame_ideal m g trivial, frame_reference, fun m g _ => frame_reference m g trivial,
    frame_kernel2, frame_ideal2, fun m g _ => frame_ideal2 m g trivial, frame_reference2,
    fun m g _ => frame_reference2 m g trivial, frame_kernel3, frame_ideal3, frame_reference3, frame_kernel4, frame_ideal4,
    frame_reference4, frame_kernel5, frame_ideal5, frame_reference5, frame_kernel6, frame_ideal6, frame_reference6,
    frame_kernel7, frame_ideal7, frame_reference7, frame_kernel8, frame_ideal8, frame_reference8, frame_kernel9, frame_ideal9,
    frame_reference9, frame_kernel10, frame_ideal10, frame_reference10, frame_kernel11, frame_ideal11, frame_reference11,
    frame_kernel12, frame_ideal12, frame_reference12, frame_kernel13, frame_ideal13, frame_reference13, frame_kernel14,
    frame_ideal14, frame_reference14, frame_kernel15, frame_ideal15, frame_reference15, frame_kernel16, frame_ideal16,
    frame_reference16, frame_kernel17, frame_ideal17, frame_reference17, frame_kernel18, frame_ideal18, frame_reference18,
    frame_kernel19, frame_ideal19, fun m g _ => frame_ideal19 m g trivial, frame_reference19,
    fun m g _ => frame_reference19 m g trivial,
    frame_kernel20, frame_ideal20, frame_reference20, frame_kernel21, frame_ideal21, frame_reference21, frame_kernel22, frame_ideal22, frame_reference22, frame_kernel23, frame_ideal23, frame_reference23, frame_kernel24, frame_ideal24, frame_reference24, frame_kernel25, frame_ideal25, frame_reference25,
    frame_kernel26, frame_ideal26, frame_reference26,
    frame_kernel27, frame_ideal27, frame_reference27,
    frame_kernel28, frame_ideal28, frame_reference28,
    frame_kernel29, frame_ideal29, frame_reference29,
    frame_kernel30, frame_ideal30, frame_reference30,
    frame_kernel31, frame_ideal31, frame_reference31,
    frame_kernel32, frame_ideal32, frame_reference32,
    frame_kernel33, frame_ideal33, frame_reference33,
    frame_kernel34, frame_ideal34, frame_reference34,
    frame_kernel35, frame_ideal35, frame_reference35,
    frame_kernel36, frame_ideal36, frame_reference36,
    frame_kernel37, frame_ideal37, frame_reference37,
    frame_kernel38, frame_ideal38, frame_reference38,
    frame_kernel39, frame_ideal39, frame_reference39,
    frame_kernel40, frame_ideal40, frame_reference40,
    frame_kernel41, frame_ideal41, frame_reference41,
    frame_kernel42, frame_ideal42, frame_reference42,
    trivial, algebraic, trivial, algebraic2, trivial, algebraic3, trivial, algebraic4, trivial, algebraic5, trivial,
    algebraic6, trivial, algebraic7, trivial, algebraic8, trivial, algebraic9, trivial, algebraic10, trivial, algebraic11,
    trivial, algebraic12, trivial, algebraic13, trivial, algebraic14, trivial, algebraic15, trivial, algebraic16, trivial,
    algebraic17, trivial, algebraic18, trivial, algebraic19,
    trivial, algebraic20, trivial, algebraic21, trivial, algebraic22, trivial, algebraic23, trivial, algebraic24, trivial, algebraic25,
    trivial, algebraic26, trivial, algebraic27, trivial, algebraic28, trivial, algebraic29, trivial, algebraic30, trivial, algebraic31, trivial, algebraic32, trivial, algebraic33, trivial, algebraic34, trivial, algebraic35, trivial, algebraic36, trivial, algebraic37, trivial, algebraic38, trivial, algebraic39, trivial, algebraic40, trivial, algebraic41, trivial, algebraic42⟩

end Cert.Proof

end
